-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1280x16384 : Shape := ⟨3, ![6, 1280, 16384]⟩
abbrev S16384x1024 : Shape := ⟨2, ![16384, 1024]⟩
abbrev S16384x64 : Shape := ⟨2, ![16384, 64]⟩
abbrev S7680x16384 : Shape := ⟨2, ![7680, 16384]⟩
abbrev S7680x2048 : Shape := ⟨2, ![7680, 2048]⟩
abbrev S3x960x2048 : Shape := ⟨3, ![3, 960, 2048]⟩
abbrev S2x2048x256 : Shape := ⟨3, ![2, 2048, 256]⟩
abbrev S2x2048x64 : Shape := ⟨3, ![2, 2048, 64]⟩
abbrev S64x256x512 : Shape := ⟨3, ![64, 256, 512]⟩
abbrev S960x512 : Shape := ⟨2, ![960, 512]⟩
abbrev S3 : Shape := ⟨1, ![3]⟩
abbrev S2 : Shape := ⟨1, ![2]⟩
abbrev S_ : Shape := ⟨0, ![]⟩
abbrev S1 : Shape := ⟨1, ![1]⟩
abbrev S1x2048x256 : Shape := ⟨3, ![1, 2048, 256]⟩
abbrev S2048x256 : Shape := ⟨2, ![2048, 256]⟩
abbrev S1x2048x64 : Shape := ⟨3, ![1, 2048, 64]⟩
abbrev S2048x64 : Shape := ⟨2, ![2048, 64]⟩
abbrev S1x960x2048 : Shape := ⟨3, ![1, 960, 2048]⟩
abbrev S960x2048 : Shape := ⟨2, ![960, 2048]⟩
abbrev S1x256x256 : Shape := ⟨3, ![1, 256, 256]⟩
abbrev S256x256 : Shape := ⟨2, ![256, 256]⟩
abbrev S1x256x64 : Shape := ⟨3, ![1, 256, 64]⟩
abbrev S256x64 : Shape := ⟨2, ![256, 64]⟩
abbrev S64x128 : Shape := ⟨2, ![64, 128]⟩
abbrev S128x128 : Shape := ⟨2, ![128, 128]⟩
abbrev S64x256 : Shape := ⟨2, ![64, 256]⟩
abbrev S128x64 : Shape := ⟨2, ![128, 64]⟩
abbrev S64x128x1 : Shape := ⟨3, ![64, 128, 1]⟩
abbrev S256x128 : Shape := ⟨2, ![256, 128]⟩
abbrev S128x128x1 : Shape := ⟨3, ![128, 128, 1]⟩
abbrev S256x512 : Shape := ⟨2, ![256, 512]⟩
abbrev S1x256x512 : Shape := ⟨3, ![1, 256, 512]⟩
abbrev S1x240x256 : Shape := ⟨3, ![1, 240, 256]⟩
abbrev S240x256 : Shape := ⟨2, ![240, 256]⟩

abbrev nBuf : Space → Nat
  | .hbm => 5
  | .vmem => 5
  | .smem => 0
  | _ => 0

abbrev bufTy : (tb : Table) → Fin (tcTables nBuf tb) → BufTy
  | .hbm, ⟨0, _⟩ => ⟨S6x1280x16384, .bf16⟩
  | .hbm, ⟨1, _⟩ => ⟨S16384x1024, .i8⟩
  | .hbm, ⟨2, _⟩ => ⟨S16384x64, .i8⟩
  | .hbm, ⟨3, _⟩ => ⟨S7680x16384, .bf16⟩
  | .hbm, ⟨4, _⟩ => ⟨S7680x2048, .bf16⟩
  | .local _ .vmem, ⟨0, _⟩ => ⟨S3x960x2048, .bf16⟩
  | .local _ .vmem, ⟨1, _⟩ => ⟨S2x2048x256, .i8⟩
  | .local _ .vmem, ⟨2, _⟩ => ⟨S2x2048x64, .i8⟩
  | .local _ .vmem, ⟨3, _⟩ => ⟨S64x256x512, .bf16⟩
  | .local _ .vmem, ⟨4, _⟩ => ⟨S960x512, .bf16⟩
  | _, _ => ⟨S6x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := .none

def k0_off1 (c0_i32_2_r0 : BitVec 32) : Fin 1 → Nat :=
  let c2_i32_r0 : BitVec 32 := 2#32
  let v2_r0 : BitVec 32 := Scalar.remsi c0_i32_2_r0 c2_i32_r0
  ![v2_r0.toNat]
def k0_off2 (c0_i32_2_r0 : BitVec 32) : Fin 3 → Nat :=
  let c2_i32_r0 : BitVec 32 := 2#32
  let v2_r0 : BitVec 32 := Scalar.remsi c0_i32_2_r0 c2_i32_r0
  let c0_i32_3_r0 : BitVec 32 := 0#32
  let c0_i32_4_r0 : BitVec 32 := 0#32
  ![v2_r0.toNat, 0, 0]
def k0_off3 (c0_i32_0_r0 : BitVec 32) (c0_i32_r0 : BitVec 32) : Fin 2 → Nat :=
  let c8_i32_1_r0 : BitVec 32 := 8#32
  let v1_r0 : BitVec 32 := Scalar.remsi c0_i32_0_r0 c8_i32_1_r0
  let c2048_i32_r0 : BitVec 32 := 2048#32
  let v3_r0 : BitVec 32 := Scalar.muli v1_r0 c2048_i32_r0
  let c8_i32_r0 : BitVec 32 := 8#32
  let v0_r0 : BitVec 32 := Scalar.divsi c0_i32_r0 c8_i32_r0
  let c256_i32_r0 : BitVec 32 := 256#32
  let v4_r0 : BitVec 32 := Scalar.muli v0_r0 c256_i32_r0
  ![v3_r0.toNat, v4_r0.toNat]
def k0_off3_at (r : Fin 2) : BitVec 32 × BitVec 32 :=
  if r.val < 1 then
    (0#32, 0#32)
  else
    (1#32, 1#32)
def k0_off4 (c0_i32_2_r0 : BitVec 32) : Fin 3 → Nat :=
  let c2_i32_r0 : BitVec 32 := 2#32
  let v2_r0 : BitVec 32 := Scalar.remsi c0_i32_2_r0 c2_i32_r0
  let c0_i32_5_r0 : BitVec 32 := 0#32
  let c0_i32_6_r0 : BitVec 32 := 0#32
  ![v2_r0.toNat, 0, 0]
def k0_off5 (c0_i32_0_r0 : BitVec 32) : Fin 2 → Nat :=
  let c8_i32_1_r0 : BitVec 32 := 8#32
  let v1_r0 : BitVec 32 := Scalar.remsi c0_i32_0_r0 c8_i32_1_r0
  let c2048_i32_r0 : BitVec 32 := 2048#32
  let v3_r0 : BitVec 32 := Scalar.muli v1_r0 c2048_i32_r0
  let c0_i32_7_r0 : BitVec 32 := 0#32
  ![v3_r0.toNat, 0]
def k0_off6 (c0_i32_13_r0 : BitVec 32) : Fin 1 → Nat :=
  let c3_i32_r0 : BitVec 32 := 3#32
  let v18_r0 : BitVec 32 := Scalar.remsi c0_i32_13_r0 c3_i32_r0
  ![v18_r0.toNat]
def k0_off7 (c0_i32_13_r0 : BitVec 32) : Fin 3 → Nat :=
  let c3_i32_r0 : BitVec 32 := 3#32
  let v18_r0 : BitVec 32 := Scalar.remsi c0_i32_13_r0 c3_i32_r0
  let c0_i32_15_r0 : BitVec 32 := 0#32
  let c0_i32_16_r0 : BitVec 32 := 0#32
  ![v18_r0.toNat, 0, 0]
def k0_off8 (c0_i32_8_r0 : BitVec 32) (c0_i32_11_r0 : BitVec 32) : Fin 2 → Nat :=
  let c8_i32_9_r0 : BitVec 32 := 8#32
  let v15_r0 : BitVec 32 := Scalar.divsi c0_i32_8_r0 c8_i32_9_r0
  let c8_i32_10_r0 : BitVec 32 := 8#32
  let v16_r0 : BitVec 32 := Scalar.remsi v15_r0 c8_i32_10_r0
  let c960_i32_r0 : BitVec 32 := 960#32
  let v19_r0 : BitVec 32 := Scalar.muli v16_r0 c960_i32_r0
  let c8_i32_12_r0 : BitVec 32 := 8#32
  let v17_r0 : BitVec 32 := Scalar.remsi c0_i32_11_r0 c8_i32_12_r0
  let c2048_i32_14_r0 : BitVec 32 := 2048#32
  let v20_r0 : BitVec 32 := Scalar.muli v17_r0 c2048_i32_14_r0
  ![v19_r0.toNat, v20_r0.toNat]
def k0_off8_at (r : Fin 2) : BitVec 32 × BitVec 32 :=
  if r.val < 1 then
    (0#32, 0#32)
  else
    (1#32, 1#32)
def k0_off9 : Fin 3 → Nat :=
  let c0_i32_53_r0 : BitVec 32 := 0#32
  let c2_i32_54_r0 : BitVec 32 := 2#32
  let v67_r0 : BitVec 32 := Scalar.remsi c0_i32_53_r0 c2_i32_54_r0
  let v71_r0 : Index := Scalar.indexCast v67_r0
  let c0_r0 : Index := 0#32
  let c0_59_r0 : Index := 0#32
  ![v71_r0.toNat, 0, 0]
def k0_off10 : Fin 3 → Nat :=
  let c0_i32_53_r0 : BitVec 32 := 0#32
  let c2_i32_54_r0 : BitVec 32 := 2#32
  let v67_r0 : BitVec 32 := Scalar.remsi c0_i32_53_r0 c2_i32_54_r0
  let v74_r0 : Index := Scalar.indexCast v67_r0
  let c0_60_r0 : Index := 0#32
  let c0_61_r0 : Index := 0#32
  ![v74_r0.toNat, 0, 0]
def k0_off11 (c0_i32_173_r0 : BitVec 32) : Fin 3 → Nat :=
  let c0_i32_55_r0 : BitVec 32 := 0#32
  let c8_i32_56_r0 : BitVec 32 := 8#32
  let v68_r0 : BitVec 32 := Scalar.remsi c0_i32_55_r0 c8_i32_56_r0
  let c8_i32_172_r0 : BitVec 32 := 8#32
  let v502_r0 : BitVec 32 := Scalar.muli v68_r0 c8_i32_172_r0
  let v503_r0 : BitVec 32 := Scalar.addi v502_r0 c0_i32_173_r0
  let v504_r0 : Index := Scalar.indexCast v503_r0
  let c0_174_r0 : Index := 0#32
  let c0_175_r0 : Index := 0#32
  ![v504_r0.toNat, 0, 0]
def k0_off12 : Fin 3 → Nat :=
  let c0_i32_176_r0 : BitVec 32 := 0#32
  let c2_i32_177_r0 : BitVec 32 := 2#32
  let v508_r0 : BitVec 32 := Scalar.remsi c0_i32_176_r0 c2_i32_177_r0
  let v512_r0 : Index := Scalar.indexCast v508_r0
  let c256_r0 : Index := 256#32
  let c0_183_r0 : Index := 0#32
  ![v512_r0.toNat, 256, 0]
def k0_off13 : Fin 3 → Nat :=
  let c0_i32_176_r0 : BitVec 32 := 0#32
  let c2_i32_177_r0 : BitVec 32 := 2#32
  let v508_r0 : BitVec 32 := Scalar.remsi c0_i32_176_r0 c2_i32_177_r0
  let v515_r0 : Index := Scalar.indexCast v508_r0
  let c256_184_r0 : Index := 256#32
  let c0_185_r0 : Index := 0#32
  ![v515_r0.toNat, 256, 0]
def k0_off14 : Fin 3 → Nat :=
  let c0_i32_317_r0 : BitVec 32 := 0#32
  let c2_i32_318_r0 : BitVec 32 := 2#32
  let v949_r0 : BitVec 32 := Scalar.remsi c0_i32_317_r0 c2_i32_318_r0
  let v953_r0 : Index := Scalar.indexCast v949_r0
  let c512_r0 : Index := 512#32
  let c0_324_r0 : Index := 0#32
  ![v953_r0.toNat, 512, 0]
def k0_off15 : Fin 3 → Nat :=
  let c0_i32_317_r0 : BitVec 32 := 0#32
  let c2_i32_318_r0 : BitVec 32 := 2#32
  let v949_r0 : BitVec 32 := Scalar.remsi c0_i32_317_r0 c2_i32_318_r0
  let v956_r0 : Index := Scalar.indexCast v949_r0
  let c512_325_r0 : Index := 512#32
  let c0_326_r0 : Index := 0#32
  ![v956_r0.toNat, 512, 0]
def k0_off16 : Fin 3 → Nat :=
  let c0_i32_458_r0 : BitVec 32 := 0#32
  let c2_i32_459_r0 : BitVec 32 := 2#32
  let v1390_r0 : BitVec 32 := Scalar.remsi c0_i32_458_r0 c2_i32_459_r0
  let v1394_r0 : Index := Scalar.indexCast v1390_r0
  let c768_r0 : Index := 768#32
  let c0_465_r0 : Index := 0#32
  ![v1394_r0.toNat, 768, 0]
def k0_off17 : Fin 3 → Nat :=
  let c0_i32_458_r0 : BitVec 32 := 0#32
  let c2_i32_459_r0 : BitVec 32 := 2#32
  let v1390_r0 : BitVec 32 := Scalar.remsi c0_i32_458_r0 c2_i32_459_r0
  let v1397_r0 : Index := Scalar.indexCast v1390_r0
  let c768_466_r0 : Index := 768#32
  let c0_467_r0 : Index := 0#32
  ![v1397_r0.toNat, 768, 0]
def k0_off18 : Fin 3 → Nat :=
  let c0_i32_599_r0 : BitVec 32 := 0#32
  let c2_i32_600_r0 : BitVec 32 := 2#32
  let v1831_r0 : BitVec 32 := Scalar.remsi c0_i32_599_r0 c2_i32_600_r0
  let v1835_r0 : Index := Scalar.indexCast v1831_r0
  let c1024_r0 : Index := 1024#32
  let c0_606_r0 : Index := 0#32
  ![v1835_r0.toNat, 1024, 0]
def k0_off19 : Fin 3 → Nat :=
  let c0_i32_599_r0 : BitVec 32 := 0#32
  let c2_i32_600_r0 : BitVec 32 := 2#32
  let v1831_r0 : BitVec 32 := Scalar.remsi c0_i32_599_r0 c2_i32_600_r0
  let v1838_r0 : Index := Scalar.indexCast v1831_r0
  let c1024_607_r0 : Index := 1024#32
  let c0_608_r0 : Index := 0#32
  ![v1838_r0.toNat, 1024, 0]
def k0_off20 : Fin 3 → Nat :=
  let c0_i32_740_r0 : BitVec 32 := 0#32
  let c2_i32_741_r0 : BitVec 32 := 2#32
  let v2272_r0 : BitVec 32 := Scalar.remsi c0_i32_740_r0 c2_i32_741_r0
  let v2276_r0 : Index := Scalar.indexCast v2272_r0
  let c1280_r0 : Index := 1280#32
  let c0_747_r0 : Index := 0#32
  ![v2276_r0.toNat, 1280, 0]
def k0_off21 : Fin 3 → Nat :=
  let c0_i32_740_r0 : BitVec 32 := 0#32
  let c2_i32_741_r0 : BitVec 32 := 2#32
  let v2272_r0 : BitVec 32 := Scalar.remsi c0_i32_740_r0 c2_i32_741_r0
  let v2279_r0 : Index := Scalar.indexCast v2272_r0
  let c1280_748_r0 : Index := 1280#32
  let c0_749_r0 : Index := 0#32
  ![v2279_r0.toNat, 1280, 0]
def k0_off22 : Fin 3 → Nat :=
  let c0_i32_881_r0 : BitVec 32 := 0#32
  let c2_i32_882_r0 : BitVec 32 := 2#32
  let v2713_r0 : BitVec 32 := Scalar.remsi c0_i32_881_r0 c2_i32_882_r0
  let v2717_r0 : Index := Scalar.indexCast v2713_r0
  let c1536_r0 : Index := 1536#32
  let c0_888_r0 : Index := 0#32
  ![v2717_r0.toNat, 1536, 0]
def k0_off23 : Fin 3 → Nat :=
  let c0_i32_881_r0 : BitVec 32 := 0#32
  let c2_i32_882_r0 : BitVec 32 := 2#32
  let v2713_r0 : BitVec 32 := Scalar.remsi c0_i32_881_r0 c2_i32_882_r0
  let v2720_r0 : Index := Scalar.indexCast v2713_r0
  let c1536_889_r0 : Index := 1536#32
  let c0_890_r0 : Index := 0#32
  ![v2720_r0.toNat, 1536, 0]
def k0_off24 : Fin 3 → Nat :=
  let c0_i32_1021_r0 : BitVec 32 := 0#32
  let c2_i32_1022_r0 : BitVec 32 := 2#32
  let v3154_r0 : BitVec 32 := Scalar.remsi c0_i32_1021_r0 c2_i32_1022_r0
  let v3158_r0 : Index := Scalar.indexCast v3154_r0
  let c1792_r0 : Index := 1792#32
  let c0_1028_r0 : Index := 0#32
  ![v3158_r0.toNat, 1792, 0]
def k0_off25 : Fin 3 → Nat :=
  let c0_i32_1021_r0 : BitVec 32 := 0#32
  let c2_i32_1022_r0 : BitVec 32 := 2#32
  let v3154_r0 : BitVec 32 := Scalar.remsi c0_i32_1021_r0 c2_i32_1022_r0
  let v3161_r0 : Index := Scalar.indexCast v3154_r0
  let c1792_1029_r0 : Index := 1792#32
  let c0_1030_r0 : Index := 0#32
  ![v3161_r0.toNat, 1792, 0]
@[reducible] def k0_t1_loop : Scf.Loop 32 :=
  let c0_i32_1169_r0 : BitVec 32 := 0#32
  let c256_i32_1170_r0 : BitVec 32 := 256#32
  let v3599_r0 : BitVec 32 := Scalar.addi c0_i32_1169_r0 c256_i32_1170_r0
  let c1_i32_1171_r0 : BitVec 32 := 1#32
  ⟨c0_i32_1169_r0, v3599_r0, c1_i32_1171_r0⟩
def k0_cond1 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c8_i32_1203_r0 : BitVec 32 := 8#32
  let v3659_r0 : BitVec 32 := Scalar.remsi arg13_r0 c8_i32_1203_r0
  let c0_i32_1210_r0 : BitVec 32 := 0#32
  let v3667_r0 : BitVec 1 := Scalar.cmpi .eq v3659_r0 c0_i32_1210_r0
  let c8_i32_1204_r0 : BitVec 32 := 8#32
  let v3660_r0 : BitVec 32 := Scalar.divsi arg13_r0 c8_i32_1204_r0
  let c2_i32_1216_r0 : BitVec 32 := 2#32
  let v3674_r0 : BitVec 1 := Scalar.cmpi .sge v3660_r0 c2_i32_1216_r0
  let v3675_r0 : BitVec 1 := Scalar.andi v3667_r0 v3674_r0
  let v3676_r0 : BitVec 32 := Scalar.extui v3675_r0
  let c0_i32_1217_r0 : BitVec 32 := 0#32
  let v3677_r0 : BitVec 1 := Scalar.cmpi .ne v3676_r0 c0_i32_1217_r0
  v3677_r0

def k0_off26 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1204_r0 : BitVec 32 := 8#32
  let v3660_r0 : BitVec 32 := Scalar.divsi arg13_r0 c8_i32_1204_r0
  let c2_i32_1255_r0 : BitVec 32 := 2#32
  let v3734_r0 : BitVec 32 := Scalar.subi v3660_r0 c2_i32_1255_r0
  let c8_i32_1257_r0 : BitVec 32 := 8#32
  let v3736_r0 : BitVec 32 := Scalar.remsi v3734_r0 c8_i32_1257_r0
  let c960_i32_1258_r0 : BitVec 32 := 960#32
  let v3737_r0 : BitVec 32 := Scalar.muli v3736_r0 c960_i32_1258_r0
  let c8_i32_1256_r0 : BitVec 32 := 8#32
  let v3735_r0 : BitVec 32 := Scalar.divsi v3734_r0 c8_i32_1256_r0
  let c512_i32_1259_r0 : BitVec 32 := 512#32
  let v3738_r0 : BitVec 32 := Scalar.muli v3735_r0 c512_i32_1259_r0
  ![v3737_r0.toNat, v3738_r0.toNat]
def k0_cond2 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c8_i32_1203_r0 : BitVec 32 := 8#32
  let v3659_r0 : BitVec 32 := Scalar.remsi arg13_r0 c8_i32_1203_r0
  let c1_i32_1218_r0 : BitVec 32 := 1#32
  let v3678_r0 : BitVec 1 := Scalar.cmpi .eq v3659_r0 c1_i32_1218_r0
  let c8_i32_1204_r0 : BitVec 32 := 8#32
  let v3660_r0 : BitVec 32 := Scalar.divsi arg13_r0 c8_i32_1204_r0
  let c1_i32_1219_r0 : BitVec 32 := 1#32
  let v3679_r0 : BitVec 1 := Scalar.cmpi .sge v3660_r0 c1_i32_1219_r0
  let v3680_r0 : BitVec 1 := Scalar.andi v3678_r0 v3679_r0
  let v3681_r0 : BitVec 32 := Scalar.extui v3680_r0
  let c0_i32_1220_r0 : BitVec 32 := 0#32
  let v3682_r0 : BitVec 1 := Scalar.cmpi .ne v3681_r0 c0_i32_1220_r0
  v3682_r0

def k0_off27 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1204_r0 : BitVec 32 := 8#32
  let v3660_r0 : BitVec 32 := Scalar.divsi arg13_r0 c8_i32_1204_r0
  let c1_i32_1255_r0 : BitVec 32 := 1#32
  let v3734_r0 : BitVec 32 := Scalar.subi v3660_r0 c1_i32_1255_r0
  let c8_i32_1257_r0 : BitVec 32 := 8#32
  let v3736_r0 : BitVec 32 := Scalar.remsi v3734_r0 c8_i32_1257_r0
  let c960_i32_1258_r0 : BitVec 32 := 960#32
  let v3737_r0 : BitVec 32 := Scalar.muli v3736_r0 c960_i32_1258_r0
  let c8_i32_1256_r0 : BitVec 32 := 8#32
  let v3735_r0 : BitVec 32 := Scalar.divsi v3734_r0 c8_i32_1256_r0
  let c512_i32_1259_r0 : BitVec 32 := 512#32
  let v3738_r0 : BitVec 32 := Scalar.muli v3735_r0 c512_i32_1259_r0
  ![v3737_r0.toNat, v3738_r0.toNat]
def k0_cond3 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c1_i32_1205_r0 : BitVec 32 := 1#32
  let v3661_r0 : BitVec 32 := Scalar.addi arg13_r0 c1_i32_1205_r0
  let c64_i32_1206_r0 : BitVec 32 := 64#32
  let v3662_r0 : BitVec 32 := Scalar.remsi v3661_r0 c64_i32_1206_r0
  let c8_i32_1207_r0 : BitVec 32 := 8#32
  let v3663_r0 : BitVec 1 := Scalar.cmpi .slt v3662_r0 c8_i32_1207_r0
  let c1_i32_1208_r0 : BitVec 32 := 1#32
  let v3664_r0 : BitVec 32 := Scalar.addi arg13_r0 c1_i32_1208_r0
  let c256_i32_1209_r0 : BitVec 32 := 256#32
  let v3665_r0 : BitVec 1 := Scalar.cmpi .slt v3664_r0 c256_i32_1209_r0
  let v3666_r0 : BitVec 1 := Scalar.andi v3663_r0 v3665_r0
  let v3683_r0 : BitVec 32 := Scalar.extui v3666_r0
  let c0_i32_1221_r0 : BitVec 32 := 0#32
  let v3684_r0 : BitVec 1 := Scalar.cmpi .ne v3683_r0 c0_i32_1221_r0
  v3684_r0

def k0_off28 (k0_t1 : Fin k0_t1_loop.trips) : Fin 1 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c2_i32_1257_r0 : BitVec 32 := 2#32
  let v3736_r0 : BitVec 32 := Scalar.remsi v3673_r0 c2_i32_1257_r0
  ![v3736_r0.toNat]
def k0_off29 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c2_i32_1257_r0 : BitVec 32 := 2#32
  let v3736_r0 : BitVec 32 := Scalar.remsi v3673_r0 c2_i32_1257_r0
  let c0_i32_1260_r0 : BitVec 32 := 0#32
  let c0_i32_1261_r0 : BitVec 32 := 0#32
  ![v3736_r0.toNat, 0, 0]
def k0_off30 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c8_i32_1256_r0 : BitVec 32 := 8#32
  let v3735_r0 : BitVec 32 := Scalar.remsi v3673_r0 c8_i32_1256_r0
  let c2048_i32_1258_r0 : BitVec 32 := 2048#32
  let v3737_r0 : BitVec 32 := Scalar.muli v3735_r0 c2048_i32_1258_r0
  let c8_i32_1255_r0 : BitVec 32 := 8#32
  let v3734_r0 : BitVec 32 := Scalar.divsi v3673_r0 c8_i32_1255_r0
  let c256_i32_1259_r0 : BitVec 32 := 256#32
  let v3738_r0 : BitVec 32 := Scalar.muli v3734_r0 c256_i32_1259_r0
  ![v3737_r0.toNat, v3738_r0.toNat]
def k0_off31 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c2_i32_1257_r0 : BitVec 32 := 2#32
  let v3736_r0 : BitVec 32 := Scalar.remsi v3673_r0 c2_i32_1257_r0
  let c0_i32_1262_r0 : BitVec 32 := 0#32
  let c0_i32_1263_r0 : BitVec 32 := 0#32
  ![v3736_r0.toNat, 0, 0]
def k0_off32 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c8_i32_1256_r0 : BitVec 32 := 8#32
  let v3735_r0 : BitVec 32 := Scalar.remsi v3673_r0 c8_i32_1256_r0
  let c2048_i32_1258_r0 : BitVec 32 := 2048#32
  let v3737_r0 : BitVec 32 := Scalar.muli v3735_r0 c2048_i32_1258_r0
  let c0_i32_1264_r0 : BitVec 32 := 0#32
  ![v3737_r0.toNat, 0]
def k0_cond4 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c1_i32_1205_r0 : BitVec 32 := 1#32
  let v3661_r0 : BitVec 32 := Scalar.addi arg13_r0 c1_i32_1205_r0
  let c64_i32_1206_r0 : BitVec 32 := 64#32
  let v3662_r0 : BitVec 32 := Scalar.remsi v3661_r0 c64_i32_1206_r0
  let c8_i32_1207_r0 : BitVec 32 := 8#32
  let v3663_r0 : BitVec 1 := Scalar.cmpi .slt v3662_r0 c8_i32_1207_r0
  let c1_i32_1208_r0 : BitVec 32 := 1#32
  let v3664_r0 : BitVec 32 := Scalar.addi arg13_r0 c1_i32_1208_r0
  let c256_i32_1209_r0 : BitVec 32 := 256#32
  let v3665_r0 : BitVec 1 := Scalar.cmpi .slt v3664_r0 c256_i32_1209_r0
  let v3666_r0 : BitVec 1 := Scalar.andi v3663_r0 v3665_r0
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c1_i32_1222_r0 : BitVec 32 := 1#32
  let v3685_r0 : BitVec 32 := Scalar.addi v3673_r0 c1_i32_1222_r0
  let c32_i32_1223_r0 : BitVec 32 := 32#32
  let v3686_r0 : BitVec 1 := Scalar.cmpi .slt v3685_r0 c32_i32_1223_r0
  let v3687_r0 : BitVec 1 := Scalar.andi v3666_r0 v3686_r0
  let v3688_r0 : BitVec 32 := Scalar.extui v3687_r0
  let c0_i32_1224_r0 : BitVec 32 := 0#32
  let v3689_r0 : BitVec 1 := Scalar.cmpi .ne v3688_r0 c0_i32_1224_r0
  v3689_r0

def k0_off33 (k0_t1 : Fin k0_t1_loop.trips) : Fin 1 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c1_i32_1255_r0 : BitVec 32 := 1#32
  let v3734_r0 : BitVec 32 := Scalar.addi v3673_r0 c1_i32_1255_r0
  let c2_i32_1258_r0 : BitVec 32 := 2#32
  let v3737_r0 : BitVec 32 := Scalar.remsi v3734_r0 c2_i32_1258_r0
  ![v3737_r0.toNat]
def k0_off34 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c1_i32_1255_r0 : BitVec 32 := 1#32
  let v3734_r0 : BitVec 32 := Scalar.addi v3673_r0 c1_i32_1255_r0
  let c2_i32_1258_r0 : BitVec 32 := 2#32
  let v3737_r0 : BitVec 32 := Scalar.remsi v3734_r0 c2_i32_1258_r0
  let c0_i32_1261_r0 : BitVec 32 := 0#32
  let c0_i32_1262_r0 : BitVec 32 := 0#32
  ![v3737_r0.toNat, 0, 0]
def k0_off35 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c1_i32_1255_r0 : BitVec 32 := 1#32
  let v3734_r0 : BitVec 32 := Scalar.addi v3673_r0 c1_i32_1255_r0
  let c8_i32_1257_r0 : BitVec 32 := 8#32
  let v3736_r0 : BitVec 32 := Scalar.remsi v3734_r0 c8_i32_1257_r0
  let c2048_i32_1259_r0 : BitVec 32 := 2048#32
  let v3738_r0 : BitVec 32 := Scalar.muli v3736_r0 c2048_i32_1259_r0
  let c8_i32_1256_r0 : BitVec 32 := 8#32
  let v3735_r0 : BitVec 32 := Scalar.divsi v3734_r0 c8_i32_1256_r0
  let c256_i32_1260_r0 : BitVec 32 := 256#32
  let v3739_r0 : BitVec 32 := Scalar.muli v3735_r0 c256_i32_1260_r0
  ![v3738_r0.toNat, v3739_r0.toNat]
def k0_off36 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c1_i32_1255_r0 : BitVec 32 := 1#32
  let v3734_r0 : BitVec 32 := Scalar.addi v3673_r0 c1_i32_1255_r0
  let c2_i32_1258_r0 : BitVec 32 := 2#32
  let v3737_r0 : BitVec 32 := Scalar.remsi v3734_r0 c2_i32_1258_r0
  let c0_i32_1263_r0 : BitVec 32 := 0#32
  let c0_i32_1264_r0 : BitVec 32 := 0#32
  ![v3737_r0.toNat, 0, 0]
def k0_off37 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1211_r0 : BitVec 32 := 1#32
  let v3668_r0 : BitVec 32 := Scalar.addi arg13_r0 c1_i32_1211_r0
  let c64_i32_1212_r0 : BitVec 32 := 64#32
  let v3669_r0 : BitVec 32 := Scalar.divsi v3668_r0 c64_i32_1212_r0
  let c8_i32_1213_r0 : BitVec 32 := 8#32
  let v3670_r0 : BitVec 32 := Scalar.muli v3669_r0 c8_i32_1213_r0
  let c1_i32_1214_r0 : BitVec 32 := 1#32
  let v3671_r0 : BitVec 32 := Scalar.addi arg13_r0 c1_i32_1214_r0
  let c8_i32_1215_r0 : BitVec 32 := 8#32
  let v3672_r0 : BitVec 32 := Scalar.remsi v3671_r0 c8_i32_1215_r0
  let v3673_r0 : BitVec 32 := Scalar.addi v3670_r0 v3672_r0
  let c1_i32_1255_r0 : BitVec 32 := 1#32
  let v3734_r0 : BitVec 32 := Scalar.addi v3673_r0 c1_i32_1255_r0
  let c8_i32_1257_r0 : BitVec 32 := 8#32
  let v3736_r0 : BitVec 32 := Scalar.remsi v3734_r0 c8_i32_1257_r0
  let c2048_i32_1259_r0 : BitVec 32 := 2048#32
  let v3738_r0 : BitVec 32 := Scalar.muli v3736_r0 c2048_i32_1259_r0
  let c0_i32_1265_r0 : BitVec 32 := 0#32
  ![v3738_r0.toNat, 0]
def k0_off38 (k0_t1 : Fin k0_t1_loop.trips) : Fin 1 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1228_r0 : BitVec 32 := 3#32
  let v3693_r0 : BitVec 32 := Scalar.remsi arg13_r0 c3_i32_1228_r0
  ![v3693_r0.toNat]
def k0_off39 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1228_r0 : BitVec 32 := 3#32
  let v3693_r0 : BitVec 32 := Scalar.remsi arg13_r0 c3_i32_1228_r0
  let c0_i32_1231_r0 : BitVec 32 := 0#32
  let c0_i32_1232_r0 : BitVec 32 := 0#32
  ![v3693_r0.toNat, 0, 0]
def k0_off40 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1225_r0 : BitVec 32 := 8#32
  let v3690_r0 : BitVec 32 := Scalar.divsi arg13_r0 c8_i32_1225_r0
  let c8_i32_1226_r0 : BitVec 32 := 8#32
  let v3691_r0 : BitVec 32 := Scalar.remsi v3690_r0 c8_i32_1226_r0
  let c960_i32_1229_r0 : BitVec 32 := 960#32
  let v3694_r0 : BitVec 32 := Scalar.muli v3691_r0 c960_i32_1229_r0
  let c8_i32_1227_r0 : BitVec 32 := 8#32
  let v3692_r0 : BitVec 32 := Scalar.remsi arg13_r0 c8_i32_1227_r0
  let c2048_i32_1230_r0 : BitVec 32 := 2048#32
  let v3695_r0 : BitVec 32 := Scalar.muli v3692_r0 c2048_i32_1230_r0
  ![v3694_r0.toNat, v3695_r0.toNat]
def k0_cond5 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c3_i32_1233_r0 : BitVec 32 := 3#32
  let v3701_r0 : BitVec 32 := Scalar.addi arg13_r0 c3_i32_1233_r0
  let c1_i32_1234_r0 : BitVec 32 := 1#32
  let v3702_r0 : BitVec 32 := Scalar.subi v3701_r0 c1_i32_1234_r0
  let c256_i32_1235_r0 : BitVec 32 := 256#32
  let v3703_r0 : BitVec 1 := Scalar.cmpi .slt v3702_r0 c256_i32_1235_r0
  let v3704_r0 : BitVec 32 := Scalar.extui v3703_r0
  let c0_i32_1236_r0 : BitVec 32 := 0#32
  let v3705_r0 : BitVec 1 := Scalar.cmpi .ne v3704_r0 c0_i32_1236_r0
  v3705_r0

def k0_off41 (k0_t1 : Fin k0_t1_loop.trips) : Fin 1 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1255_r0 : BitVec 32 := 3#32
  let v3734_r0 : BitVec 32 := Scalar.addi arg13_r0 c3_i32_1255_r0
  let c1_i32_1256_r0 : BitVec 32 := 1#32
  let v3735_r0 : BitVec 32 := Scalar.subi v3734_r0 c1_i32_1256_r0
  let c3_i32_1260_r0 : BitVec 32 := 3#32
  let v3739_r0 : BitVec 32 := Scalar.remsi v3735_r0 c3_i32_1260_r0
  ![v3739_r0.toNat]
def k0_off42 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1255_r0 : BitVec 32 := 3#32
  let v3734_r0 : BitVec 32 := Scalar.addi arg13_r0 c3_i32_1255_r0
  let c1_i32_1256_r0 : BitVec 32 := 1#32
  let v3735_r0 : BitVec 32 := Scalar.subi v3734_r0 c1_i32_1256_r0
  let c3_i32_1260_r0 : BitVec 32 := 3#32
  let v3739_r0 : BitVec 32 := Scalar.remsi v3735_r0 c3_i32_1260_r0
  let c0_i32_1263_r0 : BitVec 32 := 0#32
  let c0_i32_1264_r0 : BitVec 32 := 0#32
  ![v3739_r0.toNat, 0, 0]
def k0_off43 (k0_t1 : Fin k0_t1_loop.trips) : Fin 2 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1255_r0 : BitVec 32 := 3#32
  let v3734_r0 : BitVec 32 := Scalar.addi arg13_r0 c3_i32_1255_r0
  let c1_i32_1256_r0 : BitVec 32 := 1#32
  let v3735_r0 : BitVec 32 := Scalar.subi v3734_r0 c1_i32_1256_r0
  let c8_i32_1257_r0 : BitVec 32 := 8#32
  let v3736_r0 : BitVec 32 := Scalar.divsi v3735_r0 c8_i32_1257_r0
  let c8_i32_1258_r0 : BitVec 32 := 8#32
  let v3737_r0 : BitVec 32 := Scalar.remsi v3736_r0 c8_i32_1258_r0
  let c960_i32_1261_r0 : BitVec 32 := 960#32
  let v3740_r0 : BitVec 32 := Scalar.muli v3737_r0 c960_i32_1261_r0
  let c8_i32_1259_r0 : BitVec 32 := 8#32
  let v3738_r0 : BitVec 32 := Scalar.remsi v3735_r0 c8_i32_1259_r0
  let c2048_i32_1262_r0 : BitVec 32 := 2048#32
  let v3741_r0 : BitVec 32 := Scalar.muli v3738_r0 c2048_i32_1262_r0
  ![v3740_r0.toNat, v3741_r0.toNat]
def k0_cond6 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c1_i32_1205_r0 : BitVec 32 := 1#32
  let v3661_r0 : BitVec 32 := Scalar.addi arg13_r0 c1_i32_1205_r0
  let c64_i32_1206_r0 : BitVec 32 := 64#32
  let v3662_r0 : BitVec 32 := Scalar.remsi v3661_r0 c64_i32_1206_r0
  let c8_i32_1207_r0 : BitVec 32 := 8#32
  let v3663_r0 : BitVec 1 := Scalar.cmpi .slt v3662_r0 c8_i32_1207_r0
  let c1_i32_1208_r0 : BitVec 32 := 1#32
  let v3664_r0 : BitVec 32 := Scalar.addi arg13_r0 c1_i32_1208_r0
  let c256_i32_1209_r0 : BitVec 32 := 256#32
  let v3665_r0 : BitVec 1 := Scalar.cmpi .slt v3664_r0 c256_i32_1209_r0
  let v3666_r0 : BitVec 1 := Scalar.andi v3663_r0 v3665_r0
  let v_false_r0 : BitVec 1 := 0#1
  let v3706_r0 : BitVec 1 := Scalar.xori v3666_r0 v_false_r0
  let v_true_r0 : BitVec 1 := 1#1
  let v3707_r0 : BitVec 1 := Scalar.xori v3706_r0 v_true_r0
  let c8_i32_1203_r0 : BitVec 32 := 8#32
  let v3659_r0 : BitVec 32 := Scalar.remsi arg13_r0 c8_i32_1203_r0
  let c0_i32_1210_r0 : BitVec 32 := 0#32
  let v3667_r0 : BitVec 1 := Scalar.cmpi .eq v3659_r0 c0_i32_1210_r0
  let false_1237_r0 : BitVec 1 := 0#1
  let v3708_r0 : BitVec 1 := Scalar.xori v3667_r0 false_1237_r0
  let true_1238_r0 : BitVec 1 := 1#1
  let v3709_r0 : BitVec 1 := Scalar.xori v3708_r0 true_1238_r0
  let v3710_r0 : BitVec 1 := Scalar.andi v3707_r0 v3709_r0
  let v3711_r0 : BitVec 32 := Scalar.extui v3710_r0
  let c0_i32_1239_r0 : BitVec 32 := 0#32
  let v3712_r0 : BitVec 1 := Scalar.cmpi .ne v3711_r0 c0_i32_1239_r0
  v3712_r0

def k0_off44 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3736_r0 : Index := Scalar.indexCast v3735_r0
  let c0_1257_r0 : Index := 0#32
  let c0_1258_r0 : Index := 0#32
  ![v3736_r0.toNat, 0, 0]
def k0_off45 (k0_t1 : Fin k0_t1_loop.trips) (c0_i32_1260_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1259_r0 : BitVec 32 := 8#32
  let v3739_r0 : BitVec 32 := Scalar.muli v3734_r0 c8_i32_1259_r0
  let v3740_r0 : BitVec 32 := Scalar.addi v3739_r0 c0_i32_1260_r0
  let c1_i32_1261_r0 : BitVec 32 := 1#32
  let v3741_r0 : BitVec 32 := Scalar.addi v3740_r0 c1_i32_1261_r0
  let c64_i32_1262_r0 : BitVec 32 := 64#32
  let v3742_r0 : BitVec 32 := Scalar.remsi v3741_r0 c64_i32_1262_r0
  let v3743_r0 : Index := Scalar.indexCast v3742_r0
  let c0_1263_r0 : Index := 0#32
  let c0_1264_r0 : Index := 0#32
  ![v3743_r0.toNat, 0, 0]
def k0_off46 (k0_t1 : Fin k0_t1_loop.trips) (c0_i32_1260_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1259_r0 : BitVec 32 := 8#32
  let v3739_r0 : BitVec 32 := Scalar.muli v3734_r0 c8_i32_1259_r0
  let v3740_r0 : BitVec 32 := Scalar.addi v3739_r0 c0_i32_1260_r0
  let c1_i32_1261_r0 : BitVec 32 := 1#32
  let v3741_r0 : BitVec 32 := Scalar.addi v3740_r0 c1_i32_1261_r0
  let c64_i32_1262_r0 : BitVec 32 := 64#32
  let v3742_r0 : BitVec 32 := Scalar.remsi v3741_r0 c64_i32_1262_r0
  let v3746_r0 : Index := Scalar.indexCast v3742_r0
  let c0_1265_r0 : Index := 0#32
  let c256_1266_r0 : Index := 256#32
  ![v3746_r0.toNat, 0, 256]
def k0_off47 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3749_r0 : Index := Scalar.indexCast v3735_r0
  let c240_1267_r0 : Index := 240#32
  let c0_1268_r0 : Index := 0#32
  ![v3749_r0.toNat, 240, 0]
def k0_off48 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3752_r0 : Index := Scalar.indexCast v3735_r0
  let c480_1269_r0 : Index := 480#32
  let c0_1270_r0 : Index := 0#32
  ![v3752_r0.toNat, 480, 0]
def k0_off49 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3755_r0 : Index := Scalar.indexCast v3735_r0
  let c720_1271_r0 : Index := 720#32
  let c0_1272_r0 : Index := 0#32
  ![v3755_r0.toNat, 720, 0]
def k0_off50 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3758_r0 : Index := Scalar.indexCast v3735_r0
  let c0_1273_r0 : Index := 0#32
  let c256_1274_r0 : Index := 256#32
  ![v3758_r0.toNat, 0, 256]
def k0_off51 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3771_r0 : Index := Scalar.indexCast v3735_r0
  let c240_1283_r0 : Index := 240#32
  let c256_1284_r0 : Index := 256#32
  ![v3771_r0.toNat, 240, 256]
def k0_off52 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3774_r0 : Index := Scalar.indexCast v3735_r0
  let c480_1285_r0 : Index := 480#32
  let c256_1286_r0 : Index := 256#32
  ![v3774_r0.toNat, 480, 256]
def k0_off53 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3777_r0 : Index := Scalar.indexCast v3735_r0
  let c720_1287_r0 : Index := 720#32
  let c256_1288_r0 : Index := 256#32
  ![v3777_r0.toNat, 720, 256]
def k0_off54 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3780_r0 : Index := Scalar.indexCast v3735_r0
  let c0_1289_r0 : Index := 0#32
  let c512_1290_r0 : Index := 512#32
  ![v3780_r0.toNat, 0, 512]
def k0_off55 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3793_r0 : Index := Scalar.indexCast v3735_r0
  let c240_1299_r0 : Index := 240#32
  let c512_1300_r0 : Index := 512#32
  ![v3793_r0.toNat, 240, 512]
def k0_off56 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3796_r0 : Index := Scalar.indexCast v3735_r0
  let c480_1301_r0 : Index := 480#32
  let c512_1302_r0 : Index := 512#32
  ![v3796_r0.toNat, 480, 512]
def k0_off57 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3799_r0 : Index := Scalar.indexCast v3735_r0
  let c720_1303_r0 : Index := 720#32
  let c512_1304_r0 : Index := 512#32
  ![v3799_r0.toNat, 720, 512]
def k0_off58 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3802_r0 : Index := Scalar.indexCast v3735_r0
  let c0_1305_r0 : Index := 0#32
  let c768_1306_r0 : Index := 768#32
  ![v3802_r0.toNat, 0, 768]
def k0_off59 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3815_r0 : Index := Scalar.indexCast v3735_r0
  let c240_1315_r0 : Index := 240#32
  let c768_1316_r0 : Index := 768#32
  ![v3815_r0.toNat, 240, 768]
def k0_off60 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3818_r0 : Index := Scalar.indexCast v3735_r0
  let c480_1317_r0 : Index := 480#32
  let c768_1318_r0 : Index := 768#32
  ![v3818_r0.toNat, 480, 768]
def k0_off61 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3821_r0 : Index := Scalar.indexCast v3735_r0
  let c720_1319_r0 : Index := 720#32
  let c768_1320_r0 : Index := 768#32
  ![v3821_r0.toNat, 720, 768]
def k0_off62 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3824_r0 : Index := Scalar.indexCast v3735_r0
  let c0_1321_r0 : Index := 0#32
  let c1024_1322_r0 : Index := 1024#32
  ![v3824_r0.toNat, 0, 1024]
def k0_off63 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3837_r0 : Index := Scalar.indexCast v3735_r0
  let c240_1331_r0 : Index := 240#32
  let c1024_1332_r0 : Index := 1024#32
  ![v3837_r0.toNat, 240, 1024]
def k0_off64 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3840_r0 : Index := Scalar.indexCast v3735_r0
  let c480_1333_r0 : Index := 480#32
  let c1024_1334_r0 : Index := 1024#32
  ![v3840_r0.toNat, 480, 1024]
def k0_off65 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3843_r0 : Index := Scalar.indexCast v3735_r0
  let c720_1335_r0 : Index := 720#32
  let c1024_1336_r0 : Index := 1024#32
  ![v3843_r0.toNat, 720, 1024]
def k0_off66 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3846_r0 : Index := Scalar.indexCast v3735_r0
  let c0_1337_r0 : Index := 0#32
  let c1280_1338_r0 : Index := 1280#32
  ![v3846_r0.toNat, 0, 1280]
def k0_off67 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3859_r0 : Index := Scalar.indexCast v3735_r0
  let c240_1347_r0 : Index := 240#32
  let c1280_1348_r0 : Index := 1280#32
  ![v3859_r0.toNat, 240, 1280]
def k0_off68 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3862_r0 : Index := Scalar.indexCast v3735_r0
  let c480_1349_r0 : Index := 480#32
  let c1280_1350_r0 : Index := 1280#32
  ![v3862_r0.toNat, 480, 1280]
def k0_off69 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3865_r0 : Index := Scalar.indexCast v3735_r0
  let c720_1351_r0 : Index := 720#32
  let c1280_1352_r0 : Index := 1280#32
  ![v3865_r0.toNat, 720, 1280]
def k0_off70 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3868_r0 : Index := Scalar.indexCast v3735_r0
  let c0_1353_r0 : Index := 0#32
  let c1536_1354_r0 : Index := 1536#32
  ![v3868_r0.toNat, 0, 1536]
def k0_off71 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3881_r0 : Index := Scalar.indexCast v3735_r0
  let c240_1363_r0 : Index := 240#32
  let c1536_1364_r0 : Index := 1536#32
  ![v3881_r0.toNat, 240, 1536]
def k0_off72 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3884_r0 : Index := Scalar.indexCast v3735_r0
  let c480_1365_r0 : Index := 480#32
  let c1536_1366_r0 : Index := 1536#32
  ![v3884_r0.toNat, 480, 1536]
def k0_off73 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3887_r0 : Index := Scalar.indexCast v3735_r0
  let c720_1367_r0 : Index := 720#32
  let c1536_1368_r0 : Index := 1536#32
  ![v3887_r0.toNat, 720, 1536]
def k0_off74 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3890_r0 : Index := Scalar.indexCast v3735_r0
  let c0_1369_r0 : Index := 0#32
  let c1792_1370_r0 : Index := 1792#32
  ![v3890_r0.toNat, 0, 1792]
def k0_off75 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3903_r0 : Index := Scalar.indexCast v3735_r0
  let c240_1379_r0 : Index := 240#32
  let c1792_1380_r0 : Index := 1792#32
  ![v3903_r0.toNat, 240, 1792]
def k0_off76 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3906_r0 : Index := Scalar.indexCast v3735_r0
  let c480_1381_r0 : Index := 480#32
  let c1792_1382_r0 : Index := 1792#32
  ![v3906_r0.toNat, 480, 1792]
def k0_off77 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3909_r0 : Index := Scalar.indexCast v3735_r0
  let c720_1383_r0 : Index := 720#32
  let c1792_1384_r0 : Index := 1792#32
  ![v3909_r0.toNat, 720, 1792]
def k0_cond7 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c1_i32_1205_r0 : BitVec 32 := 1#32
  let v3661_r0 : BitVec 32 := Scalar.addi arg13_r0 c1_i32_1205_r0
  let c64_i32_1206_r0 : BitVec 32 := 64#32
  let v3662_r0 : BitVec 32 := Scalar.remsi v3661_r0 c64_i32_1206_r0
  let c8_i32_1207_r0 : BitVec 32 := 8#32
  let v3663_r0 : BitVec 1 := Scalar.cmpi .slt v3662_r0 c8_i32_1207_r0
  let c1_i32_1208_r0 : BitVec 32 := 1#32
  let v3664_r0 : BitVec 32 := Scalar.addi arg13_r0 c1_i32_1208_r0
  let c256_i32_1209_r0 : BitVec 32 := 256#32
  let v3665_r0 : BitVec 1 := Scalar.cmpi .slt v3664_r0 c256_i32_1209_r0
  let v3666_r0 : BitVec 1 := Scalar.andi v3663_r0 v3665_r0
  let false_1240_r0 : BitVec 1 := 0#1
  let v3713_r0 : BitVec 1 := Scalar.xori v3666_r0 false_1240_r0
  let true_1241_r0 : BitVec 1 := 1#1
  let v3714_r0 : BitVec 1 := Scalar.xori v3713_r0 true_1241_r0
  let c8_i32_1203_r0 : BitVec 32 := 8#32
  let v3659_r0 : BitVec 32 := Scalar.remsi arg13_r0 c8_i32_1203_r0
  let c0_i32_1210_r0 : BitVec 32 := 0#32
  let v3667_r0 : BitVec 1 := Scalar.cmpi .eq v3659_r0 c0_i32_1210_r0
  let true_1242_r0 : BitVec 1 := 1#1
  let v3715_r0 : BitVec 1 := Scalar.xori v3667_r0 true_1242_r0
  let true_1243_r0 : BitVec 1 := 1#1
  let v3716_r0 : BitVec 1 := Scalar.xori v3715_r0 true_1243_r0
  let v3717_r0 : BitVec 1 := Scalar.andi v3714_r0 v3716_r0
  let v3718_r0 : BitVec 32 := Scalar.extui v3717_r0
  let c0_i32_1244_r0 : BitVec 32 := 0#32
  let v3719_r0 : BitVec 1 := Scalar.cmpi .ne v3718_r0 c0_i32_1244_r0
  v3719_r0

def k0_off78 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3746_r0 : Index := Scalar.indexCast v3735_r0
  let c0_1261_r0 : Index := 0#32
  let c0_1262_r0 : Index := 0#32
  ![v3746_r0.toNat, 0, 0]
def k0_off79 (k0_t1 : Fin k0_t1_loop.trips) (c0_i32_1264_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1263_r0 : BitVec 32 := 8#32
  let v3749_r0 : BitVec 32 := Scalar.muli v3734_r0 c8_i32_1263_r0
  let v3750_r0 : BitVec 32 := Scalar.addi v3749_r0 c0_i32_1264_r0
  let c1_i32_1265_r0 : BitVec 32 := 1#32
  let v3751_r0 : BitVec 32 := Scalar.addi v3750_r0 c1_i32_1265_r0
  let c64_i32_1266_r0 : BitVec 32 := 64#32
  let v3752_r0 : BitVec 32 := Scalar.remsi v3751_r0 c64_i32_1266_r0
  let v3753_r0 : Index := Scalar.indexCast v3752_r0
  let c0_1267_r0 : Index := 0#32
  let c0_1268_r0 : Index := 0#32
  ![v3753_r0.toNat, 0, 0]
def k0_off80 (k0_t1 : Fin k0_t1_loop.trips) (c0_i32_1264_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1263_r0 : BitVec 32 := 8#32
  let v3749_r0 : BitVec 32 := Scalar.muli v3734_r0 c8_i32_1263_r0
  let v3750_r0 : BitVec 32 := Scalar.addi v3749_r0 c0_i32_1264_r0
  let c1_i32_1265_r0 : BitVec 32 := 1#32
  let v3751_r0 : BitVec 32 := Scalar.addi v3750_r0 c1_i32_1265_r0
  let c64_i32_1266_r0 : BitVec 32 := 64#32
  let v3752_r0 : BitVec 32 := Scalar.remsi v3751_r0 c64_i32_1266_r0
  let v3756_r0 : Index := Scalar.indexCast v3752_r0
  let c0_1269_r0 : Index := 0#32
  let c256_1270_r0 : Index := 256#32
  ![v3756_r0.toNat, 0, 256]
def k0_off81 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3769_r0 : Index := Scalar.indexCast v3735_r0
  let c240_1275_r0 : Index := 240#32
  let c0_1276_r0 : Index := 0#32
  ![v3769_r0.toNat, 240, 0]
def k0_off82 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3782_r0 : Index := Scalar.indexCast v3735_r0
  let c480_1281_r0 : Index := 480#32
  let c0_1282_r0 : Index := 0#32
  ![v3782_r0.toNat, 480, 0]
def k0_off83 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3795_r0 : Index := Scalar.indexCast v3735_r0
  let c720_1287_r0 : Index := 720#32
  let c0_1288_r0 : Index := 0#32
  ![v3795_r0.toNat, 720, 0]
def k0_off84 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3798_r0 : Index := Scalar.indexCast v3735_r0
  let c0_1289_r0 : Index := 0#32
  let c256_1290_r0 : Index := 256#32
  ![v3798_r0.toNat, 0, 256]
def k0_off85 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3811_r0 : Index := Scalar.indexCast v3735_r0
  let c240_1299_r0 : Index := 240#32
  let c256_1300_r0 : Index := 256#32
  ![v3811_r0.toNat, 240, 256]
def k0_off86 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3814_r0 : Index := Scalar.indexCast v3735_r0
  let c480_1301_r0 : Index := 480#32
  let c256_1302_r0 : Index := 256#32
  ![v3814_r0.toNat, 480, 256]
def k0_off87 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3817_r0 : Index := Scalar.indexCast v3735_r0
  let c720_1303_r0 : Index := 720#32
  let c256_1304_r0 : Index := 256#32
  ![v3817_r0.toNat, 720, 256]
def k0_off88 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3820_r0 : Index := Scalar.indexCast v3735_r0
  let c0_1305_r0 : Index := 0#32
  let c512_1306_r0 : Index := 512#32
  ![v3820_r0.toNat, 0, 512]
def k0_off89 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3833_r0 : Index := Scalar.indexCast v3735_r0
  let c240_1315_r0 : Index := 240#32
  let c512_1316_r0 : Index := 512#32
  ![v3833_r0.toNat, 240, 512]
def k0_off90 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3836_r0 : Index := Scalar.indexCast v3735_r0
  let c480_1317_r0 : Index := 480#32
  let c512_1318_r0 : Index := 512#32
  ![v3836_r0.toNat, 480, 512]
def k0_off91 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3839_r0 : Index := Scalar.indexCast v3735_r0
  let c720_1319_r0 : Index := 720#32
  let c512_1320_r0 : Index := 512#32
  ![v3839_r0.toNat, 720, 512]
def k0_off92 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3842_r0 : Index := Scalar.indexCast v3735_r0
  let c0_1321_r0 : Index := 0#32
  let c768_1322_r0 : Index := 768#32
  ![v3842_r0.toNat, 0, 768]
def k0_off93 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3855_r0 : Index := Scalar.indexCast v3735_r0
  let c240_1331_r0 : Index := 240#32
  let c768_1332_r0 : Index := 768#32
  ![v3855_r0.toNat, 240, 768]
def k0_off94 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3858_r0 : Index := Scalar.indexCast v3735_r0
  let c480_1333_r0 : Index := 480#32
  let c768_1334_r0 : Index := 768#32
  ![v3858_r0.toNat, 480, 768]
def k0_off95 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3861_r0 : Index := Scalar.indexCast v3735_r0
  let c720_1335_r0 : Index := 720#32
  let c768_1336_r0 : Index := 768#32
  ![v3861_r0.toNat, 720, 768]
def k0_off96 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3864_r0 : Index := Scalar.indexCast v3735_r0
  let c0_1337_r0 : Index := 0#32
  let c1024_1338_r0 : Index := 1024#32
  ![v3864_r0.toNat, 0, 1024]
def k0_off97 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3877_r0 : Index := Scalar.indexCast v3735_r0
  let c240_1347_r0 : Index := 240#32
  let c1024_1348_r0 : Index := 1024#32
  ![v3877_r0.toNat, 240, 1024]
def k0_off98 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3880_r0 : Index := Scalar.indexCast v3735_r0
  let c480_1349_r0 : Index := 480#32
  let c1024_1350_r0 : Index := 1024#32
  ![v3880_r0.toNat, 480, 1024]
def k0_off99 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3883_r0 : Index := Scalar.indexCast v3735_r0
  let c720_1351_r0 : Index := 720#32
  let c1024_1352_r0 : Index := 1024#32
  ![v3883_r0.toNat, 720, 1024]
def k0_off100 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3886_r0 : Index := Scalar.indexCast v3735_r0
  let c0_1353_r0 : Index := 0#32
  let c1280_1354_r0 : Index := 1280#32
  ![v3886_r0.toNat, 0, 1280]
def k0_off101 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3899_r0 : Index := Scalar.indexCast v3735_r0
  let c240_1363_r0 : Index := 240#32
  let c1280_1364_r0 : Index := 1280#32
  ![v3899_r0.toNat, 240, 1280]
def k0_off102 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3902_r0 : Index := Scalar.indexCast v3735_r0
  let c480_1365_r0 : Index := 480#32
  let c1280_1366_r0 : Index := 1280#32
  ![v3902_r0.toNat, 480, 1280]
def k0_off103 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3905_r0 : Index := Scalar.indexCast v3735_r0
  let c720_1367_r0 : Index := 720#32
  let c1280_1368_r0 : Index := 1280#32
  ![v3905_r0.toNat, 720, 1280]
def k0_off104 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3908_r0 : Index := Scalar.indexCast v3735_r0
  let c0_1369_r0 : Index := 0#32
  let c1536_1370_r0 : Index := 1536#32
  ![v3908_r0.toNat, 0, 1536]
def k0_off105 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3921_r0 : Index := Scalar.indexCast v3735_r0
  let c240_1379_r0 : Index := 240#32
  let c1536_1380_r0 : Index := 1536#32
  ![v3921_r0.toNat, 240, 1536]
def k0_off106 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3924_r0 : Index := Scalar.indexCast v3735_r0
  let c480_1381_r0 : Index := 480#32
  let c1536_1382_r0 : Index := 1536#32
  ![v3924_r0.toNat, 480, 1536]
def k0_off107 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3927_r0 : Index := Scalar.indexCast v3735_r0
  let c720_1383_r0 : Index := 720#32
  let c1536_1384_r0 : Index := 1536#32
  ![v3927_r0.toNat, 720, 1536]
def k0_off108 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3930_r0 : Index := Scalar.indexCast v3735_r0
  let c0_1385_r0 : Index := 0#32
  let c1792_1386_r0 : Index := 1792#32
  ![v3930_r0.toNat, 0, 1792]
def k0_off109 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3943_r0 : Index := Scalar.indexCast v3735_r0
  let c240_1395_r0 : Index := 240#32
  let c1792_1396_r0 : Index := 1792#32
  ![v3943_r0.toNat, 240, 1792]
def k0_off110 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3946_r0 : Index := Scalar.indexCast v3735_r0
  let c480_1397_r0 : Index := 480#32
  let c1792_1398_r0 : Index := 1792#32
  ![v3946_r0.toNat, 480, 1792]
def k0_off111 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3949_r0 : Index := Scalar.indexCast v3735_r0
  let c720_1399_r0 : Index := 720#32
  let c1792_1400_r0 : Index := 1792#32
  ![v3949_r0.toNat, 720, 1792]
def k0_cond8 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c1_i32_1205_r0 : BitVec 32 := 1#32
  let v3661_r0 : BitVec 32 := Scalar.addi arg13_r0 c1_i32_1205_r0
  let c64_i32_1206_r0 : BitVec 32 := 64#32
  let v3662_r0 : BitVec 32 := Scalar.remsi v3661_r0 c64_i32_1206_r0
  let c8_i32_1207_r0 : BitVec 32 := 8#32
  let v3663_r0 : BitVec 1 := Scalar.cmpi .slt v3662_r0 c8_i32_1207_r0
  let c1_i32_1208_r0 : BitVec 32 := 1#32
  let v3664_r0 : BitVec 32 := Scalar.addi arg13_r0 c1_i32_1208_r0
  let c256_i32_1209_r0 : BitVec 32 := 256#32
  let v3665_r0 : BitVec 1 := Scalar.cmpi .slt v3664_r0 c256_i32_1209_r0
  let v3666_r0 : BitVec 1 := Scalar.andi v3663_r0 v3665_r0
  let true_1245_r0 : BitVec 1 := 1#1
  let v3720_r0 : BitVec 1 := Scalar.xori v3666_r0 true_1245_r0
  let true_1246_r0 : BitVec 1 := 1#1
  let v3721_r0 : BitVec 1 := Scalar.xori v3720_r0 true_1246_r0
  let c8_i32_1203_r0 : BitVec 32 := 8#32
  let v3659_r0 : BitVec 32 := Scalar.remsi arg13_r0 c8_i32_1203_r0
  let c0_i32_1210_r0 : BitVec 32 := 0#32
  let v3667_r0 : BitVec 1 := Scalar.cmpi .eq v3659_r0 c0_i32_1210_r0
  let false_1247_r0 : BitVec 1 := 0#1
  let v3722_r0 : BitVec 1 := Scalar.xori v3667_r0 false_1247_r0
  let true_1248_r0 : BitVec 1 := 1#1
  let v3723_r0 : BitVec 1 := Scalar.xori v3722_r0 true_1248_r0
  let v3724_r0 : BitVec 1 := Scalar.andi v3721_r0 v3723_r0
  let v3725_r0 : BitVec 32 := Scalar.extui v3724_r0
  let c0_i32_1249_r0 : BitVec 32 := 0#32
  let v3726_r0 : BitVec 1 := Scalar.cmpi .ne v3725_r0 c0_i32_1249_r0
  v3726_r0

def k0_off112 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3736_r0 : Index := Scalar.indexCast v3735_r0
  let c0_1257_r0 : Index := 0#32
  let c0_1258_r0 : Index := 0#32
  ![v3736_r0.toNat, 0, 0]
def k0_off113 (k0_t1 : Fin k0_t1_loop.trips) (c0_i32_1260_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1259_r0 : BitVec 32 := 8#32
  let v3739_r0 : BitVec 32 := Scalar.muli v3734_r0 c8_i32_1259_r0
  let v3740_r0 : BitVec 32 := Scalar.addi v3739_r0 c0_i32_1260_r0
  let c1_i32_1261_r0 : BitVec 32 := 1#32
  let v3741_r0 : BitVec 32 := Scalar.addi v3740_r0 c1_i32_1261_r0
  let c64_i32_1262_r0 : BitVec 32 := 64#32
  let v3742_r0 : BitVec 32 := Scalar.remsi v3741_r0 c64_i32_1262_r0
  let v3743_r0 : Index := Scalar.indexCast v3742_r0
  let c0_1263_r0 : Index := 0#32
  let c0_1264_r0 : Index := 0#32
  ![v3743_r0.toNat, 0, 0]
def k0_off114 (k0_t1 : Fin k0_t1_loop.trips) (c0_i32_1260_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1259_r0 : BitVec 32 := 8#32
  let v3739_r0 : BitVec 32 := Scalar.muli v3734_r0 c8_i32_1259_r0
  let v3740_r0 : BitVec 32 := Scalar.addi v3739_r0 c0_i32_1260_r0
  let c1_i32_1261_r0 : BitVec 32 := 1#32
  let v3741_r0 : BitVec 32 := Scalar.addi v3740_r0 c1_i32_1261_r0
  let c64_i32_1262_r0 : BitVec 32 := 64#32
  let v3742_r0 : BitVec 32 := Scalar.remsi v3741_r0 c64_i32_1262_r0
  let v3746_r0 : Index := Scalar.indexCast v3742_r0
  let c0_1265_r0 : Index := 0#32
  let c256_1266_r0 : Index := 256#32
  ![v3746_r0.toNat, 0, 256]
def k0_off115 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3749_r0 : Index := Scalar.indexCast v3735_r0
  let c240_1267_r0 : Index := 240#32
  let c0_1268_r0 : Index := 0#32
  ![v3749_r0.toNat, 240, 0]
def k0_off116 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3752_r0 : Index := Scalar.indexCast v3735_r0
  let c480_1269_r0 : Index := 480#32
  let c0_1270_r0 : Index := 0#32
  ![v3752_r0.toNat, 480, 0]
def k0_off117 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3755_r0 : Index := Scalar.indexCast v3735_r0
  let c720_1271_r0 : Index := 720#32
  let c0_1272_r0 : Index := 0#32
  ![v3755_r0.toNat, 720, 0]
def k0_off118 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1273_r0 : BitVec 32 := 1#32
  let v3758_r0 : BitVec 32 := Scalar.addi arg13_r0 c1_i32_1273_r0
  let c64_i32_1274_r0 : BitVec 32 := 64#32
  let v3759_r0 : BitVec 32 := Scalar.divsi v3758_r0 c64_i32_1274_r0
  let c8_i32_1275_r0 : BitVec 32 := 8#32
  let v3760_r0 : BitVec 32 := Scalar.muli v3759_r0 c8_i32_1275_r0
  let c1_i32_1276_r0 : BitVec 32 := 1#32
  let v3761_r0 : BitVec 32 := Scalar.addi arg13_r0 c1_i32_1276_r0
  let c8_i32_1277_r0 : BitVec 32 := 8#32
  let v3762_r0 : BitVec 32 := Scalar.remsi v3761_r0 c8_i32_1277_r0
  let v3763_r0 : BitVec 32 := Scalar.addi v3760_r0 v3762_r0
  let c2_i32_1278_r0 : BitVec 32 := 2#32
  let v3764_r0 : BitVec 32 := Scalar.remsi v3763_r0 c2_i32_1278_r0
  let v3768_r0 : Index := Scalar.indexCast v3764_r0
  let c0_1282_r0 : Index := 0#32
  let c0_1283_r0 : Index := 0#32
  ![v3768_r0.toNat, 0, 0]
def k0_off119 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1273_r0 : BitVec 32 := 1#32
  let v3758_r0 : BitVec 32 := Scalar.addi arg13_r0 c1_i32_1273_r0
  let c64_i32_1274_r0 : BitVec 32 := 64#32
  let v3759_r0 : BitVec 32 := Scalar.divsi v3758_r0 c64_i32_1274_r0
  let c8_i32_1275_r0 : BitVec 32 := 8#32
  let v3760_r0 : BitVec 32 := Scalar.muli v3759_r0 c8_i32_1275_r0
  let c1_i32_1276_r0 : BitVec 32 := 1#32
  let v3761_r0 : BitVec 32 := Scalar.addi arg13_r0 c1_i32_1276_r0
  let c8_i32_1277_r0 : BitVec 32 := 8#32
  let v3762_r0 : BitVec 32 := Scalar.remsi v3761_r0 c8_i32_1277_r0
  let v3763_r0 : BitVec 32 := Scalar.addi v3760_r0 v3762_r0
  let c2_i32_1278_r0 : BitVec 32 := 2#32
  let v3764_r0 : BitVec 32 := Scalar.remsi v3763_r0 c2_i32_1278_r0
  let v3771_r0 : Index := Scalar.indexCast v3764_r0
  let c0_1284_r0 : Index := 0#32
  let c0_1285_r0 : Index := 0#32
  ![v3771_r0.toNat, 0, 0]
def k0_off120 (k0_t1 : Fin k0_t1_loop.trips) (c0_i32_1414_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1273_r0 : BitVec 32 := 1#32
  let v3758_r0 : BitVec 32 := Scalar.addi arg13_r0 c1_i32_1273_r0
  let c64_i32_1274_r0 : BitVec 32 := 64#32
  let v3759_r0 : BitVec 32 := Scalar.divsi v3758_r0 c64_i32_1274_r0
  let c8_i32_1275_r0 : BitVec 32 := 8#32
  let v3760_r0 : BitVec 32 := Scalar.muli v3759_r0 c8_i32_1275_r0
  let c1_i32_1276_r0 : BitVec 32 := 1#32
  let v3761_r0 : BitVec 32 := Scalar.addi arg13_r0 c1_i32_1276_r0
  let c8_i32_1277_r0 : BitVec 32 := 8#32
  let v3762_r0 : BitVec 32 := Scalar.remsi v3761_r0 c8_i32_1277_r0
  let v3763_r0 : BitVec 32 := Scalar.addi v3760_r0 v3762_r0
  let c8_i32_1279_r0 : BitVec 32 := 8#32
  let v3765_r0 : BitVec 32 := Scalar.remsi v3763_r0 c8_i32_1279_r0
  let c8_i32_1413_r0 : BitVec 32 := 8#32
  let v4199_r0 : BitVec 32 := Scalar.muli v3765_r0 c8_i32_1413_r0
  let v4200_r0 : BitVec 32 := Scalar.addi v4199_r0 c0_i32_1414_r0
  let v4201_r0 : Index := Scalar.indexCast v4200_r0
  let c0_1415_r0 : Index := 0#32
  let c0_1416_r0 : Index := 0#32
  ![v4201_r0.toNat, 0, 0]
def k0_off121 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4205_r0 : Index := Scalar.indexCast v3735_r0
  let c0_1417_r0 : Index := 0#32
  let c256_1418_r0 : Index := 256#32
  ![v4205_r0.toNat, 0, 256]
def k0_off122 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4218_r0 : Index := Scalar.indexCast v3735_r0
  let c240_1427_r0 : Index := 240#32
  let c256_1428_r0 : Index := 256#32
  ![v4218_r0.toNat, 240, 256]
def k0_off123 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4221_r0 : Index := Scalar.indexCast v3735_r0
  let c480_1429_r0 : Index := 480#32
  let c256_1430_r0 : Index := 256#32
  ![v4221_r0.toNat, 480, 256]
def k0_off124 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4224_r0 : Index := Scalar.indexCast v3735_r0
  let c720_1431_r0 : Index := 720#32
  let c256_1432_r0 : Index := 256#32
  ![v4224_r0.toNat, 720, 256]
def k0_off125 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1433_r0 : BitVec 32 := 1#32
  let v4227_r0 : BitVec 32 := Scalar.addi arg13_r0 c1_i32_1433_r0
  let c64_i32_1434_r0 : BitVec 32 := 64#32
  let v4228_r0 : BitVec 32 := Scalar.divsi v4227_r0 c64_i32_1434_r0
  let c8_i32_1435_r0 : BitVec 32 := 8#32
  let v4229_r0 : BitVec 32 := Scalar.muli v4228_r0 c8_i32_1435_r0
  let c1_i32_1436_r0 : BitVec 32 := 1#32
  let v4230_r0 : BitVec 32 := Scalar.addi arg13_r0 c1_i32_1436_r0
  let c8_i32_1437_r0 : BitVec 32 := 8#32
  let v4231_r0 : BitVec 32 := Scalar.remsi v4230_r0 c8_i32_1437_r0
  let v4232_r0 : BitVec 32 := Scalar.addi v4229_r0 v4231_r0
  let c2_i32_1438_r0 : BitVec 32 := 2#32
  let v4233_r0 : BitVec 32 := Scalar.remsi v4232_r0 c2_i32_1438_r0
  let v4237_r0 : Index := Scalar.indexCast v4233_r0
  let c256_1442_r0 : Index := 256#32
  let c0_1443_r0 : Index := 0#32
  ![v4237_r0.toNat, 256, 0]
def k0_off126 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1433_r0 : BitVec 32 := 1#32
  let v4227_r0 : BitVec 32 := Scalar.addi arg13_r0 c1_i32_1433_r0
  let c64_i32_1434_r0 : BitVec 32 := 64#32
  let v4228_r0 : BitVec 32 := Scalar.divsi v4227_r0 c64_i32_1434_r0
  let c8_i32_1435_r0 : BitVec 32 := 8#32
  let v4229_r0 : BitVec 32 := Scalar.muli v4228_r0 c8_i32_1435_r0
  let c1_i32_1436_r0 : BitVec 32 := 1#32
  let v4230_r0 : BitVec 32 := Scalar.addi arg13_r0 c1_i32_1436_r0
  let c8_i32_1437_r0 : BitVec 32 := 8#32
  let v4231_r0 : BitVec 32 := Scalar.remsi v4230_r0 c8_i32_1437_r0
  let v4232_r0 : BitVec 32 := Scalar.addi v4229_r0 v4231_r0
  let c2_i32_1438_r0 : BitVec 32 := 2#32
  let v4233_r0 : BitVec 32 := Scalar.remsi v4232_r0 c2_i32_1438_r0
  let v4240_r0 : Index := Scalar.indexCast v4233_r0
  let c256_1444_r0 : Index := 256#32
  let c0_1445_r0 : Index := 0#32
  ![v4240_r0.toNat, 256, 0]
def k0_off127 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4674_r0 : Index := Scalar.indexCast v3735_r0
  let c0_1577_r0 : Index := 0#32
  let c512_1578_r0 : Index := 512#32
  ![v4674_r0.toNat, 0, 512]
def k0_off128 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4687_r0 : Index := Scalar.indexCast v3735_r0
  let c240_1587_r0 : Index := 240#32
  let c512_1588_r0 : Index := 512#32
  ![v4687_r0.toNat, 240, 512]
def k0_off129 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4690_r0 : Index := Scalar.indexCast v3735_r0
  let c480_1589_r0 : Index := 480#32
  let c512_1590_r0 : Index := 512#32
  ![v4690_r0.toNat, 480, 512]
def k0_off130 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4693_r0 : Index := Scalar.indexCast v3735_r0
  let c720_1591_r0 : Index := 720#32
  let c512_1592_r0 : Index := 512#32
  ![v4693_r0.toNat, 720, 512]
def k0_off131 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1593_r0 : BitVec 32 := 1#32
  let v4696_r0 : BitVec 32 := Scalar.addi arg13_r0 c1_i32_1593_r0
  let c64_i32_1594_r0 : BitVec 32 := 64#32
  let v4697_r0 : BitVec 32 := Scalar.divsi v4696_r0 c64_i32_1594_r0
  let c8_i32_1595_r0 : BitVec 32 := 8#32
  let v4698_r0 : BitVec 32 := Scalar.muli v4697_r0 c8_i32_1595_r0
  let c1_i32_1596_r0 : BitVec 32 := 1#32
  let v4699_r0 : BitVec 32 := Scalar.addi arg13_r0 c1_i32_1596_r0
  let c8_i32_1597_r0 : BitVec 32 := 8#32
  let v4700_r0 : BitVec 32 := Scalar.remsi v4699_r0 c8_i32_1597_r0
  let v4701_r0 : BitVec 32 := Scalar.addi v4698_r0 v4700_r0
  let c2_i32_1598_r0 : BitVec 32 := 2#32
  let v4702_r0 : BitVec 32 := Scalar.remsi v4701_r0 c2_i32_1598_r0
  let v4706_r0 : Index := Scalar.indexCast v4702_r0
  let c512_1602_r0 : Index := 512#32
  let c0_1603_r0 : Index := 0#32
  ![v4706_r0.toNat, 512, 0]
def k0_off132 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1593_r0 : BitVec 32 := 1#32
  let v4696_r0 : BitVec 32 := Scalar.addi arg13_r0 c1_i32_1593_r0
  let c64_i32_1594_r0 : BitVec 32 := 64#32
  let v4697_r0 : BitVec 32 := Scalar.divsi v4696_r0 c64_i32_1594_r0
  let c8_i32_1595_r0 : BitVec 32 := 8#32
  let v4698_r0 : BitVec 32 := Scalar.muli v4697_r0 c8_i32_1595_r0
  let c1_i32_1596_r0 : BitVec 32 := 1#32
  let v4699_r0 : BitVec 32 := Scalar.addi arg13_r0 c1_i32_1596_r0
  let c8_i32_1597_r0 : BitVec 32 := 8#32
  let v4700_r0 : BitVec 32 := Scalar.remsi v4699_r0 c8_i32_1597_r0
  let v4701_r0 : BitVec 32 := Scalar.addi v4698_r0 v4700_r0
  let c2_i32_1598_r0 : BitVec 32 := 2#32
  let v4702_r0 : BitVec 32 := Scalar.remsi v4701_r0 c2_i32_1598_r0
  let v4709_r0 : Index := Scalar.indexCast v4702_r0
  let c512_1604_r0 : Index := 512#32
  let c0_1605_r0 : Index := 0#32
  ![v4709_r0.toNat, 512, 0]
def k0_off133 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5143_r0 : Index := Scalar.indexCast v3735_r0
  let c0_1737_r0 : Index := 0#32
  let c768_1738_r0 : Index := 768#32
  ![v5143_r0.toNat, 0, 768]
def k0_off134 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5156_r0 : Index := Scalar.indexCast v3735_r0
  let c240_1747_r0 : Index := 240#32
  let c768_1748_r0 : Index := 768#32
  ![v5156_r0.toNat, 240, 768]
def k0_off135 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5159_r0 : Index := Scalar.indexCast v3735_r0
  let c480_1749_r0 : Index := 480#32
  let c768_1750_r0 : Index := 768#32
  ![v5159_r0.toNat, 480, 768]
def k0_off136 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5162_r0 : Index := Scalar.indexCast v3735_r0
  let c720_1751_r0 : Index := 720#32
  let c768_1752_r0 : Index := 768#32
  ![v5162_r0.toNat, 720, 768]
def k0_off137 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1753_r0 : BitVec 32 := 1#32
  let v5165_r0 : BitVec 32 := Scalar.addi arg13_r0 c1_i32_1753_r0
  let c64_i32_1754_r0 : BitVec 32 := 64#32
  let v5166_r0 : BitVec 32 := Scalar.divsi v5165_r0 c64_i32_1754_r0
  let c8_i32_1755_r0 : BitVec 32 := 8#32
  let v5167_r0 : BitVec 32 := Scalar.muli v5166_r0 c8_i32_1755_r0
  let c1_i32_1756_r0 : BitVec 32 := 1#32
  let v5168_r0 : BitVec 32 := Scalar.addi arg13_r0 c1_i32_1756_r0
  let c8_i32_1757_r0 : BitVec 32 := 8#32
  let v5169_r0 : BitVec 32 := Scalar.remsi v5168_r0 c8_i32_1757_r0
  let v5170_r0 : BitVec 32 := Scalar.addi v5167_r0 v5169_r0
  let c2_i32_1758_r0 : BitVec 32 := 2#32
  let v5171_r0 : BitVec 32 := Scalar.remsi v5170_r0 c2_i32_1758_r0
  let v5175_r0 : Index := Scalar.indexCast v5171_r0
  let c768_1762_r0 : Index := 768#32
  let c0_1763_r0 : Index := 0#32
  ![v5175_r0.toNat, 768, 0]
def k0_off138 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1753_r0 : BitVec 32 := 1#32
  let v5165_r0 : BitVec 32 := Scalar.addi arg13_r0 c1_i32_1753_r0
  let c64_i32_1754_r0 : BitVec 32 := 64#32
  let v5166_r0 : BitVec 32 := Scalar.divsi v5165_r0 c64_i32_1754_r0
  let c8_i32_1755_r0 : BitVec 32 := 8#32
  let v5167_r0 : BitVec 32 := Scalar.muli v5166_r0 c8_i32_1755_r0
  let c1_i32_1756_r0 : BitVec 32 := 1#32
  let v5168_r0 : BitVec 32 := Scalar.addi arg13_r0 c1_i32_1756_r0
  let c8_i32_1757_r0 : BitVec 32 := 8#32
  let v5169_r0 : BitVec 32 := Scalar.remsi v5168_r0 c8_i32_1757_r0
  let v5170_r0 : BitVec 32 := Scalar.addi v5167_r0 v5169_r0
  let c2_i32_1758_r0 : BitVec 32 := 2#32
  let v5171_r0 : BitVec 32 := Scalar.remsi v5170_r0 c2_i32_1758_r0
  let v5178_r0 : Index := Scalar.indexCast v5171_r0
  let c768_1764_r0 : Index := 768#32
  let c0_1765_r0 : Index := 0#32
  ![v5178_r0.toNat, 768, 0]
def k0_off139 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5612_r0 : Index := Scalar.indexCast v3735_r0
  let c0_1897_r0 : Index := 0#32
  let c1024_1898_r0 : Index := 1024#32
  ![v5612_r0.toNat, 0, 1024]
def k0_off140 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5625_r0 : Index := Scalar.indexCast v3735_r0
  let c240_1907_r0 : Index := 240#32
  let c1024_1908_r0 : Index := 1024#32
  ![v5625_r0.toNat, 240, 1024]
def k0_off141 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5628_r0 : Index := Scalar.indexCast v3735_r0
  let c480_1909_r0 : Index := 480#32
  let c1024_1910_r0 : Index := 1024#32
  ![v5628_r0.toNat, 480, 1024]
def k0_off142 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5631_r0 : Index := Scalar.indexCast v3735_r0
  let c720_1911_r0 : Index := 720#32
  let c1024_1912_r0 : Index := 1024#32
  ![v5631_r0.toNat, 720, 1024]
def k0_off143 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1913_r0 : BitVec 32 := 1#32
  let v5634_r0 : BitVec 32 := Scalar.addi arg13_r0 c1_i32_1913_r0
  let c64_i32_1914_r0 : BitVec 32 := 64#32
  let v5635_r0 : BitVec 32 := Scalar.divsi v5634_r0 c64_i32_1914_r0
  let c8_i32_1915_r0 : BitVec 32 := 8#32
  let v5636_r0 : BitVec 32 := Scalar.muli v5635_r0 c8_i32_1915_r0
  let c1_i32_1916_r0 : BitVec 32 := 1#32
  let v5637_r0 : BitVec 32 := Scalar.addi arg13_r0 c1_i32_1916_r0
  let c8_i32_1917_r0 : BitVec 32 := 8#32
  let v5638_r0 : BitVec 32 := Scalar.remsi v5637_r0 c8_i32_1917_r0
  let v5639_r0 : BitVec 32 := Scalar.addi v5636_r0 v5638_r0
  let c2_i32_1918_r0 : BitVec 32 := 2#32
  let v5640_r0 : BitVec 32 := Scalar.remsi v5639_r0 c2_i32_1918_r0
  let v5644_r0 : Index := Scalar.indexCast v5640_r0
  let c1024_1922_r0 : Index := 1024#32
  let c0_1923_r0 : Index := 0#32
  ![v5644_r0.toNat, 1024, 0]
def k0_off144 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1913_r0 : BitVec 32 := 1#32
  let v5634_r0 : BitVec 32 := Scalar.addi arg13_r0 c1_i32_1913_r0
  let c64_i32_1914_r0 : BitVec 32 := 64#32
  let v5635_r0 : BitVec 32 := Scalar.divsi v5634_r0 c64_i32_1914_r0
  let c8_i32_1915_r0 : BitVec 32 := 8#32
  let v5636_r0 : BitVec 32 := Scalar.muli v5635_r0 c8_i32_1915_r0
  let c1_i32_1916_r0 : BitVec 32 := 1#32
  let v5637_r0 : BitVec 32 := Scalar.addi arg13_r0 c1_i32_1916_r0
  let c8_i32_1917_r0 : BitVec 32 := 8#32
  let v5638_r0 : BitVec 32 := Scalar.remsi v5637_r0 c8_i32_1917_r0
  let v5639_r0 : BitVec 32 := Scalar.addi v5636_r0 v5638_r0
  let c2_i32_1918_r0 : BitVec 32 := 2#32
  let v5640_r0 : BitVec 32 := Scalar.remsi v5639_r0 c2_i32_1918_r0
  let v5647_r0 : Index := Scalar.indexCast v5640_r0
  let c1024_1924_r0 : Index := 1024#32
  let c0_1925_r0 : Index := 0#32
  ![v5647_r0.toNat, 1024, 0]
def k0_off145 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6081_r0 : Index := Scalar.indexCast v3735_r0
  let c0_2057_r0 : Index := 0#32
  let c1280_2058_r0 : Index := 1280#32
  ![v6081_r0.toNat, 0, 1280]
def k0_off146 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6094_r0 : Index := Scalar.indexCast v3735_r0
  let c240_2067_r0 : Index := 240#32
  let c1280_2068_r0 : Index := 1280#32
  ![v6094_r0.toNat, 240, 1280]
def k0_off147 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6097_r0 : Index := Scalar.indexCast v3735_r0
  let c480_2069_r0 : Index := 480#32
  let c1280_2070_r0 : Index := 1280#32
  ![v6097_r0.toNat, 480, 1280]
def k0_off148 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6100_r0 : Index := Scalar.indexCast v3735_r0
  let c720_2071_r0 : Index := 720#32
  let c1280_2072_r0 : Index := 1280#32
  ![v6100_r0.toNat, 720, 1280]
def k0_off149 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2073_r0 : BitVec 32 := 1#32
  let v6103_r0 : BitVec 32 := Scalar.addi arg13_r0 c1_i32_2073_r0
  let c64_i32_2074_r0 : BitVec 32 := 64#32
  let v6104_r0 : BitVec 32 := Scalar.divsi v6103_r0 c64_i32_2074_r0
  let c8_i32_2075_r0 : BitVec 32 := 8#32
  let v6105_r0 : BitVec 32 := Scalar.muli v6104_r0 c8_i32_2075_r0
  let c1_i32_2076_r0 : BitVec 32 := 1#32
  let v6106_r0 : BitVec 32 := Scalar.addi arg13_r0 c1_i32_2076_r0
  let c8_i32_2077_r0 : BitVec 32 := 8#32
  let v6107_r0 : BitVec 32 := Scalar.remsi v6106_r0 c8_i32_2077_r0
  let v6108_r0 : BitVec 32 := Scalar.addi v6105_r0 v6107_r0
  let c2_i32_2078_r0 : BitVec 32 := 2#32
  let v6109_r0 : BitVec 32 := Scalar.remsi v6108_r0 c2_i32_2078_r0
  let v6113_r0 : Index := Scalar.indexCast v6109_r0
  let c1280_2082_r0 : Index := 1280#32
  let c0_2083_r0 : Index := 0#32
  ![v6113_r0.toNat, 1280, 0]
def k0_off150 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2073_r0 : BitVec 32 := 1#32
  let v6103_r0 : BitVec 32 := Scalar.addi arg13_r0 c1_i32_2073_r0
  let c64_i32_2074_r0 : BitVec 32 := 64#32
  let v6104_r0 : BitVec 32 := Scalar.divsi v6103_r0 c64_i32_2074_r0
  let c8_i32_2075_r0 : BitVec 32 := 8#32
  let v6105_r0 : BitVec 32 := Scalar.muli v6104_r0 c8_i32_2075_r0
  let c1_i32_2076_r0 : BitVec 32 := 1#32
  let v6106_r0 : BitVec 32 := Scalar.addi arg13_r0 c1_i32_2076_r0
  let c8_i32_2077_r0 : BitVec 32 := 8#32
  let v6107_r0 : BitVec 32 := Scalar.remsi v6106_r0 c8_i32_2077_r0
  let v6108_r0 : BitVec 32 := Scalar.addi v6105_r0 v6107_r0
  let c2_i32_2078_r0 : BitVec 32 := 2#32
  let v6109_r0 : BitVec 32 := Scalar.remsi v6108_r0 c2_i32_2078_r0
  let v6116_r0 : Index := Scalar.indexCast v6109_r0
  let c1280_2084_r0 : Index := 1280#32
  let c0_2085_r0 : Index := 0#32
  ![v6116_r0.toNat, 1280, 0]
def k0_off151 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6550_r0 : Index := Scalar.indexCast v3735_r0
  let c0_2217_r0 : Index := 0#32
  let c1536_2218_r0 : Index := 1536#32
  ![v6550_r0.toNat, 0, 1536]
def k0_off152 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6563_r0 : Index := Scalar.indexCast v3735_r0
  let c240_2227_r0 : Index := 240#32
  let c1536_2228_r0 : Index := 1536#32
  ![v6563_r0.toNat, 240, 1536]
def k0_off153 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6566_r0 : Index := Scalar.indexCast v3735_r0
  let c480_2229_r0 : Index := 480#32
  let c1536_2230_r0 : Index := 1536#32
  ![v6566_r0.toNat, 480, 1536]
def k0_off154 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6569_r0 : Index := Scalar.indexCast v3735_r0
  let c720_2231_r0 : Index := 720#32
  let c1536_2232_r0 : Index := 1536#32
  ![v6569_r0.toNat, 720, 1536]
def k0_off155 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2233_r0 : BitVec 32 := 1#32
  let v6572_r0 : BitVec 32 := Scalar.addi arg13_r0 c1_i32_2233_r0
  let c64_i32_2234_r0 : BitVec 32 := 64#32
  let v6573_r0 : BitVec 32 := Scalar.divsi v6572_r0 c64_i32_2234_r0
  let c8_i32_2235_r0 : BitVec 32 := 8#32
  let v6574_r0 : BitVec 32 := Scalar.muli v6573_r0 c8_i32_2235_r0
  let c1_i32_2236_r0 : BitVec 32 := 1#32
  let v6575_r0 : BitVec 32 := Scalar.addi arg13_r0 c1_i32_2236_r0
  let c8_i32_2237_r0 : BitVec 32 := 8#32
  let v6576_r0 : BitVec 32 := Scalar.remsi v6575_r0 c8_i32_2237_r0
  let v6577_r0 : BitVec 32 := Scalar.addi v6574_r0 v6576_r0
  let c2_i32_2238_r0 : BitVec 32 := 2#32
  let v6578_r0 : BitVec 32 := Scalar.remsi v6577_r0 c2_i32_2238_r0
  let v6582_r0 : Index := Scalar.indexCast v6578_r0
  let c1536_2242_r0 : Index := 1536#32
  let c0_2243_r0 : Index := 0#32
  ![v6582_r0.toNat, 1536, 0]
def k0_off156 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2233_r0 : BitVec 32 := 1#32
  let v6572_r0 : BitVec 32 := Scalar.addi arg13_r0 c1_i32_2233_r0
  let c64_i32_2234_r0 : BitVec 32 := 64#32
  let v6573_r0 : BitVec 32 := Scalar.divsi v6572_r0 c64_i32_2234_r0
  let c8_i32_2235_r0 : BitVec 32 := 8#32
  let v6574_r0 : BitVec 32 := Scalar.muli v6573_r0 c8_i32_2235_r0
  let c1_i32_2236_r0 : BitVec 32 := 1#32
  let v6575_r0 : BitVec 32 := Scalar.addi arg13_r0 c1_i32_2236_r0
  let c8_i32_2237_r0 : BitVec 32 := 8#32
  let v6576_r0 : BitVec 32 := Scalar.remsi v6575_r0 c8_i32_2237_r0
  let v6577_r0 : BitVec 32 := Scalar.addi v6574_r0 v6576_r0
  let c2_i32_2238_r0 : BitVec 32 := 2#32
  let v6578_r0 : BitVec 32 := Scalar.remsi v6577_r0 c2_i32_2238_r0
  let v6585_r0 : Index := Scalar.indexCast v6578_r0
  let c1536_2244_r0 : Index := 1536#32
  let c0_2245_r0 : Index := 0#32
  ![v6585_r0.toNat, 1536, 0]
def k0_off157 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7019_r0 : Index := Scalar.indexCast v3735_r0
  let c0_2377_r0 : Index := 0#32
  let c1792_2378_r0 : Index := 1792#32
  ![v7019_r0.toNat, 0, 1792]
def k0_off158 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7032_r0 : Index := Scalar.indexCast v3735_r0
  let c240_2387_r0 : Index := 240#32
  let c1792_2388_r0 : Index := 1792#32
  ![v7032_r0.toNat, 240, 1792]
def k0_off159 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7035_r0 : Index := Scalar.indexCast v3735_r0
  let c480_2389_r0 : Index := 480#32
  let c1792_2390_r0 : Index := 1792#32
  ![v7035_r0.toNat, 480, 1792]
def k0_off160 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7038_r0 : Index := Scalar.indexCast v3735_r0
  let c720_2391_r0 : Index := 720#32
  let c1792_2392_r0 : Index := 1792#32
  ![v7038_r0.toNat, 720, 1792]
def k0_off161 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2393_r0 : BitVec 32 := 1#32
  let v7041_r0 : BitVec 32 := Scalar.addi arg13_r0 c1_i32_2393_r0
  let c64_i32_2394_r0 : BitVec 32 := 64#32
  let v7042_r0 : BitVec 32 := Scalar.divsi v7041_r0 c64_i32_2394_r0
  let c8_i32_2395_r0 : BitVec 32 := 8#32
  let v7043_r0 : BitVec 32 := Scalar.muli v7042_r0 c8_i32_2395_r0
  let c1_i32_2396_r0 : BitVec 32 := 1#32
  let v7044_r0 : BitVec 32 := Scalar.addi arg13_r0 c1_i32_2396_r0
  let c8_i32_2397_r0 : BitVec 32 := 8#32
  let v7045_r0 : BitVec 32 := Scalar.remsi v7044_r0 c8_i32_2397_r0
  let v7046_r0 : BitVec 32 := Scalar.addi v7043_r0 v7045_r0
  let c2_i32_2398_r0 : BitVec 32 := 2#32
  let v7047_r0 : BitVec 32 := Scalar.remsi v7046_r0 c2_i32_2398_r0
  let v7051_r0 : Index := Scalar.indexCast v7047_r0
  let c1792_2402_r0 : Index := 1792#32
  let c0_2403_r0 : Index := 0#32
  ![v7051_r0.toNat, 1792, 0]
def k0_off162 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2393_r0 : BitVec 32 := 1#32
  let v7041_r0 : BitVec 32 := Scalar.addi arg13_r0 c1_i32_2393_r0
  let c64_i32_2394_r0 : BitVec 32 := 64#32
  let v7042_r0 : BitVec 32 := Scalar.divsi v7041_r0 c64_i32_2394_r0
  let c8_i32_2395_r0 : BitVec 32 := 8#32
  let v7043_r0 : BitVec 32 := Scalar.muli v7042_r0 c8_i32_2395_r0
  let c1_i32_2396_r0 : BitVec 32 := 1#32
  let v7044_r0 : BitVec 32 := Scalar.addi arg13_r0 c1_i32_2396_r0
  let c8_i32_2397_r0 : BitVec 32 := 8#32
  let v7045_r0 : BitVec 32 := Scalar.remsi v7044_r0 c8_i32_2397_r0
  let v7046_r0 : BitVec 32 := Scalar.addi v7043_r0 v7045_r0
  let c2_i32_2398_r0 : BitVec 32 := 2#32
  let v7047_r0 : BitVec 32 := Scalar.remsi v7046_r0 c2_i32_2398_r0
  let v7054_r0 : Index := Scalar.indexCast v7047_r0
  let c1792_2404_r0 : Index := 1792#32
  let c0_2405_r0 : Index := 0#32
  ![v7054_r0.toNat, 1792, 0]
def k0_cond9 (k0_t1 : Fin k0_t1_loop.trips) : BitVec 1 :=
  let c0_i32_1169_r0 : BitVec 32 := 0#32
  let c1_i32_1171_r0 : BitVec 32 := 1#32
  let arg13_r0 : BitVec 32 := Scf.iv c0_i32_1169_r0 c1_i32_1171_r0 k0_t1
  let c1_i32_1205_r0 : BitVec 32 := 1#32
  let v3661_r0 : BitVec 32 := Scalar.addi arg13_r0 c1_i32_1205_r0
  let c64_i32_1206_r0 : BitVec 32 := 64#32
  let v3662_r0 : BitVec 32 := Scalar.remsi v3661_r0 c64_i32_1206_r0
  let c8_i32_1207_r0 : BitVec 32 := 8#32
  let v3663_r0 : BitVec 1 := Scalar.cmpi .slt v3662_r0 c8_i32_1207_r0
  let c1_i32_1208_r0 : BitVec 32 := 1#32
  let v3664_r0 : BitVec 32 := Scalar.addi arg13_r0 c1_i32_1208_r0
  let c256_i32_1209_r0 : BitVec 32 := 256#32
  let v3665_r0 : BitVec 1 := Scalar.cmpi .slt v3664_r0 c256_i32_1209_r0
  let v3666_r0 : BitVec 1 := Scalar.andi v3663_r0 v3665_r0
  let true_1250_r0 : BitVec 1 := 1#1
  let v3727_r0 : BitVec 1 := Scalar.xori v3666_r0 true_1250_r0
  let true_1251_r0 : BitVec 1 := 1#1
  let v3728_r0 : BitVec 1 := Scalar.xori v3727_r0 true_1251_r0
  let c8_i32_1203_r0 : BitVec 32 := 8#32
  let v3659_r0 : BitVec 32 := Scalar.remsi arg13_r0 c8_i32_1203_r0
  let c0_i32_1210_r0 : BitVec 32 := 0#32
  let v3667_r0 : BitVec 1 := Scalar.cmpi .eq v3659_r0 c0_i32_1210_r0
  let true_1252_r0 : BitVec 1 := 1#1
  let v3729_r0 : BitVec 1 := Scalar.xori v3667_r0 true_1252_r0
  let true_1253_r0 : BitVec 1 := 1#1
  let v3730_r0 : BitVec 1 := Scalar.xori v3729_r0 true_1253_r0
  let v3731_r0 : BitVec 1 := Scalar.andi v3728_r0 v3730_r0
  let v3732_r0 : BitVec 32 := Scalar.extui v3731_r0
  let c0_i32_1254_r0 : BitVec 32 := 0#32
  let v3733_r0 : BitVec 1 := Scalar.cmpi .ne v3732_r0 c0_i32_1254_r0
  v3733_r0

def k0_off163 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3746_r0 : Index := Scalar.indexCast v3735_r0
  let c0_1261_r0 : Index := 0#32
  let c0_1262_r0 : Index := 0#32
  ![v3746_r0.toNat, 0, 0]
def k0_off164 (k0_t1 : Fin k0_t1_loop.trips) (c0_i32_1264_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1263_r0 : BitVec 32 := 8#32
  let v3749_r0 : BitVec 32 := Scalar.muli v3734_r0 c8_i32_1263_r0
  let v3750_r0 : BitVec 32 := Scalar.addi v3749_r0 c0_i32_1264_r0
  let c1_i32_1265_r0 : BitVec 32 := 1#32
  let v3751_r0 : BitVec 32 := Scalar.addi v3750_r0 c1_i32_1265_r0
  let c64_i32_1266_r0 : BitVec 32 := 64#32
  let v3752_r0 : BitVec 32 := Scalar.remsi v3751_r0 c64_i32_1266_r0
  let v3753_r0 : Index := Scalar.indexCast v3752_r0
  let c0_1267_r0 : Index := 0#32
  let c0_1268_r0 : Index := 0#32
  ![v3753_r0.toNat, 0, 0]
def k0_off165 (k0_t1 : Fin k0_t1_loop.trips) (c0_i32_1264_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c8_i32_1255_r0 : BitVec 32 := 8#32
  let v3734_r0 : BitVec 32 := Scalar.remsi arg13_r0 c8_i32_1255_r0
  let c8_i32_1263_r0 : BitVec 32 := 8#32
  let v3749_r0 : BitVec 32 := Scalar.muli v3734_r0 c8_i32_1263_r0
  let v3750_r0 : BitVec 32 := Scalar.addi v3749_r0 c0_i32_1264_r0
  let c1_i32_1265_r0 : BitVec 32 := 1#32
  let v3751_r0 : BitVec 32 := Scalar.addi v3750_r0 c1_i32_1265_r0
  let c64_i32_1266_r0 : BitVec 32 := 64#32
  let v3752_r0 : BitVec 32 := Scalar.remsi v3751_r0 c64_i32_1266_r0
  let v3756_r0 : Index := Scalar.indexCast v3752_r0
  let c0_1269_r0 : Index := 0#32
  let c256_1270_r0 : Index := 256#32
  ![v3756_r0.toNat, 0, 256]
def k0_off166 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3769_r0 : Index := Scalar.indexCast v3735_r0
  let c240_1275_r0 : Index := 240#32
  let c0_1276_r0 : Index := 0#32
  ![v3769_r0.toNat, 240, 0]
def k0_off167 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3782_r0 : Index := Scalar.indexCast v3735_r0
  let c480_1281_r0 : Index := 480#32
  let c0_1282_r0 : Index := 0#32
  ![v3782_r0.toNat, 480, 0]
def k0_off168 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v3795_r0 : Index := Scalar.indexCast v3735_r0
  let c720_1287_r0 : Index := 720#32
  let c0_1288_r0 : Index := 0#32
  ![v3795_r0.toNat, 720, 0]
def k0_off169 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1289_r0 : BitVec 32 := 1#32
  let v3798_r0 : BitVec 32 := Scalar.addi arg13_r0 c1_i32_1289_r0
  let c64_i32_1290_r0 : BitVec 32 := 64#32
  let v3799_r0 : BitVec 32 := Scalar.divsi v3798_r0 c64_i32_1290_r0
  let c8_i32_1291_r0 : BitVec 32 := 8#32
  let v3800_r0 : BitVec 32 := Scalar.muli v3799_r0 c8_i32_1291_r0
  let c1_i32_1292_r0 : BitVec 32 := 1#32
  let v3801_r0 : BitVec 32 := Scalar.addi arg13_r0 c1_i32_1292_r0
  let c8_i32_1293_r0 : BitVec 32 := 8#32
  let v3802_r0 : BitVec 32 := Scalar.remsi v3801_r0 c8_i32_1293_r0
  let v3803_r0 : BitVec 32 := Scalar.addi v3800_r0 v3802_r0
  let c2_i32_1294_r0 : BitVec 32 := 2#32
  let v3804_r0 : BitVec 32 := Scalar.remsi v3803_r0 c2_i32_1294_r0
  let v3808_r0 : Index := Scalar.indexCast v3804_r0
  let c0_1298_r0 : Index := 0#32
  let c0_1299_r0 : Index := 0#32
  ![v3808_r0.toNat, 0, 0]
def k0_off170 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1289_r0 : BitVec 32 := 1#32
  let v3798_r0 : BitVec 32 := Scalar.addi arg13_r0 c1_i32_1289_r0
  let c64_i32_1290_r0 : BitVec 32 := 64#32
  let v3799_r0 : BitVec 32 := Scalar.divsi v3798_r0 c64_i32_1290_r0
  let c8_i32_1291_r0 : BitVec 32 := 8#32
  let v3800_r0 : BitVec 32 := Scalar.muli v3799_r0 c8_i32_1291_r0
  let c1_i32_1292_r0 : BitVec 32 := 1#32
  let v3801_r0 : BitVec 32 := Scalar.addi arg13_r0 c1_i32_1292_r0
  let c8_i32_1293_r0 : BitVec 32 := 8#32
  let v3802_r0 : BitVec 32 := Scalar.remsi v3801_r0 c8_i32_1293_r0
  let v3803_r0 : BitVec 32 := Scalar.addi v3800_r0 v3802_r0
  let c2_i32_1294_r0 : BitVec 32 := 2#32
  let v3804_r0 : BitVec 32 := Scalar.remsi v3803_r0 c2_i32_1294_r0
  let v3811_r0 : Index := Scalar.indexCast v3804_r0
  let c0_1300_r0 : Index := 0#32
  let c0_1301_r0 : Index := 0#32
  ![v3811_r0.toNat, 0, 0]
def k0_off171 (k0_t1 : Fin k0_t1_loop.trips) (c0_i32_1430_r0 : BitVec 32) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1289_r0 : BitVec 32 := 1#32
  let v3798_r0 : BitVec 32 := Scalar.addi arg13_r0 c1_i32_1289_r0
  let c64_i32_1290_r0 : BitVec 32 := 64#32
  let v3799_r0 : BitVec 32 := Scalar.divsi v3798_r0 c64_i32_1290_r0
  let c8_i32_1291_r0 : BitVec 32 := 8#32
  let v3800_r0 : BitVec 32 := Scalar.muli v3799_r0 c8_i32_1291_r0
  let c1_i32_1292_r0 : BitVec 32 := 1#32
  let v3801_r0 : BitVec 32 := Scalar.addi arg13_r0 c1_i32_1292_r0
  let c8_i32_1293_r0 : BitVec 32 := 8#32
  let v3802_r0 : BitVec 32 := Scalar.remsi v3801_r0 c8_i32_1293_r0
  let v3803_r0 : BitVec 32 := Scalar.addi v3800_r0 v3802_r0
  let c8_i32_1295_r0 : BitVec 32 := 8#32
  let v3805_r0 : BitVec 32 := Scalar.remsi v3803_r0 c8_i32_1295_r0
  let c8_i32_1429_r0 : BitVec 32 := 8#32
  let v4239_r0 : BitVec 32 := Scalar.muli v3805_r0 c8_i32_1429_r0
  let v4240_r0 : BitVec 32 := Scalar.addi v4239_r0 c0_i32_1430_r0
  let v4241_r0 : Index := Scalar.indexCast v4240_r0
  let c0_1431_r0 : Index := 0#32
  let c0_1432_r0 : Index := 0#32
  ![v4241_r0.toNat, 0, 0]
def k0_off172 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4245_r0 : Index := Scalar.indexCast v3735_r0
  let c0_1433_r0 : Index := 0#32
  let c256_1434_r0 : Index := 256#32
  ![v4245_r0.toNat, 0, 256]
def k0_off173 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4258_r0 : Index := Scalar.indexCast v3735_r0
  let c240_1443_r0 : Index := 240#32
  let c256_1444_r0 : Index := 256#32
  ![v4258_r0.toNat, 240, 256]
def k0_off174 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4261_r0 : Index := Scalar.indexCast v3735_r0
  let c480_1445_r0 : Index := 480#32
  let c256_1446_r0 : Index := 256#32
  ![v4261_r0.toNat, 480, 256]
def k0_off175 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4264_r0 : Index := Scalar.indexCast v3735_r0
  let c720_1447_r0 : Index := 720#32
  let c256_1448_r0 : Index := 256#32
  ![v4264_r0.toNat, 720, 256]
def k0_off176 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1449_r0 : BitVec 32 := 1#32
  let v4267_r0 : BitVec 32 := Scalar.addi arg13_r0 c1_i32_1449_r0
  let c64_i32_1450_r0 : BitVec 32 := 64#32
  let v4268_r0 : BitVec 32 := Scalar.divsi v4267_r0 c64_i32_1450_r0
  let c8_i32_1451_r0 : BitVec 32 := 8#32
  let v4269_r0 : BitVec 32 := Scalar.muli v4268_r0 c8_i32_1451_r0
  let c1_i32_1452_r0 : BitVec 32 := 1#32
  let v4270_r0 : BitVec 32 := Scalar.addi arg13_r0 c1_i32_1452_r0
  let c8_i32_1453_r0 : BitVec 32 := 8#32
  let v4271_r0 : BitVec 32 := Scalar.remsi v4270_r0 c8_i32_1453_r0
  let v4272_r0 : BitVec 32 := Scalar.addi v4269_r0 v4271_r0
  let c2_i32_1454_r0 : BitVec 32 := 2#32
  let v4273_r0 : BitVec 32 := Scalar.remsi v4272_r0 c2_i32_1454_r0
  let v4277_r0 : Index := Scalar.indexCast v4273_r0
  let c256_1458_r0 : Index := 256#32
  let c0_1459_r0 : Index := 0#32
  ![v4277_r0.toNat, 256, 0]
def k0_off177 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1449_r0 : BitVec 32 := 1#32
  let v4267_r0 : BitVec 32 := Scalar.addi arg13_r0 c1_i32_1449_r0
  let c64_i32_1450_r0 : BitVec 32 := 64#32
  let v4268_r0 : BitVec 32 := Scalar.divsi v4267_r0 c64_i32_1450_r0
  let c8_i32_1451_r0 : BitVec 32 := 8#32
  let v4269_r0 : BitVec 32 := Scalar.muli v4268_r0 c8_i32_1451_r0
  let c1_i32_1452_r0 : BitVec 32 := 1#32
  let v4270_r0 : BitVec 32 := Scalar.addi arg13_r0 c1_i32_1452_r0
  let c8_i32_1453_r0 : BitVec 32 := 8#32
  let v4271_r0 : BitVec 32 := Scalar.remsi v4270_r0 c8_i32_1453_r0
  let v4272_r0 : BitVec 32 := Scalar.addi v4269_r0 v4271_r0
  let c2_i32_1454_r0 : BitVec 32 := 2#32
  let v4273_r0 : BitVec 32 := Scalar.remsi v4272_r0 c2_i32_1454_r0
  let v4280_r0 : Index := Scalar.indexCast v4273_r0
  let c256_1460_r0 : Index := 256#32
  let c0_1461_r0 : Index := 0#32
  ![v4280_r0.toNat, 256, 0]
def k0_off178 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4714_r0 : Index := Scalar.indexCast v3735_r0
  let c0_1593_r0 : Index := 0#32
  let c512_1594_r0 : Index := 512#32
  ![v4714_r0.toNat, 0, 512]
def k0_off179 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4727_r0 : Index := Scalar.indexCast v3735_r0
  let c240_1603_r0 : Index := 240#32
  let c512_1604_r0 : Index := 512#32
  ![v4727_r0.toNat, 240, 512]
def k0_off180 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4730_r0 : Index := Scalar.indexCast v3735_r0
  let c480_1605_r0 : Index := 480#32
  let c512_1606_r0 : Index := 512#32
  ![v4730_r0.toNat, 480, 512]
def k0_off181 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v4733_r0 : Index := Scalar.indexCast v3735_r0
  let c720_1607_r0 : Index := 720#32
  let c512_1608_r0 : Index := 512#32
  ![v4733_r0.toNat, 720, 512]
def k0_off182 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1609_r0 : BitVec 32 := 1#32
  let v4736_r0 : BitVec 32 := Scalar.addi arg13_r0 c1_i32_1609_r0
  let c64_i32_1610_r0 : BitVec 32 := 64#32
  let v4737_r0 : BitVec 32 := Scalar.divsi v4736_r0 c64_i32_1610_r0
  let c8_i32_1611_r0 : BitVec 32 := 8#32
  let v4738_r0 : BitVec 32 := Scalar.muli v4737_r0 c8_i32_1611_r0
  let c1_i32_1612_r0 : BitVec 32 := 1#32
  let v4739_r0 : BitVec 32 := Scalar.addi arg13_r0 c1_i32_1612_r0
  let c8_i32_1613_r0 : BitVec 32 := 8#32
  let v4740_r0 : BitVec 32 := Scalar.remsi v4739_r0 c8_i32_1613_r0
  let v4741_r0 : BitVec 32 := Scalar.addi v4738_r0 v4740_r0
  let c2_i32_1614_r0 : BitVec 32 := 2#32
  let v4742_r0 : BitVec 32 := Scalar.remsi v4741_r0 c2_i32_1614_r0
  let v4746_r0 : Index := Scalar.indexCast v4742_r0
  let c512_1618_r0 : Index := 512#32
  let c0_1619_r0 : Index := 0#32
  ![v4746_r0.toNat, 512, 0]
def k0_off183 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1609_r0 : BitVec 32 := 1#32
  let v4736_r0 : BitVec 32 := Scalar.addi arg13_r0 c1_i32_1609_r0
  let c64_i32_1610_r0 : BitVec 32 := 64#32
  let v4737_r0 : BitVec 32 := Scalar.divsi v4736_r0 c64_i32_1610_r0
  let c8_i32_1611_r0 : BitVec 32 := 8#32
  let v4738_r0 : BitVec 32 := Scalar.muli v4737_r0 c8_i32_1611_r0
  let c1_i32_1612_r0 : BitVec 32 := 1#32
  let v4739_r0 : BitVec 32 := Scalar.addi arg13_r0 c1_i32_1612_r0
  let c8_i32_1613_r0 : BitVec 32 := 8#32
  let v4740_r0 : BitVec 32 := Scalar.remsi v4739_r0 c8_i32_1613_r0
  let v4741_r0 : BitVec 32 := Scalar.addi v4738_r0 v4740_r0
  let c2_i32_1614_r0 : BitVec 32 := 2#32
  let v4742_r0 : BitVec 32 := Scalar.remsi v4741_r0 c2_i32_1614_r0
  let v4749_r0 : Index := Scalar.indexCast v4742_r0
  let c512_1620_r0 : Index := 512#32
  let c0_1621_r0 : Index := 0#32
  ![v4749_r0.toNat, 512, 0]
def k0_off184 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5183_r0 : Index := Scalar.indexCast v3735_r0
  let c0_1753_r0 : Index := 0#32
  let c768_1754_r0 : Index := 768#32
  ![v5183_r0.toNat, 0, 768]
def k0_off185 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5196_r0 : Index := Scalar.indexCast v3735_r0
  let c240_1763_r0 : Index := 240#32
  let c768_1764_r0 : Index := 768#32
  ![v5196_r0.toNat, 240, 768]
def k0_off186 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5199_r0 : Index := Scalar.indexCast v3735_r0
  let c480_1765_r0 : Index := 480#32
  let c768_1766_r0 : Index := 768#32
  ![v5199_r0.toNat, 480, 768]
def k0_off187 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5202_r0 : Index := Scalar.indexCast v3735_r0
  let c720_1767_r0 : Index := 720#32
  let c768_1768_r0 : Index := 768#32
  ![v5202_r0.toNat, 720, 768]
def k0_off188 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1769_r0 : BitVec 32 := 1#32
  let v5205_r0 : BitVec 32 := Scalar.addi arg13_r0 c1_i32_1769_r0
  let c64_i32_1770_r0 : BitVec 32 := 64#32
  let v5206_r0 : BitVec 32 := Scalar.divsi v5205_r0 c64_i32_1770_r0
  let c8_i32_1771_r0 : BitVec 32 := 8#32
  let v5207_r0 : BitVec 32 := Scalar.muli v5206_r0 c8_i32_1771_r0
  let c1_i32_1772_r0 : BitVec 32 := 1#32
  let v5208_r0 : BitVec 32 := Scalar.addi arg13_r0 c1_i32_1772_r0
  let c8_i32_1773_r0 : BitVec 32 := 8#32
  let v5209_r0 : BitVec 32 := Scalar.remsi v5208_r0 c8_i32_1773_r0
  let v5210_r0 : BitVec 32 := Scalar.addi v5207_r0 v5209_r0
  let c2_i32_1774_r0 : BitVec 32 := 2#32
  let v5211_r0 : BitVec 32 := Scalar.remsi v5210_r0 c2_i32_1774_r0
  let v5215_r0 : Index := Scalar.indexCast v5211_r0
  let c768_1778_r0 : Index := 768#32
  let c0_1779_r0 : Index := 0#32
  ![v5215_r0.toNat, 768, 0]
def k0_off189 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1769_r0 : BitVec 32 := 1#32
  let v5205_r0 : BitVec 32 := Scalar.addi arg13_r0 c1_i32_1769_r0
  let c64_i32_1770_r0 : BitVec 32 := 64#32
  let v5206_r0 : BitVec 32 := Scalar.divsi v5205_r0 c64_i32_1770_r0
  let c8_i32_1771_r0 : BitVec 32 := 8#32
  let v5207_r0 : BitVec 32 := Scalar.muli v5206_r0 c8_i32_1771_r0
  let c1_i32_1772_r0 : BitVec 32 := 1#32
  let v5208_r0 : BitVec 32 := Scalar.addi arg13_r0 c1_i32_1772_r0
  let c8_i32_1773_r0 : BitVec 32 := 8#32
  let v5209_r0 : BitVec 32 := Scalar.remsi v5208_r0 c8_i32_1773_r0
  let v5210_r0 : BitVec 32 := Scalar.addi v5207_r0 v5209_r0
  let c2_i32_1774_r0 : BitVec 32 := 2#32
  let v5211_r0 : BitVec 32 := Scalar.remsi v5210_r0 c2_i32_1774_r0
  let v5218_r0 : Index := Scalar.indexCast v5211_r0
  let c768_1780_r0 : Index := 768#32
  let c0_1781_r0 : Index := 0#32
  ![v5218_r0.toNat, 768, 0]
def k0_off190 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5652_r0 : Index := Scalar.indexCast v3735_r0
  let c0_1913_r0 : Index := 0#32
  let c1024_1914_r0 : Index := 1024#32
  ![v5652_r0.toNat, 0, 1024]
def k0_off191 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5665_r0 : Index := Scalar.indexCast v3735_r0
  let c240_1923_r0 : Index := 240#32
  let c1024_1924_r0 : Index := 1024#32
  ![v5665_r0.toNat, 240, 1024]
def k0_off192 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5668_r0 : Index := Scalar.indexCast v3735_r0
  let c480_1925_r0 : Index := 480#32
  let c1024_1926_r0 : Index := 1024#32
  ![v5668_r0.toNat, 480, 1024]
def k0_off193 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v5671_r0 : Index := Scalar.indexCast v3735_r0
  let c720_1927_r0 : Index := 720#32
  let c1024_1928_r0 : Index := 1024#32
  ![v5671_r0.toNat, 720, 1024]
def k0_off194 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1929_r0 : BitVec 32 := 1#32
  let v5674_r0 : BitVec 32 := Scalar.addi arg13_r0 c1_i32_1929_r0
  let c64_i32_1930_r0 : BitVec 32 := 64#32
  let v5675_r0 : BitVec 32 := Scalar.divsi v5674_r0 c64_i32_1930_r0
  let c8_i32_1931_r0 : BitVec 32 := 8#32
  let v5676_r0 : BitVec 32 := Scalar.muli v5675_r0 c8_i32_1931_r0
  let c1_i32_1932_r0 : BitVec 32 := 1#32
  let v5677_r0 : BitVec 32 := Scalar.addi arg13_r0 c1_i32_1932_r0
  let c8_i32_1933_r0 : BitVec 32 := 8#32
  let v5678_r0 : BitVec 32 := Scalar.remsi v5677_r0 c8_i32_1933_r0
  let v5679_r0 : BitVec 32 := Scalar.addi v5676_r0 v5678_r0
  let c2_i32_1934_r0 : BitVec 32 := 2#32
  let v5680_r0 : BitVec 32 := Scalar.remsi v5679_r0 c2_i32_1934_r0
  let v5684_r0 : Index := Scalar.indexCast v5680_r0
  let c1024_1938_r0 : Index := 1024#32
  let c0_1939_r0 : Index := 0#32
  ![v5684_r0.toNat, 1024, 0]
def k0_off195 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_1929_r0 : BitVec 32 := 1#32
  let v5674_r0 : BitVec 32 := Scalar.addi arg13_r0 c1_i32_1929_r0
  let c64_i32_1930_r0 : BitVec 32 := 64#32
  let v5675_r0 : BitVec 32 := Scalar.divsi v5674_r0 c64_i32_1930_r0
  let c8_i32_1931_r0 : BitVec 32 := 8#32
  let v5676_r0 : BitVec 32 := Scalar.muli v5675_r0 c8_i32_1931_r0
  let c1_i32_1932_r0 : BitVec 32 := 1#32
  let v5677_r0 : BitVec 32 := Scalar.addi arg13_r0 c1_i32_1932_r0
  let c8_i32_1933_r0 : BitVec 32 := 8#32
  let v5678_r0 : BitVec 32 := Scalar.remsi v5677_r0 c8_i32_1933_r0
  let v5679_r0 : BitVec 32 := Scalar.addi v5676_r0 v5678_r0
  let c2_i32_1934_r0 : BitVec 32 := 2#32
  let v5680_r0 : BitVec 32 := Scalar.remsi v5679_r0 c2_i32_1934_r0
  let v5687_r0 : Index := Scalar.indexCast v5680_r0
  let c1024_1940_r0 : Index := 1024#32
  let c0_1941_r0 : Index := 0#32
  ![v5687_r0.toNat, 1024, 0]
def k0_off196 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6121_r0 : Index := Scalar.indexCast v3735_r0
  let c0_2073_r0 : Index := 0#32
  let c1280_2074_r0 : Index := 1280#32
  ![v6121_r0.toNat, 0, 1280]
def k0_off197 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6134_r0 : Index := Scalar.indexCast v3735_r0
  let c240_2083_r0 : Index := 240#32
  let c1280_2084_r0 : Index := 1280#32
  ![v6134_r0.toNat, 240, 1280]
def k0_off198 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6137_r0 : Index := Scalar.indexCast v3735_r0
  let c480_2085_r0 : Index := 480#32
  let c1280_2086_r0 : Index := 1280#32
  ![v6137_r0.toNat, 480, 1280]
def k0_off199 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6140_r0 : Index := Scalar.indexCast v3735_r0
  let c720_2087_r0 : Index := 720#32
  let c1280_2088_r0 : Index := 1280#32
  ![v6140_r0.toNat, 720, 1280]
def k0_off200 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2089_r0 : BitVec 32 := 1#32
  let v6143_r0 : BitVec 32 := Scalar.addi arg13_r0 c1_i32_2089_r0
  let c64_i32_2090_r0 : BitVec 32 := 64#32
  let v6144_r0 : BitVec 32 := Scalar.divsi v6143_r0 c64_i32_2090_r0
  let c8_i32_2091_r0 : BitVec 32 := 8#32
  let v6145_r0 : BitVec 32 := Scalar.muli v6144_r0 c8_i32_2091_r0
  let c1_i32_2092_r0 : BitVec 32 := 1#32
  let v6146_r0 : BitVec 32 := Scalar.addi arg13_r0 c1_i32_2092_r0
  let c8_i32_2093_r0 : BitVec 32 := 8#32
  let v6147_r0 : BitVec 32 := Scalar.remsi v6146_r0 c8_i32_2093_r0
  let v6148_r0 : BitVec 32 := Scalar.addi v6145_r0 v6147_r0
  let c2_i32_2094_r0 : BitVec 32 := 2#32
  let v6149_r0 : BitVec 32 := Scalar.remsi v6148_r0 c2_i32_2094_r0
  let v6153_r0 : Index := Scalar.indexCast v6149_r0
  let c1280_2098_r0 : Index := 1280#32
  let c0_2099_r0 : Index := 0#32
  ![v6153_r0.toNat, 1280, 0]
def k0_off201 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2089_r0 : BitVec 32 := 1#32
  let v6143_r0 : BitVec 32 := Scalar.addi arg13_r0 c1_i32_2089_r0
  let c64_i32_2090_r0 : BitVec 32 := 64#32
  let v6144_r0 : BitVec 32 := Scalar.divsi v6143_r0 c64_i32_2090_r0
  let c8_i32_2091_r0 : BitVec 32 := 8#32
  let v6145_r0 : BitVec 32 := Scalar.muli v6144_r0 c8_i32_2091_r0
  let c1_i32_2092_r0 : BitVec 32 := 1#32
  let v6146_r0 : BitVec 32 := Scalar.addi arg13_r0 c1_i32_2092_r0
  let c8_i32_2093_r0 : BitVec 32 := 8#32
  let v6147_r0 : BitVec 32 := Scalar.remsi v6146_r0 c8_i32_2093_r0
  let v6148_r0 : BitVec 32 := Scalar.addi v6145_r0 v6147_r0
  let c2_i32_2094_r0 : BitVec 32 := 2#32
  let v6149_r0 : BitVec 32 := Scalar.remsi v6148_r0 c2_i32_2094_r0
  let v6156_r0 : Index := Scalar.indexCast v6149_r0
  let c1280_2100_r0 : Index := 1280#32
  let c0_2101_r0 : Index := 0#32
  ![v6156_r0.toNat, 1280, 0]
def k0_off202 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6590_r0 : Index := Scalar.indexCast v3735_r0
  let c0_2233_r0 : Index := 0#32
  let c1536_2234_r0 : Index := 1536#32
  ![v6590_r0.toNat, 0, 1536]
def k0_off203 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6603_r0 : Index := Scalar.indexCast v3735_r0
  let c240_2243_r0 : Index := 240#32
  let c1536_2244_r0 : Index := 1536#32
  ![v6603_r0.toNat, 240, 1536]
def k0_off204 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6606_r0 : Index := Scalar.indexCast v3735_r0
  let c480_2245_r0 : Index := 480#32
  let c1536_2246_r0 : Index := 1536#32
  ![v6606_r0.toNat, 480, 1536]
def k0_off205 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v6609_r0 : Index := Scalar.indexCast v3735_r0
  let c720_2247_r0 : Index := 720#32
  let c1536_2248_r0 : Index := 1536#32
  ![v6609_r0.toNat, 720, 1536]
def k0_off206 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2249_r0 : BitVec 32 := 1#32
  let v6612_r0 : BitVec 32 := Scalar.addi arg13_r0 c1_i32_2249_r0
  let c64_i32_2250_r0 : BitVec 32 := 64#32
  let v6613_r0 : BitVec 32 := Scalar.divsi v6612_r0 c64_i32_2250_r0
  let c8_i32_2251_r0 : BitVec 32 := 8#32
  let v6614_r0 : BitVec 32 := Scalar.muli v6613_r0 c8_i32_2251_r0
  let c1_i32_2252_r0 : BitVec 32 := 1#32
  let v6615_r0 : BitVec 32 := Scalar.addi arg13_r0 c1_i32_2252_r0
  let c8_i32_2253_r0 : BitVec 32 := 8#32
  let v6616_r0 : BitVec 32 := Scalar.remsi v6615_r0 c8_i32_2253_r0
  let v6617_r0 : BitVec 32 := Scalar.addi v6614_r0 v6616_r0
  let c2_i32_2254_r0 : BitVec 32 := 2#32
  let v6618_r0 : BitVec 32 := Scalar.remsi v6617_r0 c2_i32_2254_r0
  let v6622_r0 : Index := Scalar.indexCast v6618_r0
  let c1536_2258_r0 : Index := 1536#32
  let c0_2259_r0 : Index := 0#32
  ![v6622_r0.toNat, 1536, 0]
def k0_off207 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2249_r0 : BitVec 32 := 1#32
  let v6612_r0 : BitVec 32 := Scalar.addi arg13_r0 c1_i32_2249_r0
  let c64_i32_2250_r0 : BitVec 32 := 64#32
  let v6613_r0 : BitVec 32 := Scalar.divsi v6612_r0 c64_i32_2250_r0
  let c8_i32_2251_r0 : BitVec 32 := 8#32
  let v6614_r0 : BitVec 32 := Scalar.muli v6613_r0 c8_i32_2251_r0
  let c1_i32_2252_r0 : BitVec 32 := 1#32
  let v6615_r0 : BitVec 32 := Scalar.addi arg13_r0 c1_i32_2252_r0
  let c8_i32_2253_r0 : BitVec 32 := 8#32
  let v6616_r0 : BitVec 32 := Scalar.remsi v6615_r0 c8_i32_2253_r0
  let v6617_r0 : BitVec 32 := Scalar.addi v6614_r0 v6616_r0
  let c2_i32_2254_r0 : BitVec 32 := 2#32
  let v6618_r0 : BitVec 32 := Scalar.remsi v6617_r0 c2_i32_2254_r0
  let v6625_r0 : Index := Scalar.indexCast v6618_r0
  let c1536_2260_r0 : Index := 1536#32
  let c0_2261_r0 : Index := 0#32
  ![v6625_r0.toNat, 1536, 0]
def k0_off208 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7059_r0 : Index := Scalar.indexCast v3735_r0
  let c0_2393_r0 : Index := 0#32
  let c1792_2394_r0 : Index := 1792#32
  ![v7059_r0.toNat, 0, 1792]
def k0_off209 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7072_r0 : Index := Scalar.indexCast v3735_r0
  let c240_2403_r0 : Index := 240#32
  let c1792_2404_r0 : Index := 1792#32
  ![v7072_r0.toNat, 240, 1792]
def k0_off210 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7075_r0 : Index := Scalar.indexCast v3735_r0
  let c480_2405_r0 : Index := 480#32
  let c1792_2406_r0 : Index := 1792#32
  ![v7075_r0.toNat, 480, 1792]
def k0_off211 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c3_i32_1256_r0 : BitVec 32 := 3#32
  let v3735_r0 : BitVec 32 := Scalar.remsi arg13_r0 c3_i32_1256_r0
  let v7078_r0 : Index := Scalar.indexCast v3735_r0
  let c720_2407_r0 : Index := 720#32
  let c1792_2408_r0 : Index := 1792#32
  ![v7078_r0.toNat, 720, 1792]
def k0_off212 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2409_r0 : BitVec 32 := 1#32
  let v7081_r0 : BitVec 32 := Scalar.addi arg13_r0 c1_i32_2409_r0
  let c64_i32_2410_r0 : BitVec 32 := 64#32
  let v7082_r0 : BitVec 32 := Scalar.divsi v7081_r0 c64_i32_2410_r0
  let c8_i32_2411_r0 : BitVec 32 := 8#32
  let v7083_r0 : BitVec 32 := Scalar.muli v7082_r0 c8_i32_2411_r0
  let c1_i32_2412_r0 : BitVec 32 := 1#32
  let v7084_r0 : BitVec 32 := Scalar.addi arg13_r0 c1_i32_2412_r0
  let c8_i32_2413_r0 : BitVec 32 := 8#32
  let v7085_r0 : BitVec 32 := Scalar.remsi v7084_r0 c8_i32_2413_r0
  let v7086_r0 : BitVec 32 := Scalar.addi v7083_r0 v7085_r0
  let c2_i32_2414_r0 : BitVec 32 := 2#32
  let v7087_r0 : BitVec 32 := Scalar.remsi v7086_r0 c2_i32_2414_r0
  let v7091_r0 : Index := Scalar.indexCast v7087_r0
  let c1792_2418_r0 : Index := 1792#32
  let c0_2419_r0 : Index := 0#32
  ![v7091_r0.toNat, 1792, 0]
def k0_off213 (k0_t1 : Fin k0_t1_loop.trips) : Fin 3 → Nat :=
  let c0_i32_1169_r0 : BitVec 32 := 0#32
  let c1_i32_1171_r0 : BitVec 32 := 1#32
  let arg13_r0 : BitVec 32 := Scf.iv c0_i32_1169_r0 c1_i32_1171_r0 k0_t1
  let c1_i32_2409_r0 : BitVec 32 := 1#32
  let v7081_r0 : BitVec 32 := Scalar.addi arg13_r0 c1_i32_2409_r0
  let c64_i32_2410_r0 : BitVec 32 := 64#32
  let v7082_r0 : BitVec 32 := Scalar.divsi v7081_r0 c64_i32_2410_r0
  let c8_i32_2411_r0 : BitVec 32 := 8#32
  let v7083_r0 : BitVec 32 := Scalar.muli v7082_r0 c8_i32_2411_r0
  let c1_i32_2412_r0 : BitVec 32 := 1#32
  let v7084_r0 : BitVec 32 := Scalar.addi arg13_r0 c1_i32_2412_r0
  let c8_i32_2413_r0 : BitVec 32 := 8#32
  let v7085_r0 : BitVec 32 := Scalar.remsi v7084_r0 c8_i32_2413_r0
  let v7086_r0 : BitVec 32 := Scalar.addi v7083_r0 v7085_r0
  let c2_i32_2414_r0 : BitVec 32 := 2#32
  let v7087_r0 : BitVec 32 := Scalar.remsi v7086_r0 c2_i32_2414_r0
  let v7094_r0 : Index := Scalar.indexCast v7087_r0
  let c1792_2420_r0 : Index := 1792#32
  let c0_2421_r0 : Index := 0#32
  ![v7094_r0.toNat, 1792, 0]
def k0_off214 (c30_i32_1174_r0 : BitVec 32) (c30_i32_r0 : BitVec 32) : Fin 2 → Nat :=
  let c8_i32_1175_r0 : BitVec 32 := 8#32
  let v3601_r0 : BitVec 32 := Scalar.remsi c30_i32_1174_r0 c8_i32_1175_r0
  let c960_i32_1176_r0 : BitVec 32 := 960#32
  let v3602_r0 : BitVec 32 := Scalar.muli v3601_r0 c960_i32_1176_r0
  let c8_i32_1173_r0 : BitVec 32 := 8#32
  let v3600_r0 : BitVec 32 := Scalar.divsi c30_i32_r0 c8_i32_1173_r0
  let c512_i32_r0 : BitVec 32 := 512#32
  let v3603_r0 : BitVec 32 := Scalar.muli v3600_r0 c512_i32_r0
  ![v3602_r0.toNat, v3603_r0.toNat]
def k0_off214_at (r : Fin 2) : BitVec 32 × BitVec 32 :=
  if r.val < 1 then
    (30#32, 30#32)
  else
    (31#32, 31#32)
-- ==== ReferenceIdeal.lean ====
abbrev S6x1280x16384 : Shape := ⟨3, ![6, 1280, 16384]⟩
abbrev S16384x1024 : Shape := ⟨2, ![16384, 1024]⟩
abbrev S16384x64 : Shape := ⟨2, ![16384, 64]⟩
abbrev S_ : Shape := ⟨0, ![]⟩
abbrev S16384x1024x1 : Shape := ⟨3, ![16384, 1024, 1]⟩
abbrev S16384x1024x2 : Shape := ⟨3, ![16384, 1024, 2]⟩
abbrev S16384x64x32 : Shape := ⟨3, ![16384, 64, 32]⟩
abbrev S16384x64x1 : Shape := ⟨3, ![16384, 64, 1]⟩
abbrev S16384x2048 : Shape := ⟨2, ![16384, 2048]⟩
abbrev S6x1280x2048 : Shape := ⟨3, ![6, 1280, 2048]⟩
abbrev S7680x2048 : Shape := ⟨2, ![7680, 2048]⟩

abbrev nBuf : Space → Nat
  | .hbm => 75
  | .vmem => 0
  | .smem => 0
  | _ => 0

abbrev bufTy : (tb : Table) → Fin (tcTables nBuf tb) → BufTy
  | .hbm, ⟨0, _⟩ => ⟨S6x1280x16384, .bf16⟩
  | .hbm, ⟨1, _⟩ => ⟨S16384x1024, .i8⟩
  | .hbm, ⟨2, _⟩ => ⟨S16384x64, .i8⟩
  | .hbm, ⟨3, _⟩ => ⟨S16384x64, .i32⟩
  | .hbm, ⟨4, _⟩ => ⟨S_, .f32⟩
  | .hbm, ⟨5, _⟩ => ⟨S16384x64, .f32⟩
  | .hbm, ⟨6, _⟩ => ⟨S_, .i32⟩
  | .hbm, ⟨7, _⟩ => ⟨S16384x64, .i32⟩
  | .hbm, ⟨8, _⟩ => ⟨S16384x64, .i32⟩
  | .hbm, ⟨9, _⟩ => ⟨S16384x64, .f32⟩
  | .hbm, ⟨10, _⟩ => ⟨S16384x64, .f32⟩
  | .hbm, ⟨11, _⟩ => ⟨S_, .i32⟩
  | .hbm, ⟨12, _⟩ => ⟨S16384x64, .i32⟩
  | .hbm, ⟨13, _⟩ => ⟨S16384x64, .i1⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S_, .i32⟩
  | .hbm, ⟨18, _⟩ => ⟨S16384x64, .i32⟩
  | .hbm, ⟨19, _⟩ => ⟨S16384x64, .i1⟩
  | .hbm, ⟨20, _⟩ => ⟨S_, .f32⟩
  | .hbm, ⟨21, _⟩ => ⟨S16384x64, .f32⟩
  | .hbm, ⟨22, _⟩ => ⟨S16384x64, .f32⟩
  | .hbm, ⟨23, _⟩ => ⟨S16384x64, .bf16⟩
  | .hbm, ⟨24, _⟩ => ⟨S16384x1024, .i32⟩
  | .hbm, ⟨25, _⟩ => ⟨S_, .i32⟩
  | .hbm, ⟨26, _⟩ => ⟨S16384x1024, .i32⟩
  | .hbm, ⟨27, _⟩ => ⟨S16384x1024, .i32⟩
  | .hbm, ⟨28, _⟩ => ⟨S_, .i32⟩
  | .hbm, ⟨29, _⟩ => ⟨S16384x1024, .i32⟩
  | .hbm, ⟨30, _⟩ => ⟨S16384x1024, .i32⟩
  | .hbm, ⟨31, _⟩ => ⟨S16384x1024x1, .i32⟩
  | .hbm, ⟨32, _⟩ => ⟨S16384x1024x1, .i32⟩
  | .hbm, ⟨33, _⟩ => ⟨S16384x1024x2, .i32⟩
  | .hbm, ⟨34, _⟩ => ⟨S_, .i32⟩
  | .hbm, ⟨35, _⟩ => ⟨S16384x1024x2, .i32⟩
  | .hbm, ⟨36, _⟩ => ⟨S16384x1024x2, .i32⟩
  | .hbm, ⟨37, _⟩ => ⟨S_, .i32⟩
  | .hbm, ⟨38, _⟩ => ⟨S16384x1024x2, .i32⟩
  | .hbm, ⟨39, _⟩ => ⟨S16384x1024x2, .i32⟩
  | .hbm, ⟨40, _⟩ => ⟨S_, .i32⟩
  | .hbm, ⟨41, _⟩ => ⟨S16384x1024x2, .i32⟩
  | .hbm, ⟨42, _⟩ => ⟨S16384x1024x2, .i32⟩
  | .hbm, ⟨43, _⟩ => ⟨S_, .i32⟩
  | .hbm, ⟨44, _⟩ => ⟨S16384x1024x2, .i32⟩
  | .hbm, ⟨45, _⟩ => ⟨S16384x1024x2, .i32⟩
  | .hbm, ⟨46, _⟩ => ⟨S_, .i32⟩
  | .hbm, ⟨47, _⟩ => ⟨S16384x1024x2, .i32⟩
  | .hbm, ⟨48, _⟩ => ⟨S16384x1024x2, .i1⟩
  | .hbm, ⟨49, _⟩ => ⟨S_, .i32⟩
  | .hbm, ⟨50, _⟩ => ⟨S16384x1024x2, .i32⟩
  | .hbm, ⟨51, _⟩ => ⟨S16384x1024x2, .i32⟩
  | .hbm, ⟨52, _⟩ => ⟨S_, .i32⟩
  | .hbm, ⟨53, _⟩ => ⟨S16384x1024x2, .i32⟩
  | .hbm, ⟨54, _⟩ => ⟨S16384x1024x2, .i32⟩
  | .hbm, ⟨55, _⟩ => ⟨S16384x1024x2, .i32⟩
  | .hbm, ⟨56, _⟩ => ⟨S16384x1024x2, .i32⟩
  | .hbm, ⟨57, _⟩ => ⟨S16384x1024x2, .f32⟩
  | .hbm, ⟨58, _⟩ => ⟨S_, .f32⟩
  | .hbm, ⟨59, _⟩ => ⟨S16384x1024x2, .f32⟩
  | .hbm, ⟨60, _⟩ => ⟨S16384x1024x2, .f32⟩
  | .hbm, ⟨61, _⟩ => ⟨S_, .i32⟩
  | .hbm, ⟨62, _⟩ => ⟨S16384x1024x2, .i32⟩
  | .hbm, ⟨63, _⟩ => ⟨S16384x1024x2, .i1⟩
  | .hbm, ⟨64, _⟩ => ⟨S16384x1024x2, .f32⟩
  | .hbm, ⟨65, _⟩ => ⟨S16384x1024x2, .f32⟩
  | .hbm, ⟨66, _⟩ => ⟨S16384x1024x2, .bf16⟩
  | .hbm, ⟨67, _⟩ => ⟨S16384x64x32, .bf16⟩
  | .hbm, ⟨68, _⟩ => ⟨S16384x64x1, .bf16⟩
  | .hbm, ⟨69, _⟩ => ⟨S16384x64x32, .bf16⟩
  | .hbm, ⟨70, _⟩ => ⟨S16384x64x32, .bf16⟩
  | .hbm, ⟨71, _⟩ => ⟨S16384x2048, .bf16⟩
  | .hbm, ⟨72, _⟩ => ⟨S6x1280x2048, .f32⟩
  | .hbm, ⟨73, _⟩ => ⟨S7680x2048, .f32⟩
  | .hbm, ⟨74, _⟩ => ⟨S7680x2048, .bf16⟩
  | _, _ => ⟨S6x1280x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_v31 : Ref sig .tc := ⟨.hbm, 47, rfl⟩
abbrev main_v32 : Ref sig .tc := ⟨.hbm, 48, rfl⟩
abbrev main_c_11 : Ref sig .tc := ⟨.hbm, 49, rfl⟩
abbrev main_v33 : Ref sig .tc := ⟨.hbm, 50, rfl⟩
abbrev main_v34 : Ref sig .tc := ⟨.hbm, 51, rfl⟩
abbrev main_c_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_c_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Prog.lean ====
/-  The kernel's loop body in a compact form: one pass of the matrix units, one pop of a strip, one decoded weight tile, and the four forms a step takes. -/
module

public import proofs.«01_k».proof.Proof.Gen.Kernel.Skeleton

@[expose] public section

set_option maxRecDepth 65536

noncomputable section

namespace Cert.Kernel.P

open Idealize.ShloMosaic Idealize.SL.Sem Cert.Kernel.Gen

variable {F : FTy → Type} [FloatOps F]

/-! ## The decoded tile -/

/-- A 32-bit scalar's sign as the printed code computes it. -/
def sgn (x : BitVec 32) : BitVec 32 :=
  Scalar.subi (Scalar.extui (Scalar.cmpi .sgt x 0#32)) (Scalar.extui (Scalar.cmpi .slt x 0#32))

/-- The lane index of a `64 × 128` vector. -/
def lane : IVec S64x128 32 := iota .tc S64x128 32 [1] iota_S64x128_d1_w32

/-- The lane index of a `128 × 128` vector. -/
def lane2 : IVec S128x128 32 := iota .tc S128x128 32 [1] iota_S128x128_d1_w32

/-- Floor division of a lane index by a positive splat, as the printed code computes it. -/
def fdiv (s : Shape) (l : IVec s 32) (d : BitVec 32) : IVec s 32 :=
  select (andi (cmpi .ne (subi (extui 32 (cmpi .sgt l (broadcast s 0#32)) natLt_1_32)
        (extui 32 (cmpi .slt l (broadcast s 0#32)) natLt_1_32)) (broadcast s (sgn d)))
      (cmpi .ne (remsi l (broadcast s d)) (broadcast s 0#32)))
    (subi (divsi l (broadcast s d)) (broadcast s 1#32)) (divsi l (broadcast s d))

/-- An index into a row of 128 entries: the base plus an offset, a negative one wrapped once. -/
def wrapIdx (s : Shape) (b : BitVec 32) (x : IVec s 32) : IVec s 32 :=
  select (cmpi .slt (addi (broadcast s b) x) (broadcast s 0#32))
    (addi (addi (broadcast s b) x) (broadcast s 128#32)) (addi (broadcast s b) x)

/-- The four bits of a code and the constant beside them, as 32-bit words over pairs of rows. -/
def codeBits (src : IVec S64x128 32) (off : BitVec 32) : IVec S128x128 32 :=
  bitcast S128x128 32
    (addi (shli (extsi 16
        (bitcast S256x128 8
          (ori (andi (shrui
              (dynamicGather 1 src (shapeCast S64x128 (shapeCast S64x128x1 (wrapIdx S64x128 off (fdiv S64x128 lane 2#32))
                shapeCasts_S64x128_S64x128x1) shapeCasts_S64x128x1_S64x128))
              (muli (andi lane (broadcast S64x128 1#32)) (broadcast S64x128 4#32)))
            (broadcast S64x128 252645135#32)) (broadcast S64x128 1077952576#32))
          bitcasts_S64x128_w32_S256x128_w8) natLt_8_16) (broadcast S256x128 1#16))
      (broadcast S256x128 16896#16)) bitcasts_S256x128_w16_S128x128_w32

/-- A 32-bit word read as two bf16 of two rows. -/
def asBf (x : IVec S128x128 32) : FVec F S256x128 .bf16 :=
  bitcastToFloat .bf16 (bitcast S256x128 16 x bitcasts_S128x128_w32_S256x128_w16)

/-- The bf16 of exponent and top fraction bit of the code. -/
def normalOf (b : IVec S128x128 32) : FVec F S256x128 .bf16 :=
  asBf (addi (andi (shli b (broadcast S128x128 5#32)) (broadcast S128x128 29360576#32)) (broadcast S128x128 1056980736#32))

/-- The magnitude of the code. -/
def magOf (b : IVec S128x128 32) : FVec F S256x128 .bf16 :=
  minimumf (normalOf b) (subf (addf (normalOf b) (normalOf b)) (broadcast S256x128 (Scalar.ofBits .bf16 0x3F80#16)))

/-- One or minus one by the code's sign bit. -/
def signOf (b : IVec S128x128 32) : FVec F S256x128 .bf16 :=
  asBf (ori (andi (shli b (broadcast S128x128 11#32)) (broadcast S128x128 2147516416#32)) (broadcast S128x128 1065369472#32))

/-- The scale of each element of a column block. -/
def scaleOf (sw : IVec S128x128 32) (fb : BitVec 32) : FVec F S256x128 .bf16 :=
  asBf (dynamicGather 1 sw (shapeCast S128x128 (shapeCast S128x128x1 (wrapIdx S128x128 fb (fdiv S128x128 lane2 32#32))
    shapeCasts_S128x128_S128x128x1) shapeCasts_S128x128x1_S128x128))

/-- 128 columns of a decoded tile. -/
def decCol (src : IVec S64x128 32) (sw : IVec S128x128 32) (off fb : BitVec 32) : FVec F S256x128 .bf16 :=
  mulf (mulf (magOf (codeBits src off)) (signOf (codeBits src off))) (scaleOf sw fb)

/-- The scale bytes as words holding two bf16 of two rows, twice side by side. -/
def scaleWords (s : IVec S256x64 8) : IVec S128x128 32 :=
  concatenate S128x128 1
    [⟨S128x64, shli (bitcast S128x64 32 (extui 16 s natLt_8_16) bitcasts_S256x64_w16_S128x64_w32) (broadcast S128x64 7#32)⟩,
     ⟨S128x64, shli (bitcast S128x64 32 (extui 16 s natLt_8_16) bitcasts_S256x64_w16_S128x64_w32) (broadcast S128x64 7#32)⟩]
    concatenates_S128x64_S128x64_S128x128_d1

/-- The two halves of the code words. -/
def codeLo (c : IVec S256x256 8) : IVec S64x128 32 :=
  extractStridedSlice S64x128 ![0, 0] (bitcast S64x256 32 c bitcasts_S256x256_w8_S64x256_w32) slices_S64x256_o0_0_S64x128
def codeHi (c : IVec S256x256 8) : IVec S64x128 32 :=
  extractStridedSlice S64x128 ![0, 128] (bitcast S64x256 32 c bitcasts_S256x256_w8_S64x256_w32) slices_S64x256_o0_128_S64x128

/-- A decoded tile: 256 rows of the weight, 512 columns. -/
def decTile (c : IVec S256x256 8) (s : IVec S256x64 8) (fb : BitVec 32) : FVec F S256x512 .bf16 :=
  concatenate S256x512 1
    [⟨S256x128, decCol (codeLo c) (scaleWords s) 0#32 (Scalar.addi fb 0#32)⟩,
     ⟨S256x128, decCol (codeLo c) (scaleWords s) 64#32 (Scalar.addi fb 4#32)⟩,
     ⟨S256x128, decCol (codeHi c) (scaleWords s) 0#32 (Scalar.addi fb 8#32)⟩,
     ⟨S256x128, decCol (codeHi c) (scaleWords s) 64#32 (Scalar.addi fb 12#32)⟩]
    concatenates_S256x128_S256x128_S256x128_S256x128_S256x512_d1

/-! ## The pieces of a step -/

/-- A TensorCore program of this kernel. -/
abbrev TC (F : FTy → Type) [FloatOps F] (α : Type) := Prog (TpuEff nD τ sig (Elt F) Λ₀ .tc) α

section Pieces

variable (arg4 : Memref sig .tc .vmem S3x960x2048 .bf16) (arg5 : Memref sig .tc .vmem S2x2048x256 .i8)
  (arg6 : Memref sig .tc .vmem S2x2048x64 .i8) (arg7 : Memref sig .tc .vmem S64x256x512 .bf16) (harg7 : arg7.IsWhole)
  (arg8 : Memref sig .tc .vmem S960x512 .bf16) (harg8 : arg8.IsWhole)

/-- Reads a strip of the left operand. -/
def ldX (o : Fin 3 → ℕ) (h : ∀ a, o a + S1x240x256.size a ≤ S3x960x2048.size a) : TC F (FVec F S240x256 .bf16) := do
  let x : Vec F S1x240x256 .bf16 ← Prog.lift (.load arg4 (Rect.unit (s := S3x960x2048) o S1x240x256.size h).toLoadRect (View.loadsAt_vmem h_S1x240x256))
  pure (shapeCast S240x256 x shapeCasts_S1x240x256_S240x256)

/-- Reads half a weight tile. -/
def ldW (o : Fin 3 → ℕ) (h : ∀ a, o a + S1x256x256.size a ≤ S64x256x512.size a) : TC F (FVec F S256x256 .bf16) := do
  let x : Vec F S1x256x256 .bf16 ← Prog.lift (.load arg7 (Rect.unit (s := S64x256x512) o S1x256x256.size h).toLoadRect (View.loadsAt_vmem h_S1x256x256))
  pure (shapeCast S256x256 x shapeCasts_S1x256x256_S256x256)

/-- The first strip of a pass: load both registers `r`, stage the next weight tile in registers `r'`. -/
def strip0 (r r' : Fin 2) (o : Fin 3 → ℕ) (h : ∀ a, o a + S1x240x256.size a ≤ S3x960x2048.size a)
    (w0 : Fin 3 → ℕ) (g0 : ∀ a, w0 a + S1x256x256.size a ≤ S64x256x512.size a)
    (w1 : Fin 3 → ℕ) (g1 : ∀ a, w1 a + S1x256x256.size a ≤ S64x256x512.size a) (s : Mxu F) : TC F (Mxu F) := do
  let x ← ldX arg4 o h
  let y0 ← ldW arg7 w0 g0
  let s2 ← ((s.accLhs 0 r 0 x fits_0_240).accLhs 1 r 0 x fits_0_240).pushRhs 0 r' false y0
  let y1 ← ldW arg7 w1 g1
  s2.pushRhs 1 r' false y1

/-- A later strip of a pass. -/
def stripA (A : ℕ) (f : Mxu.Fits A 240) (o : Fin 3 → ℕ) (h : ∀ a, o a + S1x240x256.size a ≤ S3x960x2048.size a) (s : Mxu F) : TC F (Mxu F) := do
  let x ← ldX arg4 o h
  let s1 ← s.accLhsLoaded 0 A x f
  s1.accLhsLoaded 1 A x f

/-- One pass. -/
def passP (r r' : Fin 2)
    (o0 : Fin 3 → ℕ) (h0 : ∀ a, o0 a + S1x240x256.size a ≤ S3x960x2048.size a)
    (o1 : Fin 3 → ℕ) (h1 : ∀ a, o1 a + S1x240x256.size a ≤ S3x960x2048.size a)
    (o2 : Fin 3 → ℕ) (h2 : ∀ a, o2 a + S1x240x256.size a ≤ S3x960x2048.size a)
    (o3 : Fin 3 → ℕ) (h3 : ∀ a, o3 a + S1x240x256.size a ≤ S3x960x2048.size a)
    (w0 : Fin 3 → ℕ) (g0 : ∀ a, w0 a + S1x256x256.size a ≤ S64x256x512.size a)
    (w1 : Fin 3 → ℕ) (g1 : ∀ a, w1 a + S1x256x256.size a ≤ S64x256x512.size a) (s : Mxu F) : TC F (Mxu F) := do
  let s ← strip0 arg4 arg7 r r' o0 h0 w0 g0 w1 g1 s
  let s ← stripA arg4 60 fits_60_240 o1 h1 s
  let s ← stripA arg4 120 fits_120_240 o2 h2 s
  stripA arg4 180 fits_180_240 o3 h3 s

/-- Pops a strip of one unit into a block of the result buffer. -/
def popQ (q : Fin 2) (A : ℕ) (f : Mxu.Fits A 240) (o : Fin 2 → ℕ) (h : ∀ a, o a + S240x256.size a ≤ S960x512.size a)
    (hp : (Rect.unit (s := S960x512) o S240x256.size h).PackedRows (EltTy.packing .bf16)) (s : Mxu F) : TC F (Mxu F) := do
  let _x : Vec F S240x256 .bf16 ← Prog.lift (.load arg8 (Rect.unit (s := S960x512) o S240x256.size h).toLoadRect (View.loadsAt_vmem h_S240x256))
  Prog.lift (.store arg8 (Rect.unit (s := S960x512) o S240x256.size h)
    (shapeCast S240x256 (truncf .bf16 (s.read q A f) bitsLt_bf16_f32) shapeCasts_S240x256_S240x256) Finset.univ
    (View.stores_vmem h_S240x256 (harg8.storeExact_slice rfl _ hp) (fun _ => rfl)) (.inl rfl))
  pure (s.pop q A 240 f)

/-- Pops strip 0, 1, 2, 3 of both units. -/
def pop0 (s : Mxu F) : TC F (Mxu F) := do
  let s ← popQ arg8 harg8 0 0 fits_0_240 ![0, 0] inb_S960x512_S240x256_0_0 packedbf16_S960x512_S240x256_0_0 s
  popQ arg8 harg8 1 0 fits_0_240 ![0, 256] inb_S960x512_S240x256_0_256 packedbf16_S960x512_S240x256_0_256 s
def pop1 (s : Mxu F) : TC F (Mxu F) := do
  let s ← popQ arg8 harg8 0 60 fits_60_240 ![240, 0] inb_S960x512_S240x256_240_0 packedbf16_S960x512_S240x256_240_0 s
  popQ arg8 harg8 1 60 fits_60_240 ![240, 256] inb_S960x512_S240x256_240_256 packedbf16_S960x512_S240x256_240_256 s
def pop2 (s : Mxu F) : TC F (Mxu F) := do
  let s ← popQ arg8 harg8 0 120 fits_120_240 ![480, 0] inb_S960x512_S240x256_480_0 packedbf16_S960x512_S240x256_480_0 s
  popQ arg8 harg8 1 120 fits_120_240 ![480, 256] inb_S960x512_S240x256_480_256 packedbf16_S960x512_S240x256_480_256 s
def pop3 (s : Mxu F) : TC F (Mxu F) := do
  let s ← popQ arg8 harg8 0 180 fits_180_240 ![720, 0] inb_S960x512_S240x256_720_0 packedbf16_S960x512_S240x256_720_0 s
  popQ arg8 harg8 1 180 fits_180_240 ![720, 256] inb_S960x512_S240x256_720_256 packedbf16_S960x512_S240x256_720_256 s

/-- The first pass of a tile: each strip of the tile before is popped just before it is written anew. -/
def popPassP
    (o0 : Fin 3 → ℕ) (h0 : ∀ a, o0 a + S1x240x256.size a ≤ S3x960x2048.size a)
    (o1 : Fin 3 → ℕ) (h1 : ∀ a, o1 a + S1x240x256.size a ≤ S3x960x2048.size a)
    (o2 : Fin 3 → ℕ) (h2 : ∀ a, o2 a + S1x240x256.size a ≤ S3x960x2048.size a)
    (o3 : Fin 3 → ℕ) (h3 : ∀ a, o3 a + S1x240x256.size a ≤ S3x960x2048.size a)
    (w0 : Fin 3 → ℕ) (g0 : ∀ a, w0 a + S1x256x256.size a ≤ S64x256x512.size a)
    (w1 : Fin 3 → ℕ) (g1 : ∀ a, w1 a + S1x256x256.size a ≤ S64x256x512.size a) (s : Mxu F) : TC F (Mxu F) := do
  let s ← pop0 arg8 harg8 s
  let s ← strip0 arg4 arg7 0 1 o0 h0 w0 g0 w1 g1 s
  let s ← pop1 arg8 harg8 s
  let s ← stripA arg4 60 fits_60_240 o1 h1 s
  let s ← pop2 arg8 harg8 s
  let s ← stripA arg4 120 fits_120_240 o2 h2 s
  let s ← pop3 arg8 harg8 s
  stripA arg4 180 fits_180_240 o3 h3 s

/-- Decodes one tile of the weight. -/
def decP (oc : Fin 3 → ℕ) (hc : ∀ a, oc a + S1x256x256.size a ≤ S2x2048x256.size a)
    (os : Fin 3 → ℕ) (hs : ∀ a, os a + S1x256x64.size a ≤ S2x2048x64.size a)
    (ow : Fin 3 → ℕ) (hw : ∀ a, ow a + S1x256x512.size a ≤ S64x256x512.size a)
    (hp : (Rect.unit (s := S64x256x512) ow S1x256x512.size hw).PackedRows (EltTy.packing .bf16)) (fb : BitVec 32) : TC F PUnit := do
  let c : Vec F S1x256x256 .i8 ← Prog.lift (.load arg5 (Rect.unit (s := S2x2048x256) oc S1x256x256.size hc).toLoadRect (View.loadsAt_vmem h_S1x256x256))
  let sc : Vec F S1x256x64 .i8 ← Prog.lift (.load arg6 (Rect.unit (s := S2x2048x64) os S1x256x64.size hs).toLoadRect (View.loadsAt_vmem h_S1x256x64))
  let _x : Vec F S1x256x512 .bf16 ← Prog.lift (.load arg7 (Rect.unit (s := S64x256x512) ow S1x256x512.size hw).toLoadRect (View.loadsAt_vmem h_S1x256x512))
  Prog.lift (.store arg7 (Rect.unit (s := S64x256x512) ow S1x256x512.size hw)
    (shapeCast S1x256x512 (decTile (shapeCast S256x256 c shapeCasts_S1x256x256_S256x256) (shapeCast S256x64 sc shapeCasts_S1x256x64_S256x64) fb) shapeCasts_S256x512_S1x256x512)
    Finset.univ (View.stores_vmem h_S1x256x512 (harg7.storeExact_slice rfl _ hp) (fun _ => rfl)) (.inl rfl))

/-- The first scale block of the weight chunk that step `a` decodes. -/
def fbOf (a : BitVec 32) : BitVec 32 :=
  Scalar.muli (Scalar.divsi (Scalar.addi (Scalar.muli (Scalar.divsi (Scalar.addi a 1#32) 64#32) 8#32)
    (Scalar.remsi (Scalar.addi a 1#32) 8#32)) 8#32) 16#32

/-- A step that neither pops nor decodes. -/
def branch6 (k : Fin k0_t1_loop.trips) (h : k0_cond6 k = 1#1) (s : Mxu F) : TC F (Mxu F) := do
  let s ← passP arg4 arg7 0 1 (k0_off44 k) (k0_off44_inb k h) (k0_off47 k) (k0_off47_inb k h) (k0_off48 k) (k0_off48_inb k h) (k0_off49 k) (k0_off49_inb k h) (k0_off45 k 0#32) (k0_off45_inb k h 0) (k0_off46 k 0#32) (k0_off46_inb k h 0) s
  let s ← passP arg4 arg7 1 0 (k0_off50 k) (k0_off50_inb k h) (k0_off51 k) (k0_off51_inb k h) (k0_off52 k) (k0_off52_inb k h) (k0_off53 k) (k0_off53_inb k h) (k0_off45 k 1#32) (k0_off45_inb k h 1) (k0_off46 k 1#32) (k0_off46_inb k h 1) s
  let s ← passP arg4 arg7 0 1 (k0_off54 k) (k0_off54_inb k h) (k0_off55 k) (k0_off55_inb k h) (k0_off56 k) (k0_off56_inb k h) (k0_off57 k) (k0_off57_inb k h) (k0_off45 k 2#32) (k0_off45_inb k h 2) (k0_off46 k 2#32) (k0_off46_inb k h 2) s
  let s ← passP arg4 arg7 1 0 (k0_off58 k) (k0_off58_inb k h) (k0_off59 k) (k0_off59_inb k h) (k0_off60 k) (k0_off60_inb k h) (k0_off61 k) (k0_off61_inb k h) (k0_off45 k 3#32) (k0_off45_inb k h 3) (k0_off46 k 3#32) (k0_off46_inb k h 3) s
  let s ← passP arg4 arg7 0 1 (k0_off62 k) (k0_off62_inb k h) (k0_off63 k) (k0_off63_inb k h) (k0_off64 k) (k0_off64_inb k h) (k0_off65 k) (k0_off65_inb k h) (k0_off45 k 4#32) (k0_off45_inb k h 4) (k0_off46 k 4#32) (k0_off46_inb k h 4) s
  let s ← passP arg4 arg7 1 0 (k0_off66 k) (k0_off66_inb k h) (k0_off67 k) (k0_off67_inb k h) (k0_off68 k) (k0_off68_inb k h) (k0_off69 k) (k0_off69_inb k h) (k0_off45 k 5#32) (k0_off45_inb k h 5) (k0_off46 k 5#32) (k0_off46_inb k h 5) s
  let s ← passP arg4 arg7 0 1 (k0_off70 k) (k0_off70_inb k h) (k0_off71 k) (k0_off71_inb k h) (k0_off72 k) (k0_off72_inb k h) (k0_off73 k) (k0_off73_inb k h) (k0_off45 k 6#32) (k0_off45_inb k h 6) (k0_off46 k 6#32) (k0_off46_inb k h 6) s
  passP arg4 arg7 1 0 (k0_off74 k) (k0_off74_inb k h) (k0_off75 k) (k0_off75_inb k h) (k0_off76 k) (k0_off76_inb k h) (k0_off77 k) (k0_off77_inb k h) (k0_off45 k 7#32) (k0_off45_inb k h 7) (k0_off46 k 7#32) (k0_off46_inb k h 7) s

/-- A step that pops the tile before. -/
def branch7 (k : Fin k0_t1_loop.trips) (h : k0_cond7 k = 1#1) (s : Mxu F) : TC F (Mxu F) := do
  let s ← popPassP arg4 arg7 arg8 harg8 (k0_off78 k) (k0_off78_inb k h) (k0_off81 k) (k0_off81_inb k h) (k0_off82 k) (k0_off82_inb k h) (k0_off83 k) (k0_off83_inb k h) (k0_off79 k 0#32) (k0_off79_inb k h 0) (k0_off80 k 0#32) (k0_off80_inb k h 0) s
  let s ← passP arg4 arg7 1 0 (k0_off84 k) (k0_off84_inb k h) (k0_off85 k) (k0_off85_inb k h) (k0_off86 k) (k0_off86_inb k h) (k0_off87 k) (k0_off87_inb k h) (k0_off79 k 1#32) (k0_off79_inb k h 1) (k0_off80 k 1#32) (k0_off80_inb k h 1) s
  let s ← passP arg4 arg7 0 1 (k0_off88 k) (k0_off88_inb k h) (k0_off89 k) (k0_off89_inb k h) (k0_off90 k) (k0_off90_inb k h) (k0_off91 k) (k0_off91_inb k h) (k0_off79 k 2#32) (k0_off79_inb k h 2) (k0_off80 k 2#32) (k0_off80_inb k h 2) s
  let s ← passP arg4 arg7 1 0 (k0_off92 k) (k0_off92_inb k h) (k0_off93 k) (k0_off93_inb k h) (k0_off94 k) (k0_off94_inb k h) (k0_off95 k) (k0_off95_inb k h) (k0_off79 k 3#32) (k0_off79_inb k h 3) (k0_off80 k 3#32) (k0_off80_inb k h 3) s
  let s ← passP arg4 arg7 0 1 (k0_off96 k) (k0_off96_inb k h) (k0_off97 k) (k0_off97_inb k h) (k0_off98 k) (k0_off98_inb k h) (k0_off99 k) (k0_off99_inb k h) (k0_off79 k 4#32) (k0_off79_inb k h 4) (k0_off80 k 4#32) (k0_off80_inb k h 4) s
  let s ← passP arg4 arg7 1 0 (k0_off100 k) (k0_off100_inb k h) (k0_off101 k) (k0_off101_inb k h) (k0_off102 k) (k0_off102_inb k h) (k0_off103 k) (k0_off103_inb k h) (k0_off79 k 5#32) (k0_off79_inb k h 5) (k0_off80 k 5#32) (k0_off80_inb k h 5) s
  let s ← passP arg4 arg7 0 1 (k0_off104 k) (k0_off104_inb k h) (k0_off105 k) (k0_off105_inb k h) (k0_off106 k) (k0_off106_inb k h) (k0_off107 k) (k0_off107_inb k h) (k0_off79 k 6#32) (k0_off79_inb k h 6) (k0_off80 k 6#32) (k0_off80_inb k h 6) s
  passP arg4 arg7 1 0 (k0_off108 k) (k0_off108_inb k h) (k0_off109 k) (k0_off109_inb k h) (k0_off110 k) (k0_off110_inb k h) (k0_off111 k) (k0_off111_inb k h) (k0_off79 k 7#32) (k0_off79_inb k h 7) (k0_off80 k 7#32) (k0_off80_inb k h 7) s

/-- A step that decodes weights. -/
def branch8 (k : Fin k0_t1_loop.trips) (h : k0_cond8 k = 1#1) (a : BitVec 32) (s : Mxu F) : TC F (Mxu F) := do
  let s ← passP arg4 arg7 0 1 (k0_off112 k) (k0_off112_inb k h) (k0_off115 k) (k0_off115_inb k h) (k0_off116 k) (k0_off116_inb k h) (k0_off117 k) (k0_off117_inb k h) (k0_off113 k 0#32) (k0_off113_inb k h 0) (k0_off114 k 0#32) (k0_off114_inb k h 0) s
  decP arg5 arg6 arg7 harg7 (k0_off118 k) (k0_off118_inb k h) (k0_off119 k) (k0_off119_inb k h) (k0_off120 k 0#32) (k0_off120_inb k h 0) (k0_off120_packedbf16 k h 0) (fbOf a)
  let s ← passP arg4 arg7 1 0 (k0_off121 k) (k0_off121_inb k h) (k0_off122 k) (k0_off122_inb k h) (k0_off123 k) (k0_off123_inb k h) (k0_off124 k) (k0_off124_inb k h) (k0_off113 k 1#32) (k0_off113_inb k h 1) (k0_off114 k 1#32) (k0_off114_inb k h 1) s
  decP arg5 arg6 arg7 harg7 (k0_off125 k) (k0_off125_inb k h) (k0_off126 k) (k0_off126_inb k h) (k0_off120 k 1#32) (k0_off120_inb k h 1) (k0_off120_packedbf16 k h 1) (fbOf a)
  let s ← passP arg4 arg7 0 1 (k0_off127 k) (k0_off127_inb k h) (k0_off128 k) (k0_off128_inb k h) (k0_off129 k) (k0_off129_inb k h) (k0_off130 k) (k0_off130_inb k h) (k0_off113 k 2#32) (k0_off113_inb k h 2) (k0_off114 k 2#32) (k0_off114_inb k h 2) s
  decP arg5 arg6 arg7 harg7 (k0_off131 k) (k0_off131_inb k h) (k0_off132 k) (k0_off132_inb k h) (k0_off120 k 2#32) (k0_off120_inb k h 2) (k0_off120_packedbf16 k h 2) (fbOf a)
  let s ← passP arg4 arg7 1 0 (k0_off133 k) (k0_off133_inb k h) (k0_off134 k) (k0_off134_inb k h) (k0_off135 k) (k0_off135_inb k h) (k0_off136 k) (k0_off136_inb k h) (k0_off113 k 3#32) (k0_off113_inb k h 3) (k0_off114 k 3#32) (k0_off114_inb k h 3) s
  decP arg5 arg6 arg7 harg7 (k0_off137 k) (k0_off137_inb k h) (k0_off138 k) (k0_off138_inb k h) (k0_off120 k 3#32) (k0_off120_inb k h 3) (k0_off120_packedbf16 k h 3) (fbOf a)
  let s ← passP arg4 arg7 0 1 (k0_off139 k) (k0_off139_inb k h) (k0_off140 k) (k0_off140_inb k h) (k0_off141 k) (k0_off141_inb k h) (k0_off142 k) (k0_off142_inb k h) (k0_off113 k 4#32) (k0_off113_inb k h 4) (k0_off114 k 4#32) (k0_off114_inb k h 4) s
  decP arg5 arg6 arg7 harg7 (k0_off143 k) (k0_off143_inb k h) (k0_off144 k) (k0_off144_inb k h) (k0_off120 k 4#32) (k0_off120_inb k h 4) (k0_off120_packedbf16 k h 4) (fbOf a)
  let s ← passP arg4 arg7 1 0 (k0_off145 k) (k0_off145_inb k h) (k0_off146 k) (k0_off146_inb k h) (k0_off147 k) (k0_off147_inb k h) (k0_off148 k) (k0_off148_inb k h) (k0_off113 k 5#32) (k0_off113_inb k h 5) (k0_off114 k 5#32) (k0_off114_inb k h 5) s
  decP arg5 arg6 arg7 harg7 (k0_off149 k) (k0_off149_inb k h) (k0_off150 k) (k0_off150_inb k h) (k0_off120 k 5#32) (k0_off120_inb k h 5) (k0_off120_packedbf16 k h 5) (fbOf a)
  let s ← passP arg4 arg7 0 1 (k0_off151 k) (k0_off151_inb k h) (k0_off152 k) (k0_off152_inb k h) (k0_off153 k) (k0_off153_inb k h) (k0_off154 k) (k0_off154_inb k h) (k0_off113 k 6#32) (k0_off113_inb k h 6) (k0_off114 k 6#32) (k0_off114_inb k h 6) s
  decP arg5 arg6 arg7 harg7 (k0_off155 k) (k0_off155_inb k h) (k0_off156 k) (k0_off156_inb k h) (k0_off120 k 6#32) (k0_off120_inb k h 6) (k0_off120_packedbf16 k h 6) (fbOf a)
  let s ← passP arg4 arg7 1 0 (k0_off157 k) (k0_off157_inb k h) (k0_off158 k) (k0_off158_inb k h) (k0_off159 k) (k0_off159_inb k h) (k0_off160 k) (k0_off160_inb k h) (k0_off113 k 7#32) (k0_off113_inb k h 7) (k0_off114 k 7#32) (k0_off114_inb k h 7) s
  decP arg5 arg6 arg7 harg7 (k0_off161 k) (k0_off161_inb k h) (k0_off162 k) (k0_off162_inb k h) (k0_off120 k 7#32) (k0_off120_inb k h 7) (k0_off120_packedbf16 k h 7) (fbOf a)
  pure s

/-- A step that pops the tile before and decodes weights. -/
def branch9 (k : Fin k0_t1_loop.trips) (h : k0_cond9 k = 1#1) (a : BitVec 32) (s : Mxu F) : TC F (Mxu F) := do
  let s ← popPassP arg4 arg7 arg8 harg8 (k0_off163 k) (k0_off163_inb k h) (k0_off166 k) (k0_off166_inb k h) (k0_off167 k) (k0_off167_inb k h) (k0_off168 k) (k0_off168_inb k h) (k0_off164 k 0#32) (k0_off164_inb k h 0) (k0_off165 k 0#32) (k0_off165_inb k h 0) s
  decP arg5 arg6 arg7 harg7 (k0_off169 k) (k0_off169_inb k h) (k0_off170 k) (k0_off170_inb k h) (k0_off171 k 0#32) (k0_off171_inb k h 0) (k0_off171_packedbf16 k h 0) (fbOf a)
  let s ← passP arg4 arg7 1 0 (k0_off172 k) (k0_off172_inb k h) (k0_off173 k) (k0_off173_inb k h) (k0_off174 k) (k0_off174_inb k h) (k0_off175 k) (k0_off175_inb k h) (k0_off164 k 1#32) (k0_off164_inb k h 1) (k0_off165 k 1#32) (k0_off165_inb k h 1) s
  decP arg5 arg6 arg7 harg7 (k0_off176 k) (k0_off176_inb k h) (k0_off177 k) (k0_off177_inb k h) (k0_off171 k 1#32) (k0_off171_inb k h 1) (k0_off171_packedbf16 k h 1) (fbOf a)
  let s ← passP arg4 arg7 0 1 (k0_off178 k) (k0_off178_inb k h) (k0_off179 k) (k0_off179_inb k h) (k0_off180 k) (k0_off180_inb k h) (k0_off181 k) (k0_off181_inb k h) (k0_off164 k 2#32) (k0_off164_inb k h 2) (k0_off165 k 2#32) (k0_off165_inb k h 2) s
  decP arg5 arg6 arg7 harg7 (k0_off182 k) (k0_off182_inb k h) (k0_off183 k) (k0_off183_inb k h) (k0_off171 k 2#32) (k0_off171_inb k h 2) (k0_off171_packedbf16 k h 2) (fbOf a)
  let s ← passP arg4 arg7 1 0 (k0_off184 k) (k0_off184_inb k h) (k0_off185 k) (k0_off185_inb k h) (k0_off186 k) (k0_off186_inb k h) (k0_off187 k) (k0_off187_inb k h) (k0_off164 k 3#32) (k0_off164_inb k h 3) (k0_off165 k 3#32) (k0_off165_inb k h 3) s
  decP arg5 arg6 arg7 harg7 (k0_off188 k) (k0_off188_inb k h) (k0_off189 k) (k0_off189_inb k h) (k0_off171 k 3#32) (k0_off171_inb k h 3) (k0_off171_packedbf16 k h 3) (fbOf a)
  let s ← passP arg4 arg7 0 1 (k0_off190 k) (k0_off190_inb k h) (k0_off191 k) (k0_off191_inb k h) (k0_off192 k) (k0_off192_inb k h) (k0_off193 k) (k0_off193_inb k h) (k0_off164 k 4#32) (k0_off164_inb k h 4) (k0_off165 k 4#32) (k0_off165_inb k h 4) s
  decP arg5 arg6 arg7 harg7 (k0_off194 k) (k0_off194_inb k h) (k0_off195 k) (k0_off195_inb k h) (k0_off171 k 4#32) (k0_off171_inb k h 4) (k0_off171_packedbf16 k h 4) (fbOf a)
  let s ← passP arg4 arg7 1 0 (k0_off196 k) (k0_off196_inb k h) (k0_off197 k) (k0_off197_inb k h) (k0_off198 k) (k0_off198_inb k h) (k0_off199 k) (k0_off199_inb k h) (k0_off164 k 5#32) (k0_off164_inb k h 5) (k0_off165 k 5#32) (k0_off165_inb k h 5) s
  decP arg5 arg6 arg7 harg7 (k0_off200 k) (k0_off200_inb k h) (k0_off201 k) (k0_off201_inb k h) (k0_off171 k 5#32) (k0_off171_inb k h 5) (k0_off171_packedbf16 k h 5) (fbOf a)
  let s ← passP arg4 arg7 0 1 (k0_off202 k) (k0_off202_inb k h) (k0_off203 k) (k0_off203_inb k h) (k0_off204 k) (k0_off204_inb k h) (k0_off205 k) (k0_off205_inb k h) (k0_off164 k 6#32) (k0_off164_inb k h 6) (k0_off165 k 6#32) (k0_off165_inb k h 6) s
  decP arg5 arg6 arg7 harg7 (k0_off206 k) (k0_off206_inb k h) (k0_off207 k) (k0_off207_inb k h) (k0_off171 k 6#32) (k0_off171_inb k h 6) (k0_off171_packedbf16 k h 6) (fbOf a)
  let s ← passP arg4 arg7 1 0 (k0_off208 k) (k0_off208_inb k h) (k0_off209 k) (k0_off209_inb k h) (k0_off210 k) (k0_off210_inb k h) (k0_off211 k) (k0_off211_inb k h) (k0_off164 k 7#32) (k0_off164_inb k h 7) (k0_off165 k 7#32) (k0_off165_inb k h 7) s
  decP arg5 arg6 arg7 harg7 (k0_off212 k) (k0_off212_inb k h) (k0_off213 k) (k0_off213_inb k h) (k0_off171 k 7#32) (k0_off171_inb k h 7) (k0_off171_packedbf16 k h 7) (fbOf a)
  pure s

end Pieces

end Cert.Kernel.P
-- ==== Proof.Mx.lean ====
/-  The state of the two matrix units between the pieces of a step: which registers hold which tile, which of the four strips are live, and what they sum to. -/
module

public import proofs.«01_k».proof.Proof.Prog
public import Idealize.ShloMosaic.Lib.Mxu.Lemmas

@[expose] public section

noncomputable section

namespace Cert.Kernel.P

open Idealize.ShloMosaic Idealize.ShloMosaic.Mxu Idealize.SL.Sem Cert.Kernel.Gen

variable {F : FTy → Type} [FloatOps F]

/-- A strip of the left operand, a half weight tile, and a strip of sums. -/
abbrev XV (F : FTy → Type) [FloatOps F] := FVec F S240x256 .bf16
abbrev WV (F : FTy → Type) [FloatOps F] := FVec F S256x256 .bf16
abbrev AV (F : FTy → Type) [FloatOps F] := FVec F S240x256 .f32

/-- The staged form of a half tile. -/
def stg (w : WV F) : Staged F := ⟨.bf16, false, w⟩

/-- Strip `i` fits. -/
theorem fitI (i : Fin 4) : Fits (60 * i.val) 240 := by
  have := i.isLt
  fin_cases i
  · exact fits_0_240
  · exact fits_60_240
  · exact fits_120_240
  · exact fits_180_240

/-- A function of a unit and an index, changed at one place. -/
def up2 {α : Type} {n : ℕ} (f : Fin 2 → Fin n → α) (q : Fin 2) (i : Fin n) (v : α) : Fin 2 → Fin n → α :=
  fun q' i' => if q' = q ∧ i' = i then v else f q' i'

/-- A pass deposited into a strip. -/
def dep (b : Bool) (a x : AV F) : AV F := if b then addf a x else x

/-- The units hold the tiles `R` in their registers; strip `i` of unit `q` is live as `lv` says and holds `A`; no row past the strips is live. -/
structure MG (s : Mxu F) (R : Fin 2 → Fin 2 → Option (Staged F)) (lv : Fin 2 → Fin 4 → Bool) (A : Fin 2 → Fin 4 → AV F) : Prop where
  reg : ∀ q r, s.reg q r = R q r
  hi : ∀ q (x : Fin 1024), 960 ≤ x.val → s.live q x = false
  live : ∀ q i (x : Fin 240), s.live q (row (fitI i) x) = lv q i
  rd : ∀ q i, s.read q (60 * i.val) (fitI i) = A q i

variable {s : Mxu F} {R R' : Fin 2 → Fin 2 → Option (Staged F)} {lv lv' : Fin 2 → Fin 4 → Bool} {A A' : Fin 2 → Fin 4 → AV F}

theorem MG.congr (h : MG s R lv A) (hR : ∀ q r, R q r = R' q r) (hl : ∀ q i, lv q i = lv' q i) (hA : ∀ q i, A q i = A' q i) :
    MG s R' lv' A' where
  reg q r := by rw [h.reg, hR]
  hi := h.hi
  live q i x := by rw [h.live, hl]
  rd q i := by rw [h.rd q i, hA q i]

theorem row_lt (i : Fin 4) (x : Fin 240) : (row (fitI i) x).val = 4 * (60 * i.val) + x.val := rfl

/-- Accumulating into a strip deposits the pass there. -/
theorem MG.accBy (h : MG s R lv A) (q : Fin 2) (i : Fin 4) (t : Staged F) (x : XV F) :
    MG (s.accBy q t (60 * i.val) x (fitI i)) R (up2 lv q i true) (up2 A q i (dep (lv q i) (A q i) (t.pass x))) where
  reg q' r := by rw [reg_accBy, h.reg]
  hi q' y hy := by
    have := i.isLt
    rw [live_accBy, if_neg (by omega), h.hi q' y hy]
  live q' i' y := by
    have := y.isLt
    rw [live_accBy, row_lt, up2]
    by_cases hq : q' = q ∧ i' = i
    · rw [if_pos hq, if_pos]; rcases hq with ⟨rfl, rfl⟩; exact ⟨rfl, by omega, by omega⟩
    · rw [if_neg hq, if_neg, h.live]
      rintro ⟨rfl, h1, h2⟩; exact hq ⟨rfl, Fin.ext (by omega)⟩
  rd q' i' := by
    by_cases hq : q' = q ∧ i' = i
    · rcases hq with ⟨rfl, rfl⟩
      rw [up2, if_pos ⟨rfl, rfl⟩]
      cases hlv : lv q' i'
      · rw [read_accBy_of_not_live _ _ _ _ _ _ (fun y => by rw [h.live, hlv])]; rfl
      · rw [read_accBy_of_live _ _ _ _ _ _ (fun y => by rw [h.live, hlv]), h.rd]; rfl
    · rw [up2, if_neg hq]
      rw [read_accBy_ne, h.rd]
      by_cases hqq : q' = q
      · subst hqq
        have : i'.val ≠ i.val := fun e => hq ⟨rfl, Fin.ext e⟩
        omega
      · exact .inl hqq

theorem accLhs_eq (h : MG s R lv A) (q r : Fin 2) (i : Fin 4) (t : Staged F) (ht : R q r = some t) (x : XV F) : s.staged q r = t := by
  have : s.reg q r = some t := by rw [h.reg, ht]
  rw [staged_eq, this]; rfl

/-- The same, loading a register. -/
theorem MG.accLhs (h : MG s R lv A) (q r : Fin 2) (i : Fin 4) (t : Staged F) (ht : R q r = some t) (x : XV F) :
    MG (s.accLhs q r (60 * i.val) x (fitI i)) (up2 R q r none) (up2 lv q i true) (up2 A q i (dep (lv q i) (A q i) (t.pass x))) where
  reg q' r' := by
    by_cases hq : q' = q ∧ r' = r
    · rcases hq with ⟨rfl, rfl⟩; rw [reg_accLhs, up2, if_pos ⟨rfl, rfl⟩]
    · rw [reg_accLhs_ne _ _ _ _ _ _ _ _ hq, up2, if_neg hq, h.reg]
  hi q' y hy := by
    have := (h.accBy q i t x).hi q' y hy
    rwa [live_accBy] at this
  live q' i' y := by
    have := (h.accBy q i t x).live q' i' y
    rwa [live_accBy] at this
  rd q' i' := by
    have := (h.accBy q i t x).rd q' i'
    rw [read_accLhs_eq_accBy, accLhs_eq h q r i t ht x]; exact this

theorem gmr_accLhs' (h : MG s R lv A) (q r : Fin 2) (i : Fin 4) (t : Staged F) (ht : R q r = some t) (x : XV F) :
    (s.accLhs q r (60 * i.val) x (fitI i)).gmr q = some t := by
  rw [gmr_accLhs, accLhs_eq h q r i t ht x]

/-- Pushing a half tile onto an empty register. -/
theorem MG.pushed (h : MG s R lv A) (q r : Fin 2) (hn : R q r = none) (w : WV F) :
    MG (s.pushed q r false w) (up2 R q r (some (stg w))) lv A where
  reg q' r' := by
    by_cases hq : q' = q ∧ r' = r
    · rcases hq with ⟨rfl, rfl⟩; rw [reg_pushed_of_none _ _ _ _ _ (by rw [h.reg, hn]), up2, if_pos ⟨rfl, rfl⟩]; rfl
    · rw [reg_pushed_ne _ _ _ _ _ _ _ hq, up2, if_neg hq, h.reg]
  hi q' y hy := by rw [live_pushed, h.hi q' y hy]
  live q' i' y := by rw [live_pushed, h.live]
  rd q' i' := by rw [read_pushed, h.rd]

/-- Popping a strip. -/
theorem MG.pop (h : MG s R lv A) (q : Fin 2) (i : Fin 4) :
    MG (s.pop q (60 * i.val) 240 (fitI i)) R (up2 lv q i false) (up2 A q i (constant _ .f32 0)) where
  reg q' r := by rw [reg_pop, h.reg]
  hi q' y hy := by
    have := i.isLt
    rw [live_pop, if_neg (by omega), h.hi q' y hy]
  live q' i' y := by
    have := y.isLt
    rw [live_pop, row_lt, up2]
    by_cases hq : q' = q ∧ i' = i
    · rw [if_pos hq, if_pos]; rcases hq with ⟨rfl, rfl⟩; exact ⟨rfl, by omega, by omega⟩
    · rw [if_neg hq, if_neg, h.live]
      rintro ⟨rfl, h1, h2⟩; exact hq ⟨rfl, Fin.ext (by omega)⟩
  rd q' i' := by
    by_cases hq : q' = q ∧ i' = i
    · rcases hq with ⟨rfl, rfl⟩; rw [up2, if_pos ⟨rfl, rfl⟩, read_pop]
    · rw [up2, if_neg hq]
      rw [read_pop_ne, h.rd]
      by_cases hqq : q' = q
      · subst hqq
        have : i'.val ≠ i.val := fun e => hq ⟨rfl, Fin.ext e⟩
        omega
      · exact .inl hqq

/-- The fresh state: nothing staged, nothing live. -/
theorem MG.init : MG (Mxu.init : Mxu F) (fun _ _ => none) (fun _ _ => false) (fun _ _ => constant _ .f32 0) where
  reg q r := reg_init q r
  hi q y _ := live_init q y
  live q i y := live_init q _
  rd q i := read_init q _ _

/-- Where nothing is staged and nothing is live, the state is drained. -/
theorem MG.drained (h : MG s (fun _ _ => none) (fun _ _ => false) A) : s.Drained := by
  have hl : ∀ q (x : Fin 1024), s.live q x = false := by
    intro q x
    by_cases hx : 960 ≤ x.val
    · exact h.hi q x hx
    · have := h.live q ⟨x.val / 240, by omega⟩ ⟨x.val % 240, by omega⟩
      rw [← this]; congr 1; exact Fin.ext (by rw [row_lt]; show x.val = 4 * (60 * (x.val / 240)) + x.val % 240; omega)
  exact ⟨fun q r => by rw [h.reg]; rfl, hl⟩

end Cert.Kernel.P
-- ==== Proof.Mem.lean ====
/-  What the pieces of a step do to the memory they touch: reading a strip or a half tile, storing a popped strip, decoding a tile. -/
module

public import proofs.«01_k».proof.Proof.Mx
public import Idealize.ShloMosaic.Lib.Pipeline.KitQuiescent
public import Idealize.ShloMosaic.Lib.Pipeline.Value
public import Idealize.ShloMosaic.Lib.Ring
public import Idealize.ShloMosaic.Lib.ValueIdxCore
public import Idealize.ShloMosaic.Lib.ValueIdxCoords
public import Idealize.ShloMosaic.Lib.Tactic

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The weakest precondition of a program of the core. -/
abbrev WP (c : Dev nD) {α : Type} (p : TC F α) (Q : α → sProp 𝕄) : sProp 𝕄 :=
  wp frame (wpE (defs₀ (F := F)) 𝒱₀ (c : Thread nD τ) none) Set.univ p Q

/-- A program in front of another, from what it is known to do. -/
theorem wseq (c : Dev nD) {α β : Type} {p : TC F α} {k : α → TC F β} {P : sProp 𝕄} {Q1 : α → sProp 𝕄} {Q : β → sProp 𝕄}
    (h : P ⊢ WP c p Q1) : iprop(P ∗ (∀ a, Q1 a -∗ WP c (k a) Q)) ⊢ WP c (p >>= k) Q := by
  unfold WP
  rw [wp_bind]
  exact (sep_mono_left h).trans (wp_wand_r _ _ _)

/-- What a program is known to do, its end weakened. -/
theorem wend (c : Dev nD) {α : Type} {p : TC F α} {P : sProp 𝕄} {Q1 Q : α → sProp 𝕄}
    (h : P ⊢ WP c p Q1) : iprop(P ∗ (∀ a, Q1 a -∗ Q a)) ⊢ WP c p Q :=
  (sep_mono_left h).trans (wp_wand_r _ _ _)

/-! ## The buffers -/

abbrev m4 : Memref sig .tc .vmem S3x960x2048 .bf16 := Memref.whole cc0_scratch0
abbrev m5 : Memref sig .tc .vmem S2x2048x256 .i8 := Memref.whole cc0_scratch1
abbrev m6 : Memref sig .tc .vmem S2x2048x64 .i8 := Memref.whole cc0_scratch2
abbrev m7 : Memref sig .tc .vmem S64x256x512 .bf16 := Memref.whole cc0_scratch3
abbrev m8 : Memref sig .tc .vmem S960x512 .bf16 := Memref.whole cc0_scratch4
abbrev H7 : m7.IsWhole := Memref.isWhole_whole _
abbrev H8 : m8.IsWhole := Memref.isWhole_whole _

abbrev B4 (F : FTy → Type) [FloatOps F] := S3x960x2048.Idx → F .bf16
abbrev B5 := S2x2048x256.Idx → BitVec 8
abbrev B6 := S2x2048x64.Idx → BitVec 8
abbrev B7 (F : FTy → Type) [FloatOps F] := S64x256x512.Idx → F .bf16
abbrev B8 (F : FTy → Type) [FloatOps F] := S960x512.Idx → F .bf16

/-- The elements of a slot. -/
def S4 (j : Fin 3) : Finset S3x960x2048.Idx := Finset.univ.filter fun i => (i 0).val = j.val
def S5 (j : Fin 2) : Finset S2x2048x256.Idx := Finset.univ.filter fun i => (i 0).val = j.val
def S6 (j : Fin 2) : Finset S2x2048x64.Idx := Finset.univ.filter fun i => (i 0).val = j.val

abbrev P4 (c : Dev nD) (j : Fin 3) (g : B4 F) : sProp 𝕄 := m4.view.loc (c : Thread nD τ) ↦[S4 j]{fullShare} g
abbrev P5 (c : Dev nD) (j : Fin 2) (g : B5) : sProp 𝕄 := m5.view.loc (c : Thread nD τ) ↦[S5 j]{fullShare} g
abbrev P6 (c : Dev nD) (j : Fin 2) (g : B6) : sProp 𝕄 := m6.view.loc (c : Thread nD τ) ↦[S6 j]{fullShare} g
abbrev P7 (c : Dev nD) (g : B7 F) : sProp 𝕄 := m7.view.loc (c : Thread nD τ) ↦[Finset.univ]{fullShare} g
abbrev P8 (c : Dev nD) (g : B8 F) : sProp 𝕄 := m8.view.loc (c : Thread nD τ) ↦[Finset.univ]{fullShare} g

/-- Strip `i` of column block `p` of slot `j`. -/
def xBlk (g : B4 F) (j : Fin 3) (i : Fin 4) (p : Fin 8) : XV F := fun x =>
  g (ix3 j ⟨240 * i.val + (x 0).val, by have : (x 0).val < 240 := (x 0).isLt; omega⟩
    ⟨256 * p.val + (x 1).val, by have : (x 1).val < 256 := (x 1).isLt; omega⟩)

/-- Tile `t` of the weight buffer, and its half `q`. -/
def tileOf (f : B7 F) (t : Fin 64) : FVec F S256x512 .bf16 := fun x => f (ix3 t (x 0) (x 1))
def halfOf (w : FVec F S256x512 .bf16) (q : Fin 2) : WV F := fun x =>
  w (ix2 (x 0) ⟨256 * q.val + (x 1).val, by have : (x 1).val < 256 := (x 1).isLt; omega⟩)

/-- Rows `256 p …` of the codes in slot `j`, and of the scales. -/
def cBlk (g : B5) (j : Fin 2) (p : Fin 8) : IVec S256x256 8 := fun x =>
  g (ix3 j ⟨256 * p.val + (x 0).val, by have : (x 0).val < 256 := (x 0).isLt; omega⟩ (x 1))
def sBlk (g : B6) (j : Fin 2) (p : Fin 8) : IVec S256x64 8 := fun x =>
  g (ix3 j ⟨256 * p.val + (x 0).val, by have : (x 0).val < 256 := (x 0).isLt; omega⟩ (x 1))

variable (c : Dev nD)

theorem wp_ldX {j : Fin 3} {i : Fin 4} {p : Fin 8} {o : Fin 3 → ℕ} {h} (ho : o = ![j.val, 240 * i.val, 256 * p.val]) (g : B4 F) :
    P4 c j g ⊢ WP c (ldX m4 o h) (fun x => iprop(⌜x = xBlk g j i p⌝ ∗ P4 c j g)) := by
  subst ho
  unfold WP ldX
  rw [Prog.bind_lift]
  iintro H
  iapply (wp_load_rect 𝒱₀ (c : Thread nD τ) none Set.univ (m := m4) (r := Rect.unit (s := S3x960x2048) ![j.val, 240 * i.val, 256 * p.val] S1x240x256.size h) (S := S4 j) (f := g) (q := fullShare) ?_) $$ H
  · intro y hy
    have hy' := (Finset.ext_iff.1 (View.set_slice_whole cc0_scratch0 (Rect.unit (s := S3x960x2048) ![j.val, 240 * i.val, 256 * p.val] S1x240x256.size h)) y).1 hy
    have := Rect.mem_set_unit.1 hy' 0
    simp only [S4, Finset.mem_filter, Finset.mem_univ, true_and]
    have h1 : j.val ≤ (y 0).val ∧ (y 0).val < j.val + 1 := this
    omega
  iintro H
  iapply (le_wp_ret _ _ _ _ _)
  isplitr
  · ipureintro
    funext x
    refine (shapeCast_dropUnit_apply ![240, 256] _ _ x).trans ?_
    show g _ = g _
    congr 1
    funext a
    apply Fin.ext
    fin_cases a
    · show j.val + 1 * 0 = j.val; omega
    · show 240 * i.val + 1 * (x 0).val = 240 * i.val + (x 0).val; omega
    · show 256 * p.val + 1 * (x 1).val = 256 * p.val + (x 1).val; omega
  · iexact H

theorem wp_ldW {t : Fin 64} {q : Fin 2} {o : Fin 3 → ℕ} {h} (ho : o = ![t.val, 0, 256 * q.val]) (f : B7 F) :
    P7 c f ⊢ WP c (ldW m7 o h) (fun x => iprop(⌜x = halfOf (tileOf f t) q⌝ ∗ P7 c f)) := by
  subst ho
  unfold WP ldW
  rw [Prog.bind_lift]
  iintro H
  iapply (wp_load_rect 𝒱₀ (c : Thread nD τ) none Set.univ (m := m7) (r := Rect.unit (s := S64x256x512) ![t.val, 0, 256 * q.val] S1x256x256.size h) (S := Finset.univ) (f := f) (q := fullShare) (Finset.subset_univ _)) $$ H
  iintro H
  iapply (le_wp_ret _ _ _ _ _)
  isplitr
  · ipureintro
    funext x
    refine (shapeCast_dropUnit_apply ![256, 256] _ _ x).trans ?_
    show f _ = f _
    congr 1
    funext a
    apply Fin.ext
    fin_cases a
    · show t.val + 1 * 0 = t.val; omega
    · show 0 + 1 * (x 0).val = (x 0).val; omega
    · show 256 * q.val + 1 * (x 1).val = 256 * q.val + (x 1).val; omega
  · iexact H

/-- The result buffer with a popped strip in its block. -/
def putBlk (f : B8 F) (i : Fin 4) (q : Fin 2) (v : AV F) : B8 F := fun y =>
  if (y 0).val / 240 = i.val ∧ (y 1).val / 256 = q.val then
    (truncf .bf16 v bitsLt_bf16_f32 : FVec F S240x256 .bf16) (ix2 ⟨(y 0).val % 240, Nat.mod_lt _ (by decide)⟩ ⟨(y 1).val % 256, Nat.mod_lt _ (by decide)⟩)
  else f y

/-- The weight buffer with a tile in place. -/
def putTile (f : B7 F) (t : Fin 64) (w : FVec F S256x512 .bf16) : B7 F := fun y =>
  if (y 0).val = t.val then w (ix2 (y 1) (y 2)) else f y

theorem tileOf_put (f : B7 F) (t t' : Fin 64) (w : FVec F S256x512 .bf16) :
    tileOf (putTile f t w) t' = if t' = t then w else tileOf f t' := by
  funext x
  by_cases h : t' = t
  · subst h
    rw [if_pos rfl]
    show (if t'.val = t'.val then w (ix2 (x 0) (x 1)) else _) = _
    rw [if_pos rfl]; congr 1; exact (ValueIdx.eq_ix2 x).symm
  · rw [if_neg h]
    show (if t'.val = t.val then w (ix2 (x 0) (x 1)) else _) = _
    rw [if_neg (fun e => h (Fin.ext e))]; rfl

theorem write8 (i : Fin 4) (q : Fin 2) (h) (f : B8 F) (v : AV F) :
    View.write (Elt F) (m8.access (Rect.unit (s := S960x512) ![240 * i.val, 256 * q.val] S240x256.size h)) f
      (shapeCast S240x256 (truncf .bf16 v bitsLt_bf16_f32 : FVec F S240x256 .bf16) shapeCasts_S240x256_S240x256) Finset.univ = (putBlk f i q v : B8 F) := by
  rw [shapeCast_self]
  funext y
  have h0 : (y 0).val < 960 := (y 0).isLt
  have h1 : (y 1).val < 512 := (y 1).isLt
  unfold putBlk
  by_cases hy : (y 0).val / 240 = i.val ∧ (y 1).val / 256 = q.val
  · rw [if_pos hy]
    have e : y = (m8.access (Rect.unit (s := S960x512) ![240 * i.val, 256 * q.val] S240x256.size h)).emb
        (ix2 ⟨(y 0).val % 240, Nat.mod_lt _ (by decide)⟩ ⟨(y 1).val % 256, Nat.mod_lt _ (by decide)⟩) := by
      funext a; apply Fin.ext
      fin_cases a
      · show (y 0).val = 240 * i.val + 1 * ((y 0).val % 240); omega
      · show (y 1).val = 256 * q.val + 1 * ((y 1).val % 256); omega
    exact (congrArg _ e).trans (View.write_emb_of_mem (v := (m8.access (Rect.unit (s := S960x512) ![240 * i.val, 256 * q.val] S240x256.size h))) (Val := Elt F) f _ (Finset.mem_univ _))
  · rw [if_neg hy]
    refine View.write_of_not_mem (v := (m8.access (Rect.unit (s := S960x512) ![240 * i.val, 256 * q.val] S240x256.size h))) (Val := Elt F) f _ _ ?_
    intro hm
    have hm' := (Finset.ext_iff.1 (View.set_slice_whole cc0_scratch4 (Rect.unit (s := S960x512) ![240 * i.val, 256 * q.val] S240x256.size h)) y).1 hm
    have a0 : 240 * i.val ≤ (y 0).val ∧ (y 0).val < 240 * i.val + 240 := Rect.mem_set_unit.1 hm' 0
    have a1 : 256 * q.val ≤ (y 1).val ∧ (y 1).val < 256 * q.val + 256 := Rect.mem_set_unit.1 hm' 1
    exact hy ⟨by omega, by omega⟩

theorem write7 (t : Fin 64) (h) (f : B7 F) (w : FVec F S256x512 .bf16) :
    View.write (Elt F) (m7.access (Rect.unit (s := S64x256x512) ![t.val, 0, 0] S1x256x512.size h)) f
      (shapeCast S1x256x512 w shapeCasts_S256x512_S1x256x512) Finset.univ = (putTile f t w : B7 F) := by
  funext y
  unfold putTile
  by_cases hy : (y 0).val = t.val
  · rw [if_pos hy]
    have e : y = (m7.access (Rect.unit (s := S64x256x512) ![t.val, 0, 0] S1x256x512.size h)).emb (ix3 (0 : Fin 1) (y 1) (y 2)) := by
      funext a; apply Fin.ext
      fin_cases a
      · show (y 0).val = t.val + 1 * 0; omega
      · show (y 1).val = 0 + 1 * (y 1).val; omega
      · show (y 2).val = 0 + 1 * (y 2).val; omega
    refine (congrArg _ e).trans ((View.write_emb_of_mem (v := (m7.access (Rect.unit (s := S64x256x512) ![t.val, 0, 0] S1x256x512.size h))) (Val := Elt F) f _ (Finset.mem_univ _)).trans ?_)
    refine (shapeCast_addUnit_apply ![256, 512] w _ (ix3 (0 : Fin 1) (y 1) (y 2))).trans (congrArg w ?_)
    funext a; fin_cases a <;> rfl
  · rw [if_neg hy]
    refine View.write_of_not_mem (v := (m7.access (Rect.unit (s := S64x256x512) ![t.val, 0, 0] S1x256x512.size h))) (Val := Elt F) f _ _ ?_
    intro hm
    have hm' := (Finset.ext_iff.1 (View.set_slice_whole cc0_scratch3 (Rect.unit (s := S64x256x512) ![t.val, 0, 0] S1x256x512.size h)) y).1 hm
    have a0 : t.val ≤ (y 0).val ∧ (y 0).val < t.val + 1 := Rect.mem_set_unit.1 hm' 0
    exact hy (by omega)

theorem wp_popQ (q : Fin 2) {A : ℕ} {fA : Mxu.Fits A 240} (i : Fin 4) {o : Fin 2 → ℕ} {h} {hp} (ho : o = ![240 * i.val, 256 * q.val])
    (s : Mxu F) (f : B8 F) :
    P8 c f ⊢ WP c (popQ m8 H8 q A fA o h hp s) (fun s' => iprop(⌜s' = s.pop q A 240 fA⌝ ∗ P8 c (putBlk f i q (s.read q A fA)))) := by
  subst ho
  unfold WP popQ
  rw [Prog.bind_lift]
  iintro H
  iapply (wp_load_rect 𝒱₀ (c : Thread nD τ) none Set.univ (m := m8) (r := Rect.unit (s := S960x512) ![240 * i.val, 256 * q.val] S240x256.size h)
    (S := Finset.univ) (f := f) (q := fullShare) (Finset.subset_univ _)) $$ H
  iintro H
  rw [Prog.bind_lift]
  iapply (wp_store 𝒱₀ (c : Thread nD τ) none Set.univ (m := m8) (r := Rect.unit (s := S960x512) ![240 * i.val, 256 * q.val] S240x256.size h)
    (S := Finset.univ) (f := f) (Finset.subset_univ _)) $$ H
  iintro H
  iapply (le_wp_ret _ _ _ _ _)
  isplitr
  · ipureintro; rfl
  · rw [← write8 i q h f (s.read q A fA)]; iexact H

theorem wp_decP {j : Fin 2} {p : Fin 8} {t : Fin 64} {oc h1 os h2 ow h3 hp} (hoc : oc = ![j.val, 256 * p.val, 0]) (hos : os = ![j.val, 256 * p.val, 0])
    (how : ow = ![t.val, 0, 0]) (fb : BitVec 32) (g5 : B5) (g6 : B6) (f : B7 F) :
    iprop(P5 (F := F) c j g5 ∗ P6 (F := F) c j g6 ∗ P7 c f) ⊢ WP c (decP (F := F) m5 m6 m7 H7 oc h1 os h2 ow h3 hp fb)
      (fun _ => iprop(P5 (F := F) c j g5 ∗ P6 (F := F) c j g6 ∗ P7 c (putTile f t (decTile (cBlk g5 j p) (sBlk g6 j p) fb)))) := by
  subst hoc hos how
  unfold WP decP
  rw [Prog.bind_lift]
  iintro ⟨H5, H6, H7⟩
  iapply (wp_load_rect 𝒱₀ (c : Thread nD τ) none Set.univ (m := m5) (r := Rect.unit (s := S2x2048x256) ![j.val, 256 * p.val, 0] S1x256x256.size h1) (S := S5 j) (f := g5) (q := fullShare) ?_) $$ H5
  · intro y hy
    have hy' := (Finset.ext_iff.1 (View.set_slice_whole cc0_scratch1 (Rect.unit (s := S2x2048x256) ![j.val, 256 * p.val, 0] S1x256x256.size h1)) y).1 hy
    have := Rect.mem_set_unit.1 hy' 0
    simp only [S5, Finset.mem_filter, Finset.mem_univ, true_and]
    have h1 : j.val ≤ (y 0).val ∧ (y 0).val < j.val + 1 := this
    omega
  iintro H5
  rw [Prog.bind_lift]
  iapply (wp_load_rect 𝒱₀ (c : Thread nD τ) none Set.univ (m := m6) (r := Rect.unit (s := S2x2048x64) ![j.val, 256 * p.val, 0] S1x256x64.size h2) (S := S6 j) (f := g6) (q := fullShare) ?_) $$ H6
  · intro y hy
    have hy' := (Finset.ext_iff.1 (View.set_slice_whole cc0_scratch2 (Rect.unit (s := S2x2048x64) ![j.val, 256 * p.val, 0] S1x256x64.size h2)) y).1 hy
    have := Rect.mem_set_unit.1 hy' 0
    simp only [S6, Finset.mem_filter, Finset.mem_univ, true_and]
    have h1 : j.val ≤ (y 0).val ∧ (y 0).val < j.val + 1 := this
    omega
  iintro H6
  rw [Prog.bind_lift]
  iapply (wp_load_rect 𝒱₀ (c : Thread nD τ) none Set.univ (m := m7) (r := Rect.unit (s := S64x256x512) ![t.val, 0, 0] S1x256x512.size h3)
    (S := Finset.univ) (f := f) (q := fullShare) (Finset.subset_univ _)) $$ H7
  iintro H7
  iapply (wp_store 𝒱₀ (c : Thread nD τ) none Set.univ (m := m7) (r := Rect.unit (s := S64x256x512) ![t.val, 0, 0] S1x256x512.size h3)
    (S := Finset.univ) (f := f) (Finset.subset_univ _)) $$ H7
  iintro H7
  iapply (le_wp_ret _ _ _ _ _)
  isplitl [H5]; · iexact H5
  isplitl [H6]; · iexact H6
  have e1 : shapeCast S256x256 (fun x => g5 ((Rect.unit (s := S2x2048x256) ![j.val, 256 * p.val, 0] S1x256x256.size h1).emb x)) shapeCasts_S1x256x256_S256x256 = cBlk g5 j p := by
    funext x
    refine (shapeCast_dropUnit_apply ![256, 256] _ _ x).trans ?_
    unfold cBlk
    congr 1
    funext a; apply Fin.ext
    fin_cases a
    · show j.val + 1 * 0 = j.val; omega
    · show 256 * p.val + 1 * (x 0).val = 256 * p.val + (x 0).val; omega
    · show 0 + 1 * (x 1).val = (x 1).val; omega
  have e2 : shapeCast S256x64 (fun x => g6 ((Rect.unit (s := S2x2048x64) ![j.val, 256 * p.val, 0] S1x256x64.size h2).emb x)) shapeCasts_S1x256x64_S256x64 = sBlk g6 j p := by
    funext x
    refine (shapeCast_dropUnit_apply ![256, 64] _ _ x).trans ?_
    unfold sBlk
    congr 1
    funext a; apply Fin.ext
    fin_cases a
    · show j.val + 1 * 0 = j.val; omega
    · show 256 * p.val + 1 * (x 0).val = 256 * p.val + (x 0).val; omega
    · show 0 + 1 * (x 1).val = (x 1).val; omega
  rw [← e1, ← e2, ← write7 t h3 f]
  iexact H7

end Cert.Kernel.P
-- ==== Proof.Pass.lean ====
/-  One pass of a step, with and without the pops, as what it does to the units, the slot, the weight and the result buffer. -/
module

public import proofs.«01_k».proof.Proof.Mem

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

/-- Both registers `r` hold the half tiles `T`, the others nothing. -/
def regs (r : Fin 2) (T : Fin 2 → WV F) : Fin 2 → Fin 2 → Option (Mxu.Staged F) := fun q ρ => if ρ = r then some (stg (T q)) else none

/-- A function of a unit and a strip, changed at a strip. -/
def upc {α : Type} (f : Fin 2 → Fin 4 → α) (i : Fin 4) (v : Fin 2 → α) : Fin 2 → Fin 4 → α := fun q i' => if i' = i then v q else f q i'

theorem up2_up2 {α : Type} (f : Fin 2 → Fin 4 → α) (i : Fin 4) (v : Fin 2 → α) : up2 (up2 f 0 i (v 0)) 1 i (v 1) = upc f i v := by
  funext q i'
  unfold up2 upc
  by_cases h : i' = i
  · subst h; fin_cases q <;> simp
  · simp [h]

/-- The pass of a strip by a half tile. -/
def pss (x : XV F) (w : WV F) : AV F := (stg w).pass x

/-- The result buffer with a strip of both units popped. -/
def put2 (f : B8 F) (i : Fin 4) (A : Fin 2 → Fin 4 → AV F) : B8 F := putBlk (putBlk f i 0 (A 0 i)) i 1 (A 1 i)

/-- The result buffer once every strip is popped. -/
def outOf (A : Fin 2 → Fin 4 → AV F) : B8 F := fun y =>
  (truncf .bf16 (A ⟨(y 1).val / 256, by have : (y 1).val < 512 := (y 1).isLt; omega⟩ ⟨(y 0).val / 240, by have : (y 0).val < 960 := (y 0).isLt; omega⟩)
    bitsLt_bf16_f32 : FVec F S240x256 .bf16) (ix2 ⟨(y 0).val % 240, Nat.mod_lt _ (by decide)⟩ ⟨(y 1).val % 256, Nat.mod_lt _ (by decide)⟩)

theorem put_all (f : B8 F) (A : Fin 2 → Fin 4 → AV F) : put2 (put2 (put2 (put2 f 0 A) 1 A) 2 A) 3 A = outOf A := by
  funext y
  have h0 : (y 0).val < 960 := (y 0).isLt
  have h1 : (y 1).val < 512 := (y 1).isLt
  unfold outOf put2 putBlk
  have hi : (y 0).val / 240 = 0 ∨ (y 0).val / 240 = 1 ∨ (y 0).val / 240 = 2 ∨ (y 0).val / 240 = 3 := by omega
  have hq : (y 1).val / 256 = 0 ∨ (y 1).val / 256 = 1 := by omega
  rcases hi with hi | hi | hi | hi <;> rcases hq with hq | hq <;> simp [hi, hq]

variable {c : Dev nD} {s : Mxu F} {lv : Fin 2 → Fin 4 → Bool} {A : Fin 2 → Fin 4 → AV F} {T : Fin 2 → WV F} {R : Fin 2 → Fin 2 → Option (Mxu.Staged F)}

theorem wp_strip0 {r r' : Fin 2} (hr : r ≠ r') {j : Fin 3} {p : Fin 8} {t : Fin 64} {o h w0 g0 w1 g1}
    (ho : o = ![j.val, 0, 256 * p.val]) (h0 : w0 = ![t.val, 0, 0]) (h1 : w1 = ![t.val, 0, 256])
    (g : B4 F) (f : B7 F) (hM : MG s (regs r T) lv A) :
    iprop(P4 c j g ∗ P7 c f) ⊢ WP c (strip0 m4 m7 r r' o h w0 g0 w1 g1 s) (fun s' => iprop(
      ⌜MG s' (regs r' (halfOf (tileOf f t))) (upc lv 0 fun _ => true) (upc A 0 fun q => dep (lv q 0) (A q 0) (pss (xBlk g j 0 p) (T q)))
        ∧ ∀ q, s'.gmr q = some (stg (T q))⌝ ∗ P4 c j g ∗ P7 c f)) := by
  unfold strip0
  iintro ⟨H4, H7⟩
  iapply (wseq c (wp_ldX (i := 0) c ho g))
  isplitl [H4]; · iexact H4
  iintro %x ⟨%hx, H4⟩
  iapply (wseq c (wp_ldW (t := t) (q := 0) c h0 f))
  isplitl [H7]; · iexact H7
  iintro %y0 ⟨%hy0, H7⟩
  have hs : ∀ q, regs r T q r = some (stg (T q)) := fun q => if_pos rfl
  have hn : ∀ q, regs r T q r' = none := fun q => if_neg (Ne.symm hr)
  have M1 := hM.accLhs 0 r 0 _ (hs 0) x
  have M2 := M1.accLhs 1 r 0 (stg (T 1)) (by simp [up2, hs]) x
  have G0 := gmr_accLhs' hM 0 r 0 _ (hs 0) x
  have G1 := gmr_accLhs' M1 1 r 0 (stg (T 1)) (by simp [up2, hs]) x
  have n0 : up2 (up2 (regs r T) 0 r none) 1 r none 0 r' = none := by simp [up2, hn, hr.symm]
  have M3 := M2.pushed 0 r' n0 y0
  have n1 : up2 (up2 (up2 (regs r T) 0 r none) 1 r none) 0 r' (some (stg y0)) 1 r' = none := by simp [up2, hn, hr.symm]
  have pr0 : ((s.accLhs 0 r 0 x fits_0_240).accLhs 1 r 0 x fits_0_240).PushOk 0 r' false := Mxu.pushOk_of_none _ _ _ _ ((M2.reg 0 r').trans n0)
  have pr1 : (((s.accLhs 0 r 0 x fits_0_240).accLhs 1 r 0 x fits_0_240).pushed 0 r' false y0).PushOk 1 r' false :=
    Mxu.pushOk_of_none _ _ _ _ ((M3.reg 1 r').trans n1)
  iapply (Mxu.wp_pushRhs y0 pr0)
  iapply (wseq c (wp_ldW (t := t) (q := 1) c h1 f))
  isplitl [H7]; · iexact H7
  iintro %y1 ⟨%hy1, H7⟩
  rw [← bind_pure (Mxu.pushRhs _ 1 r' false y1)]
  iapply (Mxu.wp_pushRhs y1 pr1)
  iapply (le_wp_ret _ _ _ _ _)
  isplitr
  · ipureintro
    have M4 := M3.pushed 1 r' n1 y1
    subst hx hy0 hy1
    refine ⟨M4.congr ?_ ?_ ?_, ?_⟩
    · intro q ρ
      by_cases hρ : ρ = r'
      · subst hρ; fin_cases q <;> simp [up2, regs]
      · by_cases hρ2 : ρ = r
        · subst hρ2; fin_cases q <;> simp [up2, regs, hr]
        · fin_cases q <;> simp [up2, regs, hρ, hρ2]
    · intro q i; rw [up2_up2 lv 0 (fun _ => true)]
    · intro q i
      exact congrFun (congrFun (up2_up2 A 0 (fun q => dep (lv q 0) (A q 0) (pss (xBlk g j 0 p) (T q)))) q) i
    · intro q
      rw [Mxu.gmr_pushed, Mxu.gmr_pushed]
      fin_cases q
      · exact (Mxu.gmr_accLhs_ne _ _ _ _ _ _ _ (by decide)).trans G0
      · exact G1
  isplitl [H4]; · iexact H4
  iexact H7

theorem wp_stripA (i : Fin 4) {Ad : ℕ} {fA : Mxu.Fits Ad 240} (hA : Ad = 60 * i.val) {j : Fin 3} {p : Fin 8} {o h}
    (ho : o = ![j.val, 240 * i.val, 256 * p.val]) (g : B4 F) (hM : MG s R lv A) (hG : ∀ q, s.gmr q = some (stg (T q))) :
    P4 c j g ⊢ WP c (stripA m4 Ad fA o h s) (fun s' => iprop(
      ⌜MG s' R (upc lv i fun _ => true) (upc A i fun q => dep (lv q i) (A q i) (pss (xBlk g j i p) (T q)))
        ∧ ∀ q, s'.gmr q = some (stg (T q))⌝ ∗ P4 c j g)) := by
  subst hA
  unfold stripA
  iintro H4
  iapply (wseq c (wp_ldX (i := i) c ho g))
  isplitl [H4]; · iexact H4
  iintro %x ⟨%hx, H4⟩
  iapply (Mxu.wp_accLhsLoaded x fA (hG 0))
  rw [← bind_pure (Mxu.accLhsLoaded _ 1 _ x fA)]
  iapply (Mxu.wp_accLhsLoaded x fA (t := stg (T 1)) ((congrFun (Mxu.gmr_accBy _ _ _ _ _ _) 1).trans (hG 1)))
  iapply (le_wp_ret _ _ _ _ _)
  isplitr
  · ipureintro
    subst hx
    refine ⟨((hM.accBy 0 i (stg (T 0)) _).accBy 1 i (stg (T 1)) _).congr (fun _ _ => rfl) ?_ ?_, fun q => hG q⟩
    · intro q i'; rw [up2_up2 lv i (fun _ => true)]
    · intro q i'
      exact congrFun (congrFun (up2_up2 A i (fun q => dep (lv q i) (A q i) (pss (xBlk g j i p) (T q)))) q) i'
  iexact H4

theorem wp_pop2 (i : Fin 4) {Ad : ℕ} {fA : Mxu.Fits Ad 240} (hA : Ad = 60 * i.val) {o0 h0 hp0 o1 h1 hp1}
    (e0 : o0 = ![240 * i.val, 0]) (e1 : o1 = ![240 * i.val, 256]) (f : B8 F) (hM : MG s R lv A) :
    P8 c f ⊢ WP c (popQ m8 H8 0 Ad fA o0 h0 hp0 s >>= fun s => popQ m8 H8 1 Ad fA o1 h1 hp1 s) (fun s' => iprop(
      ⌜MG s' R (upc lv i fun _ => false) (upc A i fun _ => constant _ .f32 0) ∧ s'.gmr = s.gmr⌝ ∗ P8 c (put2 f i A))) := by
  subst hA
  iintro H
  iapply (wseq c (wp_popQ c 0 i e0 s f))
  isplitl [H]; · iexact H
  iintro %s1 ⟨%h1, H⟩
  subst h1
  iapply (wend c (wp_popQ c 1 i e1 _ _))
  isplitl [H]; · iexact H
  iintro %s2 ⟨%h2, H⟩
  subst h2
  isplitr
  · ipureintro
    refine ⟨((hM.pop 0 i).pop 1 i).congr (fun _ _ => rfl) ?_ ?_, rfl⟩
    · intro q i'; rw [up2_up2 lv i (fun _ => false)]
    · intro q i'; exact congrFun (congrFun (up2_up2 A i (fun _ => constant _ .f32 0)) q) i'
  have a0 : s.read 0 (60 * i.val) fA = A 0 i := hM.rd 0 i
  have a1 : (s.pop 0 (60 * i.val) 240 fA).read 1 (60 * i.val) fA = A 1 i := ((hM.pop 0 i).rd 1 i).trans (by simp [up2])
  rw [a0, a1]
  iexact H

/-- One pass: every strip deposits its pass, and the next tile is staged. -/
theorem wp_passP {r r' : Fin 2} (hr : r ≠ r') {j : Fin 3} {p : Fin 8} {t : Fin 64} {o0 h0 o1 h1 o2 h2 o3 h3 w0 g0 w1 g1}
    (e0 : o0 = ![j.val, 0, 256 * p.val]) (e1 : o1 = ![j.val, 240, 256 * p.val]) (e2 : o2 = ![j.val, 480, 256 * p.val])
    (e3 : o3 = ![j.val, 720, 256 * p.val]) (d0 : w0 = ![t.val, 0, 0]) (d1 : w1 = ![t.val, 0, 256])
    (g : B4 F) (f : B7 F) (hM : MG s (regs r T) lv A) :
    iprop(P4 c j g ∗ P7 c f) ⊢ WP c (passP m4 m7 r r' o0 h0 o1 h1 o2 h2 o3 h3 w0 g0 w1 g1 s) (fun s' => iprop(
      ⌜MG s' (regs r' (halfOf (tileOf f t))) (fun _ _ => true) (fun q i => dep (lv q i) (A q i) (pss (xBlk g j i p) (T q)))⌝ ∗ P4 c j g ∗ P7 c f)) := by
  unfold passP
  iintro ⟨H4, H7⟩
  iapply (wseq c (wp_strip0 hr e0 d0 d1 g f hM))
  isplitl [H4 H7]
  · isplitl [H4]; · iexact H4
    iexact H7
  iintro %s1 ⟨%hs1, H4, H7⟩
  iapply (wseq c (wp_stripA 1 rfl e1 g hs1.1 hs1.2))
  isplitl [H4]; · iexact H4
  iintro %s2 ⟨%hs2, H4⟩
  iapply (wseq c (wp_stripA 2 rfl e2 g hs2.1 hs2.2))
  isplitl [H4]; · iexact H4
  iintro %s3 ⟨%hs3, H4⟩
  iapply (wend c (wp_stripA 3 rfl e3 g hs3.1 hs3.2))
  isplitl [H4]; · iexact H4
  iintro %s4 ⟨%hs4, H4⟩
  isplitr
  · ipureintro
    refine hs4.1.congr (fun _ _ => rfl) ?_ ?_
    · intro q i; fin_cases i <;> simp [upc]
    · intro q i; fin_cases i <;> simp [upc]
  isplitl [H4]; · iexact H4
  iexact H7

/-- A pass that pops the tile before: its strips start anew, and the result buffer holds the tile before. -/
theorem wp_popPassP {j : Fin 3} {p : Fin 8} {t : Fin 64} {o0 h0 o1 h1 o2 h2 o3 h3 w0 g0 w1 g1}
    (e0 : o0 = ![j.val, 0, 256 * p.val]) (e1 : o1 = ![j.val, 240, 256 * p.val]) (e2 : o2 = ![j.val, 480, 256 * p.val])
    (e3 : o3 = ![j.val, 720, 256 * p.val]) (d0 : w0 = ![t.val, 0, 0]) (d1 : w1 = ![t.val, 0, 256])
    (g : B4 F) (f : B7 F) (f8 : B8 F) (hM : MG s (regs 0 T) lv A) :
    iprop(P4 c j g ∗ P7 c f ∗ P8 c f8) ⊢ WP c (popPassP m4 m7 m8 H8 o0 h0 o1 h1 o2 h2 o3 h3 w0 g0 w1 g1 s) (fun s' => iprop(
      ⌜MG s' (regs 1 (halfOf (tileOf f t))) (fun _ _ => true) (fun q i => pss (xBlk g j i p) (T q))⌝ ∗ P4 c j g ∗ P7 c f ∗ P8 c (outOf A))) := by
  unfold popPassP
  iintro ⟨H4, H7, H8⟩
  iapply (wseq c (p := pop0 m8 H8 s) (wp_pop2 0 rfl rfl rfl f8 hM))
  isplitl [H8]; · iexact H8
  iintro %u0 ⟨%hu0, H8⟩
  iapply (wseq c (wp_strip0 (by decide) e0 d0 d1 g f hu0.1))
  isplitl [H4 H7]
  · isplitl [H4]; · iexact H4
    iexact H7
  iintro %s1 ⟨%hs1, H4, H7⟩
  iapply (wseq c (p := pop1 m8 H8 s1) (wp_pop2 1 rfl rfl rfl _ hs1.1))
  isplitl [H8]; · iexact H8
  iintro %u1 ⟨%hu1, H8⟩
  iapply (wseq c (wp_stripA 1 rfl e1 g hu1.1 (fun q => (congrFun hu1.2 q).trans (hs1.2 q))))
  isplitl [H4]; · iexact H4
  iintro %s2 ⟨%hs2, H4⟩
  iapply (wseq c (p := pop2 m8 H8 s2) (wp_pop2 2 rfl rfl rfl _ hs2.1))
  isplitl [H8]; · iexact H8
  iintro %u2 ⟨%hu2, H8⟩
  iapply (wseq c (wp_stripA 2 rfl e2 g hu2.1 (fun q => (congrFun hu2.2 q).trans (hs2.2 q))))
  isplitl [H4]; · iexact H4
  iintro %s3 ⟨%hs3, H4⟩
  iapply (wseq c (p := pop3 m8 H8 s3) (wp_pop2 3 rfl rfl rfl _ hs3.1))
  isplitl [H8]; · iexact H8
  iintro %u3 ⟨%hu3, H8⟩
  iapply (wend c (wp_stripA 3 rfl e3 g hu3.1 (fun q => (congrFun hu3.2 q).trans (hs3.2 q))))
  isplitl [H4]; · iexact H4
  iintro %s4 ⟨%hs4, H4⟩
  isplitr
  · ipureintro
    refine hs4.1.congr (fun _ _ => rfl) ?_ ?_
    · intro q i; fin_cases i <;> simp [upc]
    · intro q i; fin_cases i <;> simp [upc, dep]
  isplitl [H4]; · iexact H4
  isplitl [H7]; · iexact H7
  rw [← put_all f8 A]
  iexact H8

end Cert.Kernel.P
-- ==== Proof.Conds.lean ====
/-  When each form of a step is taken, as conditions on the step's number. -/
module

public import proofs.«01_k».proof.Proof.Prog

@[expose] public section

set_option maxRecDepth 65536

noncomputable section

namespace Cert.Kernel.P

open Idealize.ShloMosaic Idealize.SL.Sem Cert.Kernel Cert.Kernel.Gen

theorem trips_eq : k0_t1_loop.trips = 256 := by decide +kernel

/-- Step `s` decodes a weight chunk. -/
def dec (s : ℕ) : Prop := (s + 1) % 64 < 8 ∧ s + 1 < 256
instance (s : ℕ) : Decidable (dec s) := inferInstanceAs (Decidable (_ ∧ _))

/-- The chunk step `s` decodes. -/
def chunk (s : ℕ) : ℕ := 8 * ((s + 1) / 64) + (s + 1) % 8

theorem cond1_iff : ∀ k : Fin k0_t1_loop.trips, k0_cond1 k = 1#1 ↔ (k.val % 8 = 0 ∧ 16 ≤ k.val) := by decide +kernel
theorem cond2_iff : ∀ k : Fin k0_t1_loop.trips, k0_cond2 k = 1#1 ↔ (k.val % 8 = 1 ∧ 8 ≤ k.val) := by decide +kernel
theorem cond3_iff : ∀ k : Fin k0_t1_loop.trips, k0_cond3 k = 1#1 ↔ dec k.val := by decide +kernel
theorem cond4_iff : ∀ k : Fin k0_t1_loop.trips, k0_cond4 k = 1#1 ↔ (dec k.val ∧ chunk k.val + 1 < 32) := by decide +kernel
theorem cond5_iff : ∀ k : Fin k0_t1_loop.trips, k0_cond5 k = 1#1 ↔ k.val + 2 < 256 := by decide +kernel
theorem cond6_iff : ∀ k : Fin k0_t1_loop.trips, k0_cond6 k = 1#1 ↔ (¬ dec k.val ∧ ¬ k.val % 8 = 0) := by decide +kernel
theorem cond7_iff : ∀ k : Fin k0_t1_loop.trips, k0_cond7 k = 1#1 ↔ (¬ dec k.val ∧ k.val % 8 = 0) := by decide +kernel
theorem cond8_iff : ∀ k : Fin k0_t1_loop.trips, k0_cond8 k = 1#1 ↔ (dec k.val ∧ ¬ k.val % 8 = 0) := by decide +kernel
theorem cond9_iff : ∀ k : Fin k0_t1_loop.trips, k0_cond9 k = 1#1 ↔ (dec k.val ∧ k.val % 8 = 0) := by decide +kernel
theorem off26_eq : ∀ k : Fin k0_t1_loop.trips, k0_cond1 k = 1#1 → k0_off26 k = ![960 * ((k.val / 8 - 2) % 8), 512 * ((k.val / 8 - 2) / 8)] := by decide +kernel
theorem off27_eq : ∀ k : Fin k0_t1_loop.trips, k0_cond2 k = 1#1 → k0_off27 k = ![960 * ((k.val / 8 - 1) % 8), 512 * ((k.val / 8 - 1) / 8)] := by decide +kernel
theorem off3_eq : ∀ r : Fin 2, k0_off3 (BitVec.ofNat 32 r.val) (BitVec.ofNat 32 r.val) = ![2048 * r.val, 0] := by decide +kernel
theorem off8_eq : ∀ r : Fin 2, k0_off8 (BitVec.ofNat 32 r.val) (BitVec.ofNat 32 r.val) = ![0, 2048 * r.val] := by decide +kernel
theorem off214_eq : k0_off214 30#32 30#32 = ![5760, 1536] ∧ k0_off214 31#32 31#32 = ![6720, 1536] := by decide +kernel
theorem fbOf_iv : ∀ k : Fin k0_t1_loop.trips, fbOf (Scf.iv 0#32 1#32 k) = BitVec.ofNat 32 (16 * ((k.val + 1) / 64)) := by decide +kernel

end Cert.Kernel.P
-- ==== Proof.Steps.lean ====
/-  What a step of the loop computes: the left operand's strips, the decoded weight tiles and the running sums as functions of the arguments, and each kind of step as a change of the units and buffers. -/
module

public import proofs.«01_k».proof.Proof.Pass
public import proofs.«01_k».proof.Proof.Conds

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

/-- A number as an index, wrapped round. -/
def fn (n : ℕ) [NeZero n] (k : ℕ) : Fin n := ⟨k % n, Nat.mod_lt _ (NeZero.pos n)⟩

theorem fn_val (n : ℕ) [NeZero n] (x : Fin n) : fn n x.val = x := Fin.ext (Nat.mod_eq_of_lt x.isLt)

section Values

variable (dy : S7680x16384.Idx → F .bf16) (wp : S16384x1024.Idx → BitVec 8) (ws : S16384x64.Idx → BitVec 8)

/-- Strip `i` of row block `m` of the left operand, at column block `kt`. -/
def xOf (m kt : ℕ) (i : Fin 4) : XV F := fun x => dy (ix2 (fn 7680 (960 * m + 240 * i.val + (x 0).val)) (fn 16384 (256 * kt + (x 1).val)))

/-- The decoded weight tile of row block `kt` and column block `n`. -/
def wOf (n kt : ℕ) : FVec F S256x512 .bf16 :=
  decTile (fun x => wp (ix2 (fn 16384 (256 * kt + (x 0).val)) (fn 1024 (256 * n + (x 1).val))))
    (fun x => ws (ix2 (fn 16384 (256 * kt + (x 0).val)) (x 1))) (BitVec.ofNat 32 (16 * n))

/-- What strip `i` of unit `q` sums to after `j` passes of tile `(m, n)`. -/
def accV (m n : ℕ) (q : Fin 2) (i : Fin 4) : ℕ → AV F
  | 0 => constant S240x256 .f32 0x0#32
  | j + 1 => dep (decide (0 < j)) (accV m n q i j) (pss (xOf dy m j i) (halfOf (wOf wp ws n j) q))

/-- Slot `j` holds rows of block `m` and columns of chunk `c` of the left operand. -/
def GX (g : B4 F) (j : Fin 3) (m c : ℕ) : Prop := ∀ y, (y 0).val = j.val →
  g y = dy (ix2 (fn 7680 (960 * m + (y 1).val)) (fn 16384 (2048 * c + (y 2).val)))
/-- Slot `j` holds codes of chunk `c`, column block `n`; and scales of chunk `c`. -/
def G5 (g : B5) (j : Fin 2) (n c : ℕ) : Prop := ∀ y, (y 0).val = j.val →
  g y = wp (ix2 (fn 16384 (2048 * c + (y 1).val)) (fn 1024 (256 * n + (y 2).val)))
def G6 (g : B6) (j : Fin 2) (c : ℕ) : Prop := ∀ y, (y 0).val = j.val →
  g y = ws (ix2 (fn 16384 (2048 * c + (y 1).val)) (y 2))

theorem xBlk_eq {g : B4 F} {j : Fin 3} {m c : ℕ} (h : GX dy g j m c) (i : Fin 4) (p : Fin 8) : xBlk g j i p = xOf dy m (8 * c + p.val) i := by
  funext x
  refine (h _ rfl).trans ?_
  show dy (ix2 (fn 7680 (960 * m + (240 * i.val + (x 0).val))) (fn 16384 (2048 * c + (256 * p.val + (x 1).val)))) = _
  unfold xOf
  rw [show 960 * m + (240 * i.val + (x 0).val) = 960 * m + 240 * i.val + (x 0).val by omega,
    show 2048 * c + (256 * p.val + (x 1).val) = 256 * (8 * c + p.val) + (x 1).val by omega]

theorem decTile_eq {g5 : B5} {g6 : B6} {j : Fin 2} {n c : ℕ} (h5 : G5 wp g5 j n c) (h6 : G6 ws g6 j c) (p : Fin 8) :
    decTile (F := F) (cBlk g5 j p) (sBlk g6 j p) (BitVec.ofNat 32 (16 * n)) = wOf wp ws n (8 * c + p.val) := by
  unfold wOf
  congr 1
  · funext x
    refine (h5 _ rfl).trans ?_
    show wp (ix2 (fn 16384 (2048 * c + (256 * p.val + (x 0).val))) (fn 1024 (256 * n + (x 1).val))) = _
    rw [show 2048 * c + (256 * p.val + (x 0).val) = 256 * (8 * c + p.val) + (x 0).val by omega]
  · funext x
    refine (h6 _ rfl).trans ?_
    show ws (ix2 (fn 16384 (2048 * c + (256 * p.val + (x 0).val))) (x 1)) = _
    rw [show 2048 * c + (256 * p.val + (x 0).val) = 256 * (8 * c + p.val) + (x 0).val by omega]

/-- The units inside a tile, after `j` passes: register `r` holds the tile `w`. -/
def ST (m n j : ℕ) (r : Fin 2) (w : FVec F S256x512 .bf16) (s : Mxu F) : Prop :=
  MG s (regs r (halfOf w)) (fun _ _ => true) (fun q i => accV dy wp ws m n q i j)

/-- The weight buffer with the first `p` tiles of chunk `ce` of column block `ne` decoded into it. -/
def fdec (ne ce : ℕ) (f : B7 F) (p : ℕ) : B7 F := fun y =>
  if (y 0).val / 8 = ce ∧ (y 0).val % 8 < p then wOf wp ws ne (y 0).val (ix2 (y 1) (y 2)) else f y

theorem tileOf_fdec (ne ce : ℕ) (f : B7 F) (p : ℕ) (t : Fin 64) :
    tileOf (fdec wp ws ne ce f p) t = if t.val / 8 = ce ∧ t.val % 8 < p then wOf wp ws ne t.val else tileOf f t := by
  funext x
  show (if t.val / 8 = ce ∧ t.val % 8 < p then wOf wp ws ne t.val (ix2 (x 0) (x 1)) else f (ix3 t (x 0) (x 1))) = _
  split
  · congr 1; exact (ValueIdx.eq_ix2 x).symm
  · rfl

theorem fdec_zero (ne ce : ℕ) (f : B7 F) : fdec wp ws ne ce f 0 = f := by
  funext y; exact if_neg (by omega)

theorem fdec_succ (ne ce : ℕ) (f : B7 F) (p : ℕ) (hp : p < 8) (t : Fin 64) (ht : t.val = 8 * ce + p) :
    putTile (fdec wp ws ne ce f p) t (wOf wp ws ne (8 * ce + p)) = fdec wp ws ne ce f (p + 1) := by
  funext y
  unfold putTile fdec
  by_cases h : (y 0).val = t.val
  · rw [if_pos h, if_pos (by omega), h, ht]
  · rw [if_neg h]
    by_cases h' : (y 0).val / 8 = ce ∧ (y 0).val % 8 < p
    · rw [if_pos h', if_pos (by omega)]
    · rw [if_neg h', if_neg (by omega)]

end Values

theorem cEq {n : ℕ} {o e : Fin n → ℕ} [h : ClosedOff o] (he : h.form = e) : o = e := h.eq.trans he

variable {c : Dev nD} {s : Mxu F} {lv : Fin 2 → Fin 4 → Bool} {A : Fin 2 → Fin 4 → AV F}
variable {dy : S7680x16384.Idx → F .bf16} {wp : S16384x1024.Idx → BitVec 8} {ws : S16384x64.Idx → BitVec 8}

/-- A pass inside a tile. -/
theorem wp_pass (cc p : ℕ) (hp : p < 8) {r r' : Fin 2} {j : Fin 3} (t : Fin 64) {m n : ℕ} {o0 h0 o1 h1 o2 h2 o3 h3 w0 g0 w1 g1} {w : FVec F S256x512 .bf16}
    {g : B4 F} (hX : GX dy g j m cc) {f : B7 F} (hw : w = tileOf f t) (hj : 0 < 8 * cc + p)
    (hM : ST dy wp ws m n (8 * cc + p) r (wOf wp ws n (8 * cc + p)) s) (hr : r ≠ r')
    (e0 : o0 = ![j.val, 0, 256 * p]) (e1 : o1 = ![j.val, 240, 256 * p]) (e2 : o2 = ![j.val, 480, 256 * p])
    (e3 : o3 = ![j.val, 720, 256 * p]) (d0 : w0 = ![t.val, 0, 0]) (d1 : w1 = ![t.val, 0, 256]) :
    iprop(P4 c j g ∗ P7 c f) ⊢ WP c (passP m4 m7 r r' o0 h0 o1 h1 o2 h2 o3 h3 w0 g0 w1 g1 s) (fun s' => iprop(
      ⌜ST dy wp ws m n (8 * cc + p + 1) r' w s'⌝ ∗ P4 c j g ∗ P7 c f)) := by
  iintro H
  iapply (wend c (wp_passP (p := ⟨p, hp⟩) hr e0 e1 e2 e3 d0 d1 g f hM))
  isplitl [H]; · iexact H
  iintro %s' ⟨%hs, H⟩
  isplitr
  · ipureintro
    subst hw
    refine hs.congr (fun _ _ => rfl) (fun _ _ => rfl) ?_
    intro q i
    show dep true _ _ = dep (decide (0 < 8 * cc + p)) _ _
    rw [decide_eq_true hj, xBlk_eq dy hX]
  iexact H

/-- The first pass of a tile, which pops the tile before. -/
theorem wp_popPass {j : Fin 3} (t : Fin 64) {m n : ℕ} {o0 h0 o1 h1 o2 h2 o3 h3 w0 g0 w1 g1} {w : FVec F S256x512 .bf16}
    {g : B4 F} (hX : GX dy g j m 0) {f : B7 F} (f8 : B8 F) (hw : w = tileOf f t)
    (hM : MG s (regs 0 (halfOf (wOf wp ws n 0))) lv A)
    (e0 : o0 = ![j.val, 0, 0]) (e1 : o1 = ![j.val, 240, 0]) (e2 : o2 = ![j.val, 480, 0])
    (e3 : o3 = ![j.val, 720, 0]) (d0 : w0 = ![t.val, 0, 0]) (d1 : w1 = ![t.val, 0, 256]) :
    iprop(P4 c j g ∗ P7 c f ∗ P8 c f8) ⊢ WP c (popPassP m4 m7 m8 H8 o0 h0 o1 h1 o2 h2 o3 h3 w0 g0 w1 g1 s) (fun s' => iprop(
      ⌜ST dy wp ws m n 1 1 w s'⌝ ∗ P4 c j g ∗ P7 c f ∗ P8 c (outOf A))) := by
  iintro H
  iapply (wend c (wp_popPassP (p := 0) e0 e1 e2 e3 d0 d1 g f f8 hM))
  isplitl [H]; · iexact H
  iintro %s' ⟨%hs, H⟩
  isplitr
  · ipureintro
    subst hw
    refine hs.congr (fun _ _ => rfl) (fun _ _ => rfl) ?_
    intro q i
    show _ = dep (decide (0 < 0)) _ _
    rw [xBlk_eq dy hX]; rfl
  iexact H

/-- The decoding of one tile. -/
theorem wp_dec (ne ce p : ℕ) (hp : p < 8) {j : Fin 2} {fb : BitVec 32} {oc h1 os h2 ow h3 hk} {g5 : B5} {g6 : B6} {f : B7 F}
    (h5 : G5 wp g5 j ne ce) (h6 : G6 ws g6 j ce) (hf : fb = BitVec.ofNat 32 (16 * ne)) (hce : ce < 8)
    (hoc : oc = ![j.val, 256 * p, 0]) (hos : os = ![j.val, 256 * p, 0]) (how : ow = ![8 * ce + p, 0, 0]) :
    iprop(P5 (F := F) c j g5 ∗ P6 (F := F) c j g6 ∗ P7 c (fdec wp ws ne ce f p)) ⊢ WP c (decP (F := F) m5 m6 m7 H7 oc h1 os h2 ow h3 hk fb)
      (fun _ => iprop(P5 (F := F) c j g5 ∗ P6 (F := F) c j g6 ∗ P7 c (fdec wp ws ne ce f (p + 1)))) := by
  have := wp_decP (F := F) (t := ⟨8 * ce + p, by omega⟩) (p := ⟨p, hp⟩) (h1 := h1) (h2 := h2) (h3 := h3) (hp := hk) c hoc hos how fb g5 g6 (fdec wp ws ne ce f p)
  rwa [hf, decTile_eq wp ws h5 h6, fdec_succ wp ws ne ce f p hp _ rfl, ← hf] at this

/-- A pass and the decoding of a tile after it. -/
theorem wp_passDec (cc p ne ce : ℕ) (hp : p < 8) {r r' : Fin 2} {j : Fin 3} (t : Fin 64) {m n : ℕ} {o0 h0 o1 h1 o2 h2 o3 h3 w0 g0 w1 g1} {w : FVec F S256x512 .bf16}
    {g : B4 F} (hX : GX dy g j m cc) {f : B7 F} (hw : w = tileOf (fdec wp ws ne ce f p) t) (hj : 0 < 8 * cc + p)
    (hM : ST dy wp ws m n (8 * cc + p) r (wOf wp ws n (8 * cc + p)) s) (hr : r ≠ r')
    {j5 : Fin 2} {fb : BitVec 32} {oc l1 os l2 ow l3 hk} {g5 : B5} {g6 : B6}
    (h5 : G5 wp g5 j5 ne ce) (h6 : G6 ws g6 j5 ce) (hf : fb = BitVec.ofNat 32 (16 * ne)) (hce : ce < 8)
    {α : Type} {K : Mxu F → TC F α} {Q : α → sProp 𝕄}
    (e0 : o0 = ![j.val, 0, 256 * p]) (e1 : o1 = ![j.val, 240, 256 * p]) (e2 : o2 = ![j.val, 480, 256 * p])
    (e3 : o3 = ![j.val, 720, 256 * p]) (d0 : w0 = ![t.val, 0, 0]) (d1 : w1 = ![t.val, 0, 256])
    (hoc : oc = ![j5.val, 256 * p, 0]) (hos : os = ![j5.val, 256 * p, 0]) (how : ow = ![8 * ce + p, 0, 0]) :
    iprop((P4 c j g ∗ P5 (F := F) c j5 g5 ∗ P6 (F := F) c j5 g6 ∗ P7 c (fdec wp ws ne ce f p)) ∗
      (∀ s', (⌜ST dy wp ws m n (8 * cc + p + 1) r' w s'⌝ ∗ (P4 c j g ∗ P5 (F := F) c j5 g5 ∗ P6 (F := F) c j5 g6 ∗ P7 c (fdec wp ws ne ce f (p + 1)))) -∗ WP c (K s') Q))
    ⊢ WP c (passP m4 m7 r r' o0 h0 o1 h1 o2 h2 o3 h3 w0 g0 w1 g1 s >>= fun s' => decP (F := F) m5 m6 m7 H7 oc l1 os l2 ow l3 hk fb >>= fun _ => K s') Q := by
  iintro ⟨⟨H4, H5, H6, H7⟩, HK⟩
  iapply (wseq c (wp_pass cc p hp t hX hw hj hM hr e0 e1 e2 e3 d0 d1))
  isplitl [H4 H7]
  · isplitl [H4]; · iexact H4
    iexact H7
  iintro %s' ⟨%hs, H4, H7⟩
  iapply (wseq c (wp_dec ne ce p hp h5 h6 hf hce hoc hos how))
  isplitl [H5 H6 H7]
  · isplitl [H5]; · iexact H5
    isplitl [H6]; · iexact H6
    iexact H7
  iintro %_ ⟨H5, H6, H7⟩
  iapply HK
  isplitr; · ipureintro; exact hs
  isplitl [H4]; · iexact H4
  isplitl [H5]; · iexact H5
  isplitl [H6]; · iexact H6
  iexact H7

/-- The tile a pass of a step stages. -/
abbrev tNext (k p : ℕ) : Fin 64 := ⟨(8 * (k % 8) + p + 1) % 64, Nat.mod_lt _ (by decide)⟩
abbrev slot3 (k : ℕ) : Fin 3 := ⟨k % 3, Nat.mod_lt _ (by decide)⟩
abbrev slot2 (e : ℕ) : Fin 2 := ⟨e % 2, Nat.mod_lt _ (by decide)⟩

section Steps

variable (k : Fin k0_t1_loop.trips) {m n : ℕ} {g : B4 F} {f : B7 F}

theorem wp_branch6 (h : k0_cond6 k = 1#1) (hX : GX dy g (slot3 k.val) m (k.val % 8)) (hf : ∀ t, tileOf f t = wOf wp ws n t.val)
    (hM : ST dy wp ws m n (8 * (k.val % 8)) 0 (wOf wp ws n (8 * (k.val % 8))) s) :
    iprop(P4 c (slot3 k.val) g ∗ P7 c f) ⊢ WP c (branch6 m4 m7 k h s) (fun s' => iprop(
      ⌜ST dy wp ws m n (8 * (k.val % 8) + 8) 0 (tileOf f (tNext k.val 7)) s'⌝ ∗ P4 c (slot3 k.val) g ∗ P7 c f)) := by
  have hk := ((cond6_iff k).1 h).2
  have hw : ∀ p, p < 7 → wOf wp ws n (8 * (k.val % 8) + p + 1) = tileOf f (tNext k.val p) := fun p hp => by
    rw [hf]; congr 1; show _ = (8 * (k.val % 8) + p + 1) % 64; omega
  unfold branch6
  iintro H
  iapply (wseq c (wp_pass (k.val % 8) 0 (by decide) (tNext k.val 0) hX (hw 0 (by decide)) (by omega) hM (by decide) (cEq rfl) (cEq rfl) (cEq rfl) (cEq rfl) (cEq rfl) (cEq rfl)))
  isplitl [H]; · iexact H
  iintro %s1 ⟨%h1, H⟩
  iapply (wseq c (wp_pass (k.val % 8) 1 (by decide) (tNext k.val 1) hX (hw 1 (by decide)) (by omega) h1 (by decide) (cEq rfl) (cEq rfl) (cEq rfl) (cEq rfl) (cEq rfl) (cEq rfl)))
  isplitl [H]; · iexact H
  iintro %s2 ⟨%h2, H⟩
  iapply (wseq c (wp_pass (k.val % 8) 2 (by decide) (tNext k.val 2) hX (hw 2 (by decide)) (by omega) h2 (by decide) (cEq rfl) (cEq rfl) (cEq rfl) (cEq rfl) (cEq rfl) (cEq rfl)))
  isplitl [H]; · iexact H
  iintro %s3 ⟨%h3, H⟩
  iapply (wseq c (wp_pass (k.val % 8) 3 (by decide) (tNext k.val 3) hX (hw 3 (by decide)) (by omega) h3 (by decide) (cEq rfl) (cEq rfl) (cEq rfl) (cEq rfl) (cEq rfl) (cEq rfl)))
  isplitl [H]; · iexact H
  iintro %s4 ⟨%h4, H⟩
  iapply (wseq c (wp_pass (k.val % 8) 4 (by decide) (tNext k.val 4) hX (hw 4 (by decide)) (by omega) h4 (by decide) (cEq rfl) (cEq rfl) (cEq rfl) (cEq rfl) (cEq rfl) (cEq rfl)))
  isplitl [H]; · iexact H
  iintro %s5 ⟨%h5, H⟩
  iapply (wseq c (wp_pass (k.val % 8) 5 (by decide) (tNext k.val 5) hX (hw 5 (by decide)) (by omega) h5 (by decide) (cEq rfl) (cEq rfl) (cEq rfl) (cEq rfl) (cEq rfl) (cEq rfl)))
  isplitl [H]; · iexact H
  iintro %s6 ⟨%h6, H⟩
  iapply (wseq c (wp_pass (k.val % 8) 6 (by decide) (tNext k.val 6) hX (hw 6 (by decide)) (by omega) h6 (by decide) (cEq rfl) (cEq rfl) (cEq rfl) (cEq rfl) (cEq rfl) (cEq rfl)))
  isplitl [H]; · iexact H
  iintro %s7 ⟨%h7, H⟩
  iapply (wp_pass (k.val % 8) 7 (by decide) (tNext k.val 7) hX rfl (by omega) h7 (by decide) (cEq rfl) (cEq rfl) (cEq rfl) (cEq rfl) (cEq rfl) (cEq rfl))
  iexact H

theorem wp_branch7 (f8 : B8 F) (h : k0_cond7 k = 1#1) (hX : GX dy g (slot3 k.val) m 0) (hf : ∀ t, tileOf f t = wOf wp ws n t.val)
    (hM : MG s (regs 0 (halfOf (wOf wp ws n 0))) lv A) :
    iprop(P4 c (slot3 k.val) g ∗ P7 c f ∗ P8 c f8) ⊢ WP c (branch7 m4 m7 m8 H8 k h s) (fun s' => iprop(
      ⌜ST dy wp ws m n 8 0 (tileOf f (tNext k.val 7)) s'⌝ ∗ P4 c (slot3 k.val) g ∗ P7 c f ∗ P8 c (outOf A))) := by
  have hk := ((cond7_iff k).1 h).2
  have hw : ∀ p, p < 7 → wOf wp ws n (8 * 0 + p + 1) = tileOf f (tNext k.val p) := fun p hp => by
    rw [hf]; congr 1; show _ = (8 * (k.val % 8) + p + 1) % 64; omega
  unfold branch7
  iintro H
  iapply (wseq c (wp_popPass (tNext k.val 0) hX f8 (hw 0 (by decide)) hM (cEq rfl) (cEq rfl) (cEq rfl) (cEq rfl) (cEq rfl) (cEq rfl)))
  isplitl [H]; · iexact H
  iintro %s1 ⟨%h1, H4, H7, H8⟩
  ihave H : iprop(P4 c (slot3 k.val) g ∗ P7 c f) $$ [H4 H7]
  · isplitl [H4]; · iexact H4
    iexact H7
  iapply (wseq c (wp_pass 0 1 (by decide) (tNext k.val 1) hX (hw 1 (by decide)) (by omega) h1 (by decide) (cEq rfl) (cEq rfl) (cEq rfl) (cEq rfl) (cEq rfl) (cEq rfl)))
  isplitl [H]; · iexact H
  iintro %s2 ⟨%h2, H⟩
  iapply (wseq c (wp_pass 0 2 (by decide) (tNext k.val 2) hX (hw 2 (by decide)) (by omega) h2 (by decide) (cEq rfl) (cEq rfl) (cEq rfl) (cEq rfl) (cEq rfl) (cEq rfl)))
  isplitl [H]; · iexact H
  iintro %s3 ⟨%h3, H⟩
  iapply (wseq c (wp_pass 0 3 (by decide) (tNext k.val 3) hX (hw 3 (by decide)) (by omega) h3 (by decide) (cEq rfl) (cEq rfl) (cEq rfl) (cEq rfl) (cEq rfl) (cEq rfl)))
  isplitl [H]; · iexact H
  iintro %s4 ⟨%h4, H⟩
  iapply (wseq c (wp_pass 0 4 (by decide) (tNext k.val 4) hX (hw 4 (by decide)) (by omega) h4 (by decide) (cEq rfl) (cEq rfl) (cEq rfl) (cEq rfl) (cEq rfl) (cEq rfl)))
  isplitl [H]; · iexact H
  iintro %s5 ⟨%h5, H⟩
  iapply (wseq c (wp_pass 0 5 (by decide) (tNext k.val 5) hX (hw 5 (by decide)) (by omega) h5 (by decide) (cEq rfl) (cEq rfl) (cEq rfl) (cEq rfl) (cEq rfl) (cEq rfl)))
  isplitl [H]; · iexact H
  iintro %s6 ⟨%h6, H⟩
  iapply (wseq c (wp_pass 0 6 (by decide) (tNext k.val 6) hX (hw 6 (by decide)) (by omega) h6 (by decide) (cEq rfl) (cEq rfl) (cEq rfl) (cEq rfl) (cEq rfl) (cEq rfl)))
  isplitl [H]; · iexact H
  iintro %s7 ⟨%h7, H⟩
  iapply (wend c (wp_pass 0 7 (by decide) (tNext k.val 7) hX rfl (by omega) h7 (by decide) (cEq rfl) (cEq rfl) (cEq rfl) (cEq rfl) (cEq rfl) (cEq rfl)))
  isplitl [H]; · iexact H
  iintro %s8 ⟨%h8, H4, H7⟩
  isplitr; · ipureintro; exact h8
  isplitl [H4]; · iexact H4
  isplitl [H7]; · iexact H7
  iexact H8

/-- The last pass of a step that decodes stages the first tile decoded. -/
theorem hwLast (f : B7 F) : wOf wp ws ((k.val + 1) / 64) (8 * (chunk k.val % 8)) = tileOf (fdec wp ws ((k.val + 1) / 64) (chunk k.val % 8) f 7) (tNext k.val 7) := by
  rw [tileOf_fdec]
  show _ = if (8 * (k.val % 8) + 7 + 1) % 64 / 8 = chunk k.val % 8 ∧ (8 * (k.val % 8) + 7 + 1) % 64 % 8 < 7 then wOf wp ws ((k.val + 1) / 64) ((8 * (k.val % 8) + 7 + 1) % 64) else _
  rw [if_pos (by unfold chunk; omega), show 8 * (chunk k.val % 8) = (8 * (k.val % 8) + 7 + 1) % 64 by unfold chunk; omega]

theorem wp_branch8 {g5 : B5} {g6 : B6} (h : k0_cond8 k = 1#1) (hX : GX dy g (slot3 k.val) m (k.val % 8))
    (hf : ∀ t : Fin 64, t.val / 8 = k.val % 8 → tileOf f t = wOf wp ws n t.val)
    (hg5 : G5 wp g5 (slot2 (chunk k.val)) ((k.val + 1) / 64) (chunk k.val % 8)) (hg6 : G6 ws g6 (slot2 (chunk k.val)) (chunk k.val % 8)) {a : BitVec 32}
    (hfb : fbOf a = BitVec.ofNat 32 (16 * ((k.val + 1) / 64)))
    (hM : ST dy wp ws m n (8 * (k.val % 8)) 0 (wOf wp ws n (8 * (k.val % 8))) s) :
    iprop(P4 c (slot3 k.val) g ∗ P5 (F := F) c (slot2 (chunk k.val)) g5 ∗ P6 (F := F) c (slot2 (chunk k.val)) g6 ∗ P7 c f)
    ⊢ WP c (branch8 m4 m5 m6 m7 H7 k h a s) (fun s' => iprop(
      ⌜ST dy wp ws m n (8 * (k.val % 8) + 8) 0 (wOf wp ws ((k.val + 1) / 64) (8 * (chunk k.val % 8))) s'⌝ ∗ P4 c (slot3 k.val) g
        ∗ P5 (F := F) c (slot2 (chunk k.val)) g5 ∗ P6 (F := F) c (slot2 (chunk k.val)) g6 ∗ P7 c (fdec wp ws ((k.val + 1) / 64) (chunk k.val % 8) f 8))) := by
  have hk := ((cond8_iff k).1 h).2
  have hw : ∀ p, p < 7 → wOf wp ws n (8 * (k.val % 8) + p + 1) = tileOf (fdec wp ws ((k.val + 1) / 64) (chunk k.val % 8) f p) (tNext k.val p) := fun p hp => by
    rw [tileOf_fdec]
    show wOf wp ws n (8 * (k.val % 8) + p + 1) = if (8 * (k.val % 8) + p + 1) % 64 / 8 = chunk k.val % 8 ∧ (8 * (k.val % 8) + p + 1) % 64 % 8 < p then _ else _
    rw [if_neg (by unfold chunk; omega), hf _ (by show (8 * (k.val % 8) + p + 1) % 64 / 8 = _; omega)]
    congr 1; show _ = (8 * (k.val % 8) + p + 1) % 64; omega
  have hw7 : wOf wp ws ((k.val + 1) / 64) (8 * (chunk k.val % 8)) = tileOf (fdec wp ws ((k.val + 1) / 64) (chunk k.val % 8) f 7) (tNext k.val 7) := hwLast k _
  unfold branch8
  iintro H
  rw [← fdec_zero wp ws ((k.val + 1) / 64) (chunk k.val % 8) f]
  iapply (wp_passDec (k.val % 8) 0 _ _ (by decide) (tNext k.val 0) hX (hw 0 (by decide)) (by omega) hM (by decide) hg5 hg6 hfb (by omega) (cEq rfl) (cEq rfl) (cEq rfl) (cEq rfl) (cEq rfl) (cEq rfl) (cEq rfl) (cEq rfl) (cEq rfl))
  isplitl [H]; · iexact H
  iintro %s1 ⟨%h1, H⟩
  iapply (wp_passDec (k.val % 8) 1 _ _ (by decide) (tNext k.val 1) hX (hw 1 (by decide)) (by omega) h1 (by decide) hg5 hg6 hfb (by omega) (cEq rfl) (cEq rfl) (cEq rfl) (cEq rfl) (cEq rfl) (cEq rfl) (cEq rfl) (cEq rfl) (cEq rfl))
  isplitl [H]; · iexact H
  iintro %s2 ⟨%h2, H⟩
  iapply (wp_passDec (k.val % 8) 2 _ _ (by decide) (tNext k.val 2) hX (hw 2 (by decide)) (by omega) h2 (by decide) hg5 hg6 hfb (by omega) (cEq rfl) (cEq rfl) (cEq rfl) (cEq rfl) (cEq rfl) (cEq rfl) (cEq rfl) (cEq rfl) (cEq rfl))
  isplitl [H]; · iexact H
  iintro %s3 ⟨%h3, H⟩
  iapply (wp_passDec (k.val % 8) 3 _ _ (by decide) (tNext k.val 3) hX (hw 3 (by decide)) (by omega) h3 (by decide) hg5 hg6 hfb (by omega) (cEq rfl) (cEq rfl) (cEq rfl) (cEq rfl) (cEq rfl) (cEq rfl) (cEq rfl) (cEq rfl) (cEq rfl))
  isplitl [H]; · iexact H
  iintro %s4 ⟨%h4, H⟩
  iapply (wp_passDec (k.val % 8) 4 _ _ (by decide) (tNext k.val 4) hX (hw 4 (by decide)) (by omega) h4 (by decide) hg5 hg6 hfb (by omega) (cEq rfl) (cEq rfl) (cEq rfl) (cEq rfl) (cEq rfl) (cEq rfl) (cEq rfl) (cEq rfl) (cEq rfl))
  isplitl [H]; · iexact H
  iintro %s5 ⟨%h5, H⟩
  iapply (wp_passDec (k.val % 8) 5 _ _ (by decide) (tNext k.val 5) hX (hw 5 (by decide)) (by omega) h5 (by decide) hg5 hg6 hfb (by omega) (cEq rfl) (cEq rfl) (cEq rfl) (cEq rfl) (cEq rfl) (cEq rfl) (cEq rfl) (cEq rfl) (cEq rfl))
  isplitl [H]; · iexact H
  iintro %s6 ⟨%h6, H⟩
  iapply (wp_passDec (k.val % 8) 6 _ _ (by decide) (tNext k.val 6) hX (hw 6 (by decide)) (by omega) h6 (by decide) hg5 hg6 hfb (by omega) (cEq rfl) (cEq rfl) (cEq rfl) (cEq rfl) (cEq rfl) (cEq rfl) (cEq rfl) (cEq rfl) (cEq rfl))
  isplitl [H]; · iexact H
  iintro %s7 ⟨%h7, H⟩
  iapply (wp_passDec (k.val % 8) 7 _ _ (by decide) (tNext k.val 7) hX hw7 (by omega) h7 (by decide) hg5 hg6 hfb (by omega) (cEq rfl) (cEq rfl) (cEq rfl) (cEq rfl) (cEq rfl) (cEq rfl) (cEq rfl) (cEq rfl) (cEq rfl))
  isplitl [H]; · iexact H
  iintro %s8 ⟨%h8, H⟩
  iapply (le_wp_ret _ _ _ _ _)
  isplitr; · ipureintro; exact h8
  rw [fdec_zero]
  iexact H

theorem wp_branch9 {g5 : B5} {g6 : B6} (f8 : B8 F) (h : k0_cond9 k = 1#1) (hX : GX dy g (slot3 k.val) m 0)
    (hf : ∀ t : Fin 64, t.val / 8 = k.val % 8 → tileOf f t = wOf wp ws n t.val)
    (hg5 : G5 wp g5 (slot2 (chunk k.val)) ((k.val + 1) / 64) (chunk k.val % 8)) (hg6 : G6 ws g6 (slot2 (chunk k.val)) (chunk k.val % 8)) {a : BitVec 32}
    (hfb : fbOf a = BitVec.ofNat 32 (16 * ((k.val + 1) / 64)))
    (hM : MG s (regs 0 (halfOf (wOf wp ws n 0))) lv A) :
    iprop(P4 c (slot3 k.val) g ∗ P5 (F := F) c (slot2 (chunk k.val)) g5 ∗ P6 (F := F) c (slot2 (chunk k.val)) g6 ∗ P7 c f ∗ P8 c f8)
    ⊢ WP c (branch9 m4 m5 m6 m7 H7 m8 H8 k h a s) (fun s' => iprop(
      ⌜ST dy wp ws m n 8 0 (wOf wp ws ((k.val + 1) / 64) (8 * (chunk k.val % 8))) s'⌝ ∗ P4 c (slot3 k.val) g
        ∗ P5 (F := F) c (slot2 (chunk k.val)) g5 ∗ P6 (F := F) c (slot2 (chunk k.val)) g6 ∗ P7 c (fdec wp ws ((k.val + 1) / 64) (chunk k.val % 8) f 8) ∗ P8 c (outOf A))) := by
  have hk := ((cond9_iff k).1 h).2
  have hw : ∀ p, p < 7 → wOf wp ws n (8 * 0 + p + 1) = tileOf (fdec wp ws ((k.val + 1) / 64) (chunk k.val % 8) f p) (tNext k.val p) := fun p hp => by
    rw [tileOf_fdec]
    show wOf wp ws n (8 * 0 + p + 1) = if (8 * (k.val % 8) + p + 1) % 64 / 8 = chunk k.val % 8 ∧ (8 * (k.val % 8) + p + 1) % 64 % 8 < p then _ else _
    rw [if_neg (by unfold chunk; omega), hf _ (by show (8 * (k.val % 8) + p + 1) % 64 / 8 = _; omega)]
    congr 1; show _ = (8 * (k.val % 8) + p + 1) % 64; omega
  have hw7 : wOf wp ws ((k.val + 1) / 64) (8 * (chunk k.val % 8)) = tileOf (fdec wp ws ((k.val + 1) / 64) (chunk k.val % 8) f 7) (tNext k.val 7) := hwLast k _
  unfold branch9
  iintro ⟨H4, H5, H6, H7, H8⟩
  iapply (wseq c (wp_popPass (f := f) (tNext k.val 0) hX f8 ((hw 0 (by decide)).trans (by rw [fdec_zero])) hM (cEq rfl) (cEq rfl) (cEq rfl) (cEq rfl) (cEq rfl) (cEq rfl)))
  isplitl [H4 H7 H8]
  · isplitl [H4]; · iexact H4
    isplitl [H7]; · iexact H7
    iexact H8
  iintro %s1 ⟨%h1, H4, H7, H8⟩
  ihave H7 : P7 c (fdec wp ws ((k.val + 1) / 64) (chunk k.val % 8) f 0) $$ [H7]
  · rw [fdec_zero]; iexact H7
  iapply (wseq c (wp_dec ((k.val + 1) / 64) (chunk k.val % 8) 0 (by decide) hg5 hg6 hfb (by omega) (cEq rfl) (cEq rfl) (cEq rfl)))
  isplitl [H5 H6 H7]
  · isplitl [H5]; · iexact H5
    isplitl [H6]; · iexact H6
    iexact H7
  iintro %_ ⟨H5, H6, H7⟩
  ihave H : iprop(P4 c (slot3 k.val) g ∗ P5 (F := F) c (slot2 (chunk k.val)) g5 ∗ P6 (F := F) c (slot2 (chunk k.val)) g6 ∗ P7 c (fdec wp ws ((k.val + 1) / 64) (chunk k.val % 8) f 1)) $$ [H4 H5 H6 H7]
  · isplitl [H4]; · iexact H4
    isplitl [H5]; · iexact H5
    isplitl [H6]; · iexact H6
    iexact H7
  iapply (wp_passDec 0 1 _ _ (by decide) (tNext k.val 1) hX (hw 1 (by decide)) (by omega) h1 (by decide) hg5 hg6 hfb (by omega) (cEq rfl) (cEq rfl) (cEq rfl) (cEq rfl) (cEq rfl) (cEq rfl) (cEq rfl) (cEq rfl) (cEq rfl))
  isplitl [H]; · iexact H
  iintro %s2 ⟨%h2, H⟩
  iapply (wp_passDec 0 2 _ _ (by decide) (tNext k.val 2) hX (hw 2 (by decide)) (by omega) h2 (by decide) hg5 hg6 hfb (by omega) (cEq rfl) (cEq rfl) (cEq rfl) (cEq rfl) (cEq rfl) (cEq rfl) (cEq rfl) (cEq rfl) (cEq rfl))
  isplitl [H]; · iexact H
  iintro %s3 ⟨%h3, H⟩
  iapply (wp_passDec 0 3 _ _ (by decide) (tNext k.val 3) hX (hw 3 (by decide)) (by omega) h3 (by decide) hg5 hg6 hfb (by omega) (cEq rfl) (cEq rfl) (cEq rfl) (cEq rfl) (cEq rfl) (cEq rfl) (cEq rfl) (cEq rfl) (cEq rfl))
  isplitl [H]; · iexact H
  iintro %s4 ⟨%h4, H⟩
  iapply (wp_passDec 0 4 _ _ (by decide) (tNext k.val 4) hX (hw 4 (by decide)) (by omega) h4 (by decide) hg5 hg6 hfb (by omega) (cEq rfl) (cEq rfl) (cEq rfl) (cEq rfl) (cEq rfl) (cEq rfl) (cEq rfl) (cEq rfl) (cEq rfl))
  isplitl [H]; · iexact H
  iintro %s5 ⟨%h5, H⟩
  iapply (wp_passDec 0 5 _ _ (by decide) (tNext k.val 5) hX (hw 5 (by decide)) (by omega) h5 (by decide) hg5 hg6 hfb (by omega) (cEq rfl) (cEq rfl) (cEq rfl) (cEq rfl) (cEq rfl) (cEq rfl) (cEq rfl) (cEq rfl) (cEq rfl))
  isplitl [H]; · iexact H
  iintro %s6 ⟨%h6, H⟩
  iapply (wp_passDec 0 6 _ _ (by decide) (tNext k.val 6) hX (hw 6 (by decide)) (by omega) h6 (by decide) hg5 hg6 hfb (by omega) (cEq rfl) (cEq rfl) (cEq rfl) (cEq rfl) (cEq rfl) (cEq rfl) (cEq rfl) (cEq rfl) (cEq rfl))
  isplitl [H]; · iexact H
  iintro %s7 ⟨%h7, H⟩
  iapply (wp_passDec 0 7 _ _ (by decide) (tNext k.val 7) hX hw7 (by omega) h7 (by decide) hg5 hg6 hfb (by omega) (cEq rfl) (cEq rfl) (cEq rfl) (cEq rfl) (cEq rfl) (cEq rfl) (cEq rfl) (cEq rfl) (cEq rfl))
  isplitl [H]; · iexact H
  iintro %s8 ⟨%h8, H⟩
  icases H with ⟨H4, H5, H6, H7⟩
  iapply (le_wp_ret _ _ _ _ _)
  isplitr; · ipureintro; exact h8
  isplitl [H4]; · iexact H4
  isplitl [H5]; · iexact H5
  isplitl [H6]; · iexact H6
  isplitl [H7]; · iexact H7
  iexact H8

end Steps

end Cert.Kernel.P
-- ==== Proof.Dma.lean ====
/-  The transfers of a step: what a slot holds once a transfer into it has landed, and the rules that start one and wait for it. -/
module

public import proofs.«01_k».proof.Proof.Steps
public import Idealize.ShloMosaic.Lib.Transfers

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

abbrev semP (c : Dev nD) (sm : DmaSem sig) : sProp 𝕄 := semVal ((c : Thread nD τ), SemLoc.dma sm) 0
abbrev Fl (c : Dev nD) (sm : DmaSem sig) (N : ℕ) (D : sProp 𝕄) : sProp 𝕄 := Transfers.Flight countersEmb (c : Thread nD τ) (SemLoc.dma sm) () N D
/-- What the core owes: nothing, whatever it has waited for. -/
def OW (c : Dev nD) : sProp 𝕄 := iprop(∃ W, owes (c : Thread nD τ) 0 W)

/-- A flight carries what is set beside it. -/
theorem Fl_frame (c : Dev nD) {sm : DmaSem sig} {N : ℕ} {D R : sProp 𝕄} : iprop(R ∗ Fl c sm N D) ⊢ Fl c sm N iprop(D ∗ R) := by
  unfold Fl Transfers.Flight
  iintro ⟨HR, ⟨%P, HP, %hcap, %hpeek⟩, Hcred⟩
  isplitl [HR HP]
  · iexists iprop(P ∗ R)
    isplitl [HR HP]
    · isplitl [HP]; · iexact HP
      iexact HR
    isplit
    · ipureintro
      intro K
      iintro ⟨⟨HP, HR⟩, HK⟩
      iapply (hcap K)
      isplitl [HP]; · iexact HP
      iintro ⟨Hv, HD⟩
      iapply HK
      isplitl [Hv]; · iexact Hv
      isplitl [HD]; · iexact HD
      iexact HR
    · ipureintro
      intro K
      iintro ⟨⟨HP, HR⟩, HK⟩
      iapply (hpeek K)
      isplitl [HP]; · iexact HP
      iintro HP
      iapply HK
      isplitl [HP]; · iexact HP
      iexact HR
  · iexact Hcred

/-- Starting a transfer: held are the destination's part of its buffer, the source's whole buffer at a share, and the counter at zero. -/
theorem dma_start (c : Dev nD) {sp sp' : Space} {s : Shape} {e : EltTy} (src : Memref sig .tc sp s e) (dst : Memref sig .tc sp' s e) (sm : DmaSem sig)
    {hsrc hdst hsem} (hs : 0 < s.numel) {Sd : Finset (Idx (dst.view.loc (c : Thread nD τ)))} (hSd : dst.view.set ⊆ Sd) (q : PosShare TreeShare)
    (fs : Buf (Elt F) (src.view.loc (c : Thread nD τ))) (Good : Buf (Elt F) (dst.view.loc (c : Thread nD τ)) → Prop)
    (hG : ∀ fd, Good (dst.view.write (Elt F) fd (src.view.read (Elt F) fs) Finset.univ)) :
    iprop((∃ fd, dst.view.loc (c : Thread nD τ) ↦[Sd]{fullShare} fd) ∗ semP c sm ∗ (src.view.loc (c : Thread nD τ) ↦[Finset.univ]{q} fs))
    ⊢ WP c (Prog.lift (.enqueueDma src (.here dst) (.dma sm) hsrc hdst hsem))
      (fun _ => Fl c sm dst.view.dmaCredit iprop((∃ g, ⌜Good g⌝ ∗ dst.view.loc (c : Thread nD τ) ↦[Sd]{fullShare} g) ∗ (src.view.loc (c : Thread nD τ) ↦[Finset.univ]{q} fs))) := by
  iintro ⟨⟨%fd, Hd⟩, Hsem, Hs⟩
  ihave Hs2 := (pointsTo_split_subset (ℓ := src.view.loc (c : Thread nD τ)) (q := q) (f := fs) (Finset.subset_univ src.view.set)).1 $$ Hs
  icases Hs2 with ⟨Hs, Hr⟩
  unfold WP Prog.lift
  iapply (Transfers.wp_dmaLocal countersEmb 𝒱₀ (c : Thread nD τ) none () dst.view.dmaCredit rfl (View.dmaCredit_pos _ hs) hSd) $$ [Hs Hd Hsem]
  · isplitl [Hs]; · iexact Hs
    isplitl [Hd]; · iexact Hd
    iexact Hsem
  iintro HF
  iapply (le_wp_ret _ _ _ _ _)
  ihave HF2 : Fl c sm dst.view.dmaCredit _ $$ [HF Hr]
  · iapply (Fl_frame c)
    isplitl [Hr]; · iexact Hr
    iexact HF
  iapply (Transfers.Flight_mono ?_) $$ HF2
  iintro ⟨⟨Hd, Hs⟩, Hr⟩
  isplitl [Hd]
  · iexists _
    isplitr; rotate_left
    · iexact Hd
    · ipureintro; exact hG fd
  · iapply (pointsTo_split_subset (ℓ := src.view.loc (c : Thread nD τ)) (q := q) (f := fs) (Finset.subset_univ src.view.set)).2
    isplitl [Hs]; · iexact Hs
    iexact Hr

/-- Waiting for a transfer. -/
theorem dma_wait (c : Dev nD) {sp sp' : Space} {s s' : Shape} {e e' : EltTy} (srcw : Memref sig .tc sp' s' e') (dstw : Memref sig .tc sp s e) (sm : DmaSem sig)
    {hsrc hdst} {N : ℕ} (hN : dstw.view.dmaCredit = N) {D : sProp 𝕄} :
    iprop(Fl c sm N D ∗ OW (F := F) c) ⊢ WP c (Prog.lift (.waitDma2 sm srcw dstw hsrc hdst)) (fun _ => iprop(D ∗ semP (F := F) c sm ∗ OW (F := F) c)) := by
  unfold OW
  iintro ⟨HF, ⟨%W, HW⟩⟩
  unfold WP Prog.lift
  iapply (Transfers.wp_waitLocal countersEmb 𝒱₀ (c : Thread nD τ) none () hN) $$ [HF HW]
  · isplitl [HF]; · iexact HF
    iexact HW
  iintro ⟨HD, Hs, HW⟩
  iapply (le_wp_ret _ _ _ _ _)
  isplitl [HD]; · iexact HD
  isplitl [Hs]; · iexact Hs
  iexists _; iexact HW

end Cert.Kernel.P
-- ==== Proof.Slots.lean ====
/-  The slots of the three inputs and the blocks of the result: free, being filled, or filled; and the transfers between those. -/
module

public import proofs.«01_k».proof.Proof.Dma

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

abbrev a0 : Memref sig .tc .hbm S7680x16384 .bf16 := Memref.whole main_v0
abbrev a1 : Memref sig .tc .hbm S16384x1024 .i8 := Memref.whole main_arg1
abbrev a2 : Memref sig .tc .hbm S16384x64 .i8 := Memref.whole main_arg2
abbrev a3 : Memref sig .tc .hbm S7680x2048 .bf16 := Memref.whole main_v1

/-- An index of a block with a unit axis dropped. -/
theorem rse {a b : ℕ} (h : (⟨2, ![a, b]⟩ : Shape).numel = (⟨3, ![1, a, b]⟩ : Shape).numel) (x : (⟨2, ![a, b]⟩ : Shape).Idx) :
    Shape.reshapeEquiv h x = (Fin.cons ⟨0, Nat.one_pos⟩ x : (⟨3, ![1, a, b]⟩ : Shape).Idx) :=
  shapeCast_dropUnit_apply (α := (⟨3, ![1, a, b]⟩ : Shape).Idx) ![a, b] id h x

theorem inb3 (j : Fin 3) : ∀ a, (![j.val] : Fin 1 → ℕ) a + S1.size a ≤ S3.size a := by
  intro a; fin_cases a; show j.val + 1 ≤ 3; omega
theorem inb2 (j : Fin 2) : ∀ a, (![j.val] : Fin 1 → ℕ) a + S1.size a ≤ S2.size a := by
  intro a; fin_cases a; show j.val + 1 ≤ 2; omega

/-- The semaphore of a slot. -/
def sem9 (j : Fin 3) : DmaSem sig := ((cc0_scratch5.slice (Rect.unit (s := S3) ![j.val] S1.size (inb3 j))).squeeze S_ squeezes_S1_S_).sem
def sem10 (j : Fin 2) : DmaSem sig := ((cc0_scratch6.slice (Rect.unit (s := S2) ![j.val] S1.size (inb2 j))).squeeze S_ squeezes_S1_S_).sem
def sem11 (j : Fin 2) : DmaSem sig := ((cc0_scratch7.slice (Rect.unit (s := S2) ![j.val] S1.size (inb2 j))).squeeze S_ squeezes_S1_S_).sem
abbrev sem12 : DmaSem sig := cc0_scratch8.sem

/-- A slot's view, and a block's. -/
abbrev w4 (o : Fin 3 → ℕ) (h : ∀ a, o a + S1x960x2048.size a ≤ S3x960x2048.size a) : Memref sig .tc .vmem S960x2048 .bf16 :=
  (m4.slice (Rect.unit (s := S3x960x2048) o S1x960x2048.size h) (fun _ => rfl)).squeeze S960x2048 squeezes_S1x960x2048_S960x2048
abbrev w5 (o : Fin 3 → ℕ) (h : ∀ a, o a + S1x2048x256.size a ≤ S2x2048x256.size a) : Memref sig .tc .vmem S2048x256 .i8 :=
  (m5.slice (Rect.unit (s := S2x2048x256) o S1x2048x256.size h) (fun _ => rfl)).squeeze S2048x256 squeezes_S1x2048x256_S2048x256
abbrev w6 (o : Fin 3 → ℕ) (h : ∀ a, o a + S1x2048x64.size a ≤ S2x2048x64.size a) : Memref sig .tc .vmem S2048x64 .i8 :=
  (m6.slice (Rect.unit (s := S2x2048x64) o S1x2048x64.size h) (fun _ => rfl)).squeeze S2048x64 squeezes_S1x2048x64_S2048x64
abbrev b0 (o : Fin 2 → ℕ) (h : ∀ a, o a + S960x2048.size a ≤ S7680x16384.size a) : Memref sig .tc .hbm S960x2048 .bf16 :=
  a0.slice (Rect.unit (s := S7680x16384) o S960x2048.size h) (fun _ => rfl)
abbrev b1 (o : Fin 2 → ℕ) (h : ∀ a, o a + S2048x256.size a ≤ S16384x1024.size a) : Memref sig .tc .hbm S2048x256 .i8 :=
  a1.slice (Rect.unit (s := S16384x1024) o S2048x256.size h) (fun _ => rfl)
abbrev b2 (o : Fin 2 → ℕ) (h : ∀ a, o a + S2048x64.size a ≤ S16384x64.size a) : Memref sig .tc .hbm S2048x64 .i8 :=
  a2.slice (Rect.unit (s := S16384x64) o S2048x64.size h) (fun _ => rfl)
abbrev b3 (o : Fin 2 → ℕ) (h : ∀ a, o a + S960x512.size a ≤ S7680x2048.size a) : Memref sig .tc .hbm S960x512 .bf16 :=
  a3.slice (Rect.unit (s := S7680x2048) o S960x512.size h) (fun _ => rfl)
abbrev u9 (o : Fin 1 → ℕ) (h : ∀ a, o a + S1.size a ≤ S3.size a) : DmaSem sig := ((cc0_scratch5.slice (Rect.unit (s := S3) o S1.size h)).squeeze S_ squeezes_S1_S_).sem
abbrev u10 (o : Fin 1 → ℕ) (h : ∀ a, o a + S1.size a ≤ S2.size a) : DmaSem sig := ((cc0_scratch6.slice (Rect.unit (s := S2) o S1.size h)).squeeze S_ squeezes_S1_S_).sem
abbrev u11 (o : Fin 1 → ℕ) (h : ∀ a, o a + S1.size a ≤ S2.size a) : DmaSem sig := ((cc0_scratch7.slice (Rect.unit (s := S2) o S1.size h)).squeeze S_ squeezes_S1_S_).sem

section Slots

variable (c : Dev nD) (dy : S7680x16384.Idx → F .bf16) (wp : S16384x1024.Idx → BitVec 8) (ws : S16384x64.Idx → BitVec 8)

/-- The share of an input a slot's transfers read with. -/
abbrev T0 (j : Fin 3) : sProp 𝕄 := a0.view.loc (c : Thread nD τ) ↦[Finset.univ]{Transfers.shareTok fullShare 3 j} dy
abbrev T1 (j : Fin 2) : sProp 𝕄 := a1.view.loc (c : Thread nD τ) ↦[Finset.univ]{Transfers.shareTok fullShare 2 j} wp
abbrev T2 (j : Fin 2) : sProp 𝕄 := a2.view.loc (c : Thread nD τ) ↦[Finset.univ]{Transfers.shareTok fullShare 2 j} ws

abbrev N4 : ℕ := sig.dmaCredit .tc (Kind.tc.table .vmem) m4.view.buf S960x2048 .bf16
abbrev N5 : ℕ := sig.dmaCredit .tc (Kind.tc.table .vmem) m5.view.buf S2048x256 .i8
abbrev N6 : ℕ := sig.dmaCredit .tc (Kind.tc.table .vmem) m6.view.buf S2048x64 .i8
abbrev NO : ℕ := sig.dmaCredit .tc (Kind.tc.table .hbm) a3.view.buf S960x512 .bf16

/-- A slot of the left operand, free; being filled with a block; filled. -/
def FR4 (j : Fin 3) : sProp 𝕄 := iprop((∃ g, P4 (F := F) c j g) ∗ semP c (sem9 j) ∗ T0 c dy j)
def FL4 (j : Fin 3) (m ch : ℕ) : sProp 𝕄 := Fl c (sem9 j) N4 iprop((∃ g, ⌜GX dy g j m ch⌝ ∗ P4 c j g) ∗ T0 c dy j)
def LD4 (j : Fin 3) (m ch : ℕ) : sProp 𝕄 := iprop(((∃ g, ⌜GX dy g j m ch⌝ ∗ P4 c j g) ∗ T0 c dy j) ∗ semP c (sem9 j))

/-- A slot of the codes and scales likewise. -/
def FR5 (j : Fin 2) : sProp 𝕄 := iprop((∃ g, P5 (F := F) c j g) ∗ semP c (sem10 j) ∗ T1 (F := F) c wp j)
def FL5 (j : Fin 2) (n ch : ℕ) : sProp 𝕄 := Fl c (sem10 j) N5 iprop((∃ g, ⌜G5 wp g j n ch⌝ ∗ P5 (F := F) c j g) ∗ T1 (F := F) c wp j)
def LD5 (j : Fin 2) (n ch : ℕ) : sProp 𝕄 := iprop(((∃ g, ⌜G5 wp g j n ch⌝ ∗ P5 (F := F) c j g) ∗ T1 (F := F) c wp j) ∗ semP c (sem10 j))
def FR6 (j : Fin 2) : sProp 𝕄 := iprop((∃ g, P6 (F := F) c j g) ∗ semP c (sem11 j) ∗ T2 (F := F) c ws j)
def FL6 (j : Fin 2) (ch : ℕ) : sProp 𝕄 := Fl c (sem11 j) N6 iprop((∃ g, ⌜G6 ws g j ch⌝ ∗ P6 (F := F) c j g) ∗ T2 (F := F) c ws j)
def LD6 (j : Fin 2) (ch : ℕ) : sProp 𝕄 := iprop(((∃ g, ⌜G6 ws g j ch⌝ ∗ P6 (F := F) c j g) ∗ T2 (F := F) c ws j) ∗ semP c (sem11 j))

variable {c dy wp ws}

theorem LD4_free {j : Fin 3} {m ch : ℕ} : LD4 c dy j m ch ⊢ FR4 c dy j := by
  unfold LD4 FR4
  iintro ⟨⟨⟨%g, -, H⟩, HT⟩, HS⟩
  isplitl [H]; · iexists g; iexact H
  isplitl [HS]; · iexact HS
  iexact HT
theorem LD5_free {j : Fin 2} {n ch : ℕ} : LD5 (F := F) c wp j n ch ⊢ FR5 c wp j := by
  unfold LD5 FR5
  iintro ⟨⟨⟨%g, -, H⟩, HT⟩, HS⟩
  isplitl [H]; · iexists g; iexact H
  isplitl [HS]; · iexact HS
  iexact HT
theorem LD6_free {j : Fin 2} {ch : ℕ} : LD6 (F := F) c ws j ch ⊢ FR6 c ws j := by
  unfold LD6 FR6
  iintro ⟨⟨⟨%g, -, H⟩, HT⟩, HS⟩
  isplitl [H]; · iexists g; iexact H
  isplitl [HS]; · iexact HS
  iexact HT

theorem x_start {j : Fin 3} {m ch : ℕ} {os hs od hd ob hb w1 w2 w3} (es : os = ![j.val]) (ed : od = ![j.val, 0, 0]) (eb : ob = ![960 * m, 2048 * ch]) :
    FR4 c dy j ⊢ WP c (Prog.lift (.enqueueDma (b0 ob hb)
      (.here (w4 od hd))
      (.dma (u9 os hs)) w1 w2 w3)) (fun _ => FL4 c dy j m ch) := by
  subst es ed eb
  unfold FR4 FL4
  have hb0 : 960 * m + 960 ≤ 7680 := hb 0
  have hb1 : 2048 * ch + 2048 ≤ 16384 := hb 1
  refine dma_start c (b0 _ hb) (w4 _ hd) (u9 _ hs) (by decide) (Sd := S4 j) ?_ _ dy (fun g => GX dy g j m ch) ?_
  · intro y hy
    have hy' := (Finset.ext_iff.1 ((View.set_reshape _ _).trans (View.set_slice_whole cc0_scratch0 (Rect.unit (s := S3x960x2048) ![j.val, 0, 0] S1x960x2048.size hd))) y).1 hy
    have h1 : j.val ≤ (y 0).val ∧ (y 0).val < j.val + 1 := Rect.mem_set_unit.1 hy' 0
    simp only [S4, Finset.mem_filter, Finset.mem_univ, true_and]
    omega
  · intro fd y hy
    have hy1 : (y 1).val < 960 := (y 1).isLt
    have hy2 : (y 2).val < 2048 := (y 2).isLt
    have e : y = (w4 ![j.val, 0, 0] hd).view.emb (ix2 (y 1) (y 2)) := by
      show y = (Rect.unit (s := S3x960x2048) ![j.val, 0, 0] S1x960x2048.size hd).emb (Shape.reshapeEquiv squeezes_S1x960x2048_S960x2048.numel_eq (ix2 (y 1) (y 2)))
      rw [rse]
      funext a; apply Fin.ext
      fin_cases a
      · show (y 0).val = j.val + 1 * 0; omega
      · show (y 1).val = 0 + 1 * (y 1).val; omega
      · show (y 2).val = 0 + 1 * (y 2).val; omega
    refine (congrArg _ e).trans ((View.write_emb_of_mem (v := (w4 ![j.val, 0, 0] hd).view) (Val := Elt F) fd _ (Finset.mem_univ _)).trans ?_)
    show dy _ = dy _
    congr 1
    funext a; apply Fin.ext
    fin_cases a
    · show 960 * m + 1 * (y 1).val = (960 * m + (y 1).val) % 7680; omega
    · show 2048 * ch + 1 * (y 2).val = (2048 * ch + (y 2).val) % 16384; omega

theorem x_wait {j : Fin 3} {m ch : ℕ} {os hs od hd} (srcw : Memref sig .tc .hbm S960x2048 .bf16) {w1 w2} (es : os = ![j.val]) :
    iprop(FL4 c dy j m ch ∗ OW (F := F) c) ⊢ WP c (Prog.lift (.waitDma2 (u9 os hs) srcw
      (w4 od hd) w1 w2))
      (fun _ => iprop(LD4 c dy j m ch ∗ OW (F := F) c)) := by
  subst es
  unfold FL4 LD4
  iintro H
  iapply (wend c (dma_wait c srcw (w4 _ hd) (u9 _ (inb3 j)) rfl))
  isplitl [H]; · iexact H
  iintro %_ ⟨HD, HS, HW⟩
  isplitr [HW]
  · isplitl [HD]; · iexact HD
    iexact HS
  iexact HW

theorem c_start {j : Fin 2} {n ch : ℕ} {os hs od hd ob hb w1 w2 w3} (es : os = ![j.val]) (ed : od = ![j.val, 0, 0]) (eb : ob = ![2048 * ch, 256 * n]) :
    FR5 (F := F) c wp j ⊢ WP c (Prog.lift (.enqueueDma (b1 ob hb)
      (.here (w5 od hd))
      (.dma (u10 os hs)) w1 w2 w3)) (fun _ => FL5 c wp j n ch) := by
  subst es ed eb
  unfold FR5 FL5
  have hb0 : 2048 * ch + 2048 ≤ 16384 := hb 0
  have hb1 : 256 * n + 256 ≤ 1024 := hb 1
  refine dma_start c (b1 _ hb) (w5 _ hd) (u10 _ hs) (by decide) (Sd := S5 j) ?_ _ wp (fun g => G5 wp g j n ch) ?_
  · intro y hy
    have hy' := (Finset.ext_iff.1 ((View.set_reshape _ _).trans (View.set_slice_whole cc0_scratch1 (Rect.unit (s := S2x2048x256) ![j.val, 0, 0] S1x2048x256.size hd))) y).1 hy
    have h1 : j.val ≤ (y 0).val ∧ (y 0).val < j.val + 1 := Rect.mem_set_unit.1 hy' 0
    simp only [S5, Finset.mem_filter, Finset.mem_univ, true_and]
    omega
  · intro fd y hy
    have hy1 : (y 1).val < 2048 := (y 1).isLt
    have hy2 : (y 2).val < 256 := (y 2).isLt
    have e : y = (w5 ![j.val, 0, 0] hd).view.emb (ix2 (y 1) (y 2)) := by
      show y = (Rect.unit (s := S2x2048x256) ![j.val, 0, 0] S1x2048x256.size hd).emb (Shape.reshapeEquiv squeezes_S1x2048x256_S2048x256.numel_eq (ix2 (y 1) (y 2)))
      rw [rse]
      funext a; apply Fin.ext
      fin_cases a
      · show (y 0).val = j.val + 1 * 0; omega
      · show (y 1).val = 0 + 1 * (y 1).val; omega
      · show (y 2).val = 0 + 1 * (y 2).val; omega
    refine (congrArg _ e).trans ((View.write_emb_of_mem (v := (w5 ![j.val, 0, 0] hd).view) (Val := Elt F) fd _ (Finset.mem_univ _)).trans ?_)
    show wp _ = wp _
    congr 1
    funext a; apply Fin.ext
    fin_cases a
    · show 2048 * ch + 1 * (y 1).val = (2048 * ch + (y 1).val) % 16384; omega
    · show 256 * n + 1 * (y 2).val = (256 * n + (y 2).val) % 1024; omega

theorem c_wait {j : Fin 2} {n ch : ℕ} {os hs od hd} (srcw : Memref sig .tc .hbm S2048x256 .i8) {w1 w2} (es : os = ![j.val]) :
    iprop(FL5 (F := F) c wp j n ch ∗ OW (F := F) c) ⊢ WP c (Prog.lift (.waitDma2 (u10 os hs) srcw
      (w5 od hd) w1 w2))
      (fun _ => iprop(LD5 (F := F) c wp j n ch ∗ OW (F := F) c)) := by
  subst es
  unfold FL5 LD5
  iintro H
  iapply (wend c (dma_wait c srcw (w5 _ hd) (u10 _ (inb2 j)) rfl))
  isplitl [H]; · iexact H
  iintro %_ ⟨HD, HS, HW⟩
  isplitr [HW]
  · isplitl [HD]; · iexact HD
    iexact HS
  iexact HW

theorem s_start {j : Fin 2} {ch : ℕ} {os hs od hd ob hb w1 w2 w3} (es : os = ![j.val]) (ed : od = ![j.val, 0, 0]) (eb : ob = ![2048 * ch, 0]) :
    FR6 (F := F) c ws j ⊢ WP c (Prog.lift (.enqueueDma (b2 ob hb)
      (.here (w6 od hd))
      (.dma (u11 os hs)) w1 w2 w3)) (fun _ => FL6 c ws j ch) := by
  subst es ed eb
  unfold FR6 FL6
  have hb0 : 2048 * ch + 2048 ≤ 16384 := hb 0
  refine dma_start c (b2 _ hb) (w6 _ hd) (u11 _ hs) (by decide) (Sd := S6 j) ?_ _ ws (fun g => G6 ws g j ch) ?_
  · intro y hy
    have hy' := (Finset.ext_iff.1 ((View.set_reshape _ _).trans (View.set_slice_whole cc0_scratch2 (Rect.unit (s := S2x2048x64) ![j.val, 0, 0] S1x2048x64.size hd))) y).1 hy
    have h1 : j.val ≤ (y 0).val ∧ (y 0).val < j.val + 1 := Rect.mem_set_unit.1 hy' 0
    simp only [S6, Finset.mem_filter, Finset.mem_univ, true_and]
    omega
  · intro fd y hy
    have hy1 : (y 1).val < 2048 := (y 1).isLt
    have e : y = (w6 ![j.val, 0, 0] hd).view.emb (ix2 (y 1) (y 2)) := by
      show y = (Rect.unit (s := S2x2048x64) ![j.val, 0, 0] S1x2048x64.size hd).emb (Shape.reshapeEquiv squeezes_S1x2048x64_S2048x64.numel_eq (ix2 (y 1) (y 2)))
      rw [rse]
      funext a; apply Fin.ext
      fin_cases a
      · show (y 0).val = j.val + 1 * 0; omega
      · show (y 1).val = 0 + 1 * (y 1).val; omega
      · show (y 2).val = 0 + 1 * (y 2).val; omega
    refine (congrArg _ e).trans ((View.write_emb_of_mem (v := (w6 ![j.val, 0, 0] hd).view) (Val := Elt F) fd _ (Finset.mem_univ _)).trans ?_)
    show ws _ = ws _
    congr 1
    funext a; apply Fin.ext
    fin_cases a
    · show 2048 * ch + 1 * (y 1).val = (2048 * ch + (y 1).val) % 16384; omega
    · show 0 + 1 * (y 2).val = (y 2).val; omega

theorem s_wait {j : Fin 2} {ch : ℕ} {os hs od hd} (srcw : Memref sig .tc .hbm S2048x64 .i8) {w1 w2} (es : os = ![j.val]) :
    iprop(FL6 (F := F) c ws j ch ∗ OW (F := F) c) ⊢ WP c (Prog.lift (.waitDma2 (u11 os hs) srcw
      (w6 od hd) w1 w2))
      (fun _ => iprop(LD6 (F := F) c ws j ch ∗ OW (F := F) c)) := by
  subst es
  unfold FL6 LD6
  iintro H
  iapply (wend c (dma_wait c srcw (w6 _ hd) (u11 _ (inb2 j)) rfl))
  isplitl [H]; · iexact H
  iintro %_ ⟨HD, HS, HW⟩
  isplitr [HW]
  · isplitl [HD]; · iexact HD
    iexact HS
  iexact HW

/-! ## The result's blocks -/

/-- The elements of block `t` of the result. -/
def SO (t : ℕ) : Finset S7680x2048.Idx := Finset.univ.filter fun y => (y 0).val / 960 + 8 * ((y 1).val / 512) = t
/-- Block `t` holds `f`. -/
def OV (c : Dev nD) (t : ℕ) (f : B8 F) : sProp 𝕄 := iprop(∃ g, ⌜∀ y : S7680x2048.Idx, y ∈ SO t → g y = f (ix2 ⟨(y 0).val % 960, Nat.mod_lt _ (by decide)⟩ ⟨(y 1).val % 512, Nat.mod_lt _ (by decide)⟩)⌝
  ∗ a3.view.loc (c : Thread nD τ) ↦[SO t]{fullShare} g)
/-- Block `t` at anything. -/
def OA (c : Dev nD) (t : ℕ) : sProp 𝕄 := iprop(∃ g, a3.view.loc (c : Thread nD τ) ↦[SO t]{fullShare} g)
/-- The result buffer on its way to block `t`. -/
def FLO (c : Dev nD) (t : ℕ) (f : B8 F) : sProp 𝕄 := Fl c sem12 NO iprop(OV c t f ∗ P8 c f)

theorem o_start {t : ℕ} {f : B8 F} {o h w1 w2 w3} (eo : o = ![960 * (t % 8), 512 * (t / 8)]) :
    iprop(OA (F := F) c t ∗ semP c sem12 ∗ P8 c f) ⊢ WP c (Prog.lift (.enqueueDma m8 (.here (b3 o h)) (.dma sem12) w1 w2 w3))
      (fun _ => FLO c t f) := by
  subst eo
  unfold OA FLO OV
  have h1' : 512 * (t / 8) + 512 ≤ 2048 := h 1
  refine dma_start c m8 (b3 ![960 * (t % 8), 512 * (t / 8)] h) sem12 (by decide) (Sd := SO t) ?_ fullShare f
    (fun g => ∀ y : S7680x2048.Idx, y ∈ SO t → g y = f (ix2 ⟨(y 0).val % 960, Nat.mod_lt _ (by decide)⟩ ⟨(y 1).val % 512, Nat.mod_lt _ (by decide)⟩)) ?_
  · intro y hy
    have hy' := (Finset.ext_iff.1 (View.set_slice_whole main_v1 (Rect.unit (s := S7680x2048) ![960 * (t % 8), 512 * (t / 8)] S960x512.size h)) y).1 hy
    have h0 : 960 * (t % 8) ≤ (y 0).val ∧ (y 0).val < 960 * (t % 8) + 960 := Rect.mem_set_unit.1 hy' 0
    have h1 : 512 * (t / 8) ≤ (y 1).val ∧ (y 1).val < 512 * (t / 8) + 512 := Rect.mem_set_unit.1 hy' 1
    simp only [SO, Finset.mem_filter, Finset.mem_univ, true_and]
    omega
  · intro fd y hy
    have hy0 : (y 0).val < 7680 := (y 0).isLt
    have hy1 : (y 1).val < 2048 := (y 1).isLt
    simp only [SO, Finset.mem_filter, Finset.mem_univ, true_and] at hy
    have e : y = (b3 ![960 * (t % 8), 512 * (t / 8)] h).view.emb
        (ix2 ⟨(y 0).val % 960, Nat.mod_lt _ (by decide)⟩ ⟨(y 1).val % 512, Nat.mod_lt _ (by decide)⟩) := by
      funext a; apply Fin.ext
      fin_cases a
      · show (y 0).val = 960 * (t % 8) + 1 * ((y 0).val % 960); omega
      · show (y 1).val = 512 * (t / 8) + 1 * ((y 1).val % 512); omega
    exact (congrArg _ e).trans (View.write_emb_of_mem (v := (b3 ![960 * (t % 8), 512 * (t / 8)] h).view) (Val := Elt F) fd _ (Finset.mem_univ _))

theorem o_wait {t : ℕ} {f : B8 F} {o h w1 w2} :
    iprop(FLO c t f ∗ OW (F := F) c) ⊢ WP c (Prog.lift (.waitDma2 sem12 m8 (b3 o h) w1 w2))
      (fun _ => iprop((OV c t f ∗ P8 c f) ∗ semP (F := F) c sem12 ∗ OW (F := F) c)) := by
  unfold FLO
  exact dma_wait c m8 _ _ rfl

end Slots

end Cert.Kernel.P
-- ==== Proof.Inv.lean ====
/-  What holds before step `s` of the main loop: the slots and their transfers, the decoded weight, the matrix units and the result's blocks. -/
module

public import proofs.«01_k».proof.Proof.Slots

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Inv

variable (c : Dev nD) (dy : S7680x16384.Idx → F .bf16) (wp : S16384x1024.Idx → BitVec 8) (ws : S16384x64.Idx → BitVec 8)

/-- The value of block `t` of the result. -/
def outV (t : ℕ) : B8 F := outOf fun q i => accV dy wp ws (t % 8) (t / 8) q i 64

/-- Blocks below `d` are written; the last `m` are not. -/
def DN : ℕ → sProp 𝕄
  | 0 => iprop(emp)
  | d + 1 => iprop(DN d ∗ OV c d (outV dy wp ws d))
def RMr : ℕ → sProp 𝕄
  | 0 => iprop(emp)
  | m + 1 => iprop(OA (F := F) c (31 - m) ∗ RMr m)
def RM (d : ℕ) : sProp 𝕄 := RMr (F := F) c (32 - d)

theorem RM_take {d : ℕ} (h : d < 32) : RM (F := F) c d ⊢ iprop(OA (F := F) c d ∗ RM (F := F) c (d + 1)) := by
  unfold RM
  rw [show 32 - d = (32 - (d + 1)) + 1 by omega]
  show iprop(OA (F := F) c (31 - (32 - (d + 1))) ∗ _) ⊢ _
  rw [show 31 - (32 - (d + 1)) = d by omega]

/-- The result buffer is free; holds block `d`; is on its way there. -/
def OFree (d : ℕ) : sProp 𝕄 := iprop((∃ f, P8 (F := F) c f) ∗ semP c sem12 ∗ DN c dy wp ws d ∗ RM (F := F) c d)
def OHold (d : ℕ) : sProp 𝕄 := iprop(P8 (F := F) c (outV dy wp ws d) ∗ semP c sem12 ∗ DN c dy wp ws d ∗ RM (F := F) c d)
def OFly (d : ℕ) : sProp 𝕄 := iprop(FLO c d (outV dy wp ws d) ∗ DN c dy wp ws d ∗ RM (F := F) c (d + 1))

theorem OHold_free {d : ℕ} : OHold c dy wp ws d ⊢ OFree c dy wp ws d := by
  unfold OHold OFree
  iintro ⟨H, HR⟩
  isplitl [H]; · iexists _; iexact H
  iexact HR

/-- The result buffer before step `s`, and once the step has waited for it or sent it. -/
def OI (s : ℕ) : sProp 𝕄 :=
  if s % 8 = 0 then (if 16 ≤ s then OFly c dy wp ws (s / 8 - 2) else OFree c dy wp ws 0)
  else if 8 ≤ s then (if s % 8 = 1 then OHold c dy wp ws (s / 8 - 1) else OFly c dy wp ws (s / 8 - 1)) else OFree c dy wp ws 0
def OM1 (s : ℕ) : sProp 𝕄 :=
  if s % 8 = 0 then OFree c dy wp ws (s / 8 - 1)
  else if 8 ≤ s then (if s % 8 = 1 then OHold c dy wp ws (s / 8 - 1) else OFly c dy wp ws (s / 8 - 1)) else OFree c dy wp ws 0
def OM2 (s : ℕ) : sProp 𝕄 :=
  if s % 8 = 0 then OFree c dy wp ws (s / 8 - 1)
  else if 8 ≤ s then OFly c dy wp ws (s / 8 - 1) else OFree c dy wp ws 0

/-- The left operand's slots before step `s`. -/
def FLX (s : ℕ) : sProp 𝕄 := if s < 256 then FL4 c dy (slot3 s) (s / 8 % 8) (s % 8) else FR4 c dy (slot3 s)
def DI (s : ℕ) : sProp 𝕄 := iprop(FLX c dy s ∗ FLX c dy (s + 1) ∗ FR4 c dy (slot3 (s + 2)))

/-- The chunk of codes being fetched before step `s`. -/
def nxt (s : ℕ) : ℕ := min (8 * (s / 64) + min (s % 64) 7 + 1) 32
def FR56 (j : Fin 2) : sProp 𝕄 := iprop(FR5 (F := F) c wp j ∗ FR6 (F := F) c ws j)
def FL56 (e : ℕ) : sProp 𝕄 := iprop(FL5 (F := F) c wp (slot2 e) (e / 8) (e % 8) ∗ FL6 (F := F) c ws (slot2 e) (e % 8))
def LD56 (e : ℕ) : sProp 𝕄 := iprop(LD5 (F := F) c wp (slot2 e) (e / 8) (e % 8) ∗ LD6 (F := F) c ws (slot2 e) (e % 8))
def FLW (e : ℕ) : sProp 𝕄 := if e < 32 then FL56 (F := F) c wp ws e else FR56 (F := F) c wp ws (slot2 e)
def WI (s : ℕ) : sProp 𝕄 := iprop(FLW (F := F) c wp ws (nxt s) ∗ FR56 (F := F) c wp ws (slot2 (nxt s + 1)))
/-- The same once the step has waited for its chunk, and once it has asked for the next. -/
def WM1 (s : ℕ) : sProp 𝕄 := by
  classical exact if dec s then iprop(LD56 (F := F) c wp ws (chunk s) ∗ FR56 (F := F) c wp ws (slot2 (chunk s + 1))) else WI (F := F) c wp ws s
def WM2 (s : ℕ) : sProp 𝕄 := by
  classical exact if dec s then iprop(LD56 (F := F) c wp ws (chunk s) ∗ FLW (F := F) c wp ws (chunk s + 1)) else WI (F := F) c wp ws s

/-- The decoded weight before step `s`. -/
def FI (s : ℕ) (f : B7 F) : Prop := s < 256 → ∀ t : Fin 64, t.val / 8 ≤ s % 64 → tileOf f t = wOf wp ws (s / 64) t.val
/-- The matrix units before step `s`. -/
def UI (s : ℕ) (mx : Mxu F) : Prop := ∃ w lv A, MG mx (regs 0 (halfOf w)) lv A ∧ (s < 256 → w = wOf wp ws (s / 64) (8 * (s % 8)))
  ∧ (s % 8 ≠ 0 → lv = (fun _ _ => true) ∧ A = fun q i => accV dy wp ws (s / 8 % 8) (s / 64) q i (8 * (s % 8)))
  ∧ (s % 8 = 0 → 8 ≤ s → A = fun q i => accV dy wp ws ((s / 8 - 1) % 8) ((s / 8 - 1) / 8) q i 64)

/-- What holds before step `s`. -/
def LI (s : ℕ) (mx : Mxu F) : sProp 𝕄 := iprop(⌜UI dy wp ws s mx⌝ ∗ OI c dy wp ws s ∗ DI c dy s ∗ WI (F := F) c wp ws s
  ∗ (∃ f, ⌜FI wp ws s f⌝ ∗ P7 c f) ∗ OW (F := F) c)

/-! ## Arithmetic of the steps -/

theorem nxt_dec {s : ℕ} (h : dec s) : nxt s = chunk s := by unfold dec at h; unfold nxt chunk; omega
theorem nxt_succ {s : ℕ} (h : dec s) : nxt (s + 1) = chunk s + 1 := by unfold dec at h; unfold nxt chunk; omega
theorem nxt_keep {s : ℕ} (h : ¬ dec s) (hs : s < 256) : nxt (s + 1) = nxt s := by unfold dec at h; unfold nxt; omega
theorem chunk_lt {s : ℕ} (h : dec s) : chunk s < 32 := by unfold dec at h; unfold chunk; omega
theorem chunk_div {s : ℕ} (h : dec s) : chunk s / 8 = (s + 1) / 64 := by unfold dec at h; unfold chunk; omega
theorem chunk_mod {s : ℕ} (h : dec s) : chunk s % 8 = (s + 1) % 64 := by unfold dec at h; unfold chunk; omega

theorem slot3_add (s : ℕ) : slot3 (s + 3) = slot3 s := Fin.ext (by show (s + 3) % 3 = s % 3; omega)
theorem slot2_add (s : ℕ) : slot2 (s + 2) = slot2 s := Fin.ext (by show (s + 2) % 2 = s % 2; omega)

variable {c dy wp ws}

/-- A step that decodes nothing leaves the chunks be. -/
theorem WI_keep {s : ℕ} (h : ¬ dec s) (hs : s < 256) : WI (F := F) c wp ws s = WI (F := F) c wp ws (s + 1) := by
  unfold WI; rw [nxt_keep h hs]

/-- A step that decodes frees its chunk's slot. -/
theorem WI_next {s : ℕ} (h : dec s) :
    iprop((FR5 (F := F) c wp (slot2 (chunk s)) ∗ FR6 (F := F) c ws (slot2 (chunk s))) ∗ FLW (F := F) c wp ws (chunk s + 1)) ⊢ WI (F := F) c wp ws (s + 1) := by
  unfold WI
  rw [nxt_succ h, slot2_add]
  unfold FR56
  iintro ⟨HA, HB⟩
  isplitl [HB]; · iexact HB
  iexact HA

/-- The weight after a step that decodes nothing. -/
theorem FI_keep {s : ℕ} {f : B7 F} (h : ¬ dec s) (hs : s < 256) (hf : FI wp ws s f) : FI wp ws (s + 1) f := by
  intro hs1 t ht
  unfold dec at h
  rw [hf hs t (by have := t.isLt; omega)]
  congr 1; omega
/-- The weight after a step that decodes. -/
theorem FI_next {s : ℕ} {f : B7 F} (h : dec s) (hf : FI wp ws s f) : FI wp ws (s + 1) (fdec wp ws ((s + 1) / 64) (chunk s % 8) f 8) := by
  intro hs1 t ht
  rw [tileOf_fdec, chunk_mod h]
  split
  · rfl
  · unfold dec at h
    rw [hf (by omega) t (by have := t.isLt; omega)]
    congr 1; omega
theorem FI_all {s : ℕ} {f : B7 F} (h : ¬ dec s) (hs : s < 256) (hf : FI wp ws s f) : ∀ t : Fin 64, tileOf f t = wOf wp ws (s / 64) t.val := by
  intro t
  unfold dec at h
  exact hf hs t (by have := t.isLt; omega)
theorem FI_cur {s : ℕ} {f : B7 F} (hs : s < 256) (hf : FI wp ws s f) : ∀ t : Fin 64, t.val / 8 = s % 8 → tileOf f t = wOf wp ws (s / 64) t.val :=
  fun t ht => hf hs t (by omega)

/-- The units before a step within a tile, and at its start. -/
theorem UI_mid {s : ℕ} {mx : Mxu F} (h : UI dy wp ws s mx) (hs : s < 256) (h8 : s % 8 ≠ 0) :
    ST dy wp ws (s / 8 % 8) (s / 64) (8 * (s % 8)) 0 (wOf wp ws (s / 64) (8 * (s % 8))) mx := by
  obtain ⟨w, lv, A, hM, hw, hA, -⟩ := h
  obtain ⟨rfl, rfl⟩ := hA h8
  rw [hw hs] at hM
  exact hM
theorem UI_start {s : ℕ} {mx : Mxu F} (h : UI dy wp ws s mx) (hs : s < 256) (h8 : s % 8 = 0) :
    ∃ lv A, MG mx (regs 0 (halfOf (wOf wp ws (s / 64) 0))) lv A ∧ (8 ≤ s → outOf A = outV dy wp ws (s / 8 - 1)) := by
  obtain ⟨w, lv, A, hM, hw, -, hA⟩ := h
  refine ⟨lv, A, ?_, fun h => ?_⟩
  · rw [hw hs, h8] at hM; exact hM
  · rw [hA h8 h]; rfl
/-- The units after a step. -/
theorem UI_next {s : ℕ} {mx : Mxu F} {w : FVec F S256x512 .bf16} (hs : s < 256) (hw : s + 1 < 256 → w = wOf wp ws ((s + 1) / 64) (8 * ((s + 1) % 8)))
    (h : ST dy wp ws (s / 8 % 8) (s / 64) (8 * (s % 8) + 8) 0 w mx) : UI dy wp ws (s + 1) mx := by
  refine ⟨w, _, _, h, hw, fun h1 => ⟨rfl, ?_⟩, fun h1 h2 => ?_⟩
  · funext q i
    rw [show (s + 1) / 8 % 8 = s / 8 % 8 by omega, show (s + 1) / 64 = s / 64 by omega, show 8 * ((s + 1) % 8) = 8 * (s % 8) + 8 by omega]
  · funext q i
    rw [show ((s + 1) / 8 - 1) % 8 = s / 8 % 8 by omega, show ((s + 1) / 8 - 1) / 8 = s / 64 by omega, show 8 * (s % 8) + 8 = 64 by omega]

/-- The result buffer after a step that pops, and after one that does not. -/
theorem OI_pop {s : ℕ} {A : Fin 2 → Fin 4 → AV F} (h8 : s % 8 = 0) (hA : 8 ≤ s → outOf A = outV dy wp ws (s / 8 - 1)) :
    iprop(P8 c (outOf A) ∗ semP c sem12 ∗ DN c dy wp ws (s / 8 - 1) ∗ RM (F := F) c (s / 8 - 1)) ⊢ OI c dy wp ws (s + 1) := by
  unfold OI
  rw [if_neg (by omega), if_pos (c := (s + 1) % 8 = 1) (by omega), show (s + 1) / 8 - 1 = s / 8 - 1 by omega]
  by_cases h : 8 ≤ s
  · rw [if_pos (by omega), hA h]; unfold OHold; exact .rfl
  · rw [if_neg (by omega), show s / 8 - 1 = 0 by omega]
    unfold OFree
    iintro ⟨H, HR⟩
    isplitl [H]; · iexists _; iexact H
    iexact HR
theorem OI_keep {s : ℕ} (h8 : s % 8 ≠ 0) : OM2 c dy wp ws s = OI c dy wp ws (s + 1) := by
  unfold OM2 OI
  rw [if_neg h8]
  by_cases h : 8 ≤ s
  · rw [if_pos h]
    by_cases h1 : (s + 1) % 8 = 0
    · rw [if_pos h1, if_pos (by omega)]; congr 1; omega
    · rw [if_neg h1, if_pos (by omega), if_neg (by omega)]; congr 1; omega
  · rw [if_neg h]
    by_cases h1 : (s + 1) % 8 = 0
    · rw [if_pos h1, if_neg (by omega)]
    · rw [if_neg h1, if_neg (by omega)]

end Inv

end Cert.Kernel.P
-- ==== Proof.Branch6.lean ====
/-  The printed text of a step that neither pops nor decodes is the compact program. -/
module
public import proofs.«01_k».proof.Proof.Prog
@[expose] public section
set_option maxRecDepth 65536
noncomputable section
namespace Cert.Kernel.P
open Idealize.ShloMosaic Idealize.SL.Sem Cert.Kernel.Gen
variable {F : FTy → Type} [FloatOps F]
set_option maxHeartbeats 20000000
/-- The printed text of such a step is the compact one. -/
theorem branch6_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h6 : k0_cond6 k0_t1 = 1#1) (arg13_r0 : BitVec 32) (k0_mxu4 : Mxu F) :
  (do
      let ⟨v3734_r0, v3735_r0, k0_mxu18, c8_i32_1275_r0⟩ : Σ' (v3734_r0 : BitVec 32) (v3735_r0 : BitVec 32) (k0_mxu18 : Mxu F), BitVec 32 ← k0_part1 arg0 harg0 arg1 harg1 arg2 harg2 arg3 harg3 arg4 harg4 arg5 harg5 arg6 harg6 arg7 harg7 arg8 harg8 arg9 arg10 arg11 arg12 k0_t1 k0_mxu4 arg13_r0 k0_h6
      let ⟨k0_mxu28, v3786_r0, v3789_r0⟩ : Σ' (k0_mxu28 : Mxu F) (v3786_r0 : BitVec 32), FVec F S256x256 .bf16 ← k0_part2 arg0 harg0 arg1 harg1 arg2 harg2 arg3 harg3 arg4 harg4 arg5 harg5 arg6 harg6 arg7 harg7 arg8 harg8 arg9 arg10 arg11 arg12 k0_t1 k0_h6 v3734_r0 v3735_r0 k0_mxu18 c8_i32_1275_r0
      let ⟨k0_mxu40, v3817_r0⟩ : Σ' (k0_mxu40 : Mxu F), FVec F S240x256 .bf16 ← k0_part3 arg0 harg0 arg1 harg1 arg2 harg2 arg3 harg3 arg4 harg4 arg5 harg5 arg6 harg6 arg7 harg7 arg8 harg8 arg9 arg10 arg11 arg12 k0_t1 k0_h6 v3734_r0 v3735_r0 k0_mxu28 v3786_r0 v3789_r0
      let k0_mxu54 : Mxu F ← k0_part4 arg0 harg0 arg1 harg1 arg2 harg2 arg3 harg3 arg4 harg4 arg5 harg5 arg6 harg6 arg7 harg7 arg8 harg8 arg9 arg10 arg11 arg12 k0_t1 k0_h6 v3734_r0 v3735_r0 k0_mxu40 v3817_r0
      let ⟨k0_mxu68, c8_i32_1355_r0⟩ : Σ' (k0_mxu68 : Mxu F), BitVec 32 ← k0_part5 arg0 harg0 arg1 harg1 arg2 harg2 arg3 harg3 arg4 harg4 arg5 harg5 arg6 harg6 arg7 harg7 arg8 harg8 arg9 arg10 arg11 arg12 k0_t1 k0_h6 v3734_r0 v3735_r0 k0_mxu54
      let ⟨k0_mxu78, v3896_r0, v3899_r0⟩ : Σ' (k0_mxu78 : Mxu F) (v3896_r0 : BitVec 32), FVec F S256x256 .bf16 ← k0_part6 arg0 harg0 arg1 harg1 arg2 harg2 arg3 harg3 arg4 harg4 arg5 harg5 arg6 harg6 arg7 harg7 arg8 harg8 arg9 arg10 arg11 arg12 k0_t1 k0_h6 v3734_r0 v3735_r0 k0_mxu68 c8_i32_1355_r0
      let k0_mxu79 : Mxu F ← k0_mxu78.pushRhs 0 0 false v3899_r0
      let v3901_r0 : Vec F S1x256x256 .bf16 ← Prog.lift (.load arg7 (Rect.unit (s := S64x256x512) (k0_off46 k0_t1 7#32) S1x256x256.size (k0_off46_inb k0_t1 k0_h6 7)).toLoadRect (View.loadsAt_vmem h_S1x256x256))
      let k0_mxu80 : Mxu F ← k0_mxu79.pushRhs 1 0 false (k0_pay690 v3901_r0)
      let v3904_r0 : Vec F S1x240x256 .bf16 ← Prog.lift (.load arg4 (Rect.unit (s := S3x960x2048) (k0_off75 k0_t1) S1x240x256.size (k0_off75_inb k0_t1 k0_h6)).toLoadRect (View.loadsAt_vmem h_S1x240x256))
      let k0_mxu81 : Mxu F ← k0_mxu80.accLhsLoaded 0 60 (k0_pay691 v3904_r0) fits_60_240
      let k0_mxu82 : Mxu F ← k0_mxu81.accLhsLoaded 1 60 (k0_pay691 v3904_r0) fits_60_240
      let v3907_r0 : Vec F S1x240x256 .bf16 ← Prog.lift (.load arg4 (Rect.unit (s := S3x960x2048) (k0_off76 k0_t1) S1x240x256.size (k0_off76_inb k0_t1 k0_h6)).toLoadRect (View.loadsAt_vmem h_S1x240x256))
      let k0_mxu83 : Mxu F ← k0_mxu82.accLhsLoaded 0 120 (k0_pay692 v3907_r0) fits_120_240
      let k0_mxu84 : Mxu F ← k0_mxu83.accLhsLoaded 1 120 (k0_pay692 v3907_r0) fits_120_240
      let v3910_r0 : Vec F S1x240x256 .bf16 ← Prog.lift (.load arg4 (Rect.unit (s := S3x960x2048) (k0_off77 k0_t1) S1x240x256.size (k0_off77_inb k0_t1 k0_h6)).toLoadRect (View.loadsAt_vmem h_S1x240x256))
      let k0_mxu85 : Mxu F ← k0_mxu84.accLhsLoaded 0 180 (k0_pay693 v3910_r0) fits_180_240
      let k0_mxu86 : Mxu F ← k0_mxu85.accLhsLoaded 1 180 (k0_pay693 v3910_r0) fits_180_240
      pure k0_mxu86 : TC F (Mxu F)) = branch6 arg4 arg7 k0_t1 k0_h6 k0_mxu4 := rfl

end Cert.Kernel.P
-- ==== Proof.Branch7.lean ====
/-  The printed text of a step that pops the tile before is the compact program. -/
module
public import proofs.«01_k».proof.Proof.Prog
@[expose] public section
set_option maxRecDepth 65536
noncomputable section
namespace Cert.Kernel.P
open Idealize.ShloMosaic Idealize.SL.Sem Cert.Kernel.Gen
variable {F : FTy → Type} [FloatOps F]
set_option maxHeartbeats 20000000
/-- The printed text of such a step is the compact one. -/
theorem branch7_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h7 : k0_cond7 k0_t1 = 1#1) (arg13_r0 : BitVec 32) (k0_mxu6 : Mxu F) :
  (do
      let ⟨v3734_r0, v3735_r0, v3764_r0, k0_mxu95⟩ : Σ' (v3734_r0 : BitVec 32) (v3735_r0 : BitVec 32) (v3764_r0 : FVec F S240x256 .f32), Mxu F ← k0_part7 arg0 harg0 arg1 harg1 arg2 harg2 arg3 harg3 arg4 harg4 arg5 harg5 arg6 harg6 arg7 harg7 arg8 harg8 arg9 arg10 arg11 arg12 k0_t1 arg13_r0 k0_mxu6 k0_h7
      let k0_mxu103 : Mxu F ← k0_part8 arg0 harg0 arg1 harg1 arg2 harg2 arg3 harg3 arg4 harg4 arg5 harg5 arg6 harg6 arg7 harg7 arg8 harg8 arg9 arg10 arg11 arg12 k0_t1 k0_h7 v3735_r0 v3764_r0 k0_mxu95
      let ⟨k0_mxu117, c8_i32_1307_r0⟩ : Σ' (k0_mxu117 : Mxu F), BitVec 32 ← k0_part9 arg0 harg0 arg1 harg1 arg2 harg2 arg3 harg3 arg4 harg4 arg5 harg5 arg6 harg6 arg7 harg7 arg8 harg8 arg9 arg10 arg11 arg12 k0_t1 k0_h7 v3734_r0 v3735_r0 k0_mxu103
      let ⟨k0_mxu127, v3848_r0, v3851_r0⟩ : Σ' (k0_mxu127 : Mxu F) (v3848_r0 : BitVec 32), FVec F S256x256 .bf16 ← k0_part10 arg0 harg0 arg1 harg1 arg2 harg2 arg3 harg3 arg4 harg4 arg5 harg5 arg6 harg6 arg7 harg7 arg8 harg8 arg9 arg10 arg11 arg12 k0_t1 k0_h7 v3734_r0 v3735_r0 k0_mxu117 c8_i32_1307_r0
      let ⟨k0_mxu139, v3879_r0⟩ : Σ' (k0_mxu139 : Mxu F), FVec F S240x256 .bf16 ← k0_part11 arg0 harg0 arg1 harg1 arg2 harg2 arg3 harg3 arg4 harg4 arg5 harg5 arg6 harg6 arg7 harg7 arg8 harg8 arg9 arg10 arg11 arg12 k0_t1 k0_h7 v3734_r0 v3735_r0 k0_mxu127 v3848_r0 v3851_r0
      let k0_mxu153 : Mxu F ← k0_part12 arg0 harg0 arg1 harg1 arg2 harg2 arg3 harg3 arg4 harg4 arg5 harg5 arg6 harg6 arg7 harg7 arg8 harg8 arg9 arg10 arg11 arg12 k0_t1 k0_h7 v3734_r0 v3735_r0 k0_mxu139 v3879_r0
      let ⟨k0_mxu167, c8_i32_1387_r0⟩ : Σ' (k0_mxu167 : Mxu F), BitVec 32 ← k0_part13 arg0 harg0 arg1 harg1 arg2 harg2 arg3 harg3 arg4 harg4 arg5 harg5 arg6 harg6 arg7 harg7 arg8 harg8 arg9 arg10 arg11 arg12 k0_t1 k0_h7 v3734_r0 v3735_r0 k0_mxu153
      let v3938_r0 : Vec F S1x256x256 .bf16 ← Prog.lift (.load arg7 (Rect.unit (s := S64x256x512) (k0_off79 k0_t1 7#32) S1x256x256.size (k0_off79_inb k0_t1 k0_h7 7)).toLoadRect (View.loadsAt_vmem h_S1x256x256))
      let k0_mxu168 : Mxu F ← k0_mxu167.pushRhs 0 0 false (k0_pay694 v3938_r0)
      let v3941_r0 : Vec F S1x256x256 .bf16 ← Prog.lift (.load arg7 (Rect.unit (s := S64x256x512) (k0_off80 k0_t1 7#32) S1x256x256.size (k0_off80_inb k0_t1 k0_h7 7)).toLoadRect (View.loadsAt_vmem h_S1x256x256))
      let k0_mxu169 : Mxu F ← k0_mxu168.pushRhs 1 0 false (k0_pay695 v3941_r0)
      let v3944_r0 : Vec F S1x240x256 .bf16 ← Prog.lift (.load arg4 (Rect.unit (s := S3x960x2048) (k0_off109 k0_t1) S1x240x256.size (k0_off109_inb k0_t1 k0_h7)).toLoadRect (View.loadsAt_vmem h_S1x240x256))
      let k0_mxu170 : Mxu F ← k0_mxu169.accLhsLoaded 0 60 (k0_pay696 v3944_r0) fits_60_240
      let k0_mxu171 : Mxu F ← k0_mxu170.accLhsLoaded 1 60 (k0_pay696 v3944_r0) fits_60_240
      let v3947_r0 : Vec F S1x240x256 .bf16 ← Prog.lift (.load arg4 (Rect.unit (s := S3x960x2048) (k0_off110 k0_t1) S1x240x256.size (k0_off110_inb k0_t1 k0_h7)).toLoadRect (View.loadsAt_vmem h_S1x240x256))
      let k0_mxu172 : Mxu F ← k0_mxu171.accLhsLoaded 0 120 (k0_pay697 v3947_r0) fits_120_240
      let k0_mxu173 : Mxu F ← k0_mxu172.accLhsLoaded 1 120 (k0_pay697 v3947_r0) fits_120_240
      let v3950_r0 : Vec F S1x240x256 .bf16 ← Prog.lift (.load arg4 (Rect.unit (s := S3x960x2048) (k0_off111 k0_t1) S1x240x256.size (k0_off111_inb k0_t1 k0_h7)).toLoadRect (View.loadsAt_vmem h_S1x240x256))
      let k0_mxu174 : Mxu F ← k0_mxu173.accLhsLoaded 0 180 (k0_pay698 v3950_r0) fits_180_240
      let k0_mxu175 : Mxu F ← k0_mxu174.accLhsLoaded 1 180 (k0_pay698 v3950_r0) fits_180_240
      pure k0_mxu175 : TC F (Mxu F)) = branch7 arg4 arg7 arg8 harg8 k0_t1 k0_h7 k0_mxu6 := rfl

end Cert.Kernel.P
-- ==== Proof.Branch8.lean ====
/-  The printed text of a step that decodes a weight chunk is the compact program. -/
module
public import proofs.«01_k».proof.Proof.Prog
@[expose] public section
set_option maxRecDepth 65536
noncomputable section
namespace Cert.Kernel.P
open Idealize.ShloMosaic Idealize.SL.Sem Cert.Kernel.Gen
variable {F : FTy → Type} [FloatOps F]
set_option maxHeartbeats 20000000
/-- The printed text of such a step is the compact one. -/
theorem branch8_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h8 : k0_cond8 k0_t1 = 1#1) (arg13_r0 : BitVec 32) (k0_mxu87 : Mxu F) :
  (do
        let ⟨v3734_r0, v3735_r0, k0_mxu236, v6110_r0, v6112_r0, v6119_r0, v6120_r0, v6121_r0, v6126_r0, v6130_r0, v6233_r0, v6336_r0, v6337_r0, v6363_r0, c0_i32_2159_r0⟩ : Σ' (v3734_r0 : BitVec 32) (v3735_r0 : BitVec 32) (k0_mxu236 : Mxu F) (v6110_r0 : BitVec 32) (v6112_r0 : BitVec 32) (v6119_r0 : IVec S64x128 32) (v6120_r0 : IVec S128x128 32) (v6121_r0 : IVec S64x256 32) (v6126_r0 : IVec S128x128 32) (v6130_r0 : IVec S64x128 32) (v6233_r0 : FVec F S256x128 .bf16) (v6336_r0 : FVec F S256x128 .bf16) (v6337_r0 : IVec S64x128 32) (v6363_r0 : IVec S64x128 32), BitVec 32 ← k0_part99 arg0 harg0 arg1 harg1 arg2 harg2 arg3 harg3 arg4 harg4 arg5 harg5 arg6 harg6 arg7 harg7 arg8 harg8 arg9 arg10 arg11 arg12 k0_t1 arg13_r0 k0_mxu87 k0_h8
        let ⟨v6402_r0, v6403_r0, c32_i32_2173_r0, v6405_r0, v6408_r0⟩ : Σ' (v6402_r0 : FVec F S256x128 .bf16) (v6403_r0 : BitVec 32) (c32_i32_2173_r0 : BitVec 32) (v6405_r0 : IVec S128x128 32), IVec S128x128 32 ← k0_part74 arg0 harg0 arg1 harg1 arg2 harg2 arg3 harg3 arg4 harg4 arg5 harg5 arg6 harg6 arg7 harg7 arg8 harg8 arg9 arg10 arg11 arg12 v6112_r0 v6120_r0 v6130_r0 v6337_r0 v6363_r0 c0_i32_2159_r0
        let ⟨v6439_r0, v6440_r0, c2_i32_2182_r0, v6442_r0, v6456_r0⟩ : Σ' (v6439_r0 : FVec F S256x128 .bf16) (v6440_r0 : IVec S64x128 32) (c2_i32_2182_r0 : BitVec 32) (v6442_r0 : IVec S64x128 32), IVec S64x128 1 ← k0_part75 arg0 harg0 arg1 harg1 arg2 harg2 arg3 harg3 arg4 harg4 arg5 harg5 arg6 harg6 arg7 harg7 arg8 harg8 arg9 arg10 arg11 arg12 v6119_r0 v6120_r0 v6121_r0 v6126_r0 v6402_r0 v6403_r0 c32_i32_2173_r0 v6405_r0 v6408_r0
        let ⟨v6497_r0, v6501_r0⟩ : Σ' (v6497_r0 : FVec F S256x128 .bf16), IVec S128x128 32 ← k0_part76 arg0 harg0 arg1 harg1 arg2 harg2 arg3 harg3 arg4 harg4 arg5 harg5 arg6 harg6 arg7 harg7 arg8 harg8 arg9 arg10 arg11 arg12 v6119_r0 v6130_r0 v6440_r0 c2_i32_2182_r0 v6442_r0 v6456_r0
        let v6543_r0 : FVec F S256x512 .bf16 ← k0_part77 arg0 harg0 arg1 harg1 arg2 harg2 arg3 harg3 arg4 harg4 arg5 harg5 arg6 harg6 arg7 harg7 arg8 harg8 arg9 arg10 arg11 arg12 v6110_r0 v6112_r0 v6120_r0 v6126_r0 v6233_r0 v6336_r0 v6439_r0 v6497_r0 v6501_r0
        let ⟨k0_mxu246, v6574_r0, v6575_r0⟩ : Σ' (k0_mxu246 : Mxu F) (v6574_r0 : BitVec 32), BitVec 32 ← k0_part78 arg0 harg0 arg1 harg1 arg2 harg2 arg3 harg3 arg4 harg4 arg5 harg5 arg6 harg6 arg7 harg7 arg8 harg8 arg9 arg10 arg11 arg12 k0_t1 arg13_r0 k0_h8 v3734_r0 v3735_r0 k0_mxu236 v6543_r0
        let ⟨v6579_r0, v6581_r0, v6588_r0, v6589_r0, v6590_r0, v6595_r0, v6599_r0, v6600_r0, v6602_r0, v6616_r0, v6618_r0⟩ : Σ' (v6579_r0 : BitVec 32) (v6581_r0 : BitVec 32) (v6588_r0 : IVec S64x128 32) (v6589_r0 : IVec S128x128 32) (v6590_r0 : IVec S64x256 32) (v6595_r0 : IVec S128x128 32) (v6599_r0 : IVec S64x128 32) (v6600_r0 : IVec S64x128 32) (v6602_r0 : IVec S64x128 32) (v6616_r0 : IVec S64x128 1), IVec S64x128 32 ← k0_part79 arg0 harg0 arg1 harg1 arg2 harg2 arg3 harg3 arg4 harg4 arg5 harg5 arg6 harg6 arg7 harg7 arg8 harg8 arg9 arg10 arg11 arg12 k0_t1 k0_h8 v6574_r0 v6575_r0
        let ⟨v6657_r0, v6661_r0, v6662_r0⟩ : Σ' (v6657_r0 : FVec F S256x128 .bf16) (v6661_r0 : IVec S128x128 32), IVec S128x128 32 ← k0_part80 arg0 harg0 arg1 harg1 arg2 harg2 arg3 harg3 arg4 harg4 arg5 harg5 arg6 harg6 arg7 harg7 arg8 harg8 arg9 arg10 arg11 arg12 v6599_r0 v6600_r0 v6602_r0 v6616_r0 v6618_r0
        let ⟨v6702_r0, v6703_r0, c2_i32_2280_r0, v6705_r0, v6708_r0, v6709_r0⟩ : Σ' (v6702_r0 : FVec F S256x128 .bf16) (v6703_r0 : IVec S64x128 32) (c2_i32_2280_r0 : BitVec 32) (v6705_r0 : IVec S64x128 32) (v6708_r0 : IVec S64x128 32), IVec S64x128 32 ← k0_part81 arg0 harg0 arg1 harg1 arg2 harg2 arg3 harg3 arg4 harg4 arg5 harg5 arg6 harg6 arg7 harg7 arg8 harg8 arg9 arg10 arg11 arg12 v6581_r0 v6588_r0 v6589_r0 v6590_r0 v6595_r0 v6657_r0 v6661_r0 v6662_r0
        let ⟨v6749_r0, v6755_r0⟩ : Σ' (v6749_r0 : IVec S128x128 32), IVec S128x128 32 ← k0_part82 arg0 harg0 arg1 harg1 arg2 harg2 arg3 harg3 arg4 harg4 arg5 harg5 arg6 harg6 arg7 harg7 arg8 harg8 arg9 arg10 arg11 arg12 v6588_r0 v6599_r0 v6703_r0 c2_i32_2280_r0 v6705_r0 v6708_r0 v6709_r0
        let ⟨v6768_r0, v6801_r0⟩ : Σ' (v6768_r0 : FVec F S256x128 .bf16), IVec S128x128x1 32 ← k0_part83 arg0 harg0 arg1 harg1 arg2 harg2 arg3 harg3 arg4 harg4 arg5 harg5 arg6 harg6 arg7 harg7 arg8 harg8 arg9 arg10 arg11 arg12 v6581_r0 v6589_r0 v6749_r0 v6755_r0
        let ⟨v6805_r0, v6847_r0, v6848_r0⟩ : Σ' (v6805_r0 : FVec F S256x128 .bf16) (v6847_r0 : IVec S256x128 16), IVec S256x128 16 ← k0_part84 arg0 harg0 arg1 harg1 arg2 harg2 arg3 harg3 arg4 harg4 arg5 harg5 arg6 harg6 arg7 harg7 arg8 harg8 arg9 arg10 arg11 arg12 v6588_r0 v6590_r0 v6595_r0 v6599_r0 v6768_r0 v6801_r0
        let ⟨v6871_r0, v6872_r0, v6874_r0, v6893_r0⟩ : Σ' (v6871_r0 : FVec F S256x128 .bf16) (v6872_r0 : BitVec 32) (v6874_r0 : IVec S128x128 32), IVec S128x128 1 ← k0_part85 arg0 harg0 arg1 harg1 arg2 harg2 arg3 harg3 arg4 harg4 arg5 harg5 arg6 harg6 arg7 harg7 arg8 harg8 arg9 arg10 arg11 arg12 v6581_r0 v6589_r0 v6847_r0 v6848_r0
        let ⟨v6908_r0, v6909_r0, v6940_r0⟩ : Σ' (v6908_r0 : FVec F S256x128 .bf16) (v6909_r0 : IVec S64x128 32), IVec S64x128 32 ← k0_part86 arg0 harg0 arg1 harg1 arg2 harg2 arg3 harg3 arg4 harg4 arg5 harg5 arg6 harg6 arg7 harg7 arg8 harg8 arg9 arg10 arg11 arg12 v6588_r0 v6590_r0 v6595_r0 v6871_r0 v6872_r0 v6874_r0 v6893_r0
        let ⟨v6974_r0, v6975_r0, c32_i32_2364_r0, v6977_r0, v6984_r0, c0_i32_2367_r0⟩ : Σ' (v6974_r0 : FVec F S256x128 .bf16) (v6975_r0 : BitVec 32) (c32_i32_2364_r0 : BitVec 32) (v6977_r0 : IVec S128x128 32) (v6984_r0 : IVec S128x128 32), BitVec 32 ← k0_part87 arg0 harg0 arg1 harg1 arg2 harg2 arg3 harg3 arg4 harg4 arg5 harg5 arg6 harg6 arg7 harg7 arg8 harg8 arg9 arg10 arg11 arg12 v6581_r0 v6589_r0 v6599_r0 v6909_r0 v6940_r0
        let ⟨k0_mxu248, v7025_r0⟩ : Σ' (k0_mxu248 : Mxu F), BitVec 32 ← k0_part88 arg0 harg0 arg1 harg1 arg2 harg2 arg3 harg3 arg4 harg4 arg5 harg5 arg6 harg6 arg7 harg7 arg8 harg8 arg9 arg10 arg11 arg12 k0_t1 k0_h8 v3734_r0 v3735_r0 k0_mxu246 v6579_r0 v6589_r0 v6595_r0 v6702_r0 v6805_r0 v6908_r0 v6974_r0 v6975_r0 c32_i32_2364_r0 v6977_r0 v6984_r0 c0_i32_2367_r0
        let ⟨k0_mxu256, v7048_r0, v7050_r0, v7053_r0, v7055_r0⟩ : Σ' (k0_mxu256 : Mxu F) (v7048_r0 : BitVec 32) (v7050_r0 : BitVec 32) (v7053_r0 : IVec S256x256 8), Vec F S1x256x64 .i8 ← k0_part89 arg0 harg0 arg1 harg1 arg2 harg2 arg3 harg3 arg4 harg4 arg5 harg5 arg6 harg6 arg7 harg7 arg8 harg8 arg9 arg10 arg11 arg12 k0_t1 arg13_r0 k0_h8 v3735_r0 k0_mxu248 v7025_r0
        let ⟨v7057_r0, v7058_r0, v7059_r0, v7064_r0, v7068_r0, v7069_r0, v7102_r0⟩ : Σ' (v7057_r0 : IVec S64x128 32) (v7058_r0 : IVec S128x128 32) (v7059_r0 : IVec S64x256 32) (v7064_r0 : IVec S128x128 32) (v7068_r0 : IVec S64x128 32) (v7069_r0 : IVec S64x128 32), IVec S64x128 32 ← k0_part90 arg0 harg0 arg1 harg1 arg2 harg2 arg3 harg3 arg4 harg4 arg5 harg5 arg6 harg6 arg7 harg7 arg8 harg8 arg9 arg10 arg11 arg12 v7053_r0 v7055_r0
        let ⟨v7134_r0, v7135_r0, c32_i32_2431_r0, v7137_r0, v7144_r0, v7146_r0⟩ : Σ' (v7134_r0 : FVec F S256x128 .bf16) (v7135_r0 : BitVec 32) (c32_i32_2431_r0 : BitVec 32) (v7137_r0 : IVec S128x128 32) (v7144_r0 : IVec S128x128 32), BitVec 32 ← k0_part91 arg0 harg0 arg1 harg1 arg2 harg2 arg3 harg3 arg4 harg4 arg5 harg5 arg6 harg6 arg7 harg7 arg8 harg8 arg9 arg10 arg11 arg12 v7050_r0 v7058_r0 v7068_r0 v7069_r0 v7102_r0
        let ⟨v7171_r0, v7172_r0, v7174_r0, v7193_r0, v7194_r0⟩ : Σ' (v7171_r0 : FVec F S256x128 .bf16) (v7172_r0 : IVec S64x128 32) (v7174_r0 : IVec S64x128 32) (v7193_r0 : IVec S64x128 1), IVec S64x128 32 ← k0_part92 arg0 harg0 arg1 harg1 arg2 harg2 arg3 harg3 arg4 harg4 arg5 harg5 arg6 harg6 arg7 harg7 arg8 harg8 arg9 arg10 arg11 arg12 v7057_r0 v7058_r0 v7059_r0 v7064_r0 v7134_r0 v7135_r0 c32_i32_2431_r0 v7137_r0 v7144_r0 v7146_r0
        let ⟨v7237_r0, v7238_r0, c32_i32_2462_r0⟩ : Σ' (v7237_r0 : FVec F S256x128 .bf16) (v7238_r0 : BitVec 32), BitVec 32 ← k0_part93 arg0 harg0 arg1 harg1 arg2 harg2 arg3 harg3 arg4 harg4 arg5 harg5 arg6 harg6 arg7 harg7 arg8 harg8 arg9 arg10 arg11 arg12 v7050_r0 v7068_r0 v7172_r0 v7174_r0 v7193_r0 v7194_r0
        let ⟨v7274_r0, v7275_r0, c2_i32_2471_r0, v7277_r0, v7284_r0, v7286_r0⟩ : Σ' (v7274_r0 : FVec F S256x128 .bf16) (v7275_r0 : IVec S64x128 32) (c2_i32_2471_r0 : BitVec 32) (v7277_r0 : IVec S64x128 32) (v7284_r0 : IVec S64x128 32), BitVec 32 ← k0_part94 arg0 harg0 arg1 harg1 arg2 harg2 arg3 harg3 arg4 harg4 arg5 harg5 arg6 harg6 arg7 harg7 arg8 harg8 arg9 arg10 arg11 arg12 v7057_r0 v7058_r0 v7059_r0 v7064_r0 v7237_r0 v7238_r0 c32_i32_2462_r0
        let ⟨v7321_r0, v7332_r0⟩ : Σ' (v7321_r0 : IVec S128x128 32), FVec F S256x128 .bf16 ← k0_part95 arg0 harg0 arg1 harg1 arg2 harg2 arg3 harg3 arg4 harg4 arg5 harg5 arg6 harg6 arg7 harg7 arg8 harg8 arg9 arg10 arg11 arg12 v7057_r0 v7068_r0 v7275_r0 c2_i32_2471_r0 v7277_r0 v7284_r0 v7286_r0
        let ⟨v7377_r0, v7378_r0, c2_i32_2502_r0⟩ : Σ' (v7377_r0 : FVec F S256x128 .bf16) (v7378_r0 : IVec S64x128 32), BitVec 32 ← k0_part96 arg0 harg0 arg1 harg1 arg2 harg2 arg3 harg3 arg4 harg4 arg5 harg5 arg6 harg6 arg7 harg7 arg8 harg8 arg9 arg10 arg11 arg12 v7050_r0 v7058_r0 v7059_r0 v7064_r0 v7321_r0 v7332_r0
        let ⟨v7424_r0, c5_i32_2516_r0⟩ : Σ' (v7424_r0 : IVec S128x128 32), BitVec 32 ← k0_part97 arg0 harg0 arg1 harg1 arg2 harg2 arg3 harg3 arg4 harg4 arg5 harg5 arg6 harg6 arg7 harg7 arg8 harg8 arg9 arg10 arg11 arg12 v7057_r0 v7068_r0 v7378_r0 c2_i32_2502_r0
        let ⟨v7443_r0, v7470_r0⟩ : Σ' (v7443_r0 : FVec F S256x128 .bf16), IVec S128x128 32 ← k0_part98 arg0 harg0 arg1 harg1 arg2 harg2 arg3 harg3 arg4 harg4 arg5 harg5 arg6 harg6 arg7 harg7 arg8 harg8 arg9 arg10 arg11 arg12 v7050_r0 v7058_r0 v7424_r0 c5_i32_2516_r0
        let v7485_r0 : Vec F S1x256x512 .bf16 ← Prog.lift (.load arg7 (Rect.unit (s := S64x256x512) (k0_off120 k0_t1 7#32) S1x256x512.size (k0_off120_inb k0_t1 k0_h8 7)).toLoadRect (View.loadsAt_vmem h_S1x256x512))
        Prog.lift (.store arg7 (Rect.unit (s := S64x256x512) (k0_off120 k0_t1 7#32) S1x256x512.size (k0_off120_inb k0_t1 k0_h8 7)) (k0_pay952 v7064_r0 v7171_r0 v7274_r0 v7377_r0 v7443_r0 v7470_r0) Finset.univ (View.stores_vmem h_S1x256x512 (harg7.storeExact_slice rfl _ (k0_off120_packedbf16 k0_t1 k0_h8 7)) (fun _ => rfl)) (.inl rfl))
        pure k0_mxu256 : TC F (Mxu F)) = branch8 arg4 arg5 arg6 arg7 harg7 k0_t1 k0_h8 arg13_r0 k0_mxu87 := rfl

end Cert.Kernel.P
-- ==== Proof.Branch9.lean ====
/-  The printed text of a step that pops the tile before and decodes a weight chunk is the compact program. -/
module
public import proofs.«01_k».proof.Proof.Prog
@[expose] public section
set_option maxRecDepth 65536
noncomputable section
namespace Cert.Kernel.P
open Idealize.ShloMosaic Idealize.SL.Sem Cert.Kernel.Gen
variable {F : FTy → Type} [FloatOps F]
set_option maxHeartbeats 20000000
/-- The printed text of such a step is the compact one. -/
theorem branch9_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h9 : k0_cond9 k0_t1 = 1#1) (arg13_r0 : BitVec 32) (k0_mxu176 : Mxu F) :
  (do
        let ⟨v3734_r0, v3735_r0, k0_mxu325, v6150_r0, v6152_r0, v6159_r0, v6160_r0, v6161_r0, v6166_r0, v6170_r0, v6273_r0, v6339_r0, v6340_r0, c32_i32_2158_r0, v6342_r0, v6345_r0, v6346_r0⟩ : Σ' (v3734_r0 : BitVec 32) (v3735_r0 : BitVec 32) (k0_mxu325 : Mxu F) (v6150_r0 : BitVec 32) (v6152_r0 : BitVec 32) (v6159_r0 : IVec S64x128 32) (v6160_r0 : IVec S128x128 32) (v6161_r0 : IVec S64x256 32) (v6166_r0 : IVec S128x128 32) (v6170_r0 : IVec S64x128 32) (v6273_r0 : FVec F S256x128 .bf16) (v6339_r0 : FVec F S256x128 .bf16) (v6340_r0 : BitVec 32) (c32_i32_2158_r0 : BitVec 32) (v6342_r0 : IVec S128x128 32) (v6345_r0 : IVec S128x128 32), IVec S128x128 32 ← k0_part186 arg0 harg0 arg1 harg1 arg2 harg2 arg3 harg3 arg4 harg4 arg5 harg5 arg6 harg6 arg7 harg7 arg8 harg8 arg9 arg10 arg11 arg12 k0_t1 arg13_r0 k0_mxu176 k0_h9
        let ⟨k0_mxu345, v7521_r0⟩ : Σ' (k0_mxu345 : Mxu F), FVec F S256x512 .bf16 ← k0_part187 arg0 harg0 arg1 harg1 arg2 harg2 arg3 harg3 arg4 harg4 arg5 harg5 arg6 harg6 arg7 harg7 arg8 harg8 arg9 arg10 arg11 arg12 k0_t1 arg13_r0 k0_h9 v3734_r0 v3735_r0 k0_mxu325 v6150_r0 v6152_r0 v6159_r0 v6160_r0 v6161_r0 v6166_r0 v6170_r0 v6273_r0 v6339_r0 v6340_r0 c32_i32_2158_r0 v6342_r0 v6345_r0 v6346_r0
        Prog.lift (.store arg7 (Rect.unit (s := S64x256x512) (k0_off171 k0_t1 7#32) S1x256x512.size (k0_off171_inb k0_t1 k0_h9 7)) (k0_pay953 v7521_r0) Finset.univ (View.stores_vmem h_S1x256x512 (harg7.storeExact_slice rfl _ (k0_off171_packedbf16 k0_t1 k0_h9 7)) (fun _ => rfl)) (.inl rfl))
        pure k0_mxu345 : TC F (Mxu F)) = branch9 arg4 arg5 arg6 arg7 harg7 arg8 harg8 k0_t1 k0_h9 arg13_r0 k0_mxu176 := rfl

end Cert.Kernel.P
-- ==== Proof.Body.lean ====
/-  One step of the main loop keeps what holds between steps. -/
module

public import proofs.«01_k».proof.Proof.Inv
public import proofs.«01_k».proof.Proof.Branch6
public import proofs.«01_k».proof.Proof.Branch7
public import proofs.«01_k».proof.Proof.Branch8
public import proofs.«01_k».proof.Proof.Branch9

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

/-! ## Conditionals -/

section Ifs

variable {c : Dev nD} {p : Prop} [Decidable p]

/-- A conditional with a result. -/
theorem wif {α : Type} {X : p → TC F α} {Y : TC F α} {R : sProp 𝕄} {Q : α → sProp 𝕄} (h : ∀ h : p, R ⊢ WP c (X h) Q) (hn : ¬ p → R ⊢ WP c Y Q) :
    R ⊢ WP c (if h : p then X h else Y) Q := by
  by_cases hp : p
  · rw [dif_pos hp]; exact h hp
  · rw [dif_neg hp]; exact hn hp
/-- A conditional statement of one action. -/
theorem wif1 {α β : Type} {X : p → TC F α} {K : TC F β} {R M : sProp 𝕄} {Q : β → sProp 𝕄} (h : ∀ h : p, R ⊢ WP c (X h) (fun _ => M)) (hn : ¬ p → R ⊢ M) :
    iprop(R ∗ (M -∗ WP c K Q)) ⊢ WP c (if h : p then (X h >>= fun _ => K) else K) Q := by
  by_cases hp : p
  · rw [dif_pos hp]
    iintro ⟨HR, HK⟩
    iapply (wseq c (h hp))
    isplitl [HR]; · iexact HR
    iintro %_ HM
    iapply HK; iexact HM
  · rw [dif_neg hp]
    iintro ⟨HR, HK⟩
    iapply HK; iapply (hn hp); iexact HR
/-- A conditional statement of two actions. -/
theorem wif2 {α α' β : Type} {X : p → TC F α} {Y : p → TC F α'} {K : TC F β} {R M1 M : sProp 𝕄} {Q : β → sProp 𝕄}
    (h : ∀ h : p, R ⊢ WP c (X h) (fun _ => M1)) (h' : ∀ h : p, M1 ⊢ WP c (Y h) (fun _ => M)) (hn : ¬ p → R ⊢ M) :
    iprop(R ∗ (M -∗ WP c K Q)) ⊢ WP c (if h : p then (X h >>= fun _ => Y h >>= fun _ => K) else K) Q := by
  by_cases hp : p
  · rw [dif_pos hp]
    iintro ⟨HR, HK⟩
    iapply (wseq c (h hp))
    isplitl [HR]; · iexact HR
    iintro %_ HM
    iapply (wseq c (h' hp))
    isplitl [HM]; · iexact HM
    iintro %_ HM
    iapply HK; iexact HM
  · rw [dif_neg hp]
    iintro ⟨HR, HK⟩
    iapply HK; iapply (hn hp); iexact HR

end Ifs

section Body

variable {c : Dev nD} {dy : S7680x16384.Idx → F .bf16} {wp : S16384x1024.Idx → BitVec 8} {ws : S16384x64.Idx → BitVec 8} (k : Fin k0_t1_loop.trips)

theorem klt : k.val < 256 := lt_of_lt_of_eq k.isLt trips_eq

/-! ## The conditional waits and starts -/

theorem DN_put {d : ℕ} : iprop(DN c dy wp ws d ∗ OV c d (outV dy wp ws d)) ⊢ DN c dy wp ws (d + 1) := .rfl
theorem c1_wait (h : k0_cond1 k = 1#1) {i w1 w2} :
    iprop(OI c dy wp ws k.val ∗ OW (F := F) c) ⊢ WP c (Prog.lift (.waitDma2 sem12 m8 (b3 (k0_off26 k) i) w1 w2)) (fun _ => iprop(OM1 c dy wp ws k.val ∗ OW (F := F) c)) := by
  obtain ⟨h8, h16⟩ := (cond1_iff k).1 h
  unfold OI OM1
  rw [if_pos h8, if_pos h8, if_pos h16]
  unfold OFly OFree
  iintro ⟨⟨HF, HD, HR⟩, HW⟩
  iapply (wend c o_wait)
  isplitl [HF HW]
  · isplitl [HF]; · iexact HF
    iexact HW
  iintro %_ ⟨⟨HO, H8⟩, HS, HW⟩
  isplitr [HW]
  · isplitl [H8]; · iexists _; iexact H8
    isplitl [HS]; · iexact HS
    rw [show k.val / 8 - 1 = (k.val / 8 - 2) + 1 by omega]
    isplitl [HD HO]
    · iapply DN_put
      isplitl [HD]; · iexact HD
      iexact HO
    · iexact HR
  iexact HW
theorem c1_skip (h : ¬ k0_cond1 k = 1#1) : iprop(OI c dy wp ws k.val ∗ OW (F := F) c) ⊢ iprop(OM1 c dy wp ws k.val ∗ OW (F := F) c) := by
  rw [cond1_iff] at h
  unfold OI OM1
  by_cases h8 : k.val % 8 = 0
  · rw [if_pos h8, if_pos h8, if_neg (by omega), show k.val / 8 - 1 = 0 by omega]; try exact .rfl
  · rw [if_neg h8, if_neg h8]; try exact .rfl

theorem c2_start (h : k0_cond2 k = 1#1) {i w1 w2 w3} :
    OM1 c dy wp ws k.val ⊢ WP c (Prog.lift (.enqueueDma m8 (.here (b3 (k0_off27 k) i)) (.dma sem12) w1 w2 w3)) (fun _ => OM2 c dy wp ws k.val) := by
  obtain ⟨h8, h16⟩ := (cond2_iff k).1 h
  have hk := klt k
  unfold OM1 OM2
  have h0 : ¬ k.val % 8 = 0 := by omega
  rw [if_neg h0, if_neg h0, if_pos h16, if_pos h8, if_pos h16]
  unfold OHold OFly
  iintro ⟨H8, HS, HD, HR⟩
  ihave H := (RM_take (F := F) c (d := k.val / 8 - 1) (by omega)) $$ HR
  icases H with ⟨HA, HR⟩
  iapply (wend c (o_start (off27_eq k h)))
  isplitl [HA HS H8]
  · isplitl [HA]; · iexact HA
    isplitl [HS]; · iexact HS
    iexact H8
  iintro %_ HF
  isplitl [HF]; · iexact HF
  isplitl [HD]; · iexact HD
  iexact HR
theorem c2_skip (h : ¬ k0_cond2 k = 1#1) : OM1 c dy wp ws k.val ⊢ OM2 c dy wp ws k.val := by
  rw [cond2_iff] at h
  unfold OM1 OM2
  by_cases h8 : k.val % 8 = 0
  · rw [if_pos h8, if_pos h8]; try exact .rfl
  · rw [if_neg h8, if_neg h8]
    by_cases h9 : 8 ≤ k.val
    · rw [if_pos h9, if_pos h9, if_neg (by omega)]; try exact .rfl
    · rw [if_neg h9, if_neg h9]; try exact .rfl

theorem WI_dec (h : dec k.val) : WI (F := F) c wp ws k.val = iprop(FL56 (F := F) c wp ws (chunk k.val) ∗ FR56 (F := F) c wp ws (slot2 (chunk k.val + 1))) := by
  unfold WI FLW
  rw [nxt_dec h, if_pos (chunk_lt h)]
theorem WM1_dec (h : dec k.val) : WM1 (F := F) c wp ws k.val = iprop(LD56 (F := F) c wp ws (chunk k.val) ∗ FR56 (F := F) c wp ws (slot2 (chunk k.val + 1))) := by
  unfold WM1; rw [if_pos h]
theorem WM2_dec (h : dec k.val) : WM2 (F := F) c wp ws k.val = iprop(LD56 (F := F) c wp ws (chunk k.val) ∗ FLW (F := F) c wp ws (chunk k.val + 1)) := by
  unfold WM2; rw [if_pos h]
theorem WM2_keep (h : ¬ dec k.val) : WM2 (F := F) c wp ws k.val = WI (F := F) c wp ws k.val := by
  unfold WM2; rw [if_neg h]

/-- Once the codes have landed. -/
def WH (c : Dev nD) (wp : S16384x1024.Idx → BitVec 8) (ws : S16384x64.Idx → BitVec 8) (e : ℕ) : sProp 𝕄 :=
  iprop(LD5 (F := F) c wp (slot2 e) (e / 8) (e % 8) ∗ FL6 (F := F) c ws (slot2 e) (e % 8) ∗ FR56 (F := F) c wp ws (slot2 (e + 1)))
theorem c3_waitC (h : k0_cond3 k = 1#1) {hs hd} {srcw : Memref sig .tc .hbm S2048x256 .i8} {w1 w2} :
    iprop(WI (F := F) c wp ws k.val ∗ OW (F := F) c) ⊢ WP c (Prog.lift (.waitDma2 (u10 (k0_off28 k) hs) srcw (w5 (k0_off29 k) hd) w1 w2))
      (fun _ => iprop(WH (F := F) c wp ws (chunk k.val) ∗ OW (F := F) c)) := by
  have hd := (cond3_iff k).1 h
  rw [WI_dec k hd]
  unfold FL56 WH
  iintro ⟨⟨⟨H5, H6⟩, HR⟩, HW⟩
  iapply (wend c (c_wait (j := slot2 (chunk k.val)) srcw (cEq rfl)))
  isplitl [H5 HW]
  · isplitl [H5]; · iexact H5
    iexact HW
  iintro %_ ⟨H5, HW⟩
  isplitr [HW]
  · isplitl [H5]; · iexact H5
    isplitl [H6]; · iexact H6
    iexact HR
  iexact HW
theorem c3_waitS (h : k0_cond3 k = 1#1) {hs hd} {srcw : Memref sig .tc .hbm S2048x64 .i8} {w1 w2} :
    iprop(WH (F := F) c wp ws (chunk k.val) ∗ OW (F := F) c) ⊢ WP c (Prog.lift (.waitDma2 (u11 (k0_off28 k) hs) srcw (w6 (k0_off31 k) hd) w1 w2))
      (fun _ => iprop(WM1 (F := F) c wp ws k.val ∗ OW (F := F) c)) := by
  have hd := (cond3_iff k).1 h
  rw [WM1_dec k hd]
  unfold LD56 WH
  iintro ⟨⟨H5, H6, HR⟩, HW⟩
  iapply (wend c (s_wait (j := slot2 (chunk k.val)) srcw (cEq rfl)))
  isplitl [H6 HW]
  · isplitl [H6]; · iexact H6
    iexact HW
  iintro %_ ⟨H6, HW⟩
  isplitr [HW]
  · isplitl [H5 H6]
    · isplitl [H5]; · iexact H5
      iexact H6
    iexact HR
  iexact HW
theorem c3_skip (h : ¬ k0_cond3 k = 1#1) : iprop(WI (F := F) c wp ws k.val ∗ OW (F := F) c) ⊢ iprop(WM1 (F := F) c wp ws k.val ∗ OW (F := F) c) := by
  rw [cond3_iff] at h
  unfold WM1
  rw [if_neg h]
  try exact .rfl

/-- Once the next chunk's codes are asked for. -/
def WG (c : Dev nD) (wp : S16384x1024.Idx → BitVec 8) (ws : S16384x64.Idx → BitVec 8) (e : ℕ) : sProp 𝕄 :=
  iprop(LD56 (F := F) c wp ws e ∗ FL5 (F := F) c wp (slot2 (e + 1)) ((e + 1) / 8) ((e + 1) % 8) ∗ FR6 (F := F) c ws (slot2 (e + 1)))
theorem c4_startC (h : k0_cond4 k = 1#1) {hs hd hb w1 w2 w3} :
    WM1 (F := F) c wp ws k.val ⊢ WP c (Prog.lift (.enqueueDma (b1 (k0_off35 k) hb) (.here (w5 (k0_off34 k) hd)) (.dma (u10 (k0_off33 k) hs)) w1 w2 w3))
      (fun _ => WG (F := F) c wp ws (chunk k.val)) := by
  have hd := (cond4_iff k).1 h
  rw [WM1_dec k hd.1]
  unfold FR56 WG
  iintro ⟨HL, H5, H6⟩
  iapply (wend c (c_start (j := slot2 (chunk k.val + 1)) (n := (chunk k.val + 1) / 8) (ch := (chunk k.val + 1) % 8) (cEq rfl) (cEq rfl) (cEq rfl)))
  isplitl [H5]; · iexact H5
  iintro %_ H5
  isplitl [HL]; · iexact HL
  isplitl [H5]; · iexact H5
  iexact H6
theorem c4_startS (h : k0_cond4 k = 1#1) {hs hd hb w1 w2 w3} :
    WG (F := F) c wp ws (chunk k.val) ⊢ WP c (Prog.lift (.enqueueDma (b2 (k0_off37 k) hb) (.here (w6 (k0_off36 k) hd)) (.dma (u11 (k0_off33 k) hs)) w1 w2 w3))
      (fun _ => WM2 (F := F) c wp ws k.val) := by
  have hd := (cond4_iff k).1 h
  rw [WM2_dec k hd.1]
  unfold FLW
  rw [if_pos hd.2]
  unfold FL56 WG
  iintro ⟨HL, H5, H6⟩
  iapply (wend c (s_start (j := slot2 (chunk k.val + 1)) (ch := (chunk k.val + 1) % 8) (cEq rfl) (cEq rfl) (cEq rfl)))
  isplitl [H6]; · iexact H6
  iintro %_ H6
  isplitl [HL]; · iexact HL
  isplitl [H5]; · iexact H5
  iexact H6
theorem c4_skip (h : ¬ k0_cond4 k = 1#1) : WM1 (F := F) c wp ws k.val ⊢ WM2 (F := F) c wp ws k.val := by
  rw [cond4_iff] at h
  unfold WM1 WM2
  by_cases hd : dec k.val
  · rw [if_pos hd, if_pos hd]
    unfold FLW
    rw [if_neg (fun h' => h ⟨hd, h'⟩)]
    try exact .rfl
  · rw [if_neg hd, if_neg hd]; try exact .rfl

/-- The left operand's slots once the step's own has landed. -/
def DM1 (c : Dev nD) (dy : S7680x16384.Idx → F .bf16) (s : ℕ) : sProp 𝕄 :=
  iprop(LD4 c dy (slot3 s) (s / 8 % 8) (s % 8) ∗ FLX c dy (s + 1) ∗ FR4 c dy (slot3 (s + 2)))
def DM2 (c : Dev nD) (dy : S7680x16384.Idx → F .bf16) (s : ℕ) : sProp 𝕄 :=
  iprop(LD4 c dy (slot3 s) (s / 8 % 8) (s % 8) ∗ FLX c dy (s + 1) ∗ FLX c dy (s + 2))
theorem x_waitK {hs hd} {srcw : Memref sig .tc .hbm S960x2048 .bf16} {w1 w2} :
    iprop(DI c dy k.val ∗ OW (F := F) c) ⊢ WP c (Prog.lift (.waitDma2 (u9 (k0_off38 k) hs) srcw (w4 (k0_off39 k) hd) w1 w2))
      (fun _ => iprop(DM1 c dy k.val ∗ OW (F := F) c)) := by
  unfold DI DM1
  conv_lhs => unfold FLX; rw [if_pos (klt k)]
  iintro ⟨⟨H, HR⟩, HW⟩
  iapply (wend c (x_wait (j := slot3 k.val) srcw (cEq rfl)))
  isplitl [H HW]
  · isplitl [H]; · iexact H
    iexact HW
  iintro %_ ⟨H, HW⟩
  isplitr [HW]
  · isplitl [H]; · iexact H
    iexact HR
  iexact HW
theorem c5_start (h : k0_cond5 k = 1#1) {hs hd hb w1 w2 w3} :
    DM1 c dy k.val ⊢ WP c (Prog.lift (.enqueueDma (b0 (k0_off43 k) hb) (.here (w4 (k0_off42 k) hd)) (.dma (u9 (k0_off41 k) hs)) w1 w2 w3)) (fun _ => DM2 c dy k.val) := by
  have h2 := (cond5_iff k).1 h
  unfold DM1 DM2
  iintro ⟨HL, HF, HR⟩
  iapply (wend c (x_start (j := slot3 (k.val + 2)) (m := (k.val + 2) / 8 % 8) (ch := (k.val + 2) % 8) (cEq rfl) (cEq rfl) (cEq rfl)))
  isplitl [HR]; · iexact HR
  iintro %_ HR
  isplitl [HL]; · iexact HL
  isplitl [HF]; · iexact HF
  unfold FLX
  rw [if_pos h2]
  iexact HR
theorem c5_skip (h : ¬ k0_cond5 k = 1#1) : DM1 c dy k.val ⊢ DM2 c dy k.val := by
  rw [cond5_iff] at h
  unfold DM1 DM2
  conv_rhs => rw [show FLX c dy (k.val + 2) = FR4 c dy (slot3 (k.val + 2)) by unfold FLX; rw [if_neg h]]
  try exact .rfl
theorem DI_next (s : ℕ) : iprop(LD4 c dy (slot3 s) (s / 8 % 8) (s % 8) ∗ FLX c dy (s + 1) ∗ FLX c dy (s + 2)) ⊢ DI c dy (s + 1) := by
  unfold DI
  rw [show s + 1 + 2 = s + 3 by omega, slot3_add]
  iintro ⟨HL, HF, HR⟩
  isplitl [HF]; · iexact HF
  isplitl [HR]; · iexact HR
  iapply LD4_free; iexact HL

end Body

end Cert.Kernel.P
-- ==== Proof.Forms.lean ====
/-  One step of the main loop keeps what holds between steps: the printed step. -/
module

public import proofs.«01_k».proof.Proof.Body

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Step

variable {c : Dev nD} {dy : S7680x16384.Idx → F .bf16} {wp : S16384x1024.Idx → BitVec 8} {ws : S16384x64.Idx → BitVec 8} (k : Fin k0_t1_loop.trips)

abbrev HA0 : a0.IsWhole := Memref.isWhole_whole _
abbrev HA1 : a1.IsWhole := Memref.isWhole_whole _
abbrev HA2 : a2.IsWhole := Memref.isWhole_whole _
abbrev HA3 : a3.IsWhole := Memref.isWhole_whole _
abbrev H4 : m4.IsWhole := Memref.isWhole_whole _
abbrev H5 : m5.IsWhole := Memref.isWhole_whole _
abbrev H6 : m6.IsWhole := Memref.isWhole_whole _

/-- The first part of a step: the result buffer and the codes. -/
theorem wp_part188 : iprop(OI c dy wp ws k.val ∗ WI (F := F) c wp ws k.val ∗ OW (F := F) c)
    ⊢ WP c (k0_part188 (F := F) a0 HA0 a1 HA1 a2 HA2 a3 HA3 m4 H4 m5 H5 m6 H6 m7 H7 m8 H8 cc0_scratch5 cc0_scratch6 cc0_scratch7 cc0_scratch8 0#32 1#32 k)
      (fun x => iprop(⌜∃ y z w, x = ⟨Scf.iv 0#32 1#32 k, y, z, w⟩⌝ ∗ OM2 c dy wp ws k.val ∗ WM2 (F := F) c wp ws k.val ∗ OW (F := F) c)) := by
  rw [k0_part188_eq_skeleton]
  unfold k0_part188_skel
  dsimp only
  iintro ⟨HO, HC, HW⟩
  iapply (wif1 (R := iprop(OI c dy wp ws k.val ∗ OW (F := F) c)) (M := iprop(OM1 c dy wp ws k.val ∗ OW (F := F) c)) (fun h => c1_wait k h) (fun h => c1_skip k h))
  isplitl [HO HW]
  · isplitl [HO]; · iexact HO
    iexact HW
  iintro ⟨HO, HW⟩
  iapply (wif1 (R := OM1 c dy wp ws k.val) (M := OM2 c dy wp ws k.val) (fun h => c2_start k h) (fun h => c2_skip k h))
  isplitl [HO]; · iexact HO
  iintro HO
  iapply (wif2 (R := iprop(WI (F := F) c wp ws k.val ∗ OW (F := F) c)) (M := iprop(WM1 (F := F) c wp ws k.val ∗ OW (F := F) c)) (fun h => c3_waitC k h) (fun h => c3_waitS k h) (fun h => c3_skip k h))
  isplitl [HC HW]
  · isplitl [HC]; · iexact HC
    iexact HW
  iintro ⟨HC, HW⟩
  iapply (wif2 (R := WM1 (F := F) c wp ws k.val) (M := WM2 (F := F) c wp ws k.val) (fun h => c4_startC k h) (fun h => c4_startS k h) (fun h => c4_skip k h))
  isplitl [HC]; · iexact HC
  iintro HC
  iapply (le_wp_ret _ _ _ _ _)
  isplitr
  · ipureintro; exact ⟨_, _, _, rfl⟩
  isplitl [HO]; · iexact HO
  isplitl [HC]; · iexact HC
  iexact HW

/-- What a step's forms start from, and what each leaves. -/
def RI (c : Dev nD) (dy : S7680x16384.Idx → F .bf16) (wp : S16384x1024.Idx → BitVec 8) (ws : S16384x64.Idx → BitVec 8) (s : ℕ) : sProp 𝕄 :=
  iprop(DM2 c dy s ∗ OM2 c dy wp ws s ∗ WM2 (F := F) c wp ws s ∗ (∃ f, ⌜FI wp ws s f⌝ ∗ P7 c f))
def RO (c : Dev nD) (dy : S7680x16384.Idx → F .bf16) (wp : S16384x1024.Idx → BitVec 8) (ws : S16384x64.Idx → BitVec 8) (s : ℕ) (mx : Mxu F) : sProp 𝕄 :=
  iprop(⌜UI dy wp ws s mx⌝ ∗ OI c dy wp ws s ∗ DI c dy s ∗ WI (F := F) c wp ws s ∗ (∃ f, ⌜FI wp ws s f⌝ ∗ P7 c f))

variable {mx : Mxu F} (hU : UI dy wp ws k.val mx)
include hU

theorem form6 (h : k0_cond6 k = 1#1) : RI c dy wp ws k.val ⊢ WP c (branch6 m4 m7 k h mx) (fun mx' => RO c dy wp ws (k.val + 1) mx') := by
  obtain ⟨hd, h8⟩ := (cond6_iff k).1 h
  have hk := klt k
  unfold RI RO DM2 LD4
  rw [WM2_keep k hd, OI_keep h8, WI_keep hd hk]
  iintro ⟨⟨⟨⟨⟨%g, %hg, H4⟩, HT⟩, HS⟩, HF⟩, HO, HC, ⟨%f, %hf, H7⟩⟩
  iapply (wend c (wp_branch6 (n := k.val / 64) k h hg (FI_all hd hk hf) (UI_mid hU hk h8)))
  isplitl [H4 H7]
  · isplitl [H4]; · iexact H4
    iexact H7
  iintro %s' ⟨%hs', H4, H7⟩
  isplitr
  · ipureintro
    refine UI_next hk (fun h1 => ?_) hs'
    rw [FI_all hd hk hf]
    unfold dec at hd
    show wOf wp ws (k.val / 64) ((8 * (k.val % 8) + 7 + 1) % 64) = _
    rw [show (8 * (k.val % 8) + 7 + 1) % 64 = 8 * ((k.val + 1) % 8) by omega, show k.val / 64 = (k.val + 1) / 64 by omega]
  isplitl [HO]; · iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [HC]; · iexact HC
  iexists f
  isplitr
  · ipureintro; exact FI_keep hd hk hf
  iexact H7

theorem form7 (h : k0_cond7 k = 1#1) : RI c dy wp ws k.val ⊢ WP c (branch7 m4 m7 m8 H8 k h mx) (fun mx' => RO c dy wp ws (k.val + 1) mx') := by
  obtain ⟨hd, h8⟩ := (cond7_iff k).1 h
  have hk := klt k
  obtain ⟨lv, A, hM, hA⟩ := UI_start hU hk h8
  unfold RI RO DM2 LD4 OM2
  rw [WM2_keep k hd, WI_keep hd hk, if_pos h8]
  unfold OFree
  iintro ⟨⟨⟨⟨⟨%g, %hg, H4⟩, HT⟩, HS⟩, HF⟩, ⟨⟨%f8, H8⟩, HO⟩, HC, ⟨%f, %hf, H7⟩⟩
  iapply (wend c (wp_branch7 (n := k.val / 64) k f8 h (by rw [← h8]; exact hg) (FI_all hd hk hf) hM))
  isplitl [H4 H7 H8]
  · isplitl [H4]; · iexact H4
    isplitl [H7]; · iexact H7
    iexact H8
  iintro %s' ⟨%hs', H4, H7, H8⟩
  isplitr
  · ipureintro
    refine UI_next hk (fun h1 => ?_) (by rw [h8]; exact hs')
    rw [FI_all hd hk hf]
    unfold dec at hd
    show wOf wp ws (k.val / 64) ((8 * (k.val % 8) + 7 + 1) % 64) = _
    rw [show (8 * (k.val % 8) + 7 + 1) % 64 = 8 * ((k.val + 1) % 8) by omega, show k.val / 64 = (k.val + 1) / 64 by omega]
  isplitl [HO H8]
  · iapply (OI_pop h8 hA)
    isplitl [H8]; · iexact H8
    iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [HC]; · iexact HC
  iexists f
  isplitr
  · ipureintro; exact FI_keep hd hk hf
  iexact H7

theorem form8 (h : k0_cond8 k = 1#1) : RI c dy wp ws k.val ⊢ WP c (branch8 m4 m5 m6 m7 H7 k h (Scf.iv 0#32 1#32 k) mx) (fun mx' => RO c dy wp ws (k.val + 1) mx') := by
  obtain ⟨hd, h8⟩ := (cond8_iff k).1 h
  have hk := klt k
  unfold RI RO DM2 LD4
  rw [WM2_dec k hd, OI_keep h8]
  unfold LD56 LD5 LD6
  rw [chunk_div hd]
  iintro ⟨⟨⟨⟨⟨%g, %hg, H4⟩, HT⟩, HS⟩, HF⟩, HO, ⟨⟨⟨⟨⟨%g5, %hg5, H5⟩, HT5⟩, HS5⟩, ⟨⟨⟨%g6, %hg6, H6⟩, HT6⟩, HS6⟩⟩, HC⟩, ⟨%f, %hf, H7⟩⟩
  iapply (wend c (wp_branch8 (n := k.val / 64) k h hg (FI_cur hk hf) hg5 hg6 (fbOf_iv k) (UI_mid hU hk h8)))
  isplitl [H4 H5 H6 H7]
  · isplitl [H4]; · iexact H4
    isplitl [H5]; · iexact H5
    isplitl [H6]; · iexact H6
    iexact H7
  iintro %s' ⟨%hs', H4, H5, H6, H7⟩
  isplitr
  · ipureintro
    refine UI_next hk (fun h1 => ?_) hs'
    rw [chunk_mod hd]
    unfold dec at hd
    congr 1; omega
  isplitl [HO]; · iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [H5 HT5 HS5 H6 HT6 HS6 HC]
  · iapply (WI_next hd)
    isplitr [HC]
    · unfold FR5 FR6
      isplitl [H5 HT5 HS5]
      · isplitl [H5]; · iexists g5; iexact H5
        isplitl [HS5]; · iexact HS5
        iexact HT5
      · isplitl [H6]; · iexists g6; iexact H6
        isplitl [HS6]; · iexact HS6
        iexact HT6
    iexact HC
  iexists _
  isplitr
  · ipureintro; exact FI_next hd hf
  iexact H7

theorem form9 (h : k0_cond9 k = 1#1) : RI c dy wp ws k.val ⊢ WP c (branch9 m4 m5 m6 m7 H7 m8 H8 k h (Scf.iv 0#32 1#32 k) mx) (fun mx' => RO c dy wp ws (k.val + 1) mx') := by
  obtain ⟨hd, h8⟩ := (cond9_iff k).1 h
  have hk := klt k
  obtain ⟨lv, A, hM, hA⟩ := UI_start hU hk h8
  unfold RI RO DM2 LD4 OM2
  rw [WM2_dec k hd, if_pos h8]
  unfold OFree LD56 LD5 LD6
  rw [chunk_div hd]
  iintro ⟨⟨⟨⟨⟨%g, %hg, H4⟩, HT⟩, HS⟩, HF⟩, ⟨⟨%f8, H8⟩, HO⟩, ⟨⟨⟨⟨⟨%g5, %hg5, H5⟩, HT5⟩, HS5⟩, ⟨⟨⟨%g6, %hg6, H6⟩, HT6⟩, HS6⟩⟩, HC⟩, ⟨%f, %hf, H7⟩⟩
  iapply (wend c (wp_branch9 (n := k.val / 64) k f8 h (by rw [← h8]; exact hg) (FI_cur hk hf) hg5 hg6 (fbOf_iv k) hM))
  isplitl [H4 H5 H6 H7 H8]
  · isplitl [H4]; · iexact H4
    isplitl [H5]; · iexact H5
    isplitl [H6]; · iexact H6
    isplitl [H7]; · iexact H7
    iexact H8
  iintro %s' ⟨%hs', H4, H5, H6, H7, H8⟩
  isplitr
  · ipureintro
    refine UI_next hk (fun h1 => ?_) (by rw [h8]; exact hs')
    rw [chunk_mod hd]
    unfold dec at hd
    congr 1; omega
  isplitl [HO H8]
  · iapply (OI_pop h8 hA)
    isplitl [H8]; · iexact H8
    iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [H5 HT5 HS5 H6 HT6 HS6 HC]
  · iapply (WI_next hd)
    isplitr [HC]
    · unfold FR5 FR6
      isplitl [H5 HT5 HS5]
      · isplitl [H5]; · iexists g5; iexact H5
        isplitl [HS5]; · iexact HS5
        iexact HT5
      · isplitl [H6]; · iexists g6; iexact H6
        isplitl [HS6]; · iexact HS6
        iexact HT6
    iexact HC
  iexists _
  isplitr
  · ipureintro; exact FI_next hd hf
  iexact H7

end Step

end Cert.Kernel.P
-- ==== Proof.Step.lean ====
/-  One step of the main loop keeps what holds between steps: the whole step. -/
module

public import proofs.«01_k».proof.Proof.Forms

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Step

variable {c : Dev nD} {dy : S7680x16384.Idx → F .bf16} {wp : S16384x1024.Idx → BitVec 8} {ws : S16384x64.Idx → BitVec 8} (k : Fin k0_t1_loop.trips)

/-- A step whose form has run (`p`), or has not. -/
def PR (c : Dev nD) (dy : S7680x16384.Idx → F .bf16) (wp : S16384x1024.Idx → BitVec 8) (ws : S16384x64.Idx → BitVec 8) (s : ℕ) (p : Prop) [Decidable p] (mx : Mxu F) : sProp 𝕄 :=
  if p then RO c dy wp ws (s + 1) mx else iprop(⌜UI dy wp ws s mx⌝ ∗ RI c dy wp ws s)

theorem PR_step {s : ℕ} {p q : Prop} [Decidable p] [Decidable q] {mx : Mxu F} {X : q → TC F (Mxu F)} (hpq : q → ¬ p)
    (h : ∀ h : q, UI dy wp ws s mx → RI c dy wp ws s ⊢ WP c (X h) (fun mx' => RO c dy wp ws (s + 1) mx')) :
    PR c dy wp ws s p mx ⊢ WP c (if h : q then X h else pure mx) (fun mx' => PR c dy wp ws s (p ∨ q) mx') := by
  by_cases hq : q
  · rw [dif_pos hq]
    unfold PR
    rw [if_neg (hpq hq)]
    simp only [if_pos (Or.inr hq)]
    iintro ⟨%hU, H⟩
    iapply (h hq hU); iexact H
  · rw [dif_neg hq]
    unfold PR
    simp only [or_iff_left hq]
    iintro H
    iapply (le_wp_ret _ _ _ _ _)
    iexact H

theorem PR_done {s : ℕ} {p : Prop} [Decidable p] {mx : Mxu F} (hp : p) : PR c dy wp ws s p mx ⊢ iprop(⌜UI dy wp ws (s + 1) mx⌝ ∗ OI c dy wp ws (s + 1) ∗ DI c dy (s + 1)
    ∗ WI (F := F) c wp ws (s + 1) ∗ (∃ f, ⌜FI wp ws (s + 1) f⌝ ∗ P7 c f)) := by
  unfold PR RO
  rw [if_pos hp]

/-- The same before the rest of the step. -/
theorem PR_ite {s : ℕ} {p q : Prop} [Decidable p] [Decidable q] {mx : Mxu F} {β : Type} {X : q → TC F (Mxu F)} {T : q → TC F β} {K : Mxu F → TC F β} {Q : β → sProp 𝕄}
    (hpq : q → ¬ p) (h : ∀ h : q, UI dy wp ws s mx → RI c dy wp ws s ⊢ WP c (X h) (fun mx' => RO c dy wp ws (s + 1) mx')) (hT : ∀ h, T h = X h >>= K) :
    iprop(PR c dy wp ws s p mx ∗ (∀ mx', PR c dy wp ws s (p ∨ q) mx' -∗ WP c (K mx') Q)) ⊢ WP c (if h : q then T h else (pure mx >>= K)) Q := by
  rw [show (if h : q then T h else (pure mx >>= K)) = (if h : q then X h else pure mx) >>= K by
    split
    · exact hT _
    · rfl]
  exact wseq c (PR_step hpq h)

/-- The second part of a step: the left operand, and the two forms that decode nothing. -/
theorem wp_part189 {mx : Mxu F} {y z w} (hU : UI dy wp ws k.val mx) :
    iprop(DI c dy k.val ∗ OM2 c dy wp ws k.val ∗ WM2 (F := F) c wp ws k.val ∗ (∃ f, ⌜FI wp ws k.val f⌝ ∗ P7 c f) ∗ OW (F := F) c)
    ⊢ WP c (k0_part189 (F := F) a0 HA0 a1 HA1 a2 HA2 a3 HA3 m4 H4 m5 H5 m6 H6 m7 H7 m8 H8 cc0_scratch5 cc0_scratch6 cc0_scratch7 cc0_scratch8 k mx (Scf.iv 0#32 1#32 k) y z w)
      (fun x => iprop(PR c dy wp ws k.val (k0_cond6 k = 1#1 ∨ k0_cond7 k = 1#1) x.1 ∗ OW (F := F) c)) := by
  rw [k0_part189_eq_skeleton]
  unfold k0_part189_skel
  dsimp only
  iintro ⟨HD, HO, HC, H7, HW⟩
  iapply (wseq c (x_waitK k))
  isplitl [HD HW]
  · isplitl [HD]; · iexact HD
    iexact HW
  iintro %_ ⟨HD, HW⟩
  iapply (wif1 (R := DM1 c dy k.val) (M := DM2 c dy k.val) (fun h => c5_start k h) (fun h => c5_skip k h))
  isplitl [HD]; · iexact HD
  iintro HD
  iapply (PR_ite (c := c) (dy := dy) (wp := wp) (ws := ws) (s := k.val) (p := False) (q := k0_cond6 k = 1#1) (mx := mx) (fun _ h => h) (fun h hU' => form6 k hU' h) (fun h => by
    rw [← branch6_eq a0 HA0 a1 HA1 a2 HA2 a3 HA3 m4 H4 m5 H5 m6 H6 m7 H7 m8 H8 cc0_scratch5 cc0_scratch6 cc0_scratch7 cc0_scratch8 k h (Scf.iv 0#32 1#32 k) mx]
    simp only [bind_assoc, pure_bind]))
  isplitl [HD HO HC H7]
  · unfold PR RI
    rw [if_neg not_false]
    isplitr; · ipureintro; exact hU
    isplitl [HD]; · iexact HD
    isplitl [HO]; · iexact HO
    isplitl [HC]; · iexact HC
    iexact H7
  iintro %mx6 H
  iapply (PR_ite (c := c) (dy := dy) (wp := wp) (ws := ws) (s := k.val) (p := False ∨ k0_cond6 k = 1#1) (q := k0_cond7 k = 1#1) (mx := mx6)
    (fun h7 h6 => by rcases h6 with h6 | h6
                     · exact h6
                     · exact ((cond6_iff k).1 h6).2 ((cond7_iff k).1 h7).2) (fun h hU' => form7 k hU' h) (fun h => by
    rw [← branch7_eq a0 HA0 a1 HA1 a2 HA2 a3 HA3 m4 H4 m5 H5 m6 H6 m7 H7 m8 H8 cc0_scratch5 cc0_scratch6 cc0_scratch7 cc0_scratch8 k h (Scf.iv 0#32 1#32 k) mx6]
    simp only [bind_assoc, pure_bind]))
  isplitl [H]; · iexact H
  iintro %mx7 H
  iapply (le_wp_ret _ _ _ _ _)
  isplitl [H]
  · simp only [false_or]; iexact H
  iexact HW

/-- A step. -/
theorem wp_step {mx mx0 : Mxu F} {v x} :
    LI c dy wp ws k.val mx ⊢ WP c (k0_t1_body (F := F) a0 HA0 a1 HA1 a2 HA2 a3 HA3 m4 H4 m5 H5 m6 H6 m7 H7 m8 H8 cc0_scratch5 cc0_scratch6 cc0_scratch7 cc0_scratch8 mx0 v x k mx)
      (fun mx' => LI c dy wp ws (k.val + 1) mx') := by
  unfold k0_t1_body LI
  dsimp only
  iintro ⟨%hU, HO, HD, HC, H7, HW⟩
  iapply (wseq c (wp_part188 k))
  isplitl [HO HC HW]
  · isplitl [HO]; · iexact HO
    isplitl [HC]; · iexact HC
    iexact HW
  iintro %r ⟨%hr, HO, HC, HW⟩
  obtain ⟨y, z, w, rfl⟩ := hr
  dsimp only
  iapply (wseq c (wp_part189 k hU))
  isplitl [HO HC HD H7 HW]
  · isplitl [HD]; · iexact HD
    isplitl [HO]; · iexact HO
    isplitl [HC]; · iexact HC
    isplitl [H7]; · iexact H7
    iexact HW
  iintro %r ⟨H, HW⟩
  obtain ⟨mx7, y', z'⟩ := r
  dsimp only
  iapply (PR_ite (c := c) (dy := dy) (wp := wp) (ws := ws) (s := k.val) (p := k0_cond6 k = 1#1 ∨ k0_cond7 k = 1#1) (q := k0_cond8 k = 1#1) (mx := mx7)
    (fun h8 h => by rcases h with h | h
                    · exact ((cond6_iff k).1 h).1 ((cond8_iff k).1 h8).1
                    · exact ((cond7_iff k).1 h).1 ((cond8_iff k).1 h8).1) (fun h hU' => form8 k hU' h) (fun h => by
    rw [← branch8_eq a0 HA0 a1 HA1 a2 HA2 a3 HA3 m4 H4 m5 H5 m6 H6 m7 H7 m8 H8 cc0_scratch5 cc0_scratch6 cc0_scratch7 cc0_scratch8 k h (Scf.iv 0#32 1#32 k) mx7]
    simp only [bind_assoc, pure_bind]))
  isplitl [H]; · iexact H
  iintro %mx8 H
  iapply (PR_ite (c := c) (dy := dy) (wp := wp) (ws := ws) (s := k.val) (p := (k0_cond6 k = 1#1 ∨ k0_cond7 k = 1#1) ∨ k0_cond8 k = 1#1) (q := k0_cond9 k = 1#1) (mx := mx8)
    (fun h9 h => by rcases h with (h | h) | h
                    · exact ((cond6_iff k).1 h).1 ((cond9_iff k).1 h9).1
                    · exact ((cond7_iff k).1 h).1 ((cond9_iff k).1 h9).1
                    · exact ((cond8_iff k).1 h).2 ((cond9_iff k).1 h9).2) (fun h hU' => form9 k hU' h) (fun h => by
    rw [← branch9_eq a0 HA0 a1 HA1 a2 HA2 a3 HA3 m4 H4 m5 H5 m6 H6 m7 H7 m8 H8 cc0_scratch5 cc0_scratch6 cc0_scratch7 cc0_scratch8 k h (Scf.iv 0#32 1#32 k) mx8]
    simp only [bind_assoc, pure_bind]))
  isplitl [H]; · iexact H
  iintro %mx9 H
  iapply (le_wp_ret _ _ _ _ _)
  have hall : ((k0_cond6 k = 1#1 ∨ k0_cond7 k = 1#1) ∨ k0_cond8 k = 1#1) ∨ k0_cond9 k = 1#1 := by
    rw [cond6_iff, cond7_iff, cond8_iff, cond9_iff]; tauto
  ihave H := (PR_done hall) $$ H
  icases H with ⟨%hU, HO, HD, HC, H7⟩
  isplitr; · ipureintro; exact hU
  isplitl [HO]; · iexact HO
  isplitl [HD]; · iexact HD
  isplitl [HC]; · iexact HC
  isplitl [H7]; · iexact H7
  iexact HW

end Step

end Cert.Kernel.P
-- ==== Proof.Main.lean ====
/-  The whole kernel in a compact form: the prologue's decode as eight decodes of a tile. -/
module
public import proofs.«01_k».proof.Proof.Prog
@[expose] public section
set_option maxRecDepth 65536
noncomputable section
namespace Cert.Kernel.P
open Idealize.ShloMosaic Idealize.SL.Sem Cert.Kernel.Gen
variable {F : FTy → Type} [FloatOps F]

/-- The first scale block of the first chunk. -/
def fb0 : BitVec 32 := Scalar.muli (Scalar.divsi 0#32 8#32) 16#32
/-- A tile decoded from loaded codes and scales. -/
def decV (c : Vec F S1x256x256 .i8) (sc : Vec F S1x256x64 .i8) (fb : BitVec 32) : FVec F S256x512 .bf16 :=
  decTile (shapeCast S256x256 c shapeCasts_S1x256x256_S256x256) (shapeCast S256x64 sc shapeCasts_S1x256x64_S256x64) fb

/-- The kernel, its first decodes in compact form. -/
def mainC (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) : TC F PUnit := do
  let ⟨k0_mxu1, v26, v27⟩ : Σ' (k0_mxu1 : Mxu F) (v26 : BitVec 32), BitVec 32 ← k0_part190 arg0 harg0 arg1 harg1 arg2 harg2 arg3 harg3 arg4 harg4 arg5 harg5 arg6 harg6 arg7 harg7 arg8 harg8 arg9 arg10 arg11 arg12
  k0_part191 arg0 harg0 arg1 harg1 arg2 harg2 arg3 harg3 arg4 harg4 arg5 harg5 arg6 harg6 arg7 harg7 arg8 harg8 arg9 arg10 arg11 arg12 v26 v27
  let v57_r0 : DmaSems sig S1 := arg10.slice (Rect.unit (s := S2) (k0_off1 0#32) S1.size (k0_off1_inb 0))
  let v58_r0 : DmaSems sig S_ := v57_r0.squeeze S_ squeezes_S1_S_
  let v59_r0 : Memref sig .tc .vmem S1x2048x256 .i8 := arg5.slice (Rect.unit (s := S2x2048x256) (k0_off2 0#32) S1x2048x256.size (k0_off2_inb 0)) (fun _ => rfl)
  let v60_r0 : Memref sig .tc .vmem S2048x256 .i8 := v59_r0.squeeze S2048x256 squeezes_S1x2048x256_S2048x256
  let v61_r0 : Memref sig .tc .hbm S2048x256 .i8 := arg1.slice (Rect.unit (s := S16384x1024) (k0_off3 0#32 0#32) S2048x256.size (k0_off3_inb 0)) (fun _ => rfl)
  Prog.lift (.waitDma2 v58_r0.sem v61_r0 v60_r0 (harg1.wordExact_slice rfl _ (k0_off3_wordsi8 0)) ((harg5.wordExact_slice rfl _ (k0_off2_wordsi8 0)).reshape _ _))
  let v62_r0 : DmaSems sig S1 := arg11.slice (Rect.unit (s := S2) (k0_off1 0#32) S1.size (k0_off1_inb 0))
  let v63_r0 : DmaSems sig S_ := v62_r0.squeeze S_ squeezes_S1_S_
  let v64_r0 : Memref sig .tc .vmem S1x2048x64 .i8 := arg6.slice (Rect.unit (s := S2x2048x64) (k0_off4 0#32) S1x2048x64.size (k0_off4_inb 0)) (fun _ => rfl)
  let v65_r0 : Memref sig .tc .vmem S2048x64 .i8 := v64_r0.squeeze S2048x64 squeezes_S1x2048x64_S2048x64
  let v66_r0 : Memref sig .tc .hbm S2048x64 .i8 := arg2.slice (Rect.unit (s := S16384x64) (k0_off5 0#32) S2048x64.size (k0_off5_inb 0)) (fun _ => rfl)
  Prog.lift (.waitDma2 v63_r0.sem v66_r0 v65_r0 (harg2.wordExact_slice rfl _ (k0_off5_wordsi8 0)) ((harg6.wordExact_slice rfl _ (k0_off4_wordsi8 0)).reshape _ _))
  decP arg5 arg6 arg7 harg7 k0_off9 k0_off9_inb k0_off10 k0_off10_inb (k0_off11 0#32) (k0_off11_inb 0) (k0_off11_packedbf16 0) fb0
  decP arg5 arg6 arg7 harg7 k0_off12 k0_off12_inb k0_off13 k0_off13_inb (k0_off11 1#32) (k0_off11_inb 1) (k0_off11_packedbf16 1) fb0
  decP arg5 arg6 arg7 harg7 k0_off14 k0_off14_inb k0_off15 k0_off15_inb (k0_off11 2#32) (k0_off11_inb 2) (k0_off11_packedbf16 2) fb0
  decP arg5 arg6 arg7 harg7 k0_off16 k0_off16_inb k0_off17 k0_off17_inb (k0_off11 3#32) (k0_off11_inb 3) (k0_off11_packedbf16 3) fb0
  decP arg5 arg6 arg7 harg7 k0_off18 k0_off18_inb k0_off19 k0_off19_inb (k0_off11 4#32) (k0_off11_inb 4) (k0_off11_packedbf16 4) fb0
  decP arg5 arg6 arg7 harg7 k0_off20 k0_off20_inb k0_off21 k0_off21_inb (k0_off11 5#32) (k0_off11_inb 5) (k0_off11_packedbf16 5) fb0
  decP arg5 arg6 arg7 harg7 k0_off22 k0_off22_inb k0_off23 k0_off23_inb (k0_off11 6#32) (k0_off11_inb 6) (k0_off11_packedbf16 6) fb0
  let c : Vec F S1x256x256 .i8 ← Prog.lift (.load arg5 (Rect.unit (s := S2x2048x256) k0_off24 S1x256x256.size k0_off24_inb).toLoadRect (View.loadsAt_vmem h_S1x256x256))
  let sc : Vec F S1x256x64 .i8 ← Prog.lift (.load arg6 (Rect.unit (s := S2x2048x64) k0_off25 S1x256x64.size k0_off25_inb).toLoadRect (View.loadsAt_vmem h_S1x256x64))
  let ⟨v3615_r0, k0_mxu348⟩ : Σ' (v3615_r0 : FVec F S240x256 .f32), Mxu F ← k0_part270 arg0 harg0 arg1 harg1 arg2 harg2 arg3 harg3 arg4 harg4 arg5 harg5 arg6 harg6 arg7 harg7 arg8 harg8 arg9 arg10 arg11 arg12 k0_mxu1 (decV c sc fb0) (Scalar.muli (Scalar.remsi 0#32 8#32) 8#32)
  let k0_mxu356 : Mxu F ← k0_part271 arg0 harg0 arg1 harg1 arg2 harg2 arg3 harg3 arg4 harg4 arg5 harg5 arg6 harg6 arg7 harg7 arg8 harg8 arg9 arg10 arg11 arg12 v3615_r0 k0_mxu348
  have v3648_r0 : FVec F S240x256 .f32 := k0_mxu356.read 1 0 fits_0_240
  have k0_mxu357 : Mxu F := k0_mxu356.pop 1 0 240 fits_0_240
  let v3653_r0 : Memref sig .tc .hbm S960x512 .bf16 := arg3.slice (Rect.unit (s := S7680x2048) (k0_off214 31#32 31#32) S960x512.size (k0_off214_inb 1)) (fun _ => rfl)
  Prog.lift (.enqueueDma arg8 (.here v3653_r0) (.dma arg12.sem) harg8.wordExact (harg3.wordExact_slice rfl _ (k0_off214_wordsbf16 1)) ⟨Or.inl rfl, trivial⟩)
  let v3658_r0 : Memref sig .tc .hbm S960x512 .bf16 := arg3.slice (Rect.unit (s := S7680x2048) (k0_off214 31#32 31#32) S960x512.size (k0_off214_inb 1)) (fun _ => rfl)
  Prog.lift (.waitDma2 arg12.sem arg8 v3658_r0 harg8.wordExact (harg3.wordExact_slice rfl _ (k0_off214_wordsbf16 1)))
  k0_mxu357.exit
  pure ⟨⟩

set_option maxHeartbeats 20000000
/-- The printed kernel is the compact one. -/
theorem main_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) : cc0_mxfp4_input_grad (F := F) arg0 harg0 arg1 harg1 arg2 harg2 arg3 harg3 arg4 harg4 arg5 harg5 arg6 harg6 arg7 harg7 arg8 harg8 arg9 arg10 arg11 arg12 = mainC arg0 harg0 arg1 harg1 arg2 harg2 arg3 harg3 arg4 harg4 arg5 harg5 arg6 harg6 arg7 harg7 arg8 harg8 arg9 arg10 arg11 arg12 := rfl

end Cert.Kernel.P
-- ==== Proof.Whole.lean ====
/-  The kernel as a whole: its prologue, the loop, and what remains after it. -/
module

public import proofs.«01_k».proof.Proof.Step
public import proofs.«01_k».proof.Proof.Main

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Whole

variable {c : Dev nD} {dy : S7680x16384.Idx → F .bf16} {wp : S16384x1024.Idx → BitVec 8} {ws : S16384x64.Idx → BitVec 8}

/-! ## Single loads and stores -/

theorem wp_ld5 {j : Fin 2} {p : Fin 8} {o h w} (ho : o = ![j.val, 256 * p.val, 0]) (g : B5) :
    P5 (F := F) c j g ⊢ WP c (Prog.lift (.load m5 (Rect.unit (s := S2x2048x256) o S1x256x256.size h).toLoadRect w))
      (fun x => iprop(⌜shapeCast S256x256 x shapeCasts_S1x256x256_S256x256 = cBlk g j p⌝ ∗ P5 (F := F) c j g)) := by
  subst ho
  unfold WP
  rw [← bind_pure (Prog.lift _), Prog.bind_lift]
  iintro H5
  iapply (wp_load_rect 𝒱₀ (c : Thread nD τ) none Set.univ (m := m5) (r := Rect.unit (s := S2x2048x256) ![j.val, 256 * p.val, 0] S1x256x256.size h) (S := S5 j) (f := g) (q := fullShare) ?_) $$ H5
  · intro y hy
    have hy' := (Finset.ext_iff.1 (View.set_slice_whole cc0_scratch1 (Rect.unit (s := S2x2048x256) ![j.val, 256 * p.val, 0] S1x256x256.size h)) y).1 hy
    have := Rect.mem_set_unit.1 hy' 0
    simp only [S5, Finset.mem_filter, Finset.mem_univ, true_and]
    have h1 : j.val ≤ (y 0).val ∧ (y 0).val < j.val + 1 := this
    omega
  iintro H5
  iapply (le_wp_ret _ _ _ _ _)
  isplitr
  · ipureintro
    funext x
    refine (shapeCast_dropUnit_apply ![256, 256] _ _ x).trans ?_
    unfold cBlk
    show g _ = g _
    congr 1
    funext a; apply Fin.ext
    fin_cases a
    · show j.val + 1 * 0 = j.val; omega
    · show 256 * p.val + 1 * (x 0).val = 256 * p.val + (x 0).val; omega
    · show 0 + 1 * (x 1).val = (x 1).val; omega
  · iexact H5

theorem wp_ld6 {j : Fin 2} {p : Fin 8} {o h w} (ho : o = ![j.val, 256 * p.val, 0]) (g : B6) :
    P6 (F := F) c j g ⊢ WP c (Prog.lift (.load m6 (Rect.unit (s := S2x2048x64) o S1x256x64.size h).toLoadRect w))
      (fun x => iprop(⌜shapeCast S256x64 x shapeCasts_S1x256x64_S256x64 = sBlk g j p⌝ ∗ P6 (F := F) c j g)) := by
  subst ho
  unfold WP
  rw [← bind_pure (Prog.lift _), Prog.bind_lift]
  iintro H5
  iapply (wp_load_rect 𝒱₀ (c : Thread nD τ) none Set.univ (m := m6) (r := Rect.unit (s := S2x2048x64) ![j.val, 256 * p.val, 0] S1x256x64.size h) (S := S6 j) (f := g) (q := fullShare) ?_) $$ H5
  · intro y hy
    have hy' := (Finset.ext_iff.1 (View.set_slice_whole cc0_scratch2 (Rect.unit (s := S2x2048x64) ![j.val, 256 * p.val, 0] S1x256x64.size h)) y).1 hy
    have := Rect.mem_set_unit.1 hy' 0
    simp only [S6, Finset.mem_filter, Finset.mem_univ, true_and]
    have h1 : j.val ≤ (y 0).val ∧ (y 0).val < j.val + 1 := this
    omega
  iintro H5
  iapply (le_wp_ret _ _ _ _ _)
  isplitr
  · ipureintro
    funext x
    refine (shapeCast_dropUnit_apply ![256, 64] _ _ x).trans ?_
    unfold sBlk
    show g _ = g _
    congr 1
    funext a; apply Fin.ext
    fin_cases a
    · show j.val + 1 * 0 = j.val; omega
    · show 256 * p.val + 1 * (x 0).val = 256 * p.val + (x 0).val; omega
    · show 0 + 1 * (x 1).val = (x 1).val; omega
  · iexact H5

theorem wp_ld7 {o h w} (f : B7 F) :
    P7 c f ⊢ WP c (Prog.lift (.load m7 (Rect.unit (s := S64x256x512) o S1x256x512.size h).toLoadRect w)) (fun _ => P7 c f) := by
  unfold WP
  rw [← bind_pure (Prog.lift _), Prog.bind_lift]
  iintro H
  iapply (wp_load_rect 𝒱₀ (c : Thread nD τ) none Set.univ (m := m7) (r := Rect.unit (s := S64x256x512) o S1x256x512.size h)
    (S := Finset.univ) (f := f) (q := fullShare) (Finset.subset_univ _)) $$ H
  iintro H
  iapply (le_wp_ret _ _ _ _ _)
  iexact H

theorem wp_st7 {t : Fin 64} {o h x w1 w2} {v : FVec F S256x512 .bf16} (ho : o = ![t.val, 0, 0]) (hx : x = shapeCast S1x256x512 v shapeCasts_S256x512_S1x256x512) (f : B7 F) :
    P7 c f ⊢ WP c (Prog.lift (.store m7 (Rect.unit (s := S64x256x512) o S1x256x512.size h) x Finset.univ w1 w2)) (fun _ => P7 c (putTile f t v)) := by
  subst ho hx
  unfold WP
  rw [← bind_pure (Prog.lift _), Prog.bind_lift]
  iintro H
  iapply (wp_store 𝒱₀ (c : Thread nD τ) none Set.univ (m := m7) (r := Rect.unit (s := S64x256x512) ![t.val, 0, 0] S1x256x512.size h)
    (S := Finset.univ) (f := f) (Finset.subset_univ _)) $$ H
  iintro H
  iapply (le_wp_ret _ _ _ _ _)
  rw [← write7 t h f]
  iexact H

theorem wp_ld8 {o h w} (f : B8 F) :
    P8 c f ⊢ WP c (Prog.lift (.load m8 (Rect.unit (s := S960x512) o S240x256.size h).toLoadRect w)) (fun _ => P8 c f) := by
  unfold WP
  rw [← bind_pure (Prog.lift _), Prog.bind_lift]
  iintro H
  iapply (wp_load_rect 𝒱₀ (c : Thread nD τ) none Set.univ (m := m8) (r := Rect.unit (s := S960x512) o S240x256.size h)
    (S := Finset.univ) (f := f) (q := fullShare) (Finset.subset_univ _)) $$ H
  iintro H
  iapply (le_wp_ret _ _ _ _ _)
  iexact H

theorem wp_st8 (i : Fin 4) (q : Fin 2) {o h x w1 w2} {v : AV F} (ho : o = ![240 * i.val, 256 * q.val])
    (hx : x = shapeCast S240x256 (truncf .bf16 v bitsLt_bf16_f32 : FVec F S240x256 .bf16) shapeCasts_S240x256_S240x256) (f : B8 F) :
    P8 c f ⊢ WP c (Prog.lift (.store m8 (Rect.unit (s := S960x512) o S240x256.size h) x Finset.univ w1 w2)) (fun _ => P8 c (putBlk f i q v)) := by
  subst ho hx
  unfold WP
  rw [← bind_pure (Prog.lift _), Prog.bind_lift]
  iintro H
  iapply (wp_store 𝒱₀ (c : Thread nD τ) none Set.univ (m := m8) (r := Rect.unit (s := S960x512) ![240 * i.val, 256 * q.val] S240x256.size h)
    (S := Finset.univ) (f := f) (Finset.subset_univ _)) $$ H
  iintro H
  iapply (le_wp_ret _ _ _ _ _)
  rw [← write8 i q h f]
  iexact H

/-! ## The prologue's fetches -/

theorem wp_part190 :
    iprop(FR5 (F := F) c wp 0 ∗ FR6 (F := F) c ws 0 ∗ FR4 c dy 0)
    ⊢ WP c (k0_part190 (F := F) a0 HA0 a1 HA1 a2 HA2 a3 HA3 m4 H4 m5 H5 m6 H6 m7 H7 m8 H8 cc0_scratch5 cc0_scratch6 cc0_scratch7 cc0_scratch8)
      (fun x => iprop(⌜x.1 = Mxu.init⌝ ∗ FL5 (F := F) c wp 0 0 0 ∗ FL6 (F := F) c ws 0 0 ∗ FL4 c dy 0 0 0)) := by
  rw [k0_part190_eq_skeleton]
  unfold k0_part190_skel
  dsimp only
  iintro ⟨HA, HB, HC⟩
  iapply (wseq c (c_start (j := 0) (n := 0) (ch := 0) (k0_off1_eq 0) (k0_off2_eq 0) (off3_eq 0)))
  isplitl [HA]; · iexact HA
  iintro %_ HA
  iapply (wseq c (s_start (j := 0) (ch := 0) (k0_off1_eq 0) (k0_off4_eq 0) (k0_off5_eq 0)))
  isplitl [HB]; · iexact HB
  iintro %_ HB
  iapply (wseq c (x_start (j := 0) (m := 0) (ch := 0) (k0_off6_eq 0) (k0_off7_eq 0) (off8_eq 0)))
  isplitl [HC]; · iexact HC
  iintro %_ HC
  iapply (le_wp_ret _ _ _ _ _)
  isplitr; · ipureintro; rfl
  isplitl [HA]; · iexact HA
  isplitl [HB]; · iexact HB
  iexact HC

theorem wp_part191 {v w} :
    iprop(FR5 (F := F) c wp 1 ∗ FR6 (F := F) c ws 1 ∗ FR4 c dy 1)
    ⊢ WP c (k0_part191 (F := F) a0 HA0 a1 HA1 a2 HA2 a3 HA3 m4 H4 m5 H5 m6 H6 m7 H7 m8 H8 cc0_scratch5 cc0_scratch6 cc0_scratch7 cc0_scratch8 v w)
      (fun _ => iprop(FL5 (F := F) c wp 1 0 1 ∗ FL6 (F := F) c ws 1 1 ∗ FL4 c dy 1 0 1)) := by
  rw [k0_part191_eq_skeleton]
  unfold k0_part191_skel
  dsimp only
  iintro ⟨HA, HB, HC⟩
  iapply (wseq c (c_start (j := 1) (n := 0) (ch := 1) (k0_off1_eq 1) (k0_off2_eq 1) (off3_eq 1)))
  isplitl [HA]; · iexact HA
  iintro %_ HA
  iapply (wseq c (s_start (j := 1) (ch := 1) (k0_off1_eq 1) (k0_off4_eq 1) (k0_off5_eq 1)))
  isplitl [HB]; · iexact HB
  iintro %_ HB
  iapply (wseq c (x_start (j := 1) (m := 0) (ch := 1) (k0_off6_eq 1) (k0_off7_eq 1) (off8_eq 1)))
  isplitl [HC]; · iexact HC
  iintro %_ HC
  iapply (le_wp_ret _ _ _ _ _)
  isplitl [HA]; · iexact HA
  isplitl [HB]; · iexact HB
  iexact HC

theorem wp_ld7h {t : Fin 64} {q : Fin 2} {o h w} (ho : o = ![t.val, 0, 256 * q.val]) (f : B7 F) :
    P7 c f ⊢ WP c (Prog.lift (.load m7 (Rect.unit (s := S64x256x512) o S1x256x256.size h).toLoadRect w))
      (fun x => iprop(⌜shapeCast S256x256 x shapeCasts_S1x256x256_S256x256 = halfOf (tileOf f t) q⌝ ∗ P7 c f)) := by
  subst ho
  unfold WP
  rw [← bind_pure (Prog.lift _), Prog.bind_lift]
  iintro H
  iapply (wp_load_rect 𝒱₀ (c : Thread nD τ) none Set.univ (m := m7) (r := Rect.unit (s := S64x256x512) ![t.val, 0, 256 * q.val] S1x256x256.size h) (S := Finset.univ) (f := f) (q := fullShare) (Finset.subset_univ _)) $$ H
  iintro H
  iapply (le_wp_ret _ _ _ _ _)
  isplitr
  · ipureintro
    funext x
    refine (shapeCast_dropUnit_apply ![256, 256] _ _ x).trans ?_
    show f _ = f _
    congr 1
    funext a
    apply Fin.ext
    fin_cases a
    · show t.val + 1 * 0 = t.val; omega
    · show 0 + 1 * (x 0).val = (x 0).val; omega
    · show 256 * q.val + 1 * (x 1).val = 256 * q.val + (x 1).val; omega
  · iexact H

/-! ## The loop, with what stands before and after it -/

/-- The zero strip. -/
abbrev z0 : AV F := constant _ .f32 0
/-- What the units hold once three strips of the last tile are popped. -/
def U3 (dy : S7680x16384.Idx → F .bf16) (wp : S16384x1024.Idx → BitVec 8) (ws : S16384x64.Idx → BitVec 8) (A : Fin 2 → Fin 4 → AV F) (v : AV F) (s : Mxu F) : Prop :=
  ∃ w lv, outOf A = outV dy wp ws 31 ∧ v = A 0 1
    ∧ MG s (regs 0 (halfOf w)) (up2 (up2 (up2 lv 0 0 false) 1 0 false) 0 1 false) (up2 (up2 (up2 A 0 0 z0) 1 0 z0) 0 1 z0)

/-- The whole loop. -/
theorem wp_loop {mx mx0 : Mxu F} {v x} :
    LI c dy wp ws 0 mx ⊢ WP c (Scf.Loop.for k0_t1_loop k0_t1_ok mx (k0_t1_body (F := F) a0 HA0 a1 HA1 a2 HA2 a3 HA3 m4 H4 m5 H5 m6 H6 m7 H7 m8 H8 cc0_scratch5 cc0_scratch6 cc0_scratch7 cc0_scratch8 mx0 v x))
      (fun mx' => LI c dy wp ws 256 mx') := by
  iintro H
  iapply (Scf.wp_for _ _ _ _ _ _ k0_t1_ok mx _ (fun s mx => LI c dy wp ws s mx) (fun k acc => wp_step k))
  isplitl [H]; · iexact H
  iintro %acc H
  rw [← trips_eq]
  iexact H

theorem OI_end : OI c dy wp ws 256 = iprop(FLO c 30 (outV dy wp ws 30) ∗ DN c dy wp ws 30 ∗ RM (F := F) c 31) := by
  unfold OI OFly
  rw [if_pos (by decide), if_pos (by decide)]
theorem DI_end : DI c dy 256 ⊢ iprop(FR4 c dy 0 ∗ FR4 c dy 1 ∗ FR4 c dy 2) := by
  unfold DI FLX
  rw [if_neg (by decide), if_neg (by decide), show slot3 256 = 1 by decide, show slot3 (256 + 1) = 2 by decide, show slot3 (256 + 2) = 0 by decide]
  iintro ⟨HA, HB, HC⟩
  isplitl [HC]; · iexact HC
  isplitl [HA]; · iexact HA
  iexact HB
theorem WI_end : WI (F := F) c wp ws 256 = iprop(FR56 (F := F) c wp ws 0 ∗ FR56 (F := F) c wp ws 1) := by
  unfold WI FLW
  rw [show nxt 256 = 32 by decide, if_neg (by decide), show slot2 32 = 0 by decide, show slot2 (32 + 1) = 1 by decide]
theorem OI_begin : OI c dy wp ws 0 = OFree c dy wp ws 0 := by
  unfold OI
  rw [if_pos (by decide), if_neg (by decide)]
theorem DI_begin : DI c dy 0 = iprop(FL4 c dy 0 0 0 ∗ FL4 c dy 1 0 1 ∗ FR4 c dy 2) := by
  unfold DI FLX
  rw [if_pos (by decide), if_pos (by decide)]
  rfl
theorem WI_begin : WI (F := F) c wp ws 0 = iprop((FL5 (F := F) c wp 1 0 1 ∗ FL6 (F := F) c ws 1 1) ∗ FR56 (F := F) c wp ws 0) := by
  unfold WI FLW
  rw [show nxt 0 = 1 by decide, if_pos (by decide)]
  rfl

/-- The units once the first tile is staged. -/
theorem UI_begin {w : FVec F S256x512 .bf16} (hw : w = wOf wp ws 0 0) (y0 y1 : WV F) (h0 : y0 = halfOf w 0) (h1 : y1 = halfOf w 1) :
    UI dy wp ws 0 (((Mxu.init : Mxu F).pushed 0 0 false y0).pushed 1 0 false y1) := by
  subst h0 h1
  refine ⟨w, _, _, ((MG.init.pushed 0 0 rfl (halfOf w 0)).pushed 1 0 rfl (halfOf w 1)).congr ?_ (fun _ _ => rfl) (fun _ _ => rfl), fun _ => hw, fun h => absurd rfl h, fun _ h => absurd h (by decide)⟩
  intro q r
  fin_cases q <;> fin_cases r <;> rfl

theorem UI_end {mx : Mxu F} (h : UI dy wp ws 256 mx) : ∃ w lv A, MG mx (regs 0 (halfOf w)) lv A ∧ outOf A = outV dy wp ws 31 := by
  obtain ⟨w, lv, A, hM, -, -, hA⟩ := h
  refine ⟨w, lv, A, hM, ?_⟩
  rw [hA rfl (by decide)]; rfl

set_option maxHeartbeats 2000000 in
theorem wp_part270 {v3588 : FVec F S256x512 .bf16} {v3589} {f : B7 F} (hv : v3588 = wOf wp ws 0 7) :
    iprop(P7 c (fdec wp ws 0 0 f 7) ∗ OI c dy wp ws 0 ∗ DI c dy 0 ∗ WI (F := F) c wp ws 0 ∗ OW (F := F) c)
    ⊢ WP c (k0_part270 (F := F) a0 HA0 a1 HA1 a2 HA2 a3 HA3 m4 H4 m5 H5 m6 H6 m7 H7 m8 H8 cc0_scratch5 cc0_scratch6 cc0_scratch7 cc0_scratch8 Mxu.init v3588 v3589)
      (fun x => iprop(∃ A f8, ⌜U3 dy wp ws A x.1 x.2⌝ ∗ P8 c (put2 f8 0 A) ∗ semP c sem12 ∗ DN c dy wp ws 31 ∗ RM (F := F) c 31
        ∗ DI c dy 256 ∗ WI (F := F) c wp ws 256 ∗ (∃ f, P7 (F := F) c f) ∗ OW (F := F) c)) := by
  have e7 : putTile (fdec wp ws 0 0 f 7) 7 v3588 = fdec wp ws 0 0 f 8 := by
    rw [hv]; exact fdec_succ wp ws 0 0 f 7 (by decide) 7 rfl
  have hf : FI wp ws 0 (fdec wp ws 0 0 f 8) := by
    intro _ t ht
    rw [tileOf_fdec, if_pos (by have := t.isLt; omega)]
  have h0 : tileOf (fdec wp ws 0 0 f 8) 0 = wOf wp ws 0 0 := hf (by decide) 0 (by decide)
  rw [k0_part270_eq_skeleton]
  unfold k0_part270_skel
  dsimp only
  iintro ⟨H7, HO, HD, HC, HW⟩
  iapply (wseq c (wp_ld7 (fdec wp ws 0 0 f 7)))
  isplitl [H7]; · iexact H7
  iintro %_ H7
  iapply (wseq c (wp_st7 (t := 7) (v := v3588) (k0_off11_eq 7) rfl (fdec wp ws 0 0 f 7)))
  isplitl [H7]; · iexact H7
  iintro %_ H7
  rw [e7]
  iapply (wseq c (wp_ld7h (t := 0) (q := 0) rfl (fdec wp ws 0 0 f 8)))
  isplitl [H7]; · iexact H7
  iintro %x0 ⟨%hx0, H7⟩
  have pr0 : (Mxu.init : Mxu F).PushOk 0 0 false := Mxu.pushOk_of_none _ _ _ _ (MG.init.reg 0 0)
  iapply (Mxu.wp_pushRhs (k0_pay950 x0) pr0)
  iapply (wseq c (wp_ld7h (t := 0) (q := 1) rfl (fdec wp ws 0 0 f 8)))
  isplitl [H7]; · iexact H7
  iintro %x1 ⟨%hx1, H7⟩
  have pr1 : ((Mxu.init : Mxu F).pushed 0 0 false (k0_pay950 x0)).PushOk 1 0 false := Mxu.pushOk_of_none _ _ _ _ ((MG.init.pushed 0 0 rfl (k0_pay950 x0)).reg 1 0)
  iapply (Mxu.wp_pushRhs (k0_pay951 x1) pr1)
  iapply (wseq c (wp_loop (dy := dy) (wp := wp) (ws := ws)))
  isplitl [H7 HO HD HC HW]
  · unfold LI
    isplitr; · ipureintro; exact UI_begin h0 _ _ hx0 hx1
    isplitl [HO]; · iexact HO
    isplitl [HD]; · iexact HD
    isplitl [HC]; · iexact HC
    isplitl [H7]
    · iexists _
      isplitr; · ipureintro; exact hf
      iexact H7
    iexact HW
  iintro %mx HL
  unfold LI
  icases HL with ⟨%hU, HO, HD, HC, ⟨%f7, -, H7⟩, HW⟩
  obtain ⟨w, lv, A, hM, hA⟩ := UI_end hU
  ihave HO := (Entails.of_eq OI_end) $$ HO
  icases HO with ⟨HF, HDN, HR⟩
  iapply (wseq c o_wait)
  isplitl [HF HW]
  · isplitl [HF]; · iexact HF
    iexact HW
  iintro %_ ⟨⟨HOV, H8⟩, HS, HW⟩
  ihave HDN := (DN_put (c := c) (dy := dy) (wp := wp) (ws := ws) (d := 30)) $$ [HDN HOV]
  · isplitl [HDN]; · iexact HDN
    iexact HOV
  have M1 := hM.pop 0 0
  have M2 := M1.pop 1 0
  have M3 := M2.pop 0 1
  have r0 : mx.read 0 0 fits_0_240 = A 0 0 := hM.rd 0 0
  have r1 : (mx.pop 0 0 240 fits_0_240).read 1 0 fits_0_240 = A 1 0 := (M1.rd 1 0).trans (by simp [up2])
  have r2 : ((mx.pop 0 0 240 fits_0_240).pop 1 0 240 fits_0_240).read 0 60 fits_60_240 = A 0 1 := (M2.rd 0 1).trans (by simp [up2])
  iapply (wseq c (wp_ld8 _))
  isplitl [H8]; · iexact H8
  iintro %_ H8
  iapply (wseq c (wp_st8 0 0 (v := A 0 0) rfl (by rw [r0]; rfl) _))
  isplitl [H8]; · iexact H8
  iintro %_ H8
  iapply (wseq c (wp_ld8 _))
  isplitl [H8]; · iexact H8
  iintro %_ H8
  iapply (wseq c (wp_st8 0 1 (v := A 1 0) rfl (by rw [r1]; rfl) _))
  isplitl [H8]; · iexact H8
  iintro %_ H8
  iapply (le_wp_ret _ _ _ _ _)
  iexists A; iexists _
  isplitr
  · ipureintro
    exact ⟨w, lv, hA, r2, M3⟩
  isplitl [H8]; · iexact H8
  isplitl [HS]; · iexact HS
  isplitl [HDN]; · iexact HDN
  isplitl [HR]; · iexact HR
  isplitl [HD]; · iexact HD
  isplitl [HC]; · iexact HC
  isplitl [H7]; · iexists _; iexact H7
  iexact HW

/-- The units once the last tile is popped and its registers are given up. -/
def U8 (s : Mxu F) : Prop := ∃ A, MG s (fun _ _ => none) (up2 (fun _ _ => false) 1 0 true) A

set_option maxHeartbeats 2000000 in
theorem wp_part271 {v : AV F} {s : Mxu F} {A : Fin 2 → Fin 4 → AV F} {f8 : B8 F} (hU : U3 dy wp ws A v s) :
    P8 c (put2 f8 0 A)
    ⊢ WP c (k0_part271 (F := F) a0 HA0 a1 HA1 a2 HA2 a3 HA3 m4 H4 m5 H5 m6 H6 m7 H7 m8 H8 cc0_scratch5 cc0_scratch6 cc0_scratch7 cc0_scratch8 v s)
      (fun s' => iprop(⌜U8 s'⌝ ∗ P8 c (outV dy wp ws 31))) := by
  rw [k0_part271_eq_skeleton]
  unfold k0_part271_skel
  dsimp only
  obtain ⟨w, lv, hA, rfl, M3⟩ := hU
  have M4 := M3.pop 1 1
  have M5 := M4.pop 0 2
  have M6 := M5.pop 1 2
  have M7 := M6.pop 0 3
  have M8 := M7.pop 1 3
  have r3 := (M3.rd 1 1).trans (show _ = A 1 1 by simp [up2])
  have r4 := (M4.rd 0 2).trans (show _ = A 0 2 by simp [up2])
  have r5 := (M5.rd 1 2).trans (show _ = A 1 2 by simp [up2])
  have r6 := (M6.rd 0 3).trans (show _ = A 0 3 by simp [up2])
  have r7 := (M7.rd 1 3).trans (show _ = A 1 3 by simp [up2])
  have M9 := (M8.accLhs 0 0 0 (stg (halfOf w 0)) rfl (k0_pay962 (F := F))).pop 0 0
  have M10 := M9.accLhs 1 0 0 (stg (halfOf w 1)) rfl (k0_pay963 (F := F))
  iintro H8
  iapply (wseq c (wp_ld8 _))
  isplitl [H8]; · iexact H8
  iintro %_ H8
  iapply (wseq c (wp_st8 1 0 (v := A 0 1) rfl rfl _))
  isplitl [H8]; · iexact H8
  iintro %_ H8
  iapply (wseq c (wp_ld8 _))
  isplitl [H8]; · iexact H8
  iintro %_ H8
  iapply (wseq c (wp_st8 1 1 (v := A 1 1) rfl (by rw [← r3]; rfl) _))
  isplitl [H8]; · iexact H8
  iintro %_ H8
  iapply (wseq c (wp_ld8 _))
  isplitl [H8]; · iexact H8
  iintro %_ H8
  iapply (wseq c (wp_st8 2 0 (v := A 0 2) rfl (by rw [← r4]; rfl) _))
  isplitl [H8]; · iexact H8
  iintro %_ H8
  iapply (wseq c (wp_ld8 _))
  isplitl [H8]; · iexact H8
  iintro %_ H8
  iapply (wseq c (wp_st8 2 1 (v := A 1 2) rfl (by rw [← r5]; rfl) _))
  isplitl [H8]; · iexact H8
  iintro %_ H8
  iapply (wseq c (wp_ld8 _))
  isplitl [H8]; · iexact H8
  iintro %_ H8
  iapply (wseq c (wp_st8 3 0 (v := A 0 3) rfl (by rw [← r6]; rfl) _))
  isplitl [H8]; · iexact H8
  iintro %_ H8
  iapply (wseq c (wp_ld8 _))
  isplitl [H8]; · iexact H8
  iintro %_ H8
  iapply (wseq c (wp_st8 3 1 (v := A 1 3) rfl (by rw [← r7]; rfl) _))
  isplitl [H8]; · iexact H8
  iintro %_ H8
  iapply (le_wp_ret _ _ _ _ _)
  isplitr
  · ipureintro
    refine ⟨_, M10.congr ?_ ?_ (fun _ _ => rfl)⟩
    · intro q r
      fin_cases q <;> fin_cases r <;> simp [up2, regs]
    · intro q i
      fin_cases q <;> fin_cases i <;> simp [up2]
  rw [← hA, ← put_all f8 A]
  iexact H8

/-! ## The kernel -/

/-- What the kernel takes, and what it leaves. -/
def KI (c : Dev nD) (dy : S7680x16384.Idx → F .bf16) (wp : S16384x1024.Idx → BitVec 8) (ws : S16384x64.Idx → BitVec 8) : sProp 𝕄 :=
  iprop((FR4 c dy 0 ∗ FR4 c dy 1 ∗ FR4 c dy 2) ∗ (FR56 (F := F) c wp ws 0 ∗ FR56 (F := F) c wp ws 1) ∗ OFree c dy wp ws 0 ∗ (∃ f, P7 (F := F) c f) ∗ OW (F := F) c)
def KO (c : Dev nD) (dy : S7680x16384.Idx → F .bf16) (wp : S16384x1024.Idx → BitVec 8) (ws : S16384x64.Idx → BitVec 8) : sProp 𝕄 :=
  iprop((FR4 c dy 0 ∗ FR4 c dy 1 ∗ FR4 c dy 2) ∗ (FR56 (F := F) c wp ws 0 ∗ FR56 (F := F) c wp ws 1) ∗ ((∃ f, P8 (F := F) c f) ∗ semP c sem12 ∗ DN c dy wp ws 32)
    ∗ (∃ f, P7 (F := F) c f) ∗ OW (F := F) c)

set_option maxHeartbeats 4000000 in
theorem wp_main : KI c dy wp ws ⊢ WP c (mainC (F := F) a0 HA0 a1 HA1 a2 HA2 a3 HA3 m4 H4 m5 H5 m6 H6 m7 H7 m8 H8 cc0_scratch5 cc0_scratch6 cc0_scratch7 cc0_scratch8)
    (fun _ => KO c dy wp ws) := by
  unfold mainC KI
  dsimp only
  unfold FR56
  iintro ⟨⟨HX0, HX1, HX2⟩, ⟨⟨HC0, HS0⟩, ⟨HC1, HS1⟩⟩, HO, ⟨%f, H7⟩, HW⟩
  iapply (wseq c (wp_part190 (dy := dy) (wp := wp) (ws := ws)))
  isplitl [HX0 HC0 HS0]
  · isplitl [HC0]; · iexact HC0
    isplitl [HS0]; · iexact HS0
    iexact HX0
  iintro %r ⟨%hr, HC0, HS0, HX0⟩
  obtain ⟨m0, v26, v27⟩ := r
  dsimp only at hr
  subst hr
  dsimp only
  iapply (wseq c (wp_part191 (dy := dy) (wp := wp) (ws := ws)))
  isplitl [HX1 HC1 HS1]
  · isplitl [HC1]; · iexact HC1
    isplitl [HS1]; · iexact HS1
    iexact HX1
  iintro %_ ⟨HC1, HS1, HX1⟩
  iapply (wseq c (c_wait (j := 0) (n := 0) (ch := 0) _ (k0_off1_eq 0)))
  isplitl [HC0 HW]
  · isplitl [HC0]; · iexact HC0
    iexact HW
  iintro %_ ⟨HC0, HW⟩
  iapply (wseq c (s_wait (j := 0) (ch := 0) _ (k0_off1_eq 0)))
  isplitl [HS0 HW]
  · isplitl [HS0]; · iexact HS0
    iexact HW
  iintro %_ ⟨HS0, HW⟩
  unfold LD5 LD6
  icases HC0 with ⟨⟨⟨%g5, %h5, H5⟩, HT5⟩, HM5⟩
  icases HS0 with ⟨⟨⟨%g6, %h6, H6⟩, HT6⟩, HM6⟩
  rw [← fdec_zero wp ws 0 0 f]
  iapply (wseq c (wp_dec (wp := wp) (ws := ws) 0 0 0 (by decide) (j := 0) (g5 := g5) (g6 := g6) (f := f) h5 h6 rfl (by decide) k0_off9_eq k0_off10_eq (k0_off11_eq 0)))
  isplitl [H5 H6 H7]
  · isplitl [H5]; · iexact H5
    isplitl [H6]; · iexact H6
    iexact H7
  iintro %_ ⟨H5, H6, H7⟩
  iapply (wseq c (wp_dec (wp := wp) (ws := ws) 0 0 1 (by decide) (j := 0) (g5 := g5) (g6 := g6) (f := f) h5 h6 rfl (by decide) k0_off12_eq k0_off13_eq (k0_off11_eq 1)))
  isplitl [H5 H6 H7]
  · isplitl [H5]; · iexact H5
    isplitl [H6]; · iexact H6
    iexact H7
  iintro %_ ⟨H5, H6, H7⟩
  iapply (wseq c (wp_dec (wp := wp) (ws := ws) 0 0 2 (by decide) (j := 0) (g5 := g5) (g6 := g6) (f := f) h5 h6 rfl (by decide) k0_off14_eq k0_off15_eq (k0_off11_eq 2)))
  isplitl [H5 H6 H7]
  · isplitl [H5]; · iexact H5
    isplitl [H6]; · iexact H6
    iexact H7
  iintro %_ ⟨H5, H6, H7⟩
  iapply (wseq c (wp_dec (wp := wp) (ws := ws) 0 0 3 (by decide) (j := 0) (g5 := g5) (g6 := g6) (f := f) h5 h6 rfl (by decide) k0_off16_eq k0_off17_eq (k0_off11_eq 3)))
  isplitl [H5 H6 H7]
  · isplitl [H5]; · iexact H5
    isplitl [H6]; · iexact H6
    iexact H7
  iintro %_ ⟨H5, H6, H7⟩
  iapply (wseq c (wp_dec (wp := wp) (ws := ws) 0 0 4 (by decide) (j := 0) (g5 := g5) (g6 := g6) (f := f) h5 h6 rfl (by decide) k0_off18_eq k0_off19_eq (k0_off11_eq 4)))
  isplitl [H5 H6 H7]
  · isplitl [H5]; · iexact H5
    isplitl [H6]; · iexact H6
    iexact H7
  iintro %_ ⟨H5, H6, H7⟩
  iapply (wseq c (wp_dec (wp := wp) (ws := ws) 0 0 5 (by decide) (j := 0) (g5 := g5) (g6 := g6) (f := f) h5 h6 rfl (by decide) k0_off20_eq k0_off21_eq (k0_off11_eq 5)))
  isplitl [H5 H6 H7]
  · isplitl [H5]; · iexact H5
    isplitl [H6]; · iexact H6
    iexact H7
  iintro %_ ⟨H5, H6, H7⟩
  iapply (wseq c (wp_dec (wp := wp) (ws := ws) 0 0 6 (by decide) (j := 0) (g5 := g5) (g6 := g6) (f := f) h5 h6 rfl (by decide) k0_off22_eq k0_off23_eq (k0_off11_eq 6)))
  isplitl [H5 H6 H7]
  · isplitl [H5]; · iexact H5
    isplitl [H6]; · iexact H6
    iexact H7
  iintro %_ ⟨H5, H6, H7⟩
  iapply (wseq c (wp_ld5 (j := 0) (p := 7) k0_off24_eq g5))
  isplitl [H5]; · iexact H5
  iintro %x5 ⟨%hx5, H5⟩
  iapply (wseq c (wp_ld6 (j := 0) (p := 7) k0_off25_eq g6))
  isplitl [H6]; · iexact H6
  iintro %x6 ⟨%hx6, H6⟩
  have hv : decV (F := F) x5 x6 fb0 = wOf wp ws 0 7 := by
    unfold decV
    rw [hx5, hx6]
    exact decTile_eq wp ws h5 h6 7
  iapply (wseq c (wp_part270 (dy := dy) (wp := wp) (ws := ws) (f := f) hv))
  isplitr []
  · rw [OI_begin, DI_begin, WI_begin]
    unfold FR56 FR5 FR6
    isplitl [H7]; · iexact H7
    isplitl [HO]; · iexact HO
    isplitl [HX0 HX1 HX2]
    · isplitl [HX0]; · iexact HX0
      isplitl [HX1]; · iexact HX1
      iexact HX2
    isplitr [HW]
    · isplitl [HC1 HS1]
      · isplitl [HC1]; · iexact HC1
        iexact HS1
      isplitl [H5 HM5 HT5]
      · isplitl [H5]; · iexists g5; iexact H5
        isplitl [HM5]; · iexact HM5
        iexact HT5
      isplitl [H6]; · iexists g6; iexact H6
      isplitl [HM6]; · iexact HM6
      iexact HT6
    iexact HW
  iintro %r ⟨%A, %f8, %hU, H8, HS, HD, HR, HDI, HWI, H7, HW⟩
  obtain ⟨v, s⟩ := r
  dsimp only
  dsimp only at hU
  iapply (wseq c (wp_part271 (f8 := f8) hU))
  isplitl [H8]; · iexact H8
  iintro %s' ⟨%h8, H8⟩
  ihave HR := (RM_take (F := F) c (d := 31) (by decide)) $$ HR
  icases HR with ⟨HA, HR⟩
  iapply (wseq c (o_start (t := 31) off214_eq.2))
  isplitl [HA HS H8]
  · isplitl [HA]; · iexact HA
    isplitl [HS]; · iexact HS
    iexact H8
  iintro %_ HF
  iapply (wseq c o_wait)
  isplitl [HF HW]
  · isplitl [HF]; · iexact HF
    iexact HW
  iintro %_ ⟨⟨HOV, H8⟩, HS, HW⟩
  obtain ⟨A', hM⟩ := h8
  have hd : (s'.pop 1 0 240 fits_0_240).Drained := MG.drained ((hM.pop 1 0).congr (fun _ _ => rfl) (fun q i => by
    fin_cases q <;> fin_cases i <;> simp [up2]) (fun _ _ => rfl))
  iapply (Mxu.wp_exit (hd := hd))
  iapply (le_wp_ret _ _ _ _ _)
  unfold KO
  isplitl [HDI]; · iapply DI_end; iexact HDI
  isplitl [HWI]; · rw [← WI_end]; iexact HWI
  isplitl [H8 HS HD HOV]
  · isplitl [H8]; · iexists _; iexact H8
    isplitl [HS]; · iexact HS
    iapply DN_put
    isplitl [HD]; · iexact HD
    iexact HOV
  isplitl [H7]; · iexact H7
  iexact HW

end Whole

end Cert.Kernel.P
-- ==== Proof.Res.lean ====
/-  What the launch hands the kernel, cut into the pieces it works with, and put together again: shares of the inputs, slots of the
    scratch buffers, blocks of the result. -/
module

public import proofs.«01_k».proof.Proof.Whole

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Res

variable (c : Dev nD) (dy : S7680x16384.Idx → F .bf16) (wp : S16384x1024.Idx → BitVec 8) (ws : S16384x64.Idx → BitVec 8)

theorem fin2_sep (Φ : Fin 2 → sProp 𝕄) : bigSep Finset.univ Φ = iprop(Φ 0 ∗ Φ 1) :=
  BI.bigSep_univ_eq_bigSepL [(0 : Fin 2), (1 : Fin 2)] (by decide) (by decide) Φ
theorem fin3_sep (Φ : Fin 3 → sProp 𝕄) : bigSep Finset.univ Φ = iprop(Φ 0 ∗ Φ 1 ∗ Φ 2) :=
  BI.bigSep_univ_eq_bigSepL [(0 : Fin 3), (1 : Fin 3), (2 : Fin 3)] (by decide) (by decide) Φ

/-! ## The scratch buffers' slots -/

theorem S4_disjoint : ∀ j j' : Fin 3, j ≠ j' → Disjoint (S4 j) (S4 j') := by
  intro j j' hne
  rw [Finset.disjoint_left]; intro y hy hy'
  simp only [S4, Finset.mem_filter, Finset.mem_univ, true_and] at hy hy'
  exact hne (Fin.ext (hy.symm.trans hy'))
theorem S5_disjoint : ∀ j j' : Fin 2, j ≠ j' → Disjoint (S5 j) (S5 j') := by
  intro j j' hne
  rw [Finset.disjoint_left]; intro y hy hy'
  simp only [S5, Finset.mem_filter, Finset.mem_univ, true_and] at hy hy'
  exact hne (Fin.ext (hy.symm.trans hy'))
theorem S6_disjoint : ∀ j j' : Fin 2, j ≠ j' → Disjoint (S6 j) (S6 j') := by
  intro j j' hne
  rw [Finset.disjoint_left]; intro y hy hy'
  simp only [S6, Finset.mem_filter, Finset.mem_univ, true_and] at hy hy'
  exact hne (Fin.ext (hy.symm.trans hy'))
theorem S4_cover : (Finset.univ : Finset (Fin 3)).biUnion S4 = Finset.univ := by
  ext y; simp only [Finset.mem_biUnion, Finset.mem_univ, true_and, iff_true, S4, Finset.mem_filter]
  exact ⟨⟨(y 0).val, (y 0).isLt⟩, rfl⟩
theorem S5_cover : (Finset.univ : Finset (Fin 2)).biUnion S5 = Finset.univ := by
  ext y; simp only [Finset.mem_biUnion, Finset.mem_univ, true_and, iff_true, S5, Finset.mem_filter]
  exact ⟨⟨(y 0).val, (y 0).isLt⟩, rfl⟩
theorem S6_cover : (Finset.univ : Finset (Fin 2)).biUnion S6 = Finset.univ := by
  ext y; simp only [Finset.mem_biUnion, Finset.mem_univ, true_and, iff_true, S6, Finset.mem_filter]
  exact ⟨⟨(y 0).val, (y 0).isLt⟩, rfl⟩

abbrev W4 : sProp 𝕄 := iprop(∃ f : Buf (Elt F) ((c : Thread nD τ).loc cc0_scratch0), ((c : Thread nD τ).loc cc0_scratch0) ↦{fullShare} f)
abbrev W5 : sProp 𝕄 := iprop(∃ f : Buf (Elt F) ((c : Thread nD τ).loc cc0_scratch1), ((c : Thread nD τ).loc cc0_scratch1) ↦{fullShare} f)
abbrev W6 : sProp 𝕄 := iprop(∃ f : Buf (Elt F) ((c : Thread nD τ).loc cc0_scratch2), ((c : Thread nD τ).loc cc0_scratch2) ↦{fullShare} f)

theorem split4 : W4 (F := F) c ⊢ iprop((∃ g, P4 (F := F) c 0 g) ∗ (∃ g, P4 (F := F) c 1 g) ∗ (∃ g, P4 (F := F) c 2 g)) := by
  unfold W4
  iintro ⟨%f, H⟩
  ihave H := (Entails.of_eq ((Ring.pointsTo_blocks (Ix := Unit) (Name := ℕ) (U := UU nD τ) (Lvl := ℕ) (q := fullShare) (ℓ := (c : Thread nD τ).loc cc0_scratch0) S4 S4_disjoint S4_cover f).trans (fin3_sep _))) $$ H
  icases H with ⟨H0, H1, H2⟩
  isplitl [H0]; · iexists f; iexact H0
  isplitl [H1]; · iexists f; iexact H1
  iexists f; iexact H2
theorem split5 : W5 (F := F) c ⊢ iprop((∃ g, P5 (F := F) c 0 g) ∗ (∃ g, P5 (F := F) c 1 g)) := by
  unfold W5
  iintro ⟨%f, H⟩
  ihave H := (Entails.of_eq ((Ring.pointsTo_blocks (Ix := Unit) (Name := ℕ) (U := UU nD τ) (Lvl := ℕ) (q := fullShare) (ℓ := (c : Thread nD τ).loc cc0_scratch1) S5 S5_disjoint S5_cover f).trans (fin2_sep _))) $$ H
  icases H with ⟨H0, H1⟩
  isplitl [H0]; · iexists f; iexact H0
  iexists f; iexact H1
theorem split6 : W6 (F := F) c ⊢ iprop((∃ g, P6 (F := F) c 0 g) ∗ (∃ g, P6 (F := F) c 1 g)) := by
  unfold W6
  iintro ⟨%f, H⟩
  ihave H := (Entails.of_eq ((Ring.pointsTo_blocks (Ix := Unit) (Name := ℕ) (U := UU nD τ) (Lvl := ℕ) (q := fullShare) (ℓ := (c : Thread nD τ).loc cc0_scratch2) S6 S6_disjoint S6_cover f).trans (fin2_sep _))) $$ H
  icases H with ⟨H0, H1⟩
  isplitl [H0]; · iexists f; iexact H0
  iexists f; iexact H1

theorem join4 : iprop((∃ g, P4 (F := F) c 0 g) ∗ (∃ g, P4 (F := F) c 1 g) ∗ (∃ g, P4 (F := F) c 2 g)) ⊢ W4 (F := F) c := by
  iintro ⟨⟨%f, H0⟩, H1, H2⟩
  iapply (Ring.pointsTo_blocks_join_exists (Ix := Unit) (Name := ℕ) (U := UU nD τ) (Lvl := ℕ) (q := fullShare) (ℓ := (c : Thread nD τ).loc cc0_scratch0) S4 S4_disjoint S4_cover f)
  iapply (Entails.of_eq (fin3_sep (F := F) _).symm)
  isplitl [H0]; · iexists f; iexact H0
  isplitl [H1]; · iexact H1
  iexact H2
theorem join5 : iprop((∃ g, P5 (F := F) c 0 g) ∗ (∃ g, P5 (F := F) c 1 g)) ⊢ W5 (F := F) c := by
  iintro ⟨⟨%f, H0⟩, H1⟩
  iapply (Ring.pointsTo_blocks_join_exists (Ix := Unit) (Name := ℕ) (U := UU nD τ) (Lvl := ℕ) (q := fullShare) (ℓ := (c : Thread nD τ).loc cc0_scratch1) S5 S5_disjoint S5_cover f)
  iapply (Entails.of_eq (fin2_sep (F := F) _).symm)
  isplitl [H0]; · iexists f; iexact H0
  iexact H1
theorem join6 : iprop((∃ g, P6 (F := F) c 0 g) ∗ (∃ g, P6 (F := F) c 1 g)) ⊢ W6 (F := F) c := by
  iintro ⟨⟨%f, H0⟩, H1⟩
  iapply (Ring.pointsTo_blocks_join_exists (Ix := Unit) (Name := ℕ) (U := UU nD τ) (Lvl := ℕ) (q := fullShare) (ℓ := (c : Thread nD τ).loc cc0_scratch2) S6 S6_disjoint S6_cover f)
  iapply (Entails.of_eq (fin2_sep (F := F) _).symm)
  isplitl [H0]; · iexists f; iexact H0
  iexact H1

/-! ## The inputs' shares -/

abbrev D0 : sProp 𝕄 := a0.view.loc (c : Thread nD τ) ↦[Finset.univ]{Transfers.shareDrop fullShare 3} dy
abbrev D1 : sProp 𝕄 := a1.view.loc (c : Thread nD τ) ↦[Finset.univ]{Transfers.shareDrop fullShare 2} wp
abbrev D2 : sProp 𝕄 := a2.view.loc (c : Thread nD τ) ↦[Finset.univ]{Transfers.shareDrop fullShare 2} ws
abbrev F0 : sProp 𝕄 := a0.view.loc (c : Thread nD τ) ↦[Finset.univ]{fullShare} dy
abbrev F1 : sProp 𝕄 := a1.view.loc (c : Thread nD τ) ↦[Finset.univ]{fullShare} wp
abbrev F2 : sProp 𝕄 := a2.view.loc (c : Thread nD τ) ↦[Finset.univ]{fullShare} ws

theorem sh0 : F0 c dy ⊢ iprop(D0 c dy ∗ T0 c dy 0 ∗ T0 c dy 1 ∗ T0 c dy 2) :=
  (Transfers.pointsTo_toks_split fullShare 3).trans (sep_mono_right (Entails.of_eq (fin3_sep _)))
theorem sh1 : F1 (F := F) c wp ⊢ iprop(D1 (F := F) c wp ∗ T1 (F := F) c wp 0 ∗ T1 (F := F) c wp 1) :=
  (Transfers.pointsTo_toks_split fullShare 2).trans (sep_mono_right (Entails.of_eq (fin2_sep _)))
theorem sh2 : F2 (F := F) c ws ⊢ iprop(D2 (F := F) c ws ∗ T2 (F := F) c ws 0 ∗ T2 (F := F) c ws 1) :=
  (Transfers.pointsTo_toks_split fullShare 2).trans (sep_mono_right (Entails.of_eq (fin2_sep _)))
theorem hs0 : iprop(D0 c dy ∗ T0 c dy 0 ∗ T0 c dy 1 ∗ T0 c dy 2) ⊢ F0 c dy :=
  (sep_mono_right (Entails.of_eq (fin3_sep (fun j => T0 c dy j)).symm)).trans (Transfers.pointsTo_toks_join fullShare 3)
theorem hs1 : iprop(D1 (F := F) c wp ∗ T1 (F := F) c wp 0 ∗ T1 (F := F) c wp 1) ⊢ F1 (F := F) c wp :=
  (sep_mono_right (Entails.of_eq (fin2_sep (fun j => T1 (F := F) c wp j)).symm)).trans (Transfers.pointsTo_toks_join fullShare 2)
theorem hs2 : iprop(D2 (F := F) c ws ∗ T2 (F := F) c ws 0 ∗ T2 (F := F) c ws 1) ⊢ F2 (F := F) c ws :=
  (sep_mono_right (Entails.of_eq (fin2_sep (fun j => T2 (F := F) c ws j)).symm)).trans (Transfers.pointsTo_toks_join fullShare 2)

/-! ## The result's blocks -/

/-- The whole result. -/
def outAll : S7680x2048.Idx → F .bf16 := fun y => outV dy wp ws ((y 0).val / 960 + 8 * ((y 1).val / 512))
  (ix2 ⟨(y 0).val % 960, Nat.mod_lt _ (by decide)⟩ ⟨(y 1).val % 512, Nat.mod_lt _ (by decide)⟩)

/-- The elements of the blocks below `d`, and of the last `m`. -/
def SB (d : ℕ) : Finset S7680x2048.Idx := Finset.univ.filter fun y => (y 0).val / 960 + 8 * ((y 1).val / 512) < d
def SL (m : ℕ) : Finset S7680x2048.Idx := Finset.univ.filter fun y => 32 ≤ (y 0).val / 960 + 8 * ((y 1).val / 512) + m

theorem DN_all (d : ℕ) : DN c dy wp ws d ⊢ (a3.view.loc (c : Thread nD τ) ↦[SB d]{fullShare} outAll dy wp ws : sProp 𝕄) := by
  induction d with
  | zero =>
    have e : SB 0 = ∅ := by ext y; simp [SB]
    rw [e]
    exact Entails.of_eq pointsTo_empty.symm
  | succ d ih =>
    have e : SB (d + 1) = SB d ∪ SO d := by
      ext y; simp only [SB, SO, Finset.mem_filter, Finset.mem_univ, true_and, Finset.mem_union]; omega
    have hd : Disjoint (SB d) (SO d) := by
      rw [Finset.disjoint_left]; intro y hy hy'
      simp only [SB, SO, Finset.mem_filter, Finset.mem_univ, true_and] at hy hy'; omega
    rw [e]
    show iprop(DN c dy wp ws d ∗ OV c d (outV dy wp ws d)) ⊢ _
    unfold OV
    iintro ⟨H, ⟨%g, %hg, HO⟩⟩
    iapply (pointsTo_union hd).2
    isplitl [H]; · iapply ih; iexact H
    have hg' : ∀ i ∈ SO d, g i = outAll dy wp ws i := by
      intro y hy
      have hy' := hy
      simp only [SO, Finset.mem_filter, Finset.mem_univ, true_and] at hy'
      rw [hg y hy]
      unfold outAll
      rw [hy']
    ihave HO := (Entails.of_eq (pointsTo_congr hg')) $$ HO
    iexact HO

theorem RM_all (f : S7680x2048.Idx → F .bf16) (m : ℕ) (hm : m ≤ 32) :
    (a3.view.loc (c : Thread nD τ) ↦[SL m]{fullShare} f : sProp 𝕄) ⊢ RMr (F := F) c m := by
  induction m with
  | zero =>
    have e : SL 0 = ∅ := by
      ext y
      have h0 : (y 0).val < 7680 := (y 0).isLt
      have h1 : (y 1).val < 2048 := (y 1).isLt
      simp only [SL, Finset.mem_filter, Finset.mem_univ, true_and, Finset.notMem_empty, iff_false]; omega
    rw [e]
    exact Entails.of_eq pointsTo_empty
  | succ m ih =>
    have e : SL (m + 1) = SO (31 - m) ∪ SL m := by
      ext y; simp only [SL, SO, Finset.mem_filter, Finset.mem_univ, true_and, Finset.mem_union]; omega
    have hd : Disjoint (SO (31 - m)) (SL m) := by
      rw [Finset.disjoint_left]; intro y hy hy'
      simp only [SL, SO, Finset.mem_filter, Finset.mem_univ, true_and] at hy hy'; omega
    rw [e]
    show _ ⊢ iprop(OA (F := F) c (31 - m) ∗ RMr (F := F) c m)
    unfold OA
    iintro H
    ihave H := (pointsTo_union hd).1 $$ H
    icases H with ⟨H0, H1⟩
    isplitl [H0]; · iexists f; iexact H0
    iapply (ih (by omega)); iexact H1

abbrev F3 (f : S7680x2048.Idx → F .bf16) : sProp 𝕄 := a3.view.loc (c : Thread nD τ) ↦[Finset.univ]{fullShare} f

theorem out_split (f : S7680x2048.Idx → F .bf16) : F3 c f ⊢ RM (F := F) c 0 := by
  have e : SL 32 = Finset.univ := by ext y; simp [SL]
  have h := RM_all c f 32 (le_refl _)
  rw [e] at h
  exact h
theorem out_join : DN c dy wp ws 32 ⊢ F3 c (outAll dy wp ws) := by
  have e : SB 32 = Finset.univ := by
    ext y
    have h0 : (y 0).val < 7680 := (y 0).isLt
    have h1 : (y 1).val < 2048 := (y 1).isLt
    simp only [SB, Finset.mem_filter, Finset.mem_univ, true_and, iff_true]; omega
  have h := DN_all c dy wp ws 32
  rw [e] at h
  exact h

/-! ## All together -/

/-- The kernel's semaphores at zero. -/
def SEMS : sProp 𝕄 := iprop((semP (F := F) c (sem9 0) ∗ semP (F := F) c (sem9 1) ∗ semP (F := F) c (sem9 2))
  ∗ (semP (F := F) c (sem10 0) ∗ semP (F := F) c (sem10 1)) ∗ (semP (F := F) c (sem11 0) ∗ semP (F := F) c (sem11 1)) ∗ semP (F := F) c sem12)
/-- The scratch buffers at anything. -/
def SCR : sProp 𝕄 := iprop(W4 (F := F) c ∗ W5 (F := F) c ∗ W6 (F := F) c ∗ (∃ f, P7 (F := F) c f) ∗ ∃ f, P8 (F := F) c f)
/-- The inputs. -/
def INS : sProp 𝕄 := iprop(F0 c dy ∗ F1 (F := F) c wp ∗ F2 (F := F) c ws)
/-- What the kernel leaves aside. -/
def ASIDE : sProp 𝕄 := iprop(D0 c dy ∗ D1 (F := F) c wp ∗ D2 (F := F) c ws)

theorem enter : iprop(INS c dy wp ws ∗ (∃ f, F3 c f) ∗ SEMS (F := F) c ∗ SCR (F := F) c ∗ OW (F := F) c) ⊢ iprop(KI c dy wp ws ∗ ASIDE c dy wp ws) := by
  unfold INS SEMS SCR KI ASIDE FR56 FR4 FR5 FR6 OFree
  iintro ⟨⟨H0, H1, H2⟩, ⟨%f3, H3⟩, ⟨⟨Sa0, Sa1, Sa2⟩, ⟨Sb0, Sb1⟩, ⟨Sc0, Sc1⟩, Sd⟩, ⟨H4, H5, H6, H7, H8⟩, HW⟩
  ihave H0 := (sh0 c dy) $$ H0
  icases H0 with ⟨HD0, Ta0, Ta1, Ta2⟩
  ihave H1 := (sh1 (F := F) c wp) $$ H1
  icases H1 with ⟨HD1, Tb0, Tb1⟩
  ihave H2 := (sh2 (F := F) c ws) $$ H2
  icases H2 with ⟨HD2, Tc0, Tc1⟩
  ihave H3 := (out_split c f3) $$ H3
  ihave H4 := (split4 (F := F) c) $$ H4
  icases H4 with ⟨Pa0, Pa1, Pa2⟩
  ihave H5 := (split5 (F := F) c) $$ H5
  icases H5 with ⟨Pb0, Pb1⟩
  ihave H6 := (split6 (F := F) c) $$ H6
  icases H6 with ⟨Pc0, Pc1⟩
  isplitr [HD0 HD1 HD2]
  · isplitl [Pa0 Sa0 Ta0 Pa1 Sa1 Ta1 Pa2 Sa2 Ta2]
    · isplitl [Pa0 Sa0 Ta0]
      · isplitl [Pa0]; · iexact Pa0
        isplitl [Sa0]; · iexact Sa0
        iexact Ta0
      isplitl [Pa1 Sa1 Ta1]
      · isplitl [Pa1]; · iexact Pa1
        isplitl [Sa1]; · iexact Sa1
        iexact Ta1
      isplitl [Pa2]; · iexact Pa2
      isplitl [Sa2]; · iexact Sa2
      iexact Ta2
    isplitl [Pb0 Sb0 Tb0 Pb1 Sb1 Tb1 Pc0 Sc0 Tc0 Pc1 Sc1 Tc1]
    · isplitl [Pb0 Sb0 Tb0 Pc0 Sc0 Tc0]
      · isplitl [Pb0 Sb0 Tb0]
        · isplitl [Pb0]; · iexact Pb0
          isplitl [Sb0]; · iexact Sb0
          iexact Tb0
        isplitl [Pc0]; · iexact Pc0
        isplitl [Sc0]; · iexact Sc0
        iexact Tc0
      isplitl [Pb1 Sb1 Tb1]
      · isplitl [Pb1]; · iexact Pb1
        isplitl [Sb1]; · iexact Sb1
        iexact Tb1
      isplitl [Pc1]; · iexact Pc1
      isplitl [Sc1]; · iexact Sc1
      iexact Tc1
    isplitl [H8 Sd H3]
    · isplitl [H8]; · iexact H8
      isplitl [Sd]; · iexact Sd
      isplitr; · iapply (show (BI.emp : sProp 𝕄) ⊢ DN c dy wp ws 0 from .rfl); iempintro
      iexact H3
    isplitl [H7]; · iexact H7
    iexact HW
  isplitl [HD0]; · iexact HD0
  isplitl [HD1]; · iexact HD1
  iexact HD2

theorem leave : iprop(KO c dy wp ws ∗ ASIDE c dy wp ws) ⊢ iprop(INS c dy wp ws ∗ F3 c (outAll dy wp ws) ∗ SEMS (F := F) c ∗ SCR (F := F) c ∗ OW (F := F) c) := by
  unfold INS SEMS SCR KO ASIDE FR56 FR4 FR5 FR6
  iintro ⟨⟨⟨⟨Pa0, Sa0, Ta0⟩, ⟨Pa1, Sa1, Ta1⟩, ⟨Pa2, Sa2, Ta2⟩⟩, ⟨⟨⟨Pb0, Sb0, Tb0⟩, ⟨Pc0, Sc0, Tc0⟩⟩, ⟨⟨Pb1, Sb1, Tb1⟩, ⟨Pc1, Sc1, Tc1⟩⟩⟩, ⟨H8, Sd, H3⟩, H7, HW⟩, ⟨HD0, HD1, HD2⟩⟩
  isplitl [HD0 Ta0 Ta1 Ta2 HD1 Tb0 Tb1 HD2 Tc0 Tc1]
  · isplitl [HD0 Ta0 Ta1 Ta2]
    · iapply (hs0 c dy)
      isplitl [HD0]; · iexact HD0
      isplitl [Ta0]; · iexact Ta0
      isplitl [Ta1]; · iexact Ta1
      iexact Ta2
    isplitl [HD1 Tb0 Tb1]
    · iapply (hs1 (F := F) c wp)
      isplitl [HD1]; · iexact HD1
      isplitl [Tb0]; · iexact Tb0
      iexact Tb1
    iapply (hs2 (F := F) c ws)
    isplitl [HD2]; · iexact HD2
    isplitl [Tc0]; · iexact Tc0
    iexact Tc1
  isplitl [H3]; · iapply (out_join c dy wp ws); iexact H3
  isplitl [Sa0 Sa1 Sa2 Sb0 Sb1 Sc0 Sc1 Sd]
  · isplitl [Sa0 Sa1 Sa2]
    · isplitl [Sa0]; · iexact Sa0
      isplitl [Sa1]; · iexact Sa1
      iexact Sa2
    isplitl [Sb0 Sb1]
    · isplitl [Sb0]; · iexact Sb0
      iexact Sb1
    isplitl [Sc0 Sc1]
    · isplitl [Sc0]; · iexact Sc0
      iexact Sc1
    iexact Sd
  isplitr [HW]
  · isplitl [Pa0 Pa1 Pa2]
    · iapply (join4 (F := F) c)
      isplitl [Pa0]; · iexact Pa0
      isplitl [Pa1]; · iexact Pa1
      iexact Pa2
    isplitl [Pb0 Pb1]
    · iapply (join5 (F := F) c)
      isplitl [Pb0]; · iexact Pb0
      iexact Pb1
    isplitl [Pc0 Pc1]
    · iapply (join6 (F := F) c)
      isplitl [Pc0]; · iexact Pc0
      iexact Pc1
    isplitl [H7]; · iexact H7
    iexact H8
  iexact HW

end Res

end Cert.Kernel.P
-- ==== Proof.Run.lean ====
/-  The run of the program from its launch: it ends, nothing faulting, every semaphore at zero, the arguments unchanged and the result
    at its computed contents. -/
module

public import proofs.«01_k».proof.Proof.Res
public import proofs.«01_k».proof.Proof.Gen.Kernel.Launch
public import proofs.«01_k».proof.Proof.Gen.Kernel.Frame

@[expose] public section

noncomputable section

namespace Cert.Kernel.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

open Idealize.ShloMosaic.Rounds
open Idealize.ShloMosaic.Pipeline (Dat Cfg Window BodyObligation cellOf)

section Run

variable (m : (ℓ : Loc nD τ sig) → Buf (Elt F) ℓ) (ρ : Dev nD → PrngReg)

/-- What the region finds in the kernel's operands. -/
abbrev dyV (c : Dev nD) : S7680x16384.Idx → F .bf16 := V m c main_v0
abbrev wpV (c : Dev nD) : S16384x1024.Idx → BitVec 8 := V m c main_arg1
abbrev wsV (c : Dev nD) : S16384x64.Idx → BitVec 8 := V m c main_arg2

/-- The kernel's own semaphores. -/
def osem : Fin 8 → SemLoc sig := ![.dma (sem9 0), .dma (sem9 1), .dma (sem9 2), .dma (sem10 0), .dma (sem10 1), .dma (sem11 0), .dma (sem11 1), .dma sem12]
theorem ownSemFacts : Pipeline.OwnSemFacts cfg0.spec osem := by decide

theorem ownSems0_eq (c : Dev nD) : (Pipeline.ownSems0 (Ix := Unit) (Name := ℕ) (U := UU nD τ) (Lvl := ℕ) (Val := Elt F) (τ := τ) osem c : sProp 𝕄)
    = iprop(semP (F := F) c (sem9 0) ∗ semP (F := F) c (sem9 1) ∗ semP (F := F) c (sem9 2) ∗ semP (F := F) c (sem10 0) ∗ semP (F := F) c (sem10 1)
      ∗ semP (F := F) c (sem11 0) ∗ semP (F := F) c (sem11 1) ∗ semP (F := F) c sem12) := by
  unfold Pipeline.ownSems0
  exact BI.bigSep_univ_eq_bigSepL [(0 : Fin 8), 1, 2, 3, 4, 5, 6, 7] (by decide) (by decide) _

theorem own_sems (c : Dev nD) : Pipeline.ownSems0 (Ix := Unit) (Name := ℕ) (U := UU nD τ) (Lvl := ℕ) (Val := Elt F) (τ := τ) osem c ⊢ SEMS (F := F) c := by
  rw [ownSems0_eq]
  unfold SEMS
  iintro ⟨Sa0, Sa1, Sa2, Sb0, Sb1, Sc0, Sc1, Sd⟩
  isplitl [Sa0 Sa1 Sa2]
  · isplitl [Sa0]; · iexact Sa0
    isplitl [Sa1]; · iexact Sa1
    iexact Sa2
  isplitl [Sb0 Sb1]
  · isplitl [Sb0]; · iexact Sb0
    iexact Sb1
  isplitl [Sc0 Sc1]
  · isplitl [Sc0]; · iexact Sc0
    iexact Sc1
  iexact Sd
theorem sems_own (c : Dev nD) : SEMS (F := F) c ⊢ Pipeline.ownSems0 (Ix := Unit) (Name := ℕ) (U := UU nD τ) (Lvl := ℕ) (Val := Elt F) (τ := τ) osem c := by
  rw [ownSems0_eq]
  unfold SEMS
  iintro ⟨⟨Sa0, Sa1, Sa2⟩, ⟨Sb0, Sb1⟩, ⟨Sc0, Sc1⟩, Sd⟩
  isplitl [Sa0]; · iexact Sa0
  isplitl [Sa1]; · iexact Sa1
  isplitl [Sa2]; · iexact Sa2
  isplitl [Sb0]; · iexact Sb0
  isplitl [Sb1]; · iexact Sb1
  isplitl [Sc0]; · iexact Sc0
  isplitl [Sc1]; · iexact Sc1
  iexact Sd

/-- The arguments and the result, the result at anything before the point and at its value after it. -/
def MEM (c : Dev nD) : sProp 𝕄 := iprop(((c : Thread nD τ).loc main_arg0 ↦{fullShare} V m c main_arg0) ∗ INS c (dyV m c) (wpV m c) (wsV m c))
def Φ0 (c : Dev nD) : sProp 𝕄 := iprop(MEM m c ∗ (∃ f, F3 c f) ∗ SEMS (F := F) c ∗ SCR (F := F) c)
def Φ1 (c : Dev nD) : sProp 𝕄 := iprop(MEM m c ∗ F3 c (outAll (dyV m c) (wpV m c) (wsV m c)) ∗ SEMS (F := F) c ∗ SCR (F := F) c)

def dats (_ : Fin 1) (c : Dev nD) : Dat τ (Elt F) Unit ℕ (UU nD τ) ℕ cfg0 c where
  A w := V m c (Pipeline.arrRef cfg0.spec w)
  after w t := w.elim0
  Φ t := if t.val = 0 then Φ0 m c else Φ1 m c
  q _ := fullShare
  owed _ := 0

/-- The body table's entry is the kernel on its operands, in its compact form. -/
theorem defs_tc : (defs₀ (F := F)) .tc cfg0.body
    = fun _ => cc0_mxfp4_input_grad a0 HA0 a1 HA1 a2 HA2 a3 HA3 m4 H4 m5 H5 m6 H6 m7 H7 m8 H8 cc0_scratch5 cc0_scratch6 cc0_scratch7 cc0_scratch8 := rfl
theorem prog_eq (t : Fin cfg0.N) : (defs₀ (F := F)) .tc cfg0.body (cfg0.bodyArgs t (cfg0.slots t))
    = mainC a0 HA0 a1 HA1 a2 HA2 a3 HA3 m4 H4 m5 H5 m6 H6 m7 H7 m8 H8 cc0_scratch5 cc0_scratch6 cc0_scratch7 cc0_scratch8 :=
  (congrFun defs_tc _).trans (main_eq ..)

set_option backward.isDefEq.respectTransparency.types false in
theorem body_obligation (c : Dev nD) : BodyObligation (dats (F := F) m 0 c) (defs₀ (F := F)) 𝒱₀ () Set.univ := fun t => by
  have ht : t = t0_0 := fin_N0 t
  subst ht
  rw [show (dats m 0 c).Φ t0_0.castSucc = Φ0 m c from rfl, show (dats m 0 c).Φ t0_0.succ = Φ1 m c from rfl]
  unfold Dat.owesAt Pipeline.owesWithin
  rw [show (dats m 0 c).owed t0_0.castSucc = 0 from rfl, show (dats m 0 c).owed t0_0.succ = 0 from rfl]
  unfold Φ0 Φ1 MEM
  iintro ⟨⟨⟨HA, HI⟩, HF, HS, HC⟩, ⟨%W, -, HW⟩, HN⟩
  ihave HH := (enter c (dyV m c) (wpV m c) (wsV m c)) $$ [HI HF HS HC HW]
  · isplitl [HI]; · iexact HI
    isplitl [HF]; · iexact HF
    isplitl [HS]; · iexact HS
    isplitl [HC]; · iexact HC
    unfold OW; iexists W; iexact HW
  icases HH with ⟨HK, HR⟩
  sl_rw [prog_eq t0_0]
  iapply (wend c (wp_main (dy := dyV m c) (wp := wpV m c) (ws := wsV m c)))
  isplitl [HK]; · iexact HK
  iintro %_ HO
  ihave HH := (leave c (dyV m c) (wpV m c) (wsV m c)) $$ [HO HR]
  · isplitl [HO]; · iexact HO
    iexact HR
  unfold OW
  icases HH with ⟨HI, HF, HS, HC, ⟨%W', HW⟩⟩
  isplitl [HA HI HF HS HC]
  · isplitl [HA HI]
    · isplitl [HA]; · iexact HA
      iexact HI
    isplitl [HF]; · iexact HF
    isplitl [HS]; · iexact HS
    iexact HC
  isplitl [HW]
  · iexists W'; isplitr; · ipureintro; exact fun _ _ => Or.inl trivial
    iexact HW
  iexact HN

def u₀ : UU nD τ := (initOf (Pipeline.cells cfgs cellOf_inj) (Pipeline.launchToks cfgs cellOf_inj), 1)
def intoΦ (c : Dev nD) : sProp 𝕄 := iprop(MEM m c ∗ (∃ f, F3 c f) ∗ SEMS (F := F) c)
def outOfΦ (c : Dev nD) : sProp 𝕄 := iprop(MEM m c ∗ F3 c (outAll (dyV m c) (wpV m c) (wsV m c)))
/-- What every run ends with, of a core's memory. -/
def QY (c : Dev nD) (s : MemSt nD τ sig (Elt F)) : Prop :=
  s.mem ((c : Thread nD τ).loc main_v1) = outAll (dyV m c) (wpV m c) (wsV m c)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)

set_option backward.isDefEq.respectTransparency.types false in
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := fun _ => iprop(emp))
    (hX := fun c => by
      rw [unscopedRest0_eq]
      unfold intoΦ MEM INS
      iintro ⟨⟨HA0, HA1, HA2, HV0, HV1⟩, HS, -, -, -⟩; imodintro
      isplitl [HA0 HA1 HA2 HV0 HV1 HS]
      · isplitl [HA0 HA1 HA2 HV0]
        · isplitl [HA0]; · iexact HA0
          isplitl [HV0]; · iexact HV0
          isplitl [HA1]; · iexact HA1
          iexact HA2
        isplitl [HV1]; · iexists _; iexact HV1
        iapply (own_sems (F := F) c); iexact HS
      iempintro)
    (hin := fun c => by
      rw [scopedRest0_eq, show (dats m 0 c).Φ 0 = Φ0 m c from rfl]
      unfold intoΦ Φ0 SCR
      iintro ⟨⟨HM, HF, HS⟩, HC⟩
      isplitl [HM]; · iexact HM
      isplitl [HF]; · iexact HF
      isplitl [HS]; · iexact HS
      iexact HC)
    (hout := fun c => by
      rw [scopedRest0_eq, show (dats m 0 c).Φ (Fin.last cfg0.N) = Φ1 m c from rfl]
      unfold outOfΦ Φ1 SCR
      iintro ⟨HM, HF, HS, HC⟩
      isplitl [HM HF]
      · isplitl [HM]; · iexact HM
        iexact HF
      isplitl [HS]; · iapply (sems_own (F := F) c); iexact HS
      iexact HC)
    (QY := QY m)
    (hY := fun c s' => by
      unfold outOfΦ MEM INS
      iintro ⟨⟨⟨HA0, HV0, HA1, HA2⟩, HF⟩, -, HSI⟩
      icombine HSI HA0 gives %h0
      icombine HSI HA1 gives %h1
      icombine HSI HA2 gives %h2
      icombine HSI HF gives %h3
      imodintro
      isplitr
      · ipureintro
        exact ⟨Buf.eq_of_forall_mem_univ h3, (Buf.eq_of_forall_mem_univ h0).trans (V_main_arg0 m c), (Buf.eq_of_forall_mem_univ h1).trans (V_main_arg1 m c),
          (Buf.eq_of_forall_mem_univ h2).trans (V_main_arg2 m c)⟩
      iexact HSI)
    (hQ := fun _ hh hz => ⟨fun c => (hh c).2, hz⟩)

end Run

end Cert.Kernel.P
-- ==== Proof.I.Prog.lean ====
/-  The kernel's loop body in a compact form: one pass of the matrix units, one pop of a strip, one decoded weight tile, and the four forms a step takes. -/
module

public import proofs.«01_k».proof.Proof.Gen.KernelIdeal.Skeleton

@[expose] public section

set_option maxRecDepth 65536

noncomputable section

namespace Cert.KernelIdeal.P

open Idealize.ShloMosaic Idealize.SL.Sem Cert.KernelIdeal.Gen

variable {F : FTy → Type} [FloatOps F]

/-! ## The decoded tile -/

/-- A 32-bit scalar's sign as the printed code computes it. -/
def sgn (x : BitVec 32) : BitVec 32 :=
  Scalar.subi (Scalar.extui (Scalar.cmpi .sgt x 0#32)) (Scalar.extui (Scalar.cmpi .slt x 0#32))

/-- The lane index of a `64 × 128` vector. -/
def lane : IVec S64x128 32 := iota .tc S64x128 32 [1] iota_S64x128_d1_w32

/-- The lane index of a `128 × 128` vector. -/
def lane2 : IVec S128x128 32 := iota .tc S128x128 32 [1] iota_S128x128_d1_w32

/-- Floor division of a lane index by a positive splat, as the printed code computes it. -/
def fdiv (s : Shape) (l : IVec s 32) (d : BitVec 32) : IVec s 32 :=
  select (andi (cmpi .ne (subi (extui 32 (cmpi .sgt l (broadcast s 0#32)) natLt_1_32)
        (extui 32 (cmpi .slt l (broadcast s 0#32)) natLt_1_32)) (broadcast s (sgn d)))
      (cmpi .ne (remsi l (broadcast s d)) (broadcast s 0#32)))
    (subi (divsi l (broadcast s d)) (broadcast s 1#32)) (divsi l (broadcast s d))

/-- An index into a row of 128 entries: the base plus an offset, a negative one wrapped once. -/
def wrapIdx (s : Shape) (b : BitVec 32) (x : IVec s 32) : IVec s 32 :=
  select (cmpi .slt (addi (broadcast s b) x) (broadcast s 0#32))
    (addi (addi (broadcast s b) x) (broadcast s 128#32)) (addi (broadcast s b) x)

/-- The four bits of a code and the constant beside them, as 32-bit words over pairs of rows. -/
def codeBits (src : IVec S64x128 32) (off : BitVec 32) : IVec S128x128 32 :=
  bitcast S128x128 32
    (addi (shli (extsi 16
        (bitcast S256x128 8
          (ori (andi (shrui
              (dynamicGather 1 src (shapeCast S64x128 (shapeCast S64x128x1 (wrapIdx S64x128 off (fdiv S64x128 lane 2#32))
                shapeCasts_S64x128_S64x128x1) shapeCasts_S64x128x1_S64x128))
              (muli (andi lane (broadcast S64x128 1#32)) (broadcast S64x128 4#32)))
            (broadcast S64x128 252645135#32)) (broadcast S64x128 1077952576#32))
          bitcasts_S64x128_w32_S256x128_w8) natLt_8_16) (broadcast S256x128 1#16))
      (broadcast S256x128 16896#16)) bitcasts_S256x128_w16_S128x128_w32

/-- A 32-bit word read as two bf16 of two rows. -/
def asBf (x : IVec S128x128 32) : FVec F S256x128 .bf16 :=
  bitcastToFloat .bf16 (bitcast S256x128 16 x bitcasts_S128x128_w32_S256x128_w16)

/-- The bf16 of exponent and top fraction bit of the code. -/
def normalOf (b : IVec S128x128 32) : FVec F S256x128 .bf16 :=
  asBf (addi (andi (shli b (broadcast S128x128 5#32)) (broadcast S128x128 29360576#32)) (broadcast S128x128 1056980736#32))

/-- The magnitude of the code. -/
def magOf (b : IVec S128x128 32) : FVec F S256x128 .bf16 :=
  minimumf (normalOf b) (subf (addf (normalOf b) (normalOf b)) (broadcast S256x128 (Scalar.ofBits .bf16 0x3F80#16)))

/-- One or minus one by the code's sign bit. -/
def signOf (b : IVec S128x128 32) : FVec F S256x128 .bf16 :=
  asBf (ori (andi (shli b (broadcast S128x128 11#32)) (broadcast S128x128 2147516416#32)) (broadcast S128x128 1065369472#32))

/-- The scale of each element of a column block. -/
def scaleOf (sw : IVec S128x128 32) (fb : BitVec 32) : FVec F S256x128 .bf16 :=
  asBf (dynamicGather 1 sw (shapeCast S128x128 (shapeCast S128x128x1 (wrapIdx S128x128 fb (fdiv S128x128 lane2 32#32))
    shapeCasts_S128x128_S128x128x1) shapeCasts_S128x128x1_S128x128))

/-- 128 columns of a decoded tile. -/
def decCol (src : IVec S64x128 32) (sw : IVec S128x128 32) (off fb : BitVec 32) : FVec F S256x128 .bf16 :=
  mulf (mulf (magOf (codeBits src off)) (signOf (codeBits src off))) (scaleOf sw fb)

/-- The scale bytes as words holding two bf16 of two rows, twice side by side. -/
def scaleWords (s : IVec S256x64 8) : IVec S128x128 32 :=
  concatenate S128x128 1
    [⟨S128x64, shli (bitcast S128x64 32 (extui 16 s natLt_8_16) bitcasts_S256x64_w16_S128x64_w32) (broadcast S128x64 7#32)⟩,
     ⟨S128x64, shli (bitcast S128x64 32 (extui 16 s natLt_8_16) bitcasts_S256x64_w16_S128x64_w32) (broadcast S128x64 7#32)⟩]
    concatenates_S128x64_S128x64_S128x128_d1

/-- The two halves of the code words. -/
def codeLo (c : IVec S256x256 8) : IVec S64x128 32 :=
  extractStridedSlice S64x128 ![0, 0] (bitcast S64x256 32 c bitcasts_S256x256_w8_S64x256_w32) slices_S64x256_o0_0_S64x128
def codeHi (c : IVec S256x256 8) : IVec S64x128 32 :=
  extractStridedSlice S64x128 ![0, 128] (bitcast S64x256 32 c bitcasts_S256x256_w8_S64x256_w32) slices_S64x256_o0_128_S64x128

/-- A decoded tile: 256 rows of the weight, 512 columns. -/
def decTile (c : IVec S256x256 8) (s : IVec S256x64 8) (fb : BitVec 32) : FVec F S256x512 .bf16 :=
  concatenate S256x512 1
    [⟨S256x128, decCol (codeLo c) (scaleWords s) 0#32 (Scalar.addi fb 0#32)⟩,
     ⟨S256x128, decCol (codeLo c) (scaleWords s) 64#32 (Scalar.addi fb 4#32)⟩,
     ⟨S256x128, decCol (codeHi c) (scaleWords s) 0#32 (Scalar.addi fb 8#32)⟩,
     ⟨S256x128, decCol (codeHi c) (scaleWords s) 64#32 (Scalar.addi fb 12#32)⟩]
    concatenates_S256x128_S256x128_S256x128_S256x128_S256x512_d1

/-! ## The pieces of a step -/

/-- A TensorCore program of this kernel. -/
abbrev TC (F : FTy → Type) [FloatOps F] (α : Type) := Prog (TpuEff nD τ sig (Elt F) Λ₀ .tc) α

section Pieces

variable (arg4 : Memref sig .tc .vmem S3x960x2048 .bf16) (arg5 : Memref sig .tc .vmem S2x2048x256 .i8)
  (arg6 : Memref sig .tc .vmem S2x2048x64 .i8) (arg7 : Memref sig .tc .vmem S64x256x512 .bf16) (harg7 : arg7.IsWhole)
  (arg8 : Memref sig .tc .vmem S960x512 .bf16) (harg8 : arg8.IsWhole)

/-- Reads a strip of the left operand. -/
def ldX (o : Fin 3 → ℕ) (h : ∀ a, o a + S1x240x256.size a ≤ S3x960x2048.size a) : TC F (FVec F S240x256 .bf16) := do
  let x : Vec F S1x240x256 .bf16 ← Prog.lift (.load arg4 (Rect.unit (s := S3x960x2048) o S1x240x256.size h).toLoadRect (View.loadsAt_vmem h_S1x240x256))
  pure (shapeCast S240x256 x shapeCasts_S1x240x256_S240x256)

/-- Reads half a weight tile. -/
def ldW (o : Fin 3 → ℕ) (h : ∀ a, o a + S1x256x256.size a ≤ S64x256x512.size a) : TC F (FVec F S256x256 .bf16) := do
  let x : Vec F S1x256x256 .bf16 ← Prog.lift (.load arg7 (Rect.unit (s := S64x256x512) o S1x256x256.size h).toLoadRect (View.loadsAt_vmem h_S1x256x256))
  pure (shapeCast S256x256 x shapeCasts_S1x256x256_S256x256)

/-- The first strip of a pass: load both registers `r`, stage the next weight tile in registers `r'`. -/
def strip0 (r r' : Fin 2) (o : Fin 3 → ℕ) (h : ∀ a, o a + S1x240x256.size a ≤ S3x960x2048.size a)
    (w0 : Fin 3 → ℕ) (g0 : ∀ a, w0 a + S1x256x256.size a ≤ S64x256x512.size a)
    (w1 : Fin 3 → ℕ) (g1 : ∀ a, w1 a + S1x256x256.size a ≤ S64x256x512.size a) (s : Mxu F) : TC F (Mxu F) := do
  let x ← ldX arg4 o h
  let y0 ← ldW arg7 w0 g0
  let s2 ← ((s.accLhs 0 r 0 x fits_0_240).accLhs 1 r 0 x fits_0_240).pushRhs 0 r' false y0
  let y1 ← ldW arg7 w1 g1
  s2.pushRhs 1 r' false y1

/-- A later strip of a pass. -/
def stripA (A : ℕ) (f : Mxu.Fits A 240) (o : Fin 3 → ℕ) (h : ∀ a, o a + S1x240x256.size a ≤ S3x960x2048.size a) (s : Mxu F) : TC F (Mxu F) := do
  let x ← ldX arg4 o h
  let s1 ← s.accLhsLoaded 0 A x f
  s1.accLhsLoaded 1 A x f

/-- One pass. -/
def passP (r r' : Fin 2)
    (o0 : Fin 3 → ℕ) (h0 : ∀ a, o0 a + S1x240x256.size a ≤ S3x960x2048.size a)
    (o1 : Fin 3 → ℕ) (h1 : ∀ a, o1 a + S1x240x256.size a ≤ S3x960x2048.size a)
    (o2 : Fin 3 → ℕ) (h2 : ∀ a, o2 a + S1x240x256.size a ≤ S3x960x2048.size a)
    (o3 : Fin 3 → ℕ) (h3 : ∀ a, o3 a + S1x240x256.size a ≤ S3x960x2048.size a)
    (w0 : Fin 3 → ℕ) (g0 : ∀ a, w0 a + S1x256x256.size a ≤ S64x256x512.size a)
    (w1 : Fin 3 → ℕ) (g1 : ∀ a, w1 a + S1x256x256.size a ≤ S64x256x512.size a) (s : Mxu F) : TC F (Mxu F) := do
  let s ← strip0 arg4 arg7 r r' o0 h0 w0 g0 w1 g1 s
  let s ← stripA arg4 60 fits_60_240 o1 h1 s
  let s ← stripA arg4 120 fits_120_240 o2 h2 s
  stripA arg4 180 fits_180_240 o3 h3 s

/-- Pops a strip of one unit into a block of the result buffer. -/
def popQ (q : Fin 2) (A : ℕ) (f : Mxu.Fits A 240) (o : Fin 2 → ℕ) (h : ∀ a, o a + S240x256.size a ≤ S960x512.size a)
    (hp : (Rect.unit (s := S960x512) o S240x256.size h).PackedRows (EltTy.packing .bf16)) (s : Mxu F) : TC F (Mxu F) := do
  let _x : Vec F S240x256 .bf16 ← Prog.lift (.load arg8 (Rect.unit (s := S960x512) o S240x256.size h).toLoadRect (View.loadsAt_vmem h_S240x256))
  Prog.lift (.store arg8 (Rect.unit (s := S960x512) o S240x256.size h)
    (shapeCast S240x256 (truncf .bf16 (s.read q A f) bitsLt_bf16_f32) shapeCasts_S240x256_S240x256) Finset.univ
    (View.stores_vmem h_S240x256 (harg8.storeExact_slice rfl _ hp) (fun _ => rfl)) (.inl rfl))
  pure (s.pop q A 240 f)

/-- Pops strip 0, 1, 2, 3 of both units. -/
def pop0 (s : Mxu F) : TC F (Mxu F) := do
  let s ← popQ arg8 harg8 0 0 fits_0_240 ![0, 0] inb_S960x512_S240x256_0_0 packedbf16_S960x512_S240x256_0_0 s
  popQ arg8 harg8 1 0 fits_0_240 ![0, 256] inb_S960x512_S240x256_0_256 packedbf16_S960x512_S240x256_0_256 s
def pop1 (s : Mxu F) : TC F (Mxu F) := do
  let s ← popQ arg8 harg8 0 60 fits_60_240 ![240, 0] inb_S960x512_S240x256_240_0 packedbf16_S960x512_S240x256_240_0 s
  popQ arg8 harg8 1 60 fits_60_240 ![240, 256] inb_S960x512_S240x256_240_256 packedbf16_S960x512_S240x256_240_256 s
def pop2 (s : Mxu F) : TC F (Mxu F) := do
  let s ← popQ arg8 harg8 0 120 fits_120_240 ![480, 0] inb_S960x512_S240x256_480_0 packedbf16_S960x512_S240x256_480_0 s
  popQ arg8 harg8 1 120 fits_120_240 ![480, 256] inb_S960x512_S240x256_480_256 packedbf16_S960x512_S240x256_480_256 s
def pop3 (s : Mxu F) : TC F (Mxu F) := do
  let s ← popQ arg8 harg8 0 180 fits_180_240 ![720, 0] inb_S960x512_S240x256_720_0 packedbf16_S960x512_S240x256_720_0 s
  popQ arg8 harg8 1 180 fits_180_240 ![720, 256] inb_S960x512_S240x256_720_256 packedbf16_S960x512_S240x256_720_256 s

/-- The first pass of a tile: each strip of the tile before is popped just before it is written anew. -/
def popPassP
    (o0 : Fin 3 → ℕ) (h0 : ∀ a, o0 a + S1x240x256.size a ≤ S3x960x2048.size a)
    (o1 : Fin 3 → ℕ) (h1 : ∀ a, o1 a + S1x240x256.size a ≤ S3x960x2048.size a)
    (o2 : Fin 3 → ℕ) (h2 : ∀ a, o2 a + S1x240x256.size a ≤ S3x960x2048.size a)
    (o3 : Fin 3 → ℕ) (h3 : ∀ a, o3 a + S1x240x256.size a ≤ S3x960x2048.size a)
    (w0 : Fin 3 → ℕ) (g0 : ∀ a, w0 a + S1x256x256.size a ≤ S64x256x512.size a)
    (w1 : Fin 3 → ℕ) (g1 : ∀ a, w1 a + S1x256x256.size a ≤ S64x256x512.size a) (s : Mxu F) : TC F (Mxu F) := do
  let s ← pop0 arg8 harg8 s
  let s ← strip0 arg4 arg7 0 1 o0 h0 w0 g0 w1 g1 s
  let s ← pop1 arg8 harg8 s
  let s ← stripA arg4 60 fits_60_240 o1 h1 s
  let s ← pop2 arg8 harg8 s
  let s ← stripA arg4 120 fits_120_240 o2 h2 s
  let s ← pop3 arg8 harg8 s
  stripA arg4 180 fits_180_240 o3 h3 s

/-- Decodes one tile of the weight. -/
def decP (oc : Fin 3 → ℕ) (hc : ∀ a, oc a + S1x256x256.size a ≤ S2x2048x256.size a)
    (os : Fin 3 → ℕ) (hs : ∀ a, os a + S1x256x64.size a ≤ S2x2048x64.size a)
    (ow : Fin 3 → ℕ) (hw : ∀ a, ow a + S1x256x512.size a ≤ S64x256x512.size a)
    (hp : (Rect.unit (s := S64x256x512) ow S1x256x512.size hw).PackedRows (EltTy.packing .bf16)) (fb : BitVec 32) : TC F PUnit := do
  let c : Vec F S1x256x256 .i8 ← Prog.lift (.load arg5 (Rect.unit (s := S2x2048x256) oc S1x256x256.size hc).toLoadRect (View.loadsAt_vmem h_S1x256x256))
  let sc : Vec F S1x256x64 .i8 ← Prog.lift (.load arg6 (Rect.unit (s := S2x2048x64) os S1x256x64.size hs).toLoadRect (View.loadsAt_vmem h_S1x256x64))
  let _x : Vec F S1x256x512 .bf16 ← Prog.lift (.load arg7 (Rect.unit (s := S64x256x512) ow S1x256x512.size hw).toLoadRect (View.loadsAt_vmem h_S1x256x512))
  Prog.lift (.store arg7 (Rect.unit (s := S64x256x512) ow S1x256x512.size hw)
    (shapeCast S1x256x512 (decTile (shapeCast S256x256 c shapeCasts_S1x256x256_S256x256) (shapeCast S256x64 sc shapeCasts_S1x256x64_S256x64) fb) shapeCasts_S256x512_S1x256x512)
    Finset.univ (View.stores_vmem h_S1x256x512 (harg7.storeExact_slice rfl _ hp) (fun _ => rfl)) (.inl rfl))

/-- The first scale block of the weight chunk that step `a` decodes. -/
def fbOf (a : BitVec 32) : BitVec 32 :=
  Scalar.muli (Scalar.divsi (Scalar.addi (Scalar.muli (Scalar.divsi (Scalar.addi a 1#32) 64#32) 8#32)
    (Scalar.remsi (Scalar.addi a 1#32) 8#32)) 8#32) 16#32

/-- A step that neither pops nor decodes. -/
def branch6 (k : Fin k0_t1_loop.trips) (h : k0_cond6 k = 1#1) (s : Mxu F) : TC F (Mxu F) := do
  let s ← passP arg4 arg7 0 1 (k0_off44 k) (k0_off44_inb k h) (k0_off47 k) (k0_off47_inb k h) (k0_off48 k) (k0_off48_inb k h) (k0_off49 k) (k0_off49_inb k h) (k0_off45 k 0#32) (k0_off45_inb k h 0) (k0_off46 k 0#32) (k0_off46_inb k h 0) s
  let s ← passP arg4 arg7 1 0 (k0_off50 k) (k0_off50_inb k h) (k0_off51 k) (k0_off51_inb k h) (k0_off52 k) (k0_off52_inb k h) (k0_off53 k) (k0_off53_inb k h) (k0_off45 k 1#32) (k0_off45_inb k h 1) (k0_off46 k 1#32) (k0_off46_inb k h 1) s
  let s ← passP arg4 arg7 0 1 (k0_off54 k) (k0_off54_inb k h) (k0_off55 k) (k0_off55_inb k h) (k0_off56 k) (k0_off56_inb k h) (k0_off57 k) (k0_off57_inb k h) (k0_off45 k 2#32) (k0_off45_inb k h 2) (k0_off46 k 2#32) (k0_off46_inb k h 2) s
  let s ← passP arg4 arg7 1 0 (k0_off58 k) (k0_off58_inb k h) (k0_off59 k) (k0_off59_inb k h) (k0_off60 k) (k0_off60_inb k h) (k0_off61 k) (k0_off61_inb k h) (k0_off45 k 3#32) (k0_off45_inb k h 3) (k0_off46 k 3#32) (k0_off46_inb k h 3) s
  let s ← passP arg4 arg7 0 1 (k0_off62 k) (k0_off62_inb k h) (k0_off63 k) (k0_off63_inb k h) (k0_off64 k) (k0_off64_inb k h) (k0_off65 k) (k0_off65_inb k h) (k0_off45 k 4#32) (k0_off45_inb k h 4) (k0_off46 k 4#32) (k0_off46_inb k h 4) s
  let s ← passP arg4 arg7 1 0 (k0_off66 k) (k0_off66_inb k h) (k0_off67 k) (k0_off67_inb k h) (k0_off68 k) (k0_off68_inb k h) (k0_off69 k) (k0_off69_inb k h) (k0_off45 k 5#32) (k0_off45_inb k h 5) (k0_off46 k 5#32) (k0_off46_inb k h 5) s
  let s ← passP arg4 arg7 0 1 (k0_off70 k) (k0_off70_inb k h) (k0_off71 k) (k0_off71_inb k h) (k0_off72 k) (k0_off72_inb k h) (k0_off73 k) (k0_off73_inb k h) (k0_off45 k 6#32) (k0_off45_inb k h 6) (k0_off46 k 6#32) (k0_off46_inb k h 6) s
  passP arg4 arg7 1 0 (k0_off74 k) (k0_off74_inb k h) (k0_off75 k) (k0_off75_inb k h) (k0_off76 k) (k0_off76_inb k h) (k0_off77 k) (k0_off77_inb k h) (k0_off45 k 7#32) (k0_off45_inb k h 7) (k0_off46 k 7#32) (k0_off46_inb k h 7) s

/-- A step that pops the tile before. -/
def branch7 (k : Fin k0_t1_loop.trips) (h : k0_cond7 k = 1#1) (s : Mxu F) : TC F (Mxu F) := do
  let s ← popPassP arg4 arg7 arg8 harg8 (k0_off78 k) (k0_off78_inb k h) (k0_off81 k) (k0_off81_inb k h) (k0_off82 k) (k0_off82_inb k h) (k0_off83 k) (k0_off83_inb k h) (k0_off79 k 0#32) (k0_off79_inb k h 0) (k0_off80 k 0#32) (k0_off80_inb k h 0) s
  let s ← passP arg4 arg7 1 0 (k0_off84 k) (k0_off84_inb k h) (k0_off85 k) (k0_off85_inb k h) (k0_off86 k) (k0_off86_inb k h) (k0_off87 k) (k0_off87_inb k h) (k0_off79 k 1#32) (k0_off79_inb k h 1) (k0_off80 k 1#32) (k0_off80_inb k h 1) s
  let s ← passP arg4 arg7 0 1 (k0_off88 k) (k0_off88_inb k h) (k0_off89 k) (k0_off89_inb k h) (k0_off90 k) (k0_off90_inb k h) (k0_off91 k) (k0_off91_inb k h) (k0_off79 k 2#32) (k0_off79_inb k h 2) (k0_off80 k 2#32) (k0_off80_inb k h 2) s
  let s ← passP arg4 arg7 1 0 (k0_off92 k) (k0_off92_inb k h) (k0_off93 k) (k0_off93_inb k h) (k0_off94 k) (k0_off94_inb k h) (k0_off95 k) (k0_off95_inb k h) (k0_off79 k 3#32) (k0_off79_inb k h 3) (k0_off80 k 3#32) (k0_off80_inb k h 3) s
  let s ← passP arg4 arg7 0 1 (k0_off96 k) (k0_off96_inb k h) (k0_off97 k) (k0_off97_inb k h) (k0_off98 k) (k0_off98_inb k h) (k0_off99 k) (k0_off99_inb k h) (k0_off79 k 4#32) (k0_off79_inb k h 4) (k0_off80 k 4#32) (k0_off80_inb k h 4) s
  let s ← passP arg4 arg7 1 0 (k0_off100 k) (k0_off100_inb k h) (k0_off101 k) (k0_off101_inb k h) (k0_off102 k) (k0_off102_inb k h) (k0_off103 k) (k0_off103_inb k h) (k0_off79 k 5#32) (k0_off79_inb k h 5) (k0_off80 k 5#32) (k0_off80_inb k h 5) s
  let s ← passP arg4 arg7 0 1 (k0_off104 k) (k0_off104_inb k h) (k0_off105 k) (k0_off105_inb k h) (k0_off106 k) (k0_off106_inb k h) (k0_off107 k) (k0_off107_inb k h) (k0_off79 k 6#32) (k0_off79_inb k h 6) (k0_off80 k 6#32) (k0_off80_inb k h 6) s
  passP arg4 arg7 1 0 (k0_off108 k) (k0_off108_inb k h) (k0_off109 k) (k0_off109_inb k h) (k0_off110 k) (k0_off110_inb k h) (k0_off111 k) (k0_off111_inb k h) (k0_off79 k 7#32) (k0_off79_inb k h 7) (k0_off80 k 7#32) (k0_off80_inb k h 7) s

/-- A step that decodes weights. -/
def branch8 (k : Fin k0_t1_loop.trips) (h : k0_cond8 k = 1#1) (a : BitVec 32) (s : Mxu F) : TC F (Mxu F) := do
  let s ← passP arg4 arg7 0 1 (k0_off112 k) (k0_off112_inb k h) (k0_off115 k) (k0_off115_inb k h) (k0_off116 k) (k0_off116_inb k h) (k0_off117 k) (k0_off117_inb k h) (k0_off113 k 0#32) (k0_off113_inb k h 0) (k0_off114 k 0#32) (k0_off114_inb k h 0) s
  decP arg5 arg6 arg7 harg7 (k0_off118 k) (k0_off118_inb k h) (k0_off119 k) (k0_off119_inb k h) (k0_off120 k 0#32) (k0_off120_inb k h 0) (k0_off120_packedbf16 k h 0) (fbOf a)
  let s ← passP arg4 arg7 1 0 (k0_off121 k) (k0_off121_inb k h) (k0_off122 k) (k0_off122_inb k h) (k0_off123 k) (k0_off123_inb k h) (k0_off124 k) (k0_off124_inb k h) (k0_off113 k 1#32) (k0_off113_inb k h 1) (k0_off114 k 1#32) (k0_off114_inb k h 1) s
  decP arg5 arg6 arg7 harg7 (k0_off125 k) (k0_off125_inb k h) (k0_off126 k) (k0_off126_inb k h) (k0_off120 k 1#32) (k0_off120_inb k h 1) (k0_off120_packedbf16 k h 1) (fbOf a)
  let s ← passP arg4 arg7 0 1 (k0_off127 k) (k0_off127_inb k h) (k0_off128 k) (k0_off128_inb k h) (k0_off129 k) (k0_off129_inb k h) (k0_off130 k) (k0_off130_inb k h) (k0_off113 k 2#32) (k0_off113_inb k h 2) (k0_off114 k 2#32) (k0_off114_inb k h 2) s
  decP arg5 arg6 arg7 harg7 (k0_off131 k) (k0_off131_inb k h) (k0_off132 k) (k0_off132_inb k h) (k0_off120 k 2#32) (k0_off120_inb k h 2) (k0_off120_packedbf16 k h 2) (fbOf a)
  let s ← passP arg4 arg7 1 0 (k0_off133 k) (k0_off133_inb k h) (k0_off134 k) (k0_off134_inb k h) (k0_off135 k) (k0_off135_inb k h) (k0_off136 k) (k0_off136_inb k h) (k0_off113 k 3#32) (k0_off113_inb k h 3) (k0_off114 k 3#32) (k0_off114_inb k h 3) s
  decP arg5 arg6 arg7 harg7 (k0_off137 k) (k0_off137_inb k h) (k0_off138 k) (k0_off138_inb k h) (k0_off120 k 3#32) (k0_off120_inb k h 3) (k0_off120_packedbf16 k h 3) (fbOf a)
  let s ← passP arg4 arg7 0 1 (k0_off139 k) (k0_off139_inb k h) (k0_off140 k) (k0_off140_inb k h) (k0_off141 k) (k0_off141_inb k h) (k0_off142 k) (k0_off142_inb k h) (k0_off113 k 4#32) (k0_off113_inb k h 4) (k0_off114 k 4#32) (k0_off114_inb k h 4) s
  decP arg5 arg6 arg7 harg7 (k0_off143 k) (k0_off143_inb k h) (k0_off144 k) (k0_off144_inb k h) (k0_off120 k 4#32) (k0_off120_inb k h 4) (k0_off120_packedbf16 k h 4) (fbOf a)
  let s ← passP arg4 arg7 1 0 (k0_off145 k) (k0_off145_inb k h) (k0_off146 k) (k0_off146_inb k h) (k0_off147 k) (k0_off147_inb k h) (k0_off148 k) (k0_off148_inb k h) (k0_off113 k 5#32) (k0_off113_inb k h 5) (k0_off114 k 5#32) (k0_off114_inb k h 5) s
  decP arg5 arg6 arg7 harg7 (k0_off149 k) (k0_off149_inb k h) (k0_off150 k) (k0_off150_inb k h) (k0_off120 k 5#32) (k0_off120_inb k h 5) (k0_off120_packedbf16 k h 5) (fbOf a)
  let s ← passP arg4 arg7 0 1 (k0_off151 k) (k0_off151_inb k h) (k0_off152 k) (k0_off152_inb k h) (k0_off153 k) (k0_off153_inb k h) (k0_off154 k) (k0_off154_inb k h) (k0_off113 k 6#32) (k0_off113_inb k h 6) (k0_off114 k 6#32) (k0_off114_inb k h 6) s
  decP arg5 arg6 arg7 harg7 (k0_off155 k) (k0_off155_inb k h) (k0_off156 k) (k0_off156_inb k h) (k0_off120 k 6#32) (k0_off120_inb k h 6) (k0_off120_packedbf16 k h 6) (fbOf a)
  let s ← passP arg4 arg7 1 0 (k0_off157 k) (k0_off157_inb k h) (k0_off158 k) (k0_off158_inb k h) (k0_off159 k) (k0_off159_inb k h) (k0_off160 k) (k0_off160_inb k h) (k0_off113 k 7#32) (k0_off113_inb k h 7) (k0_off114 k 7#32) (k0_off114_inb k h 7) s
  decP arg5 arg6 arg7 harg7 (k0_off161 k) (k0_off161_inb k h) (k0_off162 k) (k0_off162_inb k h) (k0_off120 k 7#32) (k0_off120_inb k h 7) (k0_off120_packedbf16 k h 7) (fbOf a)
  pure s

/-- A step that pops the tile before and decodes weights. -/
def branch9 (k : Fin k0_t1_loop.trips) (h : k0_cond9 k = 1#1) (a : BitVec 32) (s : Mxu F) : TC F (Mxu F) := do
  let s ← popPassP arg4 arg7 arg8 harg8 (k0_off163 k) (k0_off163_inb k h) (k0_off166 k) (k0_off166_inb k h) (k0_off167 k) (k0_off167_inb k h) (k0_off168 k) (k0_off168_inb k h) (k0_off164 k 0#32) (k0_off164_inb k h 0) (k0_off165 k 0#32) (k0_off165_inb k h 0) s
  decP arg5 arg6 arg7 harg7 (k0_off169 k) (k0_off169_inb k h) (k0_off170 k) (k0_off170_inb k h) (k0_off171 k 0#32) (k0_off171_inb k h 0) (k0_off171_packedbf16 k h 0) (fbOf a)
  let s ← passP arg4 arg7 1 0 (k0_off172 k) (k0_off172_inb k h) (k0_off173 k) (k0_off173_inb k h) (k0_off174 k) (k0_off174_inb k h) (k0_off175 k) (k0_off175_inb k h) (k0_off164 k 1#32) (k0_off164_inb k h 1) (k0_off165 k 1#32) (k0_off165_inb k h 1) s
  decP arg5 arg6 arg7 harg7 (k0_off176 k) (k0_off176_inb k h) (k0_off177 k) (k0_off177_inb k h) (k0_off171 k 1#32) (k0_off171_inb k h 1) (k0_off171_packedbf16 k h 1) (fbOf a)
  let s ← passP arg4 arg7 0 1 (k0_off178 k) (k0_off178_inb k h) (k0_off179 k) (k0_off179_inb k h) (k0_off180 k) (k0_off180_inb k h) (k0_off181 k) (k0_off181_inb k h) (k0_off164 k 2#32) (k0_off164_inb k h 2) (k0_off165 k 2#32) (k0_off165_inb k h 2) s
  decP arg5 arg6 arg7 harg7 (k0_off182 k) (k0_off182_inb k h) (k0_off183 k) (k0_off183_inb k h) (k0_off171 k 2#32) (k0_off171_inb k h 2) (k0_off171_packedbf16 k h 2) (fbOf a)
  let s ← passP arg4 arg7 1 0 (k0_off184 k) (k0_off184_inb k h) (k0_off185 k) (k0_off185_inb k h) (k0_off186 k) (k0_off186_inb k h) (k0_off187 k) (k0_off187_inb k h) (k0_off164 k 3#32) (k0_off164_inb k h 3) (k0_off165 k 3#32) (k0_off165_inb k h 3) s
  decP arg5 arg6 arg7 harg7 (k0_off188 k) (k0_off188_inb k h) (k0_off189 k) (k0_off189_inb k h) (k0_off171 k 3#32) (k0_off171_inb k h 3) (k0_off171_packedbf16 k h 3) (fbOf a)
  let s ← passP arg4 arg7 0 1 (k0_off190 k) (k0_off190_inb k h) (k0_off191 k) (k0_off191_inb k h) (k0_off192 k) (k0_off192_inb k h) (k0_off193 k) (k0_off193_inb k h) (k0_off164 k 4#32) (k0_off164_inb k h 4) (k0_off165 k 4#32) (k0_off165_inb k h 4) s
  decP arg5 arg6 arg7 harg7 (k0_off194 k) (k0_off194_inb k h) (k0_off195 k) (k0_off195_inb k h) (k0_off171 k 4#32) (k0_off171_inb k h 4) (k0_off171_packedbf16 k h 4) (fbOf a)
  let s ← passP arg4 arg7 1 0 (k0_off196 k) (k0_off196_inb k h) (k0_off197 k) (k0_off197_inb k h) (k0_off198 k) (k0_off198_inb k h) (k0_off199 k) (k0_off199_inb k h) (k0_off164 k 5#32) (k0_off164_inb k h 5) (k0_off165 k 5#32) (k0_off165_inb k h 5) s
  decP arg5 arg6 arg7 harg7 (k0_off200 k) (k0_off200_inb k h) (k0_off201 k) (k0_off201_inb k h) (k0_off171 k 5#32) (k0_off171_inb k h 5) (k0_off171_packedbf16 k h 5) (fbOf a)
  let s ← passP arg4 arg7 0 1 (k0_off202 k) (k0_off202_inb k h) (k0_off203 k) (k0_off203_inb k h) (k0_off204 k) (k0_off204_inb k h) (k0_off205 k) (k0_off205_inb k h) (k0_off164 k 6#32) (k0_off164_inb k h 6) (k0_off165 k 6#32) (k0_off165_inb k h 6) s
  decP arg5 arg6 arg7 harg7 (k0_off206 k) (k0_off206_inb k h) (k0_off207 k) (k0_off207_inb k h) (k0_off171 k 6#32) (k0_off171_inb k h 6) (k0_off171_packedbf16 k h 6) (fbOf a)
  let s ← passP arg4 arg7 1 0 (k0_off208 k) (k0_off208_inb k h) (k0_off209 k) (k0_off209_inb k h) (k0_off210 k) (k0_off210_inb k h) (k0_off211 k) (k0_off211_inb k h) (k0_off164 k 7#32) (k0_off164_inb k h 7) (k0_off165 k 7#32) (k0_off165_inb k h 7) s
  decP arg5 arg6 arg7 harg7 (k0_off212 k) (k0_off212_inb k h) (k0_off213 k) (k0_off213_inb k h) (k0_off171 k 7#32) (k0_off171_inb k h 7) (k0_off171_packedbf16 k h 7) (fbOf a)
  pure s

end Pieces

end Cert.KernelIdeal.P
-- ==== Proof.I.Mx.lean ====
/-  The state of the two matrix units between the pieces of a step: which registers hold which tile, which of the four strips are live, and what they sum to. -/
module

public import proofs.«01_k».proof.Proof.I.Prog
public import Idealize.ShloMosaic.Lib.Mxu.Lemmas

@[expose] public section

noncomputable section

namespace Cert.KernelIdeal.P

open Idealize.ShloMosaic Idealize.ShloMosaic.Mxu Idealize.SL.Sem Cert.KernelIdeal.Gen

variable {F : FTy → Type} [FloatOps F]

/-- A strip of the left operand, a half weight tile, and a strip of sums. -/
abbrev XV (F : FTy → Type) [FloatOps F] := FVec F S240x256 .bf16
abbrev WV (F : FTy → Type) [FloatOps F] := FVec F S256x256 .bf16
abbrev AV (F : FTy → Type) [FloatOps F] := FVec F S240x256 .f32

/-- The staged form of a half tile. -/
def stg (w : WV F) : Staged F := ⟨.bf16, false, w⟩

/-- Strip `i` fits. -/
theorem fitI (i : Fin 4) : Fits (60 * i.val) 240 := by
  have := i.isLt
  fin_cases i
  · exact fits_0_240
  · exact fits_60_240
  · exact fits_120_240
  · exact fits_180_240

/-- A function of a unit and an index, changed at one place. -/
def up2 {α : Type} {n : ℕ} (f : Fin 2 → Fin n → α) (q : Fin 2) (i : Fin n) (v : α) : Fin 2 → Fin n → α :=
  fun q' i' => if q' = q ∧ i' = i then v else f q' i'

/-- A pass deposited into a strip. -/
def dep (b : Bool) (a x : AV F) : AV F := if b then addf a x else x

/-- The units hold the tiles `R` in their registers; strip `i` of unit `q` is live as `lv` says and holds `A`; no row past the strips is live. -/
structure MG (s : Mxu F) (R : Fin 2 → Fin 2 → Option (Staged F)) (lv : Fin 2 → Fin 4 → Bool) (A : Fin 2 → Fin 4 → AV F) : Prop where
  reg : ∀ q r, s.reg q r = R q r
  hi : ∀ q (x : Fin 1024), 960 ≤ x.val → s.live q x = false
  live : ∀ q i (x : Fin 240), s.live q (row (fitI i) x) = lv q i
  rd : ∀ q i, s.read q (60 * i.val) (fitI i) = A q i

variable {s : Mxu F} {R R' : Fin 2 → Fin 2 → Option (Staged F)} {lv lv' : Fin 2 → Fin 4 → Bool} {A A' : Fin 2 → Fin 4 → AV F}

theorem MG.congr (h : MG s R lv A) (hR : ∀ q r, R q r = R' q r) (hl : ∀ q i, lv q i = lv' q i) (hA : ∀ q i, A q i = A' q i) :
    MG s R' lv' A' where
  reg q r := by rw [h.reg, hR]
  hi := h.hi
  live q i x := by rw [h.live, hl]
  rd q i := by rw [h.rd q i, hA q i]

theorem row_lt (i : Fin 4) (x : Fin 240) : (row (fitI i) x).val = 4 * (60 * i.val) + x.val := rfl

/-- Accumulating into a strip deposits the pass there. -/
theorem MG.accBy (h : MG s R lv A) (q : Fin 2) (i : Fin 4) (t : Staged F) (x : XV F) :
    MG (s.accBy q t (60 * i.val) x (fitI i)) R (up2 lv q i true) (up2 A q i (dep (lv q i) (A q i) (t.pass x))) where
  reg q' r := by rw [reg_accBy, h.reg]
  hi q' y hy := by
    have := i.isLt
    rw [live_accBy, if_neg (by omega), h.hi q' y hy]
  live q' i' y := by
    have := y.isLt
    rw [live_accBy, row_lt, up2]
    by_cases hq : q' = q ∧ i' = i
    · rw [if_pos hq, if_pos]; rcases hq with ⟨rfl, rfl⟩; exact ⟨rfl, by omega, by omega⟩
    · rw [if_neg hq, if_neg, h.live]
      rintro ⟨rfl, h1, h2⟩; exact hq ⟨rfl, Fin.ext (by omega)⟩
  rd q' i' := by
    by_cases hq : q' = q ∧ i' = i
    · rcases hq with ⟨rfl, rfl⟩
      rw [up2, if_pos ⟨rfl, rfl⟩]
      cases hlv : lv q' i'
      · rw [read_accBy_of_not_live _ _ _ _ _ _ (fun y => by rw [h.live, hlv])]; rfl
      · rw [read_accBy_of_live _ _ _ _ _ _ (fun y => by rw [h.live, hlv]), h.rd]; rfl
    · rw [up2, if_neg hq]
      rw [read_accBy_ne, h.rd]
      by_cases hqq : q' = q
      · subst hqq
        have : i'.val ≠ i.val := fun e => hq ⟨rfl, Fin.ext e⟩
        omega
      · exact .inl hqq

theorem accLhs_eq (h : MG s R lv A) (q r : Fin 2) (i : Fin 4) (t : Staged F) (ht : R q r = some t) (x : XV F) : s.staged q r = t := by
  have : s.reg q r = some t := by rw [h.reg, ht]
  rw [staged_eq, this]; rfl

/-- The same, loading a register. -/
theorem MG.accLhs (h : MG s R lv A) (q r : Fin 2) (i : Fin 4) (t : Staged F) (ht : R q r = some t) (x : XV F) :
    MG (s.accLhs q r (60 * i.val) x (fitI i)) (up2 R q r none) (up2 lv q i true) (up2 A q i (dep (lv q i) (A q i) (t.pass x))) where
  reg q' r' := by
    by_cases hq : q' = q ∧ r' = r
    · rcases hq with ⟨rfl, rfl⟩; rw [reg_accLhs, up2, if_pos ⟨rfl, rfl⟩]
    · rw [reg_accLhs_ne _ _ _ _ _ _ _ _ hq, up2, if_neg hq, h.reg]
  hi q' y hy := by
    have := (h.accBy q i t x).hi q' y hy
    rwa [live_accBy] at this
  live q' i' y := by
    have := (h.accBy q i t x).live q' i' y
    rwa [live_accBy] at this
  rd q' i' := by
    have := (h.accBy q i t x).rd q' i'
    rw [read_accLhs_eq_accBy, accLhs_eq h q r i t ht x]; exact this

theorem gmr_accLhs' (h : MG s R lv A) (q r : Fin 2) (i : Fin 4) (t : Staged F) (ht : R q r = some t) (x : XV F) :
    (s.accLhs q r (60 * i.val) x (fitI i)).gmr q = some t := by
  rw [gmr_accLhs, accLhs_eq h q r i t ht x]

/-- Pushing a half tile onto an empty register. -/
theorem MG.pushed (h : MG s R lv A) (q r : Fin 2) (hn : R q r = none) (w : WV F) :
    MG (s.pushed q r false w) (up2 R q r (some (stg w))) lv A where
  reg q' r' := by
    by_cases hq : q' = q ∧ r' = r
    · rcases hq with ⟨rfl, rfl⟩; rw [reg_pushed_of_none _ _ _ _ _ (by rw [h.reg, hn]), up2, if_pos ⟨rfl, rfl⟩]; rfl
    · rw [reg_pushed_ne _ _ _ _ _ _ _ hq, up2, if_neg hq, h.reg]
  hi q' y hy := by rw [live_pushed, h.hi q' y hy]
  live q' i' y := by rw [live_pushed, h.live]
  rd q' i' := by rw [read_pushed, h.rd]

/-- Popping a strip. -/
theorem MG.pop (h : MG s R lv A) (q : Fin 2) (i : Fin 4) :
    MG (s.pop q (60 * i.val) 240 (fitI i)) R (up2 lv q i false) (up2 A q i (constant _ .f32 0)) where
  reg q' r := by rw [reg_pop, h.reg]
  hi q' y hy := by
    have := i.isLt
    rw [live_pop, if_neg (by omega), h.hi q' y hy]
  live q' i' y := by
    have := y.isLt
    rw [live_pop, row_lt, up2]
    by_cases hq : q' = q ∧ i' = i
    · rw [if_pos hq, if_pos]; rcases hq with ⟨rfl, rfl⟩; exact ⟨rfl, by omega, by omega⟩
    · rw [if_neg hq, if_neg, h.live]
      rintro ⟨rfl, h1, h2⟩; exact hq ⟨rfl, Fin.ext (by omega)⟩
  rd q' i' := by
    by_cases hq : q' = q ∧ i' = i
    · rcases hq with ⟨rfl, rfl⟩; rw [up2, if_pos ⟨rfl, rfl⟩, read_pop]
    · rw [up2, if_neg hq]
      rw [read_pop_ne, h.rd]
      by_cases hqq : q' = q
      · subst hqq
        have : i'.val ≠ i.val := fun e => hq ⟨rfl, Fin.ext e⟩
        omega
      · exact .inl hqq

/-- The fresh state: nothing staged, nothing live. -/
theorem MG.init : MG (Mxu.init : Mxu F) (fun _ _ => none) (fun _ _ => false) (fun _ _ => constant _ .f32 0) where
  reg q r := reg_init q r
  hi q y _ := live_init q y
  live q i y := live_init q _
  rd q i := read_init q _ _

/-- Where nothing is staged and nothing is live, the state is drained. -/
theorem MG.drained (h : MG s (fun _ _ => none) (fun _ _ => false) A) : s.Drained := by
  have hl : ∀ q (x : Fin 1024), s.live q x = false := by
    intro q x
    by_cases hx : 960 ≤ x.val
    · exact h.hi q x hx
    · have := h.live q ⟨x.val / 240, by omega⟩ ⟨x.val % 240, by omega⟩
      rw [← this]; congr 1; exact Fin.ext (by rw [row_lt]; show x.val = 4 * (60 * (x.val / 240)) + x.val % 240; omega)
  exact ⟨fun q r => by rw [h.reg]; rfl, hl⟩

end Cert.KernelIdeal.P
-- ==== Proof.I.Mem.lean ====
/-  What the pieces of a step do to the memory they touch: reading a strip or a half tile, storing a popped strip, decoding a tile. -/
module

public import proofs.«01_k».proof.Proof.I.Mx
public import Idealize.ShloMosaic.Lib.Pipeline.KitQuiescent
public import Idealize.ShloMosaic.Lib.Pipeline.Value
public import Idealize.ShloMosaic.Lib.Ring
public import Idealize.ShloMosaic.Lib.ValueIdxCore
public import Idealize.ShloMosaic.Lib.ValueIdxCoords
public import Idealize.ShloMosaic.Lib.Tactic

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The weakest precondition of a program of the core. -/
abbrev WP (c : Dev nD) {α : Type} (p : TC F α) (Q : α → sProp 𝕄) : sProp 𝕄 :=
  wp frame (wpE (defs₀ (F := F)) 𝒱₀ (c : Thread nD τ) none) Set.univ p Q

/-- A program in front of another, from what it is known to do. -/
theorem wseq (c : Dev nD) {α β : Type} {p : TC F α} {k : α → TC F β} {P : sProp 𝕄} {Q1 : α → sProp 𝕄} {Q : β → sProp 𝕄}
    (h : P ⊢ WP c p Q1) : iprop(P ∗ (∀ a, Q1 a -∗ WP c (k a) Q)) ⊢ WP c (p >>= k) Q := by
  unfold WP
  rw [wp_bind]
  exact (sep_mono_left h).trans (wp_wand_r _ _ _)

/-- What a program is known to do, its end weakened. -/
theorem wend (c : Dev nD) {α : Type} {p : TC F α} {P : sProp 𝕄} {Q1 Q : α → sProp 𝕄}
    (h : P ⊢ WP c p Q1) : iprop(P ∗ (∀ a, Q1 a -∗ Q a)) ⊢ WP c p Q :=
  (sep_mono_left h).trans (wp_wand_r _ _ _)

/-! ## The buffers -/

abbrev m4 : Memref sig .tc .vmem S3x960x2048 .bf16 := Memref.whole cc0_scratch0
abbrev m5 : Memref sig .tc .vmem S2x2048x256 .i8 := Memref.whole cc0_scratch1
abbrev m6 : Memref sig .tc .vmem S2x2048x64 .i8 := Memref.whole cc0_scratch2
abbrev m7 : Memref sig .tc .vmem S64x256x512 .bf16 := Memref.whole cc0_scratch3
abbrev m8 : Memref sig .tc .vmem S960x512 .bf16 := Memref.whole cc0_scratch4
abbrev H7 : m7.IsWhole := Memref.isWhole_whole _
abbrev H8 : m8.IsWhole := Memref.isWhole_whole _

abbrev B4 (F : FTy → Type) [FloatOps F] := S3x960x2048.Idx → F .bf16
abbrev B5 := S2x2048x256.Idx → BitVec 8
abbrev B6 := S2x2048x64.Idx → BitVec 8
abbrev B7 (F : FTy → Type) [FloatOps F] := S64x256x512.Idx → F .bf16
abbrev B8 (F : FTy → Type) [FloatOps F] := S960x512.Idx → F .bf16

/-- The elements of a slot. -/
def S4 (j : Fin 3) : Finset S3x960x2048.Idx := Finset.univ.filter fun i => (i 0).val = j.val
def S5 (j : Fin 2) : Finset S2x2048x256.Idx := Finset.univ.filter fun i => (i 0).val = j.val
def S6 (j : Fin 2) : Finset S2x2048x64.Idx := Finset.univ.filter fun i => (i 0).val = j.val

abbrev P4 (c : Dev nD) (j : Fin 3) (g : B4 F) : sProp 𝕄 := m4.view.loc (c : Thread nD τ) ↦[S4 j]{fullShare} g
abbrev P5 (c : Dev nD) (j : Fin 2) (g : B5) : sProp 𝕄 := m5.view.loc (c : Thread nD τ) ↦[S5 j]{fullShare} g
abbrev P6 (c : Dev nD) (j : Fin 2) (g : B6) : sProp 𝕄 := m6.view.loc (c : Thread nD τ) ↦[S6 j]{fullShare} g
abbrev P7 (c : Dev nD) (g : B7 F) : sProp 𝕄 := m7.view.loc (c : Thread nD τ) ↦[Finset.univ]{fullShare} g
abbrev P8 (c : Dev nD) (g : B8 F) : sProp 𝕄 := m8.view.loc (c : Thread nD τ) ↦[Finset.univ]{fullShare} g

/-- Strip `i` of column block `p` of slot `j`. -/
def xBlk (g : B4 F) (j : Fin 3) (i : Fin 4) (p : Fin 8) : XV F := fun x =>
  g (ix3 j ⟨240 * i.val + (x 0).val, by have : (x 0).val < 240 := (x 0).isLt; omega⟩
    ⟨256 * p.val + (x 1).val, by have : (x 1).val < 256 := (x 1).isLt; omega⟩)

/-- Tile `t` of the weight buffer, and its half `q`. -/
def tileOf (f : B7 F) (t : Fin 64) : FVec F S256x512 .bf16 := fun x => f (ix3 t (x 0) (x 1))
def halfOf (w : FVec F S256x512 .bf16) (q : Fin 2) : WV F := fun x =>
  w (ix2 (x 0) ⟨256 * q.val + (x 1).val, by have : (x 1).val < 256 := (x 1).isLt; omega⟩)

/-- Rows `256 p …` of the codes in slot `j`, and of the scales. -/
def cBlk (g : B5) (j : Fin 2) (p : Fin 8) : IVec S256x256 8 := fun x =>
  g (ix3 j ⟨256 * p.val + (x 0).val, by have : (x 0).val < 256 := (x 0).isLt; omega⟩ (x 1))
def sBlk (g : B6) (j : Fin 2) (p : Fin 8) : IVec S256x64 8 := fun x =>
  g (ix3 j ⟨256 * p.val + (x 0).val, by have : (x 0).val < 256 := (x 0).isLt; omega⟩ (x 1))

variable (c : Dev nD)

theorem wp_ldX {j : Fin 3} {i : Fin 4} {p : Fin 8} {o : Fin 3 → ℕ} {h} (ho : o = ![j.val, 240 * i.val, 256 * p.val]) (g : B4 F) :
    P4 c j g ⊢ WP c (ldX m4 o h) (fun x => iprop(⌜x = xBlk g j i p⌝ ∗ P4 c j g)) := by
  subst ho
  unfold WP ldX
  rw [Prog.bind_lift]
  iintro H
  iapply (wp_load_rect 𝒱₀ (c : Thread nD τ) none Set.univ (m := m4) (r := Rect.unit (s := S3x960x2048) ![j.val, 240 * i.val, 256 * p.val] S1x240x256.size h) (S := S4 j) (f := g) (q := fullShare) ?_) $$ H
  · intro y hy
    have hy' := (Finset.ext_iff.1 (View.set_slice_whole cc0_scratch0 (Rect.unit (s := S3x960x2048) ![j.val, 240 * i.val, 256 * p.val] S1x240x256.size h)) y).1 hy
    have := Rect.mem_set_unit.1 hy' 0
    simp only [S4, Finset.mem_filter, Finset.mem_univ, true_and]
    have h1 : j.val ≤ (y 0).val ∧ (y 0).val < j.val + 1 := this
    omega
  iintro H
  iapply (le_wp_ret _ _ _ _ _)
  isplitr
  · ipureintro
    funext x
    refine (shapeCast_dropUnit_apply ![240, 256] _ _ x).trans ?_
    show g _ = g _
    congr 1
    funext a
    apply Fin.ext
    fin_cases a
    · show j.val + 1 * 0 = j.val; omega
    · show 240 * i.val + 1 * (x 0).val = 240 * i.val + (x 0).val; omega
    · show 256 * p.val + 1 * (x 1).val = 256 * p.val + (x 1).val; omega
  · iexact H

theorem wp_ldW {t : Fin 64} {q : Fin 2} {o : Fin 3 → ℕ} {h} (ho : o = ![t.val, 0, 256 * q.val]) (f : B7 F) :
    P7 c f ⊢ WP c (ldW m7 o h) (fun x => iprop(⌜x = halfOf (tileOf f t) q⌝ ∗ P7 c f)) := by
  subst ho
  unfold WP ldW
  rw [Prog.bind_lift]
  iintro H
  iapply (wp_load_rect 𝒱₀ (c : Thread nD τ) none Set.univ (m := m7) (r := Rect.unit (s := S64x256x512) ![t.val, 0, 256 * q.val] S1x256x256.size h) (S := Finset.univ) (f := f) (q := fullShare) (Finset.subset_univ _)) $$ H
  iintro H
  iapply (le_wp_ret _ _ _ _ _)
  isplitr
  · ipureintro
    funext x
    refine (shapeCast_dropUnit_apply ![256, 256] _ _ x).trans ?_
    show f _ = f _
    congr 1
    funext a
    apply Fin.ext
    fin_cases a
    · show t.val + 1 * 0 = t.val; omega
    · show 0 + 1 * (x 0).val = (x 0).val; omega
    · show 256 * q.val + 1 * (x 1).val = 256 * q.val + (x 1).val; omega
  · iexact H

/-- The result buffer with a popped strip in its block. -/
def putBlk (f : B8 F) (i : Fin 4) (q : Fin 2) (v : AV F) : B8 F := fun y =>
  if (y 0).val / 240 = i.val ∧ (y 1).val / 256 = q.val then
    (truncf .bf16 v bitsLt_bf16_f32 : FVec F S240x256 .bf16) (ix2 ⟨(y 0).val % 240, Nat.mod_lt _ (by decide)⟩ ⟨(y 1).val % 256, Nat.mod_lt _ (by decide)⟩)
  else f y

/-- The weight buffer with a tile in place. -/
def putTile (f : B7 F) (t : Fin 64) (w : FVec F S256x512 .bf16) : B7 F := fun y =>
  if (y 0).val = t.val then w (ix2 (y 1) (y 2)) else f y

theorem tileOf_put (f : B7 F) (t t' : Fin 64) (w : FVec F S256x512 .bf16) :
    tileOf (putTile f t w) t' = if t' = t then w else tileOf f t' := by
  funext x
  by_cases h : t' = t
  · subst h
    rw [if_pos rfl]
    show (if t'.val = t'.val then w (ix2 (x 0) (x 1)) else _) = _
    rw [if_pos rfl]; congr 1; exact (ValueIdx.eq_ix2 x).symm
  · rw [if_neg h]
    show (if t'.val = t.val then w (ix2 (x 0) (x 1)) else _) = _
    rw [if_neg (fun e => h (Fin.ext e))]; rfl

theorem write8 (i : Fin 4) (q : Fin 2) (h) (f : B8 F) (v : AV F) :
    View.write (Elt F) (m8.access (Rect.unit (s := S960x512) ![240 * i.val, 256 * q.val] S240x256.size h)) f
      (shapeCast S240x256 (truncf .bf16 v bitsLt_bf16_f32 : FVec F S240x256 .bf16) shapeCasts_S240x256_S240x256) Finset.univ = (putBlk f i q v : B8 F) := by
  rw [shapeCast_self]
  funext y
  have h0 : (y 0).val < 960 := (y 0).isLt
  have h1 : (y 1).val < 512 := (y 1).isLt
  unfold putBlk
  by_cases hy : (y 0).val / 240 = i.val ∧ (y 1).val / 256 = q.val
  · rw [if_pos hy]
    have e : y = (m8.access (Rect.unit (s := S960x512) ![240 * i.val, 256 * q.val] S240x256.size h)).emb
        (ix2 ⟨(y 0).val % 240, Nat.mod_lt _ (by decide)⟩ ⟨(y 1).val % 256, Nat.mod_lt _ (by decide)⟩) := by
      funext a; apply Fin.ext
      fin_cases a
      · show (y 0).val = 240 * i.val + 1 * ((y 0).val % 240); omega
      · show (y 1).val = 256 * q.val + 1 * ((y 1).val % 256); omega
    exact (congrArg _ e).trans (View.write_emb_of_mem (v := (m8.access (Rect.unit (s := S960x512) ![240 * i.val, 256 * q.val] S240x256.size h))) (Val := Elt F) f _ (Finset.mem_univ _))
  · rw [if_neg hy]
    refine View.write_of_not_mem (v := (m8.access (Rect.unit (s := S960x512) ![240 * i.val, 256 * q.val] S240x256.size h))) (Val := Elt F) f _ _ ?_
    intro hm
    have hm' := (Finset.ext_iff.1 (View.set_slice_whole cc0_scratch4 (Rect.unit (s := S960x512) ![240 * i.val, 256 * q.val] S240x256.size h)) y).1 hm
    have a0 : 240 * i.val ≤ (y 0).val ∧ (y 0).val < 240 * i.val + 240 := Rect.mem_set_unit.1 hm' 0
    have a1 : 256 * q.val ≤ (y 1).val ∧ (y 1).val < 256 * q.val + 256 := Rect.mem_set_unit.1 hm' 1
    exact hy ⟨by omega, by omega⟩

theorem write7 (t : Fin 64) (h) (f : B7 F) (w : FVec F S256x512 .bf16) :
    View.write (Elt F) (m7.access (Rect.unit (s := S64x256x512) ![t.val, 0, 0] S1x256x512.size h)) f
      (shapeCast S1x256x512 w shapeCasts_S256x512_S1x256x512) Finset.univ = (putTile f t w : B7 F) := by
  funext y
  unfold putTile
  by_cases hy : (y 0).val = t.val
  · rw [if_pos hy]
    have e : y = (m7.access (Rect.unit (s := S64x256x512) ![t.val, 0, 0] S1x256x512.size h)).emb (ix3 (0 : Fin 1) (y 1) (y 2)) := by
      funext a; apply Fin.ext
      fin_cases a
      · show (y 0).val = t.val + 1 * 0; omega
      · show (y 1).val = 0 + 1 * (y 1).val; omega
      · show (y 2).val = 0 + 1 * (y 2).val; omega
    refine (congrArg _ e).trans ((View.write_emb_of_mem (v := (m7.access (Rect.unit (s := S64x256x512) ![t.val, 0, 0] S1x256x512.size h))) (Val := Elt F) f _ (Finset.mem_univ _)).trans ?_)
    refine (shapeCast_addUnit_apply ![256, 512] w _ (ix3 (0 : Fin 1) (y 1) (y 2))).trans (congrArg w ?_)
    funext a; fin_cases a <;> rfl
  · rw [if_neg hy]
    refine View.write_of_not_mem (v := (m7.access (Rect.unit (s := S64x256x512) ![t.val, 0, 0] S1x256x512.size h))) (Val := Elt F) f _ _ ?_
    intro hm
    have hm' := (Finset.ext_iff.1 (View.set_slice_whole cc0_scratch3 (Rect.unit (s := S64x256x512) ![t.val, 0, 0] S1x256x512.size h)) y).1 hm
    have a0 : t.val ≤ (y 0).val ∧ (y 0).val < t.val + 1 := Rect.mem_set_unit.1 hm' 0
    exact hy (by omega)

theorem wp_popQ (q : Fin 2) {A : ℕ} {fA : Mxu.Fits A 240} (i : Fin 4) {o : Fin 2 → ℕ} {h} {hp} (ho : o = ![240 * i.val, 256 * q.val])
    (s : Mxu F) (f : B8 F) :
    P8 c f ⊢ WP c (popQ m8 H8 q A fA o h hp s) (fun s' => iprop(⌜s' = s.pop q A 240 fA⌝ ∗ P8 c (putBlk f i q (s.read q A fA)))) := by
  subst ho
  unfold WP popQ
  rw [Prog.bind_lift]
  iintro H
  iapply (wp_load_rect 𝒱₀ (c : Thread nD τ) none Set.univ (m := m8) (r := Rect.unit (s := S960x512) ![240 * i.val, 256 * q.val] S240x256.size h)
    (S := Finset.univ) (f := f) (q := fullShare) (Finset.subset_univ _)) $$ H
  iintro H
  rw [Prog.bind_lift]
  iapply (wp_store 𝒱₀ (c : Thread nD τ) none Set.univ (m := m8) (r := Rect.unit (s := S960x512) ![240 * i.val, 256 * q.val] S240x256.size h)
    (S := Finset.univ) (f := f) (Finset.subset_univ _)) $$ H
  iintro H
  iapply (le_wp_ret _ _ _ _ _)
  isplitr
  · ipureintro; rfl
  · rw [← write8 i q h f (s.read q A fA)]; iexact H

theorem wp_decP {j : Fin 2} {p : Fin 8} {t : Fin 64} {oc h1 os h2 ow h3 hp} (hoc : oc = ![j.val, 256 * p.val, 0]) (hos : os = ![j.val, 256 * p.val, 0])
    (how : ow = ![t.val, 0, 0]) (fb : BitVec 32) (g5 : B5) (g6 : B6) (f : B7 F) :
    iprop(P5 (F := F) c j g5 ∗ P6 (F := F) c j g6 ∗ P7 c f) ⊢ WP c (decP (F := F) m5 m6 m7 H7 oc h1 os h2 ow h3 hp fb)
      (fun _ => iprop(P5 (F := F) c j g5 ∗ P6 (F := F) c j g6 ∗ P7 c (putTile f t (decTile (cBlk g5 j p) (sBlk g6 j p) fb)))) := by
  subst hoc hos how
  unfold WP decP
  rw [Prog.bind_lift]
  iintro ⟨H5, H6, H7⟩
  iapply (wp_load_rect 𝒱₀ (c : Thread nD τ) none Set.univ (m := m5) (r := Rect.unit (s := S2x2048x256) ![j.val, 256 * p.val, 0] S1x256x256.size h1) (S := S5 j) (f := g5) (q := fullShare) ?_) $$ H5
  · intro y hy
    have hy' := (Finset.ext_iff.1 (View.set_slice_whole cc0_scratch1 (Rect.unit (s := S2x2048x256) ![j.val, 256 * p.val, 0] S1x256x256.size h1)) y).1 hy
    have := Rect.mem_set_unit.1 hy' 0
    simp only [S5, Finset.mem_filter, Finset.mem_univ, true_and]
    have h1 : j.val ≤ (y 0).val ∧ (y 0).val < j.val + 1 := this
    omega
  iintro H5
  rw [Prog.bind_lift]
  iapply (wp_load_rect 𝒱₀ (c : Thread nD τ) none Set.univ (m := m6) (r := Rect.unit (s := S2x2048x64) ![j.val, 256 * p.val, 0] S1x256x64.size h2) (S := S6 j) (f := g6) (q := fullShare) ?_) $$ H6
  · intro y hy
    have hy' := (Finset.ext_iff.1 (View.set_slice_whole cc0_scratch2 (Rect.unit (s := S2x2048x64) ![j.val, 256 * p.val, 0] S1x256x64.size h2)) y).1 hy
    have := Rect.mem_set_unit.1 hy' 0
    simp only [S6, Finset.mem_filter, Finset.mem_univ, true_and]
    have h1 : j.val ≤ (y 0).val ∧ (y 0).val < j.val + 1 := this
    omega
  iintro H6
  rw [Prog.bind_lift]
  iapply (wp_load_rect 𝒱₀ (c : Thread nD τ) none Set.univ (m := m7) (r := Rect.unit (s := S64x256x512) ![t.val, 0, 0] S1x256x512.size h3)
    (S := Finset.univ) (f := f) (q := fullShare) (Finset.subset_univ _)) $$ H7
  iintro H7
  iapply (wp_store 𝒱₀ (c : Thread nD τ) none Set.univ (m := m7) (r := Rect.unit (s := S64x256x512) ![t.val, 0, 0] S1x256x512.size h3)
    (S := Finset.univ) (f := f) (Finset.subset_univ _)) $$ H7
  iintro H7
  iapply (le_wp_ret _ _ _ _ _)
  isplitl [H5]; · iexact H5
  isplitl [H6]; · iexact H6
  have e1 : shapeCast S256x256 (fun x => g5 ((Rect.unit (s := S2x2048x256) ![j.val, 256 * p.val, 0] S1x256x256.size h1).emb x)) shapeCasts_S1x256x256_S256x256 = cBlk g5 j p := by
    funext x
    refine (shapeCast_dropUnit_apply ![256, 256] _ _ x).trans ?_
    unfold cBlk
    congr 1
    funext a; apply Fin.ext
    fin_cases a
    · show j.val + 1 * 0 = j.val; omega
    · show 256 * p.val + 1 * (x 0).val = 256 * p.val + (x 0).val; omega
    · show 0 + 1 * (x 1).val = (x 1).val; omega
  have e2 : shapeCast S256x64 (fun x => g6 ((Rect.unit (s := S2x2048x64) ![j.val, 256 * p.val, 0] S1x256x64.size h2).emb x)) shapeCasts_S1x256x64_S256x64 = sBlk g6 j p := by
    funext x
    refine (shapeCast_dropUnit_apply ![256, 64] _ _ x).trans ?_
    unfold sBlk
    congr 1
    funext a; apply Fin.ext
    fin_cases a
    · show j.val + 1 * 0 = j.val; omega
    · show 256 * p.val + 1 * (x 0).val = 256 * p.val + (x 0).val; omega
    · show 0 + 1 * (x 1).val = (x 1).val; omega
  rw [← e1, ← e2, ← write7 t h3 f]
  iexact H7

end Cert.KernelIdeal.P
-- ==== Proof.I.Pass.lean ====
/-  One pass of a step, with and without the pops, as what it does to the units, the slot, the weight and the result buffer. -/
module

public import proofs.«01_k».proof.Proof.I.Mem

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

/-- Both registers `r` hold the half tiles `T`, the others nothing. -/
def regs (r : Fin 2) (T : Fin 2 → WV F) : Fin 2 → Fin 2 → Option (Mxu.Staged F) := fun q ρ => if ρ = r then some (stg (T q)) else none

/-- A function of a unit and a strip, changed at a strip. -/
def upc {α : Type} (f : Fin 2 → Fin 4 → α) (i : Fin 4) (v : Fin 2 → α) : Fin 2 → Fin 4 → α := fun q i' => if i' = i then v q else f q i'

theorem up2_up2 {α : Type} (f : Fin 2 → Fin 4 → α) (i : Fin 4) (v : Fin 2 → α) : up2 (up2 f 0 i (v 0)) 1 i (v 1) = upc f i v := by
  funext q i'
  unfold up2 upc
  by_cases h : i' = i
  · subst h; fin_cases q <;> simp
  · simp [h]

/-- The pass of a strip by a half tile. -/
def pss (x : XV F) (w : WV F) : AV F := (stg w).pass x

/-- The result buffer with a strip of both units popped. -/
def put2 (f : B8 F) (i : Fin 4) (A : Fin 2 → Fin 4 → AV F) : B8 F := putBlk (putBlk f i 0 (A 0 i)) i 1 (A 1 i)

/-- The result buffer once every strip is popped. -/
def outOf (A : Fin 2 → Fin 4 → AV F) : B8 F := fun y =>
  (truncf .bf16 (A ⟨(y 1).val / 256, by have : (y 1).val < 512 := (y 1).isLt; omega⟩ ⟨(y 0).val / 240, by have : (y 0).val < 960 := (y 0).isLt; omega⟩)
    bitsLt_bf16_f32 : FVec F S240x256 .bf16) (ix2 ⟨(y 0).val % 240, Nat.mod_lt _ (by decide)⟩ ⟨(y 1).val % 256, Nat.mod_lt _ (by decide)⟩)

theorem put_all (f : B8 F) (A : Fin 2 → Fin 4 → AV F) : put2 (put2 (put2 (put2 f 0 A) 1 A) 2 A) 3 A = outOf A := by
  funext y
  have h0 : (y 0).val < 960 := (y 0).isLt
  have h1 : (y 1).val < 512 := (y 1).isLt
  unfold outOf put2 putBlk
  have hi : (y 0).val / 240 = 0 ∨ (y 0).val / 240 = 1 ∨ (y 0).val / 240 = 2 ∨ (y 0).val / 240 = 3 := by omega
  have hq : (y 1).val / 256 = 0 ∨ (y 1).val / 256 = 1 := by omega
  rcases hi with hi | hi | hi | hi <;> rcases hq with hq | hq <;> simp [hi, hq]

variable {c : Dev nD} {s : Mxu F} {lv : Fin 2 → Fin 4 → Bool} {A : Fin 2 → Fin 4 → AV F} {T : Fin 2 → WV F} {R : Fin 2 → Fin 2 → Option (Mxu.Staged F)}

theorem wp_strip0 {r r' : Fin 2} (hr : r ≠ r') {j : Fin 3} {p : Fin 8} {t : Fin 64} {o h w0 g0 w1 g1}
    (ho : o = ![j.val, 0, 256 * p.val]) (h0 : w0 = ![t.val, 0, 0]) (h1 : w1 = ![t.val, 0, 256])
    (g : B4 F) (f : B7 F) (hM : MG s (regs r T) lv A) :
    iprop(P4 c j g ∗ P7 c f) ⊢ WP c (strip0 m4 m7 r r' o h w0 g0 w1 g1 s) (fun s' => iprop(
      ⌜MG s' (regs r' (halfOf (tileOf f t))) (upc lv 0 fun _ => true) (upc A 0 fun q => dep (lv q 0) (A q 0) (pss (xBlk g j 0 p) (T q)))
        ∧ ∀ q, s'.gmr q = some (stg (T q))⌝ ∗ P4 c j g ∗ P7 c f)) := by
  unfold strip0
  iintro ⟨H4, H7⟩
  iapply (wseq c (wp_ldX (i := 0) c ho g))
  isplitl [H4]; · iexact H4
  iintro %x ⟨%hx, H4⟩
  iapply (wseq c (wp_ldW (t := t) (q := 0) c h0 f))
  isplitl [H7]; · iexact H7
  iintro %y0 ⟨%hy0, H7⟩
  have hs : ∀ q, regs r T q r = some (stg (T q)) := fun q => if_pos rfl
  have hn : ∀ q, regs r T q r' = none := fun q => if_neg (Ne.symm hr)
  have M1 := hM.accLhs 0 r 0 _ (hs 0) x
  have M2 := M1.accLhs 1 r 0 (stg (T 1)) (by simp [up2, hs]) x
  have G0 := gmr_accLhs' hM 0 r 0 _ (hs 0) x
  have G1 := gmr_accLhs' M1 1 r 0 (stg (T 1)) (by simp [up2, hs]) x
  have n0 : up2 (up2 (regs r T) 0 r none) 1 r none 0 r' = none := by simp [up2, hn, hr.symm]
  have M3 := M2.pushed 0 r' n0 y0
  have n1 : up2 (up2 (up2 (regs r T) 0 r none) 1 r none) 0 r' (some (stg y0)) 1 r' = none := by simp [up2, hn, hr.symm]
  have pr0 : ((s.accLhs 0 r 0 x fits_0_240).accLhs 1 r 0 x fits_0_240).PushOk 0 r' false := Mxu.pushOk_of_none _ _ _ _ ((M2.reg 0 r').trans n0)
  have pr1 : (((s.accLhs 0 r 0 x fits_0_240).accLhs 1 r 0 x fits_0_240).pushed 0 r' false y0).PushOk 1 r' false :=
    Mxu.pushOk_of_none _ _ _ _ ((M3.reg 1 r').trans n1)
  iapply (Mxu.wp_pushRhs y0 pr0)
  iapply (wseq c (wp_ldW (t := t) (q := 1) c h1 f))
  isplitl [H7]; · iexact H7
  iintro %y1 ⟨%hy1, H7⟩
  rw [← bind_pure (Mxu.pushRhs _ 1 r' false y1)]
  iapply (Mxu.wp_pushRhs y1 pr1)
  iapply (le_wp_ret _ _ _ _ _)
  isplitr
  · ipureintro
    have M4 := M3.pushed 1 r' n1 y1
    subst hx hy0 hy1
    refine ⟨M4.congr ?_ ?_ ?_, ?_⟩
    · intro q ρ
      by_cases hρ : ρ = r'
      · subst hρ; fin_cases q <;> simp [up2, regs]
      · by_cases hρ2 : ρ = r
        · subst hρ2; fin_cases q <;> simp [up2, regs, hr]
        · fin_cases q <;> simp [up2, regs, hρ, hρ2]
    · intro q i; rw [up2_up2 lv 0 (fun _ => true)]
    · intro q i
      exact congrFun (congrFun (up2_up2 A 0 (fun q => dep (lv q 0) (A q 0) (pss (xBlk g j 0 p) (T q)))) q) i
    · intro q
      rw [Mxu.gmr_pushed, Mxu.gmr_pushed]
      fin_cases q
      · exact (Mxu.gmr_accLhs_ne _ _ _ _ _ _ _ (by decide)).trans G0
      · exact G1
  isplitl [H4]; · iexact H4
  iexact H7

theorem wp_stripA (i : Fin 4) {Ad : ℕ} {fA : Mxu.Fits Ad 240} (hA : Ad = 60 * i.val) {j : Fin 3} {p : Fin 8} {o h}
    (ho : o = ![j.val, 240 * i.val, 256 * p.val]) (g : B4 F) (hM : MG s R lv A) (hG : ∀ q, s.gmr q = some (stg (T q))) :
    P4 c j g ⊢ WP c (stripA m4 Ad fA o h s) (fun s' => iprop(
      ⌜MG s' R (upc lv i fun _ => true) (upc A i fun q => dep (lv q i) (A q i) (pss (xBlk g j i p) (T q)))
        ∧ ∀ q, s'.gmr q = some (stg (T q))⌝ ∗ P4 c j g)) := by
  subst hA
  unfold stripA
  iintro H4
  iapply (wseq c (wp_ldX (i := i) c ho g))
  isplitl [H4]; · iexact H4
  iintro %x ⟨%hx, H4⟩
  iapply (Mxu.wp_accLhsLoaded x fA (hG 0))
  rw [← bind_pure (Mxu.accLhsLoaded _ 1 _ x fA)]
  iapply (Mxu.wp_accLhsLoaded x fA (t := stg (T 1)) ((congrFun (Mxu.gmr_accBy _ _ _ _ _ _) 1).trans (hG 1)))
  iapply (le_wp_ret _ _ _ _ _)
  isplitr
  · ipureintro
    subst hx
    refine ⟨((hM.accBy 0 i (stg (T 0)) _).accBy 1 i (stg (T 1)) _).congr (fun _ _ => rfl) ?_ ?_, fun q => hG q⟩
    · intro q i'; rw [up2_up2 lv i (fun _ => true)]
    · intro q i'
      exact congrFun (congrFun (up2_up2 A i (fun q => dep (lv q i) (A q i) (pss (xBlk g j i p) (T q)))) q) i'
  iexact H4

theorem wp_pop2 (i : Fin 4) {Ad : ℕ} {fA : Mxu.Fits Ad 240} (hA : Ad = 60 * i.val) {o0 h0 hp0 o1 h1 hp1}
    (e0 : o0 = ![240 * i.val, 0]) (e1 : o1 = ![240 * i.val, 256]) (f : B8 F) (hM : MG s R lv A) :
    P8 c f ⊢ WP c (popQ m8 H8 0 Ad fA o0 h0 hp0 s >>= fun s => popQ m8 H8 1 Ad fA o1 h1 hp1 s) (fun s' => iprop(
      ⌜MG s' R (upc lv i fun _ => false) (upc A i fun _ => constant _ .f32 0) ∧ s'.gmr = s.gmr⌝ ∗ P8 c (put2 f i A))) := by
  subst hA
  iintro H
  iapply (wseq c (wp_popQ c 0 i e0 s f))
  isplitl [H]; · iexact H
  iintro %s1 ⟨%h1, H⟩
  subst h1
  iapply (wend c (wp_popQ c 1 i e1 _ _))
  isplitl [H]; · iexact H
  iintro %s2 ⟨%h2, H⟩
  subst h2
  isplitr
  · ipureintro
    refine ⟨((hM.pop 0 i).pop 1 i).congr (fun _ _ => rfl) ?_ ?_, rfl⟩
    · intro q i'; rw [up2_up2 lv i (fun _ => false)]
    · intro q i'; exact congrFun (congrFun (up2_up2 A i (fun _ => constant _ .f32 0)) q) i'
  have a0 : s.read 0 (60 * i.val) fA = A 0 i := hM.rd 0 i
  have a1 : (s.pop 0 (60 * i.val) 240 fA).read 1 (60 * i.val) fA = A 1 i := ((hM.pop 0 i).rd 1 i).trans (by simp [up2])
  rw [a0, a1]
  iexact H

/-- One pass: every strip deposits its pass, and the next tile is staged. -/
theorem wp_passP {r r' : Fin 2} (hr : r ≠ r') {j : Fin 3} {p : Fin 8} {t : Fin 64} {o0 h0 o1 h1 o2 h2 o3 h3 w0 g0 w1 g1}
    (e0 : o0 = ![j.val, 0, 256 * p.val]) (e1 : o1 = ![j.val, 240, 256 * p.val]) (e2 : o2 = ![j.val, 480, 256 * p.val])
    (e3 : o3 = ![j.val, 720, 256 * p.val]) (d0 : w0 = ![t.val, 0, 0]) (d1 : w1 = ![t.val, 0, 256])
    (g : B4 F) (f : B7 F) (hM : MG s (regs r T) lv A) :
    iprop(P4 c j g ∗ P7 c f) ⊢ WP c (passP m4 m7 r r' o0 h0 o1 h1 o2 h2 o3 h3 w0 g0 w1 g1 s) (fun s' => iprop(
      ⌜MG s' (regs r' (halfOf (tileOf f t))) (fun _ _ => true) (fun q i => dep (lv q i) (A q i) (pss (xBlk g j i p) (T q)))⌝ ∗ P4 c j g ∗ P7 c f)) := by
  unfold passP
  iintro ⟨H4, H7⟩
  iapply (wseq c (wp_strip0 hr e0 d0 d1 g f hM))
  isplitl [H4 H7]
  · isplitl [H4]; · iexact H4
    iexact H7
  iintro %s1 ⟨%hs1, H4, H7⟩
  iapply (wseq c (wp_stripA 1 rfl e1 g hs1.1 hs1.2))
  isplitl [H4]; · iexact H4
  iintro %s2 ⟨%hs2, H4⟩
  iapply (wseq c (wp_stripA 2 rfl e2 g hs2.1 hs2.2))
  isplitl [H4]; · iexact H4
  iintro %s3 ⟨%hs3, H4⟩
  iapply (wend c (wp_stripA 3 rfl e3 g hs3.1 hs3.2))
  isplitl [H4]; · iexact H4
  iintro %s4 ⟨%hs4, H4⟩
  isplitr
  · ipureintro
    refine hs4.1.congr (fun _ _ => rfl) ?_ ?_
    · intro q i; fin_cases i <;> simp [upc]
    · intro q i; fin_cases i <;> simp [upc]
  isplitl [H4]; · iexact H4
  iexact H7

/-- A pass that pops the tile before: its strips start anew, and the result buffer holds the tile before. -/
theorem wp_popPassP {j : Fin 3} {p : Fin 8} {t : Fin 64} {o0 h0 o1 h1 o2 h2 o3 h3 w0 g0 w1 g1}
    (e0 : o0 = ![j.val, 0, 256 * p.val]) (e1 : o1 = ![j.val, 240, 256 * p.val]) (e2 : o2 = ![j.val, 480, 256 * p.val])
    (e3 : o3 = ![j.val, 720, 256 * p.val]) (d0 : w0 = ![t.val, 0, 0]) (d1 : w1 = ![t.val, 0, 256])
    (g : B4 F) (f : B7 F) (f8 : B8 F) (hM : MG s (regs 0 T) lv A) :
    iprop(P4 c j g ∗ P7 c f ∗ P8 c f8) ⊢ WP c (popPassP m4 m7 m8 H8 o0 h0 o1 h1 o2 h2 o3 h3 w0 g0 w1 g1 s) (fun s' => iprop(
      ⌜MG s' (regs 1 (halfOf (tileOf f t))) (fun _ _ => true) (fun q i => pss (xBlk g j i p) (T q))⌝ ∗ P4 c j g ∗ P7 c f ∗ P8 c (outOf A))) := by
  unfold popPassP
  iintro ⟨H4, H7, H8⟩
  iapply (wseq c (p := pop0 m8 H8 s) (wp_pop2 0 rfl rfl rfl f8 hM))
  isplitl [H8]; · iexact H8
  iintro %u0 ⟨%hu0, H8⟩
  iapply (wseq c (wp_strip0 (by decide) e0 d0 d1 g f hu0.1))
  isplitl [H4 H7]
  · isplitl [H4]; · iexact H4
    iexact H7
  iintro %s1 ⟨%hs1, H4, H7⟩
  iapply (wseq c (p := pop1 m8 H8 s1) (wp_pop2 1 rfl rfl rfl _ hs1.1))
  isplitl [H8]; · iexact H8
  iintro %u1 ⟨%hu1, H8⟩
  iapply (wseq c (wp_stripA 1 rfl e1 g hu1.1 (fun q => (congrFun hu1.2 q).trans (hs1.2 q))))
  isplitl [H4]; · iexact H4
  iintro %s2 ⟨%hs2, H4⟩
  iapply (wseq c (p := pop2 m8 H8 s2) (wp_pop2 2 rfl rfl rfl _ hs2.1))
  isplitl [H8]; · iexact H8
  iintro %u2 ⟨%hu2, H8⟩
  iapply (wseq c (wp_stripA 2 rfl e2 g hu2.1 (fun q => (congrFun hu2.2 q).trans (hs2.2 q))))
  isplitl [H4]; · iexact H4
  iintro %s3 ⟨%hs3, H4⟩
  iapply (wseq c (p := pop3 m8 H8 s3) (wp_pop2 3 rfl rfl rfl _ hs3.1))
  isplitl [H8]; · iexact H8
  iintro %u3 ⟨%hu3, H8⟩
  iapply (wend c (wp_stripA 3 rfl e3 g hu3.1 (fun q => (congrFun hu3.2 q).trans (hs3.2 q))))
  isplitl [H4]; · iexact H4
  iintro %s4 ⟨%hs4, H4⟩
  isplitr
  · ipureintro
    refine hs4.1.congr (fun _ _ => rfl) ?_ ?_
    · intro q i; fin_cases i <;> simp [upc]
    · intro q i; fin_cases i <;> simp [upc, dep]
  isplitl [H4]; · iexact H4
  isplitl [H7]; · iexact H7
  rw [← put_all f8 A]
  iexact H8

end Cert.KernelIdeal.P
-- ==== Proof.I.Conds.lean ====
/-  When each form of a step is taken, as conditions on the step's number. -/
module

public import proofs.«01_k».proof.Proof.I.Prog

@[expose] public section

set_option maxRecDepth 65536

noncomputable section

namespace Cert.KernelIdeal.P

open Idealize.ShloMosaic Idealize.SL.Sem Cert.KernelIdeal Cert.KernelIdeal.Gen

theorem trips_eq : k0_t1_loop.trips = 256 := by decide +kernel

/-- Step `s` decodes a weight chunk. -/
def dec (s : ℕ) : Prop := (s + 1) % 64 < 8 ∧ s + 1 < 256
instance (s : ℕ) : Decidable (dec s) := inferInstanceAs (Decidable (_ ∧ _))

/-- The chunk step `s` decodes. -/
def chunk (s : ℕ) : ℕ := 8 * ((s + 1) / 64) + (s + 1) % 8

theorem cond1_iff : ∀ k : Fin k0_t1_loop.trips, k0_cond1 k = 1#1 ↔ (k.val % 8 = 0 ∧ 16 ≤ k.val) := by decide +kernel
theorem cond2_iff : ∀ k : Fin k0_t1_loop.trips, k0_cond2 k = 1#1 ↔ (k.val % 8 = 1 ∧ 8 ≤ k.val) := by decide +kernel
theorem cond3_iff : ∀ k : Fin k0_t1_loop.trips, k0_cond3 k = 1#1 ↔ dec k.val := by decide +kernel
theorem cond4_iff : ∀ k : Fin k0_t1_loop.trips, k0_cond4 k = 1#1 ↔ (dec k.val ∧ chunk k.val + 1 < 32) := by decide +kernel
theorem cond5_iff : ∀ k : Fin k0_t1_loop.trips, k0_cond5 k = 1#1 ↔ k.val + 2 < 256 := by decide +kernel
theorem cond6_iff : ∀ k : Fin k0_t1_loop.trips, k0_cond6 k = 1#1 ↔ (¬ dec k.val ∧ ¬ k.val % 8 = 0) := by decide +kernel
theorem cond7_iff : ∀ k : Fin k0_t1_loop.trips, k0_cond7 k = 1#1 ↔ (¬ dec k.val ∧ k.val % 8 = 0) := by decide +kernel
theorem cond8_iff : ∀ k : Fin k0_t1_loop.trips, k0_cond8 k = 1#1 ↔ (dec k.val ∧ ¬ k.val % 8 = 0) := by decide +kernel
theorem cond9_iff : ∀ k : Fin k0_t1_loop.trips, k0_cond9 k = 1#1 ↔ (dec k.val ∧ k.val % 8 = 0) := by decide +kernel
theorem off26_eq : ∀ k : Fin k0_t1_loop.trips, k0_cond1 k = 1#1 → k0_off26 k = ![960 * ((k.val / 8 - 2) % 8), 512 * ((k.val / 8 - 2) / 8)] := by decide +kernel
theorem off27_eq : ∀ k : Fin k0_t1_loop.trips, k0_cond2 k = 1#1 → k0_off27 k = ![960 * ((k.val / 8 - 1) % 8), 512 * ((k.val / 8 - 1) / 8)] := by decide +kernel
theorem off3_eq : ∀ r : Fin 2, k0_off3 (BitVec.ofNat 32 r.val) (BitVec.ofNat 32 r.val) = ![2048 * r.val, 0] := by decide +kernel
theorem off8_eq : ∀ r : Fin 2, k0_off8 (BitVec.ofNat 32 r.val) (BitVec.ofNat 32 r.val) = ![0, 2048 * r.val] := by decide +kernel
theorem off214_eq : k0_off214 30#32 30#32 = ![5760, 1536] ∧ k0_off214 31#32 31#32 = ![6720, 1536] := by decide +kernel
theorem fbOf_iv : ∀ k : Fin k0_t1_loop.trips, fbOf (Scf.iv 0#32 1#32 k) = BitVec.ofNat 32 (16 * ((k.val + 1) / 64)) := by decide +kernel

end Cert.KernelIdeal.P
-- ==== Proof.I.Steps.lean ====
/-  What a step of the loop computes: the left operand's strips, the decoded weight tiles and the running sums as functions of the arguments, and each kind of step as a change of the units and buffers. -/
module

public import proofs.«01_k».proof.Proof.I.Pass
public import proofs.«01_k».proof.Proof.I.Conds

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

/-- A number as an index, wrapped round. -/
def fn (n : ℕ) [NeZero n] (k : ℕ) : Fin n := ⟨k % n, Nat.mod_lt _ (NeZero.pos n)⟩

theorem fn_val (n : ℕ) [NeZero n] (x : Fin n) : fn n x.val = x := Fin.ext (Nat.mod_eq_of_lt x.isLt)

section Values

variable (dy : S7680x16384.Idx → F .bf16) (wp : S16384x1024.Idx → BitVec 8) (ws : S16384x64.Idx → BitVec 8)

/-- Strip `i` of row block `m` of the left operand, at column block `kt`. -/
def xOf (m kt : ℕ) (i : Fin 4) : XV F := fun x => dy (ix2 (fn 7680 (960 * m + 240 * i.val + (x 0).val)) (fn 16384 (256 * kt + (x 1).val)))

/-- The decoded weight tile of row block `kt` and column block `n`. -/
def wOf (n kt : ℕ) : FVec F S256x512 .bf16 :=
  decTile (fun x => wp (ix2 (fn 16384 (256 * kt + (x 0).val)) (fn 1024 (256 * n + (x 1).val))))
    (fun x => ws (ix2 (fn 16384 (256 * kt + (x 0).val)) (x 1))) (BitVec.ofNat 32 (16 * n))

/-- What strip `i` of unit `q` sums to after `j` passes of tile `(m, n)`. -/
def accV (m n : ℕ) (q : Fin 2) (i : Fin 4) : ℕ → AV F
  | 0 => constant S240x256 .f32 0x0#32
  | j + 1 => dep (decide (0 < j)) (accV m n q i j) (pss (xOf dy m j i) (halfOf (wOf wp ws n j) q))

/-- Slot `j` holds rows of block `m` and columns of chunk `c` of the left operand. -/
def GX (g : B4 F) (j : Fin 3) (m c : ℕ) : Prop := ∀ y, (y 0).val = j.val →
  g y = dy (ix2 (fn 7680 (960 * m + (y 1).val)) (fn 16384 (2048 * c + (y 2).val)))
/-- Slot `j` holds codes of chunk `c`, column block `n`; and scales of chunk `c`. -/
def G5 (g : B5) (j : Fin 2) (n c : ℕ) : Prop := ∀ y, (y 0).val = j.val →
  g y = wp (ix2 (fn 16384 (2048 * c + (y 1).val)) (fn 1024 (256 * n + (y 2).val)))
def G6 (g : B6) (j : Fin 2) (c : ℕ) : Prop := ∀ y, (y 0).val = j.val →
  g y = ws (ix2 (fn 16384 (2048 * c + (y 1).val)) (y 2))

theorem xBlk_eq {g : B4 F} {j : Fin 3} {m c : ℕ} (h : GX dy g j m c) (i : Fin 4) (p : Fin 8) : xBlk g j i p = xOf dy m (8 * c + p.val) i := by
  funext x
  refine (h _ rfl).trans ?_
  show dy (ix2 (fn 7680 (960 * m + (240 * i.val + (x 0).val))) (fn 16384 (2048 * c + (256 * p.val + (x 1).val)))) = _
  unfold xOf
  rw [show 960 * m + (240 * i.val + (x 0).val) = 960 * m + 240 * i.val + (x 0).val by omega,
    show 2048 * c + (256 * p.val + (x 1).val) = 256 * (8 * c + p.val) + (x 1).val by omega]

theorem decTile_eq {g5 : B5} {g6 : B6} {j : Fin 2} {n c : ℕ} (h5 : G5 wp g5 j n c) (h6 : G6 ws g6 j c) (p : Fin 8) :
    decTile (F := F) (cBlk g5 j p) (sBlk g6 j p) (BitVec.ofNat 32 (16 * n)) = wOf wp ws n (8 * c + p.val) := by
  unfold wOf
  congr 1
  · funext x
    refine (h5 _ rfl).trans ?_
    show wp (ix2 (fn 16384 (2048 * c + (256 * p.val + (x 0).val))) (fn 1024 (256 * n + (x 1).val))) = _
    rw [show 2048 * c + (256 * p.val + (x 0).val) = 256 * (8 * c + p.val) + (x 0).val by omega]
  · funext x
    refine (h6 _ rfl).trans ?_
    show ws (ix2 (fn 16384 (2048 * c + (256 * p.val + (x 0).val))) (x 1)) = _
    rw [show 2048 * c + (256 * p.val + (x 0).val) = 256 * (8 * c + p.val) + (x 0).val by omega]

/-- The units inside a tile, after `j` passes: register `r` holds the tile `w`. -/
def ST (m n j : ℕ) (r : Fin 2) (w : FVec F S256x512 .bf16) (s : Mxu F) : Prop :=
  MG s (regs r (halfOf w)) (fun _ _ => true) (fun q i => accV dy wp ws m n q i j)

/-- The weight buffer with the first `p` tiles of chunk `ce` of column block `ne` decoded into it. -/
def fdec (ne ce : ℕ) (f : B7 F) (p : ℕ) : B7 F := fun y =>
  if (y 0).val / 8 = ce ∧ (y 0).val % 8 < p then wOf wp ws ne (y 0).val (ix2 (y 1) (y 2)) else f y

theorem tileOf_fdec (ne ce : ℕ) (f : B7 F) (p : ℕ) (t : Fin 64) :
    tileOf (fdec wp ws ne ce f p) t = if t.val / 8 = ce ∧ t.val % 8 < p then wOf wp ws ne t.val else tileOf f t := by
  funext x
  show (if t.val / 8 = ce ∧ t.val % 8 < p then wOf wp ws ne t.val (ix2 (x 0) (x 1)) else f (ix3 t (x 0) (x 1))) = _
  split
  · congr 1; exact (ValueIdx.eq_ix2 x).symm
  · rfl

theorem fdec_zero (ne ce : ℕ) (f : B7 F) : fdec wp ws ne ce f 0 = f := by
  funext y; exact if_neg (by omega)

theorem fdec_succ (ne ce : ℕ) (f : B7 F) (p : ℕ) (hp : p < 8) (t : Fin 64) (ht : t.val = 8 * ce + p) :
    putTile (fdec wp ws ne ce f p) t (wOf wp ws ne (8 * ce + p)) = fdec wp ws ne ce f (p + 1) := by
  funext y
  unfold putTile fdec
  by_cases h : (y 0).val = t.val
  · rw [if_pos h, if_pos (by omega), h, ht]
  · rw [if_neg h]
    by_cases h' : (y 0).val / 8 = ce ∧ (y 0).val % 8 < p
    · rw [if_pos h', if_pos (by omega)]
    · rw [if_neg h', if_neg (by omega)]

end Values

theorem cEq {n : ℕ} {o e : Fin n → ℕ} [h : ClosedOff o] (he : h.form = e) : o = e := h.eq.trans he

variable {c : Dev nD} {s : Mxu F} {lv : Fin 2 → Fin 4 → Bool} {A : Fin 2 → Fin 4 → AV F}
variable {dy : S7680x16384.Idx → F .bf16} {wp : S16384x1024.Idx → BitVec 8} {ws : S16384x64.Idx → BitVec 8}

/-- A pass inside a tile. -/
theorem wp_pass (cc p : ℕ) (hp : p < 8) {r r' : Fin 2} {j : Fin 3} (t : Fin 64) {m n : ℕ} {o0 h0 o1 h1 o2 h2 o3 h3 w0 g0 w1 g1} {w : FVec F S256x512 .bf16}
    {g : B4 F} (hX : GX dy g j m cc) {f : B7 F} (hw : w = tileOf f t) (hj : 0 < 8 * cc + p)
    (hM : ST dy wp ws m n (8 * cc + p) r (wOf wp ws n (8 * cc + p)) s) (hr : r ≠ r')
    (e0 : o0 = ![j.val, 0, 256 * p]) (e1 : o1 = ![j.val, 240, 256 * p]) (e2 : o2 = ![j.val, 480, 256 * p])
    (e3 : o3 = ![j.val, 720, 256 * p]) (d0 : w0 = ![t.val, 0, 0]) (d1 : w1 = ![t.val, 0, 256]) :
    iprop(P4 c j g ∗ P7 c f) ⊢ WP c (passP m4 m7 r r' o0 h0 o1 h1 o2 h2 o3 h3 w0 g0 w1 g1 s) (fun s' => iprop(
      ⌜ST dy wp ws m n (8 * cc + p + 1) r' w s'⌝ ∗ P4 c j g ∗ P7 c f)) := by
  iintro H
  iapply (wend c (wp_passP (p := ⟨p, hp⟩) hr e0 e1 e2 e3 d0 d1 g f hM))
  isplitl [H]; · iexact H
  iintro %s' ⟨%hs, H⟩
  isplitr
  · ipureintro
    subst hw
    refine hs.congr (fun _ _ => rfl) (fun _ _ => rfl) ?_
    intro q i
    show dep true _ _ = dep (decide (0 < 8 * cc + p)) _ _
    rw [decide_eq_true hj, xBlk_eq dy hX]
  iexact H

/-- The first pass of a tile, which pops the tile before. -/
theorem wp_popPass {j : Fin 3} (t : Fin 64) {m n : ℕ} {o0 h0 o1 h1 o2 h2 o3 h3 w0 g0 w1 g1} {w : FVec F S256x512 .bf16}
    {g : B4 F} (hX : GX dy g j m 0) {f : B7 F} (f8 : B8 F) (hw : w = tileOf f t)
    (hM : MG s (regs 0 (halfOf (wOf wp ws n 0))) lv A)
    (e0 : o0 = ![j.val, 0, 0]) (e1 : o1 = ![j.val, 240, 0]) (e2 : o2 = ![j.val, 480, 0])
    (e3 : o3 = ![j.val, 720, 0]) (d0 : w0 = ![t.val, 0, 0]) (d1 : w1 = ![t.val, 0, 256]) :
    iprop(P4 c j g ∗ P7 c f ∗ P8 c f8) ⊢ WP c (popPassP m4 m7 m8 H8 o0 h0 o1 h1 o2 h2 o3 h3 w0 g0 w1 g1 s) (fun s' => iprop(
      ⌜ST dy wp ws m n 1 1 w s'⌝ ∗ P4 c j g ∗ P7 c f ∗ P8 c (outOf A))) := by
  iintro H
  iapply (wend c (wp_popPassP (p := 0) e0 e1 e2 e3 d0 d1 g f f8 hM))
  isplitl [H]; · iexact H
  iintro %s' ⟨%hs, H⟩
  isplitr
  · ipureintro
    subst hw
    refine hs.congr (fun _ _ => rfl) (fun _ _ => rfl) ?_
    intro q i
    show _ = dep (decide (0 < 0)) _ _
    rw [xBlk_eq dy hX]; rfl
  iexact H

/-- The decoding of one tile. -/
theorem wp_dec (ne ce p : ℕ) (hp : p < 8) {j : Fin 2} {fb : BitVec 32} {oc h1 os h2 ow h3 hk} {g5 : B5} {g6 : B6} {f : B7 F}
    (h5 : G5 wp g5 j ne ce) (h6 : G6 ws g6 j ce) (hf : fb = BitVec.ofNat 32 (16 * ne)) (hce : ce < 8)
    (hoc : oc = ![j.val, 256 * p, 0]) (hos : os = ![j.val, 256 * p, 0]) (how : ow = ![8 * ce + p, 0, 0]) :
    iprop(P5 (F := F) c j g5 ∗ P6 (F := F) c j g6 ∗ P7 c (fdec wp ws ne ce f p)) ⊢ WP c (decP (F := F) m5 m6 m7 H7 oc h1 os h2 ow h3 hk fb)
      (fun _ => iprop(P5 (F := F) c j g5 ∗ P6 (F := F) c j g6 ∗ P7 c (fdec wp ws ne ce f (p + 1)))) := by
  have := wp_decP (F := F) (t := ⟨8 * ce + p, by omega⟩) (p := ⟨p, hp⟩) (h1 := h1) (h2 := h2) (h3 := h3) (hp := hk) c hoc hos how fb g5 g6 (fdec wp ws ne ce f p)
  rwa [hf, decTile_eq wp ws h5 h6, fdec_succ wp ws ne ce f p hp _ rfl, ← hf] at this

/-- A pass and the decoding of a tile after it. -/
theorem wp_passDec (cc p ne ce : ℕ) (hp : p < 8) {r r' : Fin 2} {j : Fin 3} (t : Fin 64) {m n : ℕ} {o0 h0 o1 h1 o2 h2 o3 h3 w0 g0 w1 g1} {w : FVec F S256x512 .bf16}
    {g : B4 F} (hX : GX dy g j m cc) {f : B7 F} (hw : w = tileOf (fdec wp ws ne ce f p) t) (hj : 0 < 8 * cc + p)
    (hM : ST dy wp ws m n (8 * cc + p) r (wOf wp ws n (8 * cc + p)) s) (hr : r ≠ r')
    {j5 : Fin 2} {fb : BitVec 32} {oc l1 os l2 ow l3 hk} {g5 : B5} {g6 : B6}
    (h5 : G5 wp g5 j5 ne ce) (h6 : G6 ws g6 j5 ce) (hf : fb = BitVec.ofNat 32 (16 * ne)) (hce : ce < 8)
    {α : Type} {K : Mxu F → TC F α} {Q : α → sProp 𝕄}
    (e0 : o0 = ![j.val, 0, 256 * p]) (e1 : o1 = ![j.val, 240, 256 * p]) (e2 : o2 = ![j.val, 480, 256 * p])
    (e3 : o3 = ![j.val, 720, 256 * p]) (d0 : w0 = ![t.val, 0, 0]) (d1 : w1 = ![t.val, 0, 256])
    (hoc : oc = ![j5.val, 256 * p, 0]) (hos : os = ![j5.val, 256 * p, 0]) (how : ow = ![8 * ce + p, 0, 0]) :
    iprop((P4 c j g ∗ P5 (F := F) c j5 g5 ∗ P6 (F := F) c j5 g6 ∗ P7 c (fdec wp ws ne ce f p)) ∗
      (∀ s', (⌜ST dy wp ws m n (8 * cc + p + 1) r' w s'⌝ ∗ (P4 c j g ∗ P5 (F := F) c j5 g5 ∗ P6 (F := F) c j5 g6 ∗ P7 c (fdec wp ws ne ce f (p + 1)))) -∗ WP c (K s') Q))
    ⊢ WP c (passP m4 m7 r r' o0 h0 o1 h1 o2 h2 o3 h3 w0 g0 w1 g1 s >>= fun s' => decP (F := F) m5 m6 m7 H7 oc l1 os l2 ow l3 hk fb >>= fun _ => K s') Q := by
  iintro ⟨⟨H4, H5, H6, H7⟩, HK⟩
  iapply (wseq c (wp_pass cc p hp t hX hw hj hM hr e0 e1 e2 e3 d0 d1))
  isplitl [H4 H7]
  · isplitl [H4]; · iexact H4
    iexact H7
  iintro %s' ⟨%hs, H4, H7⟩
  iapply (wseq c (wp_dec ne ce p hp h5 h6 hf hce hoc hos how))
  isplitl [H5 H6 H7]
  · isplitl [H5]; · iexact H5
    isplitl [H6]; · iexact H6
    iexact H7
  iintro %_ ⟨H5, H6, H7⟩
  iapply HK
  isplitr; · ipureintro; exact hs
  isplitl [H4]; · iexact H4
  isplitl [H5]; · iexact H5
  isplitl [H6]; · iexact H6
  iexact H7

/-- The tile a pass of a step stages. -/
abbrev tNext (k p : ℕ) : Fin 64 := ⟨(8 * (k % 8) + p + 1) % 64, Nat.mod_lt _ (by decide)⟩
abbrev slot3 (k : ℕ) : Fin 3 := ⟨k % 3, Nat.mod_lt _ (by decide)⟩
abbrev slot2 (e : ℕ) : Fin 2 := ⟨e % 2, Nat.mod_lt _ (by decide)⟩

section Steps

variable (k : Fin k0_t1_loop.trips) {m n : ℕ} {g : B4 F} {f : B7 F}

theorem wp_branch6 (h : k0_cond6 k = 1#1) (hX : GX dy g (slot3 k.val) m (k.val % 8)) (hf : ∀ t, tileOf f t = wOf wp ws n t.val)
    (hM : ST dy wp ws m n (8 * (k.val % 8)) 0 (wOf wp ws n (8 * (k.val % 8))) s) :
    iprop(P4 c (slot3 k.val) g ∗ P7 c f) ⊢ WP c (branch6 m4 m7 k h s) (fun s' => iprop(
      ⌜ST dy wp ws m n (8 * (k.val % 8) + 8) 0 (tileOf f (tNext k.val 7)) s'⌝ ∗ P4 c (slot3 k.val) g ∗ P7 c f)) := by
  have hk := ((cond6_iff k).1 h).2
  have hw : ∀ p, p < 7 → wOf wp ws n (8 * (k.val % 8) + p + 1) = tileOf f (tNext k.val p) := fun p hp => by
    rw [hf]; congr 1; show _ = (8 * (k.val % 8) + p + 1) % 64; omega
  unfold branch6
  iintro H
  iapply (wseq c (wp_pass (k.val % 8) 0 (by decide) (tNext k.val 0) hX (hw 0 (by decide)) (by omega) hM (by decide) (cEq rfl) (cEq rfl) (cEq rfl) (cEq rfl) (cEq rfl) (cEq rfl)))
  isplitl [H]; · iexact H
  iintro %s1 ⟨%h1, H⟩
  iapply (wseq c (wp_pass (k.val % 8) 1 (by decide) (tNext k.val 1) hX (hw 1 (by decide)) (by omega) h1 (by decide) (cEq rfl) (cEq rfl) (cEq rfl) (cEq rfl) (cEq rfl) (cEq rfl)))
  isplitl [H]; · iexact H
  iintro %s2 ⟨%h2, H⟩
  iapply (wseq c (wp_pass (k.val % 8) 2 (by decide) (tNext k.val 2) hX (hw 2 (by decide)) (by omega) h2 (by decide) (cEq rfl) (cEq rfl) (cEq rfl) (cEq rfl) (cEq rfl) (cEq rfl)))
  isplitl [H]; · iexact H
  iintro %s3 ⟨%h3, H⟩
  iapply (wseq c (wp_pass (k.val % 8) 3 (by decide) (tNext k.val 3) hX (hw 3 (by decide)) (by omega) h3 (by decide) (cEq rfl) (cEq rfl) (cEq rfl) (cEq rfl) (cEq rfl) (cEq rfl)))
  isplitl [H]; · iexact H
  iintro %s4 ⟨%h4, H⟩
  iapply (wseq c (wp_pass (k.val % 8) 4 (by decide) (tNext k.val 4) hX (hw 4 (by decide)) (by omega) h4 (by decide) (cEq rfl) (cEq rfl) (cEq rfl) (cEq rfl) (cEq rfl) (cEq rfl)))
  isplitl [H]; · iexact H
  iintro %s5 ⟨%h5, H⟩
  iapply (wseq c (wp_pass (k.val % 8) 5 (by decide) (tNext k.val 5) hX (hw 5 (by decide)) (by omega) h5 (by decide) (cEq rfl) (cEq rfl) (cEq rfl) (cEq rfl) (cEq rfl) (cEq rfl)))
  isplitl [H]; · iexact H
  iintro %s6 ⟨%h6, H⟩
  iapply (wseq c (wp_pass (k.val % 8) 6 (by decide) (tNext k.val 6) hX (hw 6 (by decide)) (by omega) h6 (by decide) (cEq rfl) (cEq rfl) (cEq rfl) (cEq rfl) (cEq rfl) (cEq rfl)))
  isplitl [H]; · iexact H
  iintro %s7 ⟨%h7, H⟩
  iapply (wp_pass (k.val % 8) 7 (by decide) (tNext k.val 7) hX rfl (by omega) h7 (by decide) (cEq rfl) (cEq rfl) (cEq rfl) (cEq rfl) (cEq rfl) (cEq rfl))
  iexact H

theorem wp_branch7 (f8 : B8 F) (h : k0_cond7 k = 1#1) (hX : GX dy g (slot3 k.val) m 0) (hf : ∀ t, tileOf f t = wOf wp ws n t.val)
    (hM : MG s (regs 0 (halfOf (wOf wp ws n 0))) lv A) :
    iprop(P4 c (slot3 k.val) g ∗ P7 c f ∗ P8 c f8) ⊢ WP c (branch7 m4 m7 m8 H8 k h s) (fun s' => iprop(
      ⌜ST dy wp ws m n 8 0 (tileOf f (tNext k.val 7)) s'⌝ ∗ P4 c (slot3 k.val) g ∗ P7 c f ∗ P8 c (outOf A))) := by
  have hk := ((cond7_iff k).1 h).2
  have hw : ∀ p, p < 7 → wOf wp ws n (8 * 0 + p + 1) = tileOf f (tNext k.val p) := fun p hp => by
    rw [hf]; congr 1; show _ = (8 * (k.val % 8) + p + 1) % 64; omega
  unfold branch7
  iintro H
  iapply (wseq c (wp_popPass (tNext k.val 0) hX f8 (hw 0 (by decide)) hM (cEq rfl) (cEq rfl) (cEq rfl) (cEq rfl) (cEq rfl) (cEq rfl)))
  isplitl [H]; · iexact H
  iintro %s1 ⟨%h1, H4, H7, H8⟩
  ihave H : iprop(P4 c (slot3 k.val) g ∗ P7 c f) $$ [H4 H7]
  · isplitl [H4]; · iexact H4
    iexact H7
  iapply (wseq c (wp_pass 0 1 (by decide) (tNext k.val 1) hX (hw 1 (by decide)) (by omega) h1 (by decide) (cEq rfl) (cEq rfl) (cEq rfl) (cEq rfl) (cEq rfl) (cEq rfl)))
  isplitl [H]; · iexact H
  iintro %s2 ⟨%h2, H⟩
  iapply (wseq c (wp_pass 0 2 (by decide) (tNext k.val 2) hX (hw 2 (by decide)) (by omega) h2 (by decide) (cEq rfl) (cEq rfl) (cEq rfl) (cEq rfl) (cEq rfl) (cEq rfl)))
  isplitl [H]; · iexact H
  iintro %s3 ⟨%h3, H⟩
  iapply (wseq c (wp_pass 0 3 (by decide) (tNext k.val 3) hX (hw 3 (by decide)) (by omega) h3 (by decide) (cEq rfl) (cEq rfl) (cEq rfl) (cEq rfl) (cEq rfl) (cEq rfl)))
  isplitl [H]; · iexact H
  iintro %s4 ⟨%h4, H⟩
  iapply (wseq c (wp_pass 0 4 (by decide) (tNext k.val 4) hX (hw 4 (by decide)) (by omega) h4 (by decide) (cEq rfl) (cEq rfl) (cEq rfl) (cEq rfl) (cEq rfl) (cEq rfl)))
  isplitl [H]; · iexact H
  iintro %s5 ⟨%h5, H⟩
  iapply (wseq c (wp_pass 0 5 (by decide) (tNext k.val 5) hX (hw 5 (by decide)) (by omega) h5 (by decide) (cEq rfl) (cEq rfl) (cEq rfl) (cEq rfl) (cEq rfl) (cEq rfl)))
  isplitl [H]; · iexact H
  iintro %s6 ⟨%h6, H⟩
  iapply (wseq c (wp_pass 0 6 (by decide) (tNext k.val 6) hX (hw 6 (by decide)) (by omega) h6 (by decide) (cEq rfl) (cEq rfl) (cEq rfl) (cEq rfl) (cEq rfl) (cEq rfl)))
  isplitl [H]; · iexact H
  iintro %s7 ⟨%h7, H⟩
  iapply (wend c (wp_pass 0 7 (by decide) (tNext k.val 7) hX rfl (by omega) h7 (by decide) (cEq rfl) (cEq rfl) (cEq rfl) (cEq rfl) (cEq rfl) (cEq rfl)))
  isplitl [H]; · iexact H
  iintro %s8 ⟨%h8, H4, H7⟩
  isplitr; · ipureintro; exact h8
  isplitl [H4]; · iexact H4
  isplitl [H7]; · iexact H7
  iexact H8

/-- The last pass of a step that decodes stages the first tile decoded. -/
theorem hwLast (f : B7 F) : wOf wp ws ((k.val + 1) / 64) (8 * (chunk k.val % 8)) = tileOf (fdec wp ws ((k.val + 1) / 64) (chunk k.val % 8) f 7) (tNext k.val 7) := by
  rw [tileOf_fdec]
  show _ = if (8 * (k.val % 8) + 7 + 1) % 64 / 8 = chunk k.val % 8 ∧ (8 * (k.val % 8) + 7 + 1) % 64 % 8 < 7 then wOf wp ws ((k.val + 1) / 64) ((8 * (k.val % 8) + 7 + 1) % 64) else _
  rw [if_pos (by unfold chunk; omega), show 8 * (chunk k.val % 8) = (8 * (k.val % 8) + 7 + 1) % 64 by unfold chunk; omega]

theorem wp_branch8 {g5 : B5} {g6 : B6} (h : k0_cond8 k = 1#1) (hX : GX dy g (slot3 k.val) m (k.val % 8))
    (hf : ∀ t : Fin 64, t.val / 8 = k.val % 8 → tileOf f t = wOf wp ws n t.val)
    (hg5 : G5 wp g5 (slot2 (chunk k.val)) ((k.val + 1) / 64) (chunk k.val % 8)) (hg6 : G6 ws g6 (slot2 (chunk k.val)) (chunk k.val % 8)) {a : BitVec 32}
    (hfb : fbOf a = BitVec.ofNat 32 (16 * ((k.val + 1) / 64)))
    (hM : ST dy wp ws m n (8 * (k.val % 8)) 0 (wOf wp ws n (8 * (k.val % 8))) s) :
    iprop(P4 c (slot3 k.val) g ∗ P5 (F := F) c (slot2 (chunk k.val)) g5 ∗ P6 (F := F) c (slot2 (chunk k.val)) g6 ∗ P7 c f)
    ⊢ WP c (branch8 m4 m5 m6 m7 H7 k h a s) (fun s' => iprop(
      ⌜ST dy wp ws m n (8 * (k.val % 8) + 8) 0 (wOf wp ws ((k.val + 1) / 64) (8 * (chunk k.val % 8))) s'⌝ ∗ P4 c (slot3 k.val) g
        ∗ P5 (F := F) c (slot2 (chunk k.val)) g5 ∗ P6 (F := F) c (slot2 (chunk k.val)) g6 ∗ P7 c (fdec wp ws ((k.val + 1) / 64) (chunk k.val % 8) f 8))) := by
  have hk := ((cond8_iff k).1 h).2
  have hw : ∀ p, p < 7 → wOf wp ws n (8 * (k.val % 8) + p + 1) = tileOf (fdec wp ws ((k.val + 1) / 64) (chunk k.val % 8) f p) (tNext k.val p) := fun p hp => by
    rw [tileOf_fdec]
    show wOf wp ws n (8 * (k.val % 8) + p + 1) = if (8 * (k.val % 8) + p + 1) % 64 / 8 = chunk k.val % 8 ∧ (8 * (k.val % 8) + p + 1) % 64 % 8 < p then _ else _
    rw [if_neg (by unfold chunk; omega), hf _ (by show (8 * (k.val % 8) + p + 1) % 64 / 8 = _; omega)]
    congr 1; show _ = (8 * (k.val % 8) + p + 1) % 64; omega
  have hw7 : wOf wp ws ((k.val + 1) / 64) (8 * (chunk k.val % 8)) = tileOf (fdec wp ws ((k.val + 1) / 64) (chunk k.val % 8) f 7) (tNext k.val 7) := hwLast k _
  unfold branch8
  iintro H
  rw [← fdec_zero wp ws ((k.val + 1) / 64) (chunk k.val % 8) f]
  iapply (wp_passDec (k.val % 8) 0 _ _ (by decide) (tNext k.val 0) hX (hw 0 (by decide)) (by omega) hM (by decide) hg5 hg6 hfb (by omega) (cEq rfl) (cEq rfl) (cEq rfl) (cEq rfl) (cEq rfl) (cEq rfl) (cEq rfl) (cEq rfl) (cEq rfl))
  isplitl [H]; · iexact H
  iintro %s1 ⟨%h1, H⟩
  iapply (wp_passDec (k.val % 8) 1 _ _ (by decide) (tNext k.val 1) hX (hw 1 (by decide)) (by omega) h1 (by decide) hg5 hg6 hfb (by omega) (cEq rfl) (cEq rfl) (cEq rfl) (cEq rfl) (cEq rfl) (cEq rfl) (cEq rfl) (cEq rfl) (cEq rfl))
  isplitl [H]; · iexact H
  iintro %s2 ⟨%h2, H⟩
  iapply (wp_passDec (k.val % 8) 2 _ _ (by decide) (tNext k.val 2) hX (hw 2 (by decide)) (by omega) h2 (by decide) hg5 hg6 hfb (by omega) (cEq rfl) (cEq rfl) (cEq rfl) (cEq rfl) (cEq rfl) (cEq rfl) (cEq rfl) (cEq rfl) (cEq rfl))
  isplitl [H]; · iexact H
  iintro %s3 ⟨%h3, H⟩
  iapply (wp_passDec (k.val % 8) 3 _ _ (by decide) (tNext k.val 3) hX (hw 3 (by decide)) (by omega) h3 (by decide) hg5 hg6 hfb (by omega) (cEq rfl) (cEq rfl) (cEq rfl) (cEq rfl) (cEq rfl) (cEq rfl) (cEq rfl) (cEq rfl) (cEq rfl))
  isplitl [H]; · iexact H
  iintro %s4 ⟨%h4, H⟩
  iapply (wp_passDec (k.val % 8) 4 _ _ (by decide) (tNext k.val 4) hX (hw 4 (by decide)) (by omega) h4 (by decide) hg5 hg6 hfb (by omega) (cEq rfl) (cEq rfl) (cEq rfl) (cEq rfl) (cEq rfl) (cEq rfl) (cEq rfl) (cEq rfl) (cEq rfl))
  isplitl [H]; · iexact H
  iintro %s5 ⟨%h5, H⟩
  iapply (wp_passDec (k.val % 8) 5 _ _ (by decide) (tNext k.val 5) hX (hw 5 (by decide)) (by omega) h5 (by decide) hg5 hg6 hfb (by omega) (cEq rfl) (cEq rfl) (cEq rfl) (cEq rfl) (cEq rfl) (cEq rfl) (cEq rfl) (cEq rfl) (cEq rfl))
  isplitl [H]; · iexact H
  iintro %s6 ⟨%h6, H⟩
  iapply (wp_passDec (k.val % 8) 6 _ _ (by decide) (tNext k.val 6) hX (hw 6 (by decide)) (by omega) h6 (by decide) hg5 hg6 hfb (by omega) (cEq rfl) (cEq rfl) (cEq rfl) (cEq rfl) (cEq rfl) (cEq rfl) (cEq rfl) (cEq rfl) (cEq rfl))
  isplitl [H]; · iexact H
  iintro %s7 ⟨%h7, H⟩
  iapply (wp_passDec (k.val % 8) 7 _ _ (by decide) (tNext k.val 7) hX hw7 (by omega) h7 (by decide) hg5 hg6 hfb (by omega) (cEq rfl) (cEq rfl) (cEq rfl) (cEq rfl) (cEq rfl) (cEq rfl) (cEq rfl) (cEq rfl) (cEq rfl))
  isplitl [H]; · iexact H
  iintro %s8 ⟨%h8, H⟩
  iapply (le_wp_ret _ _ _ _ _)
  isplitr; · ipureintro; exact h8
  rw [fdec_zero]
  iexact H

theorem wp_branch9 {g5 : B5} {g6 : B6} (f8 : B8 F) (h : k0_cond9 k = 1#1) (hX : GX dy g (slot3 k.val) m 0)
    (hf : ∀ t : Fin 64, t.val / 8 = k.val % 8 → tileOf f t = wOf wp ws n t.val)
    (hg5 : G5 wp g5 (slot2 (chunk k.val)) ((k.val + 1) / 64) (chunk k.val % 8)) (hg6 : G6 ws g6 (slot2 (chunk k.val)) (chunk k.val % 8)) {a : BitVec 32}
    (hfb : fbOf a = BitVec.ofNat 32 (16 * ((k.val + 1) / 64)))
    (hM : MG s (regs 0 (halfOf (wOf wp ws n 0))) lv A) :
    iprop(P4 c (slot3 k.val) g ∗ P5 (F := F) c (slot2 (chunk k.val)) g5 ∗ P6 (F := F) c (slot2 (chunk k.val)) g6 ∗ P7 c f ∗ P8 c f8)
    ⊢ WP c (branch9 m4 m5 m6 m7 H7 m8 H8 k h a s) (fun s' => iprop(
      ⌜ST dy wp ws m n 8 0 (wOf wp ws ((k.val + 1) / 64) (8 * (chunk k.val % 8))) s'⌝ ∗ P4 c (slot3 k.val) g
        ∗ P5 (F := F) c (slot2 (chunk k.val)) g5 ∗ P6 (F := F) c (slot2 (chunk k.val)) g6 ∗ P7 c (fdec wp ws ((k.val + 1) / 64) (chunk k.val % 8) f 8) ∗ P8 c (outOf A))) := by
  have hk := ((cond9_iff k).1 h).2
  have hw : ∀ p, p < 7 → wOf wp ws n (8 * 0 + p + 1) = tileOf (fdec wp ws ((k.val + 1) / 64) (chunk k.val % 8) f p) (tNext k.val p) := fun p hp => by
    rw [tileOf_fdec]
    show wOf wp ws n (8 * 0 + p + 1) = if (8 * (k.val % 8) + p + 1) % 64 / 8 = chunk k.val % 8 ∧ (8 * (k.val % 8) + p + 1) % 64 % 8 < p then _ else _
    rw [if_neg (by unfold chunk; omega), hf _ (by show (8 * (k.val % 8) + p + 1) % 64 / 8 = _; omega)]
    congr 1; show _ = (8 * (k.val % 8) + p + 1) % 64; omega
  have hw7 : wOf wp ws ((k.val + 1) / 64) (8 * (chunk k.val % 8)) = tileOf (fdec wp ws ((k.val + 1) / 64) (chunk k.val % 8) f 7) (tNext k.val 7) := hwLast k _
  unfold branch9
  iintro ⟨H4, H5, H6, H7, H8⟩
  iapply (wseq c (wp_popPass (f := f) (tNext k.val 0) hX f8 ((hw 0 (by decide)).trans (by rw [fdec_zero])) hM (cEq rfl) (cEq rfl) (cEq rfl) (cEq rfl) (cEq rfl) (cEq rfl)))
  isplitl [H4 H7 H8]
  · isplitl [H4]; · iexact H4
    isplitl [H7]; · iexact H7
    iexact H8
  iintro %s1 ⟨%h1, H4, H7, H8⟩
  ihave H7 : P7 c (fdec wp ws ((k.val + 1) / 64) (chunk k.val % 8) f 0) $$ [H7]
  · rw [fdec_zero]; iexact H7
  iapply (wseq c (wp_dec ((k.val + 1) / 64) (chunk k.val % 8) 0 (by decide) hg5 hg6 hfb (by omega) (cEq rfl) (cEq rfl) (cEq rfl)))
  isplitl [H5 H6 H7]
  · isplitl [H5]; · iexact H5
    isplitl [H6]; · iexact H6
    iexact H7
  iintro %_ ⟨H5, H6, H7⟩
  ihave H : iprop(P4 c (slot3 k.val) g ∗ P5 (F := F) c (slot2 (chunk k.val)) g5 ∗ P6 (F := F) c (slot2 (chunk k.val)) g6 ∗ P7 c (fdec wp ws ((k.val + 1) / 64) (chunk k.val % 8) f 1)) $$ [H4 H5 H6 H7]
  · isplitl [H4]; · iexact H4
    isplitl [H5]; · iexact H5
    isplitl [H6]; · iexact H6
    iexact H7
  iapply (wp_passDec 0 1 _ _ (by decide) (tNext k.val 1) hX (hw 1 (by decide)) (by omega) h1 (by decide) hg5 hg6 hfb (by omega) (cEq rfl) (cEq rfl) (cEq rfl) (cEq rfl) (cEq rfl) (cEq rfl) (cEq rfl) (cEq rfl) (cEq rfl))
  isplitl [H]; · iexact H
  iintro %s2 ⟨%h2, H⟩
  iapply (wp_passDec 0 2 _ _ (by decide) (tNext k.val 2) hX (hw 2 (by decide)) (by omega) h2 (by decide) hg5 hg6 hfb (by omega) (cEq rfl) (cEq rfl) (cEq rfl) (cEq rfl) (cEq rfl) (cEq rfl) (cEq rfl) (cEq rfl) (cEq rfl))
  isplitl [H]; · iexact H
  iintro %s3 ⟨%h3, H⟩
  iapply (wp_passDec 0 3 _ _ (by decide) (tNext k.val 3) hX (hw 3 (by decide)) (by omega) h3 (by decide) hg5 hg6 hfb (by omega) (cEq rfl) (cEq rfl) (cEq rfl) (cEq rfl) (cEq rfl) (cEq rfl) (cEq rfl) (cEq rfl) (cEq rfl))
  isplitl [H]; · iexact H
  iintro %s4 ⟨%h4, H⟩
  iapply (wp_passDec 0 4 _ _ (by decide) (tNext k.val 4) hX (hw 4 (by decide)) (by omega) h4 (by decide) hg5 hg6 hfb (by omega) (cEq rfl) (cEq rfl) (cEq rfl) (cEq rfl) (cEq rfl) (cEq rfl) (cEq rfl) (cEq rfl) (cEq rfl))
  isplitl [H]; · iexact H
  iintro %s5 ⟨%h5, H⟩
  iapply (wp_passDec 0 5 _ _ (by decide) (tNext k.val 5) hX (hw 5 (by decide)) (by omega) h5 (by decide) hg5 hg6 hfb (by omega) (cEq rfl) (cEq rfl) (cEq rfl) (cEq rfl) (cEq rfl) (cEq rfl) (cEq rfl) (cEq rfl) (cEq rfl))
  isplitl [H]; · iexact H
  iintro %s6 ⟨%h6, H⟩
  iapply (wp_passDec 0 6 _ _ (by decide) (tNext k.val 6) hX (hw 6 (by decide)) (by omega) h6 (by decide) hg5 hg6 hfb (by omega) (cEq rfl) (cEq rfl) (cEq rfl) (cEq rfl) (cEq rfl) (cEq rfl) (cEq rfl) (cEq rfl) (cEq rfl))
  isplitl [H]; · iexact H
  iintro %s7 ⟨%h7, H⟩
  iapply (wp_passDec 0 7 _ _ (by decide) (tNext k.val 7) hX hw7 (by omega) h7 (by decide) hg5 hg6 hfb (by omega) (cEq rfl) (cEq rfl) (cEq rfl) (cEq rfl) (cEq rfl) (cEq rfl) (cEq rfl) (cEq rfl) (cEq rfl))
  isplitl [H]; · iexact H
  iintro %s8 ⟨%h8, H⟩
  icases H with ⟨H4, H5, H6, H7⟩
  iapply (le_wp_ret _ _ _ _ _)
  isplitr; · ipureintro; exact h8
  isplitl [H4]; · iexact H4
  isplitl [H5]; · iexact H5
  isplitl [H6]; · iexact H6
  isplitl [H7]; · iexact H7
  iexact H8

end Steps

end Cert.KernelIdeal.P
-- ==== Proof.I.Dma.lean ====
/-  The transfers of a step: what a slot holds once a transfer into it has landed, and the rules that start one and wait for it. -/
module

public import proofs.«01_k».proof.Proof.I.Steps
public import Idealize.ShloMosaic.Lib.Transfers

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

abbrev semP (c : Dev nD) (sm : DmaSem sig) : sProp 𝕄 := semVal ((c : Thread nD τ), SemLoc.dma sm) 0
abbrev Fl (c : Dev nD) (sm : DmaSem sig) (N : ℕ) (D : sProp 𝕄) : sProp 𝕄 := Transfers.Flight countersEmb (c : Thread nD τ) (SemLoc.dma sm) () N D
/-- What the core owes: nothing, whatever it has waited for. -/
def OW (c : Dev nD) : sProp 𝕄 := iprop(∃ W, owes (c : Thread nD τ) 0 W)

/-- A flight carries what is set beside it. -/
theorem Fl_frame (c : Dev nD) {sm : DmaSem sig} {N : ℕ} {D R : sProp 𝕄} : iprop(R ∗ Fl c sm N D) ⊢ Fl c sm N iprop(D ∗ R) := by
  unfold Fl Transfers.Flight
  iintro ⟨HR, ⟨%P, HP, %hcap, %hpeek⟩, Hcred⟩
  isplitl [HR HP]
  · iexists iprop(P ∗ R)
    isplitl [HR HP]
    · isplitl [HP]; · iexact HP
      iexact HR
    isplit
    · ipureintro
      intro K
      iintro ⟨⟨HP, HR⟩, HK⟩
      iapply (hcap K)
      isplitl [HP]; · iexact HP
      iintro ⟨Hv, HD⟩
      iapply HK
      isplitl [Hv]; · iexact Hv
      isplitl [HD]; · iexact HD
      iexact HR
    · ipureintro
      intro K
      iintro ⟨⟨HP, HR⟩, HK⟩
      iapply (hpeek K)
      isplitl [HP]; · iexact HP
      iintro HP
      iapply HK
      isplitl [HP]; · iexact HP
      iexact HR
  · iexact Hcred

/-- Starting a transfer: held are the destination's part of its buffer, the source's whole buffer at a share, and the counter at zero. -/
theorem dma_start (c : Dev nD) {sp sp' : Space} {s : Shape} {e : EltTy} (src : Memref sig .tc sp s e) (dst : Memref sig .tc sp' s e) (sm : DmaSem sig)
    {hsrc hdst hsem} (hs : 0 < s.numel) {Sd : Finset (Idx (dst.view.loc (c : Thread nD τ)))} (hSd : dst.view.set ⊆ Sd) (q : PosShare TreeShare)
    (fs : Buf (Elt F) (src.view.loc (c : Thread nD τ))) (Good : Buf (Elt F) (dst.view.loc (c : Thread nD τ)) → Prop)
    (hG : ∀ fd, Good (dst.view.write (Elt F) fd (src.view.read (Elt F) fs) Finset.univ)) :
    iprop((∃ fd, dst.view.loc (c : Thread nD τ) ↦[Sd]{fullShare} fd) ∗ semP c sm ∗ (src.view.loc (c : Thread nD τ) ↦[Finset.univ]{q} fs))
    ⊢ WP c (Prog.lift (.enqueueDma src (.here dst) (.dma sm) hsrc hdst hsem))
      (fun _ => Fl c sm dst.view.dmaCredit iprop((∃ g, ⌜Good g⌝ ∗ dst.view.loc (c : Thread nD τ) ↦[Sd]{fullShare} g) ∗ (src.view.loc (c : Thread nD τ) ↦[Finset.univ]{q} fs))) := by
  iintro ⟨⟨%fd, Hd⟩, Hsem, Hs⟩
  ihave Hs2 := (pointsTo_split_subset (ℓ := src.view.loc (c : Thread nD τ)) (q := q) (f := fs) (Finset.subset_univ src.view.set)).1 $$ Hs
  icases Hs2 with ⟨Hs, Hr⟩
  unfold WP Prog.lift
  iapply (Transfers.wp_dmaLocal countersEmb 𝒱₀ (c : Thread nD τ) none () dst.view.dmaCredit rfl (View.dmaCredit_pos _ hs) hSd) $$ [Hs Hd Hsem]
  · isplitl [Hs]; · iexact Hs
    isplitl [Hd]; · iexact Hd
    iexact Hsem
  iintro HF
  iapply (le_wp_ret _ _ _ _ _)
  ihave HF2 : Fl c sm dst.view.dmaCredit _ $$ [HF Hr]
  · iapply (Fl_frame c)
    isplitl [Hr]; · iexact Hr
    iexact HF
  iapply (Transfers.Flight_mono ?_) $$ HF2
  iintro ⟨⟨Hd, Hs⟩, Hr⟩
  isplitl [Hd]
  · iexists _
    isplitr; rotate_left
    · iexact Hd
    · ipureintro; exact hG fd
  · iapply (pointsTo_split_subset (ℓ := src.view.loc (c : Thread nD τ)) (q := q) (f := fs) (Finset.subset_univ src.view.set)).2
    isplitl [Hs]; · iexact Hs
    iexact Hr

/-- Waiting for a transfer. -/
theorem dma_wait (c : Dev nD) {sp sp' : Space} {s s' : Shape} {e e' : EltTy} (srcw : Memref sig .tc sp' s' e') (dstw : Memref sig .tc sp s e) (sm : DmaSem sig)
    {hsrc hdst} {N : ℕ} (hN : dstw.view.dmaCredit = N) {D : sProp 𝕄} :
    iprop(Fl c sm N D ∗ OW (F := F) c) ⊢ WP c (Prog.lift (.waitDma2 sm srcw dstw hsrc hdst)) (fun _ => iprop(D ∗ semP (F := F) c sm ∗ OW (F := F) c)) := by
  unfold OW
  iintro ⟨HF, ⟨%W, HW⟩⟩
  unfold WP Prog.lift
  iapply (Transfers.wp_waitLocal countersEmb 𝒱₀ (c : Thread nD τ) none () hN) $$ [HF HW]
  · isplitl [HF]; · iexact HF
    iexact HW
  iintro ⟨HD, Hs, HW⟩
  iapply (le_wp_ret _ _ _ _ _)
  isplitl [HD]; · iexact HD
  isplitl [Hs]; · iexact Hs
  iexists _; iexact HW

end Cert.KernelIdeal.P
-- ==== Proof.I.Slots.lean ====
/-  The slots of the three inputs and the blocks of the result: free, being filled, or filled; and the transfers between those. -/
module

public import proofs.«01_k».proof.Proof.I.Dma

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

abbrev a0 : Memref sig .tc .hbm S7680x16384 .bf16 := Memref.whole main_v0
abbrev a1 : Memref sig .tc .hbm S16384x1024 .i8 := Memref.whole main_arg1
abbrev a2 : Memref sig .tc .hbm S16384x64 .i8 := Memref.whole main_arg2
abbrev a3 : Memref sig .tc .hbm S7680x2048 .bf16 := Memref.whole main_v1

/-- An index of a block with a unit axis dropped. -/
theorem rse {a b : ℕ} (h : (⟨2, ![a, b]⟩ : Shape).numel = (⟨3, ![1, a, b]⟩ : Shape).numel) (x : (⟨2, ![a, b]⟩ : Shape).Idx) :
    Shape.reshapeEquiv h x = (Fin.cons ⟨0, Nat.one_pos⟩ x : (⟨3, ![1, a, b]⟩ : Shape).Idx) :=
  shapeCast_dropUnit_apply (α := (⟨3, ![1, a, b]⟩ : Shape).Idx) ![a, b] id h x

theorem inb3 (j : Fin 3) : ∀ a, (![j.val] : Fin 1 → ℕ) a + S1.size a ≤ S3.size a := by
  intro a; fin_cases a; show j.val + 1 ≤ 3; omega
theorem inb2 (j : Fin 2) : ∀ a, (![j.val] : Fin 1 → ℕ) a + S1.size a ≤ S2.size a := by
  intro a; fin_cases a; show j.val + 1 ≤ 2; omega

/-- The semaphore of a slot. -/
def sem9 (j : Fin 3) : DmaSem sig := ((cc0_scratch5.slice (Rect.unit (s := S3) ![j.val] S1.size (inb3 j))).squeeze S_ squeezes_S1_S_).sem
def sem10 (j : Fin 2) : DmaSem sig := ((cc0_scratch6.slice (Rect.unit (s := S2) ![j.val] S1.size (inb2 j))).squeeze S_ squeezes_S1_S_).sem
def sem11 (j : Fin 2) : DmaSem sig := ((cc0_scratch7.slice (Rect.unit (s := S2) ![j.val] S1.size (inb2 j))).squeeze S_ squeezes_S1_S_).sem
abbrev sem12 : DmaSem sig := cc0_scratch8.sem

/-- A slot's view, and a block's. -/
abbrev w4 (o : Fin 3 → ℕ) (h : ∀ a, o a + S1x960x2048.size a ≤ S3x960x2048.size a) : Memref sig .tc .vmem S960x2048 .bf16 :=
  (m4.slice (Rect.unit (s := S3x960x2048) o S1x960x2048.size h) (fun _ => rfl)).squeeze S960x2048 squeezes_S1x960x2048_S960x2048
abbrev w5 (o : Fin 3 → ℕ) (h : ∀ a, o a + S1x2048x256.size a ≤ S2x2048x256.size a) : Memref sig .tc .vmem S2048x256 .i8 :=
  (m5.slice (Rect.unit (s := S2x2048x256) o S1x2048x256.size h) (fun _ => rfl)).squeeze S2048x256 squeezes_S1x2048x256_S2048x256
abbrev w6 (o : Fin 3 → ℕ) (h : ∀ a, o a + S1x2048x64.size a ≤ S2x2048x64.size a) : Memref sig .tc .vmem S2048x64 .i8 :=
  (m6.slice (Rect.unit (s := S2x2048x64) o S1x2048x64.size h) (fun _ => rfl)).squeeze S2048x64 squeezes_S1x2048x64_S2048x64
abbrev b0 (o : Fin 2 → ℕ) (h : ∀ a, o a + S960x2048.size a ≤ S7680x16384.size a) : Memref sig .tc .hbm S960x2048 .bf16 :=
  a0.slice (Rect.unit (s := S7680x16384) o S960x2048.size h) (fun _ => rfl)
abbrev b1 (o : Fin 2 → ℕ) (h : ∀ a, o a + S2048x256.size a ≤ S16384x1024.size a) : Memref sig .tc .hbm S2048x256 .i8 :=
  a1.slice (Rect.unit (s := S16384x1024) o S2048x256.size h) (fun _ => rfl)
abbrev b2 (o : Fin 2 → ℕ) (h : ∀ a, o a + S2048x64.size a ≤ S16384x64.size a) : Memref sig .tc .hbm S2048x64 .i8 :=
  a2.slice (Rect.unit (s := S16384x64) o S2048x64.size h) (fun _ => rfl)
abbrev b3 (o : Fin 2 → ℕ) (h : ∀ a, o a + S960x512.size a ≤ S7680x2048.size a) : Memref sig .tc .hbm S960x512 .bf16 :=
  a3.slice (Rect.unit (s := S7680x2048) o S960x512.size h) (fun _ => rfl)
abbrev u9 (o : Fin 1 → ℕ) (h : ∀ a, o a + S1.size a ≤ S3.size a) : DmaSem sig := ((cc0_scratch5.slice (Rect.unit (s := S3) o S1.size h)).squeeze S_ squeezes_S1_S_).sem
abbrev u10 (o : Fin 1 → ℕ) (h : ∀ a, o a + S1.size a ≤ S2.size a) : DmaSem sig := ((cc0_scratch6.slice (Rect.unit (s := S2) o S1.size h)).squeeze S_ squeezes_S1_S_).sem
abbrev u11 (o : Fin 1 → ℕ) (h : ∀ a, o a + S1.size a ≤ S2.size a) : DmaSem sig := ((cc0_scratch7.slice (Rect.unit (s := S2) o S1.size h)).squeeze S_ squeezes_S1_S_).sem

section Slots

variable (c : Dev nD) (dy : S7680x16384.Idx → F .bf16) (wp : S16384x1024.Idx → BitVec 8) (ws : S16384x64.Idx → BitVec 8)

/-- The share of an input a slot's transfers read with. -/
abbrev T0 (j : Fin 3) : sProp 𝕄 := a0.view.loc (c : Thread nD τ) ↦[Finset.univ]{Transfers.shareTok fullShare 3 j} dy
abbrev T1 (j : Fin 2) : sProp 𝕄 := a1.view.loc (c : Thread nD τ) ↦[Finset.univ]{Transfers.shareTok fullShare 2 j} wp
abbrev T2 (j : Fin 2) : sProp 𝕄 := a2.view.loc (c : Thread nD τ) ↦[Finset.univ]{Transfers.shareTok fullShare 2 j} ws

abbrev N4 : ℕ := sig.dmaCredit .tc (Kind.tc.table .vmem) m4.view.buf S960x2048 .bf16
abbrev N5 : ℕ := sig.dmaCredit .tc (Kind.tc.table .vmem) m5.view.buf S2048x256 .i8
abbrev N6 : ℕ := sig.dmaCredit .tc (Kind.tc.table .vmem) m6.view.buf S2048x64 .i8
abbrev NO : ℕ := sig.dmaCredit .tc (Kind.tc.table .hbm) a3.view.buf S960x512 .bf16

/-- A slot of the left operand, free; being filled with a block; filled. -/
def FR4 (j : Fin 3) : sProp 𝕄 := iprop((∃ g, P4 (F := F) c j g) ∗ semP c (sem9 j) ∗ T0 c dy j)
def FL4 (j : Fin 3) (m ch : ℕ) : sProp 𝕄 := Fl c (sem9 j) N4 iprop((∃ g, ⌜GX dy g j m ch⌝ ∗ P4 c j g) ∗ T0 c dy j)
def LD4 (j : Fin 3) (m ch : ℕ) : sProp 𝕄 := iprop(((∃ g, ⌜GX dy g j m ch⌝ ∗ P4 c j g) ∗ T0 c dy j) ∗ semP c (sem9 j))

/-- A slot of the codes and scales likewise. -/
def FR5 (j : Fin 2) : sProp 𝕄 := iprop((∃ g, P5 (F := F) c j g) ∗ semP c (sem10 j) ∗ T1 (F := F) c wp j)
def FL5 (j : Fin 2) (n ch : ℕ) : sProp 𝕄 := Fl c (sem10 j) N5 iprop((∃ g, ⌜G5 wp g j n ch⌝ ∗ P5 (F := F) c j g) ∗ T1 (F := F) c wp j)
def LD5 (j : Fin 2) (n ch : ℕ) : sProp 𝕄 := iprop(((∃ g, ⌜G5 wp g j n ch⌝ ∗ P5 (F := F) c j g) ∗ T1 (F := F) c wp j) ∗ semP c (sem10 j))
def FR6 (j : Fin 2) : sProp 𝕄 := iprop((∃ g, P6 (F := F) c j g) ∗ semP c (sem11 j) ∗ T2 (F := F) c ws j)
def FL6 (j : Fin 2) (ch : ℕ) : sProp 𝕄 := Fl c (sem11 j) N6 iprop((∃ g, ⌜G6 ws g j ch⌝ ∗ P6 (F := F) c j g) ∗ T2 (F := F) c ws j)
def LD6 (j : Fin 2) (ch : ℕ) : sProp 𝕄 := iprop(((∃ g, ⌜G6 ws g j ch⌝ ∗ P6 (F := F) c j g) ∗ T2 (F := F) c ws j) ∗ semP c (sem11 j))

variable {c dy wp ws}

theorem LD4_free {j : Fin 3} {m ch : ℕ} : LD4 c dy j m ch ⊢ FR4 c dy j := by
  unfold LD4 FR4
  iintro ⟨⟨⟨%g, -, H⟩, HT⟩, HS⟩
  isplitl [H]; · iexists g; iexact H
  isplitl [HS]; · iexact HS
  iexact HT
theorem LD5_free {j : Fin 2} {n ch : ℕ} : LD5 (F := F) c wp j n ch ⊢ FR5 c wp j := by
  unfold LD5 FR5
  iintro ⟨⟨⟨%g, -, H⟩, HT⟩, HS⟩
  isplitl [H]; · iexists g; iexact H
  isplitl [HS]; · iexact HS
  iexact HT
theorem LD6_free {j : Fin 2} {ch : ℕ} : LD6 (F := F) c ws j ch ⊢ FR6 c ws j := by
  unfold LD6 FR6
  iintro ⟨⟨⟨%g, -, H⟩, HT⟩, HS⟩
  isplitl [H]; · iexists g; iexact H
  isplitl [HS]; · iexact HS
  iexact HT

theorem x_start {j : Fin 3} {m ch : ℕ} {os hs od hd ob hb w1 w2 w3} (es : os = ![j.val]) (ed : od = ![j.val, 0, 0]) (eb : ob = ![960 * m, 2048 * ch]) :
    FR4 c dy j ⊢ WP c (Prog.lift (.enqueueDma (b0 ob hb)
      (.here (w4 od hd))
      (.dma (u9 os hs)) w1 w2 w3)) (fun _ => FL4 c dy j m ch) := by
  subst es ed eb
  unfold FR4 FL4
  have hb0 : 960 * m + 960 ≤ 7680 := hb 0
  have hb1 : 2048 * ch + 2048 ≤ 16384 := hb 1
  refine dma_start c (b0 _ hb) (w4 _ hd) (u9 _ hs) (by decide) (Sd := S4 j) ?_ _ dy (fun g => GX dy g j m ch) ?_
  · intro y hy
    have hy' := (Finset.ext_iff.1 ((View.set_reshape _ _).trans (View.set_slice_whole cc0_scratch0 (Rect.unit (s := S3x960x2048) ![j.val, 0, 0] S1x960x2048.size hd))) y).1 hy
    have h1 : j.val ≤ (y 0).val ∧ (y 0).val < j.val + 1 := Rect.mem_set_unit.1 hy' 0
    simp only [S4, Finset.mem_filter, Finset.mem_univ, true_and]
    omega
  · intro fd y hy
    have hy1 : (y 1).val < 960 := (y 1).isLt
    have hy2 : (y 2).val < 2048 := (y 2).isLt
    have e : y = (w4 ![j.val, 0, 0] hd).view.emb (ix2 (y 1) (y 2)) := by
      show y = (Rect.unit (s := S3x960x2048) ![j.val, 0, 0] S1x960x2048.size hd).emb (Shape.reshapeEquiv squeezes_S1x960x2048_S960x2048.numel_eq (ix2 (y 1) (y 2)))
      rw [rse]
      funext a; apply Fin.ext
      fin_cases a
      · show (y 0).val = j.val + 1 * 0; omega
      · show (y 1).val = 0 + 1 * (y 1).val; omega
      · show (y 2).val = 0 + 1 * (y 2).val; omega
    refine (congrArg _ e).trans ((View.write_emb_of_mem (v := (w4 ![j.val, 0, 0] hd).view) (Val := Elt F) fd _ (Finset.mem_univ _)).trans ?_)
    show dy _ = dy _
    congr 1
    funext a; apply Fin.ext
    fin_cases a
    · show 960 * m + 1 * (y 1).val = (960 * m + (y 1).val) % 7680; omega
    · show 2048 * ch + 1 * (y 2).val = (2048 * ch + (y 2).val) % 16384; omega

theorem x_wait {j : Fin 3} {m ch : ℕ} {os hs od hd} (srcw : Memref sig .tc .hbm S960x2048 .bf16) {w1 w2} (es : os = ![j.val]) :
    iprop(FL4 c dy j m ch ∗ OW (F := F) c) ⊢ WP c (Prog.lift (.waitDma2 (u9 os hs) srcw
      (w4 od hd) w1 w2))
      (fun _ => iprop(LD4 c dy j m ch ∗ OW (F := F) c)) := by
  subst es
  unfold FL4 LD4
  iintro H
  iapply (wend c (dma_wait c srcw (w4 _ hd) (u9 _ (inb3 j)) rfl))
  isplitl [H]; · iexact H
  iintro %_ ⟨HD, HS, HW⟩
  isplitr [HW]
  · isplitl [HD]; · iexact HD
    iexact HS
  iexact HW

theorem c_start {j : Fin 2} {n ch : ℕ} {os hs od hd ob hb w1 w2 w3} (es : os = ![j.val]) (ed : od = ![j.val, 0, 0]) (eb : ob = ![2048 * ch, 256 * n]) :
    FR5 (F := F) c wp j ⊢ WP c (Prog.lift (.enqueueDma (b1 ob hb)
      (.here (w5 od hd))
      (.dma (u10 os hs)) w1 w2 w3)) (fun _ => FL5 c wp j n ch) := by
  subst es ed eb
  unfold FR5 FL5
  have hb0 : 2048 * ch + 2048 ≤ 16384 := hb 0
  have hb1 : 256 * n + 256 ≤ 1024 := hb 1
  refine dma_start c (b1 _ hb) (w5 _ hd) (u10 _ hs) (by decide) (Sd := S5 j) ?_ _ wp (fun g => G5 wp g j n ch) ?_
  · intro y hy
    have hy' := (Finset.ext_iff.1 ((View.set_reshape _ _).trans (View.set_slice_whole cc0_scratch1 (Rect.unit (s := S2x2048x256) ![j.val, 0, 0] S1x2048x256.size hd))) y).1 hy
    have h1 : j.val ≤ (y 0).val ∧ (y 0).val < j.val + 1 := Rect.mem_set_unit.1 hy' 0
    simp only [S5, Finset.mem_filter, Finset.mem_univ, true_and]
    omega
  · intro fd y hy
    have hy1 : (y 1).val < 2048 := (y 1).isLt
    have hy2 : (y 2).val < 256 := (y 2).isLt
    have e : y = (w5 ![j.val, 0, 0] hd).view.emb (ix2 (y 1) (y 2)) := by
      show y = (Rect.unit (s := S2x2048x256) ![j.val, 0, 0] S1x2048x256.size hd).emb (Shape.reshapeEquiv squeezes_S1x2048x256_S2048x256.numel_eq (ix2 (y 1) (y 2)))
      rw [rse]
      funext a; apply Fin.ext
      fin_cases a
      · show (y 0).val = j.val + 1 * 0; omega
      · show (y 1).val = 0 + 1 * (y 1).val; omega
      · show (y 2).val = 0 + 1 * (y 2).val; omega
    refine (congrArg _ e).trans ((View.write_emb_of_mem (v := (w5 ![j.val, 0, 0] hd).view) (Val := Elt F) fd _ (Finset.mem_univ _)).trans ?_)
    show wp _ = wp _
    congr 1
    funext a; apply Fin.ext
    fin_cases a
    · show 2048 * ch + 1 * (y 1).val = (2048 * ch + (y 1).val) % 16384; omega
    · show 256 * n + 1 * (y 2).val = (256 * n + (y 2).val) % 1024; omega

theorem c_wait {j : Fin 2} {n ch : ℕ} {os hs od hd} (srcw : Memref sig .tc .hbm S2048x256 .i8) {w1 w2} (es : os = ![j.val]) :
    iprop(FL5 (F := F) c wp j n ch ∗ OW (F := F) c) ⊢ WP c (Prog.lift (.waitDma2 (u10 os hs) srcw
      (w5 od hd) w1 w2))
      (fun _ => iprop(LD5 (F := F) c wp j n ch ∗ OW (F := F) c)) := by
  subst es
  unfold FL5 LD5
  iintro H
  iapply (wend c (dma_wait c srcw (w5 _ hd) (u10 _ (inb2 j)) rfl))
  isplitl [H]; · iexact H
  iintro %_ ⟨HD, HS, HW⟩
  isplitr [HW]
  · isplitl [HD]; · iexact HD
    iexact HS
  iexact HW

theorem s_start {j : Fin 2} {ch : ℕ} {os hs od hd ob hb w1 w2 w3} (es : os = ![j.val]) (ed : od = ![j.val, 0, 0]) (eb : ob = ![2048 * ch, 0]) :
    FR6 (F := F) c ws j ⊢ WP c (Prog.lift (.enqueueDma (b2 ob hb)
      (.here (w6 od hd))
      (.dma (u11 os hs)) w1 w2 w3)) (fun _ => FL6 c ws j ch) := by
  subst es ed eb
  unfold FR6 FL6
  have hb0 : 2048 * ch + 2048 ≤ 16384 := hb 0
  refine dma_start c (b2 _ hb) (w6 _ hd) (u11 _ hs) (by decide) (Sd := S6 j) ?_ _ ws (fun g => G6 ws g j ch) ?_
  · intro y hy
    have hy' := (Finset.ext_iff.1 ((View.set_reshape _ _).trans (View.set_slice_whole cc0_scratch2 (Rect.unit (s := S2x2048x64) ![j.val, 0, 0] S1x2048x64.size hd))) y).1 hy
    have h1 : j.val ≤ (y 0).val ∧ (y 0).val < j.val + 1 := Rect.mem_set_unit.1 hy' 0
    simp only [S6, Finset.mem_filter, Finset.mem_univ, true_and]
    omega
  · intro fd y hy
    have hy1 : (y 1).val < 2048 := (y 1).isLt
    have e : y = (w6 ![j.val, 0, 0] hd).view.emb (ix2 (y 1) (y 2)) := by
      show y = (Rect.unit (s := S2x2048x64) ![j.val, 0, 0] S1x2048x64.size hd).emb (Shape.reshapeEquiv squeezes_S1x2048x64_S2048x64.numel_eq (ix2 (y 1) (y 2)))
      rw [rse]
      funext a; apply Fin.ext
      fin_cases a
      · show (y 0).val = j.val + 1 * 0; omega
      · show (y 1).val = 0 + 1 * (y 1).val; omega
      · show (y 2).val = 0 + 1 * (y 2).val; omega
    refine (congrArg _ e).trans ((View.write_emb_of_mem (v := (w6 ![j.val, 0, 0] hd).view) (Val := Elt F) fd _ (Finset.mem_univ _)).trans ?_)
    show ws _ = ws _
    congr 1
    funext a; apply Fin.ext
    fin_cases a
    · show 2048 * ch + 1 * (y 1).val = (2048 * ch + (y 1).val) % 16384; omega
    · show 0 + 1 * (y 2).val = (y 2).val; omega

theorem s_wait {j : Fin 2} {ch : ℕ} {os hs od hd} (srcw : Memref sig .tc .hbm S2048x64 .i8) {w1 w2} (es : os = ![j.val]) :
    iprop(FL6 (F := F) c ws j ch ∗ OW (F := F) c) ⊢ WP c (Prog.lift (.waitDma2 (u11 os hs) srcw
      (w6 od hd) w1 w2))
      (fun _ => iprop(LD6 (F := F) c ws j ch ∗ OW (F := F) c)) := by
  subst es
  unfold FL6 LD6
  iintro H
  iapply (wend c (dma_wait c srcw (w6 _ hd) (u11 _ (inb2 j)) rfl))
  isplitl [H]; · iexact H
  iintro %_ ⟨HD, HS, HW⟩
  isplitr [HW]
  · isplitl [HD]; · iexact HD
    iexact HS
  iexact HW

/-! ## The result's blocks -/

/-- The elements of block `t` of the result. -/
def SO (t : ℕ) : Finset S7680x2048.Idx := Finset.univ.filter fun y => (y 0).val / 960 + 8 * ((y 1).val / 512) = t
/-- Block `t` holds `f`. -/
def OV (c : Dev nD) (t : ℕ) (f : B8 F) : sProp 𝕄 := iprop(∃ g, ⌜∀ y : S7680x2048.Idx, y ∈ SO t → g y = f (ix2 ⟨(y 0).val % 960, Nat.mod_lt _ (by decide)⟩ ⟨(y 1).val % 512, Nat.mod_lt _ (by decide)⟩)⌝
  ∗ a3.view.loc (c : Thread nD τ) ↦[SO t]{fullShare} g)
/-- Block `t` at anything. -/
def OA (c : Dev nD) (t : ℕ) : sProp 𝕄 := iprop(∃ g, a3.view.loc (c : Thread nD τ) ↦[SO t]{fullShare} g)
/-- The result buffer on its way to block `t`. -/
def FLO (c : Dev nD) (t : ℕ) (f : B8 F) : sProp 𝕄 := Fl c sem12 NO iprop(OV c t f ∗ P8 c f)

theorem o_start {t : ℕ} {f : B8 F} {o h w1 w2 w3} (eo : o = ![960 * (t % 8), 512 * (t / 8)]) :
    iprop(OA (F := F) c t ∗ semP c sem12 ∗ P8 c f) ⊢ WP c (Prog.lift (.enqueueDma m8 (.here (b3 o h)) (.dma sem12) w1 w2 w3))
      (fun _ => FLO c t f) := by
  subst eo
  unfold OA FLO OV
  have h1' : 512 * (t / 8) + 512 ≤ 2048 := h 1
  refine dma_start c m8 (b3 ![960 * (t % 8), 512 * (t / 8)] h) sem12 (by decide) (Sd := SO t) ?_ fullShare f
    (fun g => ∀ y : S7680x2048.Idx, y ∈ SO t → g y = f (ix2 ⟨(y 0).val % 960, Nat.mod_lt _ (by decide)⟩ ⟨(y 1).val % 512, Nat.mod_lt _ (by decide)⟩)) ?_
  · intro y hy
    have hy' := (Finset.ext_iff.1 (View.set_slice_whole main_v1 (Rect.unit (s := S7680x2048) ![960 * (t % 8), 512 * (t / 8)] S960x512.size h)) y).1 hy
    have h0 : 960 * (t % 8) ≤ (y 0).val ∧ (y 0).val < 960 * (t % 8) + 960 := Rect.mem_set_unit.1 hy' 0
    have h1 : 512 * (t / 8) ≤ (y 1).val ∧ (y 1).val < 512 * (t / 8) + 512 := Rect.mem_set_unit.1 hy' 1
    simp only [SO, Finset.mem_filter, Finset.mem_univ, true_and]
    omega
  · intro fd y hy
    have hy0 : (y 0).val < 7680 := (y 0).isLt
    have hy1 : (y 1).val < 2048 := (y 1).isLt
    simp only [SO, Finset.mem_filter, Finset.mem_univ, true_and] at hy
    have e : y = (b3 ![960 * (t % 8), 512 * (t / 8)] h).view.emb
        (ix2 ⟨(y 0).val % 960, Nat.mod_lt _ (by decide)⟩ ⟨(y 1).val % 512, Nat.mod_lt _ (by decide)⟩) := by
      funext a; apply Fin.ext
      fin_cases a
      · show (y 0).val = 960 * (t % 8) + 1 * ((y 0).val % 960); omega
      · show (y 1).val = 512 * (t / 8) + 1 * ((y 1).val % 512); omega
    exact (congrArg _ e).trans (View.write_emb_of_mem (v := (b3 ![960 * (t % 8), 512 * (t / 8)] h).view) (Val := Elt F) fd _ (Finset.mem_univ _))

theorem o_wait {t : ℕ} {f : B8 F} {o h w1 w2} :
    iprop(FLO c t f ∗ OW (F := F) c) ⊢ WP c (Prog.lift (.waitDma2 sem12 m8 (b3 o h) w1 w2))
      (fun _ => iprop((OV c t f ∗ P8 c f) ∗ semP (F := F) c sem12 ∗ OW (F := F) c)) := by
  unfold FLO
  exact dma_wait c m8 _ _ rfl

end Slots

end Cert.KernelIdeal.P
-- ==== Proof.I.Inv.lean ====
/-  What holds before step `s` of the main loop: the slots and their transfers, the decoded weight, the matrix units and the result's blocks. -/
module

public import proofs.«01_k».proof.Proof.I.Slots

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Inv

variable (c : Dev nD) (dy : S7680x16384.Idx → F .bf16) (wp : S16384x1024.Idx → BitVec 8) (ws : S16384x64.Idx → BitVec 8)

/-- The value of block `t` of the result. -/
def outV (t : ℕ) : B8 F := outOf fun q i => accV dy wp ws (t % 8) (t / 8) q i 64

/-- Blocks below `d` are written; the last `m` are not. -/
def DN : ℕ → sProp 𝕄
  | 0 => iprop(emp)
  | d + 1 => iprop(DN d ∗ OV c d (outV dy wp ws d))
def RMr : ℕ → sProp 𝕄
  | 0 => iprop(emp)
  | m + 1 => iprop(OA (F := F) c (31 - m) ∗ RMr m)
def RM (d : ℕ) : sProp 𝕄 := RMr (F := F) c (32 - d)

theorem RM_take {d : ℕ} (h : d < 32) : RM (F := F) c d ⊢ iprop(OA (F := F) c d ∗ RM (F := F) c (d + 1)) := by
  unfold RM
  rw [show 32 - d = (32 - (d + 1)) + 1 by omega]
  show iprop(OA (F := F) c (31 - (32 - (d + 1))) ∗ _) ⊢ _
  rw [show 31 - (32 - (d + 1)) = d by omega]

/-- The result buffer is free; holds block `d`; is on its way there. -/
def OFree (d : ℕ) : sProp 𝕄 := iprop((∃ f, P8 (F := F) c f) ∗ semP c sem12 ∗ DN c dy wp ws d ∗ RM (F := F) c d)
def OHold (d : ℕ) : sProp 𝕄 := iprop(P8 (F := F) c (outV dy wp ws d) ∗ semP c sem12 ∗ DN c dy wp ws d ∗ RM (F := F) c d)
def OFly (d : ℕ) : sProp 𝕄 := iprop(FLO c d (outV dy wp ws d) ∗ DN c dy wp ws d ∗ RM (F := F) c (d + 1))

theorem OHold_free {d : ℕ} : OHold c dy wp ws d ⊢ OFree c dy wp ws d := by
  unfold OHold OFree
  iintro ⟨H, HR⟩
  isplitl [H]; · iexists _; iexact H
  iexact HR

/-- The result buffer before step `s`, and once the step has waited for it or sent it. -/
def OI (s : ℕ) : sProp 𝕄 :=
  if s % 8 = 0 then (if 16 ≤ s then OFly c dy wp ws (s / 8 - 2) else OFree c dy wp ws 0)
  else if 8 ≤ s then (if s % 8 = 1 then OHold c dy wp ws (s / 8 - 1) else OFly c dy wp ws (s / 8 - 1)) else OFree c dy wp ws 0
def OM1 (s : ℕ) : sProp 𝕄 :=
  if s % 8 = 0 then OFree c dy wp ws (s / 8 - 1)
  else if 8 ≤ s then (if s % 8 = 1 then OHold c dy wp ws (s / 8 - 1) else OFly c dy wp ws (s / 8 - 1)) else OFree c dy wp ws 0
def OM2 (s : ℕ) : sProp 𝕄 :=
  if s % 8 = 0 then OFree c dy wp ws (s / 8 - 1)
  else if 8 ≤ s then OFly c dy wp ws (s / 8 - 1) else OFree c dy wp ws 0

/-- The left operand's slots before step `s`. -/
def FLX (s : ℕ) : sProp 𝕄 := if s < 256 then FL4 c dy (slot3 s) (s / 8 % 8) (s % 8) else FR4 c dy (slot3 s)
def DI (s : ℕ) : sProp 𝕄 := iprop(FLX c dy s ∗ FLX c dy (s + 1) ∗ FR4 c dy (slot3 (s + 2)))

/-- The chunk of codes being fetched before step `s`. -/
def nxt (s : ℕ) : ℕ := min (8 * (s / 64) + min (s % 64) 7 + 1) 32
def FR56 (j : Fin 2) : sProp 𝕄 := iprop(FR5 (F := F) c wp j ∗ FR6 (F := F) c ws j)
def FL56 (e : ℕ) : sProp 𝕄 := iprop(FL5 (F := F) c wp (slot2 e) (e / 8) (e % 8) ∗ FL6 (F := F) c ws (slot2 e) (e % 8))
def LD56 (e : ℕ) : sProp 𝕄 := iprop(LD5 (F := F) c wp (slot2 e) (e / 8) (e % 8) ∗ LD6 (F := F) c ws (slot2 e) (e % 8))
def FLW (e : ℕ) : sProp 𝕄 := if e < 32 then FL56 (F := F) c wp ws e else FR56 (F := F) c wp ws (slot2 e)
def WI (s : ℕ) : sProp 𝕄 := iprop(FLW (F := F) c wp ws (nxt s) ∗ FR56 (F := F) c wp ws (slot2 (nxt s + 1)))
/-- The same once the step has waited for its chunk, and once it has asked for the next. -/
def WM1 (s : ℕ) : sProp 𝕄 := by
  classical exact if dec s then iprop(LD56 (F := F) c wp ws (chunk s) ∗ FR56 (F := F) c wp ws (slot2 (chunk s + 1))) else WI (F := F) c wp ws s
def WM2 (s : ℕ) : sProp 𝕄 := by
  classical exact if dec s then iprop(LD56 (F := F) c wp ws (chunk s) ∗ FLW (F := F) c wp ws (chunk s + 1)) else WI (F := F) c wp ws s

/-- The decoded weight before step `s`. -/
def FI (s : ℕ) (f : B7 F) : Prop := s < 256 → ∀ t : Fin 64, t.val / 8 ≤ s % 64 → tileOf f t = wOf wp ws (s / 64) t.val
/-- The matrix units before step `s`. -/
def UI (s : ℕ) (mx : Mxu F) : Prop := ∃ w lv A, MG mx (regs 0 (halfOf w)) lv A ∧ (s < 256 → w = wOf wp ws (s / 64) (8 * (s % 8)))
  ∧ (s % 8 ≠ 0 → lv = (fun _ _ => true) ∧ A = fun q i => accV dy wp ws (s / 8 % 8) (s / 64) q i (8 * (s % 8)))
  ∧ (s % 8 = 0 → 8 ≤ s → A = fun q i => accV dy wp ws ((s / 8 - 1) % 8) ((s / 8 - 1) / 8) q i 64)

/-- What holds before step `s`. -/
def LI (s : ℕ) (mx : Mxu F) : sProp 𝕄 := iprop(⌜UI dy wp ws s mx⌝ ∗ OI c dy wp ws s ∗ DI c dy s ∗ WI (F := F) c wp ws s
  ∗ (∃ f, ⌜FI wp ws s f⌝ ∗ P7 c f) ∗ OW (F := F) c)

/-! ## Arithmetic of the steps -/

theorem nxt_dec {s : ℕ} (h : dec s) : nxt s = chunk s := by unfold dec at h; unfold nxt chunk; omega
theorem nxt_succ {s : ℕ} (h : dec s) : nxt (s + 1) = chunk s + 1 := by unfold dec at h; unfold nxt chunk; omega
theorem nxt_keep {s : ℕ} (h : ¬ dec s) (hs : s < 256) : nxt (s + 1) = nxt s := by unfold dec at h; unfold nxt; omega
theorem chunk_lt {s : ℕ} (h : dec s) : chunk s < 32 := by unfold dec at h; unfold chunk; omega
theorem chunk_div {s : ℕ} (h : dec s) : chunk s / 8 = (s + 1) / 64 := by unfold dec at h; unfold chunk; omega
theorem chunk_mod {s : ℕ} (h : dec s) : chunk s % 8 = (s + 1) % 64 := by unfold dec at h; unfold chunk; omega

theorem slot3_add (s : ℕ) : slot3 (s + 3) = slot3 s := Fin.ext (by show (s + 3) % 3 = s % 3; omega)
theorem slot2_add (s : ℕ) : slot2 (s + 2) = slot2 s := Fin.ext (by show (s + 2) % 2 = s % 2; omega)

variable {c dy wp ws}

/-- A step that decodes nothing leaves the chunks be. -/
theorem WI_keep {s : ℕ} (h : ¬ dec s) (hs : s < 256) : WI (F := F) c wp ws s = WI (F := F) c wp ws (s + 1) := by
  unfold WI; rw [nxt_keep h hs]

/-- A step that decodes frees its chunk's slot. -/
theorem WI_next {s : ℕ} (h : dec s) :
    iprop((FR5 (F := F) c wp (slot2 (chunk s)) ∗ FR6 (F := F) c ws (slot2 (chunk s))) ∗ FLW (F := F) c wp ws (chunk s + 1)) ⊢ WI (F := F) c wp ws (s + 1) := by
  unfold WI
  rw [nxt_succ h, slot2_add]
  unfold FR56
  iintro ⟨HA, HB⟩
  isplitl [HB]; · iexact HB
  iexact HA

/-- The weight after a step that decodes nothing. -/
theorem FI_keep {s : ℕ} {f : B7 F} (h : ¬ dec s) (hs : s < 256) (hf : FI wp ws s f) : FI wp ws (s + 1) f := by
  intro hs1 t ht
  unfold dec at h
  rw [hf hs t (by have := t.isLt; omega)]
  congr 1; omega
/-- The weight after a step that decodes. -/
theorem FI_next {s : ℕ} {f : B7 F} (h : dec s) (hf : FI wp ws s f) : FI wp ws (s + 1) (fdec wp ws ((s + 1) / 64) (chunk s % 8) f 8) := by
  intro hs1 t ht
  rw [tileOf_fdec, chunk_mod h]
  split
  · rfl
  · unfold dec at h
    rw [hf (by omega) t (by have := t.isLt; omega)]
    congr 1; omega
theorem FI_all {s : ℕ} {f : B7 F} (h : ¬ dec s) (hs : s < 256) (hf : FI wp ws s f) : ∀ t : Fin 64, tileOf f t = wOf wp ws (s / 64) t.val := by
  intro t
  unfold dec at h
  exact hf hs t (by have := t.isLt; omega)
theorem FI_cur {s : ℕ} {f : B7 F} (hs : s < 256) (hf : FI wp ws s f) : ∀ t : Fin 64, t.val / 8 = s % 8 → tileOf f t = wOf wp ws (s / 64) t.val :=
  fun t ht => hf hs t (by omega)

/-- The units before a step within a tile, and at its start. -/
theorem UI_mid {s : ℕ} {mx : Mxu F} (h : UI dy wp ws s mx) (hs : s < 256) (h8 : s % 8 ≠ 0) :
    ST dy wp ws (s / 8 % 8) (s / 64) (8 * (s % 8)) 0 (wOf wp ws (s / 64) (8 * (s % 8))) mx := by
  obtain ⟨w, lv, A, hM, hw, hA, -⟩ := h
  obtain ⟨rfl, rfl⟩ := hA h8
  rw [hw hs] at hM
  exact hM
theorem UI_start {s : ℕ} {mx : Mxu F} (h : UI dy wp ws s mx) (hs : s < 256) (h8 : s % 8 = 0) :
    ∃ lv A, MG mx (regs 0 (halfOf (wOf wp ws (s / 64) 0))) lv A ∧ (8 ≤ s → outOf A = outV dy wp ws (s / 8 - 1)) := by
  obtain ⟨w, lv, A, hM, hw, -, hA⟩ := h
  refine ⟨lv, A, ?_, fun h => ?_⟩
  · rw [hw hs, h8] at hM; exact hM
  · rw [hA h8 h]; rfl
/-- The units after a step. -/
theorem UI_next {s : ℕ} {mx : Mxu F} {w : FVec F S256x512 .bf16} (hs : s < 256) (hw : s + 1 < 256 → w = wOf wp ws ((s + 1) / 64) (8 * ((s + 1) % 8)))
    (h : ST dy wp ws (s / 8 % 8) (s / 64) (8 * (s % 8) + 8) 0 w mx) : UI dy wp ws (s + 1) mx := by
  refine ⟨w, _, _, h, hw, fun h1 => ⟨rfl, ?_⟩, fun h1 h2 => ?_⟩
  · funext q i
    rw [show (s + 1) / 8 % 8 = s / 8 % 8 by omega, show (s + 1) / 64 = s / 64 by omega, show 8 * ((s + 1) % 8) = 8 * (s % 8) + 8 by omega]
  · funext q i
    rw [show ((s + 1) / 8 - 1) % 8 = s / 8 % 8 by omega, show ((s + 1) / 8 - 1) / 8 = s / 64 by omega, show 8 * (s % 8) + 8 = 64 by omega]

/-- The result buffer after a step that pops, and after one that does not. -/
theorem OI_pop {s : ℕ} {A : Fin 2 → Fin 4 → AV F} (h8 : s % 8 = 0) (hA : 8 ≤ s → outOf A = outV dy wp ws (s / 8 - 1)) :
    iprop(P8 c (outOf A) ∗ semP c sem12 ∗ DN c dy wp ws (s / 8 - 1) ∗ RM (F := F) c (s / 8 - 1)) ⊢ OI c dy wp ws (s + 1) := by
  unfold OI
  rw [if_neg (by omega), if_pos (c := (s + 1) % 8 = 1) (by omega), show (s + 1) / 8 - 1 = s / 8 - 1 by omega]
  by_cases h : 8 ≤ s
  · rw [if_pos (by omega), hA h]; unfold OHold; exact .rfl
  · rw [if_neg (by omega), show s / 8 - 1 = 0 by omega]
    unfold OFree
    iintro ⟨H, HR⟩
    isplitl [H]; · iexists _; iexact H
    iexact HR
theorem OI_keep {s : ℕ} (h8 : s % 8 ≠ 0) : OM2 c dy wp ws s = OI c dy wp ws (s + 1) := by
  unfold OM2 OI
  rw [if_neg h8]
  by_cases h : 8 ≤ s
  · rw [if_pos h]
    by_cases h1 : (s + 1) % 8 = 0
    · rw [if_pos h1, if_pos (by omega)]; congr 1; omega
    · rw [if_neg h1, if_pos (by omega), if_neg (by omega)]; congr 1; omega
  · rw [if_neg h]
    by_cases h1 : (s + 1) % 8 = 0
    · rw [if_pos h1, if_neg (by omega)]
    · rw [if_neg h1, if_neg (by omega)]

end Inv

end Cert.KernelIdeal.P
-- ==== Proof.I.Branch6.lean ====
/-  The printed text of a step that neither pops nor decodes is the compact program. -/
module
public import proofs.«01_k».proof.Proof.I.Prog
@[expose] public section
set_option maxRecDepth 65536
noncomputable section
namespace Cert.KernelIdeal.P
open Idealize.ShloMosaic Idealize.SL.Sem Cert.KernelIdeal.Gen
variable {F : FTy → Type} [FloatOps F]
set_option maxHeartbeats 20000000
/-- The printed text of such a step is the compact one. -/
theorem branch6_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h6 : k0_cond6 k0_t1 = 1#1) (arg13_r0 : BitVec 32) (k0_mxu4 : Mxu F) :
  (do
      let ⟨v3734_r0, v3735_r0, k0_mxu18, c8_i32_1275_r0⟩ : Σ' (v3734_r0 : BitVec 32) (v3735_r0 : BitVec 32) (k0_mxu18 : Mxu F), BitVec 32 ← k0_part1 arg0 harg0 arg1 harg1 arg2 harg2 arg3 harg3 arg4 harg4 arg5 harg5 arg6 harg6 arg7 harg7 arg8 harg8 arg9 arg10 arg11 arg12 k0_t1 k0_mxu4 arg13_r0 k0_h6
      let ⟨k0_mxu28, v3786_r0, v3789_r0⟩ : Σ' (k0_mxu28 : Mxu F) (v3786_r0 : BitVec 32), FVec F S256x256 .bf16 ← k0_part2 arg0 harg0 arg1 harg1 arg2 harg2 arg3 harg3 arg4 harg4 arg5 harg5 arg6 harg6 arg7 harg7 arg8 harg8 arg9 arg10 arg11 arg12 k0_t1 k0_h6 v3734_r0 v3735_r0 k0_mxu18 c8_i32_1275_r0
      let ⟨k0_mxu40, v3817_r0⟩ : Σ' (k0_mxu40 : Mxu F), FVec F S240x256 .bf16 ← k0_part3 arg0 harg0 arg1 harg1 arg2 harg2 arg3 harg3 arg4 harg4 arg5 harg5 arg6 harg6 arg7 harg7 arg8 harg8 arg9 arg10 arg11 arg12 k0_t1 k0_h6 v3734_r0 v3735_r0 k0_mxu28 v3786_r0 v3789_r0
      let k0_mxu54 : Mxu F ← k0_part4 arg0 harg0 arg1 harg1 arg2 harg2 arg3 harg3 arg4 harg4 arg5 harg5 arg6 harg6 arg7 harg7 arg8 harg8 arg9 arg10 arg11 arg12 k0_t1 k0_h6 v3734_r0 v3735_r0 k0_mxu40 v3817_r0
      let ⟨k0_mxu68, c8_i32_1355_r0⟩ : Σ' (k0_mxu68 : Mxu F), BitVec 32 ← k0_part5 arg0 harg0 arg1 harg1 arg2 harg2 arg3 harg3 arg4 harg4 arg5 harg5 arg6 harg6 arg7 harg7 arg8 harg8 arg9 arg10 arg11 arg12 k0_t1 k0_h6 v3734_r0 v3735_r0 k0_mxu54
      let ⟨k0_mxu78, v3896_r0, v3899_r0⟩ : Σ' (k0_mxu78 : Mxu F) (v3896_r0 : BitVec 32), FVec F S256x256 .bf16 ← k0_part6 arg0 harg0 arg1 harg1 arg2 harg2 arg3 harg3 arg4 harg4 arg5 harg5 arg6 harg6 arg7 harg7 arg8 harg8 arg9 arg10 arg11 arg12 k0_t1 k0_h6 v3734_r0 v3735_r0 k0_mxu68 c8_i32_1355_r0
      let k0_mxu79 : Mxu F ← k0_mxu78.pushRhs 0 0 false v3899_r0
      let v3901_r0 : Vec F S1x256x256 .bf16 ← Prog.lift (.load arg7 (Rect.unit (s := S64x256x512) (k0_off46 k0_t1 7#32) S1x256x256.size (k0_off46_inb k0_t1 k0_h6 7)).toLoadRect (View.loadsAt_vmem h_S1x256x256))
      let k0_mxu80 : Mxu F ← k0_mxu79.pushRhs 1 0 false (k0_pay690 v3901_r0)
      let v3904_r0 : Vec F S1x240x256 .bf16 ← Prog.lift (.load arg4 (Rect.unit (s := S3x960x2048) (k0_off75 k0_t1) S1x240x256.size (k0_off75_inb k0_t1 k0_h6)).toLoadRect (View.loadsAt_vmem h_S1x240x256))
      let k0_mxu81 : Mxu F ← k0_mxu80.accLhsLoaded 0 60 (k0_pay691 v3904_r0) fits_60_240
      let k0_mxu82 : Mxu F ← k0_mxu81.accLhsLoaded 1 60 (k0_pay691 v3904_r0) fits_60_240
      let v3907_r0 : Vec F S1x240x256 .bf16 ← Prog.lift (.load arg4 (Rect.unit (s := S3x960x2048) (k0_off76 k0_t1) S1x240x256.size (k0_off76_inb k0_t1 k0_h6)).toLoadRect (View.loadsAt_vmem h_S1x240x256))
      let k0_mxu83 : Mxu F ← k0_mxu82.accLhsLoaded 0 120 (k0_pay692 v3907_r0) fits_120_240
      let k0_mxu84 : Mxu F ← k0_mxu83.accLhsLoaded 1 120 (k0_pay692 v3907_r0) fits_120_240
      let v3910_r0 : Vec F S1x240x256 .bf16 ← Prog.lift (.load arg4 (Rect.unit (s := S3x960x2048) (k0_off77 k0_t1) S1x240x256.size (k0_off77_inb k0_t1 k0_h6)).toLoadRect (View.loadsAt_vmem h_S1x240x256))
      let k0_mxu85 : Mxu F ← k0_mxu84.accLhsLoaded 0 180 (k0_pay693 v3910_r0) fits_180_240
      let k0_mxu86 : Mxu F ← k0_mxu85.accLhsLoaded 1 180 (k0_pay693 v3910_r0) fits_180_240
      pure k0_mxu86 : TC F (Mxu F)) = branch6 arg4 arg7 k0_t1 k0_h6 k0_mxu4 := rfl

end Cert.KernelIdeal.P
-- ==== Proof.I.Branch7.lean ====
/-  The printed text of a step that pops the tile before is the compact program. -/
module
public import proofs.«01_k».proof.Proof.I.Prog
@[expose] public section
set_option maxRecDepth 65536
noncomputable section
namespace Cert.KernelIdeal.P
open Idealize.ShloMosaic Idealize.SL.Sem Cert.KernelIdeal.Gen
variable {F : FTy → Type} [FloatOps F]
set_option maxHeartbeats 20000000
/-- The printed text of such a step is the compact one. -/
theorem branch7_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h7 : k0_cond7 k0_t1 = 1#1) (arg13_r0 : BitVec 32) (k0_mxu6 : Mxu F) :
  (do
      let ⟨v3734_r0, v3735_r0, v3764_r0, k0_mxu95⟩ : Σ' (v3734_r0 : BitVec 32) (v3735_r0 : BitVec 32) (v3764_r0 : FVec F S240x256 .f32), Mxu F ← k0_part7 arg0 harg0 arg1 harg1 arg2 harg2 arg3 harg3 arg4 harg4 arg5 harg5 arg6 harg6 arg7 harg7 arg8 harg8 arg9 arg10 arg11 arg12 k0_t1 arg13_r0 k0_mxu6 k0_h7
      let k0_mxu103 : Mxu F ← k0_part8 arg0 harg0 arg1 harg1 arg2 harg2 arg3 harg3 arg4 harg4 arg5 harg5 arg6 harg6 arg7 harg7 arg8 harg8 arg9 arg10 arg11 arg12 k0_t1 k0_h7 v3735_r0 v3764_r0 k0_mxu95
      let ⟨k0_mxu117, c8_i32_1307_r0⟩ : Σ' (k0_mxu117 : Mxu F), BitVec 32 ← k0_part9 arg0 harg0 arg1 harg1 arg2 harg2 arg3 harg3 arg4 harg4 arg5 harg5 arg6 harg6 arg7 harg7 arg8 harg8 arg9 arg10 arg11 arg12 k0_t1 k0_h7 v3734_r0 v3735_r0 k0_mxu103
      let ⟨k0_mxu127, v3848_r0, v3851_r0⟩ : Σ' (k0_mxu127 : Mxu F) (v3848_r0 : BitVec 32), FVec F S256x256 .bf16 ← k0_part10 arg0 harg0 arg1 harg1 arg2 harg2 arg3 harg3 arg4 harg4 arg5 harg5 arg6 harg6 arg7 harg7 arg8 harg8 arg9 arg10 arg11 arg12 k0_t1 k0_h7 v3734_r0 v3735_r0 k0_mxu117 c8_i32_1307_r0
      let ⟨k0_mxu139, v3879_r0⟩ : Σ' (k0_mxu139 : Mxu F), FVec F S240x256 .bf16 ← k0_part11 arg0 harg0 arg1 harg1 arg2 harg2 arg3 harg3 arg4 harg4 arg5 harg5 arg6 harg6 arg7 harg7 arg8 harg8 arg9 arg10 arg11 arg12 k0_t1 k0_h7 v3734_r0 v3735_r0 k0_mxu127 v3848_r0 v3851_r0
      let k0_mxu153 : Mxu F ← k0_part12 arg0 harg0 arg1 harg1 arg2 harg2 arg3 harg3 arg4 harg4 arg5 harg5 arg6 harg6 arg7 harg7 arg8 harg8 arg9 arg10 arg11 arg12 k0_t1 k0_h7 v3734_r0 v3735_r0 k0_mxu139 v3879_r0
      let ⟨k0_mxu167, c8_i32_1387_r0⟩ : Σ' (k0_mxu167 : Mxu F), BitVec 32 ← k0_part13 arg0 harg0 arg1 harg1 arg2 harg2 arg3 harg3 arg4 harg4 arg5 harg5 arg6 harg6 arg7 harg7 arg8 harg8 arg9 arg10 arg11 arg12 k0_t1 k0_h7 v3734_r0 v3735_r0 k0_mxu153
      let v3938_r0 : Vec F S1x256x256 .bf16 ← Prog.lift (.load arg7 (Rect.unit (s := S64x256x512) (k0_off79 k0_t1 7#32) S1x256x256.size (k0_off79_inb k0_t1 k0_h7 7)).toLoadRect (View.loadsAt_vmem h_S1x256x256))
      let k0_mxu168 : Mxu F ← k0_mxu167.pushRhs 0 0 false (k0_pay694 v3938_r0)
      let v3941_r0 : Vec F S1x256x256 .bf16 ← Prog.lift (.load arg7 (Rect.unit (s := S64x256x512) (k0_off80 k0_t1 7#32) S1x256x256.size (k0_off80_inb k0_t1 k0_h7 7)).toLoadRect (View.loadsAt_vmem h_S1x256x256))
      let k0_mxu169 : Mxu F ← k0_mxu168.pushRhs 1 0 false (k0_pay695 v3941_r0)
      let v3944_r0 : Vec F S1x240x256 .bf16 ← Prog.lift (.load arg4 (Rect.unit (s := S3x960x2048) (k0_off109 k0_t1) S1x240x256.size (k0_off109_inb k0_t1 k0_h7)).toLoadRect (View.loadsAt_vmem h_S1x240x256))
      let k0_mxu170 : Mxu F ← k0_mxu169.accLhsLoaded 0 60 (k0_pay696 v3944_r0) fits_60_240
      let k0_mxu171 : Mxu F ← k0_mxu170.accLhsLoaded 1 60 (k0_pay696 v3944_r0) fits_60_240
      let v3947_r0 : Vec F S1x240x256 .bf16 ← Prog.lift (.load arg4 (Rect.unit (s := S3x960x2048) (k0_off110 k0_t1) S1x240x256.size (k0_off110_inb k0_t1 k0_h7)).toLoadRect (View.loadsAt_vmem h_S1x240x256))
      let k0_mxu172 : Mxu F ← k0_mxu171.accLhsLoaded 0 120 (k0_pay697 v3947_r0) fits_120_240
      let k0_mxu173 : Mxu F ← k0_mxu172.accLhsLoaded 1 120 (k0_pay697 v3947_r0) fits_120_240
      let v3950_r0 : Vec F S1x240x256 .bf16 ← Prog.lift (.load arg4 (Rect.unit (s := S3x960x2048) (k0_off111 k0_t1) S1x240x256.size (k0_off111_inb k0_t1 k0_h7)).toLoadRect (View.loadsAt_vmem h_S1x240x256))
      let k0_mxu174 : Mxu F ← k0_mxu173.accLhsLoaded 0 180 (k0_pay698 v3950_r0) fits_180_240
      let k0_mxu175 : Mxu F ← k0_mxu174.accLhsLoaded 1 180 (k0_pay698 v3950_r0) fits_180_240
      pure k0_mxu175 : TC F (Mxu F)) = branch7 arg4 arg7 arg8 harg8 k0_t1 k0_h7 k0_mxu6 := rfl

end Cert.KernelIdeal.P
-- ==== Proof.I.Branch8.lean ====
/-  The printed text of a step that decodes a weight chunk is the compact program. -/
module
public import proofs.«01_k».proof.Proof.I.Prog
@[expose] public section
set_option maxRecDepth 65536
noncomputable section
namespace Cert.KernelIdeal.P
open Idealize.ShloMosaic Idealize.SL.Sem Cert.KernelIdeal.Gen
variable {F : FTy → Type} [FloatOps F]
set_option maxHeartbeats 20000000
/-- The printed text of such a step is the compact one. -/
theorem branch8_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h8 : k0_cond8 k0_t1 = 1#1) (arg13_r0 : BitVec 32) (k0_mxu87 : Mxu F) :
  (do
        let ⟨v3734_r0, v3735_r0, k0_mxu236, v6110_r0, v6112_r0, v6119_r0, v6120_r0, v6121_r0, v6126_r0, v6130_r0, v6233_r0, v6336_r0, v6337_r0, v6363_r0, c0_i32_2159_r0⟩ : Σ' (v3734_r0 : BitVec 32) (v3735_r0 : BitVec 32) (k0_mxu236 : Mxu F) (v6110_r0 : BitVec 32) (v6112_r0 : BitVec 32) (v6119_r0 : IVec S64x128 32) (v6120_r0 : IVec S128x128 32) (v6121_r0 : IVec S64x256 32) (v6126_r0 : IVec S128x128 32) (v6130_r0 : IVec S64x128 32) (v6233_r0 : FVec F S256x128 .bf16) (v6336_r0 : FVec F S256x128 .bf16) (v6337_r0 : IVec S64x128 32) (v6363_r0 : IVec S64x128 32), BitVec 32 ← k0_part99 arg0 harg0 arg1 harg1 arg2 harg2 arg3 harg3 arg4 harg4 arg5 harg5 arg6 harg6 arg7 harg7 arg8 harg8 arg9 arg10 arg11 arg12 k0_t1 arg13_r0 k0_mxu87 k0_h8
        let ⟨v6402_r0, v6403_r0, c32_i32_2173_r0, v6405_r0, v6408_r0⟩ : Σ' (v6402_r0 : FVec F S256x128 .bf16) (v6403_r0 : BitVec 32) (c32_i32_2173_r0 : BitVec 32) (v6405_r0 : IVec S128x128 32), IVec S128x128 32 ← k0_part74 arg0 harg0 arg1 harg1 arg2 harg2 arg3 harg3 arg4 harg4 arg5 harg5 arg6 harg6 arg7 harg7 arg8 harg8 arg9 arg10 arg11 arg12 v6112_r0 v6120_r0 v6130_r0 v6337_r0 v6363_r0 c0_i32_2159_r0
        let ⟨v6439_r0, v6440_r0, c2_i32_2182_r0, v6442_r0, v6456_r0⟩ : Σ' (v6439_r0 : FVec F S256x128 .bf16) (v6440_r0 : IVec S64x128 32) (c2_i32_2182_r0 : BitVec 32) (v6442_r0 : IVec S64x128 32), IVec S64x128 1 ← k0_part75 arg0 harg0 arg1 harg1 arg2 harg2 arg3 harg3 arg4 harg4 arg5 harg5 arg6 harg6 arg7 harg7 arg8 harg8 arg9 arg10 arg11 arg12 v6119_r0 v6120_r0 v6121_r0 v6126_r0 v6402_r0 v6403_r0 c32_i32_2173_r0 v6405_r0 v6408_r0
        let ⟨v6497_r0, v6501_r0⟩ : Σ' (v6497_r0 : FVec F S256x128 .bf16), IVec S128x128 32 ← k0_part76 arg0 harg0 arg1 harg1 arg2 harg2 arg3 harg3 arg4 harg4 arg5 harg5 arg6 harg6 arg7 harg7 arg8 harg8 arg9 arg10 arg11 arg12 v6119_r0 v6130_r0 v6440_r0 c2_i32_2182_r0 v6442_r0 v6456_r0
        let v6543_r0 : FVec F S256x512 .bf16 ← k0_part77 arg0 harg0 arg1 harg1 arg2 harg2 arg3 harg3 arg4 harg4 arg5 harg5 arg6 harg6 arg7 harg7 arg8 harg8 arg9 arg10 arg11 arg12 v6110_r0 v6112_r0 v6120_r0 v6126_r0 v6233_r0 v6336_r0 v6439_r0 v6497_r0 v6501_r0
        let ⟨k0_mxu246, v6574_r0, v6575_r0⟩ : Σ' (k0_mxu246 : Mxu F) (v6574_r0 : BitVec 32), BitVec 32 ← k0_part78 arg0 harg0 arg1 harg1 arg2 harg2 arg3 harg3 arg4 harg4 arg5 harg5 arg6 harg6 arg7 harg7 arg8 harg8 arg9 arg10 arg11 arg12 k0_t1 arg13_r0 k0_h8 v3734_r0 v3735_r0 k0_mxu236 v6543_r0
        let ⟨v6579_r0, v6581_r0, v6588_r0, v6589_r0, v6590_r0, v6595_r0, v6599_r0, v6600_r0, v6602_r0, v6616_r0, v6618_r0⟩ : Σ' (v6579_r0 : BitVec 32) (v6581_r0 : BitVec 32) (v6588_r0 : IVec S64x128 32) (v6589_r0 : IVec S128x128 32) (v6590_r0 : IVec S64x256 32) (v6595_r0 : IVec S128x128 32) (v6599_r0 : IVec S64x128 32) (v6600_r0 : IVec S64x128 32) (v6602_r0 : IVec S64x128 32) (v6616_r0 : IVec S64x128 1), IVec S64x128 32 ← k0_part79 arg0 harg0 arg1 harg1 arg2 harg2 arg3 harg3 arg4 harg4 arg5 harg5 arg6 harg6 arg7 harg7 arg8 harg8 arg9 arg10 arg11 arg12 k0_t1 k0_h8 v6574_r0 v6575_r0
        let ⟨v6657_r0, v6661_r0, v6662_r0⟩ : Σ' (v6657_r0 : FVec F S256x128 .bf16) (v6661_r0 : IVec S128x128 32), IVec S128x128 32 ← k0_part80 arg0 harg0 arg1 harg1 arg2 harg2 arg3 harg3 arg4 harg4 arg5 harg5 arg6 harg6 arg7 harg7 arg8 harg8 arg9 arg10 arg11 arg12 v6599_r0 v6600_r0 v6602_r0 v6616_r0 v6618_r0
        let ⟨v6702_r0, v6703_r0, c2_i32_2280_r0, v6705_r0, v6708_r0, v6709_r0⟩ : Σ' (v6702_r0 : FVec F S256x128 .bf16) (v6703_r0 : IVec S64x128 32) (c2_i32_2280_r0 : BitVec 32) (v6705_r0 : IVec S64x128 32) (v6708_r0 : IVec S64x128 32), IVec S64x128 32 ← k0_part81 arg0 harg0 arg1 harg1 arg2 harg2 arg3 harg3 arg4 harg4 arg5 harg5 arg6 harg6 arg7 harg7 arg8 harg8 arg9 arg10 arg11 arg12 v6581_r0 v6588_r0 v6589_r0 v6590_r0 v6595_r0 v6657_r0 v6661_r0 v6662_r0
        let ⟨v6749_r0, v6755_r0⟩ : Σ' (v6749_r0 : IVec S128x128 32), IVec S128x128 32 ← k0_part82 arg0 harg0 arg1 harg1 arg2 harg2 arg3 harg3 arg4 harg4 arg5 harg5 arg6 harg6 arg7 harg7 arg8 harg8 arg9 arg10 arg11 arg12 v6588_r0 v6599_r0 v6703_r0 c2_i32_2280_r0 v6705_r0 v6708_r0 v6709_r0
        let ⟨v6768_r0, v6801_r0⟩ : Σ' (v6768_r0 : FVec F S256x128 .bf16), IVec S128x128x1 32 ← k0_part83 arg0 harg0 arg1 harg1 arg2 harg2 arg3 harg3 arg4 harg4 arg5 harg5 arg6 harg6 arg7 harg7 arg8 harg8 arg9 arg10 arg11 arg12 v6581_r0 v6589_r0 v6749_r0 v6755_r0
        let ⟨v6805_r0, v6847_r0, v6848_r0⟩ : Σ' (v6805_r0 : FVec F S256x128 .bf16) (v6847_r0 : IVec S256x128 16), IVec S256x128 16 ← k0_part84 arg0 harg0 arg1 harg1 arg2 harg2 arg3 harg3 arg4 harg4 arg5 harg5 arg6 harg6 arg7 harg7 arg8 harg8 arg9 arg10 arg11 arg12 v6588_r0 v6590_r0 v6595_r0 v6599_r0 v6768_r0 v6801_r0
        let ⟨v6871_r0, v6872_r0, v6874_r0, v6893_r0⟩ : Σ' (v6871_r0 : FVec F S256x128 .bf16) (v6872_r0 : BitVec 32) (v6874_r0 : IVec S128x128 32), IVec S128x128 1 ← k0_part85 arg0 harg0 arg1 harg1 arg2 harg2 arg3 harg3 arg4 harg4 arg5 harg5 arg6 harg6 arg7 harg7 arg8 harg8 arg9 arg10 arg11 arg12 v6581_r0 v6589_r0 v6847_r0 v6848_r0
        let ⟨v6908_r0, v6909_r0, v6940_r0⟩ : Σ' (v6908_r0 : FVec F S256x128 .bf16) (v6909_r0 : IVec S64x128 32), IVec S64x128 32 ← k0_part86 arg0 harg0 arg1 harg1 arg2 harg2 arg3 harg3 arg4 harg4 arg5 harg5 arg6 harg6 arg7 harg7 arg8 harg8 arg9 arg10 arg11 arg12 v6588_r0 v6590_r0 v6595_r0 v6871_r0 v6872_r0 v6874_r0 v6893_r0
        let ⟨v6974_r0, v6975_r0, c32_i32_2364_r0, v6977_r0, v6984_r0, c0_i32_2367_r0⟩ : Σ' (v6974_r0 : FVec F S256x128 .bf16) (v6975_r0 : BitVec 32) (c32_i32_2364_r0 : BitVec 32) (v6977_r0 : IVec S128x128 32) (v6984_r0 : IVec S128x128 32), BitVec 32 ← k0_part87 arg0 harg0 arg1 harg1 arg2 harg2 arg3 harg3 arg4 harg4 arg5 harg5 arg6 harg6 arg7 harg7 arg8 harg8 arg9 arg10 arg11 arg12 v6581_r0 v6589_r0 v6599_r0 v6909_r0 v6940_r0
        let ⟨k0_mxu248, v7025_r0⟩ : Σ' (k0_mxu248 : Mxu F), BitVec 32 ← k0_part88 arg0 harg0 arg1 harg1 arg2 harg2 arg3 harg3 arg4 harg4 arg5 harg5 arg6 harg6 arg7 harg7 arg8 harg8 arg9 arg10 arg11 arg12 k0_t1 k0_h8 v3734_r0 v3735_r0 k0_mxu246 v6579_r0 v6589_r0 v6595_r0 v6702_r0 v6805_r0 v6908_r0 v6974_r0 v6975_r0 c32_i32_2364_r0 v6977_r0 v6984_r0 c0_i32_2367_r0
        let ⟨k0_mxu256, v7048_r0, v7050_r0, v7053_r0, v7055_r0⟩ : Σ' (k0_mxu256 : Mxu F) (v7048_r0 : BitVec 32) (v7050_r0 : BitVec 32) (v7053_r0 : IVec S256x256 8), Vec F S1x256x64 .i8 ← k0_part89 arg0 harg0 arg1 harg1 arg2 harg2 arg3 harg3 arg4 harg4 arg5 harg5 arg6 harg6 arg7 harg7 arg8 harg8 arg9 arg10 arg11 arg12 k0_t1 arg13_r0 k0_h8 v3735_r0 k0_mxu248 v7025_r0
        let ⟨v7057_r0, v7058_r0, v7059_r0, v7064_r0, v7068_r0, v7069_r0, v7102_r0⟩ : Σ' (v7057_r0 : IVec S64x128 32) (v7058_r0 : IVec S128x128 32) (v7059_r0 : IVec S64x256 32) (v7064_r0 : IVec S128x128 32) (v7068_r0 : IVec S64x128 32) (v7069_r0 : IVec S64x128 32), IVec S64x128 32 ← k0_part90 arg0 harg0 arg1 harg1 arg2 harg2 arg3 harg3 arg4 harg4 arg5 harg5 arg6 harg6 arg7 harg7 arg8 harg8 arg9 arg10 arg11 arg12 v7053_r0 v7055_r0
        let ⟨v7134_r0, v7135_r0, c32_i32_2431_r0, v7137_r0, v7144_r0, v7146_r0⟩ : Σ' (v7134_r0 : FVec F S256x128 .bf16) (v7135_r0 : BitVec 32) (c32_i32_2431_r0 : BitVec 32) (v7137_r0 : IVec S128x128 32) (v7144_r0 : IVec S128x128 32), BitVec 32 ← k0_part91 arg0 harg0 arg1 harg1 arg2 harg2 arg3 harg3 arg4 harg4 arg5 harg5 arg6 harg6 arg7 harg7 arg8 harg8 arg9 arg10 arg11 arg12 v7050_r0 v7058_r0 v7068_r0 v7069_r0 v7102_r0
        let ⟨v7171_r0, v7172_r0, v7174_r0, v7193_r0, v7194_r0⟩ : Σ' (v7171_r0 : FVec F S256x128 .bf16) (v7172_r0 : IVec S64x128 32) (v7174_r0 : IVec S64x128 32) (v7193_r0 : IVec S64x128 1), IVec S64x128 32 ← k0_part92 arg0 harg0 arg1 harg1 arg2 harg2 arg3 harg3 arg4 harg4 arg5 harg5 arg6 harg6 arg7 harg7 arg8 harg8 arg9 arg10 arg11 arg12 v7057_r0 v7058_r0 v7059_r0 v7064_r0 v7134_r0 v7135_r0 c32_i32_2431_r0 v7137_r0 v7144_r0 v7146_r0
        let ⟨v7237_r0, v7238_r0, c32_i32_2462_r0⟩ : Σ' (v7237_r0 : FVec F S256x128 .bf16) (v7238_r0 : BitVec 32), BitVec 32 ← k0_part93 arg0 harg0 arg1 harg1 arg2 harg2 arg3 harg3 arg4 harg4 arg5 harg5 arg6 harg6 arg7 harg7 arg8 harg8 arg9 arg10 arg11 arg12 v7050_r0 v7068_r0 v7172_r0 v7174_r0 v7193_r0 v7194_r0
        let ⟨v7274_r0, v7275_r0, c2_i32_2471_r0, v7277_r0, v7284_r0, v7286_r0⟩ : Σ' (v7274_r0 : FVec F S256x128 .bf16) (v7275_r0 : IVec S64x128 32) (c2_i32_2471_r0 : BitVec 32) (v7277_r0 : IVec S64x128 32) (v7284_r0 : IVec S64x128 32), BitVec 32 ← k0_part94 arg0 harg0 arg1 harg1 arg2 harg2 arg3 harg3 arg4 harg4 arg5 harg5 arg6 harg6 arg7 harg7 arg8 harg8 arg9 arg10 arg11 arg12 v7057_r0 v7058_r0 v7059_r0 v7064_r0 v7237_r0 v7238_r0 c32_i32_2462_r0
        let ⟨v7321_r0, v7332_r0⟩ : Σ' (v7321_r0 : IVec S128x128 32), FVec F S256x128 .bf16 ← k0_part95 arg0 harg0 arg1 harg1 arg2 harg2 arg3 harg3 arg4 harg4 arg5 harg5 arg6 harg6 arg7 harg7 arg8 harg8 arg9 arg10 arg11 arg12 v7057_r0 v7068_r0 v7275_r0 c2_i32_2471_r0 v7277_r0 v7284_r0 v7286_r0
        let ⟨v7377_r0, v7378_r0, c2_i32_2502_r0⟩ : Σ' (v7377_r0 : FVec F S256x128 .bf16) (v7378_r0 : IVec S64x128 32), BitVec 32 ← k0_part96 arg0 harg0 arg1 harg1 arg2 harg2 arg3 harg3 arg4 harg4 arg5 harg5 arg6 harg6 arg7 harg7 arg8 harg8 arg9 arg10 arg11 arg12 v7050_r0 v7058_r0 v7059_r0 v7064_r0 v7321_r0 v7332_r0
        let ⟨v7424_r0, c5_i32_2516_r0⟩ : Σ' (v7424_r0 : IVec S128x128 32), BitVec 32 ← k0_part97 arg0 harg0 arg1 harg1 arg2 harg2 arg3 harg3 arg4 harg4 arg5 harg5 arg6 harg6 arg7 harg7 arg8 harg8 arg9 arg10 arg11 arg12 v7057_r0 v7068_r0 v7378_r0 c2_i32_2502_r0
        let ⟨v7443_r0, v7470_r0⟩ : Σ' (v7443_r0 : FVec F S256x128 .bf16), IVec S128x128 32 ← k0_part98 arg0 harg0 arg1 harg1 arg2 harg2 arg3 harg3 arg4 harg4 arg5 harg5 arg6 harg6 arg7 harg7 arg8 harg8 arg9 arg10 arg11 arg12 v7050_r0 v7058_r0 v7424_r0 c5_i32_2516_r0
        let v7485_r0 : Vec F S1x256x512 .bf16 ← Prog.lift (.load arg7 (Rect.unit (s := S64x256x512) (k0_off120 k0_t1 7#32) S1x256x512.size (k0_off120_inb k0_t1 k0_h8 7)).toLoadRect (View.loadsAt_vmem h_S1x256x512))
        Prog.lift (.store arg7 (Rect.unit (s := S64x256x512) (k0_off120 k0_t1 7#32) S1x256x512.size (k0_off120_inb k0_t1 k0_h8 7)) (k0_pay952 v7064_r0 v7171_r0 v7274_r0 v7377_r0 v7443_r0 v7470_r0) Finset.univ (View.stores_vmem h_S1x256x512 (harg7.storeExact_slice rfl _ (k0_off120_packedbf16 k0_t1 k0_h8 7)) (fun _ => rfl)) (.inl rfl))
        pure k0_mxu256 : TC F (Mxu F)) = branch8 arg4 arg5 arg6 arg7 harg7 k0_t1 k0_h8 arg13_r0 k0_mxu87 := rfl

end Cert.KernelIdeal.P
-- ==== Proof.I.Branch9.lean ====
/-  The printed text of a step that pops the tile before and decodes a weight chunk is the compact program. -/
module
public import proofs.«01_k».proof.Proof.I.Prog
@[expose] public section
set_option maxRecDepth 65536
noncomputable section
namespace Cert.KernelIdeal.P
open Idealize.ShloMosaic Idealize.SL.Sem Cert.KernelIdeal.Gen
variable {F : FTy → Type} [FloatOps F]
set_option maxHeartbeats 20000000
/-- The printed text of such a step is the compact one. -/
theorem branch9_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) (k0_t1 : Fin k0_t1_loop.trips) (k0_h9 : k0_cond9 k0_t1 = 1#1) (arg13_r0 : BitVec 32) (k0_mxu176 : Mxu F) :
  (do
        let ⟨v3734_r0, v3735_r0, k0_mxu325, v6150_r0, v6152_r0, v6159_r0, v6160_r0, v6161_r0, v6166_r0, v6170_r0, v6273_r0, v6339_r0, v6340_r0, c32_i32_2158_r0, v6342_r0, v6345_r0, v6346_r0⟩ : Σ' (v3734_r0 : BitVec 32) (v3735_r0 : BitVec 32) (k0_mxu325 : Mxu F) (v6150_r0 : BitVec 32) (v6152_r0 : BitVec 32) (v6159_r0 : IVec S64x128 32) (v6160_r0 : IVec S128x128 32) (v6161_r0 : IVec S64x256 32) (v6166_r0 : IVec S128x128 32) (v6170_r0 : IVec S64x128 32) (v6273_r0 : FVec F S256x128 .bf16) (v6339_r0 : FVec F S256x128 .bf16) (v6340_r0 : BitVec 32) (c32_i32_2158_r0 : BitVec 32) (v6342_r0 : IVec S128x128 32) (v6345_r0 : IVec S128x128 32), IVec S128x128 32 ← k0_part186 arg0 harg0 arg1 harg1 arg2 harg2 arg3 harg3 arg4 harg4 arg5 harg5 arg6 harg6 arg7 harg7 arg8 harg8 arg9 arg10 arg11 arg12 k0_t1 arg13_r0 k0_mxu176 k0_h9
        let ⟨k0_mxu345, v7521_r0⟩ : Σ' (k0_mxu345 : Mxu F), FVec F S256x512 .bf16 ← k0_part187 arg0 harg0 arg1 harg1 arg2 harg2 arg3 harg3 arg4 harg4 arg5 harg5 arg6 harg6 arg7 harg7 arg8 harg8 arg9 arg10 arg11 arg12 k0_t1 arg13_r0 k0_h9 v3734_r0 v3735_r0 k0_mxu325 v6150_r0 v6152_r0 v6159_r0 v6160_r0 v6161_r0 v6166_r0 v6170_r0 v6273_r0 v6339_r0 v6340_r0 c32_i32_2158_r0 v6342_r0 v6345_r0 v6346_r0
        Prog.lift (.store arg7 (Rect.unit (s := S64x256x512) (k0_off171 k0_t1 7#32) S1x256x512.size (k0_off171_inb k0_t1 k0_h9 7)) (k0_pay953 v7521_r0) Finset.univ (View.stores_vmem h_S1x256x512 (harg7.storeExact_slice rfl _ (k0_off171_packedbf16 k0_t1 k0_h9 7)) (fun _ => rfl)) (.inl rfl))
        pure k0_mxu345 : TC F (Mxu F)) = branch9 arg4 arg5 arg6 arg7 harg7 arg8 harg8 k0_t1 k0_h9 arg13_r0 k0_mxu176 := rfl

end Cert.KernelIdeal.P
-- ==== Proof.I.Body.lean ====
/-  One step of the main loop keeps what holds between steps. -/
module

public import proofs.«01_k».proof.Proof.I.Inv
public import proofs.«01_k».proof.Proof.I.Branch6
public import proofs.«01_k».proof.Proof.I.Branch7
public import proofs.«01_k».proof.Proof.I.Branch8
public import proofs.«01_k».proof.Proof.I.Branch9

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

/-! ## Conditionals -/

section Ifs

variable {c : Dev nD} {p : Prop} [Decidable p]

/-- A conditional with a result. -/
theorem wif {α : Type} {X : p → TC F α} {Y : TC F α} {R : sProp 𝕄} {Q : α → sProp 𝕄} (h : ∀ h : p, R ⊢ WP c (X h) Q) (hn : ¬ p → R ⊢ WP c Y Q) :
    R ⊢ WP c (if h : p then X h else Y) Q := by
  by_cases hp : p
  · rw [dif_pos hp]; exact h hp
  · rw [dif_neg hp]; exact hn hp
/-- A conditional statement of one action. -/
theorem wif1 {α β : Type} {X : p → TC F α} {K : TC F β} {R M : sProp 𝕄} {Q : β → sProp 𝕄} (h : ∀ h : p, R ⊢ WP c (X h) (fun _ => M)) (hn : ¬ p → R ⊢ M) :
    iprop(R ∗ (M -∗ WP c K Q)) ⊢ WP c (if h : p then (X h >>= fun _ => K) else K) Q := by
  by_cases hp : p
  · rw [dif_pos hp]
    iintro ⟨HR, HK⟩
    iapply (wseq c (h hp))
    isplitl [HR]; · iexact HR
    iintro %_ HM
    iapply HK; iexact HM
  · rw [dif_neg hp]
    iintro ⟨HR, HK⟩
    iapply HK; iapply (hn hp); iexact HR
/-- A conditional statement of two actions. -/
theorem wif2 {α α' β : Type} {X : p → TC F α} {Y : p → TC F α'} {K : TC F β} {R M1 M : sProp 𝕄} {Q : β → sProp 𝕄}
    (h : ∀ h : p, R ⊢ WP c (X h) (fun _ => M1)) (h' : ∀ h : p, M1 ⊢ WP c (Y h) (fun _ => M)) (hn : ¬ p → R ⊢ M) :
    iprop(R ∗ (M -∗ WP c K Q)) ⊢ WP c (if h : p then (X h >>= fun _ => Y h >>= fun _ => K) else K) Q := by
  by_cases hp : p
  · rw [dif_pos hp]
    iintro ⟨HR, HK⟩
    iapply (wseq c (h hp))
    isplitl [HR]; · iexact HR
    iintro %_ HM
    iapply (wseq c (h' hp))
    isplitl [HM]; · iexact HM
    iintro %_ HM
    iapply HK; iexact HM
  · rw [dif_neg hp]
    iintro ⟨HR, HK⟩
    iapply HK; iapply (hn hp); iexact HR

end Ifs

section Body

variable {c : Dev nD} {dy : S7680x16384.Idx → F .bf16} {wp : S16384x1024.Idx → BitVec 8} {ws : S16384x64.Idx → BitVec 8} (k : Fin k0_t1_loop.trips)

theorem klt : k.val < 256 := lt_of_lt_of_eq k.isLt trips_eq

/-! ## The conditional waits and starts -/

theorem DN_put {d : ℕ} : iprop(DN c dy wp ws d ∗ OV c d (outV dy wp ws d)) ⊢ DN c dy wp ws (d + 1) := .rfl
theorem c1_wait (h : k0_cond1 k = 1#1) {i w1 w2} :
    iprop(OI c dy wp ws k.val ∗ OW (F := F) c) ⊢ WP c (Prog.lift (.waitDma2 sem12 m8 (b3 (k0_off26 k) i) w1 w2)) (fun _ => iprop(OM1 c dy wp ws k.val ∗ OW (F := F) c)) := by
  obtain ⟨h8, h16⟩ := (cond1_iff k).1 h
  unfold OI OM1
  rw [if_pos h8, if_pos h8, if_pos h16]
  unfold OFly OFree
  iintro ⟨⟨HF, HD, HR⟩, HW⟩
  iapply (wend c o_wait)
  isplitl [HF HW]
  · isplitl [HF]; · iexact HF
    iexact HW
  iintro %_ ⟨⟨HO, H8⟩, HS, HW⟩
  isplitr [HW]
  · isplitl [H8]; · iexists _; iexact H8
    isplitl [HS]; · iexact HS
    rw [show k.val / 8 - 1 = (k.val / 8 - 2) + 1 by omega]
    isplitl [HD HO]
    · iapply DN_put
      isplitl [HD]; · iexact HD
      iexact HO
    · iexact HR
  iexact HW
theorem c1_skip (h : ¬ k0_cond1 k = 1#1) : iprop(OI c dy wp ws k.val ∗ OW (F := F) c) ⊢ iprop(OM1 c dy wp ws k.val ∗ OW (F := F) c) := by
  rw [cond1_iff] at h
  unfold OI OM1
  by_cases h8 : k.val % 8 = 0
  · rw [if_pos h8, if_pos h8, if_neg (by omega), show k.val / 8 - 1 = 0 by omega]; try exact .rfl
  · rw [if_neg h8, if_neg h8]; try exact .rfl

theorem c2_start (h : k0_cond2 k = 1#1) {i w1 w2 w3} :
    OM1 c dy wp ws k.val ⊢ WP c (Prog.lift (.enqueueDma m8 (.here (b3 (k0_off27 k) i)) (.dma sem12) w1 w2 w3)) (fun _ => OM2 c dy wp ws k.val) := by
  obtain ⟨h8, h16⟩ := (cond2_iff k).1 h
  have hk := klt k
  unfold OM1 OM2
  have h0 : ¬ k.val % 8 = 0 := by omega
  rw [if_neg h0, if_neg h0, if_pos h16, if_pos h8, if_pos h16]
  unfold OHold OFly
  iintro ⟨H8, HS, HD, HR⟩
  ihave H := (RM_take (F := F) c (d := k.val / 8 - 1) (by omega)) $$ HR
  icases H with ⟨HA, HR⟩
  iapply (wend c (o_start (off27_eq k h)))
  isplitl [HA HS H8]
  · isplitl [HA]; · iexact HA
    isplitl [HS]; · iexact HS
    iexact H8
  iintro %_ HF
  isplitl [HF]; · iexact HF
  isplitl [HD]; · iexact HD
  iexact HR
theorem c2_skip (h : ¬ k0_cond2 k = 1#1) : OM1 c dy wp ws k.val ⊢ OM2 c dy wp ws k.val := by
  rw [cond2_iff] at h
  unfold OM1 OM2
  by_cases h8 : k.val % 8 = 0
  · rw [if_pos h8, if_pos h8]; try exact .rfl
  · rw [if_neg h8, if_neg h8]
    by_cases h9 : 8 ≤ k.val
    · rw [if_pos h9, if_pos h9, if_neg (by omega)]; try exact .rfl
    · rw [if_neg h9, if_neg h9]; try exact .rfl

theorem WI_dec (h : dec k.val) : WI (F := F) c wp ws k.val = iprop(FL56 (F := F) c wp ws (chunk k.val) ∗ FR56 (F := F) c wp ws (slot2 (chunk k.val + 1))) := by
  unfold WI FLW
  rw [nxt_dec h, if_pos (chunk_lt h)]
theorem WM1_dec (h : dec k.val) : WM1 (F := F) c wp ws k.val = iprop(LD56 (F := F) c wp ws (chunk k.val) ∗ FR56 (F := F) c wp ws (slot2 (chunk k.val + 1))) := by
  unfold WM1; rw [if_pos h]
theorem WM2_dec (h : dec k.val) : WM2 (F := F) c wp ws k.val = iprop(LD56 (F := F) c wp ws (chunk k.val) ∗ FLW (F := F) c wp ws (chunk k.val + 1)) := by
  unfold WM2; rw [if_pos h]
theorem WM2_keep (h : ¬ dec k.val) : WM2 (F := F) c wp ws k.val = WI (F := F) c wp ws k.val := by
  unfold WM2; rw [if_neg h]

/-- Once the codes have landed. -/
def WH (c : Dev nD) (wp : S16384x1024.Idx → BitVec 8) (ws : S16384x64.Idx → BitVec 8) (e : ℕ) : sProp 𝕄 :=
  iprop(LD5 (F := F) c wp (slot2 e) (e / 8) (e % 8) ∗ FL6 (F := F) c ws (slot2 e) (e % 8) ∗ FR56 (F := F) c wp ws (slot2 (e + 1)))
theorem c3_waitC (h : k0_cond3 k = 1#1) {hs hd} {srcw : Memref sig .tc .hbm S2048x256 .i8} {w1 w2} :
    iprop(WI (F := F) c wp ws k.val ∗ OW (F := F) c) ⊢ WP c (Prog.lift (.waitDma2 (u10 (k0_off28 k) hs) srcw (w5 (k0_off29 k) hd) w1 w2))
      (fun _ => iprop(WH (F := F) c wp ws (chunk k.val) ∗ OW (F := F) c)) := by
  have hd := (cond3_iff k).1 h
  rw [WI_dec k hd]
  unfold FL56 WH
  iintro ⟨⟨⟨H5, H6⟩, HR⟩, HW⟩
  iapply (wend c (c_wait (j := slot2 (chunk k.val)) srcw (cEq rfl)))
  isplitl [H5 HW]
  · isplitl [H5]; · iexact H5
    iexact HW
  iintro %_ ⟨H5, HW⟩
  isplitr [HW]
  · isplitl [H5]; · iexact H5
    isplitl [H6]; · iexact H6
    iexact HR
  iexact HW
theorem c3_waitS (h : k0_cond3 k = 1#1) {hs hd} {srcw : Memref sig .tc .hbm S2048x64 .i8} {w1 w2} :
    iprop(WH (F := F) c wp ws (chunk k.val) ∗ OW (F := F) c) ⊢ WP c (Prog.lift (.waitDma2 (u11 (k0_off28 k) hs) srcw (w6 (k0_off31 k) hd) w1 w2))
      (fun _ => iprop(WM1 (F := F) c wp ws k.val ∗ OW (F := F) c)) := by
  have hd := (cond3_iff k).1 h
  rw [WM1_dec k hd]
  unfold LD56 WH
  iintro ⟨⟨H5, H6, HR⟩, HW⟩
  iapply (wend c (s_wait (j := slot2 (chunk k.val)) srcw (cEq rfl)))
  isplitl [H6 HW]
  · isplitl [H6]; · iexact H6
    iexact HW
  iintro %_ ⟨H6, HW⟩
  isplitr [HW]
  · isplitl [H5 H6]
    · isplitl [H5]; · iexact H5
      iexact H6
    iexact HR
  iexact HW
theorem c3_skip (h : ¬ k0_cond3 k = 1#1) : iprop(WI (F := F) c wp ws k.val ∗ OW (F := F) c) ⊢ iprop(WM1 (F := F) c wp ws k.val ∗ OW (F := F) c) := by
  rw [cond3_iff] at h
  unfold WM1
  rw [if_neg h]
  try exact .rfl

/-- Once the next chunk's codes are asked for. -/
def WG (c : Dev nD) (wp : S16384x1024.Idx → BitVec 8) (ws : S16384x64.Idx → BitVec 8) (e : ℕ) : sProp 𝕄 :=
  iprop(LD56 (F := F) c wp ws e ∗ FL5 (F := F) c wp (slot2 (e + 1)) ((e + 1) / 8) ((e + 1) % 8) ∗ FR6 (F := F) c ws (slot2 (e + 1)))
theorem c4_startC (h : k0_cond4 k = 1#1) {hs hd hb w1 w2 w3} :
    WM1 (F := F) c wp ws k.val ⊢ WP c (Prog.lift (.enqueueDma (b1 (k0_off35 k) hb) (.here (w5 (k0_off34 k) hd)) (.dma (u10 (k0_off33 k) hs)) w1 w2 w3))
      (fun _ => WG (F := F) c wp ws (chunk k.val)) := by
  have hd := (cond4_iff k).1 h
  rw [WM1_dec k hd.1]
  unfold FR56 WG
  iintro ⟨HL, H5, H6⟩
  iapply (wend c (c_start (j := slot2 (chunk k.val + 1)) (n := (chunk k.val + 1) / 8) (ch := (chunk k.val + 1) % 8) (cEq rfl) (cEq rfl) (cEq rfl)))
  isplitl [H5]; · iexact H5
  iintro %_ H5
  isplitl [HL]; · iexact HL
  isplitl [H5]; · iexact H5
  iexact H6
theorem c4_startS (h : k0_cond4 k = 1#1) {hs hd hb w1 w2 w3} :
    WG (F := F) c wp ws (chunk k.val) ⊢ WP c (Prog.lift (.enqueueDma (b2 (k0_off37 k) hb) (.here (w6 (k0_off36 k) hd)) (.dma (u11 (k0_off33 k) hs)) w1 w2 w3))
      (fun _ => WM2 (F := F) c wp ws k.val) := by
  have hd := (cond4_iff k).1 h
  rw [WM2_dec k hd.1]
  unfold FLW
  rw [if_pos hd.2]
  unfold FL56 WG
  iintro ⟨HL, H5, H6⟩
  iapply (wend c (s_start (j := slot2 (chunk k.val + 1)) (ch := (chunk k.val + 1) % 8) (cEq rfl) (cEq rfl) (cEq rfl)))
  isplitl [H6]; · iexact H6
  iintro %_ H6
  isplitl [HL]; · iexact HL
  isplitl [H5]; · iexact H5
  iexact H6
theorem c4_skip (h : ¬ k0_cond4 k = 1#1) : WM1 (F := F) c wp ws k.val ⊢ WM2 (F := F) c wp ws k.val := by
  rw [cond4_iff] at h
  unfold WM1 WM2
  by_cases hd : dec k.val
  · rw [if_pos hd, if_pos hd]
    unfold FLW
    rw [if_neg (fun h' => h ⟨hd, h'⟩)]
    try exact .rfl
  · rw [if_neg hd, if_neg hd]; try exact .rfl

/-- The left operand's slots once the step's own has landed. -/
def DM1 (c : Dev nD) (dy : S7680x16384.Idx → F .bf16) (s : ℕ) : sProp 𝕄 :=
  iprop(LD4 c dy (slot3 s) (s / 8 % 8) (s % 8) ∗ FLX c dy (s + 1) ∗ FR4 c dy (slot3 (s + 2)))
def DM2 (c : Dev nD) (dy : S7680x16384.Idx → F .bf16) (s : ℕ) : sProp 𝕄 :=
  iprop(LD4 c dy (slot3 s) (s / 8 % 8) (s % 8) ∗ FLX c dy (s + 1) ∗ FLX c dy (s + 2))
theorem x_waitK {hs hd} {srcw : Memref sig .tc .hbm S960x2048 .bf16} {w1 w2} :
    iprop(DI c dy k.val ∗ OW (F := F) c) ⊢ WP c (Prog.lift (.waitDma2 (u9 (k0_off38 k) hs) srcw (w4 (k0_off39 k) hd) w1 w2))
      (fun _ => iprop(DM1 c dy k.val ∗ OW (F := F) c)) := by
  unfold DI DM1
  conv_lhs => unfold FLX; rw [if_pos (klt k)]
  iintro ⟨⟨H, HR⟩, HW⟩
  iapply (wend c (x_wait (j := slot3 k.val) srcw (cEq rfl)))
  isplitl [H HW]
  · isplitl [H]; · iexact H
    iexact HW
  iintro %_ ⟨H, HW⟩
  isplitr [HW]
  · isplitl [H]; · iexact H
    iexact HR
  iexact HW
theorem c5_start (h : k0_cond5 k = 1#1) {hs hd hb w1 w2 w3} :
    DM1 c dy k.val ⊢ WP c (Prog.lift (.enqueueDma (b0 (k0_off43 k) hb) (.here (w4 (k0_off42 k) hd)) (.dma (u9 (k0_off41 k) hs)) w1 w2 w3)) (fun _ => DM2 c dy k.val) := by
  have h2 := (cond5_iff k).1 h
  unfold DM1 DM2
  iintro ⟨HL, HF, HR⟩
  iapply (wend c (x_start (j := slot3 (k.val + 2)) (m := (k.val + 2) / 8 % 8) (ch := (k.val + 2) % 8) (cEq rfl) (cEq rfl) (cEq rfl)))
  isplitl [HR]; · iexact HR
  iintro %_ HR
  isplitl [HL]; · iexact HL
  isplitl [HF]; · iexact HF
  unfold FLX
  rw [if_pos h2]
  iexact HR
theorem c5_skip (h : ¬ k0_cond5 k = 1#1) : DM1 c dy k.val ⊢ DM2 c dy k.val := by
  rw [cond5_iff] at h
  unfold DM1 DM2
  conv_rhs => rw [show FLX c dy (k.val + 2) = FR4 c dy (slot3 (k.val + 2)) by unfold FLX; rw [if_neg h]]
  try exact .rfl
theorem DI_next (s : ℕ) : iprop(LD4 c dy (slot3 s) (s / 8 % 8) (s % 8) ∗ FLX c dy (s + 1) ∗ FLX c dy (s + 2)) ⊢ DI c dy (s + 1) := by
  unfold DI
  rw [show s + 1 + 2 = s + 3 by omega, slot3_add]
  iintro ⟨HL, HF, HR⟩
  isplitl [HF]; · iexact HF
  isplitl [HR]; · iexact HR
  iapply LD4_free; iexact HL

end Body

end Cert.KernelIdeal.P
-- ==== Proof.I.Forms.lean ====
/-  One step of the main loop keeps what holds between steps: the printed step. -/
module

public import proofs.«01_k».proof.Proof.I.Body

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Step

variable {c : Dev nD} {dy : S7680x16384.Idx → F .bf16} {wp : S16384x1024.Idx → BitVec 8} {ws : S16384x64.Idx → BitVec 8} (k : Fin k0_t1_loop.trips)

abbrev HA0 : a0.IsWhole := Memref.isWhole_whole _
abbrev HA1 : a1.IsWhole := Memref.isWhole_whole _
abbrev HA2 : a2.IsWhole := Memref.isWhole_whole _
abbrev HA3 : a3.IsWhole := Memref.isWhole_whole _
abbrev H4 : m4.IsWhole := Memref.isWhole_whole _
abbrev H5 : m5.IsWhole := Memref.isWhole_whole _
abbrev H6 : m6.IsWhole := Memref.isWhole_whole _

/-- The first part of a step: the result buffer and the codes. -/
theorem wp_part188 : iprop(OI c dy wp ws k.val ∗ WI (F := F) c wp ws k.val ∗ OW (F := F) c)
    ⊢ WP c (k0_part188 (F := F) a0 HA0 a1 HA1 a2 HA2 a3 HA3 m4 H4 m5 H5 m6 H6 m7 H7 m8 H8 cc0_scratch5 cc0_scratch6 cc0_scratch7 cc0_scratch8 0#32 1#32 k)
      (fun x => iprop(⌜∃ y z w, x = ⟨Scf.iv 0#32 1#32 k, y, z, w⟩⌝ ∗ OM2 c dy wp ws k.val ∗ WM2 (F := F) c wp ws k.val ∗ OW (F := F) c)) := by
  rw [k0_part188_eq_skeleton]
  unfold k0_part188_skel
  dsimp only
  iintro ⟨HO, HC, HW⟩
  iapply (wif1 (R := iprop(OI c dy wp ws k.val ∗ OW (F := F) c)) (M := iprop(OM1 c dy wp ws k.val ∗ OW (F := F) c)) (fun h => c1_wait k h) (fun h => c1_skip k h))
  isplitl [HO HW]
  · isplitl [HO]; · iexact HO
    iexact HW
  iintro ⟨HO, HW⟩
  iapply (wif1 (R := OM1 c dy wp ws k.val) (M := OM2 c dy wp ws k.val) (fun h => c2_start k h) (fun h => c2_skip k h))
  isplitl [HO]; · iexact HO
  iintro HO
  iapply (wif2 (R := iprop(WI (F := F) c wp ws k.val ∗ OW (F := F) c)) (M := iprop(WM1 (F := F) c wp ws k.val ∗ OW (F := F) c)) (fun h => c3_waitC k h) (fun h => c3_waitS k h) (fun h => c3_skip k h))
  isplitl [HC HW]
  · isplitl [HC]; · iexact HC
    iexact HW
  iintro ⟨HC, HW⟩
  iapply (wif2 (R := WM1 (F := F) c wp ws k.val) (M := WM2 (F := F) c wp ws k.val) (fun h => c4_startC k h) (fun h => c4_startS k h) (fun h => c4_skip k h))
  isplitl [HC]; · iexact HC
  iintro HC
  iapply (le_wp_ret _ _ _ _ _)
  isplitr
  · ipureintro; exact ⟨_, _, _, rfl⟩
  isplitl [HO]; · iexact HO
  isplitl [HC]; · iexact HC
  iexact HW

/-- What a step's forms start from, and what each leaves. -/
def RI (c : Dev nD) (dy : S7680x16384.Idx → F .bf16) (wp : S16384x1024.Idx → BitVec 8) (ws : S16384x64.Idx → BitVec 8) (s : ℕ) : sProp 𝕄 :=
  iprop(DM2 c dy s ∗ OM2 c dy wp ws s ∗ WM2 (F := F) c wp ws s ∗ (∃ f, ⌜FI wp ws s f⌝ ∗ P7 c f))
def RO (c : Dev nD) (dy : S7680x16384.Idx → F .bf16) (wp : S16384x1024.Idx → BitVec 8) (ws : S16384x64.Idx → BitVec 8) (s : ℕ) (mx : Mxu F) : sProp 𝕄 :=
  iprop(⌜UI dy wp ws s mx⌝ ∗ OI c dy wp ws s ∗ DI c dy s ∗ WI (F := F) c wp ws s ∗ (∃ f, ⌜FI wp ws s f⌝ ∗ P7 c f))

variable {mx : Mxu F} (hU : UI dy wp ws k.val mx)
include hU

theorem form6 (h : k0_cond6 k = 1#1) : RI c dy wp ws k.val ⊢ WP c (branch6 m4 m7 k h mx) (fun mx' => RO c dy wp ws (k.val + 1) mx') := by
  obtain ⟨hd, h8⟩ := (cond6_iff k).1 h
  have hk := klt k
  unfold RI RO DM2 LD4
  rw [WM2_keep k hd, OI_keep h8, WI_keep hd hk]
  iintro ⟨⟨⟨⟨⟨%g, %hg, H4⟩, HT⟩, HS⟩, HF⟩, HO, HC, ⟨%f, %hf, H7⟩⟩
  iapply (wend c (wp_branch6 (n := k.val / 64) k h hg (FI_all hd hk hf) (UI_mid hU hk h8)))
  isplitl [H4 H7]
  · isplitl [H4]; · iexact H4
    iexact H7
  iintro %s' ⟨%hs', H4, H7⟩
  isplitr
  · ipureintro
    refine UI_next hk (fun h1 => ?_) hs'
    rw [FI_all hd hk hf]
    unfold dec at hd
    show wOf wp ws (k.val / 64) ((8 * (k.val % 8) + 7 + 1) % 64) = _
    rw [show (8 * (k.val % 8) + 7 + 1) % 64 = 8 * ((k.val + 1) % 8) by omega, show k.val / 64 = (k.val + 1) / 64 by omega]
  isplitl [HO]; · iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [HC]; · iexact HC
  iexists f
  isplitr
  · ipureintro; exact FI_keep hd hk hf
  iexact H7

theorem form7 (h : k0_cond7 k = 1#1) : RI c dy wp ws k.val ⊢ WP c (branch7 m4 m7 m8 H8 k h mx) (fun mx' => RO c dy wp ws (k.val + 1) mx') := by
  obtain ⟨hd, h8⟩ := (cond7_iff k).1 h
  have hk := klt k
  obtain ⟨lv, A, hM, hA⟩ := UI_start hU hk h8
  unfold RI RO DM2 LD4 OM2
  rw [WM2_keep k hd, WI_keep hd hk, if_pos h8]
  unfold OFree
  iintro ⟨⟨⟨⟨⟨%g, %hg, H4⟩, HT⟩, HS⟩, HF⟩, ⟨⟨%f8, H8⟩, HO⟩, HC, ⟨%f, %hf, H7⟩⟩
  iapply (wend c (wp_branch7 (n := k.val / 64) k f8 h (by rw [← h8]; exact hg) (FI_all hd hk hf) hM))
  isplitl [H4 H7 H8]
  · isplitl [H4]; · iexact H4
    isplitl [H7]; · iexact H7
    iexact H8
  iintro %s' ⟨%hs', H4, H7, H8⟩
  isplitr
  · ipureintro
    refine UI_next hk (fun h1 => ?_) (by rw [h8]; exact hs')
    rw [FI_all hd hk hf]
    unfold dec at hd
    show wOf wp ws (k.val / 64) ((8 * (k.val % 8) + 7 + 1) % 64) = _
    rw [show (8 * (k.val % 8) + 7 + 1) % 64 = 8 * ((k.val + 1) % 8) by omega, show k.val / 64 = (k.val + 1) / 64 by omega]
  isplitl [HO H8]
  · iapply (OI_pop h8 hA)
    isplitl [H8]; · iexact H8
    iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [HC]; · iexact HC
  iexists f
  isplitr
  · ipureintro; exact FI_keep hd hk hf
  iexact H7

theorem form8 (h : k0_cond8 k = 1#1) : RI c dy wp ws k.val ⊢ WP c (branch8 m4 m5 m6 m7 H7 k h (Scf.iv 0#32 1#32 k) mx) (fun mx' => RO c dy wp ws (k.val + 1) mx') := by
  obtain ⟨hd, h8⟩ := (cond8_iff k).1 h
  have hk := klt k
  unfold RI RO DM2 LD4
  rw [WM2_dec k hd, OI_keep h8]
  unfold LD56 LD5 LD6
  rw [chunk_div hd]
  iintro ⟨⟨⟨⟨⟨%g, %hg, H4⟩, HT⟩, HS⟩, HF⟩, HO, ⟨⟨⟨⟨⟨%g5, %hg5, H5⟩, HT5⟩, HS5⟩, ⟨⟨⟨%g6, %hg6, H6⟩, HT6⟩, HS6⟩⟩, HC⟩, ⟨%f, %hf, H7⟩⟩
  iapply (wend c (wp_branch8 (n := k.val / 64) k h hg (FI_cur hk hf) hg5 hg6 (fbOf_iv k) (UI_mid hU hk h8)))
  isplitl [H4 H5 H6 H7]
  · isplitl [H4]; · iexact H4
    isplitl [H5]; · iexact H5
    isplitl [H6]; · iexact H6
    iexact H7
  iintro %s' ⟨%hs', H4, H5, H6, H7⟩
  isplitr
  · ipureintro
    refine UI_next hk (fun h1 => ?_) hs'
    rw [chunk_mod hd]
    unfold dec at hd
    congr 1; omega
  isplitl [HO]; · iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [H5 HT5 HS5 H6 HT6 HS6 HC]
  · iapply (WI_next hd)
    isplitr [HC]
    · unfold FR5 FR6
      isplitl [H5 HT5 HS5]
      · isplitl [H5]; · iexists g5; iexact H5
        isplitl [HS5]; · iexact HS5
        iexact HT5
      · isplitl [H6]; · iexists g6; iexact H6
        isplitl [HS6]; · iexact HS6
        iexact HT6
    iexact HC
  iexists _
  isplitr
  · ipureintro; exact FI_next hd hf
  iexact H7

theorem form9 (h : k0_cond9 k = 1#1) : RI c dy wp ws k.val ⊢ WP c (branch9 m4 m5 m6 m7 H7 m8 H8 k h (Scf.iv 0#32 1#32 k) mx) (fun mx' => RO c dy wp ws (k.val + 1) mx') := by
  obtain ⟨hd, h8⟩ := (cond9_iff k).1 h
  have hk := klt k
  obtain ⟨lv, A, hM, hA⟩ := UI_start hU hk h8
  unfold RI RO DM2 LD4 OM2
  rw [WM2_dec k hd, if_pos h8]
  unfold OFree LD56 LD5 LD6
  rw [chunk_div hd]
  iintro ⟨⟨⟨⟨⟨%g, %hg, H4⟩, HT⟩, HS⟩, HF⟩, ⟨⟨%f8, H8⟩, HO⟩, ⟨⟨⟨⟨⟨%g5, %hg5, H5⟩, HT5⟩, HS5⟩, ⟨⟨⟨%g6, %hg6, H6⟩, HT6⟩, HS6⟩⟩, HC⟩, ⟨%f, %hf, H7⟩⟩
  iapply (wend c (wp_branch9 (n := k.val / 64) k f8 h (by rw [← h8]; exact hg) (FI_cur hk hf) hg5 hg6 (fbOf_iv k) hM))
  isplitl [H4 H5 H6 H7 H8]
  · isplitl [H4]; · iexact H4
    isplitl [H5]; · iexact H5
    isplitl [H6]; · iexact H6
    isplitl [H7]; · iexact H7
    iexact H8
  iintro %s' ⟨%hs', H4, H5, H6, H7, H8⟩
  isplitr
  · ipureintro
    refine UI_next hk (fun h1 => ?_) (by rw [h8]; exact hs')
    rw [chunk_mod hd]
    unfold dec at hd
    congr 1; omega
  isplitl [HO H8]
  · iapply (OI_pop h8 hA)
    isplitl [H8]; · iexact H8
    iexact HO
  isplitl [H4 HT HS HF]
  · iapply DI_next
    unfold LD4
    isplitr [HF]
    · isplitl [H4 HT]
      · isplitl [H4]
        · iexists g
          isplitr
          · ipureintro; exact hg
          iexact H4
        iexact HT
      iexact HS
    iexact HF
  isplitl [H5 HT5 HS5 H6 HT6 HS6 HC]
  · iapply (WI_next hd)
    isplitr [HC]
    · unfold FR5 FR6
      isplitl [H5 HT5 HS5]
      · isplitl [H5]; · iexists g5; iexact H5
        isplitl [HS5]; · iexact HS5
        iexact HT5
      · isplitl [H6]; · iexists g6; iexact H6
        isplitl [HS6]; · iexact HS6
        iexact HT6
    iexact HC
  iexists _
  isplitr
  · ipureintro; exact FI_next hd hf
  iexact H7

end Step

end Cert.KernelIdeal.P
-- ==== Proof.I.Step.lean ====
/-  One step of the main loop keeps what holds between steps: the whole step. -/
module

public import proofs.«01_k».proof.Proof.I.Forms

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Step

variable {c : Dev nD} {dy : S7680x16384.Idx → F .bf16} {wp : S16384x1024.Idx → BitVec 8} {ws : S16384x64.Idx → BitVec 8} (k : Fin k0_t1_loop.trips)

/-- A step whose form has run (`p`), or has not. -/
def PR (c : Dev nD) (dy : S7680x16384.Idx → F .bf16) (wp : S16384x1024.Idx → BitVec 8) (ws : S16384x64.Idx → BitVec 8) (s : ℕ) (p : Prop) [Decidable p] (mx : Mxu F) : sProp 𝕄 :=
  if p then RO c dy wp ws (s + 1) mx else iprop(⌜UI dy wp ws s mx⌝ ∗ RI c dy wp ws s)

theorem PR_step {s : ℕ} {p q : Prop} [Decidable p] [Decidable q] {mx : Mxu F} {X : q → TC F (Mxu F)} (hpq : q → ¬ p)
    (h : ∀ h : q, UI dy wp ws s mx → RI c dy wp ws s ⊢ WP c (X h) (fun mx' => RO c dy wp ws (s + 1) mx')) :
    PR c dy wp ws s p mx ⊢ WP c (if h : q then X h else pure mx) (fun mx' => PR c dy wp ws s (p ∨ q) mx') := by
  by_cases hq : q
  · rw [dif_pos hq]
    unfold PR
    rw [if_neg (hpq hq)]
    simp only [if_pos (Or.inr hq)]
    iintro ⟨%hU, H⟩
    iapply (h hq hU); iexact H
  · rw [dif_neg hq]
    unfold PR
    simp only [or_iff_left hq]
    iintro H
    iapply (le_wp_ret _ _ _ _ _)
    iexact H

theorem PR_done {s : ℕ} {p : Prop} [Decidable p] {mx : Mxu F} (hp : p) : PR c dy wp ws s p mx ⊢ iprop(⌜UI dy wp ws (s + 1) mx⌝ ∗ OI c dy wp ws (s + 1) ∗ DI c dy (s + 1)
    ∗ WI (F := F) c wp ws (s + 1) ∗ (∃ f, ⌜FI wp ws (s + 1) f⌝ ∗ P7 c f)) := by
  unfold PR RO
  rw [if_pos hp]

/-- The same before the rest of the step. -/
theorem PR_ite {s : ℕ} {p q : Prop} [Decidable p] [Decidable q] {mx : Mxu F} {β : Type} {X : q → TC F (Mxu F)} {T : q → TC F β} {K : Mxu F → TC F β} {Q : β → sProp 𝕄}
    (hpq : q → ¬ p) (h : ∀ h : q, UI dy wp ws s mx → RI c dy wp ws s ⊢ WP c (X h) (fun mx' => RO c dy wp ws (s + 1) mx')) (hT : ∀ h, T h = X h >>= K) :
    iprop(PR c dy wp ws s p mx ∗ (∀ mx', PR c dy wp ws s (p ∨ q) mx' -∗ WP c (K mx') Q)) ⊢ WP c (if h : q then T h else (pure mx >>= K)) Q := by
  rw [show (if h : q then T h else (pure mx >>= K)) = (if h : q then X h else pure mx) >>= K by
    split
    · exact hT _
    · rfl]
  exact wseq c (PR_step hpq h)

/-- The second part of a step: the left operand, and the two forms that decode nothing. -/
theorem wp_part189 {mx : Mxu F} {y z w} (hU : UI dy wp ws k.val mx) :
    iprop(DI c dy k.val ∗ OM2 c dy wp ws k.val ∗ WM2 (F := F) c wp ws k.val ∗ (∃ f, ⌜FI wp ws k.val f⌝ ∗ P7 c f) ∗ OW (F := F) c)
    ⊢ WP c (k0_part189 (F := F) a0 HA0 a1 HA1 a2 HA2 a3 HA3 m4 H4 m5 H5 m6 H6 m7 H7 m8 H8 cc0_scratch5 cc0_scratch6 cc0_scratch7 cc0_scratch8 k mx (Scf.iv 0#32 1#32 k) y z w)
      (fun x => iprop(PR c dy wp ws k.val (k0_cond6 k = 1#1 ∨ k0_cond7 k = 1#1) x.1 ∗ OW (F := F) c)) := by
  rw [k0_part189_eq_skeleton]
  unfold k0_part189_skel
  dsimp only
  iintro ⟨HD, HO, HC, H7, HW⟩
  iapply (wseq c (x_waitK k))
  isplitl [HD HW]
  · isplitl [HD]; · iexact HD
    iexact HW
  iintro %_ ⟨HD, HW⟩
  iapply (wif1 (R := DM1 c dy k.val) (M := DM2 c dy k.val) (fun h => c5_start k h) (fun h => c5_skip k h))
  isplitl [HD]; · iexact HD
  iintro HD
  iapply (PR_ite (c := c) (dy := dy) (wp := wp) (ws := ws) (s := k.val) (p := False) (q := k0_cond6 k = 1#1) (mx := mx) (fun _ h => h) (fun h hU' => form6 k hU' h) (fun h => by
    rw [← branch6_eq a0 HA0 a1 HA1 a2 HA2 a3 HA3 m4 H4 m5 H5 m6 H6 m7 H7 m8 H8 cc0_scratch5 cc0_scratch6 cc0_scratch7 cc0_scratch8 k h (Scf.iv 0#32 1#32 k) mx]
    simp only [bind_assoc, pure_bind]))
  isplitl [HD HO HC H7]
  · unfold PR RI
    rw [if_neg not_false]
    isplitr; · ipureintro; exact hU
    isplitl [HD]; · iexact HD
    isplitl [HO]; · iexact HO
    isplitl [HC]; · iexact HC
    iexact H7
  iintro %mx6 H
  iapply (PR_ite (c := c) (dy := dy) (wp := wp) (ws := ws) (s := k.val) (p := False ∨ k0_cond6 k = 1#1) (q := k0_cond7 k = 1#1) (mx := mx6)
    (fun h7 h6 => by rcases h6 with h6 | h6
                     · exact h6
                     · exact ((cond6_iff k).1 h6).2 ((cond7_iff k).1 h7).2) (fun h hU' => form7 k hU' h) (fun h => by
    rw [← branch7_eq a0 HA0 a1 HA1 a2 HA2 a3 HA3 m4 H4 m5 H5 m6 H6 m7 H7 m8 H8 cc0_scratch5 cc0_scratch6 cc0_scratch7 cc0_scratch8 k h (Scf.iv 0#32 1#32 k) mx6]
    simp only [bind_assoc, pure_bind]))
  isplitl [H]; · iexact H
  iintro %mx7 H
  iapply (le_wp_ret _ _ _ _ _)
  isplitl [H]
  · simp only [false_or]; iexact H
  iexact HW

/-- A step. -/
theorem wp_step {mx mx0 : Mxu F} {v x} :
    LI c dy wp ws k.val mx ⊢ WP c (k0_t1_body (F := F) a0 HA0 a1 HA1 a2 HA2 a3 HA3 m4 H4 m5 H5 m6 H6 m7 H7 m8 H8 cc0_scratch5 cc0_scratch6 cc0_scratch7 cc0_scratch8 mx0 v x k mx)
      (fun mx' => LI c dy wp ws (k.val + 1) mx') := by
  unfold k0_t1_body LI
  dsimp only
  iintro ⟨%hU, HO, HD, HC, H7, HW⟩
  iapply (wseq c (wp_part188 k))
  isplitl [HO HC HW]
  · isplitl [HO]; · iexact HO
    isplitl [HC]; · iexact HC
    iexact HW
  iintro %r ⟨%hr, HO, HC, HW⟩
  obtain ⟨y, z, w, rfl⟩ := hr
  dsimp only
  iapply (wseq c (wp_part189 k hU))
  isplitl [HO HC HD H7 HW]
  · isplitl [HD]; · iexact HD
    isplitl [HO]; · iexact HO
    isplitl [HC]; · iexact HC
    isplitl [H7]; · iexact H7
    iexact HW
  iintro %r ⟨H, HW⟩
  obtain ⟨mx7, y', z'⟩ := r
  dsimp only
  iapply (PR_ite (c := c) (dy := dy) (wp := wp) (ws := ws) (s := k.val) (p := k0_cond6 k = 1#1 ∨ k0_cond7 k = 1#1) (q := k0_cond8 k = 1#1) (mx := mx7)
    (fun h8 h => by rcases h with h | h
                    · exact ((cond6_iff k).1 h).1 ((cond8_iff k).1 h8).1
                    · exact ((cond7_iff k).1 h).1 ((cond8_iff k).1 h8).1) (fun h hU' => form8 k hU' h) (fun h => by
    rw [← branch8_eq a0 HA0 a1 HA1 a2 HA2 a3 HA3 m4 H4 m5 H5 m6 H6 m7 H7 m8 H8 cc0_scratch5 cc0_scratch6 cc0_scratch7 cc0_scratch8 k h (Scf.iv 0#32 1#32 k) mx7]
    simp only [bind_assoc, pure_bind]))
  isplitl [H]; · iexact H
  iintro %mx8 H
  iapply (PR_ite (c := c) (dy := dy) (wp := wp) (ws := ws) (s := k.val) (p := (k0_cond6 k = 1#1 ∨ k0_cond7 k = 1#1) ∨ k0_cond8 k = 1#1) (q := k0_cond9 k = 1#1) (mx := mx8)
    (fun h9 h => by rcases h with (h | h) | h
                    · exact ((cond6_iff k).1 h).1 ((cond9_iff k).1 h9).1
                    · exact ((cond7_iff k).1 h).1 ((cond9_iff k).1 h9).1
                    · exact ((cond8_iff k).1 h).2 ((cond9_iff k).1 h9).2) (fun h hU' => form9 k hU' h) (fun h => by
    rw [← branch9_eq a0 HA0 a1 HA1 a2 HA2 a3 HA3 m4 H4 m5 H5 m6 H6 m7 H7 m8 H8 cc0_scratch5 cc0_scratch6 cc0_scratch7 cc0_scratch8 k h (Scf.iv 0#32 1#32 k) mx8]
    simp only [bind_assoc, pure_bind]))
  isplitl [H]; · iexact H
  iintro %mx9 H
  iapply (le_wp_ret _ _ _ _ _)
  have hall : ((k0_cond6 k = 1#1 ∨ k0_cond7 k = 1#1) ∨ k0_cond8 k = 1#1) ∨ k0_cond9 k = 1#1 := by
    rw [cond6_iff, cond7_iff, cond8_iff, cond9_iff]; tauto
  ihave H := (PR_done hall) $$ H
  icases H with ⟨%hU, HO, HD, HC, H7⟩
  isplitr; · ipureintro; exact hU
  isplitl [HO]; · iexact HO
  isplitl [HD]; · iexact HD
  isplitl [HC]; · iexact HC
  isplitl [H7]; · iexact H7
  iexact HW

end Step

end Cert.KernelIdeal.P
-- ==== Proof.I.Main.lean ====
/-  The whole kernel in a compact form: the prologue's decode as eight decodes of a tile. -/
module
public import proofs.«01_k».proof.Proof.I.Prog
@[expose] public section
set_option maxRecDepth 65536
noncomputable section
namespace Cert.KernelIdeal.P
open Idealize.ShloMosaic Idealize.SL.Sem Cert.KernelIdeal.Gen
variable {F : FTy → Type} [FloatOps F]

/-- The first scale block of the first chunk. -/
def fb0 : BitVec 32 := Scalar.muli (Scalar.divsi 0#32 8#32) 16#32
/-- A tile decoded from loaded codes and scales. -/
def decV (c : Vec F S1x256x256 .i8) (sc : Vec F S1x256x64 .i8) (fb : BitVec 32) : FVec F S256x512 .bf16 :=
  decTile (shapeCast S256x256 c shapeCasts_S1x256x256_S256x256) (shapeCast S256x64 sc shapeCasts_S1x256x64_S256x64) fb

/-- The kernel, its first decodes in compact form. -/
def mainC (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) : TC F PUnit := do
  let ⟨k0_mxu1, v26, v27⟩ : Σ' (k0_mxu1 : Mxu F) (v26 : BitVec 32), BitVec 32 ← k0_part190 arg0 harg0 arg1 harg1 arg2 harg2 arg3 harg3 arg4 harg4 arg5 harg5 arg6 harg6 arg7 harg7 arg8 harg8 arg9 arg10 arg11 arg12
  k0_part191 arg0 harg0 arg1 harg1 arg2 harg2 arg3 harg3 arg4 harg4 arg5 harg5 arg6 harg6 arg7 harg7 arg8 harg8 arg9 arg10 arg11 arg12 v26 v27
  let v57_r0 : DmaSems sig S1 := arg10.slice (Rect.unit (s := S2) (k0_off1 0#32) S1.size (k0_off1_inb 0))
  let v58_r0 : DmaSems sig S_ := v57_r0.squeeze S_ squeezes_S1_S_
  let v59_r0 : Memref sig .tc .vmem S1x2048x256 .i8 := arg5.slice (Rect.unit (s := S2x2048x256) (k0_off2 0#32) S1x2048x256.size (k0_off2_inb 0)) (fun _ => rfl)
  let v60_r0 : Memref sig .tc .vmem S2048x256 .i8 := v59_r0.squeeze S2048x256 squeezes_S1x2048x256_S2048x256
  let v61_r0 : Memref sig .tc .hbm S2048x256 .i8 := arg1.slice (Rect.unit (s := S16384x1024) (k0_off3 0#32 0#32) S2048x256.size (k0_off3_inb 0)) (fun _ => rfl)
  Prog.lift (.waitDma2 v58_r0.sem v61_r0 v60_r0 (harg1.wordExact_slice rfl _ (k0_off3_wordsi8 0)) ((harg5.wordExact_slice rfl _ (k0_off2_wordsi8 0)).reshape _ _))
  let v62_r0 : DmaSems sig S1 := arg11.slice (Rect.unit (s := S2) (k0_off1 0#32) S1.size (k0_off1_inb 0))
  let v63_r0 : DmaSems sig S_ := v62_r0.squeeze S_ squeezes_S1_S_
  let v64_r0 : Memref sig .tc .vmem S1x2048x64 .i8 := arg6.slice (Rect.unit (s := S2x2048x64) (k0_off4 0#32) S1x2048x64.size (k0_off4_inb 0)) (fun _ => rfl)
  let v65_r0 : Memref sig .tc .vmem S2048x64 .i8 := v64_r0.squeeze S2048x64 squeezes_S1x2048x64_S2048x64
  let v66_r0 : Memref sig .tc .hbm S2048x64 .i8 := arg2.slice (Rect.unit (s := S16384x64) (k0_off5 0#32) S2048x64.size (k0_off5_inb 0)) (fun _ => rfl)
  Prog.lift (.waitDma2 v63_r0.sem v66_r0 v65_r0 (harg2.wordExact_slice rfl _ (k0_off5_wordsi8 0)) ((harg6.wordExact_slice rfl _ (k0_off4_wordsi8 0)).reshape _ _))
  decP arg5 arg6 arg7 harg7 k0_off9 k0_off9_inb k0_off10 k0_off10_inb (k0_off11 0#32) (k0_off11_inb 0) (k0_off11_packedbf16 0) fb0
  decP arg5 arg6 arg7 harg7 k0_off12 k0_off12_inb k0_off13 k0_off13_inb (k0_off11 1#32) (k0_off11_inb 1) (k0_off11_packedbf16 1) fb0
  decP arg5 arg6 arg7 harg7 k0_off14 k0_off14_inb k0_off15 k0_off15_inb (k0_off11 2#32) (k0_off11_inb 2) (k0_off11_packedbf16 2) fb0
  decP arg5 arg6 arg7 harg7 k0_off16 k0_off16_inb k0_off17 k0_off17_inb (k0_off11 3#32) (k0_off11_inb 3) (k0_off11_packedbf16 3) fb0
  decP arg5 arg6 arg7 harg7 k0_off18 k0_off18_inb k0_off19 k0_off19_inb (k0_off11 4#32) (k0_off11_inb 4) (k0_off11_packedbf16 4) fb0
  decP arg5 arg6 arg7 harg7 k0_off20 k0_off20_inb k0_off21 k0_off21_inb (k0_off11 5#32) (k0_off11_inb 5) (k0_off11_packedbf16 5) fb0
  decP arg5 arg6 arg7 harg7 k0_off22 k0_off22_inb k0_off23 k0_off23_inb (k0_off11 6#32) (k0_off11_inb 6) (k0_off11_packedbf16 6) fb0
  let c : Vec F S1x256x256 .i8 ← Prog.lift (.load arg5 (Rect.unit (s := S2x2048x256) k0_off24 S1x256x256.size k0_off24_inb).toLoadRect (View.loadsAt_vmem h_S1x256x256))
  let sc : Vec F S1x256x64 .i8 ← Prog.lift (.load arg6 (Rect.unit (s := S2x2048x64) k0_off25 S1x256x64.size k0_off25_inb).toLoadRect (View.loadsAt_vmem h_S1x256x64))
  let ⟨v3615_r0, k0_mxu348⟩ : Σ' (v3615_r0 : FVec F S240x256 .f32), Mxu F ← k0_part270 arg0 harg0 arg1 harg1 arg2 harg2 arg3 harg3 arg4 harg4 arg5 harg5 arg6 harg6 arg7 harg7 arg8 harg8 arg9 arg10 arg11 arg12 k0_mxu1 (decV c sc fb0) (Scalar.muli (Scalar.remsi 0#32 8#32) 8#32)
  let k0_mxu356 : Mxu F ← k0_part271 arg0 harg0 arg1 harg1 arg2 harg2 arg3 harg3 arg4 harg4 arg5 harg5 arg6 harg6 arg7 harg7 arg8 harg8 arg9 arg10 arg11 arg12 v3615_r0 k0_mxu348
  have v3648_r0 : FVec F S240x256 .f32 := k0_mxu356.read 1 0 fits_0_240
  have k0_mxu357 : Mxu F := k0_mxu356.pop 1 0 240 fits_0_240
  let v3653_r0 : Memref sig .tc .hbm S960x512 .bf16 := arg3.slice (Rect.unit (s := S7680x2048) (k0_off214 31#32 31#32) S960x512.size (k0_off214_inb 1)) (fun _ => rfl)
  Prog.lift (.enqueueDma arg8 (.here v3653_r0) (.dma arg12.sem) harg8.wordExact (harg3.wordExact_slice rfl _ (k0_off214_wordsbf16 1)) ⟨Or.inl rfl, trivial⟩)
  let v3658_r0 : Memref sig .tc .hbm S960x512 .bf16 := arg3.slice (Rect.unit (s := S7680x2048) (k0_off214 31#32 31#32) S960x512.size (k0_off214_inb 1)) (fun _ => rfl)
  Prog.lift (.waitDma2 arg12.sem arg8 v3658_r0 harg8.wordExact (harg3.wordExact_slice rfl _ (k0_off214_wordsbf16 1)))
  k0_mxu357.exit
  pure ⟨⟩

set_option maxHeartbeats 20000000
/-- The printed kernel is the compact one. -/
theorem main_eq (arg0 : Memref sig .tc .hbm S7680x16384 .bf16) (harg0 : arg0.IsWhole) (arg1 : Memref sig .tc .hbm S16384x1024 .i8) (harg1 : arg1.IsWhole) (arg2 : Memref sig .tc .hbm S16384x64 .i8) (harg2 : arg2.IsWhole) (arg3 : Memref sig .tc .hbm S7680x2048 .bf16) (harg3 : arg3.IsWhole) (arg4 : Memref sig .tc .vmem S3x960x2048 .bf16) (harg4 : arg4.IsWhole) (arg5 : Memref sig .tc .vmem S2x2048x256 .i8) (harg5 : arg5.IsWhole) (arg6 : Memref sig .tc .vmem S2x2048x64 .i8) (harg6 : arg6.IsWhole) (arg7 : Memref sig .tc .vmem S64x256x512 .bf16) (harg7 : arg7.IsWhole) (arg8 : Memref sig .tc .vmem S960x512 .bf16) (harg8 : arg8.IsWhole) (arg9 : DmaSems sig S3) (arg10 : DmaSems sig S2) (arg11 : DmaSems sig S2) (arg12 : DmaSems sig S_) : cc0_mxfp4_input_grad (F := F) arg0 harg0 arg1 harg1 arg2 harg2 arg3 harg3 arg4 harg4 arg5 harg5 arg6 harg6 arg7 harg7 arg8 harg8 arg9 arg10 arg11 arg12 = mainC arg0 harg0 arg1 harg1 arg2 harg2 arg3 harg3 arg4 harg4 arg5 harg5 arg6 harg6 arg7 harg7 arg8 harg8 arg9 arg10 arg11 arg12 := rfl

end Cert.KernelIdeal.P
-- ==== Proof.I.Whole.lean ====
/-  The kernel as a whole: its prologue, the loop, and what remains after it. -/
module

public import proofs.«01_k».proof.Proof.I.Step
public import proofs.«01_k».proof.Proof.I.Main

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Whole

variable {c : Dev nD} {dy : S7680x16384.Idx → F .bf16} {wp : S16384x1024.Idx → BitVec 8} {ws : S16384x64.Idx → BitVec 8}

/-! ## Single loads and stores -/

theorem wp_ld5 {j : Fin 2} {p : Fin 8} {o h w} (ho : o = ![j.val, 256 * p.val, 0]) (g : B5) :
    P5 (F := F) c j g ⊢ WP c (Prog.lift (.load m5 (Rect.unit (s := S2x2048x256) o S1x256x256.size h).toLoadRect w))
      (fun x => iprop(⌜shapeCast S256x256 x shapeCasts_S1x256x256_S256x256 = cBlk g j p⌝ ∗ P5 (F := F) c j g)) := by
  subst ho
  unfold WP
  rw [← bind_pure (Prog.lift _), Prog.bind_lift]
  iintro H5
  iapply (wp_load_rect 𝒱₀ (c : Thread nD τ) none Set.univ (m := m5) (r := Rect.unit (s := S2x2048x256) ![j.val, 256 * p.val, 0] S1x256x256.size h) (S := S5 j) (f := g) (q := fullShare) ?_) $$ H5
  · intro y hy
    have hy' := (Finset.ext_iff.1 (View.set_slice_whole cc0_scratch1 (Rect.unit (s := S2x2048x256) ![j.val, 256 * p.val, 0] S1x256x256.size h)) y).1 hy
    have := Rect.mem_set_unit.1 hy' 0
    simp only [S5, Finset.mem_filter, Finset.mem_univ, true_and]
    have h1 : j.val ≤ (y 0).val ∧ (y 0).val < j.val + 1 := this
    omega
  iintro H5
  iapply (le_wp_ret _ _ _ _ _)
  isplitr
  · ipureintro
    funext x
    refine (shapeCast_dropUnit_apply ![256, 256] _ _ x).trans ?_
    unfold cBlk
    show g _ = g _
    congr 1
    funext a; apply Fin.ext
    fin_cases a
    · show j.val + 1 * 0 = j.val; omega
    · show 256 * p.val + 1 * (x 0).val = 256 * p.val + (x 0).val; omega
    · show 0 + 1 * (x 1).val = (x 1).val; omega
  · iexact H5

theorem wp_ld6 {j : Fin 2} {p : Fin 8} {o h w} (ho : o = ![j.val, 256 * p.val, 0]) (g : B6) :
    P6 (F := F) c j g ⊢ WP c (Prog.lift (.load m6 (Rect.unit (s := S2x2048x64) o S1x256x64.size h).toLoadRect w))
      (fun x => iprop(⌜shapeCast S256x64 x shapeCasts_S1x256x64_S256x64 = sBlk g j p⌝ ∗ P6 (F := F) c j g)) := by
  subst ho
  unfold WP
  rw [← bind_pure (Prog.lift _), Prog.bind_lift]
  iintro H5
  iapply (wp_load_rect 𝒱₀ (c : Thread nD τ) none Set.univ (m := m6) (r := Rect.unit (s := S2x2048x64) ![j.val, 256 * p.val, 0] S1x256x64.size h) (S := S6 j) (f := g) (q := fullShare) ?_) $$ H5
  · intro y hy
    have hy' := (Finset.ext_iff.1 (View.set_slice_whole cc0_scratch2 (Rect.unit (s := S2x2048x64) ![j.val, 256 * p.val, 0] S1x256x64.size h)) y).1 hy
    have := Rect.mem_set_unit.1 hy' 0
    simp only [S6, Finset.mem_filter, Finset.mem_univ, true_and]
    have h1 : j.val ≤ (y 0).val ∧ (y 0).val < j.val + 1 := this
    omega
  iintro H5
  iapply (le_wp_ret _ _ _ _ _)
  isplitr
  · ipureintro
    funext x
    refine (shapeCast_dropUnit_apply ![256, 64] _ _ x).trans ?_
    unfold sBlk
    show g _ = g _
    congr 1
    funext a; apply Fin.ext
    fin_cases a
    · show j.val + 1 * 0 = j.val; omega
    · show 256 * p.val + 1 * (x 0).val = 256 * p.val + (x 0).val; omega
    · show 0 + 1 * (x 1).val = (x 1).val; omega
  · iexact H5

theorem wp_ld7 {o h w} (f : B7 F) :
    P7 c f ⊢ WP c (Prog.lift (.load m7 (Rect.unit (s := S64x256x512) o S1x256x512.size h).toLoadRect w)) (fun _ => P7 c f) := by
  unfold WP
  rw [← bind_pure (Prog.lift _), Prog.bind_lift]
  iintro H
  iapply (wp_load_rect 𝒱₀ (c : Thread nD τ) none Set.univ (m := m7) (r := Rect.unit (s := S64x256x512) o S1x256x512.size h)
    (S := Finset.univ) (f := f) (q := fullShare) (Finset.subset_univ _)) $$ H
  iintro H
  iapply (le_wp_ret _ _ _ _ _)
  iexact H

theorem wp_st7 {t : Fin 64} {o h x w1 w2} {v : FVec F S256x512 .bf16} (ho : o = ![t.val, 0, 0]) (hx : x = shapeCast S1x256x512 v shapeCasts_S256x512_S1x256x512) (f : B7 F) :
    P7 c f ⊢ WP c (Prog.lift (.store m7 (Rect.unit (s := S64x256x512) o S1x256x512.size h) x Finset.univ w1 w2)) (fun _ => P7 c (putTile f t v)) := by
  subst ho hx
  unfold WP
  rw [← bind_pure (Prog.lift _), Prog.bind_lift]
  iintro H
  iapply (wp_store 𝒱₀ (c : Thread nD τ) none Set.univ (m := m7) (r := Rect.unit (s := S64x256x512) ![t.val, 0, 0] S1x256x512.size h)
    (S := Finset.univ) (f := f) (Finset.subset_univ _)) $$ H
  iintro H
  iapply (le_wp_ret _ _ _ _ _)
  rw [← write7 t h f]
  iexact H

theorem wp_ld8 {o h w} (f : B8 F) :
    P8 c f ⊢ WP c (Prog.lift (.load m8 (Rect.unit (s := S960x512) o S240x256.size h).toLoadRect w)) (fun _ => P8 c f) := by
  unfold WP
  rw [← bind_pure (Prog.lift _), Prog.bind_lift]
  iintro H
  iapply (wp_load_rect 𝒱₀ (c : Thread nD τ) none Set.univ (m := m8) (r := Rect.unit (s := S960x512) o S240x256.size h)
    (S := Finset.univ) (f := f) (q := fullShare) (Finset.subset_univ _)) $$ H
  iintro H
  iapply (le_wp_ret _ _ _ _ _)
  iexact H

theorem wp_st8 (i : Fin 4) (q : Fin 2) {o h x w1 w2} {v : AV F} (ho : o = ![240 * i.val, 256 * q.val])
    (hx : x = shapeCast S240x256 (truncf .bf16 v bitsLt_bf16_f32 : FVec F S240x256 .bf16) shapeCasts_S240x256_S240x256) (f : B8 F) :
    P8 c f ⊢ WP c (Prog.lift (.store m8 (Rect.unit (s := S960x512) o S240x256.size h) x Finset.univ w1 w2)) (fun _ => P8 c (putBlk f i q v)) := by
  subst ho hx
  unfold WP
  rw [← bind_pure (Prog.lift _), Prog.bind_lift]
  iintro H
  iapply (wp_store 𝒱₀ (c : Thread nD τ) none Set.univ (m := m8) (r := Rect.unit (s := S960x512) ![240 * i.val, 256 * q.val] S240x256.size h)
    (S := Finset.univ) (f := f) (Finset.subset_univ _)) $$ H
  iintro H
  iapply (le_wp_ret _ _ _ _ _)
  rw [← write8 i q h f]
  iexact H

/-! ## The prologue's fetches -/

theorem wp_part190 :
    iprop(FR5 (F := F) c wp 0 ∗ FR6 (F := F) c ws 0 ∗ FR4 c dy 0)
    ⊢ WP c (k0_part190 (F := F) a0 HA0 a1 HA1 a2 HA2 a3 HA3 m4 H4 m5 H5 m6 H6 m7 H7 m8 H8 cc0_scratch5 cc0_scratch6 cc0_scratch7 cc0_scratch8)
      (fun x => iprop(⌜x.1 = Mxu.init⌝ ∗ FL5 (F := F) c wp 0 0 0 ∗ FL6 (F := F) c ws 0 0 ∗ FL4 c dy 0 0 0)) := by
  rw [k0_part190_eq_skeleton]
  unfold k0_part190_skel
  dsimp only
  iintro ⟨HA, HB, HC⟩
  iapply (wseq c (c_start (j := 0) (n := 0) (ch := 0) (k0_off1_eq 0) (k0_off2_eq 0) (off3_eq 0)))
  isplitl [HA]; · iexact HA
  iintro %_ HA
  iapply (wseq c (s_start (j := 0) (ch := 0) (k0_off1_eq 0) (k0_off4_eq 0) (k0_off5_eq 0)))
  isplitl [HB]; · iexact HB
  iintro %_ HB
  iapply (wseq c (x_start (j := 0) (m := 0) (ch := 0) (k0_off6_eq 0) (k0_off7_eq 0) (off8_eq 0)))
  isplitl [HC]; · iexact HC
  iintro %_ HC
  iapply (le_wp_ret _ _ _ _ _)
  isplitr; · ipureintro; rfl
  isplitl [HA]; · iexact HA
  isplitl [HB]; · iexact HB
  iexact HC

theorem wp_part191 {v w} :
    iprop(FR5 (F := F) c wp 1 ∗ FR6 (F := F) c ws 1 ∗ FR4 c dy 1)
    ⊢ WP c (k0_part191 (F := F) a0 HA0 a1 HA1 a2 HA2 a3 HA3 m4 H4 m5 H5 m6 H6 m7 H7 m8 H8 cc0_scratch5 cc0_scratch6 cc0_scratch7 cc0_scratch8 v w)
      (fun _ => iprop(FL5 (F := F) c wp 1 0 1 ∗ FL6 (F := F) c ws 1 1 ∗ FL4 c dy 1 0 1)) := by
  rw [k0_part191_eq_skeleton]
  unfold k0_part191_skel
  dsimp only
  iintro ⟨HA, HB, HC⟩
  iapply (wseq c (c_start (j := 1) (n := 0) (ch := 1) (k0_off1_eq 1) (k0_off2_eq 1) (off3_eq 1)))
  isplitl [HA]; · iexact HA
  iintro %_ HA
  iapply (wseq c (s_start (j := 1) (ch := 1) (k0_off1_eq 1) (k0_off4_eq 1) (k0_off5_eq 1)))
  isplitl [HB]; · iexact HB
  iintro %_ HB
  iapply (wseq c (x_start (j := 1) (m := 0) (ch := 1) (k0_off6_eq 1) (k0_off7_eq 1) (off8_eq 1)))
  isplitl [HC]; · iexact HC
  iintro %_ HC
  iapply (le_wp_ret _ _ _ _ _)
  isplitl [HA]; · iexact HA
  isplitl [HB]; · iexact HB
  iexact HC

theorem wp_ld7h {t : Fin 64} {q : Fin 2} {o h w} (ho : o = ![t.val, 0, 256 * q.val]) (f : B7 F) :
    P7 c f ⊢ WP c (Prog.lift (.load m7 (Rect.unit (s := S64x256x512) o S1x256x256.size h).toLoadRect w))
      (fun x => iprop(⌜shapeCast S256x256 x shapeCasts_S1x256x256_S256x256 = halfOf (tileOf f t) q⌝ ∗ P7 c f)) := by
  subst ho
  unfold WP
  rw [← bind_pure (Prog.lift _), Prog.bind_lift]
  iintro H
  iapply (wp_load_rect 𝒱₀ (c : Thread nD τ) none Set.univ (m := m7) (r := Rect.unit (s := S64x256x512) ![t.val, 0, 256 * q.val] S1x256x256.size h) (S := Finset.univ) (f := f) (q := fullShare) (Finset.subset_univ _)) $$ H
  iintro H
  iapply (le_wp_ret _ _ _ _ _)
  isplitr
  · ipureintro
    funext x
    refine (shapeCast_dropUnit_apply ![256, 256] _ _ x).trans ?_
    show f _ = f _
    congr 1
    funext a
    apply Fin.ext
    fin_cases a
    · show t.val + 1 * 0 = t.val; omega
    · show 0 + 1 * (x 0).val = (x 0).val; omega
    · show 256 * q.val + 1 * (x 1).val = 256 * q.val + (x 1).val; omega
  · iexact H

/-! ## The loop, with what stands before and after it -/

/-- The zero strip. -/
abbrev z0 : AV F := constant _ .f32 0
/-- What the units hold once three strips of the last tile are popped. -/
def U3 (dy : S7680x16384.Idx → F .bf16) (wp : S16384x1024.Idx → BitVec 8) (ws : S16384x64.Idx → BitVec 8) (A : Fin 2 → Fin 4 → AV F) (v : AV F) (s : Mxu F) : Prop :=
  ∃ w lv, outOf A = outV dy wp ws 31 ∧ v = A 0 1
    ∧ MG s (regs 0 (halfOf w)) (up2 (up2 (up2 lv 0 0 false) 1 0 false) 0 1 false) (up2 (up2 (up2 A 0 0 z0) 1 0 z0) 0 1 z0)

/-- The whole loop. -/
theorem wp_loop {mx mx0 : Mxu F} {v x} :
    LI c dy wp ws 0 mx ⊢ WP c (Scf.Loop.for k0_t1_loop k0_t1_ok mx (k0_t1_body (F := F) a0 HA0 a1 HA1 a2 HA2 a3 HA3 m4 H4 m5 H5 m6 H6 m7 H7 m8 H8 cc0_scratch5 cc0_scratch6 cc0_scratch7 cc0_scratch8 mx0 v x))
      (fun mx' => LI c dy wp ws 256 mx') := by
  iintro H
  iapply (Scf.wp_for _ _ _ _ _ _ k0_t1_ok mx _ (fun s mx => LI c dy wp ws s mx) (fun k acc => wp_step k))
  isplitl [H]; · iexact H
  iintro %acc H
  rw [← trips_eq]
  iexact H

theorem OI_end : OI c dy wp ws 256 = iprop(FLO c 30 (outV dy wp ws 30) ∗ DN c dy wp ws 30 ∗ RM (F := F) c 31) := by
  unfold OI OFly
  rw [if_pos (by decide), if_pos (by decide)]
theorem DI_end : DI c dy 256 ⊢ iprop(FR4 c dy 0 ∗ FR4 c dy 1 ∗ FR4 c dy 2) := by
  unfold DI FLX
  rw [if_neg (by decide), if_neg (by decide), show slot3 256 = 1 by decide, show slot3 (256 + 1) = 2 by decide, show slot3 (256 + 2) = 0 by decide]
  iintro ⟨HA, HB, HC⟩
  isplitl [HC]; · iexact HC
  isplitl [HA]; · iexact HA
  iexact HB
theorem WI_end : WI (F := F) c wp ws 256 = iprop(FR56 (F := F) c wp ws 0 ∗ FR56 (F := F) c wp ws 1) := by
  unfold WI FLW
  rw [show nxt 256 = 32 by decide, if_neg (by decide), show slot2 32 = 0 by decide, show slot2 (32 + 1) = 1 by decide]
theorem OI_begin : OI c dy wp ws 0 = OFree c dy wp ws 0 := by
  unfold OI
  rw [if_pos (by decide), if_neg (by decide)]
theorem DI_begin : DI c dy 0 = iprop(FL4 c dy 0 0 0 ∗ FL4 c dy 1 0 1 ∗ FR4 c dy 2) := by
  unfold DI FLX
  rw [if_pos (by decide), if_pos (by decide)]
  rfl
theorem WI_begin : WI (F := F) c wp ws 0 = iprop((FL5 (F := F) c wp 1 0 1 ∗ FL6 (F := F) c ws 1 1) ∗ FR56 (F := F) c wp ws 0) := by
  unfold WI FLW
  rw [show nxt 0 = 1 by decide, if_pos (by decide)]
  rfl

/-- The units once the first tile is staged. -/
theorem UI_begin {w : FVec F S256x512 .bf16} (hw : w = wOf wp ws 0 0) (y0 y1 : WV F) (h0 : y0 = halfOf w 0) (h1 : y1 = halfOf w 1) :
    UI dy wp ws 0 (((Mxu.init : Mxu F).pushed 0 0 false y0).pushed 1 0 false y1) := by
  subst h0 h1
  refine ⟨w, _, _, ((MG.init.pushed 0 0 rfl (halfOf w 0)).pushed 1 0 rfl (halfOf w 1)).congr ?_ (fun _ _ => rfl) (fun _ _ => rfl), fun _ => hw, fun h => absurd rfl h, fun _ h => absurd h (by decide)⟩
  intro q r
  fin_cases q <;> fin_cases r <;> rfl

theorem UI_end {mx : Mxu F} (h : UI dy wp ws 256 mx) : ∃ w lv A, MG mx (regs 0 (halfOf w)) lv A ∧ outOf A = outV dy wp ws 31 := by
  obtain ⟨w, lv, A, hM, -, -, hA⟩ := h
  refine ⟨w, lv, A, hM, ?_⟩
  rw [hA rfl (by decide)]; rfl

set_option maxHeartbeats 2000000 in
theorem wp_part270 {v3588 : FVec F S256x512 .bf16} {v3589} {f : B7 F} (hv : v3588 = wOf wp ws 0 7) :
    iprop(P7 c (fdec wp ws 0 0 f 7) ∗ OI c dy wp ws 0 ∗ DI c dy 0 ∗ WI (F := F) c wp ws 0 ∗ OW (F := F) c)
    ⊢ WP c (k0_part270 (F := F) a0 HA0 a1 HA1 a2 HA2 a3 HA3 m4 H4 m5 H5 m6 H6 m7 H7 m8 H8 cc0_scratch5 cc0_scratch6 cc0_scratch7 cc0_scratch8 Mxu.init v3588 v3589)
      (fun x => iprop(∃ A f8, ⌜U3 dy wp ws A x.1 x.2⌝ ∗ P8 c (put2 f8 0 A) ∗ semP c sem12 ∗ DN c dy wp ws 31 ∗ RM (F := F) c 31
        ∗ DI c dy 256 ∗ WI (F := F) c wp ws 256 ∗ (∃ f, P7 (F := F) c f) ∗ OW (F := F) c)) := by
  have e7 : putTile (fdec wp ws 0 0 f 7) 7 v3588 = fdec wp ws 0 0 f 8 := by
    rw [hv]; exact fdec_succ wp ws 0 0 f 7 (by decide) 7 rfl
  have hf : FI wp ws 0 (fdec wp ws 0 0 f 8) := by
    intro _ t ht
    rw [tileOf_fdec, if_pos (by have := t.isLt; omega)]
  have h0 : tileOf (fdec wp ws 0 0 f 8) 0 = wOf wp ws 0 0 := hf (by decide) 0 (by decide)
  rw [k0_part270_eq_skeleton]
  unfold k0_part270_skel
  dsimp only
  iintro ⟨H7, HO, HD, HC, HW⟩
  iapply (wseq c (wp_ld7 (fdec wp ws 0 0 f 7)))
  isplitl [H7]; · iexact H7
  iintro %_ H7
  iapply (wseq c (wp_st7 (t := 7) (v := v3588) (k0_off11_eq 7) rfl (fdec wp ws 0 0 f 7)))
  isplitl [H7]; · iexact H7
  iintro %_ H7
  rw [e7]
  iapply (wseq c (wp_ld7h (t := 0) (q := 0) rfl (fdec wp ws 0 0 f 8)))
  isplitl [H7]; · iexact H7
  iintro %x0 ⟨%hx0, H7⟩
  have pr0 : (Mxu.init : Mxu F).PushOk 0 0 false := Mxu.pushOk_of_none _ _ _ _ (MG.init.reg 0 0)
  iapply (Mxu.wp_pushRhs (k0_pay950 x0) pr0)
  iapply (wseq c (wp_ld7h (t := 0) (q := 1) rfl (fdec wp ws 0 0 f 8)))
  isplitl [H7]; · iexact H7
  iintro %x1 ⟨%hx1, H7⟩
  have pr1 : ((Mxu.init : Mxu F).pushed 0 0 false (k0_pay950 x0)).PushOk 1 0 false := Mxu.pushOk_of_none _ _ _ _ ((MG.init.pushed 0 0 rfl (k0_pay950 x0)).reg 1 0)
  iapply (Mxu.wp_pushRhs (k0_pay951 x1) pr1)
  iapply (wseq c (wp_loop (dy := dy) (wp := wp) (ws := ws)))
  isplitl [H7 HO HD HC HW]
  · unfold LI
    isplitr; · ipureintro; exact UI_begin h0 _ _ hx0 hx1
    isplitl [HO]; · iexact HO
    isplitl [HD]; · iexact HD
    isplitl [HC]; · iexact HC
    isplitl [H7]
    · iexists _
      isplitr; · ipureintro; exact hf
      iexact H7
    iexact HW
  iintro %mx HL
  unfold LI
  icases HL with ⟨%hU, HO, HD, HC, ⟨%f7, -, H7⟩, HW⟩
  obtain ⟨w, lv, A, hM, hA⟩ := UI_end hU
  ihave HO := (Entails.of_eq OI_end) $$ HO
  icases HO with ⟨HF, HDN, HR⟩
  iapply (wseq c o_wait)
  isplitl [HF HW]
  · isplitl [HF]; · iexact HF
    iexact HW
  iintro %_ ⟨⟨HOV, H8⟩, HS, HW⟩
  ihave HDN := (DN_put (c := c) (dy := dy) (wp := wp) (ws := ws) (d := 30)) $$ [HDN HOV]
  · isplitl [HDN]; · iexact HDN
    iexact HOV
  have M1 := hM.pop 0 0
  have M2 := M1.pop 1 0
  have M3 := M2.pop 0 1
  have r0 : mx.read 0 0 fits_0_240 = A 0 0 := hM.rd 0 0
  have r1 : (mx.pop 0 0 240 fits_0_240).read 1 0 fits_0_240 = A 1 0 := (M1.rd 1 0).trans (by simp [up2])
  have r2 : ((mx.pop 0 0 240 fits_0_240).pop 1 0 240 fits_0_240).read 0 60 fits_60_240 = A 0 1 := (M2.rd 0 1).trans (by simp [up2])
  iapply (wseq c (wp_ld8 _))
  isplitl [H8]; · iexact H8
  iintro %_ H8
  iapply (wseq c (wp_st8 0 0 (v := A 0 0) rfl (by rw [r0]; rfl) _))
  isplitl [H8]; · iexact H8
  iintro %_ H8
  iapply (wseq c (wp_ld8 _))
  isplitl [H8]; · iexact H8
  iintro %_ H8
  iapply (wseq c (wp_st8 0 1 (v := A 1 0) rfl (by rw [r1]; rfl) _))
  isplitl [H8]; · iexact H8
  iintro %_ H8
  iapply (le_wp_ret _ _ _ _ _)
  iexists A; iexists _
  isplitr
  · ipureintro
    exact ⟨w, lv, hA, r2, M3⟩
  isplitl [H8]; · iexact H8
  isplitl [HS]; · iexact HS
  isplitl [HDN]; · iexact HDN
  isplitl [HR]; · iexact HR
  isplitl [HD]; · iexact HD
  isplitl [HC]; · iexact HC
  isplitl [H7]; · iexists _; iexact H7
  iexact HW

/-- The units once the last tile is popped and its registers are given up. -/
def U8 (s : Mxu F) : Prop := ∃ A, MG s (fun _ _ => none) (up2 (fun _ _ => false) 1 0 true) A

set_option maxHeartbeats 2000000 in
theorem wp_part271 {v : AV F} {s : Mxu F} {A : Fin 2 → Fin 4 → AV F} {f8 : B8 F} (hU : U3 dy wp ws A v s) :
    P8 c (put2 f8 0 A)
    ⊢ WP c (k0_part271 (F := F) a0 HA0 a1 HA1 a2 HA2 a3 HA3 m4 H4 m5 H5 m6 H6 m7 H7 m8 H8 cc0_scratch5 cc0_scratch6 cc0_scratch7 cc0_scratch8 v s)
      (fun s' => iprop(⌜U8 s'⌝ ∗ P8 c (outV dy wp ws 31))) := by
  rw [k0_part271_eq_skeleton]
  unfold k0_part271_skel
  dsimp only
  obtain ⟨w, lv, hA, rfl, M3⟩ := hU
  have M4 := M3.pop 1 1
  have M5 := M4.pop 0 2
  have M6 := M5.pop 1 2
  have M7 := M6.pop 0 3
  have M8 := M7.pop 1 3
  have r3 := (M3.rd 1 1).trans (show _ = A 1 1 by simp [up2])
  have r4 := (M4.rd 0 2).trans (show _ = A 0 2 by simp [up2])
  have r5 := (M5.rd 1 2).trans (show _ = A 1 2 by simp [up2])
  have r6 := (M6.rd 0 3).trans (show _ = A 0 3 by simp [up2])
  have r7 := (M7.rd 1 3).trans (show _ = A 1 3 by simp [up2])
  have M9 := (M8.accLhs 0 0 0 (stg (halfOf w 0)) rfl (k0_pay962 (F := F))).pop 0 0
  have M10 := M9.accLhs 1 0 0 (stg (halfOf w 1)) rfl (k0_pay963 (F := F))
  iintro H8
  iapply (wseq c (wp_ld8 _))
  isplitl [H8]; · iexact H8
  iintro %_ H8
  iapply (wseq c (wp_st8 1 0 (v := A 0 1) rfl rfl _))
  isplitl [H8]; · iexact H8
  iintro %_ H8
  iapply (wseq c (wp_ld8 _))
  isplitl [H8]; · iexact H8
  iintro %_ H8
  iapply (wseq c (wp_st8 1 1 (v := A 1 1) rfl (by rw [← r3]; rfl) _))
  isplitl [H8]; · iexact H8
  iintro %_ H8
  iapply (wseq c (wp_ld8 _))
  isplitl [H8]; · iexact H8
  iintro %_ H8
  iapply (wseq c (wp_st8 2 0 (v := A 0 2) rfl (by rw [← r4]; rfl) _))
  isplitl [H8]; · iexact H8
  iintro %_ H8
  iapply (wseq c (wp_ld8 _))
  isplitl [H8]; · iexact H8
  iintro %_ H8
  iapply (wseq c (wp_st8 2 1 (v := A 1 2) rfl (by rw [← r5]; rfl) _))
  isplitl [H8]; · iexact H8
  iintro %_ H8
  iapply (wseq c (wp_ld8 _))
  isplitl [H8]; · iexact H8
  iintro %_ H8
  iapply (wseq c (wp_st8 3 0 (v := A 0 3) rfl (by rw [← r6]; rfl) _))
  isplitl [H8]; · iexact H8
  iintro %_ H8
  iapply (wseq c (wp_ld8 _))
  isplitl [H8]; · iexact H8
  iintro %_ H8
  iapply (wseq c (wp_st8 3 1 (v := A 1 3) rfl (by rw [← r7]; rfl) _))
  isplitl [H8]; · iexact H8
  iintro %_ H8
  iapply (le_wp_ret _ _ _ _ _)
  isplitr
  · ipureintro
    refine ⟨_, M10.congr ?_ ?_ (fun _ _ => rfl)⟩
    · intro q r
      fin_cases q <;> fin_cases r <;> simp [up2, regs]
    · intro q i
      fin_cases q <;> fin_cases i <;> simp [up2]
  rw [← hA, ← put_all f8 A]
  iexact H8

/-! ## The kernel -/

/-- What the kernel takes, and what it leaves. -/
def KI (c : Dev nD) (dy : S7680x16384.Idx → F .bf16) (wp : S16384x1024.Idx → BitVec 8) (ws : S16384x64.Idx → BitVec 8) : sProp 𝕄 :=
  iprop((FR4 c dy 0 ∗ FR4 c dy 1 ∗ FR4 c dy 2) ∗ (FR56 (F := F) c wp ws 0 ∗ FR56 (F := F) c wp ws 1) ∗ OFree c dy wp ws 0 ∗ (∃ f, P7 (F := F) c f) ∗ OW (F := F) c)
def KO (c : Dev nD) (dy : S7680x16384.Idx → F .bf16) (wp : S16384x1024.Idx → BitVec 8) (ws : S16384x64.Idx → BitVec 8) : sProp 𝕄 :=
  iprop((FR4 c dy 0 ∗ FR4 c dy 1 ∗ FR4 c dy 2) ∗ (FR56 (F := F) c wp ws 0 ∗ FR56 (F := F) c wp ws 1) ∗ ((∃ f, P8 (F := F) c f) ∗ semP c sem12 ∗ DN c dy wp ws 32)
    ∗ (∃ f, P7 (F := F) c f) ∗ OW (F := F) c)

set_option maxHeartbeats 4000000 in
theorem wp_main : KI c dy wp ws ⊢ WP c (mainC (F := F) a0 HA0 a1 HA1 a2 HA2 a3 HA3 m4 H4 m5 H5 m6 H6 m7 H7 m8 H8 cc0_scratch5 cc0_scratch6 cc0_scratch7 cc0_scratch8)
    (fun _ => KO c dy wp ws) := by
  unfold mainC KI
  dsimp only
  unfold FR56
  iintro ⟨⟨HX0, HX1, HX2⟩, ⟨⟨HC0, HS0⟩, ⟨HC1, HS1⟩⟩, HO, ⟨%f, H7⟩, HW⟩
  iapply (wseq c (wp_part190 (dy := dy) (wp := wp) (ws := ws)))
  isplitl [HX0 HC0 HS0]
  · isplitl [HC0]; · iexact HC0
    isplitl [HS0]; · iexact HS0
    iexact HX0
  iintro %r ⟨%hr, HC0, HS0, HX0⟩
  obtain ⟨m0, v26, v27⟩ := r
  dsimp only at hr
  subst hr
  dsimp only
  iapply (wseq c (wp_part191 (dy := dy) (wp := wp) (ws := ws)))
  isplitl [HX1 HC1 HS1]
  · isplitl [HC1]; · iexact HC1
    isplitl [HS1]; · iexact HS1
    iexact HX1
  iintro %_ ⟨HC1, HS1, HX1⟩
  iapply (wseq c (c_wait (j := 0) (n := 0) (ch := 0) _ (k0_off1_eq 0)))
  isplitl [HC0 HW]
  · isplitl [HC0]; · iexact HC0
    iexact HW
  iintro %_ ⟨HC0, HW⟩
  iapply (wseq c (s_wait (j := 0) (ch := 0) _ (k0_off1_eq 0)))
  isplitl [HS0 HW]
  · isplitl [HS0]; · iexact HS0
    iexact HW
  iintro %_ ⟨HS0, HW⟩
  unfold LD5 LD6
  icases HC0 with ⟨⟨⟨%g5, %h5, H5⟩, HT5⟩, HM5⟩
  icases HS0 with ⟨⟨⟨%g6, %h6, H6⟩, HT6⟩, HM6⟩
  rw [← fdec_zero wp ws 0 0 f]
  iapply (wseq c (wp_dec (wp := wp) (ws := ws) 0 0 0 (by decide) (j := 0) (g5 := g5) (g6 := g6) (f := f) h5 h6 rfl (by decide) k0_off9_eq k0_off10_eq (k0_off11_eq 0)))
  isplitl [H5 H6 H7]
  · isplitl [H5]; · iexact H5
    isplitl [H6]; · iexact H6
    iexact H7
  iintro %_ ⟨H5, H6, H7⟩
  iapply (wseq c (wp_dec (wp := wp) (ws := ws) 0 0 1 (by decide) (j := 0) (g5 := g5) (g6 := g6) (f := f) h5 h6 rfl (by decide) k0_off12_eq k0_off13_eq (k0_off11_eq 1)))
  isplitl [H5 H6 H7]
  · isplitl [H5]; · iexact H5
    isplitl [H6]; · iexact H6
    iexact H7
  iintro %_ ⟨H5, H6, H7⟩
  iapply (wseq c (wp_dec (wp := wp) (ws := ws) 0 0 2 (by decide) (j := 0) (g5 := g5) (g6 := g6) (f := f) h5 h6 rfl (by decide) k0_off14_eq k0_off15_eq (k0_off11_eq 2)))
  isplitl [H5 H6 H7]
  · isplitl [H5]; · iexact H5
    isplitl [H6]; · iexact H6
    iexact H7
  iintro %_ ⟨H5, H6, H7⟩
  iapply (wseq c (wp_dec (wp := wp) (ws := ws) 0 0 3 (by decide) (j := 0) (g5 := g5) (g6 := g6) (f := f) h5 h6 rfl (by decide) k0_off16_eq k0_off17_eq (k0_off11_eq 3)))
  isplitl [H5 H6 H7]
  · isplitl [H5]; · iexact H5
    isplitl [H6]; · iexact H6
    iexact H7
  iintro %_ ⟨H5, H6, H7⟩
  iapply (wseq c (wp_dec (wp := wp) (ws := ws) 0 0 4 (by decide) (j := 0) (g5 := g5) (g6 := g6) (f := f) h5 h6 rfl (by decide) k0_off18_eq k0_off19_eq (k0_off11_eq 4)))
  isplitl [H5 H6 H7]
  · isplitl [H5]; · iexact H5
    isplitl [H6]; · iexact H6
    iexact H7
  iintro %_ ⟨H5, H6, H7⟩
  iapply (wseq c (wp_dec (wp := wp) (ws := ws) 0 0 5 (by decide) (j := 0) (g5 := g5) (g6 := g6) (f := f) h5 h6 rfl (by decide) k0_off20_eq k0_off21_eq (k0_off11_eq 5)))
  isplitl [H5 H6 H7]
  · isplitl [H5]; · iexact H5
    isplitl [H6]; · iexact H6
    iexact H7
  iintro %_ ⟨H5, H6, H7⟩
  iapply (wseq c (wp_dec (wp := wp) (ws := ws) 0 0 6 (by decide) (j := 0) (g5 := g5) (g6 := g6) (f := f) h5 h6 rfl (by decide) k0_off22_eq k0_off23_eq (k0_off11_eq 6)))
  isplitl [H5 H6 H7]
  · isplitl [H5]; · iexact H5
    isplitl [H6]; · iexact H6
    iexact H7
  iintro %_ ⟨H5, H6, H7⟩
  iapply (wseq c (wp_ld5 (j := 0) (p := 7) k0_off24_eq g5))
  isplitl [H5]; · iexact H5
  iintro %x5 ⟨%hx5, H5⟩
  iapply (wseq c (wp_ld6 (j := 0) (p := 7) k0_off25_eq g6))
  isplitl [H6]; · iexact H6
  iintro %x6 ⟨%hx6, H6⟩
  have hv : decV (F := F) x5 x6 fb0 = wOf wp ws 0 7 := by
    unfold decV
    rw [hx5, hx6]
    exact decTile_eq wp ws h5 h6 7
  iapply (wseq c (wp_part270 (dy := dy) (wp := wp) (ws := ws) (f := f) hv))
  isplitr []
  · rw [OI_begin, DI_begin, WI_begin]
    unfold FR56 FR5 FR6
    isplitl [H7]; · iexact H7
    isplitl [HO]; · iexact HO
    isplitl [HX0 HX1 HX2]
    · isplitl [HX0]; · iexact HX0
      isplitl [HX1]; · iexact HX1
      iexact HX2
    isplitr [HW]
    · isplitl [HC1 HS1]
      · isplitl [HC1]; · iexact HC1
        iexact HS1
      isplitl [H5 HM5 HT5]
      · isplitl [H5]; · iexists g5; iexact H5
        isplitl [HM5]; · iexact HM5
        iexact HT5
      isplitl [H6]; · iexists g6; iexact H6
      isplitl [HM6]; · iexact HM6
      iexact HT6
    iexact HW
  iintro %r ⟨%A, %f8, %hU, H8, HS, HD, HR, HDI, HWI, H7, HW⟩
  obtain ⟨v, s⟩ := r
  dsimp only
  dsimp only at hU
  iapply (wseq c (wp_part271 (f8 := f8) hU))
  isplitl [H8]; · iexact H8
  iintro %s' ⟨%h8, H8⟩
  ihave HR := (RM_take (F := F) c (d := 31) (by decide)) $$ HR
  icases HR with ⟨HA, HR⟩
  iapply (wseq c (o_start (t := 31) off214_eq.2))
  isplitl [HA HS H8]
  · isplitl [HA]; · iexact HA
    isplitl [HS]; · iexact HS
    iexact H8
  iintro %_ HF
  iapply (wseq c o_wait)
  isplitl [HF HW]
  · isplitl [HF]; · iexact HF
    iexact HW
  iintro %_ ⟨⟨HOV, H8⟩, HS, HW⟩
  obtain ⟨A', hM⟩ := h8
  have hd : (s'.pop 1 0 240 fits_0_240).Drained := MG.drained ((hM.pop 1 0).congr (fun _ _ => rfl) (fun q i => by
    fin_cases q <;> fin_cases i <;> simp [up2]) (fun _ _ => rfl))
  iapply (Mxu.wp_exit (hd := hd))
  iapply (le_wp_ret _ _ _ _ _)
  unfold KO
  isplitl [HDI]; · iapply DI_end; iexact HDI
  isplitl [HWI]; · rw [← WI_end]; iexact HWI
  isplitl [H8 HS HD HOV]
  · isplitl [H8]; · iexists _; iexact H8
    isplitl [HS]; · iexact HS
    iapply DN_put
    isplitl [HD]; · iexact HD
    iexact HOV
  isplitl [H7]; · iexact H7
  iexact HW

end Whole

end Cert.KernelIdeal.P
-- ==== Proof.I.Res.lean ====
/-  What the launch hands the kernel, cut into the pieces it works with, and put together again: shares of the inputs, slots of the
    scratch buffers, blocks of the result. -/
module

public import proofs.«01_k».proof.Proof.I.Whole

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

section Res

variable (c : Dev nD) (dy : S7680x16384.Idx → F .bf16) (wp : S16384x1024.Idx → BitVec 8) (ws : S16384x64.Idx → BitVec 8)

theorem fin2_sep (Φ : Fin 2 → sProp 𝕄) : bigSep Finset.univ Φ = iprop(Φ 0 ∗ Φ 1) :=
  BI.bigSep_univ_eq_bigSepL [(0 : Fin 2), (1 : Fin 2)] (by decide) (by decide) Φ
theorem fin3_sep (Φ : Fin 3 → sProp 𝕄) : bigSep Finset.univ Φ = iprop(Φ 0 ∗ Φ 1 ∗ Φ 2) :=
  BI.bigSep_univ_eq_bigSepL [(0 : Fin 3), (1 : Fin 3), (2 : Fin 3)] (by decide) (by decide) Φ

/-! ## The scratch buffers' slots -/

theorem S4_disjoint : ∀ j j' : Fin 3, j ≠ j' → Disjoint (S4 j) (S4 j') := by
  intro j j' hne
  rw [Finset.disjoint_left]; intro y hy hy'
  simp only [S4, Finset.mem_filter, Finset.mem_univ, true_and] at hy hy'
  exact hne (Fin.ext (hy.symm.trans hy'))
theorem S5_disjoint : ∀ j j' : Fin 2, j ≠ j' → Disjoint (S5 j) (S5 j') := by
  intro j j' hne
  rw [Finset.disjoint_left]; intro y hy hy'
  simp only [S5, Finset.mem_filter, Finset.mem_univ, true_and] at hy hy'
  exact hne (Fin.ext (hy.symm.trans hy'))
theorem S6_disjoint : ∀ j j' : Fin 2, j ≠ j' → Disjoint (S6 j) (S6 j') := by
  intro j j' hne
  rw [Finset.disjoint_left]; intro y hy hy'
  simp only [S6, Finset.mem_filter, Finset.mem_univ, true_and] at hy hy'
  exact hne (Fin.ext (hy.symm.trans hy'))
theorem S4_cover : (Finset.univ : Finset (Fin 3)).biUnion S4 = Finset.univ := by
  ext y; simp only [Finset.mem_biUnion, Finset.mem_univ, true_and, iff_true, S4, Finset.mem_filter]
  exact ⟨⟨(y 0).val, (y 0).isLt⟩, rfl⟩
theorem S5_cover : (Finset.univ : Finset (Fin 2)).biUnion S5 = Finset.univ := by
  ext y; simp only [Finset.mem_biUnion, Finset.mem_univ, true_and, iff_true, S5, Finset.mem_filter]
  exact ⟨⟨(y 0).val, (y 0).isLt⟩, rfl⟩
theorem S6_cover : (Finset.univ : Finset (Fin 2)).biUnion S6 = Finset.univ := by
  ext y; simp only [Finset.mem_biUnion, Finset.mem_univ, true_and, iff_true, S6, Finset.mem_filter]
  exact ⟨⟨(y 0).val, (y 0).isLt⟩, rfl⟩

abbrev W4 : sProp 𝕄 := iprop(∃ f : Buf (Elt F) ((c : Thread nD τ).loc cc0_scratch0), ((c : Thread nD τ).loc cc0_scratch0) ↦{fullShare} f)
abbrev W5 : sProp 𝕄 := iprop(∃ f : Buf (Elt F) ((c : Thread nD τ).loc cc0_scratch1), ((c : Thread nD τ).loc cc0_scratch1) ↦{fullShare} f)
abbrev W6 : sProp 𝕄 := iprop(∃ f : Buf (Elt F) ((c : Thread nD τ).loc cc0_scratch2), ((c : Thread nD τ).loc cc0_scratch2) ↦{fullShare} f)

theorem split4 : W4 (F := F) c ⊢ iprop((∃ g, P4 (F := F) c 0 g) ∗ (∃ g, P4 (F := F) c 1 g) ∗ (∃ g, P4 (F := F) c 2 g)) := by
  unfold W4
  iintro ⟨%f, H⟩
  ihave H := (Entails.of_eq ((Ring.pointsTo_blocks (Ix := Unit) (Name := ℕ) (U := UU nD τ) (Lvl := ℕ) (q := fullShare) (ℓ := (c : Thread nD τ).loc cc0_scratch0) S4 S4_disjoint S4_cover f).trans (fin3_sep _))) $$ H
  icases H with ⟨H0, H1, H2⟩
  isplitl [H0]; · iexists f; iexact H0
  isplitl [H1]; · iexists f; iexact H1
  iexists f; iexact H2
theorem split5 : W5 (F := F) c ⊢ iprop((∃ g, P5 (F := F) c 0 g) ∗ (∃ g, P5 (F := F) c 1 g)) := by
  unfold W5
  iintro ⟨%f, H⟩
  ihave H := (Entails.of_eq ((Ring.pointsTo_blocks (Ix := Unit) (Name := ℕ) (U := UU nD τ) (Lvl := ℕ) (q := fullShare) (ℓ := (c : Thread nD τ).loc cc0_scratch1) S5 S5_disjoint S5_cover f).trans (fin2_sep _))) $$ H
  icases H with ⟨H0, H1⟩
  isplitl [H0]; · iexists f; iexact H0
  iexists f; iexact H1
theorem split6 : W6 (F := F) c ⊢ iprop((∃ g, P6 (F := F) c 0 g) ∗ (∃ g, P6 (F := F) c 1 g)) := by
  unfold W6
  iintro ⟨%f, H⟩
  ihave H := (Entails.of_eq ((Ring.pointsTo_blocks (Ix := Unit) (Name := ℕ) (U := UU nD τ) (Lvl := ℕ) (q := fullShare) (ℓ := (c : Thread nD τ).loc cc0_scratch2) S6 S6_disjoint S6_cover f).trans (fin2_sep _))) $$ H
  icases H with ⟨H0, H1⟩
  isplitl [H0]; · iexists f; iexact H0
  iexists f; iexact H1

theorem join4 : iprop((∃ g, P4 (F := F) c 0 g) ∗ (∃ g, P4 (F := F) c 1 g) ∗ (∃ g, P4 (F := F) c 2 g)) ⊢ W4 (F := F) c := by
  iintro ⟨⟨%f, H0⟩, H1, H2⟩
  iapply (Ring.pointsTo_blocks_join_exists (Ix := Unit) (Name := ℕ) (U := UU nD τ) (Lvl := ℕ) (q := fullShare) (ℓ := (c : Thread nD τ).loc cc0_scratch0) S4 S4_disjoint S4_cover f)
  iapply (Entails.of_eq (fin3_sep (F := F) _).symm)
  isplitl [H0]; · iexists f; iexact H0
  isplitl [H1]; · iexact H1
  iexact H2
theorem join5 : iprop((∃ g, P5 (F := F) c 0 g) ∗ (∃ g, P5 (F := F) c 1 g)) ⊢ W5 (F := F) c := by
  iintro ⟨⟨%f, H0⟩, H1⟩
  iapply (Ring.pointsTo_blocks_join_exists (Ix := Unit) (Name := ℕ) (U := UU nD τ) (Lvl := ℕ) (q := fullShare) (ℓ := (c : Thread nD τ).loc cc0_scratch1) S5 S5_disjoint S5_cover f)
  iapply (Entails.of_eq (fin2_sep (F := F) _).symm)
  isplitl [H0]; · iexists f; iexact H0
  iexact H1
theorem join6 : iprop((∃ g, P6 (F := F) c 0 g) ∗ (∃ g, P6 (F := F) c 1 g)) ⊢ W6 (F := F) c := by
  iintro ⟨⟨%f, H0⟩, H1⟩
  iapply (Ring.pointsTo_blocks_join_exists (Ix := Unit) (Name := ℕ) (U := UU nD τ) (Lvl := ℕ) (q := fullShare) (ℓ := (c : Thread nD τ).loc cc0_scratch2) S6 S6_disjoint S6_cover f)
  iapply (Entails.of_eq (fin2_sep (F := F) _).symm)
  isplitl [H0]; · iexists f; iexact H0
  iexact H1

/-! ## The inputs' shares -/

abbrev D0 : sProp 𝕄 := a0.view.loc (c : Thread nD τ) ↦[Finset.univ]{Transfers.shareDrop fullShare 3} dy
abbrev D1 : sProp 𝕄 := a1.view.loc (c : Thread nD τ) ↦[Finset.univ]{Transfers.shareDrop fullShare 2} wp
abbrev D2 : sProp 𝕄 := a2.view.loc (c : Thread nD τ) ↦[Finset.univ]{Transfers.shareDrop fullShare 2} ws
abbrev F0 : sProp 𝕄 := a0.view.loc (c : Thread nD τ) ↦[Finset.univ]{fullShare} dy
abbrev F1 : sProp 𝕄 := a1.view.loc (c : Thread nD τ) ↦[Finset.univ]{fullShare} wp
abbrev F2 : sProp 𝕄 := a2.view.loc (c : Thread nD τ) ↦[Finset.univ]{fullShare} ws

theorem sh0 : F0 c dy ⊢ iprop(D0 c dy ∗ T0 c dy 0 ∗ T0 c dy 1 ∗ T0 c dy 2) :=
  (Transfers.pointsTo_toks_split fullShare 3).trans (sep_mono_right (Entails.of_eq (fin3_sep _)))
theorem sh1 : F1 (F := F) c wp ⊢ iprop(D1 (F := F) c wp ∗ T1 (F := F) c wp 0 ∗ T1 (F := F) c wp 1) :=
  (Transfers.pointsTo_toks_split fullShare 2).trans (sep_mono_right (Entails.of_eq (fin2_sep _)))
theorem sh2 : F2 (F := F) c ws ⊢ iprop(D2 (F := F) c ws ∗ T2 (F := F) c ws 0 ∗ T2 (F := F) c ws 1) :=
  (Transfers.pointsTo_toks_split fullShare 2).trans (sep_mono_right (Entails.of_eq (fin2_sep _)))
theorem hs0 : iprop(D0 c dy ∗ T0 c dy 0 ∗ T0 c dy 1 ∗ T0 c dy 2) ⊢ F0 c dy :=
  (sep_mono_right (Entails.of_eq (fin3_sep (fun j => T0 c dy j)).symm)).trans (Transfers.pointsTo_toks_join fullShare 3)
theorem hs1 : iprop(D1 (F := F) c wp ∗ T1 (F := F) c wp 0 ∗ T1 (F := F) c wp 1) ⊢ F1 (F := F) c wp :=
  (sep_mono_right (Entails.of_eq (fin2_sep (fun j => T1 (F := F) c wp j)).symm)).trans (Transfers.pointsTo_toks_join fullShare 2)
theorem hs2 : iprop(D2 (F := F) c ws ∗ T2 (F := F) c ws 0 ∗ T2 (F := F) c ws 1) ⊢ F2 (F := F) c ws :=
  (sep_mono_right (Entails.of_eq (fin2_sep (fun j => T2 (F := F) c ws j)).symm)).trans (Transfers.pointsTo_toks_join fullShare 2)

/-! ## The result's blocks -/

/-- The whole result. -/
def outAll : S7680x2048.Idx → F .bf16 := fun y => outV dy wp ws ((y 0).val / 960 + 8 * ((y 1).val / 512))
  (ix2 ⟨(y 0).val % 960, Nat.mod_lt _ (by decide)⟩ ⟨(y 1).val % 512, Nat.mod_lt _ (by decide)⟩)

/-- The elements of the blocks below `d`, and of the last `m`. -/
def SB (d : ℕ) : Finset S7680x2048.Idx := Finset.univ.filter fun y => (y 0).val / 960 + 8 * ((y 1).val / 512) < d
def SL (m : ℕ) : Finset S7680x2048.Idx := Finset.univ.filter fun y => 32 ≤ (y 0).val / 960 + 8 * ((y 1).val / 512) + m

theorem DN_all (d : ℕ) : DN c dy wp ws d ⊢ (a3.view.loc (c : Thread nD τ) ↦[SB d]{fullShare} outAll dy wp ws : sProp 𝕄) := by
  induction d with
  | zero =>
    have e : SB 0 = ∅ := by ext y; simp [SB]
    rw [e]
    exact Entails.of_eq pointsTo_empty.symm
  | succ d ih =>
    have e : SB (d + 1) = SB d ∪ SO d := by
      ext y; simp only [SB, SO, Finset.mem_filter, Finset.mem_univ, true_and, Finset.mem_union]; omega
    have hd : Disjoint (SB d) (SO d) := by
      rw [Finset.disjoint_left]; intro y hy hy'
      simp only [SB, SO, Finset.mem_filter, Finset.mem_univ, true_and] at hy hy'; omega
    rw [e]
    show iprop(DN c dy wp ws d ∗ OV c d (outV dy wp ws d)) ⊢ _
    unfold OV
    iintro ⟨H, ⟨%g, %hg, HO⟩⟩
    iapply (pointsTo_union hd).2
    isplitl [H]; · iapply ih; iexact H
    have hg' : ∀ i ∈ SO d, g i = outAll dy wp ws i := by
      intro y hy
      have hy' := hy
      simp only [SO, Finset.mem_filter, Finset.mem_univ, true_and] at hy'
      rw [hg y hy]
      unfold outAll
      rw [hy']
    ihave HO := (Entails.of_eq (pointsTo_congr hg')) $$ HO
    iexact HO

theorem RM_all (f : S7680x2048.Idx → F .bf16) (m : ℕ) (hm : m ≤ 32) :
    (a3.view.loc (c : Thread nD τ) ↦[SL m]{fullShare} f : sProp 𝕄) ⊢ RMr (F := F) c m := by
  induction m with
  | zero =>
    have e : SL 0 = ∅ := by
      ext y
      have h0 : (y 0).val < 7680 := (y 0).isLt
      have h1 : (y 1).val < 2048 := (y 1).isLt
      simp only [SL, Finset.mem_filter, Finset.mem_univ, true_and, Finset.notMem_empty, iff_false]; omega
    rw [e]
    exact Entails.of_eq pointsTo_empty
  | succ m ih =>
    have e : SL (m + 1) = SO (31 - m) ∪ SL m := by
      ext y; simp only [SL, SO, Finset.mem_filter, Finset.mem_univ, true_and, Finset.mem_union]; omega
    have hd : Disjoint (SO (31 - m)) (SL m) := by
      rw [Finset.disjoint_left]; intro y hy hy'
      simp only [SL, SO, Finset.mem_filter, Finset.mem_univ, true_and] at hy hy'; omega
    rw [e]
    show _ ⊢ iprop(OA (F := F) c (31 - m) ∗ RMr (F := F) c m)
    unfold OA
    iintro H
    ihave H := (pointsTo_union hd).1 $$ H
    icases H with ⟨H0, H1⟩
    isplitl [H0]; · iexists f; iexact H0
    iapply (ih (by omega)); iexact H1

abbrev F3 (f : S7680x2048.Idx → F .bf16) : sProp 𝕄 := a3.view.loc (c : Thread nD τ) ↦[Finset.univ]{fullShare} f

theorem out_split (f : S7680x2048.Idx → F .bf16) : F3 c f ⊢ RM (F := F) c 0 := by
  have e : SL 32 = Finset.univ := by ext y; simp [SL]
  have h := RM_all c f 32 (le_refl _)
  rw [e] at h
  exact h
theorem out_join : DN c dy wp ws 32 ⊢ F3 c (outAll dy wp ws) := by
  have e : SB 32 = Finset.univ := by
    ext y
    have h0 : (y 0).val < 7680 := (y 0).isLt
    have h1 : (y 1).val < 2048 := (y 1).isLt
    simp only [SB, Finset.mem_filter, Finset.mem_univ, true_and, iff_true]; omega
  have h := DN_all c dy wp ws 32
  rw [e] at h
  exact h

/-! ## All together -/

/-- The kernel's semaphores at zero. -/
def SEMS : sProp 𝕄 := iprop((semP (F := F) c (sem9 0) ∗ semP (F := F) c (sem9 1) ∗ semP (F := F) c (sem9 2))
  ∗ (semP (F := F) c (sem10 0) ∗ semP (F := F) c (sem10 1)) ∗ (semP (F := F) c (sem11 0) ∗ semP (F := F) c (sem11 1)) ∗ semP (F := F) c sem12)
/-- The scratch buffers at anything. -/
def SCR : sProp 𝕄 := iprop(W4 (F := F) c ∗ W5 (F := F) c ∗ W6 (F := F) c ∗ (∃ f, P7 (F := F) c f) ∗ ∃ f, P8 (F := F) c f)
/-- The inputs. -/
def INS : sProp 𝕄 := iprop(F0 c dy ∗ F1 (F := F) c wp ∗ F2 (F := F) c ws)
/-- What the kernel leaves aside. -/
def ASIDE : sProp 𝕄 := iprop(D0 c dy ∗ D1 (F := F) c wp ∗ D2 (F := F) c ws)

theorem enter : iprop(INS c dy wp ws ∗ (∃ f, F3 c f) ∗ SEMS (F := F) c ∗ SCR (F := F) c ∗ OW (F := F) c) ⊢ iprop(KI c dy wp ws ∗ ASIDE c dy wp ws) := by
  unfold INS SEMS SCR KI ASIDE FR56 FR4 FR5 FR6 OFree
  iintro ⟨⟨H0, H1, H2⟩, ⟨%f3, H3⟩, ⟨⟨Sa0, Sa1, Sa2⟩, ⟨Sb0, Sb1⟩, ⟨Sc0, Sc1⟩, Sd⟩, ⟨H4, H5, H6, H7, H8⟩, HW⟩
  ihave H0 := (sh0 c dy) $$ H0
  icases H0 with ⟨HD0, Ta0, Ta1, Ta2⟩
  ihave H1 := (sh1 (F := F) c wp) $$ H1
  icases H1 with ⟨HD1, Tb0, Tb1⟩
  ihave H2 := (sh2 (F := F) c ws) $$ H2
  icases H2 with ⟨HD2, Tc0, Tc1⟩
  ihave H3 := (out_split c f3) $$ H3
  ihave H4 := (split4 (F := F) c) $$ H4
  icases H4 with ⟨Pa0, Pa1, Pa2⟩
  ihave H5 := (split5 (F := F) c) $$ H5
  icases H5 with ⟨Pb0, Pb1⟩
  ihave H6 := (split6 (F := F) c) $$ H6
  icases H6 with ⟨Pc0, Pc1⟩
  isplitr [HD0 HD1 HD2]
  · isplitl [Pa0 Sa0 Ta0 Pa1 Sa1 Ta1 Pa2 Sa2 Ta2]
    · isplitl [Pa0 Sa0 Ta0]
      · isplitl [Pa0]; · iexact Pa0
        isplitl [Sa0]; · iexact Sa0
        iexact Ta0
      isplitl [Pa1 Sa1 Ta1]
      · isplitl [Pa1]; · iexact Pa1
        isplitl [Sa1]; · iexact Sa1
        iexact Ta1
      isplitl [Pa2]; · iexact Pa2
      isplitl [Sa2]; · iexact Sa2
      iexact Ta2
    isplitl [Pb0 Sb0 Tb0 Pb1 Sb1 Tb1 Pc0 Sc0 Tc0 Pc1 Sc1 Tc1]
    · isplitl [Pb0 Sb0 Tb0 Pc0 Sc0 Tc0]
      · isplitl [Pb0 Sb0 Tb0]
        · isplitl [Pb0]; · iexact Pb0
          isplitl [Sb0]; · iexact Sb0
          iexact Tb0
        isplitl [Pc0]; · iexact Pc0
        isplitl [Sc0]; · iexact Sc0
        iexact Tc0
      isplitl [Pb1 Sb1 Tb1]
      · isplitl [Pb1]; · iexact Pb1
        isplitl [Sb1]; · iexact Sb1
        iexact Tb1
      isplitl [Pc1]; · iexact Pc1
      isplitl [Sc1]; · iexact Sc1
      iexact Tc1
    isplitl [H8 Sd H3]
    · isplitl [H8]; · iexact H8
      isplitl [Sd]; · iexact Sd
      isplitr; · iapply (show (BI.emp : sProp 𝕄) ⊢ DN c dy wp ws 0 from .rfl); iempintro
      iexact H3
    isplitl [H7]; · iexact H7
    iexact HW
  isplitl [HD0]; · iexact HD0
  isplitl [HD1]; · iexact HD1
  iexact HD2

theorem leave : iprop(KO c dy wp ws ∗ ASIDE c dy wp ws) ⊢ iprop(INS c dy wp ws ∗ F3 c (outAll dy wp ws) ∗ SEMS (F := F) c ∗ SCR (F := F) c ∗ OW (F := F) c) := by
  unfold INS SEMS SCR KO ASIDE FR56 FR4 FR5 FR6
  iintro ⟨⟨⟨⟨Pa0, Sa0, Ta0⟩, ⟨Pa1, Sa1, Ta1⟩, ⟨Pa2, Sa2, Ta2⟩⟩, ⟨⟨⟨Pb0, Sb0, Tb0⟩, ⟨Pc0, Sc0, Tc0⟩⟩, ⟨⟨Pb1, Sb1, Tb1⟩, ⟨Pc1, Sc1, Tc1⟩⟩⟩, ⟨H8, Sd, H3⟩, H7, HW⟩, ⟨HD0, HD1, HD2⟩⟩
  isplitl [HD0 Ta0 Ta1 Ta2 HD1 Tb0 Tb1 HD2 Tc0 Tc1]
  · isplitl [HD0 Ta0 Ta1 Ta2]
    · iapply (hs0 c dy)
      isplitl [HD0]; · iexact HD0
      isplitl [Ta0]; · iexact Ta0
      isplitl [Ta1]; · iexact Ta1
      iexact Ta2
    isplitl [HD1 Tb0 Tb1]
    · iapply (hs1 (F := F) c wp)
      isplitl [HD1]; · iexact HD1
      isplitl [Tb0]; · iexact Tb0
      iexact Tb1
    iapply (hs2 (F := F) c ws)
    isplitl [HD2]; · iexact HD2
    isplitl [Tc0]; · iexact Tc0
    iexact Tc1
  isplitl [H3]; · iapply (out_join c dy wp ws); iexact H3
  isplitl [Sa0 Sa1 Sa2 Sb0 Sb1 Sc0 Sc1 Sd]
  · isplitl [Sa0 Sa1 Sa2]
    · isplitl [Sa0]; · iexact Sa0
      isplitl [Sa1]; · iexact Sa1
      iexact Sa2
    isplitl [Sb0 Sb1]
    · isplitl [Sb0]; · iexact Sb0
      iexact Sb1
    isplitl [Sc0 Sc1]
    · isplitl [Sc0]; · iexact Sc0
      iexact Sc1
    iexact Sd
  isplitr [HW]
  · isplitl [Pa0 Pa1 Pa2]
    · iapply (join4 (F := F) c)
      isplitl [Pa0]; · iexact Pa0
      isplitl [Pa1]; · iexact Pa1
      iexact Pa2
    isplitl [Pb0 Pb1]
    · iapply (join5 (F := F) c)
      isplitl [Pb0]; · iexact Pb0
      iexact Pb1
    isplitl [Pc0 Pc1]
    · iapply (join6 (F := F) c)
      isplitl [Pc0]; · iexact Pc0
      iexact Pc1
    isplitl [H7]; · iexact H7
    iexact H8
  iexact HW

end Res

end Cert.KernelIdeal.P
-- ==== Proof.I.Run.lean ====
/-  The run of the program from its launch: it ends, nothing faulting, every semaphore at zero, the arguments unchanged and the result
    at its computed contents. -/
module

public import proofs.«01_k».proof.Proof.I.Res
public import proofs.«01_k».proof.Proof.Gen.KernelIdeal.Launch
public import proofs.«01_k».proof.Proof.Gen.KernelIdeal.Frame

@[expose] public section

noncomputable section

namespace Cert.KernelIdeal.P

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (UU nD τ) ℕ

open Idealize.ShloMosaic.Rounds
open Idealize.ShloMosaic.Pipeline (Dat Cfg Window BodyObligation cellOf)

section Run

variable (m : (ℓ : Loc nD τ sig) → Buf (Elt F) ℓ) (ρ : Dev nD → PrngReg)

/-- What the region finds in the kernel's operands. -/
abbrev dyV (c : Dev nD) : S7680x16384.Idx → F .bf16 := V m c main_v0
abbrev wpV (c : Dev nD) : S16384x1024.Idx → BitVec 8 := V m c main_arg1
abbrev wsV (c : Dev nD) : S16384x64.Idx → BitVec 8 := V m c main_arg2

/-- The kernel's own semaphores. -/
def osem : Fin 8 → SemLoc sig := ![.dma (sem9 0), .dma (sem9 1), .dma (sem9 2), .dma (sem10 0), .dma (sem10 1), .dma (sem11 0), .dma (sem11 1), .dma sem12]
theorem ownSemFacts : Pipeline.OwnSemFacts cfg0.spec osem := by decide

theorem ownSems0_eq (c : Dev nD) : (Pipeline.ownSems0 (Ix := Unit) (Name := ℕ) (U := UU nD τ) (Lvl := ℕ) (Val := Elt F) (τ := τ) osem c : sProp 𝕄)
    = iprop(semP (F := F) c (sem9 0) ∗ semP (F := F) c (sem9 1) ∗ semP (F := F) c (sem9 2) ∗ semP (F := F) c (sem10 0) ∗ semP (F := F) c (sem10 1)
      ∗ semP (F := F) c (sem11 0) ∗ semP (F := F) c (sem11 1) ∗ semP (F := F) c sem12) := by
  unfold Pipeline.ownSems0
  exact BI.bigSep_univ_eq_bigSepL [(0 : Fin 8), 1, 2, 3, 4, 5, 6, 7] (by decide) (by decide) _

theorem own_sems (c : Dev nD) : Pipeline.ownSems0 (Ix := Unit) (Name := ℕ) (U := UU nD τ) (Lvl := ℕ) (Val := Elt F) (τ := τ) osem c ⊢ SEMS (F := F) c := by
  rw [ownSems0_eq]
  unfold SEMS
  iintro ⟨Sa0, Sa1, Sa2, Sb0, Sb1, Sc0, Sc1, Sd⟩
  isplitl [Sa0 Sa1 Sa2]
  · isplitl [Sa0]; · iexact Sa0
    isplitl [Sa1]; · iexact Sa1
    iexact Sa2
  isplitl [Sb0 Sb1]
  · isplitl [Sb0]; · iexact Sb0
    iexact Sb1
  isplitl [Sc0 Sc1]
  · isplitl [Sc0]; · iexact Sc0
    iexact Sc1
  iexact Sd
theorem sems_own (c : Dev nD) : SEMS (F := F) c ⊢ Pipeline.ownSems0 (Ix := Unit) (Name := ℕ) (U := UU nD τ) (Lvl := ℕ) (Val := Elt F) (τ := τ) osem c := by
  rw [ownSems0_eq]
  unfold SEMS
  iintro ⟨⟨Sa0, Sa1, Sa2⟩, ⟨Sb0, Sb1⟩, ⟨Sc0, Sc1⟩, Sd⟩
  isplitl [Sa0]; · iexact Sa0
  isplitl [Sa1]; · iexact Sa1
  isplitl [Sa2]; · iexact Sa2
  isplitl [Sb0]; · iexact Sb0
  isplitl [Sb1]; · iexact Sb1
  isplitl [Sc0]; · iexact Sc0
  isplitl [Sc1]; · iexact Sc1
  iexact Sd

/-- The arguments and the result, the result at anything before the point and at its value after it. -/
def MEM (c : Dev nD) : sProp 𝕄 := iprop(((c : Thread nD τ).loc main_arg0 ↦{fullShare} V m c main_arg0) ∗ INS c (dyV m c) (wpV m c) (wsV m c))
def Φ0 (c : Dev nD) : sProp 𝕄 := iprop(MEM m c ∗ (∃ f, F3 c f) ∗ SEMS (F := F) c ∗ SCR (F := F) c)
def Φ1 (c : Dev nD) : sProp 𝕄 := iprop(MEM m c ∗ F3 c (outAll (dyV m c) (wpV m c) (wsV m c)) ∗ SEMS (F := F) c ∗ SCR (F := F) c)

def dats (_ : Fin 1) (c : Dev nD) : Dat τ (Elt F) Unit ℕ (UU nD τ) ℕ cfg0 c where
  A w := V m c (Pipeline.arrRef cfg0.spec w)
  after w t := w.elim0
  Φ t := if t.val = 0 then Φ0 m c else Φ1 m c
  q _ := fullShare
  owed _ := 0

/-- The body table's entry is the kernel on its operands, in its compact form. -/
theorem defs_tc : (defs₀ (F := F)) .tc cfg0.body
    = fun _ => cc0_mxfp4_input_grad a0 HA0 a1 HA1 a2 HA2 a3 HA3 m4 H4 m5 H5 m6 H6 m7 H7 m8 H8 cc0_scratch5 cc0_scratch6 cc0_scratch7 cc0_scratch8 := rfl
theorem prog_eq (t : Fin cfg0.N) : (defs₀ (F := F)) .tc cfg0.body (cfg0.bodyArgs t (cfg0.slots t))
    = mainC a0 HA0 a1 HA1 a2 HA2 a3 HA3 m4 H4 m5 H5 m6 H6 m7 H7 m8 H8 cc0_scratch5 cc0_scratch6 cc0_scratch7 cc0_scratch8 :=
  (congrFun defs_tc _).trans (main_eq ..)

set_option backward.isDefEq.respectTransparency.types false in
theorem body_obligation (c : Dev nD) : BodyObligation (dats (F := F) m 0 c) (defs₀ (F := F)) 𝒱₀ () Set.univ := fun t => by
  have ht : t = t0_0 := fin_N0 t
  subst ht
  rw [show (dats m 0 c).Φ t0_0.castSucc = Φ0 m c from rfl, show (dats m 0 c).Φ t0_0.succ = Φ1 m c from rfl]
  unfold Dat.owesAt Pipeline.owesWithin
  rw [show (dats m 0 c).owed t0_0.castSucc = 0 from rfl, show (dats m 0 c).owed t0_0.succ = 0 from rfl]
  unfold Φ0 Φ1 MEM
  iintro ⟨⟨⟨HA, HI⟩, HF, HS, HC⟩, ⟨%W, -, HW⟩, HN⟩
  ihave HH := (enter c (dyV m c) (wpV m c) (wsV m c)) $$ [HI HF HS HC HW]
  · isplitl [HI]; · iexact HI
    isplitl [HF]; · iexact HF
    isplitl [HS]; · iexact HS
    isplitl [HC]; · iexact HC
    unfold OW; iexists W; iexact HW
  icases HH with ⟨HK, HR⟩
  sl_rw [prog_eq t0_0]
  iapply (wend c (wp_main (dy := dyV m c) (wp := wpV m c) (ws := wsV m c)))
  isplitl [HK]; · iexact HK
  iintro %_ HO
  ihave HH := (leave c (dyV m c) (wpV m c) (wsV m c)) $$ [HO HR]
  · isplitl [HO]; · iexact HO
    iexact HR
  unfold OW
  icases HH with ⟨HI, HF, HS, HC, ⟨%W', HW⟩⟩
  isplitl [HA HI HF HS HC]
  · isplitl [HA HI]
    · isplitl [HA]; · iexact HA
      iexact HI
    isplitl [HF]; · iexact HF
    isplitl [HS]; · iexact HS
    iexact HC
  isplitl [HW]
  · iexists W'; isplitr; · ipureintro; exact fun _ _ => Or.inl trivial
    iexact HW
  iexact HN

def u₀ : UU nD τ := (initOf (Pipeline.cells cfgs cellOf_inj) (Pipeline.launchToks cfgs cellOf_inj), 1)
def intoΦ (c : Dev nD) : sProp 𝕄 := iprop(MEM m c ∗ (∃ f, F3 c f) ∗ SEMS (F := F) c)
def outOfΦ (c : Dev nD) : sProp 𝕄 := iprop(MEM m c ∗ F3 c (outAll (dyV m c) (wpV m c) (wsV m c)))
/-- What every run ends with, of a core's memory. -/
def QY (c : Dev nD) (s : MemSt nD τ sig (Elt F)) : Prop :=
  s.mem ((c : Thread nD τ).loc main_v1) = outAll (dyV m c) (wpV m c) (wsV m c)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)

set_option backward.isDefEq.respectTransparency.types false in
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := fun _ => iprop(emp))
    (hX := fun c => by
      rw [unscopedRest0_eq]
      unfold intoΦ MEM INS
      iintro ⟨⟨HA0, HA1, HA2, HV0, HV1⟩, HS, -, -, -⟩; imodintro
      isplitl [HA0 HA1 HA2 HV0 HV1 HS]
      · isplitl [HA0 HA1 HA2 HV0]
        · isplitl [HA0]; · iexact HA0
          isplitl [HV0]; · iexact HV0
          isplitl [HA1]; · iexact HA1
          iexact HA2
        isplitl [HV1]; · iexists _; iexact HV1
        iapply (own_sems (F := F) c); iexact HS
      iempintro)
    (hin := fun c => by
      rw [scopedRest0_eq, show (dats m 0 c).Φ 0 = Φ0 m c from rfl]
      unfold intoΦ Φ0 SCR
      iintro ⟨⟨HM, HF, HS⟩, HC⟩
      isplitl [HM]; · iexact HM
      isplitl [HF]; · iexact HF
      isplitl [HS]; · iexact HS
      iexact HC)
    (hout := fun c => by
      rw [scopedRest0_eq, show (dats m 0 c).Φ (Fin.last cfg0.N) = Φ1 m c from rfl]
      unfold outOfΦ Φ1 SCR
      iintro ⟨HM, HF, HS, HC⟩
      isplitl [HM HF]
      · isplitl [HM]; · iexact HM
        iexact HF
      isplitl [HS]; · iapply (sems_own (F := F) c); iexact HS
      iexact HC)
    (QY := QY m)
    (hY := fun c s' => by
      unfold outOfΦ MEM INS
      iintro ⟨⟨⟨HA0, HV0, HA1, HA2⟩, HF⟩, -, HSI⟩
      icombine HSI HA0 gives %h0
      icombine HSI HA1 gives %h1
      icombine HSI HA2 gives %h2
      icombine HSI HF gives %h3
      imodintro
      isplitr
      · ipureintro
        exact ⟨Buf.eq_of_forall_mem_univ h3, (Buf.eq_of_forall_mem_univ h0).trans (V_main_arg0 m c), (Buf.eq_of_forall_mem_univ h1).trans (V_main_arg1 m c),
          (Buf.eq_of_forall_mem_univ h2).trans (V_main_arg2 m c)⟩
      iexact HSI)
    (hQ := fun _ hh hz => ⟨fun c => (hh c).2, hz⟩)

end Run

end Cert.KernelIdeal.P
-- ==== Proof.Ref.lean ====
/-  The reference's run: its host operations in order, each buffer's contents at the end, and the result as one function of the arguments. -/
module

public import proofs.«01_k».proof.ReferenceIdeal
public import proofs.«01_k».proof.Proof.Gen.ReferenceIdeal
public import Idealize.ShloMosaic.Lib.StableHlo.Run
public import Idealize.ShloMosaic.Lib.Quiescent
public import Idealize.ShloMosaic.Lib.Tactic

@[expose] public section

noncomputable section

namespace Cert.ReferenceIdeal.P

open Cert.ReferenceIdeal Cert.ReferenceIdeal.Gen
open Idealize.ShloMosaic Idealize.ShloMosaic.TcCoe Idealize.ShloMosaic.Tactic Idealize.ShloMosaic.StableHlo
open Idealize.SL.Sem

variable {F : FTy → Type} [FloatOps F]

/-- The scale of each block: the power of two, with the edges of the byte set. -/
def scaleR (ws : IVec S16384x64 8) : FVec F S16384x64 .bf16 :=
  truncf .bf16
    (select (cmpi .eq (extui 32 ws natLt_8_32) (broadcastInDim S16384x64 ![] bcast_S_S16384x64 (constantI S_ 32 0#32)))
      (broadcastInDim S16384x64 ![] bcast_S_S16384x64 (constant S_ .f32 0x00000000#32))
      (select (cmpi .eq (extui 32 ws natLt_8_32) (broadcastInDim S16384x64 ![] bcast_S_S16384x64 (constantI S_ 32 255#32)))
        (broadcastInDim S16384x64 ![] bcast_S_S16384x64 (constant S_ .f32 0x7F800000#32))
        (Host.powf (broadcastInDim S16384x64 ![] bcast_S_S16384x64 (constant S_ .f32 0x40000000#32))
          (sitofp .f32 (subi (extui 32 ws natLt_8_32) (broadcastInDim S16384x64 ![] bcast_S_S16384x64 (constantI S_ 32 127#32)))))))
    bitsLt_bf16_f32

/-- The codes, the low and the high four bits of each byte side by side. -/
def codesR (wp : IVec S16384x1024 8) : IVec S16384x1024x2 32 :=
  concatenate S16384x1024x2 2
    [⟨S16384x1024x1, broadcastInDim S16384x1024x1 ![0, 1] bcast_S16384x1024_S16384x1024x1_0_1
        (andi (extui 32 wp natLt_8_32) (broadcastInDim S16384x1024 ![] bcast_S_S16384x1024 (constantI S_ 32 15#32)))⟩,
     ⟨S16384x1024x1, broadcastInDim S16384x1024x1 ![0, 1] bcast_S16384x1024_S16384x1024x1_0_1
        (Host.shrsi (extui 32 wp natLt_8_32) (broadcastInDim S16384x1024 ![] bcast_S_S16384x1024 (constantI S_ 32 4#32)))⟩]
    concatenates_S16384x1024x1_S16384x1024x1_S16384x1024x2_d2

/-- A splat over the codes' shape. -/
def splR (b : BitVec 32) : IVec S16384x1024x2 32 := broadcastInDim S16384x1024x2 ![] bcast_S_S16384x1024x2 (constantI S_ 32 b)

/-- The magnitude of each code: twice it as an integer, halved. -/
def magR (c : IVec S16384x1024x2 32) : FVec F S16384x1024x2 .f32 :=
  mulf
    (sitofp .f32
      (select (cmpi .eq (andi (Host.shrsi c (splR 1#32)) (splR 3#32)) (splR 0#32)) (andi c (splR 1#32))
        (Host.shli (addi (splR 2#32) (andi c (splR 1#32))) (subi (andi (Host.shrsi c (splR 1#32)) (splR 3#32)) (splR 1#32)))))
    (broadcastInDim S16384x1024x2 ![] bcast_S_S16384x1024x2 (constant S_ .f32 0x3F000000#32))

/-- The value of each code. -/
def decR (c : IVec S16384x1024x2 32) : FVec F S16384x1024x2 .bf16 :=
  truncf .bf16 (select (cmpi .eq (Host.shrsi c (splR 3#32)) (splR 1#32)) (Host.negf (magR c)) (magR c)) bitsLt_bf16_f32

/-- The weights. -/
def wR (wp : IVec S16384x1024 8) (ws : IVec S16384x64 8) : FVec F S16384x2048 .bf16 :=
  shapeCast S16384x2048
    (mulf (shapeCast S16384x64x32 (decR (codesR wp)) shapeCasts_S16384x1024x2_S16384x64x32)
      (broadcastInDim S16384x64x32 ![0, 1, 2] bcast_S16384x64x1_S16384x64x32_0_1_2
        (broadcastInDim S16384x64x1 ![0, 1] bcast_S16384x64_S16384x64x1_0_1 (scaleR ws))))
    shapeCasts_S16384x64x32_S16384x2048

/-- The result. -/
def outR (dy : FVec F S6x1280x16384 .bf16) (wp : IVec S16384x1024 8) (ws : IVec S16384x64 8) : FVec F S7680x2048 .bf16 :=
  truncf .bf16
    (shapeCast S7680x2048
      (Host.dotGeneral dot_S6x1280x16384_S16384x2048_S6x1280x2048_2_0_01_1_n_n none dy (wR wp ws))
      shapeCasts_S6x1280x2048_S7680x2048)
    bitsLt_bf16_f32

/-- The reference's operations, in order. -/
abbrev ops : List (HloOp τ sig (Elt F)) :=
  [ unary main_arg2 main_v0 ((extui 32 · natLt_8_32) : (⟨S16384x64, .i8⟩ : BufTy).Contents (Elt F) → (⟨S16384x64, .i32⟩ : BufTy).Contents (Elt F)),
    nullary main_cst (constant S_ .f32 0x40000000#32),
    unary main_cst main_v1 (broadcastInDim S16384x64 ![] bcast_S_S16384x64 : (⟨S_, .f32⟩ : BufTy).Contents (Elt F) → (⟨S16384x64, .f32⟩ : BufTy).Contents (Elt F)),
    nullary main_c (constantI S_ 32 127#32),
    unary main_c main_v2 (broadcastInDim S16384x64 ![] bcast_S_S16384x64 : (⟨S_, .i32⟩ : BufTy).Contents (Elt F) → (⟨S16384x64, .i32⟩ : BufTy).Contents (Elt F)),
    binary main_v0 main_v2 main_v3 (subi : (⟨S16384x64, .i32⟩ : BufTy).Contents (Elt F) → (⟨S16384x64, .i32⟩ : BufTy).Contents (Elt F) → (⟨S16384x64, .i32⟩ : BufTy).Contents (Elt F)),
    unary main_v3 main_v4 (sitofp .f32 : (⟨S16384x64, .i32⟩ : BufTy).Contents (Elt F) → (⟨S16384x64, .f32⟩ : BufTy).Contents (Elt F)),
    binary main_v1 main_v4 main_v5 (Host.powf : (⟨S16384x64, .f32⟩ : BufTy).Contents (Elt F) → (⟨S16384x64, .f32⟩ : BufTy).Contents (Elt F) → (⟨S16384x64, .f32⟩ : BufTy).Contents (Elt F)),
    nullary main_c_0 (constantI S_ 32 255#32),
    unary main_c_0 main_v6 (broadcastInDim S16384x64 ![] bcast_S_S16384x64 : (⟨S_, .i32⟩ : BufTy).Contents (Elt F) → (⟨S16384x64, .i32⟩ : BufTy).Contents (Elt F)),
    binary main_v0 main_v6 main_v7 (cmpi .eq : (⟨S16384x64, .i32⟩ : BufTy).Contents (Elt F) → (⟨S16384x64, .i32⟩ : BufTy).Contents (Elt F) → (⟨S16384x64, .i1⟩ : BufTy).Contents (Elt F)),
    nullary main_cst_1 (constant S_ .f32 0x7F800000#32),
    unary main_cst_1 main_v8 (broadcastInDim S16384x64 ![] bcast_S_S16384x64 : (⟨S_, .f32⟩ : BufTy).Contents (Elt F) → (⟨S16384x64, .f32⟩ : BufTy).Contents (Elt F)),
    ternary main_v7 main_v8 main_v5 main_v9 (select : (⟨S16384x64, .i1⟩ : BufTy).Contents (Elt F) → (⟨S16384x64, .f32⟩ : BufTy).Contents (Elt F) → (⟨S16384x64, .f32⟩ : BufTy).Contents (Elt F) → (⟨S16384x64, .f32⟩ : BufTy).Contents (Elt F)),
    nullary main_c_2 (constantI S_ 32 0#32),
    unary main_c_2 main_v10 (broadcastInDim S16384x64 ![] bcast_S_S16384x64 : (⟨S_, .i32⟩ : BufTy).Contents (Elt F) → (⟨S16384x64, .i32⟩ : BufTy).Contents (Elt F)),
    binary main_v0 main_v10 main_v11 (cmpi .eq : (⟨S16384x64, .i32⟩ : BufTy).Contents (Elt F) → (⟨S16384x64, .i32⟩ : BufTy).Contents (Elt F) → (⟨S16384x64, .i1⟩ : BufTy).Contents (Elt F)),
    nullary main_cst_3 (constant S_ .f32 0x00000000#32),
    unary main_cst_3 main_v12 (broadcastInDim S16384x64 ![] bcast_S_S16384x64 : (⟨S_, .f32⟩ : BufTy).Contents (Elt F) → (⟨S16384x64, .f32⟩ : BufTy).Contents (Elt F)),
    ternary main_v11 main_v12 main_v9 main_v13 (select : (⟨S16384x64, .i1⟩ : BufTy).Contents (Elt F) → (⟨S16384x64, .f32⟩ : BufTy).Contents (Elt F) → (⟨S16384x64, .f32⟩ : BufTy).Contents (Elt F) → (⟨S16384x64, .f32⟩ : BufTy).Contents (Elt F)),
    unary main_v13 main_v14 ((truncf .bf16 · bitsLt_bf16_f32) : (⟨S16384x64, .f32⟩ : BufTy).Contents (Elt F) → (⟨S16384x64, .bf16⟩ : BufTy).Contents (Elt F)),
    unary main_arg1 main_v15 ((extui 32 · natLt_8_32) : (⟨S16384x1024, .i8⟩ : BufTy).Contents (Elt F) → (⟨S16384x1024, .i32⟩ : BufTy).Contents (Elt F)),
    nullary main_c_4 (constantI S_ 32 15#32),
    unary main_c_4 main_v16 (broadcastInDim S16384x1024 ![] bcast_S_S16384x1024 : (⟨S_, .i32⟩ : BufTy).Contents (Elt F) → (⟨S16384x1024, .i32⟩ : BufTy).Contents (Elt F)),
    binary main_v15 main_v16 main_v17 (andi : (⟨S16384x1024, .i32⟩ : BufTy).Contents (Elt F) → (⟨S16384x1024, .i32⟩ : BufTy).Contents (Elt F) → (⟨S16384x1024, .i32⟩ : BufTy).Contents (Elt F)),
    nullary main_c_5 (constantI S_ 32 4#32),
    unary main_c_5 main_v18 (broadcastInDim S16384x1024 ![] bcast_S_S16384x1024 : (⟨S_, .i32⟩ : BufTy).Contents (Elt F) → (⟨S16384x1024, .i32⟩ : BufTy).Contents (Elt F)),
    binary main_v15 main_v18 main_v19 (Host.shrsi : (⟨S16384x1024, .i32⟩ : BufTy).Contents (Elt F) → (⟨S16384x1024, .i32⟩ : BufTy).Contents (Elt F) → (⟨S16384x1024, .i32⟩ : BufTy).Contents (Elt F)),
    unary main_v17 main_v20 (broadcastInDim S16384x1024x1 ![0, 1] bcast_S16384x1024_S16384x1024x1_0_1 : (⟨S16384x1024, .i32⟩ : BufTy).Contents (Elt F) → (⟨S16384x1024x1, .i32⟩ : BufTy).Contents (Elt F)),
    unary main_v19 main_v21 (broadcastInDim S16384x1024x1 ![0, 1] bcast_S16384x1024_S16384x1024x1_0_1 : (⟨S16384x1024, .i32⟩ : BufTy).Contents (Elt F) → (⟨S16384x1024x1, .i32⟩ : BufTy).Contents (Elt F)),
    binary main_v20 main_v21 main_v22 ((fun a b => concatenate S16384x1024x2 2 [⟨S16384x1024x1, a⟩, ⟨S16384x1024x1, b⟩] concatenates_S16384x1024x1_S16384x1024x1_S16384x1024x2_d2) : (⟨S16384x1024x1, .i32⟩ : BufTy).Contents (Elt F) → (⟨S16384x1024x1, .i32⟩ : BufTy).Contents (Elt F) → (⟨S16384x1024x2, .i32⟩ : BufTy).Contents (Elt F)),
    nullary main_c_6 (constantI S_ 32 3#32),
    unary main_c_6 main_v23 (broadcastInDim S16384x1024x2 ![] bcast_S_S16384x1024x2 : (⟨S_, .i32⟩ : BufTy).Contents (Elt F) → (⟨S16384x1024x2, .i32⟩ : BufTy).Contents (Elt F)),
    binary main_v22 main_v23 main_v24 (Host.shrsi : (⟨S16384x1024x2, .i32⟩ : BufTy).Contents (Elt F) → (⟨S16384x1024x2, .i32⟩ : BufTy).Contents (Elt F) → (⟨S16384x1024x2, .i32⟩ : BufTy).Contents (Elt F)),
    nullary main_c_7 (constantI S_ 32 1#32),
    unary main_c_7 main_v25 (broadcastInDim S16384x1024x2 ![] bcast_S_S16384x1024x2 : (⟨S_, .i32⟩ : BufTy).Contents (Elt F) → (⟨S16384x1024x2, .i32⟩ : BufTy).Contents (Elt F)),
    binary main_v22 main_v25 main_v26 (Host.shrsi : (⟨S16384x1024x2, .i32⟩ : BufTy).Contents (Elt F) → (⟨S16384x1024x2, .i32⟩ : BufTy).Contents (Elt F) → (⟨S16384x1024x2, .i32⟩ : BufTy).Contents (Elt F)),
    nullary main_c_8 (constantI S_ 32 3#32),
    unary main_c_8 main_v27 (broadcastInDim S16384x1024x2 ![] bcast_S_S16384x1024x2 : (⟨S_, .i32⟩ : BufTy).Contents (Elt F) → (⟨S16384x1024x2, .i32⟩ : BufTy).Contents (Elt F)),
    binary main_v26 main_v27 main_v28 (andi : (⟨S16384x1024x2, .i32⟩ : BufTy).Contents (Elt F) → (⟨S16384x1024x2, .i32⟩ : BufTy).Contents (Elt F) → (⟨S16384x1024x2, .i32⟩ : BufTy).Contents (Elt F)),
    nullary main_c_9 (constantI S_ 32 1#32),
    unary main_c_9 main_v29 (broadcastInDim S16384x1024x2 ![] bcast_S_S16384x1024x2 : (⟨S_, .i32⟩ : BufTy).Contents (Elt F) → (⟨S16384x1024x2, .i32⟩ : BufTy).Contents (Elt F)),
    binary main_v22 main_v29 main_v30 (andi : (⟨S16384x1024x2, .i32⟩ : BufTy).Contents (Elt F) → (⟨S16384x1024x2, .i32⟩ : BufTy).Contents (Elt F) → (⟨S16384x1024x2, .i32⟩ : BufTy).Contents (Elt F)),
    nullary main_c_10 (constantI S_ 32 0#32),
    unary main_c_10 main_v31 (broadcastInDim S16384x1024x2 ![] bcast_S_S16384x1024x2 : (⟨S_, .i32⟩ : BufTy).Contents (Elt F) → (⟨S16384x1024x2, .i32⟩ : BufTy).Contents (Elt F)),
    binary main_v28 main_v31 main_v32 (cmpi .eq : (⟨S16384x1024x2, .i32⟩ : BufTy).Contents (Elt F) → (⟨S16384x1024x2, .i32⟩ : BufTy).Contents (Elt F) → (⟨S16384x1024x2, .i1⟩ : BufTy).Contents (Elt F)),
    nullary main_c_11 (constantI S_ 32 2#32),
    unary main_c_11 main_v33 (broadcastInDim S16384x1024x2 ![] bcast_S_S16384x1024x2 : (⟨S_, .i32⟩ : BufTy).Contents (Elt F) → (⟨S16384x1024x2, .i32⟩ : BufTy).Contents (Elt F)),
    binary main_v33 main_v30 main_v34 (addi : (⟨S16384x1024x2, .i32⟩ : BufTy).Contents (Elt F) → (⟨S16384x1024x2, .i32⟩ : BufTy).Contents (Elt F) → (⟨S16384x1024x2, .i32⟩ : BufTy).Contents (Elt F)),
    nullary main_c_12 (constantI S_ 32 1#32),
    unary main_c_12 main_v35 (broadcastInDim S16384x1024x2 ![] bcast_S_S16384x1024x2 : (⟨S_, .i32⟩ : BufTy).Contents (Elt F) → (⟨S16384x1024x2, .i32⟩ : BufTy).Contents (Elt F)),
    binary main_v28 main_v35 main_v36 (subi : (⟨S16384x1024x2, .i32⟩ : BufTy).Contents (Elt F) → (⟨S16384x1024x2, .i32⟩ : BufTy).Contents (Elt F) → (⟨S16384x1024x2, .i32⟩ : BufTy).Contents (Elt F)),
    binary main_v34 main_v36 main_v37 (Host.shli : (⟨S16384x1024x2, .i32⟩ : BufTy).Contents (Elt F) → (⟨S16384x1024x2, .i32⟩ : BufTy).Contents (Elt F) → (⟨S16384x1024x2, .i32⟩ : BufTy).Contents (Elt F)),
    ternary main_v32 main_v30 main_v37 main_v38 (select : (⟨S16384x1024x2, .i1⟩ : BufTy).Contents (Elt F) → (⟨S16384x1024x2, .i32⟩ : BufTy).Contents (Elt F) → (⟨S16384x1024x2, .i32⟩ : BufTy).Contents (Elt F) → (⟨S16384x1024x2, .i32⟩ : BufTy).Contents (Elt F)),
    unary main_v38 main_v39 (sitofp .f32 : (⟨S16384x1024x2, .i32⟩ : BufTy).Contents (Elt F) → (⟨S16384x1024x2, .f32⟩ : BufTy).Contents (Elt F)),
    nullary main_cst_13 (constant S_ .f32 0x3F000000#32),
    unary main_cst_13 main_v40 (broadcastInDim S16384x1024x2 ![] bcast_S_S16384x1024x2 : (⟨S_, .f32⟩ : BufTy).Contents (Elt F) → (⟨S16384x1024x2, .f32⟩ : BufTy).Contents (Elt F)),
    binary main_v39 main_v40 main_v41 (mulf : (⟨S16384x1024x2, .f32⟩ : BufTy).Contents (Elt F) → (⟨S16384x1024x2, .f32⟩ : BufTy).Contents (Elt F) → (⟨S16384x1024x2, .f32⟩ : BufTy).Contents (Elt F)),
    nullary main_c_14 (constantI S_ 32 1#32),
    unary main_c_14 main_v42 (broadcastInDim S16384x1024x2 ![] bcast_S_S16384x1024x2 : (⟨S_, .i32⟩ : BufTy).Contents (Elt F) → (⟨S16384x1024x2, .i32⟩ : BufTy).Contents (Elt F)),
    binary main_v24 main_v42 main_v43 (cmpi .eq : (⟨S16384x1024x2, .i32⟩ : BufTy).Contents (Elt F) → (⟨S16384x1024x2, .i32⟩ : BufTy).Contents (Elt F) → (⟨S16384x1024x2, .i1⟩ : BufTy).Contents (Elt F)),
    unary main_v41 main_v44 (Host.negf : (⟨S16384x1024x2, .f32⟩ : BufTy).Contents (Elt F) → (⟨S16384x1024x2, .f32⟩ : BufTy).Contents (Elt F)),
    ternary main_v43 main_v44 main_v41 main_v45 (select : (⟨S16384x1024x2, .i1⟩ : BufTy).Contents (Elt F) → (⟨S16384x1024x2, .f32⟩ : BufTy).Contents (Elt F) → (⟨S16384x1024x2, .f32⟩ : BufTy).Contents (Elt F) → (⟨S16384x1024x2, .f32⟩ : BufTy).Contents (Elt F)),
    unary main_v45 main_v46 ((truncf .bf16 · bitsLt_bf16_f32) : (⟨S16384x1024x2, .f32⟩ : BufTy).Contents (Elt F) → (⟨S16384x1024x2, .bf16⟩ : BufTy).Contents (Elt F)),
    reshape main_v46 main_v47 (rfl : (.bf16 : EltTy) = .bf16) shapeCasts_S16384x1024x2_S16384x64x32,
    unary main_v14 main_v48 (broadcastInDim S16384x64x1 ![0, 1] bcast_S16384x64_S16384x64x1_0_1 : (⟨S16384x64, .bf16⟩ : BufTy).Contents (Elt F) → (⟨S16384x64x1, .bf16⟩ : BufTy).Contents (Elt F)),
    unary main_v48 main_v49 (broadcastInDim S16384x64x32 ![0, 1, 2] bcast_S16384x64x1_S16384x64x32_0_1_2 : (⟨S16384x64x1, .bf16⟩ : BufTy).Contents (Elt F) → (⟨S16384x64x32, .bf16⟩ : BufTy).Contents (Elt F)),
    binary main_v47 main_v49 main_v50 (mulf : (⟨S16384x64x32, .bf16⟩ : BufTy).Contents (Elt F) → (⟨S16384x64x32, .bf16⟩ : BufTy).Contents (Elt F) → (⟨S16384x64x32, .bf16⟩ : BufTy).Contents (Elt F)),
    reshape main_v50 main_v51 (rfl : (.bf16 : EltTy) = .bf16) shapeCasts_S16384x64x32_S16384x2048,
    binary main_arg0 main_v51 main_v52 ((fun l r => Host.dotGeneral dot_S6x1280x16384_S16384x2048_S6x1280x2048_2_0_01_1_n_n none l r) : (⟨S6x1280x16384, .bf16⟩ : BufTy).Contents (Elt F) → (⟨S16384x2048, .bf16⟩ : BufTy).Contents (Elt F) → (⟨S6x1280x2048, .f32⟩ : BufTy).Contents (Elt F)),
    reshape main_v52 main_v53 (rfl : (.f32 : EltTy) = .f32) shapeCasts_S6x1280x2048_S7680x2048,
    unary main_v53 main_v54 ((truncf .bf16 · bitsLt_bf16_f32) : (⟨S7680x2048, .f32⟩ : BufTy).Contents (Elt F) → (⟨S7680x2048, .bf16⟩ : BufTy).Contents (Elt F)) ]

set_option maxRecDepth 4096 in
theorem main_eq (c : Dev nD) : main (F := F) c = seq ops := by
  simp only [main, main_part0, main_part1, seq, bind_assoc, pure_bind]

theorem out_eq (V : Valuation τ sig (Elt F)) :
    after ops V (main_v54 : DevRef τ sig)
      = outR (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., nullary_bufs_sub .., unary_bufs_sub .., binary_bufs_sub ..,
    unary_bufs_sub .., binary_bufs_sub .., nullary_bufs_sub .., unary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., unary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., binary_bufs_sub .., ternary_bufs_sub ..,
    unary_bufs_sub .., nullary_bufs_sub .., unary_bufs_sub .., binary_bufs_sub .., nullary_bufs_sub .., unary_bufs_sub ..,
    binary_bufs_sub .., unary_bufs_sub .., ternary_bufs_sub .., unary_bufs_sub .., reshape_bufs_sub .., unary_bufs_sub ..,
    unary_bufs_sub .., binary_bufs_sub .., reshape_bufs_sub .., binary_bufs_sub .., reshape_bufs_sub .., unary_bufs_sub ..⟩

/-- Every run ends with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.P

end
-- ==== Proof.Dec.lean ====
/-  The value of a code and of a scale byte, and the words that a decode goes through: bytes, half words and their numbers. -/
module

public import Idealize.ShloMosaic.PureOps.Ideal
public import Idealize.ShloMosaic.Lib.BitcastPair
public import Idealize.ShloMosaic.Lib.BitcastFour
public import Idealize.ShloMosaic.Lib.ValueIdxCore
public import Mathlib.Tactic.IntervalCases
public import Mathlib.Tactic.FinCases

@[expose] public section

noncomputable section

namespace Cert.Val

open Idealize.ShloMosaic
open Idealize.ShloMosaic.ValueIdx (ix2)

/-! ## Reinterpreted arrays of rank 2 -/

theorem bc_32_16 {R r n : Nat} (x : (⟨2, ![r, n]⟩ : Shape).Idx → BitVec 32)
    (h : (⟨2, ![r, n]⟩ : Shape).Bitcasts 32 ⟨2, ![R, n]⟩ 16) (a : Fin R) (l : Fin n) (p : Fin r) (hp : p.val = a.val / 2) :
    bitcast ⟨2, ![R, n]⟩ 16 x h (ix2 a l) = (x (ix2 p l)).extractLsb' (16 * (a.val % 2)) 16 := by
  rw [bitcast_32_16]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

theorem bc_16_32 {R r n : Nat} (x : (⟨2, ![R, n]⟩ : Shape).Idx → BitVec 16)
    (h : (⟨2, ![R, n]⟩ : Shape).Bitcasts 16 ⟨2, ![r, n]⟩ 32) (a : Fin r) (l : Fin n) (p q : Fin R)
    (hp : p.val = 2 * a.val + 1) (hq : q.val = 2 * a.val) :
    bitcast ⟨2, ![r, n]⟩ 32 x h (ix2 a l) = x (ix2 p l) ++ x (ix2 q l) := by
  rw [bitcast_16_32]
  congr 2
  · funext c
    match c with
    | ⟨0, _⟩ => exact Fin.ext ((h.srcIdx_row _ _ _ ⟨0, Nat.zero_lt_two⟩ rfl).trans hp.symm)
    | ⟨1, _⟩ => exact Fin.ext (h.srcIdx_other _ _ _ ⟨1, Nat.one_lt_two⟩ (by show ¬ 1 + 2 = 2; omega))
  · funext c
    match c with
    | ⟨0, _⟩ => exact Fin.ext ((h.srcIdx_row _ _ _ ⟨0, Nat.zero_lt_two⟩ rfl).trans hq.symm)
    | ⟨1, _⟩ => exact Fin.ext (h.srcIdx_other _ _ _ ⟨1, Nat.one_lt_two⟩ (by show ¬ 1 + 2 = 2; omega))

theorem bc_32_8 {R r n : Nat} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  rw [bitcast_getLsbD x h _ i hi (by decide), BitVec.getLsbD_extractLsb']
  have hrow : (⟨2, ![R, n]⟩ : Shape).row (ix2 a l) = a.val := rfl
  simp only [hrow, hi, decide_true, Bool.true_and]
  congr 1
  · congr 1
    funext c
    match c with
    | ⟨0, _⟩ => exact Fin.ext ((h.srcIdx_row _ _ _ ⟨0, Nat.zero_lt_two⟩ rfl).trans (by rw [hp]; show (a.val * 8 + i) / 32 = _; omega))
    | ⟨1, _⟩ => exact Fin.ext (h.srcIdx_other _ _ _ ⟨1, Nat.one_lt_two⟩ (by show ¬ 1 + 2 = 2; omega))
  · omega

/-- A byte of a word that four bytes of a column make. -/
theorem bc_8_32_byte {R r n : Nat} (x : (⟨2, ![R, n]⟩ : Shape).Idx → BitVec 8)
    (h : (⟨2, ![R, n]⟩ : Shape).Bitcasts 8 ⟨2, ![r, n]⟩ 32) (a : Fin r) (l : Fin n) (b : ℕ) (hb : b < 4) (p : Fin R)
    (hp : p.val = 4 * a.val + b) :
    (bitcast ⟨2, ![r, n]⟩ 32 x h (ix2 a l)).extractLsb' (8 * b) 8 = x (ix2 p l) := by
  apply BitVec.eq_of_getLsbD_eq
  intro i hi
  rw [BitVec.getLsbD_extractLsb', bitcast_8_32_getLsbD_ix2 x h a l (8 * b + i) (by omega) p (by omega)]
  simp only [hi, decide_true, Bool.true_and]
  congr 1
  omega

/-! ## A code's bits -/

/-- The low or the high four bits of a byte. -/
def nib (b : BitVec 8) (p : ℕ) : Fin 16 := if p % 2 = 0 then ⟨b.toNat % 16, by omega⟩ else ⟨b.toNat / 16, by omega⟩

theorem byte_word (G : BitVec 32) (b : ℕ) (hb : b < 4) (s : ℕ) (hs : s = 0 ∨ s = 4) :
    (((G >>> s) &&& 252645135#32) ||| 1077952576#32).extractLsb' (8 * b) 8
      = (((G.extractLsb' (8 * b) 8) >>> s) &&& 15#8) ||| 64#8 := by
  apply BitVec.eq_of_getLsbD_eq
  intro i hi
  rcases hs with rfl | rfl <;> interval_cases b <;> interval_cases i <;> simp [BitVec.getLsbD_ofNat, Nat.testBit]

theorem byte_nib : ∀ (b : BitVec 8) (p : Fin 2),
    (((b >>> (4 * p.val)) &&& 15#8) ||| 64#8) = BitVec.ofNat 8 (64 + (nib b p.val).val) := by
  decide +kernel

/-- The half word that a code goes to. -/
def h16 (n : Fin 16) : BitVec 16 := ((BitVec.ofNat 8 (64 + n.val)).signExtend 16 <<< 1) + 16896#16

/-- The magnitude's and the sign's half words. -/
def nrm (n : Fin 16) : BitVec 16 := ((h16 n <<< 5) &&& 448#16) + 16128#16
def sg (n : Fin 16) : BitVec 16 := ((h16 n <<< 11) &&& 32768#16) ||| 16256#16

theorem nrm_half : ∀ (q p : Fin 16) (b : Fin 2),
    ((((h16 q ++ h16 p) <<< 5) &&& 29360576#32) + 1056980736#32).extractLsb' (16 * b.val) 16 = nrm (if b = 0 then p else q) := by
  decide +kernel

theorem sg_half : ∀ (q p : Fin 16) (b : Fin 2),
    ((((h16 q ++ h16 p) <<< 11) &&& 2147516416#32) ||| 1065369472#32).extractLsb' (16 * b.val) 16 = sg (if b = 0 then p else q) := by
  decide +kernel

/-! ## A code's value -/

/-- The value of a code. -/
def e2m1 (n : Fin 16) : ℝ := (![0, 1/2, 1, 3/2, 2, 3, 4, 6, 0, -1/2, -1, -3/2, -2, -3, -4, -6] : Fin 16 → ℝ) n

/-- The value of a scale byte. -/
def e8m0 (s : BitVec 8) : EReal :=
  if s.toNat = 0 then 0 else if s.toNat = 255 then ⊤ else (((2 : ℝ) ^ ((s.toNat : ℤ) - 127) : ℝ) : EReal)

/-- What the magnitude's half word stands for. -/
def nval (n : Fin 16) : ℝ := (![1/2, 3/4, 1, 3/2, 2, 3, 4, 6, 1/2, 3/4, 1, 3/2, 2, 3, 4, 6] : Fin 16 → ℝ) n
def sval (n : Fin 16) : ℝ := if n.val < 8 then 1 else -1

theorem nrm_val (n : Fin 16) : Ideal.ofBits .bf16 (nrm n) = ((nval n : ℝ) : EReal) := by
  fin_cases n <;> (simp [Ideal.ofBits, Ideal.ieee, nrm, h16, nval, -EReal.coe_mul]; try norm_num)

theorem sg_val (n : Fin 16) : Ideal.ofBits .bf16 (sg n) = ((sval n : ℝ) : EReal) := by
  fin_cases n <;> (simp [Ideal.ofBits, Ideal.ieee, sg, h16, sval, -EReal.coe_mul]; try norm_num)

theorem one_val : Ideal.ofBits .bf16 0x3F80#16 = ((1 : ℝ) : EReal) := by
  simp [Ideal.ofBits, Ideal.ieee, -EReal.coe_mul]; try norm_num

/-- The decode's arithmetic gives the code's value. -/
theorem dec_val (n : Fin 16) :
    min (Ideal.ofBits .bf16 (nrm n)) (Ideal.ofBits .bf16 (nrm n) + Ideal.ofBits .bf16 (nrm n) - Ideal.ofBits .bf16 0x3F80#16)
      * Ideal.ofBits .bf16 (sg n) = ((e2m1 n : ℝ) : EReal) := by
  rw [nrm_val, sg_val, one_val]
  norm_cast
  fin_cases n <;> norm_num [nval, sval, e2m1]

/-! ## A scale byte's value -/

theorem scale_half (hi lo : BitVec 8) (b : ℕ) (hb : b < 2) :
    ((hi.setWidth 16 ++ lo.setWidth 16 : BitVec 32) <<< 7).extractLsb' (16 * b) 16 = (if b = 0 then lo else hi).setWidth 16 <<< 7 := by
  apply BitVec.eq_of_getLsbD_eq
  intro i hi'
  rw [BitVec.getLsbD_extractLsb', BitVec.getLsbD_shiftLeft, BitVec.getLsbD_append, BitVec.getLsbD_shiftLeft]
  interval_cases b <;> interval_cases i <;> simp [BitVec.getLsbD_setWidth]

theorem scale_val (s : BitVec 8) : Ideal.ofBits .bf16 (s.setWidth 16 <<< 7) = e8m0 s := by
  have hs := s.isLt
  have e1 : ((s.setWidth 16 <<< 7 : BitVec 16).extractLsb' 7 8).toNat = s.toNat := by
    simp [BitVec.extractLsb'_toNat, BitVec.toNat_shiftLeft, Nat.shiftLeft_eq, Nat.shiftRight_eq_div_pow]; omega
  have e2 : ((s.setWidth 16 <<< 7 : BitVec 16).extractLsb' 0 7).toNat = 0 := by
    simp [BitVec.extractLsb'_toNat, BitVec.toNat_shiftLeft, Nat.shiftLeft_eq]
  have e3 : ((s.setWidth 16 <<< 7 : BitVec 16).extractLsb' 15 1 == 1#1) = false := by
    rw [beq_eq_false_iff_ne]
    intro h
    have := congrArg BitVec.toNat h
    simp [BitVec.extractLsb'_toNat, BitVec.toNat_shiftLeft, Nat.shiftLeft_eq, Nat.shiftRight_eq_div_pow] at this
    omega
  unfold e8m0
  show Ideal.ieee 8 7 _ = _
  unfold Ideal.ieee
  simp only [e1, e2, e3]
  by_cases h0 : s.toNat = 0
  · simp [h0]
  by_cases h255 : s.toNat = 255
  · simp [h255]
  · rw [if_neg (by omega), if_neg h0, if_neg h0, if_neg h255]
    rw [show ((s.toNat : ℤ) - 127) = ((s.toNat : ℤ) - (2 ^ (8 - 1) - 1) - (7 : ℕ)) + 7 by norm_num,
      zpow_add₀ (by norm_num : (2 : ℝ) ≠ 0)]
    norm_num
    exact mul_comm _ _

/-! ## The reference's spelling -/

/-- Twice the magnitude of a code, as the reference's integers compute it. -/
def dbl (c : BitVec 32) : BitVec 32 :=
  Scalar.select (IntOp.cmpi .eq (IntOp.andi (IntOp.shrsi .host c 1#32) 3#32) 0#32) (IntOp.andi c 1#32)
    (IntOp.shli .host (IntOp.addi 2#32 (IntOp.andi c 1#32)) (IntOp.subi (IntOp.andi (IntOp.shrsi .host c 1#32) 3#32) 1#32))

def mval (n : Fin 16) : ℤ := (![0, 1, 2, 3, 4, 6, 8, 12, 0, 1, 2, 3, 4, 6, 8, 12] : Fin 16 → ℤ) n

theorem dbl_val (n : Fin 16) : (dbl (BitVec.ofNat 32 n.val)).toInt = mval n := by
  fin_cases n <;> rfl

theorem sign_val (n : Fin 16) :
    IntOp.cmpi .eq (IntOp.shrsi .host (BitVec.ofNat 32 n.val) 3#32) 1#32 = if n.val < 8 then 0#1 else 1#1 := by
  fin_cases n <;> rfl

theorem half_val : Ideal.ofBits .f32 0x3F000000#32 = ((1 / 2 : ℝ) : EReal) := by
  simp [Ideal.ofBits, Ideal.ieee, -EReal.coe_mul]; try norm_num

/-- The reference's arithmetic gives the code's value. -/
theorem ref_val (n : Fin 16) :
    Scalar.select (IntOp.cmpi .eq (IntOp.shrsi .host (BitVec.ofNat 32 n.val) 3#32) 1#32)
      (-((((dbl (BitVec.ofNat 32 n.val)).toInt : ℝ) : EReal) * Ideal.ofBits .f32 0x3F000000#32))
      ((((dbl (BitVec.ofNat 32 n.val)).toInt : ℝ) : EReal) * Ideal.ofBits .f32 0x3F000000#32) = ((e2m1 n : ℝ) : EReal) := by
  rw [dbl_val, sign_val, half_val]
  norm_cast
  have h1 : ¬ ((0#1 : BitVec 1) = 1) := by decide
  have h2 : (1#1 : BitVec 1) = 1 := rfl
  fin_cases n <;> norm_num [mval, e2m1, Scalar.select, h1, h2]

theorem lo_code : ∀ b : BitVec 8, IntOp.andi (b.setWidth 32) 15#32 = BitVec.ofNat 32 (nib b 0).val := by decide +kernel
theorem hi_code : ∀ b : BitVec 8, IntOp.shrsi .host (b.setWidth 32) 4#32 = BitVec.ofNat 32 (nib b 1).val := by decide +kernel

theorem eq_zero_code : ∀ b : BitVec 8, IntOp.cmpi .eq (b.setWidth 32) 0#32 = if b.toNat = 0 then 1#1 else 0#1 := by decide +kernel
theorem eq_top_code : ∀ b : BitVec 8, IntOp.cmpi .eq (b.setWidth 32) 255#32 = if b.toNat = 255 then 1#1 else 0#1 := by decide +kernel
theorem sub_code : ∀ b : BitVec 8, (IntOp.subi (b.setWidth 32) 127#32).toInt = (b.toNat : ℤ) - 127 := by decide +kernel

theorem inf_val : Ideal.ofBits .f32 0x7F800000#32 = ⊤ := by simp [Ideal.ofBits, Ideal.ieee]
theorem zero_val : Ideal.ofBits .f32 0x00000000#32 = 0 := by simp [Ideal.ofBits, Ideal.ieee]
theorem two_val : Ideal.ofBits .f32 0x40000000#32 = ((2 : ℝ) : EReal) := by
  simp [Ideal.ofBits, Ideal.ieee, -EReal.coe_mul]; try norm_num

/-- The reference's scale gives the byte's value. -/
theorem ref_scale (b : BitVec 8) :
    Scalar.select (IntOp.cmpi .eq (b.setWidth 32) 0#32) (Ideal.ofBits .f32 0x00000000#32)
      (Scalar.select (IntOp.cmpi .eq (b.setWidth 32) 255#32) (Ideal.ofBits .f32 0x7F800000#32)
        (Ideal.pow (Ideal.ofBits .f32 0x40000000#32) (((IntOp.subi (b.setWidth 32) 127#32).toInt : ℝ) : EReal))) = e8m0 b := by
  rw [eq_zero_code, eq_top_code, sub_code, inf_val, zero_val, two_val]
  unfold e8m0 Scalar.select
  by_cases h0 : b.toNat = 0
  · simp [h0]
  by_cases h1 : b.toNat = 255
  · simp [h1]
  · rw [if_neg h0, if_neg h1, if_neg h0, if_neg h1, if_neg (by decide), if_neg (by decide), Ideal.pow_coe_coe]
    congr 1
    exact Real.rpow_intCast _ _

/-! ## A weight -/

/-- The weight at row `o` and column `i`: the value of its code times the value of its block's scale byte. -/
def wt (wp : (⟨2, ![16384, 1024]⟩ : Shape).Idx → BitVec 8) (ws : (⟨2, ![16384, 64]⟩ : Shape).Idx → BitVec 8) (o : Fin 16384) (i : Fin 2048) : EReal :=
  ((e2m1 (nib (wp (ix2 o ⟨i.val / 2, by omega⟩)) (i.val % 2)) : ℝ) : EReal) * e8m0 (ws (ix2 o ⟨i.val / 32, by omega⟩))

end Cert.Val

end
-- ==== Proof.Tile.lean ====
/-  The decoded weight tile, element by element, at the ideal instance: the code's value times the scale byte's. -/
module

public import proofs.«01_k».proof.Proof.I.Prog
public import proofs.«01_k».proof.Proof.Dec
public import Idealize.ShloMosaic.Lib.Pipeline.Value
public import Idealize.ShloMosaic.Lib.ValueIdx

@[expose] public section

noncomputable section

namespace Cert.KernelIdeal.P

open Cert.KernelIdeal Cert.KernelIdeal.Gen
open Idealize.ShloMosaic
open Idealize.ShloMosaic.ValueIdx (ix2 ix3)
open Cert.Val

/-! ## The lane indices -/

/-- The floor division of one lane. -/
def fdivW (d x : BitVec 32) : BitVec 32 :=
  Scalar.select (IntOp.andi (IntOp.cmpi .ne (IntOp.subi ((IntOp.cmpi .sgt x 0#32).setWidth 32) ((IntOp.cmpi .slt x 0#32).setWidth 32)) (sgn d))
      (IntOp.cmpi .ne (IntOp.remsi .vector x d) 0#32))
    (IntOp.subi (IntOp.divsi .vector x d) 1#32) (IntOp.divsi .vector x d)

/-- The index of one lane. -/
def wrapW (b x : BitVec 32) : BitVec 32 :=
  Scalar.select (IntOp.cmpi .slt (IntOp.addi b x) 0#32) (IntOp.addi (IntOp.addi b x) 128#32) (IntOp.addi b x)

theorem idx_pair : ∀ (l : Fin 128) (k : Fin 2),
    (wrapW (BitVec.ofNat 32 (64 * k.val)) (fdivW 2#32 (BitVec.ofNat 32 l.val))).toNat = 64 * k.val + l.val / 2 := by decide +kernel

theorem idx_block : ∀ (l : Fin 128) (g : Fin 16),
    (wrapW (BitVec.ofNat 32 (4 * g.val)) (fdivW 32#32 (BitVec.ofNat 32 l.val))).toNat = 4 * g.val + l.val / 32 := by decide +kernel

theorem shift_amt : ∀ l : Fin 128, (IntOp.muli (IntOp.andi (BitVec.ofNat 32 l.val) 1#32) 4#32) = BitVec.ofNat 32 (4 * (l.val % 2)) := by
  decide +kernel

theorem half_code : ∀ n : Fin 16,
    IntOp.addi (IntOp.shli .vector ((BitVec.ofNat 8 (64 + n.val)).signExtend 16) 1#16) 16896#16 = h16 n := by decide +kernel

theorem lane_at (p : Fin 64) (l : Fin 128) : lane (ix2 p l) = BitVec.ofNat 32 l.val := by
  simp [lane, iota, ix2]

theorem lane2_at (p : Fin 128) (l : Fin 128) : lane2 (ix2 p l) = BitVec.ofNat 32 l.val := by
  simp [lane2, iota, ix2]

theorem gather_cast64 (src idx : IVec S64x128 32) (p : Fin 64) (l q : Fin 128) (hq : (idx (ix2 p l)).toNat = q.val) :
    dynamicGather 1 src (shapeCast S64x128 (shapeCast S64x128x1 idx shapeCasts_S64x128_S64x128x1) shapeCasts_S64x128x1_S64x128) (ix2 p l)
      = src (ix2 p q) := by
  have e : shapeCast S64x128 (shapeCast S64x128x1 idx shapeCasts_S64x128_S64x128x1) shapeCasts_S64x128x1_S64x128 (ix2 p l) = idx (ix2 p l) := by
    rw [shapeCast_apply _ _ _ (ix3 p l 0) (by rw [Shape.rowMajor_val_two, Shape.rowMajor_val_three]; simp),
      shapeCast_apply _ _ _ (ix2 p l) (by rw [Shape.rowMajor_val_two, Shape.rowMajor_val_three]; simp)]
  unfold dynamicGather
  congr 1
  funext b
  match b with
  | ⟨0, _⟩ => rfl
  | ⟨1, _⟩ =>
    refine Fin.ext ?_
    refine (congrArg (fun z : BitVec 32 => z.toNat % 128) e).trans ?_
    show (idx (ix2 p l)).toNat % 128 = q.val
    rw [hq]; exact Nat.mod_eq_of_lt q.isLt

theorem gather_cast128 (src idx : IVec S128x128 32) (p l q : Fin 128) (hq : (idx (ix2 p l)).toNat = q.val) :
    dynamicGather 1 src (shapeCast S128x128 (shapeCast S128x128x1 idx shapeCasts_S128x128_S128x128x1) shapeCasts_S128x128x1_S128x128) (ix2 p l)
      = src (ix2 p q) := by
  have e : shapeCast S128x128 (shapeCast S128x128x1 idx shapeCasts_S128x128_S128x128x1) shapeCasts_S128x128x1_S128x128 (ix2 p l) = idx (ix2 p l) := by
    rw [shapeCast_apply _ _ _ (ix3 p l 0) (by rw [Shape.rowMajor_val_two, Shape.rowMajor_val_three]; simp),
      shapeCast_apply _ _ _ (ix2 p l) (by rw [Shape.rowMajor_val_two, Shape.rowMajor_val_three]; simp)]
  unfold dynamicGather
  congr 1
  funext b
  match b with
  | ⟨0, _⟩ => rfl
  | ⟨1, _⟩ =>
    refine Fin.ext ?_
    refine (congrArg (fun z : BitVec 32 => z.toNat % 128) e).trans ?_
    show (idx (ix2 p l)).toNat % 128 = q.val
    rw [hq]; exact Nat.mod_eq_of_lt q.isLt

/-! ## The codes -/

/-- The code word's bytes are the bytes `C` of four rows. -/
def Bytes (src : IVec S64x128 32) (C : Fin 256 → Fin 128 → BitVec 8) : Prop :=
  ∀ (p : Fin 64) (l : Fin 128) (b : ℕ) (a : Fin 256), b < 4 → a.val = 4 * p.val + b → (src (ix2 p l)).extractLsb' (8 * b) 8 = C a l

/-- The code of row `a` and lane `l` of column block `k`. -/
def cn (C : Fin 256 → Fin 128 → BitVec 8) (k : Fin 2) (a : Fin 256) (l : Fin 128) : Fin 16 :=
  nib (C a ⟨64 * k.val + l.val / 2, by omega⟩) (l.val % 2)

variable {src : IVec S64x128 32} {C : Fin 256 → Fin 128 → BitVec 8}

theorem codeBits_at (h : Bytes src C) (k : Fin 2) (p : Fin 128) (l : Fin 128) :
    codeBits src (BitVec.ofNat 32 (64 * k.val)) (ix2 p l)
      = h16 (cn C k ⟨2 * p.val + 1, by omega⟩ l) ++ h16 (cn C k ⟨2 * p.val, by omega⟩ l) := by
  have key : ∀ a : Fin 256, (IntOp.addi (IntOp.shli .vector ((bitcast S256x128 8
          (ori (andi (shrui
              (dynamicGather 1 src (shapeCast S64x128 (shapeCast S64x128x1 (wrapIdx S64x128 (BitVec.ofNat 32 (64 * k.val)) (fdiv S64x128 lane 2#32))
                shapeCasts_S64x128_S64x128x1) shapeCasts_S64x128x1_S64x128))
              (muli (andi lane (broadcast S64x128 1#32)) (broadcast S64x128 4#32)))
            (broadcast S64x128 252645135#32)) (broadcast S64x128 1077952576#32))
          bitcasts_S64x128_w32_S256x128_w8 (ix2 a l)).signExtend 16) 1#16) 16896#16) = h16 (cn C k a l) := by
    intro a
    rw [bc_32_8 _ _ a l ⟨a.val / 4, by omega⟩ rfl]
    have hg := gather_cast64 src (wrapIdx S64x128 (BitVec.ofNat 32 (64 * k.val)) (fdiv S64x128 lane 2#32)) ⟨a.val / 4, by omega⟩ l
      ⟨64 * k.val + l.val / 2, by omega⟩ (by
        show (wrapW (BitVec.ofNat 32 (64 * k.val)) (fdivW 2#32 (lane (ix2 _ l)))).toNat = _
        rw [lane_at]; exact idx_pair l k)
    have e : ∀ (w : IVec S64x128 32) (j : S64x128.Idx),
        ori (andi (shrui w (muli (andi lane (broadcast S64x128 1#32)) (broadcast S64x128 4#32)))
          (broadcast S64x128 252645135#32)) (broadcast S64x128 1077952576#32) j
        = (IntOp.shrui .vector (w j) (IntOp.muli (IntOp.andi (lane j) 1#32) 4#32) &&& 252645135#32) ||| 1077952576#32 := fun _ _ => rfl
    rw [e, hg, lane_at, shift_amt]
    have hl : l.val % 2 = 0 ∨ l.val % 2 = 1 := by omega
    have e2 : ∀ G : BitVec 32, IntOp.shrui .vector G (BitVec.ofNat 32 (4 * (l.val % 2))) = G >>> (4 * (l.val % 2)) := by
      intro G
      rcases hl with hl | hl <;> rw [hl] <;> rfl
    rw [e2, byte_word _ _ (Nat.mod_lt _ (by decide)) _ (by omega), h _ _ _ a (Nat.mod_lt _ (by decide)) (by show a.val = 4 * (a.val / 4) + a.val % 4; omega),
      byte_nib _ ⟨l.val % 2, by omega⟩]
    exact half_code _
  unfold codeBits
  rw [bc_16_32 _ _ p l ⟨2 * p.val + 1, by omega⟩ ⟨2 * p.val, by omega⟩ rfl rfl]
  exact congrArg₂ (· ++ ·) (key _) (key _)

theorem asBf_at (x : IVec S128x128 32) (a : Fin 256) (l : Fin 128) :
    (asBf x : FVec Ideal S256x128 .bf16) (ix2 a l)
      = Ideal.ofBits .bf16 ((x (ix2 ⟨a.val / 2, by omega⟩ l)).extractLsb' (16 * (a.val % 2)) 16) := by
  unfold asBf
  show Ideal.ofBits .bf16 (bitcast S256x128 16 x bitcasts_S128x128_w32_S256x128_w16 (ix2 a l)) = _
  rw [bc_32_16 _ _ a l ⟨a.val / 2, by omega⟩ rfl]

theorem pick_row (C : Fin 256 → Fin 128 → BitVec 8) (k : Fin 2) (a : Fin 256) (l : Fin 128) :
    (if (⟨a.val % 2, Nat.mod_lt _ (by decide)⟩ : Fin 2) = 0 then cn C k ⟨2 * (a.val / 2), by omega⟩ l else cn C k ⟨2 * (a.val / 2) + 1, by omega⟩ l)
      = cn C k a l := by
  by_cases h : a.val % 2 = 0
  · rw [if_pos (Fin.ext h)]
    congr 1
    exact Fin.ext (by show 2 * (a.val / 2) = a.val; omega)
  · rw [if_neg (fun e => h (congrArg Fin.val e))]
    congr 1
    exact Fin.ext (by show 2 * (a.val / 2) + 1 = a.val; omega)

theorem normal_at (h : Bytes src C) (k : Fin 2) (a : Fin 256) (l : Fin 128) :
    (normalOf (codeBits src (BitVec.ofNat 32 (64 * k.val))) : FVec Ideal S256x128 .bf16) (ix2 a l) = Ideal.ofBits .bf16 (nrm (cn C k a l)) := by
  unfold normalOf
  rw [asBf_at]
  show Ideal.ofBits .bf16 ((((codeBits src (BitVec.ofNat 32 (64 * k.val)) (ix2 _ l) <<< 5) &&& 29360576#32) + 1056980736#32).extractLsb' (16 * (a.val % 2)) 16) = _
  rw [codeBits_at h, nrm_half _ _ ⟨a.val % 2, Nat.mod_lt _ (by decide)⟩, pick_row]

theorem sign_at (h : Bytes src C) (k : Fin 2) (a : Fin 256) (l : Fin 128) :
    (signOf (codeBits src (BitVec.ofNat 32 (64 * k.val))) : FVec Ideal S256x128 .bf16) (ix2 a l) = Ideal.ofBits .bf16 (sg (cn C k a l)) := by
  unfold signOf
  rw [asBf_at]
  show Ideal.ofBits .bf16 ((((codeBits src (BitVec.ofNat 32 (64 * k.val)) (ix2 _ l) <<< 11) &&& 2147516416#32) ||| 1065369472#32).extractLsb' (16 * (a.val % 2)) 16) = _
  rw [codeBits_at h, sg_half _ _ ⟨a.val % 2, Nat.mod_lt _ (by decide)⟩, pick_row]

/-! ## The scales -/

theorem scaleWords_at (s : IVec S256x64 8) (p l : Fin 128) (hl : l.val < 64) :
    scaleWords s (ix2 p l)
      = ((s (ix2 ⟨2 * p.val + 1, by omega⟩ ⟨l.val, hl⟩)).setWidth 16 ++ (s (ix2 ⟨2 * p.val, by omega⟩ ⟨l.val, hl⟩)).setWidth 16 : BitVec 32) <<< 7 := by
  unfold scaleWords
  rw [concatenate_pair_apply_left (s₁ := S128x64) (s₂ := S128x64) 1 _ _ _ (ix2 p l) rfl (ix2 p (⟨l.val, hl⟩ : Fin 64)) (by
    intro b
    match b with
    | ⟨0, _⟩ => rfl
    | ⟨1, _⟩ => rfl)]
  show (bitcast S128x64 32 (extui 16 s natLt_8_16) bitcasts_S256x64_w16_S128x64_w32 (ix2 p ⟨l.val, hl⟩)) <<< 7 = _
  rw [bc_16_32 _ _ p ⟨l.val, hl⟩ ⟨2 * p.val + 1, by omega⟩ ⟨2 * p.val, by omega⟩ rfl rfl]
  rfl

theorem scale_at (s : IVec S256x64 8) (g : Fin 16) (a : Fin 256) (l : Fin 128) :
    (scaleOf (scaleWords s) (BitVec.ofNat 32 (4 * g.val)) : FVec Ideal S256x128 .bf16) (ix2 a l)
      = e8m0 (s (ix2 a ⟨4 * g.val + l.val / 32, by omega⟩)) := by
  unfold scaleOf
  rw [asBf_at, gather_cast128 _ _ _ l ⟨4 * g.val + l.val / 32, by omega⟩ (by
    show (wrapW (BitVec.ofNat 32 (4 * g.val)) (fdivW 32#32 (lane2 (ix2 _ l)))).toNat = _
    rw [lane2_at]; exact idx_block l g), scaleWords_at _ _ _ (by show 4 * g.val + l.val / 32 < 64; omega),
    scale_half _ _ _ (Nat.mod_lt _ (by decide)), scale_val]
  congr 1
  by_cases h : a.val % 2 = 0
  · rw [if_pos h]
    congr 2
    exact Fin.ext (by show 2 * (a.val / 2) = a.val; omega)
  · rw [if_neg h]
    congr 2
    exact Fin.ext (by show 2 * (a.val / 2) + 1 = a.val; omega)

/-! ## A tile -/

theorem dec_arith (n g sc : FVec Ideal S256x128 .bf16) (j : S256x128.Idx) :
    mulf (mulf (minimumf n (subf (addf n n) (broadcast S256x128 (Scalar.ofBits .bf16 0x3F80#16)))) g) sc j
      = (min (n j : EReal) (n j + n j - Ideal.ofBits .bf16 0x3F80#16) * g j * sc j : EReal) := rfl

theorem decCol_at (h : Bytes src C) (s : IVec S256x64 8) (k : Fin 2) (g : Fin 16) (a : Fin 256) (l : Fin 128) :
    (decCol src (scaleWords s) (BitVec.ofNat 32 (64 * k.val)) (BitVec.ofNat 32 (4 * g.val)) : FVec Ideal S256x128 .bf16) (ix2 a l)
      = ((e2m1 (cn C k a l) : ℝ) : EReal) * e8m0 (s (ix2 a ⟨4 * g.val + l.val / 32, by omega⟩)) := by
  unfold decCol magOf
  rw [dec_arith, scale_at, normal_at h, sign_at h, dec_val]

theorem bytes_lo (c : IVec S256x256 8) : Bytes (codeLo c) (fun a l => c (ix2 a ⟨l.val, by omega⟩)) := by
  intro p l b a hb ha
  unfold codeLo extractStridedSlice
  refine Eq.trans ?_ (bc_8_32_byte c bitcasts_S256x256_w8_S64x256_w32 p ⟨l.val, by omega⟩ b hb a ha)
  congr 2
  funext d
  match d with
  | ⟨0, _⟩ => exact Fin.ext (by simp)
  | ⟨1, _⟩ => exact Fin.ext (by simp)

theorem bytes_hi (c : IVec S256x256 8) : Bytes (codeHi c) (fun a l => c (ix2 a ⟨128 + l.val, by omega⟩)) := by
  intro p l b a hb ha
  unfold codeHi extractStridedSlice
  refine Eq.trans ?_ (bc_8_32_byte c bitcasts_S256x256_w8_S64x256_w32 p ⟨128 + l.val, by omega⟩ b hb a ha)
  congr 2
  funext d
  match d with
  | ⟨0, _⟩ => exact Fin.ext (by simp)
  | ⟨1, _⟩ => exact Fin.ext (by simp)

/-- The tile's element: the code of its row and column times the scale of its row and block. -/
theorem decTile_at (c : IVec S256x256 8) (s : IVec S256x64 8) (n : Fin 4) (a : Fin 256) (l : Fin 512) :
    (decTile c s (BitVec.ofNat 32 (16 * n.val)) : FVec Ideal S256x512 .bf16) (ix2 a l)
      = ((e2m1 (nib (c (ix2 a ⟨l.val / 2, by omega⟩)) (l.val % 2)) : ℝ) : EReal) * e8m0 (s (ix2 a ⟨16 * n.val + l.val / 32, by omega⟩)) := by
  have fb : ∀ (v : Fin 4), Scalar.addi (BitVec.ofNat 32 (16 * n.val)) (BitVec.ofNat 32 (4 * v.val)) = BitVec.ofNat 32 (4 * (4 * n.val + v.val)) := by
    revert n; decide +kernel
  have hv : l.val / 128 = 0 ∨ l.val / 128 = 1 ∨ l.val / 128 = 2 ∨ l.val / 128 = 3 := by omega
  have f0 := fb 0; have f1 := fb 1; have f2 := fb 2; have f3 := fb 3
  have out : ∀ (x : FVec Ideal S256x128 .bf16) (C : Fin 256 → Fin 128 → BitVec 8) (k : Fin 2) (g : Fin 16) (v : ℕ) (hv : l.val / 128 = v)
      (hx : x (ix2 a ⟨l.val % 128, Nat.mod_lt _ (by decide)⟩)
        = ((e2m1 (cn C k a ⟨l.val % 128, Nat.mod_lt _ (by decide)⟩) : ℝ) : EReal) * e8m0 (s (ix2 a ⟨4 * g.val + l.val % 128 / 32, by omega⟩)))
      (hC : C a ⟨64 * k.val + l.val % 128 / 2, by omega⟩ = c (ix2 a ⟨l.val / 2, by omega⟩)) (hg : g.val = 4 * n.val + v),
      x (ix2 a ⟨l.val % 128, Nat.mod_lt _ (by decide)⟩)
        = ((e2m1 (nib (c (ix2 a ⟨l.val / 2, by omega⟩)) (l.val % 2)) : ℝ) : EReal) * e8m0 (s (ix2 a ⟨16 * n.val + l.val / 32, by omega⟩)) := by
    intro x C k g v hv hx hC hg
    rw [hx]
    unfold cn
    show ((e2m1 (nib (C a ⟨64 * k.val + l.val % 128 / 2, _⟩) (l.val % 128 % 2)) : ℝ) : EReal) * _ = _
    rw [hC, show l.val % 128 % 2 = l.val % 2 by omega]
    congr 3
    exact congrArg (ix2 a) (Fin.ext (by show 4 * g.val + l.val % 128 / 32 = 16 * n.val + l.val / 32; omega))
  have hcoord : ∀ b : Fin 2, (b : Fin 2) ≠ 1 →
      ((ix2 a (⟨l.val % 128, Nat.mod_lt _ (by decide)⟩ : Fin 128) : S256x128.Idx) b).val = ((ix2 a l : S256x512.Idx) b).val := by
    intro b hb
    match b with
    | ⟨0, _⟩ => rfl
    | ⟨1, _⟩ => exact absurd rfl hb
  unfold decTile
  rcases hv with hv | hv | hv | hv
  · rw [concatenate_apply_piece 1 _ _ (ix2 a l) 0 (by show 0 < 4; decide) S256x128 _ rfl rfl 0 rfl
      (ix2 a ⟨l.val % 128, Nat.mod_lt _ (by decide)⟩) hcoord (by show 0 + l.val % 128 = l.val; omega)]
    refine out _ _ 0 ⟨4 * n.val + 0, by omega⟩ 0 hv ((congrArg (fun z => decCol _ _ _ z _) f0).trans (decCol_at (bytes_lo c) s 0 ⟨4 * n.val + 0, by omega⟩ a _)) ?_ rfl
    exact congrArg (fun z => c (ix2 a z)) (Fin.ext (by show 64 * 0 + l.val % 128 / 2 = l.val / 2; omega))
  · rw [concatenate_apply_piece 1 _ _ (ix2 a l) 1 (by show 1 < 4; decide) S256x128 _ rfl rfl 128 rfl
      (ix2 a ⟨l.val % 128, Nat.mod_lt _ (by decide)⟩) hcoord (by show 128 + l.val % 128 = l.val; omega)]
    refine out _ _ 1 ⟨4 * n.val + 1, by omega⟩ 1 hv ((congrArg (fun z => decCol _ _ _ z _) f1).trans (decCol_at (bytes_lo c) s 1 ⟨4 * n.val + 1, by omega⟩ a _)) ?_ rfl
    exact congrArg (fun z => c (ix2 a z)) (Fin.ext (by show 64 * 1 + l.val % 128 / 2 = l.val / 2; omega))
  · rw [concatenate_apply_piece 1 _ _ (ix2 a l) 2 (by show 2 < 4; decide) S256x128 _ rfl rfl 256 rfl
      (ix2 a ⟨l.val % 128, Nat.mod_lt _ (by decide)⟩) hcoord (by show 256 + l.val % 128 = l.val; omega)]
    refine out _ _ 0 ⟨4 * n.val + 2, by omega⟩ 2 hv ((congrArg (fun z => decCol _ _ _ z _) f2).trans (decCol_at (bytes_hi c) s 0 ⟨4 * n.val + 2, by omega⟩ a _)) ?_ rfl
    exact congrArg (fun z => c (ix2 a z)) (Fin.ext (by show 128 + (64 * 0 + l.val % 128 / 2) = l.val / 2; omega))
  · rw [concatenate_apply_piece 1 _ _ (ix2 a l) 3 (by show 3 < 4; decide) S256x128 _ rfl rfl 384 rfl
      (ix2 a ⟨l.val % 128, Nat.mod_lt _ (by decide)⟩) hcoord (by show 384 + l.val % 128 = l.val; omega)]
    refine out _ _ 1 ⟨4 * n.val + 3, by omega⟩ 3 hv ((congrArg (fun z => decCol _ _ _ z _) f3).trans (decCol_at (bytes_hi c) s 1 ⟨4 * n.val + 3, by omega⟩ a _)) ?_ rfl
    exact congrArg (fun z => c (ix2 a z)) (Fin.ext (by show 128 + (64 * 1 + l.val % 128 / 2) = l.val / 2; omega))

end Cert.KernelIdeal.P

end
-- ==== Proof.Sum.lean ====
/-  The kernel's result, element by element, at the ideal instance: the passes' sums add up to a row times a column. -/
module

public import proofs.«01_k».proof.Proof.I.Res
public import proofs.«01_k».proof.Proof.Tile

@[expose] public section

noncomputable section

namespace Cert.KernelIdeal.P

open Cert.KernelIdeal Cert.KernelIdeal.Gen
open Idealize.ShloMosaic
open Idealize.ShloMosaic.ValueIdx
open Cert.Val

/-- One pass of the unit: rows times columns. -/
theorem pss_at (x : XV Ideal) (w : WV Ideal) (r : Fin 240) (c : Fin 256) :
    pss x w (ix2 r c) = (∑ k : Fin 256, x (ix2 r k) * w (ix2 k c) : EReal) := by
  have e : pss x w (ix2 r c) = (∑ k : (DotDims.plain 240 256 256).contr.Idx,
      x ((DotDims.plain 240 256 256).lhsIdx (ix2 r c) k) * w ((DotDims.plain 240 256 256).rhsIdx (ix2 r c) k) : EReal) := rfl
  rw [e, ← Equiv.sum_comp (contrEquiv1 (DotDims.plain 240 256 256) 256 rfl rfl).symm]
  refine Finset.sum_congr rfl fun k _ => ?_
  congr 2
  · funext b
    match b with
    | ⟨0, _⟩ => rfl
    | ⟨1, _⟩ => rfl
  · funext b
    match b with
    | ⟨0, _⟩ => rfl
    | ⟨1, _⟩ => rfl

variable (dy : S7680x16384.Idx → EReal) (wp : S16384x1024.Idx → BitVec 8) (ws : S16384x64.Idx → BitVec 8)

/-- The product of row `R` and column `i` at a number of the contracted axis. -/
def term (R : Fin 7680) (i : Fin 2048) (K : ℕ) : EReal := dy (ix2 R (fn 16384 K)) * wt wp ws (fn 16384 K) i

/-- A decoded tile holds the weights. -/
theorem wOf_at (n : Fin 4) (kt : ℕ) (k : Fin 256) (l : Fin 512) (i : Fin 2048) (hi : i.val = 512 * n.val + l.val) :
    (wOf wp ws n.val kt : FVec Ideal S256x512 .bf16) (ix2 k l) = wt wp ws (fn 16384 (256 * kt + k.val)) i := by
  unfold wOf
  rw [decTile_at _ _ n k l]
  unfold wt
  have h1 : (fn 1024 (256 * n.val + l.val / 2) : Fin 1024) = ⟨i.val / 2, by omega⟩ := by
    refine Fin.ext ?_
    show (256 * n.val + l.val / 2) % 1024 = i.val / 2
    omega
  have h2 : (⟨16 * n.val + l.val / 32, by omega⟩ : Fin 64) = ⟨i.val / 32, by omega⟩ := Fin.ext (by
    show 16 * n.val + l.val / 32 = i.val / 32
    omega)
  have h3 : l.val % 2 = i.val % 2 := by omega
  show ((e2m1 (nib (wp (ix2 (fn 16384 (256 * kt + k.val)) (fn 1024 (256 * n.val + l.val / 2)))) (l.val % 2)) : ℝ) : EReal)
      * e8m0 (ws (ix2 (fn 16384 (256 * kt + k.val)) (⟨16 * n.val + l.val / 32, by omega⟩ : Fin 64))) = _
  rw [h1, h2, h3]

/-- A pass adds 256 products. -/
theorem pass_at (m : ℕ) (n : Fin 4) (q : Fin 2) (i : Fin 4) (kt : ℕ) (r : Fin 240) (c : Fin 256) (R : Fin 7680) (hR : R = fn 7680 (960 * m + 240 * i.val + r.val))
    (I : Fin 2048) (hI : I.val = 512 * n.val + (256 * q.val + c.val)) :
    pss (xOf (F := Ideal) dy m kt i) (halfOf (wOf wp ws n.val kt) q) (ix2 r c) = ∑ k ∈ Finset.range 256, term dy wp ws R I (256 * kt + k) := by
  rw [pss_at, ← Fin.sum_univ_eq_sum_range (fun k => term dy wp ws R I (256 * kt + k)) 256]
  refine Finset.sum_congr rfl fun k _ => ?_
  unfold term
  have hw := wOf_at wp ws n kt k ⟨256 * q.val + c.val, by omega⟩ I hI
  rw [← hw, hR]
  rfl

theorem addf_at (a x : AV Ideal) (j : S240x256.Idx) : addf a x j = (a j + x j : EReal) := rfl

/-- The sum after `j` passes. -/
theorem accV_at (m : ℕ) (n : Fin 4) (q : Fin 2) (i : Fin 4) (r : Fin 240) (c : Fin 256) (R : Fin 7680) (hR : R = fn 7680 (960 * m + 240 * i.val + r.val))
    (I : Fin 2048) (hI : I.val = 512 * n.val + (256 * q.val + c.val)) (j : ℕ) :
    (accV (F := Ideal) dy wp ws m n.val q i j (ix2 r c) : EReal) = ∑ K ∈ Finset.range (256 * j), term dy wp ws R I K := by
  induction j with
  | zero =>
    rw [Nat.mul_zero, Finset.range_zero, Finset.sum_empty]
    exact zero_val
  | succ j ih =>
    rw [Nat.mul_succ, Finset.sum_range_add, ← pass_at dy wp ws m n q i j r c R hR I hI, ← ih]
    show dep (decide (0 < j)) (accV (F := Ideal) dy wp ws m n.val q i j) (pss (xOf (F := Ideal) dy m j i) (halfOf (wOf wp ws n.val j) q)) (ix2 r c) = _
    unfold dep
    by_cases h : 0 < j
    · rw [if_pos (decide_eq_true h), addf_at]
    · have h0 : j = 0 := by omega
      subst h0
      rw [if_neg (by decide), show (accV (F := Ideal) dy wp ws m n.val q i 0 (ix2 r c) : EReal) = 0 from zero_val]
      exact (zero_add _).symm

/-- The kernel's result: each element is a row of the left operand times a column of the weight. -/
theorem outAll_at (R : Fin 7680) (I : Fin 2048) :
    (outAll (F := Ideal) dy wp ws (ix2 R I) : EReal) = ∑ k : Fin 16384, dy (ix2 R k) * wt wp ws k I := by
  have hR := R.isLt
  have hI := I.isLt
  have ht1 : (R.val / 960 + 8 * (I.val / 512)) % 8 = R.val / 960 := by omega
  have ht2 : (R.val / 960 + 8 * (I.val / 512)) / 8 = I.val / 512 := by omega
  show (accV (F := Ideal) dy wp ws ((R.val / 960 + 8 * (I.val / 512)) % 8) ((R.val / 960 + 8 * (I.val / 512)) / 8)
    ⟨I.val % 512 / 256, by omega⟩ ⟨R.val % 960 / 240, by omega⟩ 64
    (ix2 (⟨R.val % 960 % 240, by omega⟩ : Fin 240) (⟨I.val % 512 % 256, by omega⟩ : Fin 256)) : EReal) = _
  rw [ht1, ht2]
  refine (accV_at dy wp ws (R.val / 960) ⟨I.val / 512, by omega⟩ ⟨I.val % 512 / 256, by omega⟩ ⟨R.val % 960 / 240, by omega⟩
    ⟨R.val % 960 % 240, by omega⟩ ⟨I.val % 512 % 256, by omega⟩ R ?_ I ?_ 64).trans ?_
  · refine Fin.ext ?_
    show R.val = (960 * (R.val / 960) + 240 * (R.val % 960 / 240) + R.val % 960 % 240) % 7680
    omega
  · show I.val = 512 * (I.val / 512) + (256 * (I.val % 512 / 256) + I.val % 512 % 256)
    omega
  · rw [show 256 * 64 = 16384 from rfl, ← Fin.sum_univ_eq_sum_range (fun k => term dy wp ws R I k) 16384]
    refine Finset.sum_congr rfl fun k _ => ?_
    unfold term
    rw [fn_val]

end Cert.KernelIdeal.P

end
-- ==== Proof.RefVal.lean ====
/-  The reference's result, element by element, at the ideal instance: the sum over the rows of the weight. -/
module

public import proofs.«01_k».proof.Proof.Ref
public import proofs.«01_k».proof.Proof.Dec
public import Idealize.ShloMosaic.Lib.Pipeline.Value
public import Idealize.ShloMosaic.Lib.ValueIdx
public import Idealize.ShloMosaic.PureOps.Ideal.Laws

@[expose] public section

noncomputable section

namespace Cert.ReferenceIdeal.P

open Cert.ReferenceIdeal Cert.ReferenceIdeal.Gen
open Idealize.ShloMosaic
open Idealize.ShloMosaic.ValueIdx
open Cert.Val

variable (wp : IVec S16384x1024 8) (ws : IVec S16384x64 8)

theorem bcast_scale {α : Type} (x : S16384x64.Idx → α) (o : Fin 16384) (g : Fin 64) (t : Fin 32) :
    broadcastInDim S16384x64x32 ![0, 1, 2] bcast_S16384x64x1_S16384x64x32_0_1_2
      (broadcastInDim S16384x64x1 ![0, 1] bcast_S16384x64_S16384x64x1_0_1 x) (ix3 o g t) = x (ix2 o g) := by
  unfold broadcastInDim
  congr 1
  funext b
  match b with
  | ⟨0, _⟩ => rfl
  | ⟨1, _⟩ => rfl

theorem bcast_code {α : Type} (x : S16384x1024.Idx → α) (o : Fin 16384) (g : Fin 1024) (t : Fin 1) :
    broadcastInDim S16384x1024x1 ![0, 1] bcast_S16384x1024_S16384x1024x1_0_1 x (ix3 o g t) = x (ix2 o g) := by
  unfold broadcastInDim
  congr 1
  funext b
  match b with
  | ⟨0, _⟩ => rfl
  | ⟨1, _⟩ => rfl

theorem codesR_at (o : Fin 16384) (h : Fin 1024) (p : Fin 2) : codesR wp (ix3 o h p) = BitVec.ofNat 32 (nib (wp (ix2 o h)) p.val).val := by
  unfold codesR
  match p with
  | ⟨0, _⟩ =>
    rw [concatenate_pair_apply_left (t := S16384x1024x2) (s₁ := S16384x1024x1) (s₂ := S16384x1024x1) 2 _ _ _ (ix3 o h (⟨0, by decide⟩ : Fin 2)) rfl (ix3 o h 0) (by
      intro b
      match b with
      | ⟨0, _⟩ => rfl
      | ⟨1, _⟩ => rfl
      | ⟨2, _⟩ => rfl), bcast_code]
    exact lo_code _
  | ⟨1, _⟩ =>
    rw [concatenate_pair_apply_right (t := S16384x1024x2) (s₁ := S16384x1024x1) (s₂ := S16384x1024x1) 2 _ _ _ (ix3 o h (⟨1, by decide⟩ : Fin 2)) rfl rfl (ix3 o h 0) (by
      intro b hb
      match b with
      | ⟨0, _⟩ => rfl
      | ⟨1, _⟩ => rfl
      | ⟨2, _⟩ => exact absurd rfl hb) rfl, bcast_code]
    exact hi_code _

theorem decR_arith (c : IVec S16384x1024x2 32) (j : S16384x1024x2.Idx) :
    (decR c : FVec Ideal S16384x1024x2 .bf16) j
      = (Scalar.select (IntOp.cmpi .eq (IntOp.shrsi .host (c j) 3#32) 1#32)
        (-((((dbl (c j)).toInt : ℝ) : EReal) * Ideal.ofBits .f32 0x3F000000#32))
        ((((dbl (c j)).toInt : ℝ) : EReal) * Ideal.ofBits .f32 0x3F000000#32) : EReal) := rfl

theorem scaleR_arith (j : S16384x64.Idx) :
    (scaleR ws : FVec Ideal S16384x64 .bf16) j
      = (Scalar.select (IntOp.cmpi .eq ((ws j).setWidth 32) 0#32) (Ideal.ofBits .f32 0x00000000#32)
        (Scalar.select (IntOp.cmpi .eq ((ws j).setWidth 32) 255#32) (Ideal.ofBits .f32 0x7F800000#32)
          (Ideal.pow (Ideal.ofBits .f32 0x40000000#32) (((IntOp.subi ((ws j).setWidth 32) 127#32).toInt : ℝ) : EReal))) : EReal) := rfl

theorem mul_at {s : Shape} (x y : FVec Ideal s .bf16) (j : s.Idx) : mulf x y j = (x j * y j : EReal) := rfl

/-- The reference's weight. -/
theorem wR_at (o : Fin 16384) (i : Fin 2048) : (wR wp ws : FVec Ideal S16384x2048 .bf16) (ix2 o i) = wt wp ws o i := by
  unfold wR wt
  rw [shapeCast_apply _ _ _ (ix3 o (⟨i.val / 32, by omega⟩ : Fin 64) (⟨i.val % 32, by omega⟩ : Fin 32)) (by
      rw [Shape.rowMajor_val_two, Shape.rowMajor_val_three]
      show (o.val * 64 + i.val / 32) * 32 + i.val % 32 = o.val * 2048 + i.val
      omega), mul_at, bcast_scale, scaleR_arith, ref_scale,
    shapeCast_apply _ _ _ (ix3 o (⟨i.val / 2, by omega⟩ : Fin 1024) (⟨i.val % 2, by omega⟩ : Fin 2)) (by
      rw [Shape.rowMajor_val_three, Shape.rowMajor_val_three]
      show (o.val * 1024 + i.val / 2) * 2 + i.val % 2 = (o.val * 64 + i.val / 32) * 32 + i.val % 32
      omega), decR_arith, codesR_at, ref_val]

theorem dot_at (dy : FVec Ideal S6x1280x16384 .bf16) (w : FVec Ideal S16384x2048 .bf16) (j : S6x1280x2048.Idx) :
    (Host.dotGeneral dot_S6x1280x16384_S16384x2048_S6x1280x2048_2_0_01_1_n_n none dy w : FVec Ideal S6x1280x2048 .f32) j
      = (∑ k : dot_S6x1280x16384_S16384x2048_S6x1280x2048_2_0_01_1_n_n.contr.Idx,
        dy (dot_S6x1280x16384_S16384x2048_S6x1280x2048_2_0_01_1_n_n.lhsIdx j k) * w (dot_S6x1280x16384_S16384x2048_S6x1280x2048_2_0_01_1_n_n.rhsIdx j k) : EReal) := by
  unfold Host.dotGeneral
  exact Ideal.dotGeneral_apply _ _ _ _ _ _

theorem cast_at (x : FVec Ideal S6x1280x2048 .f32) (r : Fin 7680) (i : Fin 2048) :
    (truncf .bf16 (shapeCast S7680x2048 x shapeCasts_S6x1280x2048_S7680x2048) bitsLt_bf16_f32 : FVec Ideal S7680x2048 .bf16) (ix2 r i)
      = (x (ix3 (⟨r.val / 1280, by omega⟩ : Fin 6) (⟨r.val % 1280, by omega⟩ : Fin 1280) i) : EReal) := by
  have e : shapeCast S7680x2048 x shapeCasts_S6x1280x2048_S7680x2048 (ix2 r i)
      = x (ix3 (⟨r.val / 1280, by omega⟩ : Fin 6) (⟨r.val % 1280, by omega⟩ : Fin 1280) i) := by
    rw [shapeCast_apply _ _ _ (ix3 (⟨r.val / 1280, by omega⟩ : Fin 6) (⟨r.val % 1280, by omega⟩ : Fin 1280) i) (by
      rw [Shape.rowMajor_val_two, Shape.rowMajor_val_three]
      show (r.val / 1280 * 1280 + r.val % 1280) * 2048 + i.val = r.val * 2048 + i.val
      omega)]
  exact e

/-- The reference's result: each element is a row of the left operand times a column of the weight. -/
theorem outR_at (dy : FVec Ideal S6x1280x16384 .bf16) (r : Fin 7680) (i : Fin 2048) :
    (outR dy wp ws : FVec Ideal S7680x2048 .bf16) (ix2 r i)
      = ∑ k : Fin 16384, (dy (ix3 (⟨r.val / 1280, by omega⟩ : Fin 6) (⟨r.val % 1280, by omega⟩ : Fin 1280) k) * wt wp ws k i : EReal) := by
  unfold outR
  rw [cast_at]
  rw [dot_at, ← Equiv.sum_comp (contrEquiv1 dot_S6x1280x16384_S16384x2048_S6x1280x2048_2_0_01_1_n_n 16384 rfl rfl).symm]
  refine Finset.sum_congr rfl fun k _ => ?_
  have hk := contrEquiv1_symm_val dot_S6x1280x16384_S16384x2048_S6x1280x2048_2_0_01_1_n_n 16384 rfl rfl k
  rw [← wR_at]
  congr 2
  · funext b
    match b with
    | ⟨0, _⟩ => exact Fin.ext (by simp [DotDims.lhsIdx, dot_S6x1280x16384_S16384x2048_S6x1280x2048_2_0_01_1_n_n]; rfl)
    | ⟨1, _⟩ => exact Fin.ext (by simp [DotDims.lhsIdx, dot_S6x1280x16384_S16384x2048_S6x1280x2048_2_0_01_1_n_n]; rfl)
    | ⟨2, _⟩ => exact Fin.ext (by simp [DotDims.lhsIdx, dot_S6x1280x16384_S16384x2048_S6x1280x2048_2_0_01_1_n_n]; rfl)
  · funext b
    match b with
    | ⟨0, _⟩ => exact Fin.ext (by simp [DotDims.rhsIdx, dot_S6x1280x16384_S16384x2048_S6x1280x2048_2_0_01_1_n_n]; rfl)
    | ⟨1, _⟩ => exact Fin.ext (by simp [DotDims.rhsIdx, dot_S6x1280x16384_S16384x2048_S6x1280x2048_2_0_01_1_n_n]; rfl)

end Cert.ReferenceIdeal.P

end
-- ==== Proof.Eq.lean ====
/-  The two results are the same function of the arguments, at the ideal instance. -/
module

public import proofs.«01_k».proof.Proof.I.Run
public import proofs.«01_k».proof.Proof.Sum
public import proofs.«01_k».proof.Proof.RefVal

@[expose] public section

noncomputable section

namespace Cert.Val

open Idealize.ShloMosaic Idealize.ShloMosaic.TcCoe Idealize.ShloMosaic.Tactic Idealize.ShloMosaic.StableHlo
open Idealize.ShloMosaic.ValueIdx

/-- The left operand as the region finds it: the argument's rows in one axis. -/
theorem dy_eq (m : (ℓ : Loc Cert.KernelIdeal.nD Cert.KernelIdeal.τ Cert.KernelIdeal.sig) → Buf (Elt Ideal) ℓ) (c : Dev Cert.KernelIdeal.nD) :
    Cert.KernelIdeal.P.dyV m c
      = shapeCast Cert.KernelIdeal.S7680x16384 (m ((c.tc : Thread Cert.KernelIdeal.nD Cert.KernelIdeal.τ).loc Cert.KernelIdeal.main_arg0))
        Cert.KernelIdeal.Gen.shapeCasts_S6x1280x16384_S7680x16384 := by
  rfl

/-- A row of the left operand. -/
theorem dy_row (x : FVec Ideal Cert.KernelIdeal.S6x1280x16384 .bf16) (r : Fin 7680) (k : Fin 16384) :
    shapeCast Cert.KernelIdeal.S7680x16384 x Cert.KernelIdeal.Gen.shapeCasts_S6x1280x16384_S7680x16384 (ix2 r k)
      = x (ix3 (⟨r.val / 1280, by omega⟩ : Fin 6) (⟨r.val % 1280, by omega⟩ : Fin 1280) k) := by
  rw [shapeCast_apply _ _ _ (ix3 (⟨r.val / 1280, by omega⟩ : Fin 6) (⟨r.val % 1280, by omega⟩ : Fin 1280) k) (by
    rw [Shape.rowMajor_val_two, Shape.rowMajor_val_three]
    show (r.val / 1280 * 1280 + r.val % 1280) * 16384 + k.val = r.val * 16384 + k.val
    omega)]

/-- The kernel's and the reference's results agree. -/
theorem out_eq (x : FVec Ideal Cert.KernelIdeal.S6x1280x16384 .bf16) (wp : IVec Cert.KernelIdeal.S16384x1024 8) (ws : IVec Cert.KernelIdeal.S16384x64 8) :
    Cert.ReferenceIdeal.P.outR (F := Ideal) x wp ws
      = Cert.KernelIdeal.P.outAll (F := Ideal)
        (shapeCast Cert.KernelIdeal.S7680x16384 x Cert.KernelIdeal.Gen.shapeCasts_S6x1280x16384_S7680x16384) wp ws := by
  funext y
  obtain ⟨r, i, rfl⟩ : ∃ (r : Fin 7680) (i : Fin 2048), y = ix2 r i := ⟨y 0, y 1, eq_ix2 y⟩
  refine (Cert.ReferenceIdeal.P.outR_at wp ws x r i).trans ?_
  refine Eq.trans ?_ (Cert.KernelIdeal.P.outAll_at _ wp ws r i).symm
  refine Finset.sum_congr rfl fun k _ => ?_
  rw [dy_row]

end Cert.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.I.Run
public import proofs.«01_k».proof.Proof.Ref
public import proofs.«01_k».proof.Proof.Eq

@[expose] public section

noncomputable section

namespace Cert.Proof

open Idealize.ShloMosaic Idealize.SL.Sem

/-- The kernel's run at the machine's floats. -/
theorem frame_p : Cert.quiescent_Kernel := fun m g _ =>
  (θ_run Cert.Kernel.defs _ _).mono (fun _ h => ⟨fun c => (h.1 c).2, h.2⟩) (Cert.Kernel.P.run_main (F := Bits) m g)

/-- The kernel's run at the ideal floats. -/
theorem frame_pi : Cert.quiescent_KernelIdeal := fun m g _ =>
  (θ_run Cert.KernelIdeal.defs _ _).mono (fun _ h => ⟨fun c => (h.1 c).2, h.2⟩) (Cert.KernelIdeal.P.run_main (F := Ideal) m g)

/-- The reference's run at the ideal floats: it declares no semaphore. -/
theorem frame_ri : Cert.quiescent_ReferenceIdeal := fun m g _ =>
  (θ_run Cert.ReferenceIdeal.defs _ _).mono
    (fun r h => ⟨fun c => ⟨(h c Cert.ReferenceIdeal.main_arg0).trans (Cert.ReferenceIdeal.P.arg0_eq _),
        (h c Cert.ReferenceIdeal.main_arg1).trans (Cert.ReferenceIdeal.P.arg1_eq _),
        (h c Cert.ReferenceIdeal.main_arg2).trans (Cert.ReferenceIdeal.P.arg2_eq _)⟩,
      Idealize.ShloMosaic.sem_eq_zero_of_no_sems (by decide) r.2⟩)
    (Cert.ReferenceIdeal.P.run_main (F := Ideal) m g)

/-- The two results from the same arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.P.outR (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.KernelIdeal.P.outAll (F := Ideal) (Cert.KernelIdeal.P.dyV m c) (Cert.KernelIdeal.P.wpV m c) (Cert.KernelIdeal.P.wsV m c) := by
  rw [h0, h1, h2]
  refine (Cert.Val.out_eq _ _ _).trans ?_
  rw [Cert.Val.dy_eq]
  exact congrArg₂ (Cert.KernelIdeal.P.outAll (F := Ideal) _) (Cert.KernelIdeal.Gen.V_main_arg1 m c).symm (Cert.KernelIdeal.Gen.V_main_arg2 m c).symm

/-- The kernel's result is the reference's: each element of either is the same sum of products of the same arguments. -/
theorem algebraic : Cert.algebraic_KernelIdeal_ReferenceIdeal := fun m g m' g' _ hagree =>
  ⟨fun c => Cert.KernelIdeal.P.outAll (F := Ideal) (Cert.KernelIdeal.P.dyV m c) (Cert.KernelIdeal.P.wpV m c) (Cert.KernelIdeal.P.wsV m c),
    (θ_run Cert.KernelIdeal.defs _ _).mono (fun _ h => h.1) (Cert.KernelIdeal.P.run_main (F := Ideal) m g),
    (θ_run Cert.ReferenceIdeal.defs _ _).mono
      (fun r h c => ⟨(h c Cert.ReferenceIdeal.main_v54).trans ((Cert.ReferenceIdeal.P.out_eq _).trans (value_eq m m' c (hagree c).1 (hagree c).2.1 (hagree c).2.2)),
        (h c Cert.ReferenceIdeal.main_arg0).trans (Cert.ReferenceIdeal.P.arg0_eq _),
        (h c Cert.ReferenceIdeal.main_arg1).trans (Cert.ReferenceIdeal.P.arg1_eq _),
        (h c Cert.ReferenceIdeal.main_arg2).trans (Cert.ReferenceIdeal.P.arg2_eq _)⟩)
      (Cert.ReferenceIdeal.P.run_main (F := Ideal) m' g')⟩

/-- Every claim of the certificate. -/
theorem claim : Cert.Claim :=
  ⟨Cert.Kernel.Gen.facts, Cert.KernelIdeal.Gen.facts, Cert.ReferenceIdeal.Gen.facts, frame_p, frame_pi, frame_ri, trivial, algebraic⟩

end Cert.Proof

end
